-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8)
      ∧ r.2.mem ((c.tc : Thread Cert.Gdn.nD Cert.Gdn.τ).loc Cert.Gdn.main_arg9) = m ((c.tc : Thread Cert.Gdn.nD Cert.Gdn.τ).loc Cert.Gdn.main_arg9)
      ∧ r.2.mem ((c.tc : Thread Cert.Gdn.nD Cert.Gdn.τ).loc Cert.Gdn.main_arg10) = m ((c.tc : Thread Cert.Gdn.nD Cert.Gdn.τ).loc Cert.Gdn.main_arg10)
      ∧ r.2.mem ((c.tc : Thread Cert.Gdn.nD Cert.Gdn.τ).loc Cert.Gdn.main_arg11) = m ((c.tc : Thread Cert.Gdn.nD Cert.Gdn.τ).loc Cert.Gdn.main_arg11))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9)
      ∧ r.2.mem ((c.tc : Thread Cert.GdnIdeal.nD Cert.GdnIdeal.τ).loc Cert.GdnIdeal.main_arg10) = m ((c.tc : Thread Cert.GdnIdeal.nD Cert.GdnIdeal.τ).loc Cert.GdnIdeal.main_arg10)
      ∧ r.2.mem ((c.tc : Thread Cert.GdnIdeal.nD Cert.GdnIdeal.τ).loc Cert.GdnIdeal.main_arg11) = m ((c.tc : Thread Cert.GdnIdeal.nD Cert.GdnIdeal.τ).loc Cert.GdnIdeal.main_arg11))
      ∧ r.2.sem = fun _ => 0)

def preserves_Kernel_KernelIdeal : Prop :=
  IdealRules.named_const.Statement Cert.KernelIdeal.κ "s" .f32 0x3D93CD3A#32 (((Real.sqrt 192)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)) (v2 : (c : Dev Cert.GateIdeal.nD) → Buf (Elt Ideal) ((c.tc : Thread Cert.GateIdeal.nD Cert.GateIdeal.τ).loc Cert.GateIdeal.main_v1_2)) (v3 : (c : Dev Cert.GateIdeal.nD) → Buf (Elt Ideal) ((c.tc : Thread Cert.GateIdeal.nD Cert.GateIdeal.τ).loc Cert.GateIdeal.main_v1_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_v1_2) = v2 c
          ∧ r.2.mem ((c.tc : Thread Cert.GateIdeal.nD Cert.GateIdeal.τ).loc Cert.GateIdeal.main_v1_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v65) = v0 c
          ∧ r.2.mem ((c.tc : Thread Cert.GateRefIdeal.nD Cert.GateRefIdeal.τ).loc Cert.GateRefIdeal.main_v66) = v1 c
          ∧ r.2.mem ((c.tc : Thread Cert.GateRefIdeal.nD Cert.GateRefIdeal.τ).loc Cert.GateRefIdeal.main_v67) = v2 c
          ∧ r.2.mem ((c.tc : Thread Cert.GateRefIdeal.nD Cert.GateRefIdeal.τ).loc Cert.GateRefIdeal.main_v31) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v11_0)) (v1 : (c : Dev Cert.UpIdeal.nD) → Buf (Elt Ideal) ((c.tc : Thread Cert.UpIdeal.nD Cert.UpIdeal.τ).loc Cert.UpIdeal.main_v11_1)) (v2 : (c : Dev Cert.UpIdeal.nD) → Buf (Elt Ideal) ((c.tc : Thread Cert.UpIdeal.nD Cert.UpIdeal.τ).loc Cert.UpIdeal.main_v11_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v11_0) = v0 c
          ∧ r.2.mem ((c.tc : Thread Cert.UpIdeal.nD Cert.UpIdeal.τ).loc Cert.UpIdeal.main_v11_1) = v1 c
          ∧ r.2.mem ((c.tc : Thread Cert.UpIdeal.nD Cert.UpIdeal.τ).loc Cert.UpIdeal.main_v11_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v40) = v0 c
          ∧ r.2.mem ((c.tc : Thread Cert.UpRefIdeal.nD Cert.UpRefIdeal.τ).loc Cert.UpRefIdeal.main_v41) = v1 c
          ∧ r.2.mem ((c.tc : Thread Cert.UpRefIdeal.nD Cert.UpRefIdeal.τ).loc Cert.UpRefIdeal.main_v22) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v25_0)) (v1 : (c : Dev Cert.InIdeal.nD) → Buf (Elt Ideal) ((c.tc : Thread Cert.InIdeal.nD Cert.InIdeal.τ).loc Cert.InIdeal.main_v25_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v25_0) = v0 c
          ∧ r.2.mem ((c.tc : Thread Cert.InIdeal.nD Cert.InIdeal.τ).loc Cert.InIdeal.main_v25_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v37) = v0 c
          ∧ r.2.mem ((c.tc : Thread Cert.InRefIdeal.nD Cert.InRefIdeal.τ).loc Cert.InRefIdeal.main_v19) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v19) = v0 c
          ∧ r.2.mem ((c.tc : Thread Cert.LossRefIdeal.nD Cert.LossRefIdeal.τ).loc Cert.LossRefIdeal.main_v20) = v1 c
          ∧ r.2.mem ((c.tc : Thread Cert.LossRefIdeal.nD Cert.LossRefIdeal.τ).loc Cert.LossRefIdeal.main_v21) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Mix_MixIdeal : Prop :=
  True

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v15_0)) (v1 : (c : Dev Cert.MixIdeal.nD) → Buf (Elt Ideal) ((c.tc : Thread Cert.MixIdeal.nD Cert.MixIdeal.τ).loc Cert.MixIdeal.main_v15_1)) (v2 : (c : Dev Cert.MixIdeal.nD) → Buf (Elt Ideal) ((c.tc : Thread Cert.MixIdeal.nD Cert.MixIdeal.τ).loc Cert.MixIdeal.main_v15_2)) (v3 : (c : Dev Cert.MixIdeal.nD) → Buf (Elt Ideal) ((c.tc : Thread Cert.MixIdeal.nD Cert.MixIdeal.τ).loc Cert.MixIdeal.main_v15_3)) (v4 : (c : Dev Cert.MixIdeal.nD) → Buf (Elt Ideal) ((c.tc : Thread Cert.MixIdeal.nD Cert.MixIdeal.τ).loc Cert.MixIdeal.main_v15_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v15_0) = v0 c
          ∧ r.2.mem ((c.tc : Thread Cert.MixIdeal.nD Cert.MixIdeal.τ).loc Cert.MixIdeal.main_v15_1) = v1 c
          ∧ r.2.mem ((c.tc : Thread Cert.MixIdeal.nD Cert.MixIdeal.τ).loc Cert.MixIdeal.main_v15_2) = v2 c
          ∧ r.2.mem ((c.tc : Thread Cert.MixIdeal.nD Cert.MixIdeal.τ).loc Cert.MixIdeal.main_v15_3) = v3 c
          ∧ r.2.mem ((c.tc : Thread Cert.MixIdeal.nD Cert.MixIdeal.τ).loc Cert.MixIdeal.main_v15_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v95) = v0 c
          ∧ r.2.mem ((c.tc : Thread Cert.MixRefIdeal.nD Cert.MixRefIdeal.τ).loc Cert.MixRefIdeal.main_v96) = v1 c
          ∧ r.2.mem ((c.tc : Thread Cert.MixRefIdeal.nD Cert.MixRefIdeal.τ).loc Cert.MixRefIdeal.main_v98) = v2 c
          ∧ r.2.mem ((c.tc : Thread Cert.MixRefIdeal.nD Cert.MixRefIdeal.τ).loc Cert.MixRefIdeal.main_v79) = v3 c
          ∧ r.2.mem ((c.tc : Thread Cert.MixRefIdeal.nD Cert.MixRefIdeal.τ).loc Cert.MixRefIdeal.main_v56) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Mla_MlaIdeal : Prop :=
  IdealRules.named_const.Statement Cert.MlaIdeal.κ "n" .f32 0x3BAAAAAB#32 ((192⁻¹ : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)
      ∧ m' ((c.tc : Thread Cert.MlaRefIdeal.nD Cert.MlaRefIdeal.τ).loc Cert.MlaRefIdeal.main_arg9) = m ((c.tc : Thread Cert.MlaIdeal.nD Cert.MlaIdeal.τ).loc Cert.MlaIdeal.main_arg9)) →
    ∃ (v0 : (c : Dev Cert.MlaIdeal.nD) → Buf (Elt Ideal) ((c.tc : Thread Cert.MlaIdeal.nD Cert.MlaIdeal.τ).loc Cert.MlaIdeal.main_v79_0)) (v1 : (c : Dev Cert.MlaIdeal.nD) → Buf (Elt Ideal) ((c.tc : Thread Cert.MlaIdeal.nD Cert.MlaIdeal.τ).loc Cert.MlaIdeal.main_v79_1)) (v2 : (c : Dev Cert.MlaIdeal.nD) → Buf (Elt Ideal) ((c.tc : Thread Cert.MlaIdeal.nD Cert.MlaIdeal.τ).loc Cert.MlaIdeal.main_v79_2)) (v3 : (c : Dev Cert.MlaIdeal.nD) → Buf (Elt Ideal) ((c.tc : Thread Cert.MlaIdeal.nD Cert.MlaIdeal.τ).loc Cert.MlaIdeal.main_v79_3)) (v4 : (c : Dev Cert.MlaIdeal.nD) → Buf (Elt Ideal) ((c.tc : Thread Cert.MlaIdeal.nD Cert.MlaIdeal.τ).loc Cert.MlaIdeal.main_v79_4)) (v5 : (c : Dev Cert.MlaIdeal.nD) → Buf (Elt Ideal) ((c.tc : Thread Cert.MlaIdeal.nD Cert.MlaIdeal.τ).loc Cert.MlaIdeal.main_v79_5)) (v6 : (c : Dev Cert.MlaIdeal.nD) → Buf (Elt Ideal) ((c.tc : Thread Cert.MlaIdeal.nD Cert.MlaIdeal.τ).loc Cert.MlaIdeal.main_v79_6)) (v7 : (c : Dev Cert.MlaIdeal.nD) → Buf (Elt Ideal) ((c.tc : Thread Cert.MlaIdeal.nD Cert.MlaIdeal.τ).loc Cert.MlaIdeal.main_v79_7)) (v8 : (c : Dev Cert.MlaIdeal.nD) → Buf (Elt Ideal) ((c.tc : Thread Cert.MlaIdeal.nD Cert.MlaIdeal.τ).loc Cert.MlaIdeal.main_v79_8)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v79_0) = v0 c
          ∧ r.2.mem ((c.tc : Thread Cert.MlaIdeal.nD Cert.MlaIdeal.τ).loc Cert.MlaIdeal.main_v79_1) = v1 c
          ∧ r.2.mem ((c.tc : Thread Cert.MlaIdeal.nD Cert.MlaIdeal.τ).loc Cert.MlaIdeal.main_v79_2) = v2 c
          ∧ r.2.mem ((c.tc : Thread Cert.MlaIdeal.nD Cert.MlaIdeal.τ).loc Cert.MlaIdeal.main_v79_3) = v3 c
          ∧ r.2.mem ((c.tc : Thread Cert.MlaIdeal.nD Cert.MlaIdeal.τ).loc Cert.MlaIdeal.main_v79_4) = v4 c
          ∧ r.2.mem ((c.tc : Thread Cert.MlaIdeal.nD Cert.MlaIdeal.τ).loc Cert.MlaIdeal.main_v79_5) = v5 c
          ∧ r.2.mem ((c.tc : Thread Cert.MlaIdeal.nD Cert.MlaIdeal.τ).loc Cert.MlaIdeal.main_v79_6) = v6 c
          ∧ r.2.mem ((c.tc : Thread Cert.MlaIdeal.nD Cert.MlaIdeal.τ).loc Cert.MlaIdeal.main_v79_7) = v7 c
          ∧ r.2.mem ((c.tc : Thread Cert.MlaIdeal.nD Cert.MlaIdeal.τ).loc Cert.MlaIdeal.main_v79_8) = v8 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v261) = v0 c
          ∧ r.2.mem ((c.tc : Thread Cert.MlaRefIdeal.nD Cert.MlaRefIdeal.τ).loc Cert.MlaRefIdeal.main_v263) = v1 c
          ∧ r.2.mem ((c.tc : Thread Cert.MlaRefIdeal.nD Cert.MlaRefIdeal.τ).loc Cert.MlaRefIdeal.main_v266) = v2 c
          ∧ r.2.mem ((c.tc : Thread Cert.MlaRefIdeal.nD Cert.MlaRefIdeal.τ).loc Cert.MlaRefIdeal.main_v268) = v3 c
          ∧ r.2.mem ((c.tc : Thread Cert.MlaRefIdeal.nD Cert.MlaRefIdeal.τ).loc Cert.MlaRefIdeal.main_v270) = v4 c
          ∧ r.2.mem ((c.tc : Thread Cert.MlaRefIdeal.nD Cert.MlaRefIdeal.τ).loc Cert.MlaRefIdeal.main_v271) = v5 c
          ∧ r.2.mem ((c.tc : Thread Cert.MlaRefIdeal.nD Cert.MlaRefIdeal.τ).loc Cert.MlaRefIdeal.main_v272) = v6 c
          ∧ r.2.mem ((c.tc : Thread Cert.MlaRefIdeal.nD Cert.MlaRefIdeal.τ).loc Cert.MlaRefIdeal.main_v220) = v7 c
          ∧ r.2.mem ((c.tc : Thread Cert.MlaRefIdeal.nD Cert.MlaRefIdeal.τ).loc Cert.MlaRefIdeal.main_v240) = v8 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9))

def preserves_Fwd_FwdIdeal : Prop :=
  IdealRules.named_const.Statement Cert.FwdIdeal.κ "s" .f32 0x3D93CD3A#32 (((Real.sqrt 192)⁻¹ : ℝ) : EReal)
  ∧ IdealRules.named_const.Statement Cert.FwdIdeal.κ "mask" .f32 0xF149F2CA#32 ⊥

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v12)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v12) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v31) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v14_0)) (v1 : (c : Dev Cert.MixFwdIdeal.nD) → Buf (Elt Ideal) ((c.tc : Thread Cert.MixFwdIdeal.nD Cert.MixFwdIdeal.τ).loc Cert.MixFwdIdeal.main_v14_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v14_0) = v0 c
          ∧ r.2.mem ((c.tc : Thread Cert.MixFwdIdeal.nD Cert.MixFwdIdeal.τ).loc Cert.MixFwdIdeal.main_v14_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v37) = v0 c
          ∧ r.2.mem ((c.tc : Thread Cert.MixFwdRefIdeal.nD Cert.MixFwdRefIdeal.τ).loc Cert.MixFwdRefIdeal.main_v39) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v13_0)) (v1 : (c : Dev Cert.InFwdIdeal.nD) → Buf (Elt Ideal) ((c.tc : Thread Cert.InFwdIdeal.nD Cert.InFwdIdeal.τ).loc Cert.InFwdIdeal.main_v13_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v13_0) = v0 c
          ∧ r.2.mem ((c.tc : Thread Cert.InFwdIdeal.nD Cert.InFwdIdeal.τ).loc Cert.InFwdIdeal.main_v13_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v19) = v0 c
          ∧ r.2.mem ((c.tc : Thread Cert.InFwdRefIdeal.nD Cert.InFwdRefIdeal.τ).loc Cert.InFwdRefIdeal.main_v21) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v40) = v0 c
          ∧ r.2.mem ((c.tc : Thread Cert.FfnFwdRefIdeal.nD Cert.FfnFwdRefIdeal.τ).loc Cert.FfnFwdRefIdeal.main_v41) = v1 c
          ∧ r.2.mem ((c.tc : Thread Cert.FfnFwdRefIdeal.nD Cert.FfnFwdRefIdeal.τ).loc Cert.FfnFwdRefIdeal.main_v42) = v2 c
          ∧ r.2.mem ((c.tc : Thread Cert.FfnFwdRefIdeal.nD Cert.FfnFwdRefIdeal.τ).loc Cert.FfnFwdRefIdeal.main_v44) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_Gdn_GdnIdeal : Prop :=
  True

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hLoss : Cert.Loss.Facts) (hLossIdeal : Cert.LossIdeal.Facts) (hLossRefIdeal : Cert.LossRefIdeal.Facts) (hMix : Cert.Mix.Facts) (hMixIdeal : Cert.MixIdeal.Facts) (hMixRefIdeal : Cert.MixRefIdeal.Facts) (hMla : Cert.Mla.Facts) (hMlaIdeal : Cert.MlaIdeal.Facts) (hMlaRefIdeal : Cert.MlaRefIdeal.Facts) (hFwd : Cert.Fwd.Facts) (hFwdIdeal : Cert.FwdIdeal.Facts) (hFwdRefIdeal : Cert.FwdRefIdeal.Facts) (hMixFwd : Cert.MixFwd.Facts) (hMixFwdIdeal : Cert.MixFwdIdeal.Facts) (hMixFwdRefIdeal : Cert.MixFwdRefIdeal.Facts) (hInFwd : Cert.InFwd.Facts) (hInFwdIdeal : Cert.InFwdIdeal.Facts) (hInFwdRefIdeal : Cert.InFwdRefIdeal.Facts) (hFfnFwd : Cert.FfnFwd.Facts) (hFfnFwdIdeal : Cert.FfnFwdIdeal.Facts) (hFfnFwdRefIdeal : Cert.FfnFwdRefIdeal.Facts) (hGdn : Cert.Gdn.Facts) (hGdnIdeal : Cert.GdnIdeal.Facts) (hPre_finite : Cert.Pre_finite.Facts) (hPre_gate_finite : Cert.Pre_gate_finite.Facts) (hPre_up_finite : Cert.Pre_up_finite.Facts) (hPre_in_finite : Cert.Pre_in_finite.Facts) (hPre_mix_finite : Cert.Pre_mix_finite.Facts) (hPre_mla_finite : Cert.Pre_mla_finite.Facts) (hPre_fwd_finite : Cert.Pre_fwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_Loss (hLoss := hLoss)
    ∧ quiescent_LossIdeal (hLossIdeal := hLossIdeal)
    ∧ quiescent_LossRefIdeal (hLossRefIdeal := hLossRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Gdn (hGdn := hGdn)
    ∧ quiescent_GdnIdeal (hGdnIdeal := hGdnIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Up_UpIdeal
    ∧ algebraic_UpIdeal_UpRefIdeal_pre_up_finite (hUpIdeal := hUpIdeal) (hUpRefIdeal := hUpRefIdeal) (hPre_up_finite := hPre_up_finite)
    ∧ preserves_In_InIdeal
    ∧ algebraic_InIdeal_InRefIdeal_pre_in_finite (hInIdeal := hInIdeal) (hInRefIdeal := hInRefIdeal) (hPre_in_finite := hPre_in_finite)
    ∧ preserves_Loss_LossIdeal
    ∧ algebraic_LossIdeal_LossRefIdeal (hLossIdeal := hLossIdeal) (hLossRefIdeal := hLossRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_MixFwd_MixFwdIdeal
    ∧ algebraic_MixFwdIdeal_MixFwdRefIdeal (hMixFwdIdeal := hMixFwdIdeal) (hMixFwdRefIdeal := hMixFwdRefIdeal)
    ∧ preserves_InFwd_InFwdIdeal
    ∧ algebraic_InFwdIdeal_InFwdRefIdeal (hInFwdIdeal := hInFwdIdeal) (hInFwdRefIdeal := hInFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Gdn_GdnIdeal
-- ==== Pre_finite.lean ====
abbrev S1x2064x4x192 : Shape := ⟨4, ![1, 2064, 4, 192]⟩
abbrev S1x2064x4x128 : Shape := ⟨4, ![1, 2064, 4, 128]⟩
abbrev S_ : Shape := ⟨0, ![]⟩

class Facts : Prop where
  bcast_S_S1x2064x4x192 : S_.BroadcastsInDim S1x2064x4x192 (![] : Fin 0 → Fin S1x2064x4x192.rank)
  reducesTo_S1x2064x4x192_S_d0_1_2_3 : S1x2064x4x192.ReducesTo [0, 1, 2, 3] S_
  h_S_ : 0 < S_.numel
  bcast_S_S1x2064x4x128 : S_.BroadcastsInDim S1x2064x4x128 (![] : Fin 0 → Fin S1x2064x4x128.rank)
  reducesTo_S1x2064x4x128_S_d0_1_2_3 : S1x2064x4x128.ReducesTo [0, 1, 2, 3] S_

variable [Facts]

def fn_part1 {F : FTy → Type} [FloatOps F] (main_v13 : IVec S_ 1) (main_v16 : IVec S1x2064x4x128 1) : IVec S_ 1 :=
  let main_c_5 : IVec S_ 1 := constantI S_ 1 1#1
  let main_v17 : IVec S_ 1 := (fun x v => Host.reduce IntOp.andi x v reducesTo_S1x2064x4x128_S_d0_1_2_3 h_S_) main_v16 main_c_5
  let main_v18 : IVec S_ 1 := andi main_v13 main_v17
  main_v18

def fn {F : FTy → Type} [FloatOps F] (main_arg0 : FVec F S1x2064x4x192 .f32) (main_arg1 : FVec F S1x2064x4x192 .f32) (main_arg2 : FVec F S1x2064x4x128 .f32) (main_arg3 : FVec F S1x2064x4x128 .f32) : IVec S_ 1 :=
  let main_v0 : FVec F S1x2064x4x192 .f32 := Host.absf main_arg0
  let main_cst : FVec F S_ .f32 := constant S_ .f32 0x7F800000#32
  let main_v1 : FVec F S1x2064x4x192 .f32 := broadcastInDim S1x2064x4x192 ![] bcast_S_S1x2064x4x192 main_cst
  let main_v2 : IVec S1x2064x4x192 1 := cmpf .olt main_v0 main_v1
  let main_c : IVec S_ 1 := constantI S_ 1 1#1
  let main_v3 : IVec S_ 1 := (fun x v => Host.reduce IntOp.andi x v reducesTo_S1x2064x4x192_S_d0_1_2_3 h_S_) main_v2 main_c
  let main_v4 : FVec F S1x2064x4x192 .f32 := Host.absf main_arg1
  let main_cst_0 : FVec F S_ .f32 := constant S_ .f32 0x7F800000#32
  let main_v5 : FVec F S1x2064x4x192 .f32 := broadcastInDim S1x2064x4x192 ![] bcast_S_S1x2064x4x192 main_cst_0
  let main_v6 : IVec S1x2064x4x192 1 := cmpf .olt main_v4 main_v5
  let main_c_1 : IVec S_ 1 := constantI S_ 1 1#1
  let main_v7 : IVec S_ 1 := (fun x v => Host.reduce IntOp.andi x v reducesTo_S1x2064x4x192_S_d0_1_2_3 h_S_) main_v6 main_c_1
  let main_v8 : IVec S_ 1 := andi main_v3 main_v7
  let main_v9 : FVec F S1x2064x4x128 .f32 := Host.absf main_arg2
  let main_cst_2 : FVec F S_ .f32 := constant S_ .f32 0x7F800000#32
  let main_v10 : FVec F S1x2064x4x128 .f32 := broadcastInDim S1x2064x4x128 ![] bcast_S_S1x2064x4x128 main_cst_2
  let main_v11 : IVec S1x2064x4x128 1 := cmpf .olt main_v9 main_v10
  let main_c_3 : IVec S_ 1 := constantI S_ 1 1#1
  let main_v12 : IVec S_ 1 := (fun x v => Host.reduce IntOp.andi x v reducesTo_S1x2064x4x128_S_d0_1_2_3 h_S_) main_v11 main_c_3
  let main_v13 : IVec S_ 1 := andi main_v8 main_v12
  let main_v14 : FVec F S1x2064x4x128 .f32 := Host.absf main_arg3
  let main_cst_4 : FVec F S_ .f32 := constant S_ .f32 0x7F800000#32
  let main_v15 : FVec F S1x2064x4x128 .f32 := broadcastInDim S1x2064x4x128 ![] bcast_S_S1x2064x4x128 main_cst_4
  let main_v16 : IVec S1x2064x4x128 1 := cmpf .olt main_v14 main_v15
  fn_part1 (F := F) main_v13 main_v16
-- ==== Pre_fwd_finite.lean ====
abbrev S1x2064x4x192 : Shape := ⟨4, ![1, 2064, 4, 192]⟩
abbrev S1x2064x4x128 : Shape := ⟨4, ![1, 2064, 4, 128]⟩
abbrev S_ : Shape := ⟨0, ![]⟩

class Facts : Prop where
  bcast_S_S1x2064x4x192 : S_.BroadcastsInDim S1x2064x4x192 (![] : Fin 0 → Fin S1x2064x4x192.rank)
  reducesTo_S1x2064x4x192_S_d0_1_2_3 : S1x2064x4x192.ReducesTo [0, 1, 2, 3] S_
  h_S_ : 0 < S_.numel

variable [Facts]

def fn {F : FTy → Type} [FloatOps F] (main_arg0 : FVec F S1x2064x4x192 .f32) (main_arg1 : FVec F S1x2064x4x192 .f32) (main_arg2 : FVec F S1x2064x4x128 .f32) : IVec S_ 1 :=
  let main_v0 : FVec F S1x2064x4x192 .f32 := Host.absf main_arg0
  let main_cst : FVec F S_ .f32 := constant S_ .f32 0x7F800000#32
  let main_v1 : FVec F S1x2064x4x192 .f32 := broadcastInDim S1x2064x4x192 ![] bcast_S_S1x2064x4x192 main_cst
  let main_v2 : IVec S1x2064x4x192 1 := cmpf .olt main_v0 main_v1
  let main_c : IVec S_ 1 := constantI S_ 1 1#1
  let main_v3 : IVec S_ 1 := (fun x v => Host.reduce IntOp.andi x v reducesTo_S1x2064x4x192_S_d0_1_2_3 h_S_) main_v2 main_c
  let main_v4 : FVec F S1x2064x4x192 .f32 := Host.absf main_arg1
  let main_cst_0 : FVec F S_ .f32 := constant S_ .f32 0x7F800000#32
  let main_v5 : FVec F S1x2064x4x192 .f32 := broadcastInDim S1x2064x4x192 ![] bcast_S_S1x2064x4x192 main_cst_0
  let main_v6 : IVec S1x2064x4x192 1 := cmpf .olt main_v4 main_v5
  let main_c_1 : IVec S_ 1 := constantI S_ 1 1#1
  let main_v7 : IVec S_ 1 := (fun x v => Host.reduce IntOp.andi x v reducesTo_S1x2064x4x192_S_d0_1_2_3 h_S_) main_v6 main_c_1
  let main_v8 : IVec S_ 1 := andi main_v3 main_v7
  main_v8
-- ==== Pre_gate_finite.lean ====
abbrev S2176x2816 : Shape := ⟨2, ![2176, 2816]⟩
abbrev S3x2816 : Shape := ⟨2, ![3, 2816]⟩
abbrev S1x2816 : Shape := ⟨2, ![1, 2816]⟩
abbrev S_ : Shape := ⟨0, ![]⟩

class Facts : Prop where
  bcast_S_S2176x2816 : S_.BroadcastsInDim S2176x2816 (![] : Fin 0 → Fin S2176x2816.rank)
  reducesTo_S2176x2816_S_d0_1 : S2176x2816.ReducesTo [0, 1] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_

variable [Facts]

def fn_part1 {F : FTy → Type} [FloatOps F] (main_arg4 : FVec F S2176x2816 .f32) (main_v13 : IVec S_ 1) (main_v16 : IVec S1x2816 1) : IVec S_ 1 :=
  let main_c_5 : IVec S_ 1 := constantI S_ 1 1#1
  let main_v17 : IVec S_ 1 := (fun x v => Host.reduce IntOp.andi x v reducesTo_S1x2816_S_d0_1 h_S_) main_v16 main_c_5
  let main_v18 : IVec S_ 1 := andi main_v13 main_v17
  let main_v19 : FVec F S2176x2816 .f32 := Host.absf main_arg4
  let main_cst_6 : FVec F S_ .f32 := constant S_ .f32 0x7F800000#32
  let main_v20 : FVec F S2176x2816 .f32 := broadcastInDim S2176x2816 ![] bcast_S_S2176x2816 main_cst_6
  let main_v21 : IVec S2176x2816 1 := cmpf .olt main_v19 main_v20
  let main_c_7 : IVec S_ 1 := constantI S_ 1 1#1
  let main_v22 : IVec S_ 1 := (fun x v => Host.reduce IntOp.andi x v reducesTo_S2176x2816_S_d0_1 h_S_) main_v21 main_c_7
  let main_v23 : IVec S_ 1 := andi main_v18 main_v22
  main_v23

def fn {F : FTy → Type} [FloatOps F] (main_arg0 : FVec F S2176x2816 .f32) (main_arg1 : FVec F S2176x2816 .f32) (main_arg2 : FVec F S3x2816 .f32) (main_arg3 : FVec F S1x2816 .f32) (main_arg4 : FVec F S2176x2816 .f32) : IVec S_ 1 :=
  let main_v0 : FVec F S2176x2816 .f32 := Host.absf main_arg0
  let main_cst : FVec F S_ .f32 := constant S_ .f32 0x7F800000#32
  let main_v1 : FVec F S2176x2816 .f32 := broadcastInDim S2176x2816 ![] bcast_S_S2176x2816 main_cst
  let main_v2 : IVec S2176x2816 1 := cmpf .olt main_v0 main_v1
  let main_c : IVec S_ 1 := constantI S_ 1 1#1
  let main_v3 : IVec S_ 1 := (fun x v => Host.reduce IntOp.andi x v reducesTo_S2176x2816_S_d0_1 h_S_) main_v2 main_c
  let main_v4 : FVec F S2176x2816 .f32 := Host.absf main_arg1
  let main_cst_0 : FVec F S_ .f32 := constant S_ .f32 0x7F800000#32
  let main_v5 : FVec F S2176x2816 .f32 := broadcastInDim S2176x2816 ![] bcast_S_S2176x2816 main_cst_0
  let main_v6 : IVec S2176x2816 1 := cmpf .olt main_v4 main_v5
  let main_c_1 : IVec S_ 1 := constantI S_ 1 1#1
  let main_v7 : IVec S_ 1 := (fun x v => Host.reduce IntOp.andi x v reducesTo_S2176x2816_S_d0_1 h_S_) main_v6 main_c_1
  let main_v8 : IVec S_ 1 := andi main_v3 main_v7
  let main_v9 : FVec F S3x2816 .f32 := Host.absf main_arg2
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_c_3 : IVec S_ 1 := constantI S_ 1 1#1
  let main_v12 : IVec S_ 1 := (fun x v => Host.reduce IntOp.andi x v reducesTo_S3x2816_S_d0_1 h_S_) main_v11 main_c_3
  let main_v13 : IVec S_ 1 := andi main_v8 main_v12
  let main_v14 : FVec F S1x2816 .f32 := Host.absf main_arg3
  let main_cst_4 : FVec F S_ .f32 := constant S_ .f32 0x7F800000#32
  let main_v15 : FVec F S1x2816 .f32 := broadcastInDim S1x2816 ![] bcast_S_S1x2816 main_cst_4
  let main_v16 : IVec S1x2816 1 := cmpf .olt main_v14 main_v15
  fn_part1 (F := F) main_arg4 main_v13 main_v16
-- ==== Pre_in_finite.lean ====
abbrev S2064x1024 : Shape := ⟨2, ![2064, 1024]⟩
abbrev S1x1024 : Shape := ⟨2, ![1, 1024]⟩
abbrev S1024x2632 : Shape := ⟨2, ![1024, 2632]⟩
abbrev S2064x2632 : Shape := ⟨2, ![2064, 2632]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2632 : S_.BroadcastsInDim S1024x2632 (![] : Fin 0 → Fin S1024x2632.rank)
  reducesTo_S1024x2632_S_d0_1 : S1024x2632.ReducesTo [0, 1] S_
  bcast_S_S2064x2632 : S_.BroadcastsInDim S2064x2632 (![] : Fin 0 → Fin S2064x2632.rank)
  reducesTo_S2064x2632_S_d0_1 : S2064x2632.ReducesTo [0, 1] S_

variable [Facts]

def fn_part1 {F : FTy → Type} [FloatOps F] (main_v13 : IVec S_ 1) (main_v16 : IVec S2064x2632 1) : IVec S_ 1 :=
  let main_c_5 : IVec S_ 1 := constantI S_ 1 1#1
  let main_v17 : IVec S_ 1 := (fun x v => Host.reduce IntOp.andi x v reducesTo_S2064x2632_S_d0_1 h_S_) main_v16 main_c_5
  let main_v18 : IVec S_ 1 := andi main_v13 main_v17
  main_v18

def fn {F : FTy → Type} [FloatOps F] (main_arg0 : FVec F S2064x1024 .f32) (main_arg1 : FVec F S1x1024 .f32) (main_arg2 : FVec F S1024x2632 .f32) (main_arg3 : FVec F S2064x1024 .f32) (main_arg4 : FVec F S2064x2632 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2632 .f32 := Host.absf main_arg2
  let main_cst_2 : FVec F S_ .f32 := constant S_ .f32 0x7F800000#32
  let main_v10 : FVec F S1024x2632 .f32 := broadcastInDim S1024x2632 ![] bcast_S_S1024x2632 main_cst_2
  let main_v11 : IVec S1024x2632 1 := cmpf .olt main_v9 main_v10
  let main_c_3 : IVec S_ 1 := constantI S_ 1 1#1
  let main_v12 : IVec S_ 1 := (fun x v => Host.reduce IntOp.andi x v reducesTo_S1024x2632_S_d0_1 h_S_) main_v11 main_c_3
  let main_v13 : IVec S_ 1 := andi main_v8 main_v12
  let main_v14 : FVec F S2064x2632 .f32 := Host.absf main_arg4
  let main_cst_4 : FVec F S_ .f32 := constant S_ .f32 0x7F800000#32
  let main_v15 : FVec F S2064x2632 .f32 := broadcastInDim S2064x2632 ![] bcast_S_S2064x2632 main_cst_4
  let main_v16 : IVec S2064x2632 1 := cmpf .olt main_v14 main_v15
  fn_part1 (F := F) main_v13 main_v16
-- ==== Pre_mix_finite.lean ====
abbrev S2064x512 : Shape := ⟨2, ![2064, 512]⟩
abbrev S2064x2632 : Shape := ⟨2, ![2064, 2632]⟩
abbrev S1x128 : Shape := ⟨2, ![1, 128]⟩
abbrev S1024x1024 : Shape := ⟨2, ![1024, 1024]⟩
abbrev S2064x1024 : Shape := ⟨2, ![2064, 1024]⟩
abbrev S_ : Shape := ⟨0, ![]⟩

class Facts : Prop where
  bcast_S_S2064x512 : S_.BroadcastsInDim S2064x512 (![] : Fin 0 → Fin S2064x512.rank)
  reducesTo_S2064x512_S_d0_1 : S2064x512.ReducesTo [0, 1] S_
  h_S_ : 0 < S_.numel
  bcast_S_S2064x2632 : S_.BroadcastsInDim S2064x2632 (![] : Fin 0 → Fin S2064x2632.rank)
  reducesTo_S2064x2632_S_d0_1 : S2064x2632.ReducesTo [0, 1] S_
  bcast_S_S1x128 : S_.BroadcastsInDim S1x128 (![] : Fin 0 → Fin S1x128.rank)
  reducesTo_S1x128_S_d0_1 : S1x128.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2064x1024 : S_.BroadcastsInDim S2064x1024 (![] : Fin 0 → Fin S2064x1024.rank)
  reducesTo_S2064x1024_S_d0_1 : S2064x1024.ReducesTo [0, 1] S_

variable [Facts]

def fn_part1 {F : FTy → Type} [FloatOps F] (main_arg4 : FVec F S1x128 .f32) (main_arg5 : FVec F S1024x1024 .f32) (main_arg6 : FVec F S2064x1024 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S2064x1024 .f32 := Host.absf main_arg6
  let main_cst_10 : FVec F S_ .f32 := constant S_ .f32 0x7F800000#32
  let main_v30 : FVec F S2064x1024 .f32 := broadcastInDim S2064x1024 ![] bcast_S_S2064x1024 main_cst_10
  let main_v31 : IVec S2064x1024 1 := cmpf .olt main_v29 main_v30
  let main_c_11 : IVec S_ 1 := constantI S_ 1 1#1
  let main_v32 : IVec S_ 1 := (fun x v => Host.reduce IntOp.andi x v reducesTo_S2064x1024_S_d0_1 h_S_) main_v31 main_c_11
  let main_v33 : IVec S_ 1 := andi main_v28 main_v32
  main_v33

def fn {F : FTy → Type} [FloatOps F] (main_arg0 : FVec F S2064x512 .f32) (main_arg1 : FVec F S2064x512 .f32) (main_arg2 : FVec F S2064x2632 .f32) (main_arg3 : FVec F S1x128 .f32) (main_arg4 : FVec F S1x128 .f32) (main_arg5 : FVec F S1024x1024 .f32) (main_arg6 : FVec F S2064x1024 .f32) : IVec S_ 1 :=
  let main_v0 : FVec F S2064x512 .f32 := Host.absf main_arg0
  let main_cst : FVec F S_ .f32 := constant S_ .f32 0x7F800000#32
  let main_v1 : FVec F S2064x512 .f32 := broadcastInDim S2064x512 ![] bcast_S_S2064x512 main_cst
  let main_v2 : IVec S2064x512 1 := cmpf .olt main_v0 main_v1
  let main_c : IVec S_ 1 := constantI S_ 1 1#1
  let main_v3 : IVec S_ 1 := (fun x v => Host.reduce IntOp.andi x v reducesTo_S2064x512_S_d0_1 h_S_) main_v2 main_c
  let main_v4 : FVec F S2064x512 .f32 := Host.absf main_arg1
  let main_cst_0 : FVec F S_ .f32 := constant S_ .f32 0x7F800000#32
  let main_v5 : FVec F S2064x512 .f32 := broadcastInDim S2064x512 ![] bcast_S_S2064x512 main_cst_0
  let main_v6 : IVec S2064x512 1 := cmpf .olt main_v4 main_v5
  let main_c_1 : IVec S_ 1 := constantI S_ 1 1#1
  let main_v7 : IVec S_ 1 := (fun x v => Host.reduce IntOp.andi x v reducesTo_S2064x512_S_d0_1 h_S_) main_v6 main_c_1
  let main_v8 : IVec S_ 1 := andi main_v3 main_v7
  let main_v9 : FVec F S2064x2632 .f32 := Host.absf main_arg2
  let main_cst_2 : FVec F S_ .f32 := constant S_ .f32 0x7F800000#32
  let main_v10 : FVec F S2064x2632 .f32 := broadcastInDim S2064x2632 ![] bcast_S_S2064x2632 main_cst_2
  let main_v11 : IVec S2064x2632 1 := cmpf .olt main_v9 main_v10
  let main_c_3 : IVec S_ 1 := constantI S_ 1 1#1
  let main_v12 : IVec S_ 1 := (fun x v => Host.reduce IntOp.andi x v reducesTo_S2064x2632_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_v13 main_v16
-- ==== Pre_mla_finite.lean ====
abbrev S2064x2632 : Shape := ⟨2, ![2064, 2632]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S2064x4x192 : Shape := ⟨3, ![2064, 4, 192]⟩
abbrev S2064x4x128 : Shape := ⟨3, ![2064, 4, 128]⟩
abbrev S_ : Shape := ⟨0, ![]⟩

class Facts : Prop where
  bcast_S_S2064x2632 : S_.BroadcastsInDim S2064x2632 (![] : Fin 0 → Fin S2064x2632.rank)
  reducesTo_S2064x2632_S_d0_1 : S2064x2632.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256x768 : S_.BroadcastsInDim S256x768 (![] : Fin 0 → Fin S256x768.rank)
  reducesTo_S256x768_S_d0_1 : S256x768.ReducesTo [0, 1] S_
  bcast_S_S256x1024 : S_.BroadcastsInDim S256x1024 (![] : Fin 0 → Fin S256x1024.rank)
  reducesTo_S256x1024_S_d0_1 : S256x1024.ReducesTo [0, 1] S_
  bcast_S_S1x192 : S_.BroadcastsInDim S1x192 (![] : Fin 0 → Fin S1x192.rank)
  reducesTo_S1x192_S_d0_1 : S1x192.ReducesTo [0, 1] S_
  bcast_S_S2064x4x192 : S_.BroadcastsInDim S2064x4x192 (![] : Fin 0 → Fin S2064x4x192.rank)
  reducesTo_S2064x4x192_S_d0_1_2 : S2064x4x192.ReducesTo [0, 1, 2] S_
  bcast_S_S2064x4x128 : S_.BroadcastsInDim S2064x4x128 (![] : Fin 0 → Fin S2064x4x128.rank)
  reducesTo_S2064x4x128_S_d0_1_2 : S2064x4x128.ReducesTo [0, 1, 2] S_

variable [Facts]

def fn_part2 {F : FTy → Type} [FloatOps F] (main_arg7 : FVec F S2064x4x192 .f32) (main_arg8 : FVec F S2064x4x192 .f32) (main_arg9 : FVec F S2064x4x128 .f32) (main_v33 : IVec S_ 1) : IVec S_ 1 :=
  let main_v34 : FVec F S2064x4x192 .f32 := Host.absf main_arg7
  let main_cst_12 : FVec F S_ .f32 := constant S_ .f32 0x7F800000#32
  let main_v35 : FVec F S2064x4x192 .f32 := broadcastInDim S2064x4x192 ![] bcast_S_S2064x4x192 main_cst_12
  let main_v36 : IVec S2064x4x192 1 := cmpf .olt main_v34 main_v35
  let main_c_13 : IVec S_ 1 := constantI S_ 1 1#1
  let main_v37 : IVec S_ 1 := (fun x v => Host.reduce IntOp.andi x v reducesTo_S2064x4x192_S_d0_1_2 h_S_) main_v36 main_c_13
  let main_v38 : IVec S_ 1 := andi main_v33 main_v37
  let main_v39 : FVec F S2064x4x192 .f32 := Host.absf main_arg8
  let main_cst_14 : FVec F S_ .f32 := constant S_ .f32 0x7F800000#32
  let main_v40 : FVec F S2064x4x192 .f32 := broadcastInDim S2064x4x192 ![] bcast_S_S2064x4x192 main_cst_14
  let main_v41 : IVec S2064x4x192 1 := cmpf .olt main_v39 main_v40
  let main_c_15 : IVec S_ 1 := constantI S_ 1 1#1
  let main_v42 : IVec S_ 1 := (fun x v => Host.reduce IntOp.andi x v reducesTo_S2064x4x192_S_d0_1_2 h_S_) main_v41 main_c_15
  let main_v43 : IVec S_ 1 := andi main_v38 main_v42
  let main_v44 : FVec F S2064x4x128 .f32 := Host.absf main_arg9
  let main_cst_16 : FVec F S_ .f32 := constant S_ .f32 0x7F800000#32
  let main_v45 : FVec F S2064x4x128 .f32 := broadcastInDim S2064x4x128 ![] bcast_S_S2064x4x128 main_cst_16
  let main_v46 : IVec S2064x4x128 1 := cmpf .olt main_v44 main_v45
  let main_c_17 : IVec S_ 1 := constantI S_ 1 1#1
  let main_v47 : IVec S_ 1 := (fun x v => Host.reduce IntOp.andi x v reducesTo_S2064x4x128_S_d0_1_2 h_S_) main_v46 main_c_17
  let main_v48 : IVec S_ 1 := andi main_v43 main_v47
  main_v48

def fn_part1 {F : FTy → Type} [FloatOps F] (main_arg4 : FVec F S256x1024 .f32) (main_arg5 : FVec F S1x192 .f32) (main_arg6 : FVec F S1x192 .f32) (main_arg7 : FVec F S2064x4x192 .f32) (main_arg8 : FVec F S2064x4x192 .f32) (main_arg9 : FVec F S2064x4x128 .f32) (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1x192 .f32 := Host.absf main_arg5
  let main_cst_8 : FVec F S_ .f32 := constant S_ .f32 0x7F800000#32
  let main_v25 : FVec F S1x192 .f32 := broadcastInDim S1x192 ![] bcast_S_S1x192 main_cst_8
  let main_v26 : IVec S1x192 1 := cmpf .olt main_v24 main_v25
  let main_c_9 : IVec S_ 1 := constantI S_ 1 1#1
  let main_v27 : IVec S_ 1 := (fun x v => Host.reduce IntOp.andi x v reducesTo_S1x192_S_d0_1 h_S_) main_v26 main_c_9
  let main_v28 : IVec S_ 1 := andi main_v23 main_v27
  let main_v29 : FVec F S1x192 .f32 := Host.absf main_arg6
  let main_cst_10 : FVec F S_ .f32 := constant S_ .f32 0x7F800000#32
  let main_v30 : FVec F S1x192 .f32 := broadcastInDim S1x192 ![] bcast_S_S1x192 main_cst_10
  let main_v31 : IVec S1x192 1 := cmpf .olt main_v29 main_v30
  let main_c_11 : IVec S_ 1 := constantI S_ 1 1#1
  let main_v32 : IVec S_ 1 := (fun x v => Host.reduce IntOp.andi x v reducesTo_S1x192_S_d0_1 h_S_) main_v31 main_c_11
  let main_v33 : IVec S_ 1 := andi main_v28 main_v32
  fn_part2 (F := F) main_arg7 main_arg8 main_arg9 main_v33

def fn {F : FTy → Type} [FloatOps F] (main_arg0 : FVec F S2064x2632 .f32) (main_arg1 : FVec F S1x256 .f32) (main_arg2 : FVec F S1x256 .f32) (main_arg3 : FVec F S256x768 .f32) (main_arg4 : FVec F S256x1024 .f32) (main_arg5 : FVec F S1x192 .f32) (main_arg6 : FVec F S1x192 .f32) (main_arg7 : FVec F S2064x4x192 .f32) (main_arg8 : FVec F S2064x4x192 .f32) (main_arg9 : FVec F S2064x4x128 .f32) : IVec S_ 1 :=
  let main_v0 : FVec F S2064x2632 .f32 := Host.absf main_arg0
  let main_cst : FVec F S_ .f32 := constant S_ .f32 0x7F800000#32
  let main_v1 : FVec F S2064x2632 .f32 := broadcastInDim S2064x2632 ![] bcast_S_S2064x2632 main_cst
  let main_v2 : IVec S2064x2632 1 := cmpf .olt main_v0 main_v1
  let main_c : IVec S_ 1 := constantI S_ 1 1#1
  let main_v3 : IVec S_ 1 := (fun x v => Host.reduce IntOp.andi x v reducesTo_S2064x2632_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_arg4 main_arg5 main_arg6 main_arg7 main_arg8 main_arg9 main_v13 main_v16
-- ==== Pre_up_finite.lean ====
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2064x2816 : S_.BroadcastsInDim S2064x2816 (![] : Fin 0 → Fin S2064x2816.rank)
  reducesTo_S2064x2816_S_d0_1 : S2064x2816.ReducesTo [0, 1] S_

variable [Facts]

def fn_part1 {F : FTy → Type} [FloatOps F] (main_arg5 : FVec F S2064x2816 .f32) (main_arg6 : FVec F S2064x2816 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2064x2816 .f32 := Host.absf main_arg5
  let main_cst_6 : FVec F S_ .f32 := constant S_ .f32 0x7F800000#32
  let main_v20 : FVec F S2064x2816 .f32 := broadcastInDim S2064x2816 ![] bcast_S_S2064x2816 main_cst_6
  let main_v21 : IVec S2064x2816 1 := cmpf .olt main_v19 main_v20
  let main_c_7 : IVec S_ 1 := constantI S_ 1 1#1
  let main_v22 : IVec S_ 1 := (fun x v => Host.reduce IntOp.andi x v reducesTo_S2064x2816_S_d0_1 h_S_) main_v21 main_c_7
  let main_v23 : IVec S_ 1 := andi main_v18 main_v22
  let main_v24 : FVec F S2064x2816 .f32 := Host.absf main_arg6
  let main_cst_8 : FVec F S_ .f32 := constant S_ .f32 0x7F800000#32
  let main_v25 : FVec F S2064x2816 .f32 := broadcastInDim S2064x2816 ![] bcast_S_S2064x2816 main_cst_8
  let main_v26 : IVec S2064x2816 1 := cmpf .olt main_v24 main_v25
  let main_c_9 : IVec S_ 1 := constantI S_ 1 1#1
  let main_v27 : IVec S_ 1 := (fun x v => Host.reduce IntOp.andi x v reducesTo_S2064x2816_S_d0_1 h_S_) main_v26 main_c_9
  let main_v28 : IVec S_ 1 := andi main_v23 main_v27
  main_v28

def fn {F : FTy → Type} [FloatOps F] (main_arg0 : FVec F S2064x1024 .f32) (main_arg1 : FVec F S1x1024 .f32) (main_arg2 : FVec F S1024x2816 .f32) (main_arg3 : FVec F S1024x2816 .f32) (main_arg4 : FVec F S2064x1024 .f32) (main_arg5 : FVec F S2064x2816 .f32) (main_arg6 : FVec F S2064x2816 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg5 main_arg6 main_v13 main_v16
-- ==== Kernel.lean ====
abbrev S1x2064x4x192 : Shape := ⟨4, ![1, 2064, 4, 192]⟩
abbrev S1x2064x4x128 : Shape := ⟨4, ![1, 2064, 4, 128]⟩
abbrev S2064x4x192 : Shape := ⟨3, ![2064, 4, 192]⟩
abbrev S_ : Shape := ⟨0, ![]⟩
abbrev S2176x4x256 : Shape := ⟨3, ![2176, 4, 256]⟩
abbrev S2176x1024 : Shape := ⟨2, ![2176, 1024]⟩
abbrev S2064x4x128 : Shape := ⟨3, ![2064, 4, 128]⟩
abbrev S2176x4x128 : Shape := ⟨3, ![2176, 4, 128]⟩
abbrev S2176x512 : Shape := ⟨2, ![2176, 512]⟩
abbrev S2176x256 : Shape := ⟨2, ![2176, 256]⟩
abbrev S2176x128 : Shape := ⟨2, ![2176, 128]⟩
abbrev S544x256 : Shape := ⟨2, ![544, 256]⟩
abbrev S544x128 : Shape := ⟨2, ![544, 128]⟩
abbrev S544x2176 : Shape := ⟨2, ![544, 2176]⟩
abbrev S544 : Shape := ⟨1, ![544]⟩
abbrev S544x1 : Shape := ⟨2, ![544, 1]⟩
abbrev S1632x256 : Shape := ⟨2, ![1632, 256]⟩
abbrev S544x1632 : Shape := ⟨2, ![544, 1632]⟩
abbrev S1632x128 : Shape := ⟨2, ![1632, 128]⟩
abbrev S1088x256 : Shape := ⟨2, ![1088, 256]⟩
abbrev S544x1088 : Shape := ⟨2, ![544, 1088]⟩
abbrev S1088x128 : Shape := ⟨2, ![1088, 128]⟩
abbrev S544x544 : Shape := ⟨2, ![544, 544]⟩

abbrev nBuf : Space → Nat
  | .hbm => 30
  | .vmem => 14
  | .smem => 0
  | _ => 0

abbrev bufTy : (tb : Table) → Fin (tcTables nBuf tb) → BufTy
  | .hbm, ⟨0, _⟩ => ⟨S1x2064x4x192, .f32⟩
  | .hbm, ⟨1, _⟩ => ⟨S1x2064x4x192, .f32⟩
  | .hbm, ⟨2, _⟩ => ⟨S1x2064x4x128, .f32⟩
  | .hbm, ⟨3, _⟩ => ⟨S1x2064x4x128, .f32⟩
  | .hbm, ⟨4, _⟩ => ⟨S2064x4x192, .f32⟩
  | .hbm, ⟨5, _⟩ => ⟨S_, .i32⟩
  | .hbm, ⟨6, _⟩ => ⟨S_, .f32⟩
  | .hbm, ⟨7, _⟩ => ⟨S2176x4x256, .f32⟩
  | .hbm, ⟨8, _⟩ => ⟨S2176x1024, .f32⟩
  | .hbm, ⟨9, _⟩ => ⟨S2176x1024, .bf16⟩
  | .hbm, ⟨10, _⟩ => ⟨S2064x4x192, .f32⟩
  | .hbm, ⟨11, _⟩ => ⟨S_, .i32⟩
  | .hbm, ⟨12, _⟩ => ⟨S_, .f32⟩
  | .hbm, ⟨13, _⟩ => ⟨S2176x4x256, .f32⟩
  | .hbm, ⟨14, _⟩ => ⟨S2176x1024, .f32⟩
  | .hbm, ⟨15, _⟩ => ⟨S2176x1024, .bf16⟩
  | .hbm, ⟨16, _⟩ => ⟨S2064x4x128, .f32⟩
  | .hbm, ⟨17, _⟩ => ⟨S_, .i32⟩
  | .hbm, ⟨18, _⟩ => ⟨S_, .f32⟩
  | .hbm, ⟨19, _⟩ => ⟨S2176x4x128, .f32⟩
  | .hbm, ⟨20, _⟩ => ⟨S2176x512, .f32⟩
  | .hbm, ⟨21, _⟩ => ⟨S2176x512, .bf16⟩
  | .hbm, ⟨22, _⟩ => ⟨S2064x4x128, .f32⟩
  | .hbm, ⟨23, _⟩ => ⟨S_, .i32⟩
  | .hbm, ⟨24, _⟩ => ⟨S_, .f32⟩
  | .hbm, ⟨25, _⟩ => ⟨S2176x4x128, .f32⟩
  | .hbm, ⟨26, _⟩ => ⟨S2176x512, .f32⟩
  | .hbm, ⟨27, _⟩ => ⟨S2176x1024, .f32⟩
  | .hbm, ⟨28, _⟩ => ⟨S2176x1024, .f32⟩
  | .hbm, ⟨29, _⟩ => ⟨S2176x512, .f32⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .f32⟩
  | .local _ .vmem, ⟨7, _⟩ => ⟨S2176x128, .f32⟩
  | .local _ .vmem, ⟨8, _⟩ => ⟨S2176x256, .f32⟩
  | .local _ .vmem, ⟨9, _⟩ => ⟨S2176x256, .f32⟩
  | .local _ .vmem, ⟨10, _⟩ => ⟨S2176x256, .f32⟩
  | .local _ .vmem, ⟨11, _⟩ => ⟨S2176x256, .f32⟩
  | .local _ .vmem, ⟨12, _⟩ => ⟨S2176x128, .f32⟩
  | .local _ .vmem, ⟨13, _⟩ => ⟨S2176x128, .f32⟩
  | _, _ => ⟨S1x2064x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call3_v0 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | "s" => some (((Real.sqrt 192)⁻¹ : ℝ) : EReal)
  | _ => none
-- ==== ReferenceIdeal.lean ====
abbrev S1x2064x4x192 : Shape := ⟨4, ![1, 2064, 4, 192]⟩
abbrev S1x2064x4x128 : Shape := ⟨4, ![1, 2064, 4, 128]⟩
abbrev S1x4x2064x192 : Shape := ⟨4, ![1, 4, 2064, 192]⟩
abbrev S1x4x2064x128 : Shape := ⟨4, ![1, 4, 2064, 128]⟩
abbrev S1x4x2064x2064 : Shape := ⟨4, ![1, 4, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x4x2064 : Shape := ⟨3, ![1, 4, 2064]⟩
abbrev S1x4x2064x1 : Shape := ⟨4, ![1, 4, 2064, 1]⟩
abbrev S1x4x128x2064 : Shape := ⟨4, ![1, 4, 128, 2064]⟩
abbrev S4x2064 : Shape := ⟨2, ![4, 2064]⟩
abbrev S2064x4x192 : Shape := ⟨3, ![2064, 4, 192]⟩
abbrev S2176x4x256 : Shape := ⟨3, ![2176, 4, 256]⟩
abbrev S2176x1024 : Shape := ⟨2, ![2176, 1024]⟩
abbrev S2064x4x128 : Shape := ⟨3, ![2064, 4, 128]⟩
abbrev S2176x4x128 : Shape := ⟨3, ![2176, 4, 128]⟩
abbrev S2176x512 : Shape := ⟨2, ![2176, 512]⟩

abbrev nBuf : Space → Nat
  | .hbm => 112
  | .vmem => 0
  | .smem => 0
  | _ => 0

abbrev bufTy : (tb : Table) → Fin (tcTables nBuf tb) → BufTy
  | .hbm, ⟨0, _⟩ => ⟨S1x2064x4x192, .f32⟩
  | .hbm, ⟨1, _⟩ => ⟨S1x2064x4x192, .f32⟩
  | .hbm, ⟨2, _⟩ => ⟨S1x2064x4x128, .f32⟩
  | .hbm, ⟨3, _⟩ => ⟨S1x2064x4x128, .f32⟩
  | .hbm, ⟨4, _⟩ => ⟨S1x4x2064x192, .f32⟩
  | .hbm, ⟨5, _⟩ => ⟨S1x4x2064x192, .f32⟩
  | .hbm, ⟨6, _⟩ => ⟨S1x4x2064x128, .f32⟩
  | .hbm, ⟨7, _⟩ => ⟨S1x4x2064x2064, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x4x2064x2064, .f32⟩
  | .hbm, ⟨13, _⟩ => ⟨S1x4x2064x2064, .f32⟩
  | .hbm, ⟨14, _⟩ => ⟨S2064, .i32⟩
  | .hbm, ⟨15, _⟩ => ⟨S1x2064, .i32⟩
  | .hbm, ⟨16, _⟩ => ⟨S2064, .i32⟩
  | .hbm, ⟨17, _⟩ => ⟨S2064x1, .i32⟩
  | .hbm, ⟨18, _⟩ => ⟨S2064x2064, .i32⟩
  | .hbm, ⟨19, _⟩ => ⟨S2064x2064, .i32⟩
  | .hbm, ⟨20, _⟩ => ⟨S2064x2064, .i1⟩
  | .hbm, ⟨21, _⟩ => ⟨S_, .f32⟩
  | .hbm, ⟨22, _⟩ => ⟨S_, .f32⟩
  | .hbm, ⟨23, _⟩ => ⟨S1x4x2064x2064, .i1⟩
  | .hbm, ⟨24, _⟩ => ⟨S1x4x2064x2064, .f32⟩
  | .hbm, ⟨25, _⟩ => ⟨S1x4x2064x2064, .f32⟩
  | .hbm, ⟨26, _⟩ => ⟨S_, .f32⟩
  | .hbm, ⟨27, _⟩ => ⟨S1x4x2064x2064, .f32⟩
  | .hbm, ⟨28, _⟩ => ⟨S_, .f32⟩
  | .hbm, ⟨29, _⟩ => ⟨S1x4x2064, .f32⟩
  | .hbm, ⟨30, _⟩ => ⟨S1x4x2064x1, .f32⟩
  | .hbm, ⟨31, _⟩ => ⟨S1x4x2064x2064, .f32⟩
  | .hbm, ⟨32, _⟩ => ⟨S1x4x2064x2064, .i1⟩
  | .hbm, ⟨33, _⟩ => ⟨S1x4x2064x2064, .f32⟩
  | .hbm, ⟨34, _⟩ => ⟨S_, .f32⟩
  | .hbm, ⟨35, _⟩ => ⟨S1x4x2064, .f32⟩
  | .hbm, ⟨36, _⟩ => ⟨S_, .f32⟩
  | .hbm, ⟨37, _⟩ => ⟨S1x4x2064, .f32⟩
  | .hbm, ⟨38, _⟩ => ⟨S1x4x2064, .f32⟩
  | .hbm, ⟨39, _⟩ => ⟨S_, .f32⟩
  | .hbm, ⟨40, _⟩ => ⟨S1x4x2064, .f32⟩
  | .hbm, ⟨41, _⟩ => ⟨S1x4x2064, .i1⟩
  | .hbm, ⟨42, _⟩ => ⟨S_, .f32⟩
  | .hbm, ⟨43, _⟩ => ⟨S1x4x2064, .f32⟩
  | .hbm, ⟨44, _⟩ => ⟨S1x4x2064, .i1⟩
  | .hbm, ⟨45, _⟩ => ⟨S_, .f32⟩
  | .hbm, ⟨46, _⟩ => ⟨S1x4x2064, .f32⟩
  | .hbm, ⟨47, _⟩ => ⟨S_, .f32⟩
  | .hbm, ⟨48, _⟩ => ⟨S1x4x2064, .f32⟩
  | .hbm, ⟨49, _⟩ => ⟨S_, .f32⟩
  | .hbm, ⟨50, _⟩ => ⟨S1x4x2064, .f32⟩
  | .hbm, ⟨51, _⟩ => ⟨S1x4x2064, .f32⟩
  | .hbm, ⟨52, _⟩ => ⟨S1x4x2064, .f32⟩
  | .hbm, ⟨53, _⟩ => ⟨S1x4x2064x1, .f32⟩
  | .hbm, ⟨54, _⟩ => ⟨S1x4x2064x2064, .f32⟩
  | .hbm, ⟨55, _⟩ => ⟨S1x4x2064x2064, .f32⟩
  | .hbm, ⟨56, _⟩ => ⟨S1x4x2064x2064, .f32⟩
  | .hbm, ⟨57, _⟩ => ⟨S_, .f32⟩
  | .hbm, ⟨58, _⟩ => ⟨S1x4x2064, .f32⟩
  | .hbm, ⟨59, _⟩ => ⟨S1x4x2064x1, .f32⟩
  | .hbm, ⟨60, _⟩ => ⟨S1x4x2064x2064, .f32⟩
  | .hbm, ⟨61, _⟩ => ⟨S1x4x2064x2064, .f32⟩
  | .hbm, ⟨62, _⟩ => ⟨S1x4x2064x1, .f32⟩
  | .hbm, ⟨63, _⟩ => ⟨S_, .f32⟩
  | .hbm, ⟨64, _⟩ => ⟨S1x4x2064x1, .f32⟩
  | .hbm, ⟨65, _⟩ => ⟨S1x4x2064x1, .f32⟩
  | .hbm, ⟨66, _⟩ => ⟨S1x4x2064x128, .f32⟩
  | .hbm, ⟨67, _⟩ => ⟨S1x2064x4x128, .f32⟩
  | .hbm, ⟨68, _⟩ => ⟨S1x4x2064x128, .f32⟩
  | .hbm, ⟨69, _⟩ => ⟨S1x4x128x2064, .f32⟩
  | .hbm, ⟨70, _⟩ => ⟨S1x4x2064x128, .f32⟩
  | .hbm, ⟨71, _⟩ => ⟨S1x4x2064x2064, .f32⟩
  | .hbm, ⟨72, _⟩ => ⟨S1x4x2064x2064, .f32⟩
  | .hbm, ⟨73, _⟩ => ⟨S1x4x2064x2064, .f32⟩
  | .hbm, ⟨74, _⟩ => ⟨S1x4x2064x2064, .f32⟩
  | .hbm, ⟨75, _⟩ => ⟨S_, .f32⟩
  | .hbm, ⟨76, _⟩ => ⟨S1x4x2064, .f32⟩
  | .hbm, ⟨77, _⟩ => ⟨S1x4x2064x1, .f32⟩
  | .hbm, ⟨78, _⟩ => ⟨S1x4x2064x1, .f32⟩
  | .hbm, ⟨79, _⟩ => ⟨S1x4x2064x2064, .f32⟩
  | .hbm, ⟨80, _⟩ => ⟨S1x4x2064x2064, .f32⟩
  | .hbm, ⟨81, _⟩ => ⟨S_, .f32⟩
  | .hbm, ⟨82, _⟩ => ⟨S4x2064, .f32⟩
  | .hbm, ⟨83, _⟩ => ⟨S1x4x2064, .f32⟩
  | .hbm, ⟨84, _⟩ => ⟨S1x4x2064x2064, .f32⟩
  | .hbm, ⟨85, _⟩ => ⟨S1x4x2064x2064, .f32⟩
  | .hbm, ⟨86, _⟩ => ⟨S1x4x2064x2064, .f32⟩
  | .hbm, ⟨87, _⟩ => ⟨S_, .f32⟩
  | .hbm, ⟨88, _⟩ => ⟨S1x4x2064x2064, .f32⟩
  | .hbm, ⟨89, _⟩ => ⟨S1x4x2064x2064, .f32⟩
  | .hbm, ⟨90, _⟩ => ⟨S1x4x2064x2064, .f32⟩
  | .hbm, ⟨91, _⟩ => ⟨S1x4x2064x2064, .f32⟩
  | .hbm, ⟨92, _⟩ => ⟨S1x4x2064x192, .f32⟩
  | .hbm, ⟨93, _⟩ => ⟨S1x4x2064x192, .f32⟩
  | .hbm, ⟨94, _⟩ => ⟨S1x2064x4x128, .f32⟩
  | .hbm, ⟨95, _⟩ => ⟨S1x2064x4x192, .f32⟩
  | .hbm, ⟨96, _⟩ => ⟨S1x2064x4x192, .f32⟩
  | .hbm, ⟨97, _⟩ => ⟨S2064x4x192, .f32⟩
  | .hbm, ⟨98, _⟩ => ⟨S_, .i32⟩
  | .hbm, ⟨99, _⟩ => ⟨S_, .f32⟩
  | .hbm, ⟨100, _⟩ => ⟨S2176x4x256, .f32⟩
  | .hbm, ⟨101, _⟩ => ⟨S2176x1024, .f32⟩
  | .hbm, ⟨102, _⟩ => ⟨S2064x4x192, .f32⟩
  | .hbm, ⟨103, _⟩ => ⟨S_, .i32⟩
  | .hbm, ⟨104, _⟩ => ⟨S_, .f32⟩
  | .hbm, ⟨105, _⟩ => ⟨S2176x4x256, .f32⟩
  | .hbm, ⟨106, _⟩ => ⟨S2176x1024, .f32⟩
  | .hbm, ⟨107, _⟩ => ⟨S2064x4x128, .f32⟩
  | .hbm, ⟨108, _⟩ => ⟨S_, .i32⟩
  | .hbm, ⟨109, _⟩ => ⟨S_, .f32⟩
  | .hbm, ⟨110, _⟩ => ⟨S2176x4x128, .f32⟩
  | .hbm, ⟨111, _⟩ => ⟨S2176x512, .f32⟩
  | _, _ => ⟨S1x2064x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_call2_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_call3_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_15 : Ref sig .tc := ⟨.hbm, 108, rfl⟩
abbrev main_call4_v0 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Gate.lean ====
abbrev S2176x2816 : Shape := ⟨2, ![2176, 2816]⟩
abbrev S3x2816 : Shape := ⟨2, ![3, 2816]⟩
abbrev S1x2816 : Shape := ⟨2, ![1, 2816]⟩
abbrev S_ : Shape := ⟨0, ![]⟩
abbrev S8x2816 : Shape := ⟨2, ![8, 2816]⟩
abbrev S272x2816 : Shape := ⟨2, ![272, 2816]⟩
abbrev S280x2816 : Shape := ⟨2, ![280, 2816]⟩
abbrev S288x2816 : Shape := ⟨2, ![288, 2816]⟩
abbrev S2816 : Shape := ⟨1, ![2816]⟩

abbrev nBuf : Space → Nat
  | .hbm => 12
  | .vmem => 22
  | .smem => 0
  | _ => 0

abbrev bufTy : (tb : Table) → Fin (tcTables nBuf tb) → BufTy
  | .hbm, ⟨0, _⟩ => ⟨S2176x2816, .f32⟩
  | .hbm, ⟨1, _⟩ => ⟨S2176x2816, .f32⟩
  | .hbm, ⟨2, _⟩ => ⟨S3x2816, .f32⟩
  | .hbm, ⟨3, _⟩ => ⟨S1x2816, .f32⟩
  | .hbm, ⟨4, _⟩ => ⟨S2176x2816, .f32⟩
  | .hbm, ⟨5, _⟩ => ⟨S_, .i32⟩
  | .hbm, ⟨6, _⟩ => ⟨S_, .f32⟩
  | .hbm, ⟨7, _⟩ => ⟨S8x2816, .f32⟩
  | .hbm, ⟨8, _⟩ => ⟨S2176x2816, .bf16⟩
  | .hbm, ⟨9, _⟩ => ⟨S2176x2816, .bf16⟩
  | .hbm, ⟨10, _⟩ => ⟨S8x2816, .f32⟩
  | .hbm, ⟨11, _⟩ => ⟨S1x2816, .f32⟩
  | .local _ .vmem, ⟨0, _⟩ => ⟨S272x2816, .f32⟩
  | .local _ .vmem, ⟨1, _⟩ => ⟨S272x2816, .f32⟩
  | .local _ .vmem, ⟨2, _⟩ => ⟨S8x2816, .f32⟩
  | .local _ .vmem, ⟨3, _⟩ => ⟨S8x2816, .f32⟩
  | .local _ .vmem, ⟨4, _⟩ => ⟨S8x2816, .f32⟩
  | .local _ .vmem, ⟨5, _⟩ => ⟨S8x2816, .f32⟩
  | .local _ .vmem, ⟨6, _⟩ => ⟨S272x2816, .f32⟩
  | .local _ .vmem, ⟨7, _⟩ => ⟨S272x2816, .f32⟩
  | .local _ .vmem, ⟨8, _⟩ => ⟨S8x2816, .f32⟩
  | .local _ .vmem, ⟨9, _⟩ => ⟨S8x2816, .f32⟩
  | .local _ .vmem, ⟨10, _⟩ => ⟨S272x2816, .f32⟩
  | .local _ .vmem, ⟨11, _⟩ => ⟨S272x2816, .f32⟩
  | .local _ .vmem, ⟨12, _⟩ => ⟨S8x2816, .f32⟩
  | .local _ .vmem, ⟨13, _⟩ => ⟨S8x2816, .f32⟩
  | .local _ .vmem, ⟨14, _⟩ => ⟨S8x2816, .f32⟩
  | .local _ .vmem, ⟨15, _⟩ => ⟨S1x2816, .f32⟩
  | .local _ .vmem, ⟨16, _⟩ => ⟨S272x2816, .bf16⟩
  | .local _ .vmem, ⟨17, _⟩ => ⟨S272x2816, .bf16⟩
  | .local _ .vmem, ⟨18, _⟩ => ⟨S272x2816, .bf16⟩
  | .local _ .vmem, ⟨19, _⟩ => ⟨S272x2816, .bf16⟩
  | .local _ .vmem, ⟨20, _⟩ => ⟨S8x2816, .f32⟩
  | .local _ .vmem, ⟨21, _⟩ => ⟨S1x2816, .f32⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_32 : BitVec 32 := 0#32
  let v97 : BitVec 1 := Scalar.cmpi .eq arg0 c0_i32_32
  let v98 : BitVec 32 := Scalar.extui v97
  let c0_i32_33 : BitVec 32 := 0#32
  let v99 : BitVec 1 := Scalar.cmpi .ne v98 c0_i32_33
  v99

def k0_cond2 (i : grid0.Coords) : BitVec 1 :=
  let arg0 : BitVec 32 := BitVec.ofNat 32 (i 0).val
  let c0_i32_34 : BitVec 32 := 0#32
  let v100 : BitVec 1 := Scalar.cmpi .sgt arg0 c0_i32_34
  let v101 : BitVec 32 := Scalar.extui v100
  let c0_i32_35 : BitVec 32 := 0#32
  let v102 : BitVec 1 := Scalar.cmpi .ne v101 c0_i32_35
  v102

def k0_cond3 (i : grid0.Coords) : BitVec 1 :=
  let arg0 : BitVec 32 := BitVec.ofNat 32 (i 0).val
  let c0_i32_36 : BitVec 32 := 0#32
  let v103 : BitVec 1 := Scalar.cmpi .eq arg0 c0_i32_36
  let v104 : BitVec 32 := Scalar.extui v103
  let c0_i32_37 : BitVec 32 := 0#32
  let v105 : BitVec 1 := Scalar.cmpi .ne v104 c0_i32_37
  v105

def k0_cond4 (i : grid0.Coords) : BitVec 1 :=
  let arg0 : BitVec 32 := BitVec.ofNat 32 (i 0).val
  let c0_i32_38 : BitVec 32 := 0#32
  let v106 : BitVec 1 := Scalar.cmpi .sgt arg0 c0_i32_38
  let v107 : BitVec 32 := Scalar.extui v106
  let c0_i32_39 : BitVec 32 := 0#32
  let v108 : BitVec 1 := Scalar.cmpi .ne v107 c0_i32_39
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c34_i32 : BitVec 32 := 34#32
  let v0 : BitVec 32 := Scalar.muli arg0 c34_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c34_i32 : BitVec 32 := 34#32
  let v1 : BitVec 32 := Scalar.muli v0 c34_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S272x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateRefIdeal.lean ====
abbrev S2176x2816 : Shape := ⟨2, ![2176, 2816]⟩
abbrev S3x2816 : Shape := ⟨2, ![3, 2816]⟩
abbrev S1x2816 : Shape := ⟨2, ![1, 2816]⟩
abbrev S_ : Shape := ⟨0, ![]⟩
abbrev S2x2816 : Shape := ⟨2, ![2, 2816]⟩
abbrev S2178x2816 : Shape := ⟨2, ![2178, 2816]⟩
abbrev S2816 : Shape := ⟨1, ![2816]⟩
abbrev S8x2816 : Shape := ⟨2, ![8, 2816]⟩

abbrev nBuf : Space → Nat
  | .hbm => 105
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S2176x2816, .f32⟩
  | .hbm, ⟨2, _⟩ => ⟨S3x2816, .f32⟩
  | .hbm, ⟨3, _⟩ => ⟨S1x2816, .f32⟩
  | .hbm, ⟨4, _⟩ => ⟨S2176x2816, .f32⟩
  | .hbm, ⟨5, _⟩ => ⟨S_, .f32⟩
  | .hbm, ⟨6, _⟩ => ⟨S2x2816, .f32⟩
  | .hbm, ⟨7, _⟩ => ⟨S2178x2816, .f32⟩
  | .hbm, ⟨8, _⟩ => ⟨S_, .f32⟩
  | .hbm, ⟨9, _⟩ => ⟨S2x2816, .f32⟩
  | .hbm, ⟨10, _⟩ => ⟨S1x2816, .f32⟩
  | .hbm, ⟨11, _⟩ => ⟨S2816, .f32⟩
  | .hbm, ⟨12, _⟩ => ⟨S2176x2816, .f32⟩
  | .hbm, ⟨13, _⟩ => ⟨S1x2816, .f32⟩
  | .hbm, ⟨14, _⟩ => ⟨S2176x2816, .f32⟩
  | .hbm, ⟨15, _⟩ => ⟨S2176x2816, .f32⟩
  | .hbm, ⟨16, _⟩ => ⟨S1x2816, .f32⟩
  | .hbm, ⟨17, _⟩ => ⟨S2816, .f32⟩
  | .hbm, ⟨18, _⟩ => ⟨S2176x2816, .f32⟩
  | .hbm, ⟨19, _⟩ => ⟨S1x2816, .f32⟩
  | .hbm, ⟨20, _⟩ => ⟨S2176x2816, .f32⟩
  | .hbm, ⟨21, _⟩ => ⟨S2176x2816, .f32⟩
  | .hbm, ⟨22, _⟩ => ⟨S2176x2816, .f32⟩
  | .hbm, ⟨23, _⟩ => ⟨S1x2816, .f32⟩
  | .hbm, ⟨24, _⟩ => ⟨S2816, .f32⟩
  | .hbm, ⟨25, _⟩ => ⟨S2176x2816, .f32⟩
  | .hbm, ⟨26, _⟩ => ⟨S1x2816, .f32⟩
  | .hbm, ⟨27, _⟩ => ⟨S2176x2816, .f32⟩
  | .hbm, ⟨28, _⟩ => ⟨S2176x2816, .f32⟩
  | .hbm, ⟨29, _⟩ => ⟨S2176x2816, .f32⟩
  | .hbm, ⟨30, _⟩ => ⟨S2176x2816, .f32⟩
  | .hbm, ⟨31, _⟩ => ⟨S2176x2816, .f32⟩
  | .hbm, ⟨32, _⟩ => ⟨S2176x2816, .f32⟩
  | .hbm, ⟨33, _⟩ => ⟨S2176x2816, .f32⟩
  | .hbm, ⟨34, _⟩ => ⟨S_, .f32⟩
  | .hbm, ⟨35, _⟩ => ⟨S2176x2816, .f32⟩
  | .hbm, ⟨36, _⟩ => ⟨S2176x2816, .f32⟩
  | .hbm, ⟨37, _⟩ => ⟨S_, .f32⟩
  | .hbm, ⟨38, _⟩ => ⟨S2176x2816, .f32⟩
  | .hbm, ⟨39, _⟩ => ⟨S2176x2816, .f32⟩
  | .hbm, ⟨40, _⟩ => ⟨S_, .f32⟩
  | .hbm, ⟨41, _⟩ => ⟨S2176x2816, .f32⟩
  | .hbm, ⟨42, _⟩ => ⟨S2176x2816, .f32⟩
  | .hbm, ⟨43, _⟩ => ⟨S2176x2816, .f32⟩
  | .hbm, ⟨44, _⟩ => ⟨S2176x2816, .f32⟩
  | .hbm, ⟨45, _⟩ => ⟨S2176x2816, .f32⟩
  | .hbm, ⟨46, _⟩ => ⟨S2176x2816, .f32⟩
  | .hbm, ⟨47, _⟩ => ⟨S2176x2816, .f32⟩
  | .hbm, ⟨48, _⟩ => ⟨S2176x2816, .f32⟩
  | .hbm, ⟨49, _⟩ => ⟨S2176x2816, .f32⟩
  | .hbm, ⟨50, _⟩ => ⟨S2176x2816, .f32⟩
  | .hbm, ⟨51, _⟩ => ⟨S2176x2816, .f32⟩
  | .hbm, ⟨52, _⟩ => ⟨S_, .f32⟩
  | .hbm, ⟨53, _⟩ => ⟨S2816, .f32⟩
  | .hbm, ⟨54, _⟩ => ⟨S1x2816, .f32⟩
  | .hbm, ⟨55, _⟩ => ⟨S2176x2816, .f32⟩
  | .hbm, ⟨56, _⟩ => ⟨S2176x2816, .f32⟩
  | .hbm, ⟨57, _⟩ => ⟨S2176x2816, .f32⟩
  | .hbm, ⟨58, _⟩ => ⟨S_, .f32⟩
  | .hbm, ⟨59, _⟩ => ⟨S2816, .f32⟩
  | .hbm, ⟨60, _⟩ => ⟨S1x2816, .f32⟩
  | .hbm, ⟨61, _⟩ => ⟨S_, .f32⟩
  | .hbm, ⟨62, _⟩ => ⟨S2816, .f32⟩
  | .hbm, ⟨63, _⟩ => ⟨S_, .f32⟩
  | .hbm, ⟨64, _⟩ => ⟨S2178x2816, .f32⟩
  | .hbm, ⟨65, _⟩ => ⟨S1x2816, .f32⟩
  | .hbm, ⟨66, _⟩ => ⟨S_, .f32⟩
  | .hbm, ⟨67, _⟩ => ⟨S3x2816, .f32⟩
  | .hbm, ⟨68, _⟩ => ⟨S2176x2816, .f32⟩
  | .hbm, ⟨69, _⟩ => ⟨S2176x2816, .f32⟩
  | .hbm, ⟨70, _⟩ => ⟨S2176x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S_, .f32⟩
  | .hbm, ⟨75, _⟩ => ⟨S2816, .f32⟩
  | .hbm, ⟨76, _⟩ => ⟨S_, .f32⟩
  | .hbm, ⟨77, _⟩ => ⟨S2178x2816, .f32⟩
  | .hbm, ⟨78, _⟩ => ⟨S2178x2816, .f32⟩
  | .hbm, ⟨79, _⟩ => ⟨S1x2816, .f32⟩
  | .hbm, ⟨80, _⟩ => ⟨S_, .f32⟩
  | .hbm, ⟨81, _⟩ => ⟨S3x2816, .f32⟩
  | .hbm, ⟨82, _⟩ => ⟨S3x2816, .f32⟩
  | .hbm, ⟨83, _⟩ => ⟨S2176x2816, .f32⟩
  | .hbm, ⟨84, _⟩ => ⟨S2176x2816, .f32⟩
  | .hbm, ⟨85, _⟩ => ⟨S2176x2816, .f32⟩
  | .hbm, ⟨86, _⟩ => ⟨S_, .f32⟩
  | .hbm, ⟨87, _⟩ => ⟨S2816, .f32⟩
  | .hbm, ⟨88, _⟩ => ⟨S1x2816, .f32⟩
  | .hbm, ⟨89, _⟩ => ⟨S_, .f32⟩
  | .hbm, ⟨90, _⟩ => ⟨S2816, .f32⟩
  | .hbm, ⟨91, _⟩ => ⟨S_, .f32⟩
  | .hbm, ⟨92, _⟩ => ⟨S2178x2816, .f32⟩
  | .hbm, ⟨93, _⟩ => ⟨S2178x2816, .f32⟩
  | .hbm, ⟨94, _⟩ => ⟨S1x2816, .f32⟩
  | .hbm, ⟨95, _⟩ => ⟨S_, .f32⟩
  | .hbm, ⟨96, _⟩ => ⟨S3x2816, .f32⟩
  | .hbm, ⟨97, _⟩ => ⟨S3x2816, .f32⟩
  | .hbm, ⟨98, _⟩ => ⟨S2x2816, .f32⟩
  | .hbm, ⟨99, _⟩ => ⟨S2176x2816, .f32⟩
  | .hbm, ⟨100, _⟩ => ⟨S2176x2816, .bf16⟩
  | .hbm, ⟨101, _⟩ => ⟨S2176x2816, .bf16⟩
  | .hbm, ⟨102, _⟩ => ⟨S_, .i32⟩
  | .hbm, ⟨103, _⟩ => ⟨S_, .f32⟩
  | .hbm, ⟨104, _⟩ => ⟨S8x2816, .f32⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v25_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v25_1 : Ref sig .tc := ⟨.hbm, 43, rfl⟩
abbrev main_v25_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c : Ref sig .tc := ⟨.hbm, 102, rfl⟩
abbrev main_call2_v0 : Ref sig .tc := ⟨.hbm, 103, rfl⟩
abbrev main_v67 : Ref sig .tc := ⟨.hbm, 104, rfl⟩

abbrev nD : Nat := 1
abbrev τ : Topo := Topo.v7x

variable {F : FTy → Type} [FloatOps F]
-- ==== Up.lean ====
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S_ : Shape := ⟨0, ![]⟩
abbrev S2176x2816 : Shape := ⟨2, ![2176, 2816]⟩
abbrev S2816x1024 : Shape := ⟨2, ![2816, 1024]⟩
abbrev S2176x1024 : Shape := ⟨2, ![2176, 1024]⟩
abbrev S8x128 : Shape := ⟨2, ![8, 128]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 30
  | .vmem => 17
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2064x1024, .f32⟩
  | .hbm, ⟨5, _⟩ => ⟨S2064x2816, .f32⟩
  | .hbm, ⟨6, _⟩ => ⟨S2064x2816, .f32⟩
  | .hbm, ⟨7, _⟩ => ⟨S_, .i32⟩
  | .hbm, ⟨8, _⟩ => ⟨S_, .f32⟩
  | .hbm, ⟨9, _⟩ => ⟨S2176x2816, .f32⟩
  | .hbm, ⟨10, _⟩ => ⟨S2176x2816, .bf16⟩
  | .hbm, ⟨11, _⟩ => ⟨S_, .i32⟩
  | .hbm, ⟨12, _⟩ => ⟨S_, .f32⟩
  | .hbm, ⟨13, _⟩ => ⟨S2176x2816, .f32⟩
  | .hbm, ⟨14, _⟩ => ⟨S2176x2816, .bf16⟩
  | .hbm, ⟨15, _⟩ => ⟨S2816x1024, .f32⟩
  | .hbm, ⟨16, _⟩ => ⟨S2816x1024, .bf16⟩
  | .hbm, ⟨17, _⟩ => ⟨S2816x1024, .f32⟩
  | .hbm, ⟨18, _⟩ => ⟨S2816x1024, .bf16⟩
  | .hbm, ⟨19, _⟩ => ⟨S_, .i32⟩
  | .hbm, ⟨20, _⟩ => ⟨S_, .f32⟩
  | .hbm, ⟨21, _⟩ => ⟨S2176x1024, .f32⟩
  | .hbm, ⟨22, _⟩ => ⟨S_, .i32⟩
  | .hbm, ⟨23, _⟩ => ⟨S_, .f32⟩
  | .hbm, ⟨24, _⟩ => ⟨S2176x1024, .f32⟩
  | .hbm, ⟨25, _⟩ => ⟨S_, .f32⟩
  | .hbm, ⟨26, _⟩ => ⟨S8x128, .f32⟩
  | .hbm, ⟨27, _⟩ => ⟨S2176x1024, .f32⟩
  | .hbm, ⟨28, _⟩ => ⟨S2176x1024, .bf16⟩
  | .hbm, ⟨29, _⟩ => ⟨S1x1024, .f32⟩
  | .local _ .vmem, ⟨0, _⟩ => ⟨S272x2816, .bf16⟩
  | .local _ .vmem, ⟨1, _⟩ => ⟨S272x2816, .bf16⟩
  | .local _ .vmem, ⟨2, _⟩ => ⟨S272x2816, .bf16⟩
  | .local _ .vmem, ⟨3, _⟩ => ⟨S272x2816, .bf16⟩
  | .local _ .vmem, ⟨4, _⟩ => ⟨S2816x1024, .bf16⟩
  | .local _ .vmem, ⟨5, _⟩ => ⟨S2816x1024, .bf16⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S1x1024, .f32⟩
  | .local _ .vmem, ⟨11, _⟩ => ⟨S8x128, .f32⟩
  | .local _ .vmem, ⟨12, _⟩ => ⟨S272x1024, .f32⟩
  | .local _ .vmem, ⟨13, _⟩ => ⟨S272x1024, .f32⟩
  | .local _ .vmem, ⟨14, _⟩ => ⟨S272x1024, .bf16⟩
  | .local _ .vmem, ⟨15, _⟩ => ⟨S272x1024, .bf16⟩
  | .local _ .vmem, ⟨16, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_25 : BitVec 32 := 0#32
  let v57 : BitVec 1 := Scalar.cmpi .ne v56 c0_i32_25
  v57

def k0_cond2 (i : grid0.Coords) : BitVec 1 :=
  let arg0 : BitVec 32 := BitVec.ofNat 32 (i 0).val
  let c0_i32_26 : BitVec 32 := 0#32
  let v58 : BitVec 1 := Scalar.cmpi .sgt arg0 c0_i32_26
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== UpRefIdeal.lean ====
abbrev S2064x1024 : Shape := ⟨2, ![2064, 1024]⟩
abbrev S1x1024 : Shape := ⟨2, ![1, 1024]⟩
abbrev S1024x2816 : Shape := ⟨2, ![1024, 2816]⟩
abbrev S2064x2816 : Shape := ⟨2, ![2064, 2816]⟩
abbrev S_ : Shape := ⟨0, ![]⟩
abbrev S2064 : Shape := ⟨1, ![2064]⟩
abbrev S2064x1 : Shape := ⟨2, ![2064, 1]⟩
abbrev S1024 : Shape := ⟨1, ![1024]⟩
abbrev S2176x1024 : Shape := ⟨2, ![2176, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2064x1024, .f32⟩
  | .hbm, ⟨5, _⟩ => ⟨S2064x2816, .f32⟩
  | .hbm, ⟨6, _⟩ => ⟨S2064x2816, .f32⟩
  | .hbm, ⟨7, _⟩ => ⟨S2064x1024, .f32⟩
  | .hbm, ⟨8, _⟩ => ⟨S_, .f32⟩
  | .hbm, ⟨9, _⟩ => ⟨S2064, .f32⟩
  | .hbm, ⟨10, _⟩ => ⟨S2064x1, .f32⟩
  | .hbm, ⟨11, _⟩ => ⟨S_, .f32⟩
  | .hbm, ⟨12, _⟩ => ⟨S2064x1, .f32⟩
  | .hbm, ⟨13, _⟩ => ⟨S2064x1, .f32⟩
  | .hbm, ⟨14, _⟩ => ⟨S_, .f32⟩
  | .hbm, ⟨15, _⟩ => ⟨S2064x1, .f32⟩
  | .hbm, ⟨16, _⟩ => ⟨S2064x1, .f32⟩
  | .hbm, ⟨17, _⟩ => ⟨S2064x1, .f32⟩
  | .hbm, ⟨18, _⟩ => ⟨S2064x1, .f32⟩
  | .hbm, ⟨19, _⟩ => ⟨S_, .f32⟩
  | .hbm, ⟨20, _⟩ => ⟨S2064x1, .f32⟩
  | .hbm, ⟨21, _⟩ => ⟨S2064x1, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S2064x1024, .f32⟩
  | .hbm, ⟨26, _⟩ => ⟨S2064x2816, .f32⟩
  | .hbm, ⟨27, _⟩ => ⟨S2064x2816, .f32⟩
  | .hbm, ⟨28, _⟩ => ⟨S2064x1024, .f32⟩
  | .hbm, ⟨29, _⟩ => ⟨S2064x1024, .f32⟩
  | .hbm, ⟨30, _⟩ => ⟨S2064x1024, .f32⟩
  | .hbm, ⟨31, _⟩ => ⟨S2064x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2064x1024, .f32⟩
  | .hbm, ⟨36, _⟩ => ⟨S2064x1024, .f32⟩
  | .hbm, ⟨37, _⟩ => ⟨S2064x1024, .f32⟩
  | .hbm, ⟨38, _⟩ => ⟨S_, .f32⟩
  | .hbm, ⟨39, _⟩ => ⟨S2064, .f32⟩
  | .hbm, ⟨40, _⟩ => ⟨S2064x1, .f32⟩
  | .hbm, ⟨41, _⟩ => ⟨S2064x1024, .f32⟩
  | .hbm, ⟨42, _⟩ => ⟨S2064x1024, .f32⟩
  | .hbm, ⟨43, _⟩ => ⟨S2064x1024, .f32⟩
  | .hbm, ⟨44, _⟩ => ⟨S2064x1, .f32⟩
  | .hbm, ⟨45, _⟩ => ⟨S_, .f32⟩
  | .hbm, ⟨46, _⟩ => ⟨S2064x1, .f32⟩
  | .hbm, ⟨47, _⟩ => ⟨S2064x1, .f32⟩
  | .hbm, ⟨48, _⟩ => ⟨S_, .f32⟩
  | .hbm, ⟨49, _⟩ => ⟨S2064, .f32⟩
  | .hbm, ⟨50, _⟩ => ⟨S2064x1024, .f32⟩
  | .hbm, ⟨51, _⟩ => ⟨S2064x1024, .f32⟩
  | .hbm, ⟨52, _⟩ => ⟨S2064x1024, .f32⟩
  | .hbm, ⟨53, _⟩ => ⟨S2064x1024, .f32⟩
  | .hbm, ⟨54, _⟩ => ⟨S2064x1024, .f32⟩
  | .hbm, ⟨55, _⟩ => ⟨S_, .i32⟩
  | .hbm, ⟨56, _⟩ => ⟨S_, .f32⟩
  | .hbm, ⟨57, _⟩ => ⟨S2176x1024, .f32⟩
  | .hbm, ⟨58, _⟩ => ⟨S2176x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_call0_v0 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== In.lean ====
abbrev S2064x1024 : Shape := ⟨2, ![2064, 1024]⟩
abbrev S1x1024 : Shape := ⟨2, ![1, 1024]⟩
abbrev S1024x2632 : Shape := ⟨2, ![1024, 2632]⟩
abbrev S2064x2632 : Shape := ⟨2, ![2064, 2632]⟩
abbrev S_ : Shape := ⟨0, ![]⟩
abbrev S2176x2632 : Shape := ⟨2, ![2176, 2632]⟩
abbrev S2176x1536 : Shape := ⟨2, ![2176, 1536]⟩
abbrev S2176x512 : Shape := ⟨2, ![2176, 512]⟩
abbrev S2176x256 : Shape := ⟨2, ![2176, 256]⟩
abbrev S2176x64 : Shape := ⟨2, ![2176, 64]⟩
abbrev S2176x8 : Shape := ⟨2, ![2176, 8]⟩
abbrev S2176x120 : Shape := ⟨2, ![2176, 120]⟩
abbrev S2176x2816 : Shape := ⟨2, ![2176, 2816]⟩
abbrev S2632x1024 : Shape := ⟨2, ![2632, 1024]⟩
abbrev S1536x1024 : Shape := ⟨2, ![1536, 1024]⟩
abbrev S512x1024 : Shape := ⟨2, ![512, 1024]⟩
abbrev S256x1024 : Shape := ⟨2, ![256, 1024]⟩
abbrev S64x1024 : Shape := ⟨2, ![64, 1024]⟩
abbrev S8x1024 : Shape := ⟨2, ![8, 1024]⟩
abbrev S120x1024 : Shape := ⟨2, ![120, 1024]⟩
abbrev S2816x1024 : Shape := ⟨2, ![2816, 1024]⟩
abbrev S2176x1024 : Shape := ⟨2, ![2176, 1024]⟩
abbrev S8x128 : Shape := ⟨2, ![8, 128]⟩
abbrev S544x2816 : Shape := ⟨2, ![544, 2816]⟩
abbrev S544x1024 : Shape := ⟨2, ![544, 1024]⟩
abbrev S544 : Shape := ⟨1, ![544]⟩
abbrev S544x1 : Shape := ⟨2, ![544, 1]⟩
abbrev S1024 : Shape := ⟨1, ![1024]⟩

abbrev nBuf : Space → Nat
  | .hbm => 43
  | .vmem => 12
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2632, .f32⟩
  | .hbm, ⟨3, _⟩ => ⟨S2064x1024, .f32⟩
  | .hbm, ⟨4, _⟩ => ⟨S2064x2632, .f32⟩
  | .hbm, ⟨5, _⟩ => ⟨S_, .i32⟩
  | .hbm, ⟨6, _⟩ => ⟨S_, .f32⟩
  | .hbm, ⟨7, _⟩ => ⟨S2176x2632, .f32⟩
  | .hbm, ⟨8, _⟩ => ⟨S2176x1536, .f32⟩
  | .hbm, ⟨9, _⟩ => ⟨S2176x512, .f32⟩
  | .hbm, ⟨10, _⟩ => ⟨S2176x256, .f32⟩
  | .hbm, ⟨11, _⟩ => ⟨S2176x256, .f32⟩
  | .hbm, ⟨12, _⟩ => ⟨S2176x64, .f32⟩
  | .hbm, ⟨13, _⟩ => ⟨S_, .f32⟩
  | .hbm, ⟨14, _⟩ => ⟨S2176x64, .f32⟩
  | .hbm, ⟨15, _⟩ => ⟨S2176x8, .f32⟩
  | .hbm, ⟨16, _⟩ => ⟨S_, .f32⟩
  | .hbm, ⟨17, _⟩ => ⟨S2176x120, .f32⟩
  | .hbm, ⟨18, _⟩ => ⟨S2176x2816, .f32⟩
  | .hbm, ⟨19, _⟩ => ⟨S2176x2816, .bf16⟩
  | .hbm, ⟨20, _⟩ => ⟨S2632x1024, .f32⟩
  | .hbm, ⟨21, _⟩ => ⟨S1536x1024, .f32⟩
  | .hbm, ⟨22, _⟩ => ⟨S512x1024, .f32⟩
  | .hbm, ⟨23, _⟩ => ⟨S256x1024, .f32⟩
  | .hbm, ⟨24, _⟩ => ⟨S256x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S8x1024, .f32⟩
  | .hbm, ⟨29, _⟩ => ⟨S_, .f32⟩
  | .hbm, ⟨30, _⟩ => ⟨S120x1024, .f32⟩
  | .hbm, ⟨31, _⟩ => ⟨S2816x1024, .f32⟩
  | .hbm, ⟨32, _⟩ => ⟨S2816x1024, .bf16⟩
  | .hbm, ⟨33, _⟩ => ⟨S_, .i32⟩
  | .hbm, ⟨34, _⟩ => ⟨S_, .f32⟩
  | .hbm, ⟨35, _⟩ => ⟨S2176x1024, .f32⟩
  | .hbm, ⟨36, _⟩ => ⟨S_, .i32⟩
  | .hbm, ⟨37, _⟩ => ⟨S_, .f32⟩
  | .hbm, ⟨38, _⟩ => ⟨S2176x1024, .f32⟩
  | .hbm, ⟨39, _⟩ => ⟨S_, .f32⟩
  | .hbm, ⟨40, _⟩ => ⟨S8x128, .f32⟩
  | .hbm, ⟨41, _⟩ => ⟨S2176x1024, .f32⟩
  | .hbm, ⟨42, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S8x128, .f32⟩
  | .local _ .vmem, ⟨9, _⟩ => ⟨S544x1024, .f32⟩
  | .local _ .vmem, ⟨10, _⟩ => ⟨S544x1024, .f32⟩
  | .local _ .vmem, ⟨11, _⟩ => ⟨S1x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call1_v0 : Ref sig .tc := ⟨.hbm, 34, rfl⟩
abbrev main_v22 : Ref sig .tc := ⟨.hbm, 35, rfl⟩
abbrev main_c_4 : Ref sig .tc := ⟨.hbm, 36, rfl⟩
abbrev main_call2_v0 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_17 : BitVec 32 := 0#32
  let v39 : BitVec 1 := Scalar.cmpi .ne v38 c0_i32_17
  v39

def k0_cond2 (i : grid0.Coords) : BitVec 1 :=
  let arg0 : BitVec 32 := BitVec.ofNat 32 (i 0).val
  let c0_i32_18 : BitVec 32 := 0#32
  let v40 : BitVec 1 := Scalar.cmpi .sgt arg0 c0_i32_18
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InRefIdeal.lean ====
abbrev S2064x1024 : Shape := ⟨2, ![2064, 1024]⟩
abbrev S1x1024 : Shape := ⟨2, ![1, 1024]⟩
abbrev S1024x2632 : Shape := ⟨2, ![1024, 2632]⟩
abbrev S2064x2632 : Shape := ⟨2, ![2064, 2632]⟩
abbrev S_ : Shape := ⟨0, ![]⟩
abbrev S2064 : Shape := ⟨1, ![2064]⟩
abbrev S2064x1 : Shape := ⟨2, ![2064, 1]⟩
abbrev S1024 : Shape := ⟨1, ![1024]⟩
abbrev S2176x1024 : Shape := ⟨2, ![2176, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2632, .f32⟩
  | .hbm, ⟨3, _⟩ => ⟨S2064x1024, .f32⟩
  | .hbm, ⟨4, _⟩ => ⟨S2064x2632, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S_, .f32⟩
  | .hbm, ⟨18, _⟩ => ⟨S2064x1, .f32⟩
  | .hbm, ⟨19, _⟩ => ⟨S2064x1, .f32⟩
  | .hbm, ⟨20, _⟩ => ⟨S2064x1024, .f32⟩
  | .hbm, ⟨21, _⟩ => ⟨S2064x1024, .f32⟩
  | .hbm, ⟨22, _⟩ => ⟨S2064x1024, .f32⟩
  | .hbm, ⟨23, _⟩ => ⟨S2064x1024, .f32⟩
  | .hbm, ⟨24, _⟩ => ⟨S2064x2632, .f32⟩
  | .hbm, ⟨25, _⟩ => ⟨S2064x1024, .f32⟩
  | .hbm, ⟨26, _⟩ => ⟨S2064x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2064x1024, .f32⟩
  | .hbm, ⟨31, _⟩ => ⟨S2064x1024, .f32⟩
  | .hbm, ⟨32, _⟩ => ⟨S2064x1024, .f32⟩
  | .hbm, ⟨33, _⟩ => ⟨S_, .f32⟩
  | .hbm, ⟨34, _⟩ => ⟨S2064, .f32⟩
  | .hbm, ⟨35, _⟩ => ⟨S2064x1, .f32⟩
  | .hbm, ⟨36, _⟩ => ⟨S2064x1024, .f32⟩
  | .hbm, ⟨37, _⟩ => ⟨S2064x1024, .f32⟩
  | .hbm, ⟨38, _⟩ => ⟨S2064x1024, .f32⟩
  | .hbm, ⟨39, _⟩ => ⟨S2064x1, .f32⟩
  | .hbm, ⟨40, _⟩ => ⟨S_, .f32⟩
  | .hbm, ⟨41, _⟩ => ⟨S2064x1, .f32⟩
  | .hbm, ⟨42, _⟩ => ⟨S2064x1, .f32⟩
  | .hbm, ⟨43, _⟩ => ⟨S_, .f32⟩
  | .hbm, ⟨44, _⟩ => ⟨S2064, .f32⟩
  | .hbm, ⟨45, _⟩ => ⟨S2064x1024, .f32⟩
  | .hbm, ⟨46, _⟩ => ⟨S2064x1024, .f32⟩
  | .hbm, ⟨47, _⟩ => ⟨S2064x1024, .f32⟩
  | .hbm, ⟨48, _⟩ => ⟨S2064x1024, .f32⟩
  | .hbm, ⟨49, _⟩ => ⟨S2064x1024, .f32⟩
  | .hbm, ⟨50, _⟩ => ⟨S_, .i32⟩
  | .hbm, ⟨51, _⟩ => ⟨S_, .f32⟩
  | .hbm, ⟨52, _⟩ => ⟨S2176x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_v0 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Loss.lean ====
abbrev S2064x2816 : Shape := ⟨2, ![2064, 2816]⟩
abbrev S2816x1024 : Shape := ⟨2, ![2816, 1024]⟩
abbrev S2064x1024 : Shape := ⟨2, ![2064, 1024]⟩
abbrev S2048x1024 : Shape := ⟨2, ![2048, 1024]⟩
abbrev S_ : Shape := ⟨0, ![]⟩
abbrev S2176x2816 : Shape := ⟨2, ![2176, 2816]⟩
abbrev S2176x1024 : Shape := ⟨2, ![2176, 1024]⟩
abbrev S1x128 : Shape := ⟨2, ![1, 128]⟩
abbrev S544x2816 : Shape := ⟨2, ![544, 2816]⟩
abbrev S544x1024 : Shape := ⟨2, ![544, 1024]⟩
abbrev S544x1 : Shape := ⟨2, ![544, 1]⟩
abbrev S1x544x1024 : Shape := ⟨3, ![1, 544, 1024]⟩
abbrev S1 : Shape := ⟨1, ![1]⟩
abbrev S1x1x1 : Shape := ⟨3, ![1, 1, 1]⟩

abbrev nBuf : Space → Nat
  | .hbm => 18
  | .vmem => 12
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2048x1024, .f32⟩
  | .hbm, ⟨4, _⟩ => ⟨S_, .i32⟩
  | .hbm, ⟨5, _⟩ => ⟨S_, .f32⟩
  | .hbm, ⟨6, _⟩ => ⟨S2176x2816, .f32⟩
  | .hbm, ⟨7, _⟩ => ⟨S2176x2816, .bf16⟩
  | .hbm, ⟨8, _⟩ => ⟨S2816x1024, .bf16⟩
  | .hbm, ⟨9, _⟩ => ⟨S_, .i32⟩
  | .hbm, ⟨10, _⟩ => ⟨S_, .f32⟩
  | .hbm, ⟨11, _⟩ => ⟨S2176x1024, .f32⟩
  | .hbm, ⟨12, _⟩ => ⟨S_, .i32⟩
  | .hbm, ⟨13, _⟩ => ⟨S_, .f32⟩
  | .hbm, ⟨14, _⟩ => ⟨S2176x1024, .f32⟩
  | .hbm, ⟨15, _⟩ => ⟨S2176x1024, .f32⟩
  | .hbm, ⟨16, _⟩ => ⟨S2176x1024, .bf16⟩
  | .hbm, ⟨17, _⟩ => ⟨S1x128, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .bf16⟩
  | .local _ .vmem, ⟨10, _⟩ => ⟨S544x1024, .bf16⟩
  | .local _ .vmem, ⟨11, _⟩ => ⟨S1x128, .f32⟩
  | _, _ => ⟨S2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2064x2816 : Shape := ⟨2, ![2064, 2816]⟩
abbrev S2816x1024 : Shape := ⟨2, ![2816, 1024]⟩
abbrev S2064x1024 : Shape := ⟨2, ![2064, 1024]⟩
abbrev S2048x1024 : Shape := ⟨2, ![2048, 1024]⟩
abbrev S_ : Shape := ⟨0, ![]⟩
abbrev S2048 : Shape := ⟨1, ![2048]⟩
abbrev S2176x1024 : Shape := ⟨2, ![2176, 1024]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S2064x2816, .f32⟩
  | .hbm, ⟨1, _⟩ => ⟨S2816x1024, .f32⟩
  | .hbm, ⟨2, _⟩ => ⟨S2064x1024, .f32⟩
  | .hbm, ⟨3, _⟩ => ⟨S2048x1024, .f32⟩
  | .hbm, ⟨4, _⟩ => ⟨S2064x1024, .f32⟩
  | .hbm, ⟨5, _⟩ => ⟨S2064x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2064x1024, .f32⟩
  | .hbm, ⟨32, _⟩ => ⟨S_, .i32⟩
  | .hbm, ⟨33, _⟩ => ⟨S_, .f32⟩
  | .hbm, ⟨34, _⟩ => ⟨S2176x1024, .f32⟩
  | .hbm, ⟨35, _⟩ => ⟨S2176x1024, .bf16⟩
  | .hbm, ⟨36, _⟩ => ⟨S1x128, .f32⟩
  | _, _ => ⟨S2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_c : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Mix.lean ====
abbrev S2064x512 : Shape := ⟨2, ![2064, 512]⟩
abbrev S2064x2632 : Shape := ⟨2, ![2064, 2632]⟩
abbrev S1x128 : Shape := ⟨2, ![1, 128]⟩
abbrev S1024x1024 : Shape := ⟨2, ![1024, 1024]⟩
abbrev S2064x1024 : Shape := ⟨2, ![2064, 1024]⟩
abbrev S_ : Shape := ⟨0, ![]⟩
abbrev S2176x1024 : Shape := ⟨2, ![2176, 1024]⟩
abbrev S2176x512 : Shape := ⟨2, ![2176, 512]⟩
abbrev S2176x2632 : Shape := ⟨2, ![2176, 2632]⟩
abbrev S2176x1536 : Shape := ⟨2, ![2176, 1536]⟩
abbrev S2176x256 : Shape := ⟨2, ![2176, 256]⟩
abbrev S2176x64 : Shape := ⟨2, ![2176, 64]⟩
abbrev S2176x8 : Shape := ⟨2, ![2176, 8]⟩
abbrev S2176x120 : Shape := ⟨2, ![2176, 120]⟩
abbrev S2176x2816 : Shape := ⟨2, ![2176, 2816]⟩
abbrev S544x1024 : Shape := ⟨2, ![544, 1024]⟩
abbrev S544x512 : Shape := ⟨2, ![544, 512]⟩
abbrev S544x1 : Shape := ⟨2, ![544, 1]⟩
abbrev S544x128 : Shape := ⟨2, ![544, 128]⟩
abbrev S544 : Shape := ⟨1, ![544]⟩
abbrev S128 : Shape := ⟨1, ![128]⟩

abbrev nBuf : Space → Nat
  | .hbm => 37
  | .vmem => 19
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S2064x2632, .f32⟩
  | .hbm, ⟨3, _⟩ => ⟨S1x128, .f32⟩
  | .hbm, ⟨4, _⟩ => ⟨S1x128, .f32⟩
  | .hbm, ⟨5, _⟩ => ⟨S1024x1024, .f32⟩
  | .hbm, ⟨6, _⟩ => ⟨S2064x1024, .f32⟩
  | .hbm, ⟨7, _⟩ => ⟨S_, .i32⟩
  | .hbm, ⟨8, _⟩ => ⟨S_, .f32⟩
  | .hbm, ⟨9, _⟩ => ⟨S2176x1024, .f32⟩
  | .hbm, ⟨10, _⟩ => ⟨S2176x1024, .bf16⟩
  | .hbm, ⟨11, _⟩ => ⟨S1024x1024, .bf16⟩
  | .hbm, ⟨12, _⟩ => ⟨S_, .i32⟩
  | .hbm, ⟨13, _⟩ => ⟨S_, .f32⟩
  | .hbm, ⟨14, _⟩ => ⟨S2176x512, .f32⟩
  | .hbm, ⟨15, _⟩ => ⟨S_, .i32⟩
  | .hbm, ⟨16, _⟩ => ⟨S_, .f32⟩
  | .hbm, ⟨17, _⟩ => ⟨S2176x512, .f32⟩
  | .hbm, ⟨18, _⟩ => ⟨S_, .i32⟩
  | .hbm, ⟨19, _⟩ => ⟨S_, .f32⟩
  | .hbm, ⟨20, _⟩ => ⟨S2176x2632, .f32⟩
  | .hbm, ⟨21, _⟩ => ⟨S2176x1536, .f32⟩
  | .hbm, ⟨22, _⟩ => ⟨S2176x512, .f32⟩
  | .hbm, ⟨23, _⟩ => ⟨S2176x256, .f32⟩
  | .hbm, ⟨24, _⟩ => ⟨S2176x256, .f32⟩
  | .hbm, ⟨25, _⟩ => ⟨S2176x64, .f32⟩
  | .hbm, ⟨26, _⟩ => ⟨S_, .f32⟩
  | .hbm, ⟨27, _⟩ => ⟨S2176x64, .f32⟩
  | .hbm, ⟨28, _⟩ => ⟨S2176x8, .f32⟩
  | .hbm, ⟨29, _⟩ => ⟨S_, .f32⟩
  | .hbm, ⟨30, _⟩ => ⟨S2176x120, .f32⟩
  | .hbm, ⟨31, _⟩ => ⟨S2176x2816, .f32⟩
  | .hbm, ⟨32, _⟩ => ⟨S2176x512, .f32⟩
  | .hbm, ⟨33, _⟩ => ⟨S2176x512, .f32⟩
  | .hbm, ⟨34, _⟩ => ⟨S2176x512, .bf16⟩
  | .hbm, ⟨35, _⟩ => ⟨S1x128, .f32⟩
  | .hbm, ⟨36, _⟩ => ⟨S1x128, .f32⟩
  | .local _ .vmem, ⟨0, _⟩ => ⟨S544x1024, .bf16⟩
  | .local _ .vmem, ⟨1, _⟩ => ⟨S544x1024, .bf16⟩
  | .local _ .vmem, ⟨2, _⟩ => ⟨S1024x1024, .bf16⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S544x512, .f32⟩
  | .local _ .vmem, ⟨9, _⟩ => ⟨S1x128, .f32⟩
  | .local _ .vmem, ⟨10, _⟩ => ⟨S1x128, .f32⟩
  | .local _ .vmem, ⟨11, _⟩ => ⟨S544x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S544x512, .bf16⟩
  | .local _ .vmem, ⟨16, _⟩ => ⟨S544x512, .bf16⟩
  | .local _ .vmem, ⟨17, _⟩ => ⟨S1x128, .f32⟩
  | .local _ .vmem, ⟨18, _⟩ => ⟨S1x128, .f32⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_c_2 : Ref sig .tc := ⟨.hbm, 18, rfl⟩
abbrev main_call3_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v15_2 : Ref sig .tc := ⟨.hbm, 34, rfl⟩
abbrev main_v15_3 : Ref sig .tc := ⟨.hbm, 35, rfl⟩
abbrev main_v15_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v394 : BitVec 1 := Scalar.cmpi .eq arg0 c0_i32
  let v395 : BitVec 32 := Scalar.extui v394
  let c0_i32_103 : BitVec 32 := 0#32
  let v396 : BitVec 1 := Scalar.cmpi .ne v395 c0_i32_103
  v396

def k0_cond2 (i : grid0.Coords) : BitVec 1 :=
  let arg0 : BitVec 32 := BitVec.ofNat 32 (i 0).val
  let c0_i32_104 : BitVec 32 := 0#32
  let v397 : BitVec 1 := Scalar.cmpi .sgt arg0 c0_i32_104
  let v398 : BitVec 32 := Scalar.extui v397
  let c0_i32_105 : BitVec 32 := 0#32
  let v399 : BitVec 1 := Scalar.cmpi .ne v398 c0_i32_105
  v399

def k0_cond3 (i : grid0.Coords) : BitVec 1 :=
  let arg0 : BitVec 32 := BitVec.ofNat 32 (i 0).val
  let c0_i32_106 : BitVec 32 := 0#32
  let v400 : BitVec 1 := Scalar.cmpi .eq arg0 c0_i32_106
  let v401 : BitVec 32 := Scalar.extui v400
  let c0_i32_107 : BitVec 32 := 0#32
  let v402 : BitVec 1 := Scalar.cmpi .ne v401 c0_i32_107
  v402

def k0_cond4 (i : grid0.Coords) : BitVec 1 :=
  let arg0 : BitVec 32 := BitVec.ofNat 32 (i 0).val
  let c0_i32_108 : BitVec 32 := 0#32
  let v403 : BitVec 1 := Scalar.cmpi .sgt arg0 c0_i32_108
  let v404 : BitVec 32 := Scalar.extui v403
  let c0_i32_109 : BitVec 32 := 0#32
  let v405 : BitVec 1 := Scalar.cmpi .ne v404 c0_i32_109
  v405

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S544x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixRefIdeal.lean ====
abbrev S2064x512 : Shape := ⟨2, ![2064, 512]⟩
abbrev S2064x2632 : Shape := ⟨2, ![2064, 2632]⟩
abbrev S1x128 : Shape := ⟨2, ![1, 128]⟩
abbrev S1024x1024 : Shape := ⟨2, ![1024, 1024]⟩
abbrev S2064x1024 : Shape := ⟨2, ![2064, 1024]⟩
abbrev S2064x4x128 : Shape := ⟨3, ![2064, 4, 128]⟩
abbrev S_ : Shape := ⟨0, ![]⟩
abbrev S2064x4 : Shape := ⟨2, ![2064, 4]⟩
abbrev S2064x4x1 : Shape := ⟨3, ![2064, 4, 1]⟩
abbrev S1x1x128 : Shape := ⟨3, ![1, 1, 128]⟩
abbrev S128 : Shape := ⟨1, ![128]⟩
abbrev S2176x512 : Shape := ⟨2, ![2176, 512]⟩

abbrev nBuf : Space → Nat
  | .hbm => 145
  | .vmem => 0
  | .smem => 0
  | _ => 0

abbrev hbmTy0_0 (i : Nat) : BufTy := match i % 128 with
  | 0 => ⟨S2064x512, .f32⟩
  | 1 => ⟨S2064x512, .f32⟩
  | 2 => ⟨S2064x2632, .f32⟩
  | 3 => ⟨S1x128, .f32⟩
  | 4 => ⟨S1x128, .f32⟩
  | 5 => ⟨S1024x1024, .f32⟩
  | 6 => ⟨S2064x1024, .f32⟩
  | 7 => ⟨S2064x512, .f32⟩
  | 8 => ⟨S2064x4x128, .f32⟩
  | 9 => ⟨S2064x4x128, .f32⟩
  | 10 => ⟨S_, .f32⟩
  | 11 => ⟨S2064x4, .f32⟩
  | 12 => ⟨S2064x4x1, .f32⟩
  | 13 => ⟨S_, .f32⟩
  | 14 => ⟨S2064x4x1, .f32⟩
  | 15 => ⟨S2064x4x1, .f32⟩
  | 16 => ⟨S_, .f32⟩
  | 17 => ⟨S2064x4x1, .f32⟩
  | 18 => ⟨S2064x4x1, .f32⟩
  | 19 => ⟨S2064x4x1, .f32⟩
  | 20 => ⟨S2064x4x1, .f32⟩
  | 21 => ⟨S_, .f32⟩
  | 22 => ⟨S2064x4x1, .f32⟩
  | 23 => ⟨S2064x4x1, .f32⟩
  | 24 => ⟨S2064x4x128, .f32⟩
  | 25 => ⟨S2064x4x128, .f32⟩
  | 26 => ⟨S1x1x128, .f32⟩
  | 27 => ⟨S2064x4x128, .f32⟩
  | 28 => ⟨S2064x4x128, .f32⟩
  | 29 => ⟨S2064x512, .f32⟩
  | 30 => ⟨S2064x4x128, .f32⟩
  | 31 => ⟨S2064x4x128, .f32⟩
  | 32 => ⟨S_, .f32⟩
  | 33 => ⟨S2064x4, .f32⟩
  | 34 => ⟨S2064x4x1, .f32⟩
  | 35 => ⟨S_, .f32⟩
  | 36 => ⟨S2064x4x1, .f32⟩
  | 37 => ⟨S2064x4x1, .f32⟩
  | 38 => ⟨S_, .f32⟩
  | 39 => ⟨S2064x4x1, .f32⟩
  | 40 => ⟨S2064x4x1, .f32⟩
  | 41 => ⟨S2064x4x1, .f32⟩
  | 42 => ⟨S2064x4x1, .f32⟩
  | 43 => ⟨S_, .f32⟩
  | 44 => ⟨S2064x4x1, .f32⟩
  | 45 => ⟨S2064x4x1, .f32⟩
  | 46 => ⟨S2064x4x128, .f32⟩
  | 47 => ⟨S2064x4x128, .f32⟩
  | 48 => ⟨S1x1x128, .f32⟩
  | 49 => ⟨S2064x4x128, .f32⟩
  | 50 => ⟨S2064x4x128, .f32⟩
  | 51 => ⟨S2064x4x128, .f32⟩
  | 52 => ⟨S2064x4x128, .f32⟩
  | 53 => ⟨S2064x4x128, .f32⟩
  | 54 => ⟨S_, .f32⟩
  | 55 => ⟨S2064x4x128, .f32⟩
  | 56 => ⟨S2064x4x128, .f32⟩
  | 57 => ⟨S_, .f32⟩
  | 58 => ⟨S2064x4x128, .f32⟩
  | 59 => ⟨S2064x4x128, .f32⟩
  | 60 => ⟨S_, .f32⟩
  | 61 => ⟨S2064x4x128, .f32⟩
  | 62 => ⟨S2064x4x128, .f32⟩
  | 63 => ⟨S2064x4x128, .f32⟩
  | 64 => ⟨S2064x4x128, .f32⟩
  | 65 => ⟨S2064x4x128, .f32⟩
  | 66 => ⟨S2064x512, .f32⟩
  | 67 => ⟨S2064x1024, .f32⟩
  | 68 => ⟨S2064x1024, .f32⟩
  | 69 => ⟨S2064x1024, .f32⟩
  | 70 => ⟨S2064x512, .f32⟩
  | 71 => ⟨S2064x512, .f32⟩
  | 72 => ⟨S2064x4x128, .f32⟩
  | 73 => ⟨S2064x4x128, .f32⟩
  | 74 => ⟨S2064x4x128, .f32⟩
  | 75 => ⟨S2064x4x128, .f32⟩
  | 76 => ⟨S2064x4x128, .f32⟩
  | 77 => ⟨S2064x4x128, .f32⟩
  | 78 => ⟨S2064x4x128, .f32⟩
  | 79 => ⟨S2064x512, .f32⟩
  | 80 => ⟨S2064x4x128, .f32⟩
  | 81 => ⟨S_, .f32⟩
  | 82 => ⟨S128, .f32⟩
  | 83 => ⟨S1x1x128, .f32⟩
  | 84 => ⟨S2064x4x128, .f32⟩
  | 85 => ⟨S2064x4x128, .f32⟩
  | 86 => ⟨S_, .f32⟩
  | 87 => ⟨S128, .f32⟩
  | 88 => ⟨S1x128, .f32⟩
  | 89 => ⟨S2064x4x128, .f32⟩
  | 90 => ⟨S_, .f32⟩
  | 91 => ⟨S2064x4, .f32⟩
  | 92 => ⟨S2064x4x1, .f32⟩
  | 93 => ⟨S2064x4x128, .f32⟩
  | 94 => ⟨S2064x4x128, .f32⟩
  | 95 => ⟨S2064x4x1, .f32⟩
  | 96 => ⟨S_, .f32⟩
  | 97 => ⟨S2064x4x1, .f32⟩
  | 98 => ⟨S2064x4x1, .f32⟩
  | 99 => ⟨S_, .f32⟩
  | 100 => ⟨S2064x4, .f32⟩
  | 101 => ⟨S2064x4x128, .f32⟩
  | 102 => ⟨S2064x4x128, .f32⟩
  | 103 => ⟨S2064x4x128, .f32⟩
  | 104 => ⟨S2064x4x128, .f32⟩
  | 105 => ⟨S2064x4x128, .f32⟩
  | 106 => ⟨S2064x512, .f32⟩
  | 107 => ⟨S2064x4x128, .f32⟩
  | 108 => ⟨S2064x4x128, .f32⟩
  | 109 => ⟨S_, .f32⟩
  | 110 => ⟨S128, .f32⟩
  | 111 => ⟨S1x1x128, .f32⟩
  | 112 => ⟨S2064x4x128, .f32⟩
  | 113 => ⟨S2064x4x128, .f32⟩
  | 114 => ⟨S_, .f32⟩
  | 115 => ⟨S128, .f32⟩
  | 116 => ⟨S1x128, .f32⟩
  | 117 => ⟨S2064x4x128, .f32⟩
  | 118 => ⟨S_, .f32⟩
  | 119 => ⟨S2064x4, .f32⟩
  | 120 => ⟨S2064x4x1, .f32⟩
  | 121 => ⟨S2064x4x128, .f32⟩
  | 122 => ⟨S2064x4x128, .f32⟩
  | 123 => ⟨S2064x4x1, .f32⟩
  | 124 => ⟨S_, .f32⟩
  | 125 => ⟨S2064x4x1, .f32⟩
  | 126 => ⟨S2064x4x1, .f32⟩
  | 127 => ⟨S_, .f32⟩
  | _ => ⟨S2064x512, .f32⟩

abbrev hbmTy0_1 (i : Nat) : BufTy := match i % 128 with
  | 0 => ⟨S2064x4, .f32⟩
  | 1 => ⟨S2064x4x128, .f32⟩
  | 2 => ⟨S2064x4x128, .f32⟩
  | 3 => ⟨S2064x4x128, .f32⟩
  | 4 => ⟨S2064x4x128, .f32⟩
  | 5 => ⟨S2064x4x128, .f32⟩
  | 6 => ⟨S2064x512, .f32⟩
  | 7 => ⟨S_, .i32⟩
  | 8 => ⟨S_, .f32⟩
  | 9 => ⟨S2176x512, .f32⟩
  | 10 => ⟨S_, .i32⟩
  | 11 => ⟨S_, .f32⟩
  | 12 => ⟨S2176x512, .f32⟩
  | 13 => ⟨S_, .i32⟩
  | 14 => ⟨S_, .f32⟩
  | 15 => ⟨S2176x512, .f32⟩
  | 16 => ⟨S2176x512, .bf16⟩
  | _ => ⟨S2064x512, .f32⟩

abbrev hbmTy (i : Nat) : BufTy := match i / 128 with
  | 0 => hbmTy0_0 i
  | 1 => hbmTy0_1 i
  | _ => ⟨S2064x512, .f32⟩

abbrev bufTy : (tb : Table) → Fin (tcTables nBuf tb) → BufTy
  | .hbm, ⟨i, _⟩ => hbmTy i
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v37_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v37_1 : Ref sig .tc := ⟨.hbm, 63, rfl⟩
abbrev main_v37_0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_14 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_cst_16 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c : Ref sig .tc := ⟨.hbm, 135, rfl⟩
abbrev main_call2_v0 : Ref sig .tc := ⟨.hbm, 136, rfl⟩
abbrev main_v95 : Ref sig .tc := ⟨.hbm, 137, rfl⟩
abbrev main_c_17 : Ref sig .tc := ⟨.hbm, 138, rfl⟩
abbrev main_call3_v0 : Ref sig .tc := ⟨.hbm, 139, rfl⟩
abbrev main_v96 : Ref sig .tc := ⟨.hbm, 140, rfl⟩
abbrev main_c_18 : Ref sig .tc := ⟨.hbm, 141, rfl⟩
abbrev main_call4_v0 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]
-- ==== Mla.lean ====
abbrev S2064x2632 : Shape := ⟨2, ![2064, 2632]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S2064x4x192 : Shape := ⟨3, ![2064, 4, 192]⟩
abbrev S2064x4x128 : Shape := ⟨3, ![2064, 4, 128]⟩
abbrev S32 : Shape := ⟨1, ![32]⟩
abbrev S_ : Shape := ⟨0, ![]⟩
abbrev S2176 : Shape := ⟨1, ![2176]⟩
abbrev S2176x1 : Shape := ⟨2, ![2176, 1]⟩
abbrev S1x32 : Shape := ⟨2, ![1, 32]⟩
abbrev S2176x32 : Shape := ⟨2, ![2176, 32]⟩
abbrev S2176x64 : Shape := ⟨2, ![2176, 64]⟩
abbrev S2176x128 : Shape := ⟨2, ![2176, 128]⟩
abbrev S2176x2632 : Shape := ⟨2, ![2176, 2632]⟩
abbrev S2176x1536 : Shape := ⟨2, ![2176, 1536]⟩
abbrev S2176x512 : Shape := ⟨2, ![2176, 512]⟩
abbrev S2176x256 : Shape := ⟨2, ![2176, 256]⟩
abbrev S2176x8 : Shape := ⟨2, ![2176, 8]⟩
abbrev S2176x120 : Shape := ⟨2, ![2176, 120]⟩
abbrev S2176x2816 : Shape := ⟨2, ![2176, 2816]⟩
abbrev S768x256 : Shape := ⟨2, ![768, 256]⟩
abbrev S4x192x256 : Shape := ⟨3, ![4, 192, 256]⟩
abbrev S4x256x256 : Shape := ⟨3, ![4, 256, 256]⟩
abbrev S1024x256 : Shape := ⟨2, ![1024, 256]⟩
abbrev S2064x256 : Shape := ⟨2, ![2064, 256]⟩
abbrev S2064 : Shape := ⟨1, ![2064]⟩
abbrev S2064x1 : Shape := ⟨2, ![2064, 1]⟩
abbrev S2064x768 : Shape := ⟨2, ![2064, 768]⟩
abbrev S2064x1024 : Shape := ⟨2, ![2064, 1024]⟩
abbrev S2176x1024 : Shape := ⟨2, ![2176, 1024]⟩
abbrev S2176x4x256 : Shape := ⟨3, ![2176, 4, 256]⟩
abbrev S2064x512 : Shape := ⟨2, ![2064, 512]⟩
abbrev S272x1024 : Shape := ⟨2, ![272, 1024]⟩
abbrev S272x128 : Shape := ⟨2, ![272, 128]⟩
abbrev S272x512 : Shape := ⟨2, ![272, 512]⟩
abbrev S272x256 : Shape := ⟨2, ![272, 256]⟩
abbrev S272 : Shape := ⟨1, ![272]⟩
abbrev S272x1 : Shape := ⟨2, ![272, 1]⟩
abbrev S256 : Shape := ⟨1, ![256]⟩

abbrev nBuf : Space → Nat
  | .hbm => 128
  | .vmem => 40
  | .smem => 0
  | _ => 0

abbrev bufTy : (tb : Table) → Fin (tcTables nBuf tb) → BufTy
  | .hbm, ⟨0, _⟩ => ⟨S2064x2632, .f32⟩
  | .hbm, ⟨1, _⟩ => ⟨S1x256, .f32⟩
  | .hbm, ⟨2, _⟩ => ⟨S1x256, .f32⟩
  | .hbm, ⟨3, _⟩ => ⟨S256x768, .f32⟩
  | .hbm, ⟨4, _⟩ => ⟨S256x1024, .f32⟩
  | .hbm, ⟨5, _⟩ => ⟨S1x192, .f32⟩
  | .hbm, ⟨6, _⟩ => ⟨S1x192, .f32⟩
  | .hbm, ⟨7, _⟩ => ⟨S2064x4x192, .f32⟩
  | .hbm, ⟨8, _⟩ => ⟨S2064x4x192, .f32⟩
  | .hbm, ⟨9, _⟩ => ⟨S2064x4x128, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2176, .i32⟩
  | .hbm, ⟨19, _⟩ => ⟨S_, .i32⟩
  | .hbm, ⟨20, _⟩ => ⟨S2176, .i32⟩
  | .hbm, ⟨21, _⟩ => ⟨S2176, .i32⟩
  | .hbm, ⟨22, _⟩ => ⟨S2176, .f32⟩
  | .hbm, ⟨23, _⟩ => ⟨S2176x1, .f32⟩
  | .hbm, ⟨24, _⟩ => ⟨S1x32, .f32⟩
  | .hbm, ⟨25, _⟩ => ⟨S2176x32, .f32⟩
  | .hbm, ⟨26, _⟩ => ⟨S2176x32, .f32⟩
  | .hbm, ⟨27, _⟩ => ⟨S2176x32, .f32⟩
  | .hbm, ⟨28, _⟩ => ⟨S_, .f32⟩
  | .hbm, ⟨29, _⟩ => ⟨S2176x64, .f32⟩
  | .hbm, ⟨30, _⟩ => ⟨S2176x32, .f32⟩
  | .hbm, ⟨31, _⟩ => ⟨S2176x32, .f32⟩
  | .hbm, ⟨32, _⟩ => ⟨S2176x128, .f32⟩
  | .hbm, ⟨33, _⟩ => ⟨S2176x32, .f32⟩
  | .hbm, ⟨34, _⟩ => ⟨S2176x32, .f32⟩
  | .hbm, ⟨35, _⟩ => ⟨S2176x32, .f32⟩
  | .hbm, ⟨36, _⟩ => ⟨S2176x128, .f32⟩
  | .hbm, ⟨37, _⟩ => ⟨S_, .i32⟩
  | .hbm, ⟨38, _⟩ => ⟨S_, .f32⟩
  | .hbm, ⟨39, _⟩ => ⟨S2176x2632, .f32⟩
  | .hbm, ⟨40, _⟩ => ⟨S2176x1536, .f32⟩
  | .hbm, ⟨41, _⟩ => ⟨S2176x512, .f32⟩
  | .hbm, ⟨42, _⟩ => ⟨S2176x256, .f32⟩
  | .hbm, ⟨43, _⟩ => ⟨S2176x256, .f32⟩
  | .hbm, ⟨44, _⟩ => ⟨S2176x64, .f32⟩
  | .hbm, ⟨45, _⟩ => ⟨S_, .f32⟩
  | .hbm, ⟨46, _⟩ => ⟨S2176x64, .f32⟩
  | .hbm, ⟨47, _⟩ => ⟨S2176x8, .f32⟩
  | .hbm, ⟨48, _⟩ => ⟨S_, .f32⟩
  | .hbm, ⟨49, _⟩ => ⟨S2176x120, .f32⟩
  | .hbm, ⟨50, _⟩ => ⟨S2176x2816, .f32⟩
  | .hbm, ⟨51, _⟩ => ⟨S768x256, .f32⟩
  | .hbm, ⟨52, _⟩ => ⟨S4x192x256, .f32⟩
  | .hbm, ⟨53, _⟩ => ⟨S_, .i32⟩
  | .hbm, ⟨54, _⟩ => ⟨S_, .f32⟩
  | .hbm, ⟨55, _⟩ => ⟨S4x256x256, .f32⟩
  | .hbm, ⟨56, _⟩ => ⟨S1024x256, .f32⟩
  | .hbm, ⟨57, _⟩ => ⟨S1024x256, .bf16⟩
  | .hbm, ⟨58, _⟩ => ⟨S256x1024, .bf16⟩
  | .hbm, ⟨59, _⟩ => ⟨S_, .i32⟩
  | .hbm, ⟨60, _⟩ => ⟨S_, .f32⟩
  | .hbm, ⟨61, _⟩ => ⟨S1x256, .f32⟩
  | .hbm, ⟨62, _⟩ => ⟨S_, .i32⟩
  | .hbm, ⟨63, _⟩ => ⟨S_, .f32⟩
  | .hbm, ⟨64, _⟩ => ⟨S1x256, .f32⟩
  | .hbm, ⟨65, _⟩ => ⟨S2064x256, .f32⟩
  | .hbm, ⟨66, _⟩ => ⟨S2064x256, .f32⟩
  | .hbm, ⟨67, _⟩ => ⟨S_, .f32⟩
  | .hbm, ⟨68, _⟩ => ⟨S2064, .f32⟩
  | .hbm, ⟨69, _⟩ => ⟨S2064x1, .f32⟩
  | .hbm, ⟨70, _⟩ => ⟨S_, .f32⟩
  | .hbm, ⟨71, _⟩ => ⟨S2064x1, .f32⟩
  | .hbm, ⟨72, _⟩ => ⟨S2064x1, .f32⟩
  | .hbm, ⟨73, _⟩ => ⟨S_, .f32⟩
  | .hbm, ⟨74, _⟩ => ⟨S2064x1, .f32⟩
  | .hbm, ⟨75, _⟩ => ⟨S2064x1, .f32⟩
  | .hbm, ⟨76, _⟩ => ⟨S2064x1, .f32⟩
  | .hbm, ⟨77, _⟩ => ⟨S2064x256, .f32⟩
  | .hbm, ⟨78, _⟩ => ⟨S2064x256, .f32⟩
  | .hbm, ⟨79, _⟩ => ⟨S2064x256, .f32⟩
  | .hbm, ⟨80, _⟩ => ⟨S2064x256, .f32⟩
  | .hbm, ⟨81, _⟩ => ⟨S2064x768, .f32⟩
  | .hbm, ⟨82, _⟩ => ⟨S2064x256, .f32⟩
  | .hbm, ⟨83, _⟩ => ⟨S2064x256, .f32⟩
  | .hbm, ⟨84, _⟩ => ⟨S_, .f32⟩
  | .hbm, ⟨85, _⟩ => ⟨S2064, .f32⟩
  | .hbm, ⟨86, _⟩ => ⟨S2064x1, .f32⟩
  | .hbm, ⟨87, _⟩ => ⟨S_, .f32⟩
  | .hbm, ⟨88, _⟩ => ⟨S2064x1, .f32⟩
  | .hbm, ⟨89, _⟩ => ⟨S2064x1, .f32⟩
  | .hbm, ⟨90, _⟩ => ⟨S_, .f32⟩
  | .hbm, ⟨91, _⟩ => ⟨S2064x1, .f32⟩
  | .hbm, ⟨92, _⟩ => ⟨S2064x1, .f32⟩
  | .hbm, ⟨93, _⟩ => ⟨S2064x1, .f32⟩
  | .hbm, ⟨94, _⟩ => ⟨S2064x256, .f32⟩
  | .hbm, ⟨95, _⟩ => ⟨S2064x256, .f32⟩
  | .hbm, ⟨96, _⟩ => ⟨S2064x256, .f32⟩
  | .hbm, ⟨97, _⟩ => ⟨S2064x256, .f32⟩
  | .hbm, ⟨98, _⟩ => ⟨S2064x1024, .f32⟩
  | .hbm, ⟨99, _⟩ => ⟨S_, .i32⟩
  | .hbm, ⟨100, _⟩ => ⟨S_, .f32⟩
  | .hbm, ⟨101, _⟩ => ⟨S2176x1024, .f32⟩
  | .hbm, ⟨102, _⟩ => ⟨S2064x4x192, .f32⟩
  | .hbm, ⟨103, _⟩ => ⟨S_, .i32⟩
  | .hbm, ⟨104, _⟩ => ⟨S_, .f32⟩
  | .hbm, ⟨105, _⟩ => ⟨S2176x4x256, .f32⟩
  | .hbm, ⟨106, _⟩ => ⟨S2176x1024, .f32⟩
  | .hbm, ⟨107, _⟩ => ⟨S_, .i32⟩
  | .hbm, ⟨108, _⟩ => ⟨S_, .f32⟩
  | .hbm, ⟨109, _⟩ => ⟨S2176x4x256, .f32⟩
  | .hbm, ⟨110, _⟩ => ⟨S2176x1024, .f32⟩
  | .hbm, ⟨111, _⟩ => ⟨S_, .i32⟩
  | .hbm, ⟨112, _⟩ => ⟨S_, .f32⟩
  | .hbm, ⟨113, _⟩ => ⟨S2176x4x256, .f32⟩
  | .hbm, ⟨114, _⟩ => ⟨S2176x1024, .f32⟩
  | .hbm, ⟨115, _⟩ => ⟨S2064x512, .f32⟩
  | .hbm, ⟨116, _⟩ => ⟨S_, .i32⟩
  | .hbm, ⟨117, _⟩ => ⟨S_, .f32⟩
  | .hbm, ⟨118, _⟩ => ⟨S2176x512, .f32⟩
  | .hbm, ⟨119, _⟩ => ⟨S2176x1024, .bf16⟩
  | .hbm, ⟨120, _⟩ => ⟨S2176x1024, .bf16⟩
  | .hbm, ⟨121, _⟩ => ⟨S2176x128, .bf16⟩
  | .hbm, ⟨122, _⟩ => ⟨S2176x256, .bf16⟩
  | .hbm, ⟨123, _⟩ => ⟨S2176x256, .bf16⟩
  | .hbm, ⟨124, _⟩ => ⟨S1x256, .f32⟩
  | .hbm, ⟨125, _⟩ => ⟨S1x256, .f32⟩
  | .hbm, ⟨126, _⟩ => ⟨S1x256, .f32⟩
  | .hbm, ⟨127, _⟩ => ⟨S1x256, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x128, .f32⟩
  | .local _ .vmem, ⟨5, _⟩ => ⟨S272x128, .f32⟩
  | .local _ .vmem, ⟨6, _⟩ => ⟨S272x128, .f32⟩
  | .local _ .vmem, ⟨7, _⟩ => ⟨S272x128, .f32⟩
  | .local _ .vmem, ⟨8, _⟩ => ⟨S272x128, .f32⟩
  | .local _ .vmem, ⟨9, _⟩ => ⟨S272x128, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x512, .f32⟩
  | .local _ .vmem, ⟨15, _⟩ => ⟨S272x512, .f32⟩
  | .local _ .vmem, ⟨16, _⟩ => ⟨S272x256, .f32⟩
  | .local _ .vmem, ⟨17, _⟩ => ⟨S272x256, .f32⟩
  | .local _ .vmem, ⟨18, _⟩ => ⟨S272x256, .f32⟩
  | .local _ .vmem, ⟨19, _⟩ => ⟨S272x256, .f32⟩
  | .local _ .vmem, ⟨20, _⟩ => ⟨S1x256, .f32⟩
  | .local _ .vmem, ⟨21, _⟩ => ⟨S1x256, .f32⟩
  | .local _ .vmem, ⟨22, _⟩ => ⟨S1024x256, .bf16⟩
  | .local _ .vmem, ⟨23, _⟩ => ⟨S256x1024, .bf16⟩
  | .local _ .vmem, ⟨24, _⟩ => ⟨S1x256, .f32⟩
  | .local _ .vmem, ⟨25, _⟩ => ⟨S1x256, .f32⟩
  | .local _ .vmem, ⟨26, _⟩ => ⟨S272x1024, .bf16⟩
  | .local _ .vmem, ⟨27, _⟩ => ⟨S272x1024, .bf16⟩
  | .local _ .vmem, ⟨28, _⟩ => ⟨S272x1024, .bf16⟩
  | .local _ .vmem, ⟨29, _⟩ => ⟨S272x1024, .bf16⟩
  | .local _ .vmem, ⟨30, _⟩ => ⟨S272x128, .bf16⟩
  | .local _ .vmem, ⟨31, _⟩ => ⟨S272x128, .bf16⟩
  | .local _ .vmem, ⟨32, _⟩ => ⟨S272x256, .bf16⟩
  | .local _ .vmem, ⟨33, _⟩ => ⟨S272x256, .bf16⟩
  | .local _ .vmem, ⟨34, _⟩ => ⟨S272x256, .bf16⟩
  | .local _ .vmem, ⟨35, _⟩ => ⟨S272x256, .bf16⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | _, _ => ⟨S2064x2632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_call2_v0 : Ref sig .tc := ⟨.hbm, 60, rfl⟩
abbrev main_v39 : Ref sig .tc := ⟨.hbm, 61, rfl⟩
abbrev main_c_7 : Ref sig .tc := ⟨.hbm, 62, rfl⟩
abbrev main_call3_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_call4_v0 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_call5_v0 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_call6_v0 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_call7_v0 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_18 : Ref sig .tc := ⟨.hbm, 116, rfl⟩
abbrev main_call8_v0 : Ref sig .tc := ⟨.hbm, 117, rfl⟩
abbrev main_v78 : Ref sig .tc := ⟨.hbm, 118, rfl⟩
abbrev main_v79_0 : Ref sig .tc := ⟨.hbm, 119, rfl⟩
abbrev main_v79_1 : Ref sig .tc := ⟨.hbm, 120, rfl⟩
abbrev main_v79_2 : Ref sig .tc := ⟨.hbm, 121, rfl⟩
abbrev main_v79_3 : Ref sig .tc := ⟨.hbm, 122, rfl⟩
abbrev main_v79_4 : Ref sig .tc := ⟨.hbm, 123, rfl⟩
abbrev main_v79_5 : Ref sig .tc := ⟨.hbm, 124, rfl⟩
abbrev main_v79_6 : Ref sig .tc := ⟨.hbm, 125, rfl⟩
abbrev main_v79_7 : Ref sig .tc := ⟨.hbm, 126, rfl⟩
abbrev main_v79_8 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v463 : BitVec 1 := Scalar.cmpi .eq arg0 c0_i32
  let v464 : BitVec 32 := Scalar.extui v463
  let c0_i32_139 : BitVec 32 := 0#32
  let v465 : BitVec 1 := Scalar.cmpi .ne v464 c0_i32_139
  v465

def k0_cond2 (i : grid0.Coords) : BitVec 1 :=
  let arg0 : BitVec 32 := BitVec.ofNat 32 (i 0).val
  let c0_i32_140 : BitVec 32 := 0#32
  let v466 : BitVec 1 := Scalar.cmpi .sgt arg0 c0_i32_140
  let v467 : BitVec 32 := Scalar.extui v466
  let c0_i32_141 : BitVec 32 := 0#32
  let v468 : BitVec 1 := Scalar.cmpi .ne v467 c0_i32_141
  v468

def k0_cond3 (i : grid0.Coords) : BitVec 1 :=
  let arg0 : BitVec 32 := BitVec.ofNat 32 (i 0).val
  let c0_i32_142 : BitVec 32 := 0#32
  let v469 : BitVec 1 := Scalar.cmpi .eq arg0 c0_i32_142
  let v470 : BitVec 32 := Scalar.extui v469
  let c0_i32_143 : BitVec 32 := 0#32
  let v471 : BitVec 1 := Scalar.cmpi .ne v470 c0_i32_143
  v471

def k0_cond4 (i : grid0.Coords) : BitVec 1 :=
  let arg0 : BitVec 32 := BitVec.ofNat 32 (i 0).val
  let c0_i32_144 : BitVec 32 := 0#32
  let v472 : BitVec 1 := Scalar.cmpi .sgt arg0 c0_i32_144
  let v473 : BitVec 32 := Scalar.extui v472
  let c0_i32_145 : BitVec 32 := 0#32
  let v474 : BitVec 1 := Scalar.cmpi .ne v473 c0_i32_145
  v474

def k0_cond5 (i : grid0.Coords) : BitVec 1 :=
  let arg0 : BitVec 32 := BitVec.ofNat 32 (i 0).val
  let c0_i32_146 : BitVec 32 := 0#32
  let v475 : BitVec 1 := Scalar.cmpi .eq arg0 c0_i32_146
  let v476 : BitVec 32 := Scalar.extui v475
  let c0_i32_147 : BitVec 32 := 0#32
  let v477 : BitVec 1 := Scalar.cmpi .ne v476 c0_i32_147
  v477

def k0_cond6 (i : grid0.Coords) : BitVec 1 :=
  let arg0 : BitVec 32 := BitVec.ofNat 32 (i 0).val
  let c0_i32_148 : BitVec 32 := 0#32
  let v478 : BitVec 1 := Scalar.cmpi .sgt arg0 c0_i32_148
  let v479 : BitVec 32 := Scalar.extui v478
  let c0_i32_149 : BitVec 32 := 0#32
  let v480 : BitVec 1 := Scalar.cmpi .ne v479 c0_i32_149
  v480

def k0_cond7 (i : grid0.Coords) : BitVec 1 :=
  let arg0 : BitVec 32 := BitVec.ofNat 32 (i 0).val
  let c0_i32_150 : BitVec 32 := 0#32
  let v481 : BitVec 1 := Scalar.cmpi .eq arg0 c0_i32_150
  let v482 : BitVec 32 := Scalar.extui v481
  let c0_i32_151 : BitVec 32 := 0#32
  let v483 : BitVec 1 := Scalar.cmpi .ne v482 c0_i32_151
  v483

def k0_cond8 (i : grid0.Coords) : BitVec 1 :=
  let arg0 : BitVec 32 := BitVec.ofNat 32 (i 0).val
  let c0_i32_152 : BitVec 32 := 0#32
  let v484 : BitVec 1 := Scalar.cmpi .sgt arg0 c0_i32_152
  let v485 : BitVec 32 := Scalar.extui v484
  let c0_i32_153 : BitVec 32 := 0#32
  let v486 : BitVec 1 := Scalar.cmpi .ne v485 c0_i32_153
  v486

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S272x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S272x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S272x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S272x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S272x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== MlaIdeal.lean ====
variable {F : FTy → Type} [FloatOps F] [Named F]
def κ : String → Option EReal := fun
  | "n" => some ((192⁻¹ : ℝ) : EReal)
  | _ => none
-- ==== MlaRefIdeal.lean ====
abbrev S2064x2632 : Shape := ⟨2, ![2064, 2632]⟩
abbrev S1x256 : Shape := ⟨2, ![1, 256]⟩
abbrev S256x768 : Shape := ⟨2, ![256, 768]⟩
abbrev S256x1024 : Shape := ⟨2, ![256, 1024]⟩
abbrev S1x192 : Shape := ⟨2, ![1, 192]⟩
abbrev S2064x4x192 : Shape := ⟨3, ![2064, 4, 192]⟩
abbrev S2064x4x128 : Shape := ⟨3, ![2064, 4, 128]⟩
abbrev S32 : Shape := ⟨1, ![32]⟩
abbrev S_ : Shape := ⟨0, ![]⟩
abbrev S2064 : Shape := ⟨1, ![2064]⟩
abbrev S2064x1 : Shape := ⟨2, ![2064, 1]⟩
abbrev S1x32 : Shape := ⟨2, ![1, 32]⟩
abbrev S2064x32 : Shape := ⟨2, ![2064, 32]⟩
abbrev S2064x1x32 : Shape := ⟨3, ![2064, 1, 32]⟩
abbrev S2064x256 : Shape := ⟨2, ![2064, 256]⟩
abbrev S2064x64 : Shape := ⟨2, ![2064, 64]⟩
abbrev S2064x768 : Shape := ⟨2, ![2064, 768]⟩
abbrev S2064x1024 : Shape := ⟨2, ![2064, 1024]⟩
abbrev S2064x4x256 : Shape := ⟨3, ![2064, 4, 256]⟩
abbrev S2064x1x64 : Shape := ⟨3, ![2064, 1, 64]⟩
abbrev S2064x4x64 : Shape := ⟨3, ![2064, 4, 64]⟩
abbrev S2064x4 : Shape := ⟨2, ![2064, 4]⟩
abbrev S2064x4x1 : Shape := ⟨3, ![2064, 4, 1]⟩
abbrev S1x1x192 : Shape := ⟨3, ![1, 1, 192]⟩
abbrev S2064x4x32 : Shape := ⟨3, ![2064, 4, 32]⟩
abbrev S192 : Shape := ⟨1, ![192]⟩
abbrev S256 : Shape := ⟨1, ![256]⟩
abbrev S2176x1024 : Shape := ⟨2, ![2176, 1024]⟩
abbrev S2064x128 : Shape := ⟨2, ![2064, 128]⟩
abbrev S2176x128 : Shape := ⟨2, ![2176, 128]⟩
abbrev S2176x256 : Shape := ⟨2, ![2176, 256]⟩

abbrev nBuf : Space → Nat
  | .hbm => 349
  | .vmem => 0
  | .smem => 0
  | _ => 0

abbrev hbmTy0_0 (i : Nat) : BufTy := match i % 128 with
  | 0 => ⟨S2064x2632, .f32⟩
  | 1 => ⟨S1x256, .f32⟩
  | 2 => ⟨S1x256, .f32⟩
  | 3 => ⟨S256x768, .f32⟩
  | 4 => ⟨S256x1024, .f32⟩
  | 5 => ⟨S1x192, .f32⟩
  | 6 => ⟨S1x192, .f32⟩
  | 7 => ⟨S2064x4x192, .f32⟩
  | 8 => ⟨S2064x4x192, .f32⟩
  | 9 => ⟨S2064x4x128, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2064, .i32⟩
  | 19 => ⟨S2064, .f32⟩
  | 20 => ⟨S2064x1, .f32⟩
  | 21 => ⟨S1x32, .f32⟩
  | 22 => ⟨S2064x32, .f32⟩
  | 23 => ⟨S2064x32, .f32⟩
  | 24 => ⟨S2064x32, .f32⟩
  | 25 => ⟨S2064x32, .f32⟩
  | 26 => ⟨S2064x1x32, .f32⟩
  | 27 => ⟨S2064x32, .f32⟩
  | 28 => ⟨S2064x1x32, .f32⟩
  | 29 => ⟨S2064x256, .f32⟩
  | 30 => ⟨S2064x256, .f32⟩
  | 31 => ⟨S2064x64, .f32⟩
  | 32 => ⟨S2064x256, .f32⟩
  | 33 => ⟨S_, .f32⟩
  | 34 => ⟨S2064, .f32⟩
  | 35 => ⟨S2064x1, .f32⟩
  | 36 => ⟨S_, .f32⟩
  | 37 => ⟨S2064x1, .f32⟩
  | 38 => ⟨S2064x1, .f32⟩
  | 39 => ⟨S_, .f32⟩
  | 40 => ⟨S2064x1, .f32⟩
  | 41 => ⟨S2064x1, .f32⟩
  | 42 => ⟨S2064x1, .f32⟩
  | 43 => ⟨S2064x1, .f32⟩
  | 44 => ⟨S_, .f32⟩
  | 45 => ⟨S2064x1, .f32⟩
  | 46 => ⟨S2064x1, .f32⟩
  | 47 => ⟨S2064x256, .f32⟩
  | 48 => ⟨S2064x256, .f32⟩
  | 49 => ⟨S2064x256, .f32⟩
  | 50 => ⟨S2064x256, .f32⟩
  | 51 => ⟨S2064x768, .f32⟩
  | 52 => ⟨S2064x256, .f32⟩
  | 53 => ⟨S_, .f32⟩
  | 54 => ⟨S2064, .f32⟩
  | 55 => ⟨S2064x1, .f32⟩
  | 56 => ⟨S_, .f32⟩
  | 57 => ⟨S2064x1, .f32⟩
  | 58 => ⟨S2064x1, .f32⟩
  | 59 => ⟨S_, .f32⟩
  | 60 => ⟨S2064x1, .f32⟩
  | 61 => ⟨S2064x1, .f32⟩
  | 62 => ⟨S2064x1, .f32⟩
  | 63 => ⟨S2064x1, .f32⟩
  | 64 => ⟨S_, .f32⟩
  | 65 => ⟨S2064x1, .f32⟩
  | 66 => ⟨S2064x1, .f32⟩
  | 67 => ⟨S2064x256, .f32⟩
  | 68 => ⟨S2064x256, .f32⟩
  | 69 => ⟨S2064x256, .f32⟩
  | 70 => ⟨S2064x256, .f32⟩
  | 71 => ⟨S2064x1024, .f32⟩
  | 72 => ⟨S2064x4x192, .f32⟩
  | 73 => ⟨S2064x4x256, .f32⟩
  | 74 => ⟨S2064x4x128, .f32⟩
  | 75 => ⟨S2064x4x128, .f32⟩
  | 76 => ⟨S2064x1x64, .f32⟩
  | 77 => ⟨S2064x4x64, .f32⟩
  | 78 => ⟨S2064x4x192, .f32⟩
  | 79 => ⟨S2064x4x192, .f32⟩
  | 80 => ⟨S_, .f32⟩
  | 81 => ⟨S2064x4, .f32⟩
  | 82 => ⟨S2064x4x1, .f32⟩
  | 83 => ⟨S_, .f32⟩
  | 84 => ⟨S2064x4x1, .f32⟩
  | 85 => ⟨S2064x4x1, .f32⟩
  | 86 => ⟨S_, .f32⟩
  | 87 => ⟨S2064x4x1, .f32⟩
  | 88 => ⟨S2064x4x1, .f32⟩
  | 89 => ⟨S2064x4x1, .f32⟩
  | 90 => ⟨S2064x4x1, .f32⟩
  | 91 => ⟨S_, .f32⟩
  | 92 => ⟨S2064x4x1, .f32⟩
  | 93 => ⟨S2064x4x1, .f32⟩
  | 94 => ⟨S2064x4x192, .f32⟩
  | 95 => ⟨S2064x4x192, .f32⟩
  | 96 => ⟨S1x1x192, .f32⟩
  | 97 => ⟨S2064x4x192, .f32⟩
  | 98 => ⟨S2064x4x192, .f32⟩
  | 99 => ⟨S2064x4x192, .f32⟩
  | 100 => ⟨S_, .f32⟩
  | 101 => ⟨S2064x4, .f32⟩
  | 102 => ⟨S2064x4x1, .f32⟩
  | 103 => ⟨S_, .f32⟩
  | 104 => ⟨S2064x4x1, .f32⟩
  | 105 => ⟨S2064x4x1, .f32⟩
  | 106 => ⟨S_, .f32⟩
  | 107 => ⟨S2064x4x1, .f32⟩
  | 108 => ⟨S2064x4x1, .f32⟩
  | 109 => ⟨S2064x4x1, .f32⟩
  | 110 => ⟨S2064x4x1, .f32⟩
  | 111 => ⟨S_, .f32⟩
  | 112 => ⟨S2064x4x1, .f32⟩
  | 113 => ⟨S2064x4x1, .f32⟩
  | 114 => ⟨S2064x4x192, .f32⟩
  | 115 => ⟨S2064x4x192, .f32⟩
  | 116 => ⟨S1x1x192, .f32⟩
  | 117 => ⟨S2064x4x192, .f32⟩
  | 118 => ⟨S2064x4x192, .f32⟩
  | 119 => ⟨S2064x4x128, .f32⟩
  | 120 => ⟨S2064x4x64, .f32⟩
  | 121 => ⟨S2064x4x32, .f32⟩
  | 122 => ⟨S2064x4x32, .f32⟩
  | 123 => ⟨S2064x4x32, .f32⟩
  | 124 => ⟨S2064x4x32, .f32⟩
  | 125 => ⟨S2064x4x32, .f32⟩
  | 126 => ⟨S2064x4x32, .f32⟩
  | 127 => ⟨S2064x4x32, .f32⟩
  | _ => ⟨S2064x2632, .f32⟩

abbrev hbmTy0_1 (i : Nat) : BufTy := match i % 128 with
  | 0 => ⟨S2064x4x32, .f32⟩
  | 1 => ⟨S2064x4x32, .f32⟩
  | 2 => ⟨S2064x4x32, .f32⟩
  | 3 => ⟨S2064x4x32, .f32⟩
  | 4 => ⟨S2064x4x32, .f32⟩
  | 5 => ⟨S2064x4x64, .f32⟩
  | 6 => ⟨S2064x4x192, .f32⟩
  | 7 => ⟨S2064x4x128, .f32⟩
  | 8 => ⟨S2064x4x64, .f32⟩
  | 9 => ⟨S2064x4x32, .f32⟩
  | 10 => ⟨S2064x4x32, .f32⟩
  | 11 => ⟨S2064x4x32, .f32⟩
  | 12 => ⟨S2064x4x32, .f32⟩
  | 13 => ⟨S2064x4x32, .f32⟩
  | 14 => ⟨S2064x4x32, .f32⟩
  | 15 => ⟨S2064x4x32, .f32⟩
  | 16 => ⟨S2064x4x32, .f32⟩
  | 17 => ⟨S2064x4x32, .f32⟩
  | 18 => ⟨S2064x4x32, .f32⟩
  | 19 => ⟨S2064x4x32, .f32⟩
  | 20 => ⟨S2064x4x32, .f32⟩
  | 21 => ⟨S2064x4x64, .f32⟩
  | 22 => ⟨S2064x4x192, .f32⟩
  | 23 => ⟨S2064x4x128, .f32⟩
  | 24 => ⟨S2064x4x64, .f32⟩
  | 25 => ⟨S2064x4x32, .f32⟩
  | 26 => ⟨S2064x4x32, .f32⟩
  | 27 => ⟨S2064x4x32, .f32⟩
  | 28 => ⟨S2064x4x32, .f32⟩
  | 29 => ⟨S2064x4x32, .f32⟩
  | 30 => ⟨S2064x4x32, .f32⟩
  | 31 => ⟨S2064x4x32, .f32⟩
  | 32 => ⟨S2064x4x32, .f32⟩
  | 33 => ⟨S2064x4x32, .f32⟩
  | 34 => ⟨S2064x4x32, .f32⟩
  | 35 => ⟨S2064x4x32, .f32⟩
  | 36 => ⟨S2064x4x32, .f32⟩
  | 37 => ⟨S2064x4x32, .f32⟩
  | 38 => ⟨S_, .f32⟩
  | 39 => ⟨S2064x4x64, .f32⟩
  | 40 => ⟨S_, .f32⟩
  | 41 => ⟨S2064x4x64, .f32⟩
  | 42 => ⟨S2064x4x64, .f32⟩
  | 43 => ⟨S_, .f32⟩
  | 44 => ⟨S2064x4x192, .f32⟩
  | 45 => ⟨S_, .f32⟩
  | 46 => ⟨S2064x4x192, .f32⟩
  | 47 => ⟨S2064x4x192, .f32⟩
  | 48 => ⟨S2064x4x128, .f32⟩
  | 49 => ⟨S2064x4x64, .f32⟩
  | 50 => ⟨S2064x4x32, .f32⟩
  | 51 => ⟨S2064x4x32, .f32⟩
  | 52 => ⟨S2064x4x32, .f32⟩
  | 53 => ⟨S2064x4x32, .f32⟩
  | 54 => ⟨S2064x4x32, .f32⟩
  | 55 => ⟨S2064x4x32, .f32⟩
  | 56 => ⟨S2064x4x32, .f32⟩
  | 57 => ⟨S2064x4x32, .f32⟩
  | 58 => ⟨S2064x4x32, .f32⟩
  | 59 => ⟨S2064x4x32, .f32⟩
  | 60 => ⟨S2064x4x32, .f32⟩
  | 61 => ⟨S2064x4x32, .f32⟩
  | 62 => ⟨S2064x4x32, .f32⟩
  | 63 => ⟨S_, .f32⟩
  | 64 => ⟨S2064x4x64, .f32⟩
  | 65 => ⟨S_, .f32⟩
  | 66 => ⟨S2064x4x64, .f32⟩
  | 67 => ⟨S2064x4x64, .f32⟩
  | 68 => ⟨S_, .f32⟩
  | 69 => ⟨S2064x4x192, .f32⟩
  | 70 => ⟨S_, .f32⟩
  | 71 => ⟨S2064x4x192, .f32⟩
  | 72 => ⟨S2064x4x192, .f32⟩
  | 73 => ⟨S2064x4x192, .f32⟩
  | 74 => ⟨S_, .f32⟩
  | 75 => ⟨S192, .f32⟩
  | 76 => ⟨S1x1x192, .f32⟩
  | 77 => ⟨S2064x4x192, .f32⟩
  | 78 => ⟨S2064x4x192, .f32⟩
  | 79 => ⟨S_, .f32⟩
  | 80 => ⟨S192, .f32⟩
  | 81 => ⟨S1x192, .f32⟩
  | 82 => ⟨S2064x4x192, .f32⟩
  | 83 => ⟨S_, .f32⟩
  | 84 => ⟨S2064x4, .f32⟩
  | 85 => ⟨S2064x4x1, .f32⟩
  | 86 => ⟨S2064x4x192, .f32⟩
  | 87 => ⟨S2064x4x192, .f32⟩
  | 88 => ⟨S2064x4x1, .f32⟩
  | 89 => ⟨S_, .f32⟩
  | 90 => ⟨S2064x4x1, .f32⟩
  | 91 => ⟨S2064x4x1, .f32⟩
  | 92 => ⟨S_, .f32⟩
  | 93 => ⟨S2064x4, .f32⟩
  | 94 => ⟨S2064x4x192, .f32⟩
  | 95 => ⟨S2064x4x192, .f32⟩
  | 96 => ⟨S2064x4x192, .f32⟩
  | 97 => ⟨S2064x4x192, .f32⟩
  | 98 => ⟨S2064x4x192, .f32⟩
  | 99 => ⟨S2064x4x192, .f32⟩
  | 100 => ⟨S_, .f32⟩
  | 101 => ⟨S192, .f32⟩
  | 102 => ⟨S1x1x192, .f32⟩
  | 103 => ⟨S2064x4x192, .f32⟩
  | 104 => ⟨S2064x4x192, .f32⟩
  | 105 => ⟨S_, .f32⟩
  | 106 => ⟨S192, .f32⟩
  | 107 => ⟨S1x192, .f32⟩
  | 108 => ⟨S2064x4x192, .f32⟩
  | 109 => ⟨S_, .f32⟩
  | 110 => ⟨S2064x4, .f32⟩
  | 111 => ⟨S2064x4x1, .f32⟩
  | 112 => ⟨S2064x4x192, .f32⟩
  | 113 => ⟨S2064x4x192, .f32⟩
  | 114 => ⟨S2064x4x1, .f32⟩
  | 115 => ⟨S_, .f32⟩
  | 116 => ⟨S2064x4x1, .f32⟩
  | 117 => ⟨S2064x4x1, .f32⟩
  | 118 => ⟨S_, .f32⟩
  | 119 => ⟨S2064x4, .f32⟩
  | 120 => ⟨S2064x4x192, .f32⟩
  | 121 => ⟨S2064x4x192, .f32⟩
  | 122 => ⟨S2064x4x192, .f32⟩
  | 123 => ⟨S2064x4x192, .f32⟩
  | 124 => ⟨S2064x4x192, .f32⟩
  | 125 => ⟨S2064x4x128, .f32⟩
  | 126 => ⟨S2064x4x64, .f32⟩
  | 127 => ⟨S_, .f32⟩
  | _ => ⟨S2064x2632, .f32⟩

abbrev hbmTy0_2 (i : Nat) : BufTy := match i % 128 with
  | 0 => ⟨S2064x64, .f32⟩
  | 1 => ⟨S2064x1x64, .f32⟩
  | 2 => ⟨S_, .f32⟩
  | 3 => ⟨S2064x64, .f32⟩
  | 4 => ⟨S_, .f32⟩
  | 5 => ⟨S2064x4x256, .f32⟩
  | 6 => ⟨S_, .f32⟩
  | 7 => ⟨S2064x4x256, .f32⟩
  | 8 => ⟨S2064x4x256, .f32⟩
  | 9 => ⟨S2064x1024, .f32⟩
  | 10 => ⟨S2064x768, .f32⟩
  | 11 => ⟨S2064x256, .f32⟩
  | 12 => ⟨S2064x256, .f32⟩
  | 13 => ⟨S_, .f32⟩
  | 14 => ⟨S256, .f32⟩
  | 15 => ⟨S1x256, .f32⟩
  | 16 => ⟨S2064x256, .f32⟩
  | 17 => ⟨S2064x256, .f32⟩
  | 18 => ⟨S2064x256, .f32⟩
  | 19 => ⟨S_, .f32⟩
  | 20 => ⟨S2064, .f32⟩
  | 21 => ⟨S2064x1, .f32⟩
  | 22 => ⟨S2064x256, .f32⟩
  | 23 => ⟨S2064x256, .f32⟩
  | 24 => ⟨S2064x1, .f32⟩
  | 25 => ⟨S_, .f32⟩
  | 26 => ⟨S2064x1, .f32⟩
  | 27 => ⟨S2064x1, .f32⟩
  | 28 => ⟨S_, .f32⟩
  | 29 => ⟨S2064, .f32⟩
  | 30 => ⟨S2064x256, .f32⟩
  | 31 => ⟨S2064x256, .f32⟩
  | 32 => ⟨S2064x256, .f32⟩
  | 33 => ⟨S2064x256, .f32⟩
  | 34 => ⟨S2064x256, .f32⟩
  | 35 => ⟨S2064x256, .f32⟩
  | 36 => ⟨S2064x256, .f32⟩
  | 37 => ⟨S_, .f32⟩
  | 38 => ⟨S256, .f32⟩
  | 39 => ⟨S1x256, .f32⟩
  | 40 => ⟨S2064x256, .f32⟩
  | 41 => ⟨S2064x256, .f32⟩
  | 42 => ⟨S2064x256, .f32⟩
  | 43 => ⟨S_, .f32⟩
  | 44 => ⟨S2064, .f32⟩
  | 45 => ⟨S2064x1, .f32⟩
  | 46 => ⟨S2064x256, .f32⟩
  | 47 => ⟨S2064x256, .f32⟩
  | 48 => ⟨S2064x1, .f32⟩
  | 49 => ⟨S_, .f32⟩
  | 50 => ⟨S2064x1, .f32⟩
  | 51 => ⟨S2064x1, .f32⟩
  | 52 => ⟨S_, .f32⟩
  | 53 => ⟨S2064, .f32⟩
  | 54 => ⟨S2064x256, .f32⟩
  | 55 => ⟨S2064x256, .f32⟩
  | 56 => ⟨S2064x256, .f32⟩
  | 57 => ⟨S2064x256, .f32⟩
  | 58 => ⟨S2064x256, .f32⟩
  | 59 => ⟨S2064x4x192, .f32⟩
  | 60 => ⟨S_, .i32⟩
  | 61 => ⟨S_, .f32⟩
  | 62 => ⟨S2064x4x256, .f32⟩
  | 63 => ⟨S2064x1024, .f32⟩
  | 64 => ⟨S_, .i32⟩
  | 65 => ⟨S_, .f32⟩
  | 66 => ⟨S2176x1024, .f32⟩
  | 67 => ⟨S2176x1024, .bf16⟩
  | 68 => ⟨S_, .i32⟩
  | 69 => ⟨S_, .f32⟩
  | 70 => ⟨S2176x1024, .f32⟩
  | 71 => ⟨S2176x1024, .bf16⟩
  | 72 => ⟨S_, .i32⟩
  | 73 => ⟨S_, .f32⟩
  | 74 => ⟨S2064x128, .f32⟩
  | 75 => ⟨S_, .i32⟩
  | 76 => ⟨S_, .f32⟩
  | 77 => ⟨S2176x128, .f32⟩
  | 78 => ⟨S2176x128, .bf16⟩
  | 79 => ⟨S_, .i32⟩
  | 80 => ⟨S_, .f32⟩
  | 81 => ⟨S2176x256, .f32⟩
  | 82 => ⟨S2176x256, .bf16⟩
  | 83 => ⟨S_, .i32⟩
  | 84 => ⟨S_, .f32⟩
  | 85 => ⟨S2176x256, .f32⟩
  | 86 => ⟨S2176x256, .bf16⟩
  | 87 => ⟨S_, .i32⟩
  | 88 => ⟨S_, .f32⟩
  | 89 => ⟨S1x256, .f32⟩
  | 90 => ⟨S_, .i32⟩
  | 91 => ⟨S_, .f32⟩
  | 92 => ⟨S1x256, .f32⟩
  | _ => ⟨S2064x2632, .f32⟩

abbrev hbmTy (i : Nat) : BufTy := match i / 128 with
  | 0 => hbmTy0_0 i
  | 1 => hbmTy0_1 i
  | 2 => hbmTy0_2 i
  | _ => ⟨S2064x2632, .f32⟩

abbrev bufTy : (tb : Table) → Fin (tcTables nBuf tb) → BufTy
  | .hbm, ⟨i, _⟩ => hbmTy i
  | _, _ => ⟨S2064x2632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_17 : Ref sig .tc := ⟨.hbm, 166, rfl⟩
abbrev main_v138 : Ref sig .tc := ⟨.hbm, 167, rfl⟩
abbrev main_cst_18 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_cst_20 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_21 : Ref sig .tc := ⟨.hbm, 191, rfl⟩
abbrev main_v159 : Ref sig .tc := ⟨.hbm, 192, rfl⟩
abbrev main_cst_22 : Ref sig .tc := ⟨.hbm, 193, rfl⟩
abbrev main_v160 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_cst_24 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_25 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_cst_26 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_27 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_28 : Ref sig .tc := ⟨.hbm, 217, rfl⟩
abbrev main_v178 : Ref sig .tc := ⟨.hbm, 218, rfl⟩
abbrev main_v179 : Ref sig .tc := ⟨.hbm, 219, rfl⟩
abbrev main_cst_29 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_30 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_31 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_cst_32 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_cst_33 : Ref sig .tc := ⟨.hbm, 243, rfl⟩
abbrev main_v199 : Ref sig .tc := ⟨.hbm, 244, rfl⟩
abbrev main_v200 : Ref sig .tc := ⟨.hbm, 245, rfl⟩
abbrev main_cst_34 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_35 : Ref sig .tc := ⟨.hbm, 255, rfl⟩
abbrev main_v209 : Ref sig .tc := ⟨.hbm, 256, rfl⟩
abbrev main_v210 : Ref sig .tc := ⟨.hbm, 257, rfl⟩
abbrev main_cst_36 : Ref sig .tc := ⟨.hbm, 258, rfl⟩
abbrev main_v211 : Ref sig .tc := ⟨.hbm, 259, rfl⟩
abbrev main_cst_37 : Ref sig .tc := ⟨.hbm, 260, rfl⟩
abbrev main_v212 : Ref sig .tc := ⟨.hbm, 261, rfl⟩
abbrev main_cst_38 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_cst_39 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_40 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_cst_41 : Ref sig .tc := ⟨.hbm, 281, rfl⟩
abbrev main_v229 : Ref sig .tc := ⟨.hbm, 282, rfl⟩
abbrev main_v230 : Ref sig .tc := ⟨.hbm, 283, rfl⟩
abbrev main_cst_42 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_cst_43 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_cst_44 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_cst_45 : Ref sig .tc := ⟨.hbm, 305, rfl⟩
abbrev main_v249 : Ref sig .tc := ⟨.hbm, 306, rfl⟩
abbrev main_v250 : Ref sig .tc := ⟨.hbm, 307, rfl⟩
abbrev main_cst_46 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_c : Ref sig .tc := ⟨.hbm, 316, rfl⟩
abbrev main_call0_v0 : Ref sig .tc := ⟨.hbm, 317, rfl⟩
abbrev main_v258 : Ref sig .tc := ⟨.hbm, 318, rfl⟩
abbrev main_v259 : Ref sig .tc := ⟨.hbm, 319, rfl⟩
abbrev main_c_47 : Ref sig .tc := ⟨.hbm, 320, rfl⟩
abbrev main_call1_v0 : Ref sig .tc := ⟨.hbm, 321, rfl⟩
abbrev main_v260 : Ref sig .tc := ⟨.hbm, 322, rfl⟩
abbrev main_v261 : Ref sig .tc := ⟨.hbm, 323, rfl⟩
abbrev main_c_48 : Ref sig .tc := ⟨.hbm, 324, rfl⟩
abbrev main_call2_v0 : Ref sig .tc := ⟨.hbm, 325, rfl⟩
abbrev main_v262 : Ref sig .tc := ⟨.hbm, 326, rfl⟩
abbrev main_v263 : Ref sig .tc := ⟨.hbm, 327, rfl⟩
abbrev main_c_49 : Ref sig .tc := ⟨.hbm, 328, rfl⟩
abbrev main_call3_v0 : Ref sig .tc := ⟨.hbm, 329, rfl⟩
abbrev main_v264 : Ref sig .tc := ⟨.hbm, 330, rfl⟩
abbrev main_c_50 : Ref sig .tc := ⟨.hbm, 331, rfl⟩
abbrev main_call4_v0 : Ref sig .tc := ⟨.hbm, 332, rfl⟩
abbrev main_v265 : Ref sig .tc := ⟨.hbm, 333, rfl⟩
abbrev main_v266 : Ref sig .tc := ⟨.hbm, 334, rfl⟩
abbrev main_c_51 : Ref sig .tc := ⟨.hbm, 335, rfl⟩
abbrev main_call5_v0 : Ref sig .tc := ⟨.hbm, 336, rfl⟩
abbrev main_v267 : Ref sig .tc := ⟨.hbm, 337, rfl⟩
abbrev main_v268 : Ref sig .tc := ⟨.hbm, 338, rfl⟩
abbrev main_c_52 : Ref sig .tc := ⟨.hbm, 339, rfl⟩
abbrev main_call6_v0 : Ref sig .tc := ⟨.hbm, 340, rfl⟩
abbrev main_v269 : Ref sig .tc := ⟨.hbm, 341, rfl⟩
abbrev main_v270 : Ref sig .tc := ⟨.hbm, 342, rfl⟩
abbrev main_c_53 : Ref sig .tc := ⟨.hbm, 343, rfl⟩
abbrev main_call7_v0 : Ref sig .tc := ⟨.hbm, 344, rfl⟩
abbrev main_v271 : Ref sig .tc := ⟨.hbm, 345, rfl⟩
abbrev main_c_54 : Ref sig .tc := ⟨.hbm, 346, rfl⟩
abbrev main_call8_v0 : Ref sig .tc := ⟨.hbm, 347, rfl⟩
abbrev main_v272 : Ref sig .tc := ⟨.hbm, 348, rfl⟩

abbrev nD : Nat := 1
abbrev τ : Topo := Topo.v7x

variable {F : FTy → Type} [FloatOps F]
-- ==== Fwd.lean ====
abbrev S1x2064x4x192 : Shape := ⟨4, ![1, 2064, 4, 192]⟩
abbrev S1x2064x4x128 : Shape := ⟨4, ![1, 2064, 4, 128]⟩
abbrev S2064x4x192 : Shape := ⟨3, ![2064, 4, 192]⟩
abbrev S_ : Shape := ⟨0, ![]⟩
abbrev S2176x4x256 : Shape := ⟨3, ![2176, 4, 256]⟩
abbrev S2176x1024 : Shape := ⟨2, ![2176, 1024]⟩
abbrev S2064x4x128 : Shape := ⟨3, ![2064, 4, 128]⟩
abbrev S2176x4x128 : Shape := ⟨3, ![2176, 4, 128]⟩
abbrev S2176x512 : Shape := ⟨2, ![2176, 512]⟩
abbrev S2176x256 : Shape := ⟨2, ![2176, 256]⟩
abbrev S2176x128 : Shape := ⟨2, ![2176, 128]⟩
abbrev S544x256 : Shape := ⟨2, ![544, 256]⟩
abbrev S544x544 : Shape := ⟨2, ![544, 544]⟩
abbrev S544 : Shape := ⟨1, ![544]⟩
abbrev S544x1 : Shape := ⟨2, ![544, 1]⟩
abbrev S544x128 : Shape := ⟨2, ![544, 128]⟩
abbrev S1088x256 : Shape := ⟨2, ![1088, 256]⟩
abbrev S544x1088 : Shape := ⟨2, ![544, 1088]⟩
abbrev S1088x128 : Shape := ⟨2, ![1088, 128]⟩
abbrev S1632x256 : Shape := ⟨2, ![1632, 256]⟩
abbrev S544x1632 : Shape := ⟨2, ![544, 1632]⟩
abbrev S1632x128 : Shape := ⟨2, ![1632, 128]⟩
abbrev S544x2176 : Shape := ⟨2, ![544, 2176]⟩

abbrev nBuf : Space → Nat
  | .hbm => 22
  | .vmem => 8
  | .smem => 0
  | _ => 0

abbrev bufTy : (tb : Table) → Fin (tcTables nBuf tb) → BufTy
  | .hbm, ⟨0, _⟩ => ⟨S1x2064x4x192, .f32⟩
  | .hbm, ⟨1, _⟩ => ⟨S1x2064x4x192, .f32⟩
  | .hbm, ⟨2, _⟩ => ⟨S1x2064x4x128, .f32⟩
  | .hbm, ⟨3, _⟩ => ⟨S2064x4x192, .f32⟩
  | .hbm, ⟨4, _⟩ => ⟨S_, .i32⟩
  | .hbm, ⟨5, _⟩ => ⟨S_, .f32⟩
  | .hbm, ⟨6, _⟩ => ⟨S2176x4x256, .f32⟩
  | .hbm, ⟨7, _⟩ => ⟨S2176x1024, .f32⟩
  | .hbm, ⟨8, _⟩ => ⟨S2176x1024, .bf16⟩
  | .hbm, ⟨9, _⟩ => ⟨S2064x4x192, .f32⟩
  | .hbm, ⟨10, _⟩ => ⟨S_, .i32⟩
  | .hbm, ⟨11, _⟩ => ⟨S_, .f32⟩
  | .hbm, ⟨12, _⟩ => ⟨S2176x4x256, .f32⟩
  | .hbm, ⟨13, _⟩ => ⟨S2176x1024, .f32⟩
  | .hbm, ⟨14, _⟩ => ⟨S2176x1024, .bf16⟩
  | .hbm, ⟨15, _⟩ => ⟨S2064x4x128, .f32⟩
  | .hbm, ⟨16, _⟩ => ⟨S_, .i32⟩
  | .hbm, ⟨17, _⟩ => ⟨S_, .f32⟩
  | .hbm, ⟨18, _⟩ => ⟨S2176x4x128, .f32⟩
  | .hbm, ⟨19, _⟩ => ⟨S2176x512, .f32⟩
  | .hbm, ⟨20, _⟩ => ⟨S2176x512, .bf16⟩
  | .hbm, ⟨21, _⟩ => ⟨S2176x512, .f32⟩
  | .local _ .vmem, ⟨0, _⟩ => ⟨S2176x256, .bf16⟩
  | .local _ .vmem, ⟨1, _⟩ => ⟨S2176x256, .bf16⟩
  | .local _ .vmem, ⟨2, _⟩ => ⟨S2176x256, .bf16⟩
  | .local _ .vmem, ⟨3, _⟩ => ⟨S2176x256, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .f32⟩
  | .local _ .vmem, ⟨7, _⟩ => ⟨S2176x128, .f32⟩
  | _, _ => ⟨S1x2064x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FwdIdeal.lean ====
variable {F : FTy → Type} [FloatOps F] [Named F]
def κ : String → Option EReal := fun
  | "mask" => some ⊥
  | "s" => some (((Real.sqrt 192)⁻¹ : ℝ) : EReal)
  | _ => none
-- ==== FwdRefIdeal.lean ====
abbrev S1x2064x4x192 : Shape := ⟨4, ![1, 2064, 4, 192]⟩
abbrev S1x2064x4x128 : Shape := ⟨4, ![1, 2064, 4, 128]⟩
abbrev S1x4x2064x192 : Shape := ⟨4, ![1, 4, 2064, 192]⟩
abbrev S1x4x2064x128 : Shape := ⟨4, ![1, 4, 2064, 128]⟩
abbrev S1x4x2064x2064 : Shape := ⟨4, ![1, 4, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x4x2064 : Shape := ⟨3, ![1, 4, 2064]⟩
abbrev S1x4x2064x1 : Shape := ⟨4, ![1, 4, 2064, 1]⟩
abbrev S2064x4x128 : Shape := ⟨3, ![2064, 4, 128]⟩
abbrev S2176x4x128 : Shape := ⟨3, ![2176, 4, 128]⟩
abbrev S2176x512 : Shape := ⟨2, ![2176, 512]⟩

abbrev nBuf : Space → Nat
  | .hbm => 46
  | .vmem => 0
  | .smem => 0
  | _ => 0

abbrev bufTy : (tb : Table) → Fin (tcTables nBuf tb) → BufTy
  | .hbm, ⟨0, _⟩ => ⟨S1x2064x4x192, .f32⟩
  | .hbm, ⟨1, _⟩ => ⟨S1x2064x4x192, .f32⟩
  | .hbm, ⟨2, _⟩ => ⟨S1x2064x4x128, .f32⟩
  | .hbm, ⟨3, _⟩ => ⟨S1x4x2064x192, .f32⟩
  | .hbm, ⟨4, _⟩ => ⟨S1x4x2064x192, .f32⟩
  | .hbm, ⟨5, _⟩ => ⟨S1x4x2064x128, .f32⟩
  | .hbm, ⟨6, _⟩ => ⟨S1x4x2064x2064, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x4x2064x2064, .f32⟩
  | .hbm, ⟨12, _⟩ => ⟨S1x4x2064x2064, .f32⟩
  | .hbm, ⟨13, _⟩ => ⟨S2064, .i32⟩
  | .hbm, ⟨14, _⟩ => ⟨S1x2064, .i32⟩
  | .hbm, ⟨15, _⟩ => ⟨S2064, .i32⟩
  | .hbm, ⟨16, _⟩ => ⟨S2064x1, .i32⟩
  | .hbm, ⟨17, _⟩ => ⟨S2064x2064, .i32⟩
  | .hbm, ⟨18, _⟩ => ⟨S2064x2064, .i32⟩
  | .hbm, ⟨19, _⟩ => ⟨S2064x2064, .i1⟩
  | .hbm, ⟨20, _⟩ => ⟨S_, .f32⟩
  | .hbm, ⟨21, _⟩ => ⟨S_, .f32⟩
  | .hbm, ⟨22, _⟩ => ⟨S1x4x2064x2064, .i1⟩
  | .hbm, ⟨23, _⟩ => ⟨S1x4x2064x2064, .f32⟩
  | .hbm, ⟨24, _⟩ => ⟨S1x4x2064x2064, .f32⟩
  | .hbm, ⟨25, _⟩ => ⟨S_, .f32⟩
  | .hbm, ⟨26, _⟩ => ⟨S1x4x2064, .f32⟩
  | .hbm, ⟨27, _⟩ => ⟨S_, .f32⟩
  | .hbm, ⟨28, _⟩ => ⟨S1x4x2064, .f32⟩
  | .hbm, ⟨29, _⟩ => ⟨S1x4x2064, .f32⟩
  | .hbm, ⟨30, _⟩ => ⟨S1x4x2064x1, .f32⟩
  | .hbm, ⟨31, _⟩ => ⟨S1x4x2064x2064, .f32⟩
  | .hbm, ⟨32, _⟩ => ⟨S1x4x2064x2064, .f32⟩
  | .hbm, ⟨33, _⟩ => ⟨S1x4x2064x2064, .f32⟩
  | .hbm, ⟨34, _⟩ => ⟨S_, .f32⟩
  | .hbm, ⟨35, _⟩ => ⟨S1x4x2064, .f32⟩
  | .hbm, ⟨36, _⟩ => ⟨S1x4x2064x1, .f32⟩
  | .hbm, ⟨37, _⟩ => ⟨S1x4x2064x2064, .f32⟩
  | .hbm, ⟨38, _⟩ => ⟨S1x4x2064x2064, .f32⟩
  | .hbm, ⟨39, _⟩ => ⟨S1x4x2064x128, .f32⟩
  | .hbm, ⟨40, _⟩ => ⟨S1x2064x4x128, .f32⟩
  | .hbm, ⟨41, _⟩ => ⟨S2064x4x128, .f32⟩
  | .hbm, ⟨42, _⟩ => ⟨S_, .i32⟩
  | .hbm, ⟨43, _⟩ => ⟨S_, .f32⟩
  | .hbm, ⟨44, _⟩ => ⟨S2176x4x128, .f32⟩
  | .hbm, ⟨45, _⟩ => ⟨S2176x512, .f32⟩
  | _, _ => ⟨S1x2064x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== MixFwd.lean ====
abbrev S2064x512 : Shape := ⟨2, ![2064, 512]⟩
abbrev S2064x2632 : Shape := ⟨2, ![2064, 2632]⟩
abbrev S1x128 : Shape := ⟨2, ![1, 128]⟩
abbrev S1024x1024 : Shape := ⟨2, ![1024, 1024]⟩
abbrev S2064x1024 : Shape := ⟨2, ![2064, 1024]⟩
abbrev S_ : Shape := ⟨0, ![]⟩
abbrev S2176x512 : Shape := ⟨2, ![2176, 512]⟩
abbrev S2176x2632 : Shape := ⟨2, ![2176, 2632]⟩
abbrev S2176x1536 : Shape := ⟨2, ![2176, 1536]⟩
abbrev S2176x256 : Shape := ⟨2, ![2176, 256]⟩
abbrev S2176x64 : Shape := ⟨2, ![2176, 64]⟩
abbrev S2176x8 : Shape := ⟨2, ![2176, 8]⟩
abbrev S2176x120 : Shape := ⟨2, ![2176, 120]⟩
abbrev S2176x2816 : Shape := ⟨2, ![2176, 2816]⟩
abbrev S2176x1024 : Shape := ⟨2, ![2176, 1024]⟩
abbrev S544x512 : Shape := ⟨2, ![544, 512]⟩
abbrev S544x1024 : Shape := ⟨2, ![544, 1024]⟩
abbrev S544x1 : Shape := ⟨2, ![544, 1]⟩
abbrev S544x128 : Shape := ⟨2, ![544, 128]⟩
abbrev S544 : Shape := ⟨1, ![544]⟩

abbrev nBuf : Space → Nat
  | .hbm => 33
  | .vmem => 15
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S2064x2632, .f32⟩
  | .hbm, ⟨3, _⟩ => ⟨S1x128, .f32⟩
  | .hbm, ⟨4, _⟩ => ⟨S1x128, .f32⟩
  | .hbm, ⟨5, _⟩ => ⟨S1024x1024, .f32⟩
  | .hbm, ⟨6, _⟩ => ⟨S2064x1024, .f32⟩
  | .hbm, ⟨7, _⟩ => ⟨S_, .i32⟩
  | .hbm, ⟨8, _⟩ => ⟨S_, .f32⟩
  | .hbm, ⟨9, _⟩ => ⟨S2176x512, .f32⟩
  | .hbm, ⟨10, _⟩ => ⟨S_, .i32⟩
  | .hbm, ⟨11, _⟩ => ⟨S_, .f32⟩
  | .hbm, ⟨12, _⟩ => ⟨S2176x512, .f32⟩
  | .hbm, ⟨13, _⟩ => ⟨S_, .i32⟩
  | .hbm, ⟨14, _⟩ => ⟨S_, .f32⟩
  | .hbm, ⟨15, _⟩ => ⟨S2176x2632, .f32⟩
  | .hbm, ⟨16, _⟩ => ⟨S2176x1536, .f32⟩
  | .hbm, ⟨17, _⟩ => ⟨S2176x512, .f32⟩
  | .hbm, ⟨18, _⟩ => ⟨S2176x256, .f32⟩
  | .hbm, ⟨19, _⟩ => ⟨S2176x256, .f32⟩
  | .hbm, ⟨20, _⟩ => ⟨S2176x64, .f32⟩
  | .hbm, ⟨21, _⟩ => ⟨S_, .f32⟩
  | .hbm, ⟨22, _⟩ => ⟨S2176x64, .f32⟩
  | .hbm, ⟨23, _⟩ => ⟨S2176x8, .f32⟩
  | .hbm, ⟨24, _⟩ => ⟨S_, .f32⟩
  | .hbm, ⟨25, _⟩ => ⟨S2176x120, .f32⟩
  | .hbm, ⟨26, _⟩ => ⟨S2176x2816, .f32⟩
  | .hbm, ⟨27, _⟩ => ⟨S1024x1024, .bf16⟩
  | .hbm, ⟨28, _⟩ => ⟨S_, .i32⟩
  | .hbm, ⟨29, _⟩ => ⟨S_, .f32⟩
  | .hbm, ⟨30, _⟩ => ⟨S2176x1024, .f32⟩
  | .hbm, ⟨31, _⟩ => ⟨S2176x1024, .f32⟩
  | .hbm, ⟨32, _⟩ => ⟨S2176x1024, .bf16⟩
  | .local _ .vmem, ⟨0, _⟩ => ⟨S544x512, .f32⟩
  | .local _ .vmem, ⟨1, _⟩ => ⟨S544x512, .f32⟩
  | .local _ .vmem, ⟨2, _⟩ => ⟨S544x512, .f32⟩
  | .local _ .vmem, ⟨3, _⟩ => ⟨S544x512, .f32⟩
  | .local _ .vmem, ⟨4, _⟩ => ⟨S544x512, .f32⟩
  | .local _ .vmem, ⟨5, _⟩ => ⟨S544x512, .f32⟩
  | .local _ .vmem, ⟨6, _⟩ => ⟨S1x128, .f32⟩
  | .local _ .vmem, ⟨7, _⟩ => ⟨S1x128, .f32⟩
  | .local _ .vmem, ⟨8, _⟩ => ⟨S1024x1024, .bf16⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .f32⟩
  | .local _ .vmem, ⟨13, _⟩ => ⟨S544x1024, .bf16⟩
  | .local _ .vmem, ⟨14, _⟩ => ⟨S544x1024, .bf16⟩
  | _, _ => ⟨S2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call3_v0 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdRefIdeal.lean ====
abbrev S2064x512 : Shape := ⟨2, ![2064, 512]⟩
abbrev S2064x2632 : Shape := ⟨2, ![2064, 2632]⟩
abbrev S1x128 : Shape := ⟨2, ![1, 128]⟩
abbrev S1024x1024 : Shape := ⟨2, ![1024, 1024]⟩
abbrev S2064x1024 : Shape := ⟨2, ![2064, 1024]⟩
abbrev S2064x4x128 : Shape := ⟨3, ![2064, 4, 128]⟩
abbrev S_ : Shape := ⟨0, ![]⟩
abbrev S2064x4 : Shape := ⟨2, ![2064, 4]⟩
abbrev S2064x4x1 : Shape := ⟨3, ![2064, 4, 1]⟩
abbrev S1x1x128 : Shape := ⟨3, ![1, 1, 128]⟩
abbrev S2176x1024 : Shape := ⟨2, ![2176, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2064x512, .f32⟩
  | .hbm, ⟨1, _⟩ => ⟨S2064x512, .f32⟩
  | .hbm, ⟨2, _⟩ => ⟨S2064x2632, .f32⟩
  | .hbm, ⟨3, _⟩ => ⟨S1x128, .f32⟩
  | .hbm, ⟨4, _⟩ => ⟨S1x128, .f32⟩
  | .hbm, ⟨5, _⟩ => ⟨S1024x1024, .f32⟩
  | .hbm, ⟨6, _⟩ => ⟨S2064x1024, .f32⟩
  | .hbm, ⟨7, _⟩ => ⟨S2064x4x128, .f32⟩
  | .hbm, ⟨8, _⟩ => ⟨S2064x4x128, .f32⟩
  | .hbm, ⟨9, _⟩ => ⟨S_, .f32⟩
  | .hbm, ⟨10, _⟩ => ⟨S2064x4, .f32⟩
  | .hbm, ⟨11, _⟩ => ⟨S2064x4x1, .f32⟩
  | .hbm, ⟨12, _⟩ => ⟨S_, .f32⟩
  | .hbm, ⟨13, _⟩ => ⟨S2064x4x1, .f32⟩
  | .hbm, ⟨14, _⟩ => ⟨S2064x4x1, .f32⟩
  | .hbm, ⟨15, _⟩ => ⟨S_, .f32⟩
  | .hbm, ⟨16, _⟩ => ⟨S2064x4x1, .f32⟩
  | .hbm, ⟨17, _⟩ => ⟨S2064x4x1, .f32⟩
  | .hbm, ⟨18, _⟩ => ⟨S2064x4x1, .f32⟩
  | .hbm, ⟨19, _⟩ => ⟨S2064x4x128, .f32⟩
  | .hbm, ⟨20, _⟩ => ⟨S2064x4x128, .f32⟩
  | .hbm, ⟨21, _⟩ => ⟨S1x1x128, .f32⟩
  | .hbm, ⟨22, _⟩ => ⟨S2064x4x128, .f32⟩
  | .hbm, ⟨23, _⟩ => ⟨S2064x4x128, .f32⟩
  | .hbm, ⟨24, _⟩ => ⟨S2064x512, .f32⟩
  | .hbm, ⟨25, _⟩ => ⟨S2064x4x128, .f32⟩
  | .hbm, ⟨26, _⟩ => ⟨S2064x4x128, .f32⟩
  | .hbm, ⟨27, _⟩ => ⟨S_, .f32⟩
  | .hbm, ⟨28, _⟩ => ⟨S2064x4, .f32⟩
  | .hbm, ⟨29, _⟩ => ⟨S2064x4x1, .f32⟩
  | .hbm, ⟨30, _⟩ => ⟨S_, .f32⟩
  | .hbm, ⟨31, _⟩ => ⟨S2064x4x1, .f32⟩
  | .hbm, ⟨32, _⟩ => ⟨S2064x4x1, .f32⟩
  | .hbm, ⟨33, _⟩ => ⟨S_, .f32⟩
  | .hbm, ⟨34, _⟩ => ⟨S2064x4x1, .f32⟩
  | .hbm, ⟨35, _⟩ => ⟨S2064x4x1, .f32⟩
  | .hbm, ⟨36, _⟩ => ⟨S2064x4x1, .f32⟩
  | .hbm, ⟨37, _⟩ => ⟨S2064x4x128, .f32⟩
  | .hbm, ⟨38, _⟩ => ⟨S2064x4x128, .f32⟩
  | .hbm, ⟨39, _⟩ => ⟨S1x1x128, .f32⟩
  | .hbm, ⟨40, _⟩ => ⟨S2064x4x128, .f32⟩
  | .hbm, ⟨41, _⟩ => ⟨S2064x4x128, .f32⟩
  | .hbm, ⟨42, _⟩ => ⟨S2064x512, .f32⟩
  | .hbm, ⟨43, _⟩ => ⟨S2064x4x128, .f32⟩
  | .hbm, ⟨44, _⟩ => ⟨S2064x4x128, .f32⟩
  | .hbm, ⟨45, _⟩ => ⟨S2064x4x128, .f32⟩
  | .hbm, ⟨46, _⟩ => ⟨S_, .f32⟩
  | .hbm, ⟨47, _⟩ => ⟨S2064x4x128, .f32⟩
  | .hbm, ⟨48, _⟩ => ⟨S2064x4x128, .f32⟩
  | .hbm, ⟨49, _⟩ => ⟨S_, .f32⟩
  | .hbm, ⟨50, _⟩ => ⟨S2064x4x128, .f32⟩
  | .hbm, ⟨51, _⟩ => ⟨S2064x4x128, .f32⟩
  | .hbm, ⟨52, _⟩ => ⟨S2064x4x128, .f32⟩
  | .hbm, ⟨53, _⟩ => ⟨S2064x4x128, .f32⟩
  | .hbm, ⟨54, _⟩ => ⟨S2064x512, .f32⟩
  | .hbm, ⟨55, _⟩ => ⟨S2064x1024, .f32⟩
  | .hbm, ⟨56, _⟩ => ⟨S2064x1024, .f32⟩
  | .hbm, ⟨57, _⟩ => ⟨S2064x1024, .f32⟩
  | .hbm, ⟨58, _⟩ => ⟨S_, .i32⟩
  | .hbm, ⟨59, _⟩ => ⟨S_, .f32⟩
  | .hbm, ⟨60, _⟩ => ⟨S2176x1024, .f32⟩
  | .hbm, ⟨61, _⟩ => ⟨S_, .i32⟩
  | .hbm, ⟨62, _⟩ => ⟨S_, .f32⟩
  | .hbm, ⟨63, _⟩ => ⟨S2176x1024, .f32⟩
  | .hbm, ⟨64, _⟩ => ⟨S2176x1024, .bf16⟩
  | _, _ => ⟨S2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c : Ref sig .tc := ⟨.hbm, 58, rfl⟩
abbrev main_call1_v0 : Ref sig .tc := ⟨.hbm, 59, rfl⟩
abbrev main_v37 : Ref sig .tc := ⟨.hbm, 60, rfl⟩
abbrev main_c_5 : Ref sig .tc := ⟨.hbm, 61, rfl⟩
abbrev main_call2_v0 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== InFwd.lean ====
abbrev S2064x1024 : Shape := ⟨2, ![2064, 1024]⟩
abbrev S1x1024 : Shape := ⟨2, ![1, 1024]⟩
abbrev S1024x2632 : Shape := ⟨2, ![1024, 2632]⟩
abbrev S_ : Shape := ⟨0, ![]⟩
abbrev S2176x1024 : Shape := ⟨2, ![2176, 1024]⟩
abbrev S2632x1024 : Shape := ⟨2, ![2632, 1024]⟩
abbrev S1536x1024 : Shape := ⟨2, ![1536, 1024]⟩
abbrev S512x1024 : Shape := ⟨2, ![512, 1024]⟩
abbrev S256x1024 : Shape := ⟨2, ![256, 1024]⟩
abbrev S64x1024 : Shape := ⟨2, ![64, 1024]⟩
abbrev S8x1024 : Shape := ⟨2, ![8, 1024]⟩
abbrev S120x1024 : Shape := ⟨2, ![120, 1024]⟩
abbrev S2816x1024 : Shape := ⟨2, ![2816, 1024]⟩
abbrev S8x128 : Shape := ⟨2, ![8, 128]⟩
abbrev S2176x2816 : Shape := ⟨2, ![2176, 2816]⟩
abbrev S1088x1024 : Shape := ⟨2, ![1088, 1024]⟩
abbrev S1408x1024 : Shape := ⟨2, ![1408, 1024]⟩
abbrev S1088x1408 : Shape := ⟨2, ![1088, 1408]⟩
abbrev S1088 : Shape := ⟨1, ![1088]⟩
abbrev S1088x1 : Shape := ⟨2, ![1088, 1]⟩

abbrev nBuf : Space → Nat
  | .hbm => 23
  | .vmem => 9
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2632, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2632x1024, .f32⟩
  | .hbm, ⟨7, _⟩ => ⟨S1536x1024, .f32⟩
  | .hbm, ⟨8, _⟩ => ⟨S512x1024, .f32⟩
  | .hbm, ⟨9, _⟩ => ⟨S256x1024, .f32⟩
  | .hbm, ⟨10, _⟩ => ⟨S256x1024, .f32⟩
  | .hbm, ⟨11, _⟩ => ⟨S64x1024, .f32⟩
  | .hbm, ⟨12, _⟩ => ⟨S_, .f32⟩
  | .hbm, ⟨13, _⟩ => ⟨S64x1024, .f32⟩
  | .hbm, ⟨14, _⟩ => ⟨S8x1024, .f32⟩
  | .hbm, ⟨15, _⟩ => ⟨S_, .f32⟩
  | .hbm, ⟨16, _⟩ => ⟨S120x1024, .f32⟩
  | .hbm, ⟨17, _⟩ => ⟨S2816x1024, .f32⟩
  | .hbm, ⟨18, _⟩ => ⟨S2816x1024, .bf16⟩
  | .hbm, ⟨19, _⟩ => ⟨S_, .f32⟩
  | .hbm, ⟨20, _⟩ => ⟨S8x128, .f32⟩
  | .hbm, ⟨21, _⟩ => ⟨S2176x2816, .f32⟩
  | .hbm, ⟨22, _⟩ => ⟨S2176x1024, .bf16⟩
  | .local _ .vmem, ⟨0, _⟩ => ⟨S1088x1024, .f32⟩
  | .local _ .vmem, ⟨1, _⟩ => ⟨S1088x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1088x1408, .f32⟩
  | .local _ .vmem, ⟨6, _⟩ => ⟨S1088x1408, .f32⟩
  | .local _ .vmem, ⟨7, _⟩ => ⟨S1088x1024, .bf16⟩
  | .local _ .vmem, ⟨8, _⟩ => ⟨S1088x1024, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InFwdRefIdeal.lean ====
abbrev S2064x1024 : Shape := ⟨2, ![2064, 1024]⟩
abbrev S1x1024 : Shape := ⟨2, ![1, 1024]⟩
abbrev S1024x2632 : Shape := ⟨2, ![1024, 2632]⟩
abbrev S_ : Shape := ⟨0, ![]⟩
abbrev S2064 : Shape := ⟨1, ![2064]⟩
abbrev S2064x1 : Shape := ⟨2, ![2064, 1]⟩
abbrev S2064x2632 : Shape := ⟨2, ![2064, 2632]⟩
abbrev S2064x2048 : Shape := ⟨2, ![2064, 2048]⟩
abbrev S2064x576 : Shape := ⟨2, ![2064, 576]⟩
abbrev S2064x64 : Shape := ⟨2, ![2064, 64]⟩
abbrev S2064x8 : Shape := ⟨2, ![2064, 8]⟩
abbrev S2064x120 : Shape := ⟨2, ![2064, 120]⟩
abbrev S2064x2816 : Shape := ⟨2, ![2064, 2816]⟩
abbrev S2176x2816 : Shape := ⟨2, ![2176, 2816]⟩
abbrev S2176x1024 : Shape := ⟨2, ![2176, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2632, .f32⟩
  | .hbm, ⟨3, _⟩ => ⟨S2064x1024, .f32⟩
  | .hbm, ⟨4, _⟩ => ⟨S_, .f32⟩
  | .hbm, ⟨5, _⟩ => ⟨S2064, .f32⟩
  | .hbm, ⟨6, _⟩ => ⟨S2064x1, .f32⟩
  | .hbm, ⟨7, _⟩ => ⟨S_, .f32⟩
  | .hbm, ⟨8, _⟩ => ⟨S2064x1, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S2064x1, .f32⟩
  | .hbm, ⟨14, _⟩ => ⟨S2064x1024, .f32⟩
  | .hbm, ⟨15, _⟩ => ⟨S2064x1024, .f32⟩
  | .hbm, ⟨16, _⟩ => ⟨S2064x1024, .f32⟩
  | .hbm, ⟨17, _⟩ => ⟨S2064x1024, .f32⟩
  | .hbm, ⟨18, _⟩ => ⟨S2064x2632, .f32⟩
  | .hbm, ⟨19, _⟩ => ⟨S2064x2048, .f32⟩
  | .hbm, ⟨20, _⟩ => ⟨S2064x576, .f32⟩
  | .hbm, ⟨21, _⟩ => ⟨S_, .f32⟩
  | .hbm, ⟨22, _⟩ => ⟨S2064x64, .f32⟩
  | .hbm, ⟨23, _⟩ => ⟨S2064x8, .f32⟩
  | .hbm, ⟨24, _⟩ => ⟨S_, .f32⟩
  | .hbm, ⟨25, _⟩ => ⟨S2064x120, .f32⟩
  | .hbm, ⟨26, _⟩ => ⟨S2064x2816, .f32⟩
  | .hbm, ⟨27, _⟩ => ⟨S_, .i32⟩
  | .hbm, ⟨28, _⟩ => ⟨S_, .f32⟩
  | .hbm, ⟨29, _⟩ => ⟨S2176x2816, .f32⟩
  | .hbm, ⟨30, _⟩ => ⟨S_, .i32⟩
  | .hbm, ⟨31, _⟩ => ⟨S_, .f32⟩
  | .hbm, ⟨32, _⟩ => ⟨S2176x1024, .f32⟩
  | .hbm, ⟨33, _⟩ => ⟨S2176x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_c_4 : Ref sig .tc := ⟨.hbm, 30, rfl⟩
abbrev main_call1_v0 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== FfnFwd.lean ====
abbrev S2064x1024 : Shape := ⟨2, ![2064, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩
abbrev S2176x1024 : Shape := ⟨2, ![2176, 1024]⟩
abbrev S2816x1024 : Shape := ⟨2, ![2816, 1024]⟩
abbrev S8x2816 : Shape := ⟨2, ![8, 2816]⟩
abbrev S2176x2816 : Shape := ⟨2, ![2176, 2816]⟩
abbrev S544x1024 : Shape := ⟨2, ![544, 1024]⟩
abbrev S8x1024 : Shape := ⟨2, ![8, 1024]⟩
abbrev S1408x1024 : Shape := ⟨2, ![1408, 1024]⟩
abbrev S8x1408 : Shape := ⟨2, ![8, 1408]⟩
abbrev S1x1408 : Shape := ⟨2, ![1, 1408]⟩
abbrev S544x1408 : Shape := ⟨2, ![544, 1408]⟩
abbrev S544 : Shape := ⟨1, ![544]⟩
abbrev S544x1 : Shape := ⟨2, ![544, 1]⟩
abbrev S8 : Shape := ⟨1, ![8]⟩
abbrev S8x1 : Shape := ⟨2, ![8, 1]⟩
abbrev S552x1408 : Shape := ⟨2, ![552, 1408]⟩

abbrev nBuf : Space → Nat
  | .hbm => 20
  | .vmem => 21
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S1x2816, .f32⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S_, .i32⟩
  | .hbm, ⟨14, _⟩ => ⟨S_, .f32⟩
  | .hbm, ⟨15, _⟩ => ⟨S8x2816, .f32⟩
  | .hbm, ⟨16, _⟩ => ⟨S2176x1024, .bf16⟩
  | .hbm, ⟨17, _⟩ => ⟨S2176x2816, .f32⟩
  | .hbm, ⟨18, _⟩ => ⟨S2176x2816, .f32⟩
  | .hbm, ⟨19, _⟩ => ⟨S2176x2816, .bf16⟩
  | .local _ .vmem, ⟨0, _⟩ => ⟨S544x1024, .f32⟩
  | .local _ .vmem, ⟨1, _⟩ => ⟨S544x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S8x1408, .f32⟩
  | .local _ .vmem, ⟨10, _⟩ => ⟨S8x1408, .f32⟩
  | .local _ .vmem, ⟨11, _⟩ => ⟨S1x1408, .f32⟩
  | .local _ .vmem, ⟨12, _⟩ => ⟨S1x1408, .f32⟩
  | .local _ .vmem, ⟨13, _⟩ => ⟨S544x1024, .bf16⟩
  | .local _ .vmem, ⟨14, _⟩ => ⟨S544x1024, .bf16⟩
  | .local _ .vmem, ⟨15, _⟩ => ⟨S544x1408, .f32⟩
  | .local _ .vmem, ⟨16, _⟩ => ⟨S544x1408, .f32⟩
  | .local _ .vmem, ⟨17, _⟩ => ⟨S544x1408, .f32⟩
  | .local _ .vmem, ⟨18, _⟩ => ⟨S544x1408, .f32⟩
  | .local _ .vmem, ⟨19, _⟩ => ⟨S544x1408, .bf16⟩
  | .local _ .vmem, ⟨20, _⟩ => ⟨S544x1408, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S544x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S544x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S544x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnFwdRefIdeal.lean ====
abbrev S2064x1024 : Shape := ⟨2, ![2064, 1024]⟩
abbrev S1x1024 : Shape := ⟨2, ![1, 1024]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩
abbrev S2064 : Shape := ⟨1, ![2064]⟩
abbrev S2064x1 : Shape := ⟨2, ![2064, 1]⟩
abbrev S2064x2816 : Shape := ⟨2, ![2064, 2816]⟩
abbrev S2066x2816 : Shape := ⟨2, ![2066, 2816]⟩
abbrev S2816 : Shape := ⟨1, ![2816]⟩
abbrev S2176x1024 : Shape := ⟨2, ![2176, 1024]⟩
abbrev S2176x2816 : Shape := ⟨2, ![2176, 2816]⟩

abbrev nBuf : Space → Nat
  | .hbm => 72
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S1x2816, .f32⟩
  | .hbm, ⟨6, _⟩ => ⟨S2064x1024, .f32⟩
  | .hbm, ⟨7, _⟩ => ⟨S_, .f32⟩
  | .hbm, ⟨8, _⟩ => ⟨S2064, .f32⟩
  | .hbm, ⟨9, _⟩ => ⟨S2064x1, .f32⟩
  | .hbm, ⟨10, _⟩ => ⟨S_, .f32⟩
  | .hbm, ⟨11, _⟩ => ⟨S2064x1, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S2064x1, .f32⟩
  | .hbm, ⟨17, _⟩ => ⟨S2064x1024, .f32⟩
  | .hbm, ⟨18, _⟩ => ⟨S2064x1024, .f32⟩
  | .hbm, ⟨19, _⟩ => ⟨S2064x1024, .f32⟩
  | .hbm, ⟨20, _⟩ => ⟨S2064x1024, .f32⟩
  | .hbm, ⟨21, _⟩ => ⟨S2064x2816, .f32⟩
  | .hbm, ⟨22, _⟩ => ⟨S2064x2816, .f32⟩
  | .hbm, ⟨23, _⟩ => ⟨S_, .i32⟩
  | .hbm, ⟨24, _⟩ => ⟨S_, .f32⟩
  | .hbm, ⟨25, _⟩ => ⟨S2066x2816, .f32⟩
  | .hbm, ⟨26, _⟩ => ⟨S1x2816, .f32⟩
  | .hbm, ⟨27, _⟩ => ⟨S2816, .f32⟩
  | .hbm, ⟨28, _⟩ => ⟨S2064x2816, .f32⟩
  | .hbm, ⟨29, _⟩ => ⟨S1x2816, .f32⟩
  | .hbm, ⟨30, _⟩ => ⟨S2064x2816, .f32⟩
  | .hbm, ⟨31, _⟩ => ⟨S2064x2816, .f32⟩
  | .hbm, ⟨32, _⟩ => ⟨S1x2816, .f32⟩
  | .hbm, ⟨33, _⟩ => ⟨S2816, .f32⟩
  | .hbm, ⟨34, _⟩ => ⟨S2064x2816, .f32⟩
  | .hbm, ⟨35, _⟩ => ⟨S1x2816, .f32⟩
  | .hbm, ⟨36, _⟩ => ⟨S2064x2816, .f32⟩
  | .hbm, ⟨37, _⟩ => ⟨S2064x2816, .f32⟩
  | .hbm, ⟨38, _⟩ => ⟨S2064x2816, .f32⟩
  | .hbm, ⟨39, _⟩ => ⟨S1x2816, .f32⟩
  | .hbm, ⟨40, _⟩ => ⟨S2816, .f32⟩
  | .hbm, ⟨41, _⟩ => ⟨S2064x2816, .f32⟩
  | .hbm, ⟨42, _⟩ => ⟨S1x2816, .f32⟩
  | .hbm, ⟨43, _⟩ => ⟨S2064x2816, .f32⟩
  | .hbm, ⟨44, _⟩ => ⟨S2064x2816, .f32⟩
  | .hbm, ⟨45, _⟩ => ⟨S2064x2816, .f32⟩
  | .hbm, ⟨46, _⟩ => ⟨S2064x2816, .f32⟩
  | .hbm, ⟨47, _⟩ => ⟨S2064x2816, .f32⟩
  | .hbm, ⟨48, _⟩ => ⟨S2064x2816, .f32⟩
  | .hbm, ⟨49, _⟩ => ⟨S2064x2816, .f32⟩
  | .hbm, ⟨50, _⟩ => ⟨S_, .f32⟩
  | .hbm, ⟨51, _⟩ => ⟨S2064x2816, .f32⟩
  | .hbm, ⟨52, _⟩ => ⟨S2064x2816, .f32⟩
  | .hbm, ⟨53, _⟩ => ⟨S_, .f32⟩
  | .hbm, ⟨54, _⟩ => ⟨S2064x2816, .f32⟩
  | .hbm, ⟨55, _⟩ => ⟨S2064x2816, .f32⟩
  | .hbm, ⟨56, _⟩ => ⟨S2064x2816, .f32⟩
  | .hbm, ⟨57, _⟩ => ⟨S2064x2816, .f32⟩
  | .hbm, ⟨58, _⟩ => ⟨S_, .i32⟩
  | .hbm, ⟨59, _⟩ => ⟨S_, .f32⟩
  | .hbm, ⟨60, _⟩ => ⟨S2176x1024, .f32⟩
  | .hbm, ⟨61, _⟩ => ⟨S2176x1024, .bf16⟩
  | .hbm, ⟨62, _⟩ => ⟨S_, .i32⟩
  | .hbm, ⟨63, _⟩ => ⟨S_, .f32⟩
  | .hbm, ⟨64, _⟩ => ⟨S2176x2816, .f32⟩
  | .hbm, ⟨65, _⟩ => ⟨S_, .i32⟩
  | .hbm, ⟨66, _⟩ => ⟨S_, .f32⟩
  | .hbm, ⟨67, _⟩ => ⟨S2176x2816, .f32⟩
  | .hbm, ⟨68, _⟩ => ⟨S_, .i32⟩
  | .hbm, ⟨69, _⟩ => ⟨S_, .f32⟩
  | .hbm, ⟨70, _⟩ => ⟨S2176x2816, .f32⟩
  | .hbm, ⟨71, _⟩ => ⟨S2176x2816, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v37 : Ref sig .tc := ⟨.hbm, 56, rfl⟩
abbrev main_v38 : Ref sig .tc := ⟨.hbm, 57, rfl⟩
abbrev main_c_2 : Ref sig .tc := ⟨.hbm, 58, rfl⟩
abbrev main_call2_v0 : Ref sig .tc := ⟨.hbm, 59, rfl⟩
abbrev main_v39 : Ref sig .tc := ⟨.hbm, 60, rfl⟩
abbrev main_v40 : Ref sig .tc := ⟨.hbm, 61, rfl⟩
abbrev main_c_3 : Ref sig .tc := ⟨.hbm, 62, rfl⟩
abbrev main_call3_v0 : Ref sig .tc := ⟨.hbm, 63, rfl⟩
abbrev main_v41 : Ref sig .tc := ⟨.hbm, 64, rfl⟩
abbrev main_c_4 : Ref sig .tc := ⟨.hbm, 65, rfl⟩
abbrev main_call4_v0 : Ref sig .tc := ⟨.hbm, 66, rfl⟩
abbrev main_v42 : Ref sig .tc := ⟨.hbm, 67, rfl⟩
abbrev main_c_5 : Ref sig .tc := ⟨.hbm, 68, rfl⟩
abbrev main_call5_v0 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Gdn.lean ====
abbrev S2176x512 : Shape := ⟨2, ![2176, 512]⟩
abbrev S4x34x128x128 : Shape := ⟨4, ![4, 34, 128, 128]⟩
abbrev S4x34x64x64 : Shape := ⟨4, ![4, 34, 64, 64]⟩
abbrev S2176x2816 : Shape := ⟨2, ![2176, 2816]⟩
abbrev S8x1536 : Shape := ⟨2, ![8, 1536]⟩
abbrev S1x512 : Shape := ⟨2, ![1, 512]⟩
abbrev S_ : Shape := ⟨0, ![]⟩
abbrev S8x128 : Shape := ⟨2, ![8, 128]⟩
abbrev S2176x1536 : Shape := ⟨2, ![2176, 1536]⟩
abbrev S2176x128 : Shape := ⟨2, ![2176, 128]⟩
abbrev S128x512 : Shape := ⟨2, ![128, 512]⟩
abbrev S4x2x128x128 : Shape := ⟨4, ![4, 2, 128, 128]⟩
abbrev S4x2x64x64 : Shape := ⟨4, ![4, 2, 64, 64]⟩
abbrev S128x1536 : Shape := ⟨2, ![128, 1536]⟩
abbrev S128x128 : Shape := ⟨2, ![128, 128]⟩
abbrev S4x128x128 : Shape := ⟨3, ![4, 128, 128]⟩
abbrev S3x8x512 : Shape := ⟨3, ![3, 8, 512]⟩
abbrev S64x64 : Shape := ⟨2, ![64, 64]⟩
abbrev S64x128 : Shape := ⟨2, ![64, 128]⟩
abbrev S128x64 : Shape := ⟨2, ![128, 64]⟩
abbrev S128 : Shape := ⟨1, ![128]⟩
abbrev S1x128 : Shape := ⟨2, ![1, 128]⟩
abbrev S1x128x128 : Shape := ⟨3, ![1, 128, 128]⟩
abbrev S1x1x64x64 : Shape := ⟨4, ![1, 1, 64, 64]⟩
abbrev S1x1x128x128 : Shape := ⟨4, ![1, 1, 128, 128]⟩
abbrev S64 : Shape := ⟨1, ![64]⟩
abbrev S64x1 : Shape := ⟨2, ![64, 1]⟩
abbrev S1x64x1 : Shape := ⟨3, ![1, 64, 1]⟩
abbrev S1 : Shape := ⟨1, ![1]⟩
abbrev S1x1x1 : Shape := ⟨3, ![1, 1, 1]⟩
abbrev S1x8x512 : Shape := ⟨3, ![1, 8, 512]⟩
abbrev S8x512 : Shape := ⟨2, ![8, 512]⟩
abbrev S136x1536 : Shape := ⟨2, ![136, 1536]⟩
abbrev S144x1536 : Shape := ⟨2, ![144, 1536]⟩
abbrev S1x1536 : Shape := ⟨2, ![1, 1536]⟩
abbrev S136x512 : Shape := ⟨2, ![136, 512]⟩
abbrev S136x128 : Shape := ⟨2, ![136, 128]⟩
abbrev S136 : Shape := ⟨1, ![136]⟩
abbrev S136x1 : Shape := ⟨2, ![136, 1]⟩
abbrev S1536 : Shape := ⟨1, ![1536]⟩
abbrev S1x1 : Shape := ⟨2, ![1, 1]⟩
abbrev S128x1 : Shape := ⟨2, ![128, 1]⟩
abbrev S128x1024 : Shape := ⟨2, ![128, 1024]⟩
abbrev S512 : Shape := ⟨1, ![512]⟩

abbrev nBuf : Space → Nat
  | .hbm => 19
  | .vmem => 41
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x512, .f32⟩
  | .hbm, ⟨3, _⟩ => ⟨S2176x512, .f32⟩
  | .hbm, ⟨4, _⟩ => ⟨S2176x512, .f32⟩
  | .hbm, ⟨5, _⟩ => ⟨S4x34x128x128, .f32⟩
  | .hbm, ⟨6, _⟩ => ⟨S4x34x64x64, .f32⟩
  | .hbm, ⟨7, _⟩ => ⟨S2176x512, .f32⟩
  | .hbm, ⟨8, _⟩ => ⟨S2176x2816, .f32⟩
  | .hbm, ⟨9, _⟩ => ⟨S8x1536, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S8x128, .f32⟩
  | .hbm, ⟨14, _⟩ => ⟨S2176x1536, .bf16⟩
  | .hbm, ⟨15, _⟩ => ⟨S2176x128, .bf16⟩
  | .hbm, ⟨16, _⟩ => ⟨S8x1536, .f32⟩
  | .hbm, ⟨17, _⟩ => ⟨S1x512, .f32⟩
  | .hbm, ⟨18, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S4x2x128x128, .f32⟩
  | .local _ .vmem, ⟨11, _⟩ => ⟨S4x2x128x128, .f32⟩
  | .local _ .vmem, ⟨12, _⟩ => ⟨S4x2x64x64, .f32⟩
  | .local _ .vmem, ⟨13, _⟩ => ⟨S4x2x64x64, .f32⟩
  | .local _ .vmem, ⟨14, _⟩ => ⟨S128x512, .f32⟩
  | .local _ .vmem, ⟨15, _⟩ => ⟨S128x512, .f32⟩
  | .local _ .vmem, ⟨16, _⟩ => ⟨S128x1536, .f32⟩
  | .local _ .vmem, ⟨17, _⟩ => ⟨S128x1536, .f32⟩
  | .local _ .vmem, ⟨18, _⟩ => ⟨S8x1536, .f32⟩
  | .local _ .vmem, ⟨19, _⟩ => ⟨S8x1536, .f32⟩
  | .local _ .vmem, ⟨20, _⟩ => ⟨S8x1536, .f32⟩
  | .local _ .vmem, ⟨21, _⟩ => ⟨S8x1536, .f32⟩
  | .local _ .vmem, ⟨22, _⟩ => ⟨S128x128, .f32⟩
  | .local _ .vmem, ⟨23, _⟩ => ⟨S128x128, .f32⟩
  | .local _ .vmem, ⟨24, _⟩ => ⟨S8x1536, .f32⟩
  | .local _ .vmem, ⟨25, _⟩ => ⟨S1x512, .f32⟩
  | .local _ .vmem, ⟨26, _⟩ => ⟨S1x512, .f32⟩
  | .local _ .vmem, ⟨27, _⟩ => ⟨S128x1536, .bf16⟩
  | .local _ .vmem, ⟨28, _⟩ => ⟨S128x1536, .bf16⟩
  | .local _ .vmem, ⟨29, _⟩ => ⟨S128x128, .bf16⟩
  | .local _ .vmem, ⟨30, _⟩ => ⟨S128x128, .bf16⟩
  | .local _ .vmem, ⟨31, _⟩ => ⟨S8x1536, .f32⟩
  | .local _ .vmem, ⟨32, _⟩ => ⟨S1x512, .f32⟩
  | .local _ .vmem, ⟨33, _⟩ => ⟨S1x512, .f32⟩
  | .local _ .vmem, ⟨34, _⟩ => ⟨S4x128x128, .f32⟩
  | .local _ .vmem, ⟨35, _⟩ => ⟨S128x512, .f32⟩
  | .local _ .vmem, ⟨36, _⟩ => ⟨S128x512, .f32⟩
  | .local _ .vmem, ⟨37, _⟩ => ⟨S128x512, .f32⟩
  | .local _ .vmem, ⟨38, _⟩ => ⟨S128x512, .f32⟩
  | .local _ .vmem, ⟨39, _⟩ => ⟨S128x512, .f32⟩
  | .local _ .vmem, ⟨40, _⟩ => ⟨S3x8x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_scratch6 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_991 : BitVec 32 := 0#32
  let v2660 : BitVec 1 := Scalar.cmpi .eq arg0 c0_i32_991
  let v2661 : BitVec 32 := Scalar.extui v2660
  let c0_i32_992 : BitVec 32 := 0#32
  let v2662 : BitVec 1 := Scalar.cmpi .ne v2661 c0_i32_992
  v2662

def k0_cond3 (i : grid0.Coords) : BitVec 1 :=
  let arg0 : BitVec 32 := BitVec.ofNat 32 (i 0).val
  let c0_i32_993 : BitVec 32 := 0#32
  let v2663 : BitVec 1 := Scalar.cmpi .sgt arg0 c0_i32_993
  let v2664 : BitVec 32 := Scalar.extui v2663
  let c0_i32_994 : BitVec 32 := 0#32
  let v2665 : BitVec 1 := Scalar.cmpi .ne v2664 c0_i32_994
  v2665

def k0_cond4 (i : grid0.Coords) : BitVec 1 :=
  let arg0 : BitVec 32 := BitVec.ofNat 32 (i 0).val
  let c0_i32_995 : BitVec 32 := 0#32
  let v2666 : BitVec 1 := Scalar.cmpi .eq arg0 c0_i32_995
  let v2667 : BitVec 32 := Scalar.extui v2666
  let c0_i32_996 : BitVec 32 := 0#32
  let v2668 : BitVec 1 := Scalar.cmpi .ne v2667 c0_i32_996
  v2668

def k0_cond5 (i : grid0.Coords) : BitVec 1 :=
  let arg0 : BitVec 32 := BitVec.ofNat 32 (i 0).val
  let c0_i32_997 : BitVec 32 := 0#32
  let v2669 : BitVec 1 := Scalar.cmpi .sgt arg0 c0_i32_997
  let v2670 : BitVec 32 := Scalar.extui v2669
  let c0_i32_998 : BitVec 32 := 0#32
  let v2671 : BitVec 1 := Scalar.cmpi .ne v2670 c0_i32_998
  v2671

def k0_cond6 (i : grid0.Coords) : BitVec 1 :=
  let arg0 : BitVec 32 := BitVec.ofNat 32 (i 0).val
  let c0_i32_999 : BitVec 32 := 0#32
  let v2672 : BitVec 1 := Scalar.cmpi .eq arg0 c0_i32_999
  let v2673 : BitVec 32 := Scalar.extui v2672
  let c0_i32_1000 : BitVec 32 := 0#32
  let v2674 : BitVec 1 := Scalar.cmpi .ne v2673 c0_i32_1000
  v2674

def k0_cond7 (i : grid0.Coords) : BitVec 1 :=
  let arg0 : BitVec 32 := BitVec.ofNat 32 (i 0).val
  let c0_i32_1001 : BitVec 32 := 0#32
  let v2675 : BitVec 1 := Scalar.cmpi .sgt arg0 c0_i32_1001
  let v2676 : BitVec 32 := Scalar.extui v2675
  let c0_i32_1002 : BitVec 32 := 0#32
  let v2677 : BitVec 1 := Scalar.cmpi .ne v2676 c0_i32_1002
  v2677

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi c16_i32 arg0
  let c16_i32_0 : BitVec 32 := 16#32
  let v1 : BitVec 32 := Scalar.muli v0 c16_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_10 (i : grid0.Coords) : Fin 2 → Nat :=
  let arg0 : BitVec 32 := BitVec.ofNat 32 (i 0).val
  let c17_i32 : BitVec 32 := 17#32
  let v0 : BitVec 32 := Scalar.subi c17_i32 arg0
  let c16_i32 : BitVec 32 := 16#32
  let v1 : BitVec 32 := Scalar.muli v0 c16_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.subi c16_i32 arg0
  let c21_i32 : BitVec 32 := 21#32
  let c0_i32 : BitVec 32 := 0#32
  ![v0.toNat, c21_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x2x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Proof.Attention.Core.lean ====
/- The backward pass of causal softmax attention, one row at a time and as formulas over extended reals: the row
   functions the tiled kernel computes, and the lemmas that carry a row cut to a prefix of the keys and shifted by
   the 112 rows of zeros in front of the tokens back to a row over the tokens alone. -/
module

public import Idealize.ShloMosaic.Lib.Pointwise

@[expose] public section

noncomputable section

open Idealize.ShloMosaic

namespace Cert.Attn

/-- The scale of the scores, `1/√192`. -/
def scale : EReal := (((Real.sqrt 192)⁻¹ : ℝ) : EReal)

section Row

variable {n : ℕ}

/-- The greatest of a row of scores. -/
def top (s : Fin n → EReal) : EReal := Finset.univ.fold max ⊥ s

/-- The exponential of a score over the greatest of its row. -/
def wt (s : Fin n → EReal) (c : Fin n) : EReal := Ideal.exp (s c - top s)

/-- The softmax of a row of scores, the reciprocal of the sum taken once. -/
def prob (s : Fin n → EReal) (c : Fin n) : EReal := wt s c * Ideal.div 1 (∑ x, wt s x)

/-- The gradient of a row of scores, before the scale, from the gradient `g` of its softmax. -/
def slope (s g : Fin n → EReal) (c : Fin n) : EReal := prob s c * (g c - ∑ x, prob s x * g x)

/-- A masked row of scores: key `c` counts for query `r` when it is no later and no row of the padding. -/
def scores (r : ℕ) (q : Fin 256 → EReal) (k : Fin n → Fin 256 → EReal) (c : Fin n) : EReal :=
  if (c : ℕ) ≤ r ∧ 112 ≤ (c : ℕ) then (∑ x, q x * k c x) * scale else ⊥

end Row

/-- Rows of tokens with 112 rows of zeros in front and zeros to the right, read at any row and lane. -/
def pad {w : ℕ} (X : Fin 2064 → Fin w → EReal) (r x : ℕ) : EReal :=
  if h : (112 ≤ r ∧ r < 2176) ∧ x < w then X ⟨r - 112, by omega⟩ ⟨x, h.2⟩ else 0

/-- A matrix over pairs of tokens, read at rows of the padded layout. -/
def padTT (D : Fin 2064 → Fin 2064 → EReal) (r c : ℕ) : EReal :=
  if h : (112 ≤ r ∧ r < 2176) ∧ (112 ≤ c ∧ c < 2176) then D ⟨r - 112, by omega⟩ ⟨c - 112, by omega⟩ else 0

section Model

variable (Q K : Fin 2064 → Fin 192 → EReal) (V G : Fin 2064 → Fin 128 → EReal)

/-- The causal scores of token `t`. -/
def ms (t u : Fin 2064) : EReal := if u ≤ t then (∑ x, Q t x * K u x) * scale else ⊥

/-- The gradient of the softmax's entry `(t, u)`. -/
def dp (t u : Fin 2064) : EReal := ∑ x, G t x * V u x

/-- The softmax's entry `(t, u)`. -/
def pr (t u : Fin 2064) : EReal := prob (ms Q K t) u

/-- The gradient of the score `(t, u)`. -/
def ds (t u : Fin 2064) : EReal := slope (ms Q K t) (dp V G t) u * scale

end Model

/-- One head of an argument, as rows of tokens. -/
def head {w : ℕ} (X : FVec Ideal ⟨4, ![1, 2064, 4, w]⟩ .f32) (h : Fin 4) (t : Fin 2064) (y : Fin w) : EReal := X (ix4 0 t h y)

/-- Heads side by side, every head padded: the array at a row and a lane. -/
def packed {w : ℕ} (b : ℕ) (hb : 0 < b) (X : Fin 4 → Fin 2064 → Fin w → EReal) (r : Fin 2176) (j : Fin (4 * b)) : EReal :=
  pad (X ⟨j / b, (Nat.div_lt_iff_lt_mul hb).mpr j.isLt⟩) r (j % b)

theorem packed_at {w : ℕ} (b : ℕ) (hb : 0 < b) (X : Fin 4 → Fin 2064 → Fin w → EReal) (h : Fin 4) (r : Fin 2176) (x : Fin b)
    (r' : Fin 2176) (j : Fin (4 * b)) (hr : (r' : ℕ) = r) (hj : (j : ℕ) = h * b + x) : packed b hb X r' j = pad (X h) r x := by
  have e1 : (j : ℕ) / b = h := by rw [hj, Nat.add_comm, Nat.add_mul_div_right _ _ hb, Nat.div_eq_of_lt x.isLt, Nat.zero_add]
  have e2 : (j : ℕ) % b = x := by rw [hj, Nat.add_comm, Nat.add_mul_mod_self_right, Nat.mod_eq_of_lt x.isLt]
  unfold packed
  rw [hr, e2]
  congr 2
  exact Fin.ext e1

/-! ## Sums and maxima over a prefix of the padded rows -/

theorem sum_shift {n : ℕ} (hn : n ≤ 2176) (f : Fin n → EReal) (g : Fin 2064 → EReal)
    (h0 : ∀ c : Fin n, (c : ℕ) < 112 → f c = 0)
    (h1 : ∀ (u : Fin 2064) (c : Fin n), (c : ℕ) = 112 + u → f c = g u)
    (h2 : ∀ u : Fin 2064, n ≤ 112 + (u : ℕ) → g u = 0) : ∑ c, f c = ∑ u, g u := by
  let F : ℕ → EReal := fun c => if h : c < n then f ⟨c, h⟩ else 0
  let H : ℕ → EReal := fun u => if h : u < 2064 then g ⟨u, h⟩ else 0
  have e1 : ∑ c, f c = ∑ c ∈ Finset.range 2176, F c := by
    rw [← Finset.sum_subset (Finset.range_subset_range.mpr hn)
      (fun c _ hc => dif_neg (by simpa using hc)), Finset.sum_range]
    exact Finset.sum_congr rfl fun c _ => by simp [F]
  have e2 : ∑ u, g u = ∑ u ∈ Finset.range 2064, H u := by
    rw [Finset.sum_range]
    exact Finset.sum_congr rfl fun c _ => by simp [H]
  rw [e1, e2, show 2176 = 112 + 2064 from rfl, Finset.sum_range_add]
  rw [Finset.sum_eq_zero (s := Finset.range 112), zero_add]
  · refine Finset.sum_congr rfl fun u hu => ?_
    have hu' : u < 2064 := by simpa using hu
    by_cases h : 112 + u < n
    · simp only [F, H, dif_pos h, dif_pos hu']; exact h1 ⟨u, hu'⟩ ⟨_, h⟩ rfl
    · simp only [F, H, dif_neg h, dif_pos hu']; exact (h2 ⟨u, hu'⟩ (by simpa using h)).symm
  · intro c hc
    by_cases h : c < n
    · simp only [F, dif_pos h]; exact h0 ⟨c, h⟩ (by simpa using hc)
    · simp only [F, dif_neg h]

theorem top_shift {n : ℕ} (f : Fin n → EReal) (g : Fin 2064 → EReal)
    (h0 : ∀ c : Fin n, (c : ℕ) < 112 → f c = ⊥)
    (h1 : ∀ (u : Fin 2064) (c : Fin n), (c : ℕ) = 112 + u → f c = g u)
    (h2 : ∀ u : Fin 2064, n ≤ 112 + (u : ℕ) → g u = ⊥) (hn : n ≤ 2176) : top f = top g := by
  apply le_antisymm
  · refine Finset.fold_max_le _ |>.mpr ⟨bot_le, fun c _ => ?_⟩
    by_cases h : (c : ℕ) < 112
    · rw [h0 c h]; exact bot_le
    · rw [h1 ⟨c - 112, by omega⟩ c (by simp; omega)]
      exact Finset.le_fold_max _ |>.mpr (Or.inr ⟨_, Finset.mem_univ _, le_rfl⟩)
  · refine Finset.fold_max_le _ |>.mpr ⟨bot_le, fun u _ => ?_⟩
    by_cases h : 112 + (u : ℕ) < n
    · rw [← h1 u ⟨112 + u, h⟩ rfl]
      exact Finset.le_fold_max _ |>.mpr (Or.inr ⟨_, Finset.mem_univ _, le_rfl⟩)
    · rw [h2 u (by omega)]; exact bot_le

/-- A sum over 256 lanes of which those from `192` on are zero. -/
theorem sum_lanes (f : Fin 256 → EReal) (g : Fin 192 → EReal)
    (h1 : ∀ (y : Fin 192) (x : Fin 256), (x : ℕ) = y → f x = g y)
    (h2 : ∀ x : Fin 256, 192 ≤ (x : ℕ) → f x = 0) : ∑ x, f x = ∑ y, g y := by
  have e := Fin.sum_univ_add (M := EReal) (a := 192) (b := 64) f
  refine e.trans ?_
  rw [Finset.sum_eq_zero (f := fun i : Fin 64 => f (Fin.natAdd 192 i)), add_zero]
  · exact Finset.sum_congr rfl fun y _ => h1 y _ rfl
  · exact fun i _ => h2 _ (by simp)

/-! ## The rows of a tile are rows of the tokens -/

theorem wt_bot {n : ℕ} (s : Fin n → EReal) (c : Fin n) (h : s c = ⊥) : wt s c = 0 := by
  unfold wt; rw [h, EReal.bot_sub]; rfl

theorem prob_bot {n : ℕ} (s : Fin n → EReal) (c : Fin n) (h : s c = ⊥) : prob s c = 0 := by
  unfold prob; rw [wt_bot s c h, zero_mul]

theorem slope_bot {n : ℕ} (s g : Fin n → EReal) (c : Fin n) (h : s c = ⊥) : slope s g c = 0 := by
  unfold slope; rw [prob_bot s c h, zero_mul]

theorem pad_tok {w : ℕ} (X : Fin 2064 → Fin w → EReal) (t : Fin 2064) (y : Fin w) (r x : ℕ)
    (hr : r = 112 + t) (hx : x = y) : pad X r x = X t y := by
  subst hr hx
  have := t.isLt
  rw [pad, dif_pos ⟨⟨by omega, by omega⟩, y.isLt⟩]
  congr 1
  exact Fin.ext (by simp)

theorem pad_front {w : ℕ} (X : Fin 2064 → Fin w → EReal) (r x : ℕ) (hr : r < 112) : pad X r x = 0 :=
  dif_neg (by omega)

theorem pad_right {w : ℕ} (X : Fin 2064 → Fin w → EReal) (r x : ℕ) (hx : w ≤ x) : pad X r x = 0 :=
  dif_neg (by omega)

theorem padTT_tok (D : Fin 2064 → Fin 2064 → EReal) (t u : Fin 2064) (r c : ℕ) (hr : r = 112 + t) (hc : c = 112 + u) :
    padTT D r c = D t u := by
  subst hr hc
  have := t.isLt
  have := u.isLt
  rw [padTT, dif_pos ⟨⟨by omega, by omega⟩, by omega, by omega⟩]
  congr 1 <;> exact Fin.ext (by simp)

theorem padTT_front (D : Fin 2064 → Fin 2064 → EReal) (r c : ℕ) (h : r < 112 ∨ c < 112) : padTT D r c = 0 :=
  dif_neg (by omega)

section Tile

variable (Q K : Fin 2064 → Fin 192 → EReal) (V G : Fin 2064 → Fin 128 → EReal)

/-- A matrix over pairs of tokens that is zero at keys after the query. -/
def Causal (D : Fin 2064 → Fin 2064 → EReal) : Prop := ∀ t u, t < u → D t u = 0

theorem ms_late (t u : Fin 2064) (h : t < u) : ms Q K t u = ⊥ := if_neg (not_le.mpr h)

theorem pr_causal : Causal (pr Q K) := fun t u h => prob_bot _ _ (ms_late Q K t u h)

theorem ds_causal : Causal (ds Q K V G) := fun t u h => by
  unfold ds; rw [slope_bot _ _ _ (ms_late Q K t u h), zero_mul]

theorem padTT_late {D : Fin 2064 → Fin 2064 → EReal} (hD : Causal D) (r c : ℕ) (h : r < c) : padTT D r c = 0 := by
  unfold padTT
  split
  · rename_i h'
    exact hD _ _ (by simp only [Fin.lt_def]; omega)
  · rfl

/-- The masked scores of a tile's row, its queries and keys padded. -/
def row (n r : ℕ) : Fin n → EReal :=
  scores r (fun x : Fin 256 => pad Q r x) (fun (c : Fin n) (x : Fin 256) => pad K c x)

/-- The gradients of a tile's row of the softmax. -/
def rowdp (n r : ℕ) (c : Fin n) : EReal := ∑ x : Fin 128, pad G r x * pad V c x

variable {n : ℕ}

theorem row_front (r : ℕ) (c : Fin n) (h : r < 112 ∨ (c : ℕ) < 112) : row Q K n r c = ⊥ :=
  if_neg (by omega)

theorem row_tok (t u : Fin 2064) (r : ℕ) (c : Fin n) (hr : r = 112 + t) (hc : (c : ℕ) = 112 + u) :
    row Q K n r c = ms Q K t u := by
  unfold row scores ms
  by_cases h : u ≤ t
  · rw [if_pos h, if_pos (by rw [Fin.le_def] at h; omega)]
    refine congrArg (· * scale) (sum_lanes _ _ (fun y x hx => ?_) fun x hx => ?_)
    · show pad Q r x * pad K c x = _
      rw [pad_tok Q t y r x hr hx, pad_tok K u y c x hc hx]
    · show pad Q r x * pad K c x = _
      rw [pad_right Q r x hx, zero_mul]
  · rw [if_neg h, if_neg (by rw [Fin.le_def] at h; omega)]

theorem rowdp_tok (t u : Fin 2064) (r : ℕ) (c : Fin n) (hr : r = 112 + t) (hc : (c : ℕ) = 112 + u) :
    rowdp V G n r c = dp V G t u :=
  Finset.sum_congr rfl fun y _ => by rw [pad_tok G t y r y hr rfl, pad_tok V u y c y hc rfl]

theorem top_row (hn : n ≤ 2176) (t : Fin 2064) (r : ℕ) (hr : r = 112 + t) (hrn : r < n) :
    top (row Q K n r) = top (ms Q K t) :=
  top_shift _ _ (fun c h => row_front Q K r c (Or.inr h)) (fun u c h => row_tok Q K t u r c hr h)
    (fun u h => ms_late Q K t u (by rw [Fin.lt_def]; omega)) hn

theorem wt_tok (hn : n ≤ 2176) (t u : Fin 2064) (r : ℕ) (c : Fin n) (hr : r = 112 + t) (hrn : r < n)
    (hc : (c : ℕ) = 112 + u) : wt (row Q K n r) c = wt (ms Q K t) u := by
  unfold wt; rw [top_row Q K hn t r hr hrn, row_tok Q K t u r c hr hc]

theorem prob_tok (hn : n ≤ 2176) (t u : Fin 2064) (r : ℕ) (c : Fin n) (hr : r = 112 + t) (hrn : r < n)
    (hc : (c : ℕ) = 112 + u) : prob (row Q K n r) c = pr Q K t u := by
  unfold pr prob
  rw [wt_tok Q K hn t u r c hr hrn hc, sum_shift hn (wt (row Q K n r)) (wt (ms Q K t))
    (fun c h => wt_bot _ _ (row_front Q K r c (Or.inr h))) (fun u c h => wt_tok Q K hn t u r c hr hrn h)
    (fun u h => wt_bot _ _ (ms_late Q K t u (by rw [Fin.lt_def]; omega)))]

theorem prob_row (hn : n ≤ 2176) (r : ℕ) (hrn : r < n) (c : Fin n) :
    prob (row Q K n r) c = padTT (pr Q K) r c := by
  have := c.isLt
  by_cases h : r < 112 ∨ (c : ℕ) < 112
  · rw [padTT_front _ _ _ h, prob_bot _ _ (row_front Q K r c h)]
  · rw [prob_tok Q K hn ⟨r - 112, by omega⟩ ⟨c - 112, by omega⟩ r c (by simp; omega) hrn (by simp; omega),
      padTT_tok _ ⟨r - 112, by omega⟩ ⟨c - 112, by omega⟩ r c (by simp; omega) (by simp; omega)]

theorem slope_row (hn : n ≤ 2176) (r : ℕ) (hrn : r < n) (c : Fin n) :
    slope (row Q K n r) (rowdp V G n r) c * scale = padTT (ds Q K V G) r c := by
  have := c.isLt
  by_cases h : r < 112 ∨ (c : ℕ) < 112
  · rw [padTT_front _ _ _ h, slope_bot _ _ _ (row_front Q K r c h), zero_mul]
  · have hr : r = 112 + ((⟨r - 112, by omega⟩ : Fin 2064) : ℕ) := by simp; omega
    have hc : (c : ℕ) = 112 + ((⟨c - 112, by omega⟩ : Fin 2064) : ℕ) := by simp; omega
    generalize (⟨r - 112, by omega⟩ : Fin 2064) = t at hr
    generalize (⟨c - 112, by omega⟩ : Fin 2064) = u at hc
    rw [padTT_tok _ t u r c hr hc]
    unfold ds slope
    rw [prob_tok Q K hn t u r c hr hrn hc, rowdp_tok V G t u r c hr hc,
      sum_shift hn (fun x => prob (row Q K n r) x * rowdp V G n r x) (fun x => prob (ms Q K t) x * dp V G t x)
        (fun c h => by rw [prob_bot _ _ (row_front Q K r c (Or.inr h)), zero_mul])
        (fun u c h => by rw [prob_tok Q K hn t u r c hr hrn h, rowdp_tok V G t u r c hr h]; rfl)
        (fun u h => by rw [prob_bot _ _ (ms_late Q K t u (by rw [Fin.lt_def]; omega)), zero_mul])]
    rfl

end Tile

/-! ## The products of the gradients -/

/-- A row of the first product: the sum over the keys of a prefix that holds every key of the row. -/
theorem sum_keys {n w : ℕ} (hn : n ≤ 2176) {D : Fin 2064 → Fin 2064 → EReal} (hD : Causal D) (X : Fin 2064 → Fin w → EReal)
    (r x : ℕ) (hrn : r < n) :
    ∑ c : Fin n, padTT D r c * pad X c x = pad (fun t y => ∑ u, D t u * X u y) r x := by
  by_cases hx : w ≤ x
  · rw [pad_right _ _ _ hx]
    exact Finset.sum_eq_zero fun c _ => by rw [pad_right _ _ _ hx, mul_zero]
  by_cases h : r < 112
  · rw [pad_front _ _ _ h]
    exact Finset.sum_eq_zero fun c _ => by rw [padTT_front _ _ _ (Or.inl h), zero_mul]
  have hr : r = 112 + ((⟨r - 112, by omega⟩ : Fin 2064) : ℕ) := by simp; omega
  generalize (⟨r - 112, by omega⟩ : Fin 2064) = t at hr
  have hy : x = ((⟨x, by omega⟩ : Fin w) : ℕ) := rfl
  generalize (⟨x, by omega⟩ : Fin w) = y at hy
  rw [pad_tok _ t y r x hr hy]
  exact sum_shift hn _ _ (fun c hc => by rw [pad_front _ _ _ hc, mul_zero])
    (fun u c hc => by rw [padTT_tok _ t u r c hr hc, pad_tok _ u y c x hc hy])
    (fun u hu => by rw [hD t u (by rw [Fin.lt_def]; omega), zero_mul])

/-- A row of the transposed products: the sum over all queries. -/
theorem sum_queries {w : ℕ} (D : Fin 2064 → Fin 2064 → EReal) (X : Fin 2064 → Fin w → EReal) (c x : ℕ) (hc : c < 2176) :
    ∑ r : Fin 2176, padTT D r c * pad X r x = pad (fun u y => ∑ t, D t u * X t y) c x := by
  by_cases hx : w ≤ x
  · rw [pad_right _ _ _ hx]
    exact Finset.sum_eq_zero fun r _ => by rw [pad_right _ _ _ hx, mul_zero]
  by_cases h : c < 112
  · rw [pad_front _ _ _ h]
    exact Finset.sum_eq_zero fun r _ => by rw [padTT_front _ _ _ (Or.inr h), zero_mul]
  have hc' : c = 112 + ((⟨c - 112, by omega⟩ : Fin 2064) : ℕ) := by simp; omega
  generalize (⟨c - 112, by omega⟩ : Fin 2064) = u at hc'
  have hy : x = ((⟨x, by omega⟩ : Fin w) : ℕ) := rfl
  generalize (⟨x, by omega⟩ : Fin w) = y at hy
  rw [pad_tok _ u y c x hc' hy]
  exact sum_shift le_rfl _ _ (fun r hr => by rw [pad_front _ _ _ hr, mul_zero])
    (fun t r hr => by rw [padTT_tok _ t u r c hr hc', pad_tok _ t y r x hr hy]) (fun t ht => by omega)

/-- The part of a transposed product that one tile of 544 queries gives. -/
def part {w : ℕ} (D : Fin 2064 → Fin 2064 → EReal) (X : Fin 2064 → Fin w → EReal) (b c x : ℕ) : EReal :=
  ∑ a : Fin 544, padTT D (b + a) c * pad X (b + a) x

/-- A tile gives nothing to keys after its last query. -/
theorem part_late {w : ℕ} {D : Fin 2064 → Fin 2064 → EReal} (hD : Causal D) (X : Fin 2064 → Fin w → EReal) (b c x : ℕ)
    (h : b + 544 ≤ c) : part D X b c x = 0 :=
  Finset.sum_eq_zero fun a _ => by rw [padTT_late hD _ _ (by omega), zero_mul]

/-- The four tiles' parts, from the last tile to the first, are the sum over all queries. -/
theorem parts {w : ℕ} (D : Fin 2064 → Fin 2064 → EReal) (X : Fin 2064 → Fin w → EReal) (c x : ℕ) (hc : c < 2176) :
    part D X 1632 c x + part D X 1088 c x + part D X 544 c x + part D X 0 c x
      = pad (fun u y => ∑ t, D t u * X t y) c x := by
  rw [← sum_queries D X c x hc]
  have e (b : ℕ) : part D X b c x = ∑ a ∈ Finset.range 544, padTT D (b + a) c * pad X (b + a) x := by
    rw [Finset.sum_range]; rfl
  simp only [e]
  rw [← Finset.sum_range (n := 2176) (f := fun r => padTT D r c * pad X r x), show 2176 = 544 + (544 + (544 + 544)) from rfl,
    Finset.sum_range_add, Finset.sum_range_add, Finset.sum_range_add]
  simp only [zero_add, ← add_assoc, Nat.reduceAdd]
  abel

/-! ## The gradient as differentiation writes it -/

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section Plain

variable {n : ℕ}

/-- A row of scores none of which is `⊤` and one of which is a number has number weights of a positive sum. -/
theorem wt_real (s : Fin n → EReal) (hs : ∀ c, s c ≠ ⊤) (c₀ : Fin n) (h₀ : s c₀ ≠ ⊥) :
    ∃ w : Fin n → ℝ, (∀ c, wt s c = w c) ∧ 0 < ∑ c, w c := by
  have htop : top s ≠ ⊤ := by
    have : top s < ⊤ := (Finset.fold_max_lt _).mpr ⟨bot_lt_top, fun c _ => lt_top_iff_ne_top.mpr (hs c)⟩
    exact this.ne
  have hbot : top s ≠ ⊥ := by
    have : s c₀ ≤ top s := Finset.le_fold_max _ |>.mpr (Or.inr ⟨c₀, Finset.mem_univ _, le_rfl⟩)
    exact fun h => h₀ (le_bot_iff.mp (h ▸ this))
  obtain ⟨M, hM⟩ : ∃ M : ℝ, top s = M := ⟨_, (EReal.coe_toReal htop hbot).symm⟩
  have e (c : Fin n) : wt s c = ((if s c = ⊥ then 0 else Real.exp ((s c).toReal - M) : ℝ) : EReal) := by
    by_cases h : s c = ⊥
    · rw [wt_bot s c h, if_pos h]; rfl
    · rw [if_neg h, wt, hM]
      conv_lhs => rw [← EReal.coe_toReal (hs c) h, ← EReal.coe_sub]
      rfl
  refine ⟨_, e, ?_⟩
  refine Finset.sum_pos' (fun c _ => ?_) ⟨c₀, Finset.mem_univ _, ?_⟩
  · split
    · exact le_rfl
    · exact (Real.exp_pos _).le
  · rw [if_neg h₀]; exact Real.exp_pos _

theorem prob_plain (s : Fin n → EReal) (hs : ∀ c, s c ≠ ⊤) (c₀ : Fin n) (h₀ : s c₀ ≠ ⊥) (c : Fin n) :
    prob s c = Ideal.div (wt s c) (∑ x, wt s x) := by
  obtain ⟨w, hw, hS⟩ := wt_real s hs c₀ h₀
  have e : ∑ x, wt s x = ((∑ x, w x : ℝ) : EReal) := by rw [← sum_coe]; exact Finset.sum_congr rfl fun x _ => hw x
  rw [prob, e, Ideal.div_coe hS.ne', Ideal.div_coe hS.ne', one_mul]

theorem slope_plain (s : Fin n → EReal) (hs : ∀ c, s c ≠ ⊤) (c₀ : Fin n) (h₀ : s c₀ ≠ ⊥) (g : Fin n → ℝ) (c : Fin n) :
    slope s (fun x => (g x : EReal)) c
      = (Ideal.div (g c) (∑ x, wt s x) + -(∑ x, (g x : EReal) * Ideal.div 1 ((∑ x, wt s x) * ∑ x, wt s x) * wt s x))
        * wt s c := by
  obtain ⟨w, hw, hS⟩ := wt_real s hs c₀ h₀
  have e : ∑ x, wt s x = ((∑ x, w x : ℝ) : EReal) := by rw [← sum_coe]; exact Finset.sum_congr rfl fun x _ => hw x
  unfold slope prob
  rw [e]
  generalize (∑ x, w x) = S at hS
  rw [← EReal.coe_mul, Ideal.div_coe hS.ne', Ideal.div_coe hS.ne', Ideal.div_coe (mul_pos hS hS).ne']
  simp only [hw, one_mul]
  simp only [← EReal.coe_mul, sum_coe, ← EReal.coe_sub, ← EReal.coe_neg, ← EReal.coe_add]
  refine congrArg _ ?_
  have h1 : ∑ x, w x * (1 / S) * g x = (∑ x, g x * w x) / S := by
    rw [Finset.sum_div]; exact Finset.sum_congr rfl fun x _ => by ring
  have h2 : ∑ x, g x * (1 / (S * S)) * w x = (∑ x, g x * w x) / (S * S) := by
    rw [Finset.sum_div]; exact Finset.sum_congr rfl fun x _ => by ring
  rw [h1, h2]
  field_simp
  ring

end Plain

section Finite

variable {Q K : Fin 2064 → Fin 192 → EReal} {V G : Fin 2064 → Fin 128 → EReal}

/-- Rows of numbers. -/
def Finite {w : ℕ} (X : Fin 2064 → Fin w → EReal) : Prop := ∀ t x, ∃ r : ℝ, X t x = r

theorem dot_real {w : ℕ} {X Y : Fin 2064 → Fin w → EReal} (hX : Finite X) (hY : Finite Y) (t u : Fin 2064) :
    ∃ r : ℝ, ∑ x, X t x * Y u x = r := by
  choose f hf using hX
  choose g hg using hY
  exact ⟨∑ x, f t x * g u x, by rw [← sum_coe]; exact Finset.sum_congr rfl fun x _ => by rw [hf, hg, EReal.coe_mul]⟩

theorem ms_ne_top (hQ : Finite Q) (hK : Finite K) (t u : Fin 2064) : ms Q K t u ≠ ⊤ := by
  obtain ⟨r, hr⟩ := dot_real hQ hK t u
  unfold ms scale
  split
  · rw [hr, ← EReal.coe_mul]; exact EReal.coe_ne_top _
  · exact bot_ne_top

theorem ms_self (hQ : Finite Q) (hK : Finite K) (t : Fin 2064) : ms Q K t t ≠ ⊥ := by
  obtain ⟨r, hr⟩ := dot_real hQ hK t t
  unfold ms scale
  rw [if_pos le_rfl, hr, ← EReal.coe_mul]
  exact EReal.coe_ne_bot _

theorem pr_plain (hQ : Finite Q) (hK : Finite K) (t u : Fin 2064) :
    pr Q K t u = Ideal.div (wt (ms Q K t) u) (∑ x, wt (ms Q K t) x) :=
  prob_plain _ (ms_ne_top hQ hK t) t (ms_self hQ hK t) u

theorem ds_plain (hQ : Finite Q) (hK : Finite K) (hV : Finite V) (hG : Finite G) (t u : Fin 2064) :
    ds Q K V G t u = (if u ≤ t then (Ideal.div (dp V G t u) (∑ x, wt (ms Q K t) x)
      + -(∑ x, dp V G t x * Ideal.div 1 ((∑ x, wt (ms Q K t) x) * ∑ x, wt (ms Q K t) x) * wt (ms Q K t) x)) * wt (ms Q K t) u
        else 0) * scale := by
  choose g hg using fun u => dot_real hG hV t u
  have e : dp V G t = fun u => (g u : EReal) := funext hg
  unfold ds
  refine congrArg (· * scale) ?_
  by_cases h : u ≤ t
  · rw [if_pos h, e]
    exact slope_plain _ (ms_ne_top hQ hK t) t (ms_self hQ hK t) g u
  · rw [if_neg h]
    exact slope_bot _ _ _ (ms_late Q K t u (not_le.mp h))

end Finite

end Cert.Attn
-- ==== Proof.Attention.Tile.lean ====
/- The four row tiles of the attention's backward kernel: what each printed payload is at an index, as the row
   functions of `Cert.Attn` over queries, keys, values and cotangents in the padded layout. -/
module

public import proofs.«01_k».proof.Proof.Gen.KernelIdeal.Skeleton
public import proofs.«01_k».proof.Proof.Attention.Core
public import Idealize.ShloMosaic.Lib.WordCmp

@[expose] public section

set_option maxRecDepth 16384

noncomputable section

open Idealize.ShloMosaic Idealize.ShloMosaic.TcCoe Idealize.SL.Sem

namespace Cert.KernelIdeal.Tile

open Cert.KernelIdeal Cert.KernelIdeal.Gen Cert.Attn

theorem named_s : Named.named (F := Ideal) κ "s" (φ := .f32) 0x3D93CD3A#32 = scale :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem ofBits_ninf : Ideal.ofBits .f32 0xFF800000#32 = ⊥ := by simp [Ideal.ofBits, Ideal.ieee]

/-- The printed mask at row `b + a` and key `c`. -/
theorem mask (n : ℕ) (hn : n ≤ 2176) (b : ℕ) (hb : b ≤ 1632) (a : Fin 544) (c : Fin n) (x y : EReal) :
    Scalar.select (IntOp.andi (IntOp.cmpi .sle (BitVec.ofNat 32 (c : ℕ)) (IntOp.addi (BitVec.ofNat 32 b) (BitVec.ofNat 32 (a : ℕ))))
      (IntOp.cmpi .sge (BitVec.ofNat 32 (c : ℕ)) 112#32)) x y = if (c : ℕ) ≤ b + (a : ℕ) ∧ 112 ≤ (c : ℕ) then x else y := by
  have := c.isLt
  unfold Scalar.select
  have e : IntOp.andi (IntOp.cmpi .sle (BitVec.ofNat 32 (c : ℕ)) (IntOp.addi (BitVec.ofNat 32 b) (BitVec.ofNat 32 (a : ℕ))))
      (IntOp.cmpi .sge (BitVec.ofNat 32 (c : ℕ)) 112#32) = 1#1 ↔ (c : ℕ) ≤ b + (a : ℕ) ∧ 112 ≤ (c : ℕ) := by
    have h (p r : BitVec 1) : IntOp.andi p r = 1#1 ↔ p = 1#1 ∧ r = 1#1 := by revert p r; decide
    rw [h]
    rw [WordCmp.addi_ofNat, WordCmp.cmpi_sle_ofNat_eq_one_iff (by norm_num; omega) (by norm_num; omega),
      WordCmp.cmpi_sge_ofNat_eq_one_iff (by norm_num; omega) (by norm_num)]
  exact if_congr e rfl rfl

variable {Q K : Fin 2064 → Fin 192 → EReal} {V G : Fin 2064 → Fin 128 → EReal}

section Tile0

variable (q : FVec Ideal S544x256 .bf16) (k : FVec Ideal S2176x256 .bf16) (g : FVec Ideal S544x128 .f32)
  (v : FVec Ideal S2176x128 .bf16)

theorem pay4_at (hq : ∀ a x, q (ix2 a x) = pad Q (1632 + a) x) (hk : ∀ c x, k (ix2 c x) = pad K c x)
    (a : Fin 544) (c : Fin 2176) : k0_pay4 (F := Ideal) q k (ix2 a c) = padTT (pr Q K) (1632 + a) c := by
  refine Eq.trans ?_ (prob_row Q K (n := 2176) (by omega) (1632 + (a : ℕ)) (by omega) c)
  pointwise [k0_pay4, k0_pay1, k0_pay2]
  simp only [mask 2176 (by omega) 1632 (by omega), named_s, named_mask, ofBits_ninf, hq, hk]
  rfl

theorem pay6_at (hq : ∀ a x, q (ix2 a x) = pad Q (1632 + a) x) (hk : ∀ c x, k (ix2 c x) = pad K c x)
    (hg : ∀ a x, g (ix2 a x) = pad G (1632 + a) x) (hv : ∀ c x, v (ix2 c x) = pad V c x)
    (a : Fin 544) (c : Fin 2176) :
    k0_pay6 (F := Ideal) (k0_pay5 q k g v) (Named.named κ "s" 0x3D93CD3A#32) (ix2 a c) = padTT (ds Q K V G) (1632 + a) c := by
  refine Eq.trans ?_ (slope_row Q K V G (n := 2176) (by omega) (1632 + (a : ℕ)) (by omega) c)
  pointwise [k0_pay6, k0_pay5, k0_pay3]
  simp only [named_s, pay4_at q k hq hk, hg, hv, ← prob_row Q K le_rfl (1632 + (a : ℕ)) (by omega)]
  rfl

theorem pay7_at (hq : ∀ a x, q (ix2 a x) = pad Q (1632 + a) x) (hk : ∀ c x, k (ix2 c x) = pad K c x)
    (hg : ∀ a x, g (ix2 a x) = pad G (1632 + a) x) (hv : ∀ c x, v (ix2 c x) = pad V c x)
    (a : Fin 544) (x : Fin 256) :
    k0_pay7 (F := Ideal) (k0_pay2 k) (k0_pay5 q k g v) (Named.named κ "s" 0x3D93CD3A#32) (ix2 a x)
      = pad (fun t y => ∑ u, ds Q K V G t u * K u y) (1632 + a) x := by
  refine Eq.trans ?_ (sum_keys (le_refl 2176) (ds_causal Q K V G) K (1632 + (a : ℕ)) x (by omega : 1632 + (a : ℕ) < 2176))
  pointwise [k0_pay7, k0_pay2]
  simp only [pay6_at q k g v hq hk hg hv, hk]

theorem pay8_at (hq : ∀ a x, q (ix2 a x) = pad Q (1632 + a) x) (hk : ∀ c x, k (ix2 c x) = pad K c x)
    (hg : ∀ a x, g (ix2 a x) = pad G (1632 + a) x) (hv : ∀ c x, v (ix2 c x) = pad V c x)
    (c : Fin 2176) (x : Fin 256) :
    k0_pay8 (F := Ideal) (k0_pay1 q) (k0_pay5 q k g v) (Named.named κ "s" 0x3D93CD3A#32) (ix2 c x)
      = part (ds Q K V G) Q 1632 c x := by
  pointwise [k0_pay8, k0_pay1]
  simp only [pay6_at q k g v hq hk hg hv, hq]
  rfl

theorem pay9_at (hq : ∀ a x, q (ix2 a x) = pad Q (1632 + a) x) (hk : ∀ c x, k (ix2 c x) = pad K c x)
    (hg : ∀ a x, g (ix2 a x) = pad G (1632 + a) x) (c : Fin 2176) (x : Fin 128) :
    k0_pay9 (F := Ideal) (k0_pay3 g) (k0_pay4 q k) (ix2 c x) = part (pr Q K) G 1632 c x := by
  pointwise [k0_pay9, k0_pay3]
  simp only [pay4_at q k hq hk, hg]
  rfl

end Tile0

section Tile1

variable (q : FVec Ideal S544x256 .bf16) (k : FVec Ideal S1632x256 .bf16) (g : FVec Ideal S544x128 .f32)
  (v : FVec Ideal S1632x128 .bf16)

theorem pay14_at (hq : ∀ a x, q (ix2 a x) = pad Q (1088 + a) x) (hk : ∀ c x, k (ix2 c x) = pad K c x)
    (a : Fin 544) (c : Fin 1632) : k0_pay14 (F := Ideal) (k0_pay13 q k) (ix2 a c) = padTT (pr Q K) (1088 + a) c := by
  refine Eq.trans ?_ (prob_row Q K (n := 1632) (by omega) (1088 + (a : ℕ)) (by omega) c)
  pointwise [k0_pay14, k0_pay13, k0_pay10, k0_pay11]
  simp only [mask 1632 (by omega) 1088 (by omega), named_s, named_mask, ofBits_ninf, hq, hk]
  rfl

theorem pay15_at (hq : ∀ a x, q (ix2 a x) = pad Q (1088 + a) x) (hk : ∀ c x, k (ix2 c x) = pad K c x)
    (hg : ∀ a x, g (ix2 a x) = pad G (1088 + a) x) (hv : ∀ c x, v (ix2 c x) = pad V c x)
    (a : Fin 544) (c : Fin 1632) :
    k0_pay15 (F := Ideal) (k0_pay12 g) (k0_pay13 q k) v (ix2 a c) = padTT (ds Q K V G) (1088 + a) c := by
  refine Eq.trans ?_ (slope_row Q K V G (n := 1632) (by omega) (1088 + (a : ℕ)) (by omega) c)
  pointwise [k0_pay15, k0_pay12]
  simp only [named_s, pay14_at q k hq hk, hg, hv, ← prob_row Q K (n := 1632) (by omega) (1088 + (a : ℕ)) (by omega)]
  rfl

theorem pay16_at (hq : ∀ a x, q (ix2 a x) = pad Q (1088 + a) x) (hk : ∀ c x, k (ix2 c x) = pad K c x)
    (hg : ∀ a x, g (ix2 a x) = pad G (1088 + a) x) (hv : ∀ c x, v (ix2 c x) = pad V c x)
    (a : Fin 544) (x : Fin 256) :
    k0_pay16 (F := Ideal) (k0_pay11 k) (k0_pay12 g) (k0_pay13 q k) v (ix2 a x)
      = pad (fun t y => ∑ u, ds Q K V G t u * K u y) (1088 + a) x := by
  refine Eq.trans ?_ (sum_keys (n := 1632) (by omega) (ds_causal Q K V G) K (1088 + (a : ℕ)) x (by omega : 1088 + (a : ℕ) < 1632))
  pointwise [k0_pay16, k0_pay11]
  simp only [pay15_at q k g v hq hk hg hv, hk]

theorem pay17_at (hq : ∀ a x, q (ix2 a x) = pad Q (1088 + a) x) (hk : ∀ c x, k (ix2 c x) = pad K c x)
    (hg : ∀ a x, g (ix2 a x) = pad G (1088 + a) x) (hv : ∀ c x, v (ix2 c x) = pad V c x)
    (acc : FVec Ideal S1632x256 .f32) (c : Fin 1632) (x : Fin 256) :
    k0_pay17 (F := Ideal) (k0_pay10 q) (k0_pay12 g) (k0_pay13 q k) v acc (ix2 c x)
      = acc (ix2 c x) + part (ds Q K V G) Q 1088 c x := by
  pointwise [k0_pay17, k0_pay10]
  simp only [pay15_at q k g v hq hk hg hv, hq]
  rfl

theorem pay18_at (hq : ∀ a x, q (ix2 a x) = pad Q (1088 + a) x) (hk : ∀ c x, k (ix2 c x) = pad K c x)
    (hg : ∀ a x, g (ix2 a x) = pad G (1088 + a) x) (acc : FVec Ideal S1632x128 .f32) (c : Fin 1632) (x : Fin 128) :
    k0_pay18 (F := Ideal) (k0_pay12 g) (k0_pay13 q k) acc (ix2 c x) = acc (ix2 c x) + part (pr Q K) G 1088 c x := by
  pointwise [k0_pay18, k0_pay12]
  simp only [pay14_at q k hq hk, hg]
  rfl

end Tile1

section Tile2

variable (q : FVec Ideal S544x256 .bf16) (k : FVec Ideal S1088x256 .bf16) (g : FVec Ideal S544x128 .f32)
  (v : FVec Ideal S1088x128 .bf16)

theorem pay22_at (hq : ∀ a x, q (ix2 a x) = pad Q (544 + a) x) (hk : ∀ c x, k (ix2 c x) = pad K c x)
    (a : Fin 544) (c : Fin 1088) : k0_pay22 (F := Ideal) q k (ix2 a c) = padTT (pr Q K) (544 + a) c := by
  refine Eq.trans ?_ (prob_row Q K (n := 1088) (by omega) (544 + (a : ℕ)) (by omega) c)
  pointwise [k0_pay22, k0_pay19, k0_pay20]
  simp only [mask 1088 (by omega) 544 (by omega), named_s, named_mask, ofBits_ninf, hq, hk]
  rfl

theorem pay23_at (hq : ∀ a x, q (ix2 a x) = pad Q (544 + a) x) (hk : ∀ c x, k (ix2 c x) = pad K c x)
    (hg : ∀ a x, g (ix2 a x) = pad G (544 + a) x) (hv : ∀ c x, v (ix2 c x) = pad V c x)
    (a : Fin 544) (c : Fin 1088) :
    k0_pay23 (F := Ideal) q k g v (ix2 a c) = padTT (ds Q K V G) (544 + a) c := by
  refine Eq.trans ?_ (slope_row Q K V G (n := 1088) (by omega) (544 + (a : ℕ)) (by omega) c)
  pointwise [k0_pay23, k0_pay21]
  simp only [named_s, pay22_at q k hq hk, hg, hv, ← prob_row Q K (n := 1088) (by omega) (544 + (a : ℕ)) (by omega)]
  rfl

theorem pay25_at (hq : ∀ a x, q (ix2 a x) = pad Q (544 + a) x) (hk : ∀ c x, k (ix2 c x) = pad K c x)
    (hg : ∀ a x, g (ix2 a x) = pad G (544 + a) x) (hv : ∀ c x, v (ix2 c x) = pad V c x)
    (a : Fin 544) (x : Fin 256) :
    k0_pay25 (F := Ideal) (k0_pay20 k) (k0_pay24 q k g v) (constant S544x256 .f32 0x00000000#32) (ix2 a x)
      = pad (fun t y => ∑ u, ds Q K V G t u * K u y) (544 + a) x := by
  refine Eq.trans ?_ (sum_keys (n := 1088) (by omega) (ds_causal Q K V G) K (544 + (a : ℕ)) x (by omega : 544 + (a : ℕ) < 1088))
  pointwise [k0_pay25, k0_pay24, k0_pay20]
  simp only [pay23_at q k g v hq hk hg hv, hk]

theorem pay26_at (hq : ∀ a x, q (ix2 a x) = pad Q (544 + a) x) (hk : ∀ c x, k (ix2 c x) = pad K c x)
    (hg : ∀ a x, g (ix2 a x) = pad G (544 + a) x) (hv : ∀ c x, v (ix2 c x) = pad V c x)
    (acc : FVec Ideal S1088x256 .f32) (c : Fin 1088) (x : Fin 256) :
    k0_pay26 (F := Ideal) (k0_pay19 q) (k0_pay23 q k g v) acc (ix2 c x)
      = acc (ix2 c x) + part (ds Q K V G) Q 544 c x := by
  pointwise [k0_pay26, k0_pay19]
  simp only [pay23_at q k g v hq hk hg hv, hq]
  rfl

theorem pay27_at (hq : ∀ a x, q (ix2 a x) = pad Q (544 + a) x) (hk : ∀ c x, k (ix2 c x) = pad K c x)
    (hg : ∀ a x, g (ix2 a x) = pad G (544 + a) x) (acc : FVec Ideal S1088x128 .f32) (c : Fin 1088) (x : Fin 128) :
    k0_pay27 (F := Ideal) (k0_pay21 g) (k0_pay22 q k) acc (ix2 c x) = acc (ix2 c x) + part (pr Q K) G 544 c x := by
  pointwise [k0_pay27, k0_pay21]
  simp only [pay22_at q k hq hk, hg]
  rfl

end Tile2

section Tile3

variable (q : FVec Ideal S544x256 .bf16) (k : FVec Ideal S544x256 .bf16) (g : FVec Ideal S544x128 .f32)
  (v : FVec Ideal S544x128 .bf16)

theorem pay32_at (hq : ∀ a x, q (ix2 a x) = pad Q a x) (hk : ∀ c x, k (ix2 c x) = pad K c x)
    (a : Fin 544) (c : Fin 544) : k0_pay32 (F := Ideal) (k0_pay31 q k) (ix2 a c) = padTT (pr Q K) a c := by
  refine Eq.trans ?_ (prob_row Q K (n := 544) (by omega) a (by omega) c)
  pointwise [k0_pay32, k0_pay31, k0_pay28, k0_pay29]
  simp only [mask 544 (by omega) 0 (by omega), zero_add, named_s, named_mask, ofBits_ninf, hq, hk]
  rfl

theorem pay33_at (hq : ∀ a x, q (ix2 a x) = pad Q a x) (hk : ∀ c x, k (ix2 c x) = pad K c x)
    (hg : ∀ a x, g (ix2 a x) = pad G a x) (hv : ∀ c x, v (ix2 c x) = pad V c x)
    (a : Fin 544) (c : Fin 544) :
    k0_pay33 (F := Ideal) (k0_pay30 g) (k0_pay31 q k) v (ix2 a c) = padTT (ds Q K V G) a c := by
  refine Eq.trans ?_ (slope_row Q K V G (n := 544) (by omega) a (by omega) c)
  pointwise [k0_pay33, k0_pay30]
  simp only [named_s, pay32_at q k hq hk, hg, hv, ← prob_row Q K (n := 544) (by omega) a (by omega)]
  rfl

theorem pay34_at (hq : ∀ a x, q (ix2 a x) = pad Q a x) (hk : ∀ c x, k (ix2 c x) = pad K c x)
    (hg : ∀ a x, g (ix2 a x) = pad G a x) (hv : ∀ c x, v (ix2 c x) = pad V c x)
    (a : Fin 544) (x : Fin 256) :
    k0_pay34 (F := Ideal) (k0_pay29 k) (k0_pay30 g) (k0_pay31 q k) v (ix2 a x)
      = pad (fun t y => ∑ u, ds Q K V G t u * K u y) a x := by
  refine Eq.trans ?_ (sum_keys (n := 544) (by omega) (ds_causal Q K V G) K a x (a.isLt))
  pointwise [k0_pay34, k0_pay29]
  simp only [pay33_at q k g v hq hk hg hv, hk]

theorem pay35_at (hq : ∀ a x, q (ix2 a x) = pad Q a x) (hk : ∀ c x, k (ix2 c x) = pad K c x)
    (hg : ∀ a x, g (ix2 a x) = pad G a x) (hv : ∀ c x, v (ix2 c x) = pad V c x)
    (acc : FVec Ideal S544x256 .f32) (c : Fin 544) (x : Fin 256) :
    k0_pay35 (F := Ideal) (k0_pay28 q) (k0_pay30 g) (k0_pay31 q k) v acc (ix2 c x)
      = acc (ix2 c x) + part (ds Q K V G) Q 0 c x := by
  pointwise [k0_pay35, k0_pay28]
  simp only [pay33_at q k g v hq hk hg hv, hq]
  unfold part; simp only [zero_add]

theorem pay36_at (hq : ∀ a x, q (ix2 a x) = pad Q a x) (hk : ∀ c x, k (ix2 c x) = pad K c x)
    (hg : ∀ a x, g (ix2 a x) = pad G a x) (acc : FVec Ideal S544x128 .f32) (c : Fin 544) (x : Fin 128) :
    k0_pay36 (F := Ideal) (k0_pay30 g) (k0_pay31 q k) acc (ix2 c x) = acc (ix2 c x) + part (pr Q K) G 0 c x := by
  pointwise [k0_pay36, k0_pay30]
  simp only [pay32_at q k hq hk, hg]
  unfold part; simp only [zero_add]

end Tile3

end Cert.KernelIdeal.Tile
-- ==== Proof.Attention.Out.lean ====
module

public import proofs.«01_k».proof.Proof.Gen.KernelIdeal.Value
public import proofs.«01_k».proof.Proof.Attention.Tile
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Out

open Cert.KernelIdeal Cert.KernelIdeal.Gen Cert.Attn Cert.KernelIdeal.Tile

/-! ## Loads of rows and stores over a prefix of the rows -/

section Rows

variable {N w : ℕ}

/-- A load of `n` rows from row `b` on, at an index. -/
theorem ld_rows {Val : EltTy → Type} {e : EltTy} (X : (⟨2, ![N, w]⟩ : Shape).Idx → Val e) (b n : ℕ)
    (inb : ∀ a, (![b, 0] : Fin 2 → ℕ) a + (![n, w] : Fin 2 → ℕ) a ≤ (⟨2, ![N, w]⟩ : Shape).size a) (a : Fin n) (x : Fin w) :
    View.ld X (Rect.unit (s := ⟨2, ![N, w]⟩) ![b, 0] ![n, w] inb) (ix2 a x)
      = X (ix2 ⟨b + a, lt_of_lt_of_le (Nat.add_lt_add_left a.isLt b) (inb 0)⟩ x) :=
  congrArg X (funext fun d => by fin_cases d <;> exact Fin.ext (by simp [Rect.emb, Rect.unit, ix2]))

/-- A load of the first `n` rows, at an index. -/
theorem ld_prefix {Val : EltTy → Type} {e : EltTy} (X : (⟨2, ![N, w]⟩ : Shape).Idx → Val e) (n : ℕ)
    (inb : ∀ a, (![0, 0] : Fin 2 → ℕ) a + (![n, w] : Fin 2 → ℕ) a ≤ (⟨2, ![N, w]⟩ : Shape).size a) (a : Fin n) (x : Fin w) :
    View.ld X (Rect.unit (s := ⟨2, ![N, w]⟩) ![0, 0] ![n, w] inb) (ix2 a x)
      = X (ix2 ⟨a, lt_of_lt_of_le a.isLt (by have := inb 0; simpa using this)⟩ x) :=
  congrArg X (funext fun d => by fin_cases d <;> exact Fin.ext (by simp [Rect.emb, Rect.unit, ix2]))

/-- Loads of rows of a padded array read the padded rows. -/
theorem rows16 {w' : ℕ} (X : FVec Ideal ⟨2, ![N, w]⟩ .bf16) (Y : Fin 2064 → Fin w' → EReal) (hX : ∀ a x, X (ix2 a x) = pad Y a x)
    (b n : ℕ) (inb : ∀ a, (![b, 0] : Fin 2 → ℕ) a + (![n, w] : Fin 2 → ℕ) a ≤ (⟨2, ![N, w]⟩ : Shape).size a) (a : Fin n) (x : Fin w) :
    (View.ld (Val := Elt Ideal) (e' := .bf16) X (Rect.unit (s := ⟨2, ![N, w]⟩) ![b, 0] ![n, w] inb) (ix2 a x) : EReal) = pad Y (b + a) x :=
  (ld_rows (Val := Elt Ideal) (e := .bf16) X b n inb a x).trans (hX _ x)

theorem prefix16 {w' : ℕ} (X : FVec Ideal ⟨2, ![N, w]⟩ .bf16) (Y : Fin 2064 → Fin w' → EReal) (hX : ∀ a x, X (ix2 a x) = pad Y a x)
    (n : ℕ) (inb : ∀ a, (![0, 0] : Fin 2 → ℕ) a + (![n, w] : Fin 2 → ℕ) a ≤ (⟨2, ![N, w]⟩ : Shape).size a) (a : Fin n) (x : Fin w) :
    (View.ld (Val := Elt Ideal) (e' := .bf16) X (Rect.unit (s := ⟨2, ![N, w]⟩) ![0, 0] ![n, w] inb) (ix2 a x) : EReal) = pad Y a x :=
  (ld_prefix (Val := Elt Ideal) (e := .bf16) X n inb a x).trans (hX _ x)

theorem rows32 {w' : ℕ} (X : FVec Ideal ⟨2, ![N, w]⟩ .f32) (Y : Fin 2064 → Fin w' → EReal) (hX : ∀ a x, X (ix2 a x) = pad Y a x)
    (b n : ℕ) (inb : ∀ a, (![b, 0] : Fin 2 → ℕ) a + (![n, w] : Fin 2 → ℕ) a ≤ (⟨2, ![N, w]⟩ : Shape).size a) (a : Fin n) (x : Fin w) :
    (View.ld (Val := Elt Ideal) (e' := .f32) X (Rect.unit (s := ⟨2, ![N, w]⟩) ![b, 0] ![n, w] inb) (ix2 a x) : EReal) = pad Y (b + a) x :=
  (ld_rows (Val := Elt Ideal) (e := .f32) X b n inb a x).trans (hX _ x)

theorem prefix32 {w' : ℕ} (X : FVec Ideal ⟨2, ![N, w]⟩ .f32) (Y : Fin 2064 → Fin w' → EReal) (hX : ∀ a x, X (ix2 a x) = pad Y a x)
    (n : ℕ) (inb : ∀ a, (![0, 0] : Fin 2 → ℕ) a + (![n, w] : Fin 2 → ℕ) a ≤ (⟨2, ![N, w]⟩ : Shape).size a) (a : Fin n) (x : Fin w) :
    (View.ld (Val := Elt Ideal) (e' := .f32) X (Rect.unit (s := ⟨2, ![N, w]⟩) ![0, 0] ![n, w] inb) (ix2 a x) : EReal) = pad Y a x :=
  (ld_prefix (Val := Elt Ideal) (e := .f32) X n inb a x).trans (hX _ x)

/-- A store over the first `n` rows of what was there plus `f`, where `f` is zero after those rows, adds `f` everywhere. -/
theorem canon_add {sp : Space} (v : View sig .tc sp ⟨2, ![N, w]⟩ .f32) (n : ℕ)
    (inb : ∀ a, (![0, 0] : Fin 2 → ℕ) a + (![n, w] : Fin 2 → ℕ) a ≤ (⟨2, ![N, w]⟩ : Shape).size a)
    (P : FVec Ideal ⟨2, ![n, w]⟩ .f32) (L : List (View.Piece (Elt Ideal) ⟨2, ![N, w]⟩ .f32)) (f : ℕ → ℕ → EReal)
    (hP : ∀ c x, P (ix2 c x) = v.readCov L (Rect.unit (s := ⟨2, ![N, w]⟩) ![0, 0] ![n, w] inb).toLoadRect (ix2 c x) + f c x)
    (hf : ∀ c x, n ≤ c → f c x = 0) (c : Fin N) (x : Fin w) :
    View.canon (⟨Rect.unit (s := ⟨2, ![N, w]⟩) ![0, 0] ![n, w] inb, P⟩ :: L) (ix2 c x) = (View.canon L (ix2 c x) : EReal) + f c x := by
  by_cases h : (c : ℕ) < n
  · have e : (ix2 c x : (⟨2, ![N, w]⟩ : Shape).Idx)
        = (Rect.unit (s := ⟨2, ![N, w]⟩) ![0, 0] ![n, w] inb).emb (ix2 (⟨c, h⟩ : Fin n) x) :=
      funext fun d => by fin_cases d <;> exact Fin.ext (by simp [Rect.emb, Rect.unit, ix2])
    rw [e, View.canon_cons_emb]
    refine (hP ⟨c, h⟩ x).trans ?_
    rw [View.readCov_eq_canon']
    rfl
  · rw [View.canon_cons_of_not_mem _ _ (fun hm => h (by have := (Rect.mem_set_unit (inb := inb)).mp hm 0; simpa using this.2)),
      hf c x (by omega), add_zero]

end Rows

variable {Q K : Fin 2064 → Fin 192 → EReal} {V G : Fin 2064 → Fin 128 → EReal}

theorem hz : (![0, 0] : Fin 2 → ℕ) = fun _ => 0 := funext fun a => by fin_cases a <;> rfl

section Blocks

variable (c : Dev nD) (i : grid0.Coords)
  (a1 : Memref sig .tc .vmem S2176x256 .bf16) (h1 : a1.IsWhole) (a2 : Memref sig .tc .vmem S2176x256 .bf16) (h2 : a2.IsWhole)
  (a3 : Memref sig .tc .vmem S2176x128 .bf16) (h3 : a3.IsWhole) (a4 : Memref sig .tc .vmem S2176x128 .f32) (h4 : a4.IsWhole)
  (a5 : Memref sig .tc .vmem S2176x256 .f32) (h5 : a5.IsWhole) (a6 : Memref sig .tc .vmem S2176x256 .f32) (h6 : a6.IsWhole)
  (a7 : Memref sig .tc .vmem S2176x128 .f32) (h7 : a7.IsWhole)
  (q k : FVec Ideal S2176x256 .bf16) (v : FVec Ideal S2176x128 .bf16) (g : FVec Ideal S2176x128 .f32)

/-- The block of the queries' gradient. -/
theorem out4_at (hq : ∀ a x, q (ix2 a x) = pad Q a x) (hk : ∀ c x, k (ix2 c x) = pad K c x)
    (hv : ∀ c x, v (ix2 c x) = pad V c x) (hg : ∀ a x, g (ix2 a x) = pad G a x) (r : Fin 2176) (x : Fin 256) :
    out0_A_4 (F := Ideal) c i a1 h1 a2 h2 a3 h3 a4 h4 a5 h5 a6 h6 a7 h7 q k v g (ix2 r x)
      = pad (fun t y => ∑ u, ds Q K V G t u * K u y) r x := by
  frame_out
  canon_tiles y e
  all_goals
    idx_vars y
    have e0' : (r : ℕ) = _ := e0
    have e1' : (x : ℕ) = _ := e1
    rw [e0', e1']
  · exact pay34_at _ _ _ _ (prefix16 q Q hq 544 _) (prefix16 k K hk 544 _)
      (prefix32 g G hg 544 _) (prefix16 v V hv 544 _) y0 y1
  · exact pay25_at _ _ _ _ (rows16 q Q hq 544 544 _) (prefix16 k K hk 1088 _)
      (rows32 g G hg 544 544 _) (prefix16 v V hv 1088 _) y0 y1
  · exact pay16_at _ _ _ _ (rows16 q Q hq 1088 544 _) (prefix16 k K hk 1632 _)
      (rows32 g G hg 1088 544 _) (prefix16 v V hv 1632 _) y0 y1
  · exact pay7_at _ _ _ _ (rows16 q Q hq 1632 544 _) hk
      (rows32 g G hg 1632 544 _) hv y0 y1

/-- The block of the keys' gradient. -/
theorem out5_at (hq : ∀ a x, q (ix2 a x) = pad Q a x) (hk : ∀ c x, k (ix2 c x) = pad K c x)
    (hv : ∀ c x, v (ix2 c x) = pad V c x) (hg : ∀ a x, g (ix2 a x) = pad G a x) (r : Fin 2176) (x : Fin 256) :
    out0_A_5 (F := Ideal) c i a1 h1 a2 h2 a3 h3 a4 h4 a5 h5 a6 h6 a7 h7 q k v g (ix2 r x)
      = pad (fun u y => ∑ t, ds Q K V G t u * Q t y) r x := by
  have hD := ds_causal Q K V G
  refine Eq.trans ?_ (parts (ds Q K V G) Q r x r.isLt)
  frame_out
  refine Eq.trans (canon_add a6.view 544 inb_S2176x256_S544x256_0_0 _ _ (part (ds Q K V G) Q 0) (fun c x => ?_)
    (fun c x h => part_late hD Q _ _ _ (by omega)) r x) (congrArg₂ (· + ·) ?_ rfl)
  · exact pay35_at _ _ _ _ (prefix16 q Q hq 544 _) (prefix16 k K hk 544 _) (prefix32 g G hg 544 _) (prefix16 v V hv 544 _) _ c x
  refine Eq.trans (canon_add a6.view 1088 inb_S2176x256_S1088x256_0_0 _ _ (part (ds Q K V G) Q 544) (fun c x => ?_)
    (fun c x h => part_late hD Q _ _ _ (by omega)) r x) (congrArg₂ (· + ·) ?_ rfl)
  · exact pay26_at _ _ _ _ (rows16 q Q hq 544 544 _) (prefix16 k K hk 1088 _) (rows32 g G hg 544 544 _) (prefix16 v V hv 1088 _) _ c x
  refine Eq.trans (canon_add a6.view 1632 inb_S2176x256_S1632x256_0_0 _ _ (part (ds Q K V G) Q 1088) (fun c x => ?_)
    (fun c x h => part_late hD Q _ _ _ (by omega)) r x) (congrArg₂ (· + ·) ?_ rfl)
  · exact pay17_at _ _ _ _ (rows16 q Q hq 1088 544 _) (prefix16 k K hk 1632 _) (rows32 g G hg 1088 544 _) (prefix16 v V hv 1632 _) _ c x
  refine (congrFun (View.canon_unit_zero (S := S2176x256) hz _ _) _).trans ?_
  exact pay8_at _ _ _ _ (rows16 q Q hq 1632 544 _) hk (rows32 g G hg 1632 544 _) hv r x

/-- The block of the values' gradient. -/
theorem out6_at (hq : ∀ a x, q (ix2 a x) = pad Q a x) (hk : ∀ c x, k (ix2 c x) = pad K c x)
    (hg : ∀ a x, g (ix2 a x) = pad G a x) (r : Fin 2176) (x : Fin 128) :
    out0_A_6 (F := Ideal) c i a1 h1 a2 h2 a3 h3 a4 h4 a5 h5 a6 h6 a7 h7 q k v g (ix2 r x)
      = pad (fun u y => ∑ t, pr Q K t u * G t y) r x := by
  have hD := pr_causal Q K
  refine Eq.trans ?_ (parts (pr Q K) G r x r.isLt)
  frame_out
  refine Eq.trans (canon_add a7.view 544 inb_S2176x128_S544x128_0_0 _ _ (part (pr Q K) G 0) (fun c x => ?_)
    (fun c x h => part_late hD G _ _ _ (by omega)) r x) (congrArg₂ (· + ·) ?_ rfl)
  · exact pay36_at _ _ _ (prefix16 q Q hq 544 _) (prefix16 k K hk 544 _) (prefix32 g G hg 544 _) _ c x
  refine Eq.trans (canon_add a7.view 1088 inb_S2176x128_S1088x128_0_0 _ _ (part (pr Q K) G 544) (fun c x => ?_)
    (fun c x h => part_late hD G _ _ _ (by omega)) r x) (congrArg₂ (· + ·) ?_ rfl)
  · exact pay27_at _ _ _ (rows16 q Q hq 544 544 _) (prefix16 k K hk 1088 _) (rows32 g G hg 544 544 _) _ c x
  refine Eq.trans (canon_add a7.view 1632 inb_S2176x128_S1632x128_0_0 _ _ (part (pr Q K) G 1088) (fun c x => ?_)
    (fun c x h => part_late hD G _ _ _ (by omega)) r x) (congrArg₂ (· + ·) ?_ rfl)
  · exact pay18_at _ _ _ (rows16 q Q hq 1088 544 _) (prefix16 k K hk 1632 _) (rows32 g G hg 1088 544 _) _ c x
  refine (congrFun (View.canon_unit_zero (S := S2176x128) hz _ _) _).trans ?_
  exact pay9_at _ _ _ (rows16 q Q hq 1632 544 _) hk (rows32 g G hg 1632 544 _) r x

end Blocks

end Cert.KernelIdeal.Out
-- ==== Proof.Attention.Entry.lean ====
module

public import proofs.«01_k».proof.Proof.Attention.Out
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Entry

open Cert.KernelIdeal Cert.KernelIdeal.Gen Cert.Attn Cert.KernelIdeal.Out

theorem zero32 : (FloatOps.sitofp (F := Ideal) FTy.f32 (0#32) : EReal) = 0 := by
  show (((0#32 : BitVec 32).toInt : ℝ) : EReal) = 0
  simp

variable (m : (ℓ : Loc nD τ sig) → Buf (Elt Ideal) ℓ)

theorem entry0 (c : Dev nD) (r : Fin 2176) (j : Fin 1024) :
    V m c main_v3 (ix2 r j) = packed 256 (by omega) (head (m ((c : Thread nD τ).loc main_arg0))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem entry1 (c : Dev nD) (r : Fin 2176) (j : Fin 1024) :
    V m c main_v7 (ix2 r j) = packed 256 (by omega) (head (m ((c : Thread nD τ).loc main_arg1))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem entry2 (c : Dev nD) (r : Fin 2176) (j : Fin 512) :
    V m c main_v11 (ix2 r j) = packed 128 (by omega) (head (m ((c : Thread nD τ).loc main_arg2))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem entry3 (c : Dev nD) (r : Fin 2176) (j : Fin 512) :
    V m c main_v14 (ix2 r j) = packed 128 (by omega) (head (m ((c : Thread nD τ).loc main_arg3))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val] ∧ t.val < 4 :=
  (by decide +kernel : ∀ t : Fin grid0.N, _)

/-- The head of a grid point. -/
def hd (t : Fin cfg0.N) : Fin 4 := ⟨t, (idx t).2.2.2.2.2.2.2⟩

def blk0 (c : Dev nD) (t : Fin cfg0.N) : FVec Ideal S2176x256 .bf16 := iblk m c 0 t

theorem block0 (c : Dev nD) (t : Fin cfg0.N) (r : Fin 2176) (x : Fin 256) :
    blk0 m c t (ix2 r x) = Attn.pad (head (m ((c : Thread nD τ).loc main_arg0)) (hd t)) r x := by
  have ht : (t : ℕ) < 4 := (hd t).isLt
  have e : (win0_0.blk t).view.emb (ix2 r x) = ix2 r (⟨t * 256 + x, by omega⟩ : Fin 1024) := by blk_ext [idx t]
  unfold blk0
  blk_simp [iblk]
  rw [e, entry0]
  exact packed_at 256 (by omega) _ (hd t) r x _ _ rfl rfl

def blk1 (c : Dev nD) (t : Fin cfg0.N) : FVec Ideal S2176x256 .bf16 := iblk m c 1 t

theorem block1 (c : Dev nD) (t : Fin cfg0.N) (r : Fin 2176) (x : Fin 256) :
    blk1 m c t (ix2 r x) = Attn.pad (head (m ((c : Thread nD τ).loc main_arg1)) (hd t)) r x := by
  have ht : (t : ℕ) < 4 := (hd t).isLt
  have e : (win0_1.blk t).view.emb (ix2 r x) = ix2 r (⟨t * 256 + x, by omega⟩ : Fin 1024) := by blk_ext [idx t]
  unfold blk1
  blk_simp [iblk]
  rw [e, entry1]
  exact packed_at 256 (by omega) _ (hd t) r x _ _ rfl rfl

def blk2 (c : Dev nD) (t : Fin cfg0.N) : FVec Ideal S2176x128 .bf16 := iblk m c 2 t

theorem block2 (c : Dev nD) (t : Fin cfg0.N) (r : Fin 2176) (x : Fin 128) :
    blk2 m c t (ix2 r x) = Attn.pad (head (m ((c : Thread nD τ).loc main_arg2)) (hd t)) r x := by
  have ht : (t : ℕ) < 4 := (hd t).isLt
  have e : (win0_2.blk t).view.emb (ix2 r x) = ix2 r (⟨t * 128 + x, by omega⟩ : Fin 512) := by blk_ext [idx t]
  unfold blk2
  blk_simp [iblk]
  rw [e, entry2]
  exact packed_at 128 (by omega) _ (hd t) r x _ _ rfl rfl

def blk3 (c : Dev nD) (t : Fin cfg0.N) : FVec Ideal S2176x128 .f32 := iblk m c 3 t

theorem block3 (c : Dev nD) (t : Fin cfg0.N) (r : Fin 2176) (x : Fin 128) :
    blk3 m c t (ix2 r x) = Attn.pad (head (m ((c : Thread nD τ).loc main_arg3)) (hd t)) r x := by
  have ht : (t : ℕ) < 4 := (hd t).isLt
  have e : (win0_3.blk t).view.emb (ix2 r x) = ix2 r (⟨t * 128 + x, by omega⟩ : Fin 512) := by blk_ext [idx t]
  unfold blk3
  blk_simp [iblk]
  rw [e, entry3]
  exact packed_at 128 (by omega) _ (hd t) r x _ _ rfl rfl

end Cert.KernelIdeal.Entry
-- ==== Proof.Attention.Final.lean ====
module

public import proofs.«01_k».proof.Proof.Attention.Entry

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.Attn Cert.KernelIdeal.Out Cert.KernelIdeal.Entry

variable (m : (ℓ : Loc nD τ sig) → Buf (Elt Ideal) ℓ)

/-- The queries' gradient. -/
theorem left4 (c : Dev nD) (t : Fin cfg0.N) (r : Fin 2176) (x : Fin 256) : (outsAt0 m c t).1 (ix2 r x)
    = Attn.pad (fun a y => ∑ u, ds (head (m ((c : Thread nD τ).loc main_arg0)) (hd t)) (head (m ((c : Thread nD τ).loc main_arg1)) (hd t)) (head (m ((c : Thread nD τ).loc main_arg2)) (hd t)) (head (m ((c : Thread nD τ).loc main_arg3)) (hd t)) a u * (head (m ((c : Thread nD τ).loc main_arg1)) (hd t)) u y) r x := by
  have e : (outsAt0 m c t).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (blk0 m c t) (blk1 m c t) (blk2 m c t) (blk3 m c t) := by
    simp only [outsAt0, blk0, blk1, blk2, blk3]
  rw [e]
  exact out4_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 m c t) (blk1 m c t) (blk2 m c t) (blk3 m c t) (block0 m c t) (block1 m c t) (block2 m c t) (block3 m c t) r x

theorem final4 (c : Dev nD) : (dats m 0 c).arrAt 4 (cfgs 0).N
    = fun i : (⟨2, ![2176, 1024]⟩ : Shape).Idx => packed 256 (by omega) (fun h => fun a y => ∑ u, ds (head (m ((c : Thread nD τ).loc main_arg0)) h) (head (m ((c : Thread nD τ).loc main_arg1)) h) (head (m ((c : Thread nD τ).loc main_arg2)) h) (head (m ((c : Thread nD τ).loc main_arg3)) h) a u * (head (m ((c : Thread nD τ).loc main_arg1)) h) u y) (i 0) (i 1) := by
  refine (dats m 0 c).arrAt_eq_of_covers 4 _ (by decide +kernel) fun t _ y => ?_
  have ht : (t : ℕ) < 4 := (hd t).isLt
  idx_vars y
  have e : (win0_4.blk t).view.emb (ix2 y0 y1) = ix2 y0 (⟨t * 256 + y1, by omega⟩ : Fin 1024) := by blk_ext [idx t]
  blk_simp [idx t]
  rw [after0_4, left4]
  exact (congrArg (fun i : (⟨2, ![2176, 1024]⟩ : Shape).Idx => packed 256 (by omega) (fun h => fun a y => ∑ u, ds (head (m ((c : Thread nD τ).loc main_arg0)) h) (head (m ((c : Thread nD τ).loc main_arg1)) h) (head (m ((c : Thread nD τ).loc main_arg2)) h) (head (m ((c : Thread nD τ).loc main_arg3)) h) a u * (head (m ((c : Thread nD τ).loc main_arg1)) h) u y) (i 0) (i 1)) e).trans
    (packed_at 256 (by omega) _ (hd t) y0 y1 _ _ rfl rfl) |>.symm

/-- The keys' gradient. -/
theorem left5 (c : Dev nD) (t : Fin cfg0.N) (r : Fin 2176) (x : Fin 256) : (outsAt0 m c t).2.1 (ix2 r x)
    = Attn.pad (fun u y => ∑ a, ds (head (m ((c : Thread nD τ).loc main_arg0)) (hd t)) (head (m ((c : Thread nD τ).loc main_arg1)) (hd t)) (head (m ((c : Thread nD τ).loc main_arg2)) (hd t)) (head (m ((c : Thread nD τ).loc main_arg3)) (hd t)) a u * (head (m ((c : Thread nD τ).loc main_arg0)) (hd t)) a y) r x := by
  have e : (outsAt0 m c t).2.1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (blk0 m c t) (blk1 m c t) (blk2 m c t) (blk3 m c t) := by
    simp only [outsAt0, blk0, blk1, blk2, blk3]
  rw [e]
  exact out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 m c t) (blk1 m c t) (blk2 m c t) (blk3 m c t) (block0 m c t) (block1 m c t) (block2 m c t) (block3 m c t) r x

theorem final5 (c : Dev nD) : (dats m 0 c).arrAt 5 (cfgs 0).N
    = fun i : (⟨2, ![2176, 1024]⟩ : Shape).Idx => packed 256 (by omega) (fun h => fun u y => ∑ a, ds (head (m ((c : Thread nD τ).loc main_arg0)) h) (head (m ((c : Thread nD τ).loc main_arg1)) h) (head (m ((c : Thread nD τ).loc main_arg2)) h) (head (m ((c : Thread nD τ).loc main_arg3)) h) a u * (head (m ((c : Thread nD τ).loc main_arg0)) h) a y) (i 0) (i 1) := by
  refine (dats m 0 c).arrAt_eq_of_covers 5 _ (by decide +kernel) fun t _ y => ?_
  have ht : (t : ℕ) < 4 := (hd t).isLt
  idx_vars y
  have e : (win0_5.blk t).view.emb (ix2 y0 y1) = ix2 y0 (⟨t * 256 + y1, by omega⟩ : Fin 1024) := by blk_ext [idx t]
  blk_simp [idx t]
  rw [after0_5, left5]
  exact (congrArg (fun i : (⟨2, ![2176, 1024]⟩ : Shape).Idx => packed 256 (by omega) (fun h => fun u y => ∑ a, ds (head (m ((c : Thread nD τ).loc main_arg0)) h) (head (m ((c : Thread nD τ).loc main_arg1)) h) (head (m ((c : Thread nD τ).loc main_arg2)) h) (head (m ((c : Thread nD τ).loc main_arg3)) h) a u * (head (m ((c : Thread nD τ).loc main_arg0)) h) a y) (i 0) (i 1)) e).trans
    (packed_at 256 (by omega) _ (hd t) y0 y1 _ _ rfl rfl) |>.symm

/-- The values' gradient. -/
theorem left6 (c : Dev nD) (t : Fin cfg0.N) (r : Fin 2176) (x : Fin 128) : (outsAt0 m c t).2.2 (ix2 r x)
    = Attn.pad (fun u y => ∑ a, pr (head (m ((c : Thread nD τ).loc main_arg0)) (hd t)) (head (m ((c : Thread nD τ).loc main_arg1)) (hd t)) a u * (head (m ((c : Thread nD τ).loc main_arg3)) (hd t)) a y) r x := by
  have e : (outsAt0 m c t).2.2 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (blk0 m c t) (blk1 m c t) (blk2 m c t) (blk3 m c t) := by
    simp only [outsAt0, blk0, blk1, blk2, blk3]
  rw [e]
  exact out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (blk0 m c t) (blk1 m c t) (blk2 m c t) (blk3 m c t) (block0 m c t) (block1 m c t) (block3 m c t) r x

theorem final6 (c : Dev nD) : (dats m 0 c).arrAt 6 (cfgs 0).N
    = fun i : (⟨2, ![2176, 512]⟩ : Shape).Idx => packed 128 (by omega) (fun h => fun u y => ∑ a, pr (head (m ((c : Thread nD τ).loc main_arg0)) h) (head (m ((c : Thread nD τ).loc main_arg1)) h) a u * (head (m ((c : Thread nD τ).loc main_arg3)) h) a y) (i 0) (i 1) := by
  refine (dats m 0 c).arrAt_eq_of_covers 6 _ (by decide +kernel) fun t _ y => ?_
  have ht : (t : ℕ) < 4 := (hd t).isLt
  idx_vars y
  have e : (win0_6.blk t).view.emb (ix2 y0 y1) = ix2 y0 (⟨t * 128 + y1, by omega⟩ : Fin 512) := by blk_ext [idx t]
  blk_simp [idx t]
  rw [after0_6, left6]
  exact (congrArg (fun i : (⟨2, ![2176, 512]⟩ : Shape).Idx => packed 128 (by omega) (fun h => fun u y => ∑ a, pr (head (m ((c : Thread nD τ).loc main_arg0)) h) (head (m ((c : Thread nD τ).loc main_arg1)) h) a u * (head (m ((c : Thread nD τ).loc main_arg3)) h) a y) (i 0) (i 1)) e).trans
    (packed_at 128 (by omega) _ (hd t) y0 y1 _ _ rfl rfl) |>.symm

end Cert.KernelIdeal.Final
-- ==== Proof.Attention.Ref.lean ====
module

public import proofs.«01_k».proof.Proof.Gen.ReferenceIdeal.Read
public import proofs.«01_k».proof.Proof.Attention.Core
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Read Cert.Attn

variable (q k : FVec Ideal S1x2064x4x192 .f32) (v g : FVec Ideal S1x2064x4x128 .f32)

theorem ofBits_ninf : Ideal.ofBits .f32 0xFF800000#32 = ⊥ := by simp [Ideal.ofBits, Ideal.ieee]

theorem zero32 : (FloatOps.sitofp (F := Ideal) FTy.f32 (0#32) : EReal) = 0 := by
  show (((0#32 : BitVec 32).toInt : ℝ) : EReal) = 0
  simp

theorem ofBits_192 : Ideal.ofBits .f32 0x43400000#32 = ((192 : ℝ) : EReal) := by
  simp [Ideal.ofBits, Ideal.ieee]
  rw [← EReal.coe_mul]
  norm_num

theorem scale_eq : Ideal.div 1 (Ideal.sqrt (Ideal.ofBits .f32 0x43400000#32)) = scale := by
  rw [ofBits_192, Ideal.sqrt_coe, if_neg (by norm_num), Ideal.div_coe (by positivity), one_mul, one_div]
  rfl

/-- The causal mask at query `t` and key `u`. -/
theorem mask (t u : Fin 2064) (x y : EReal) :
    Scalar.select (IntOp.cmpi .sle (BitVec.ofNat 32 (u : ℕ)) (BitVec.ofNat 32 (t : ℕ))) x y = if u ≤ t then x else y := by
  have := t.isLt
  have := u.isLt
  unfold Scalar.select
  exact if_congr ((WordCmp.cmpi_sle_ofNat_eq_one_iff (by norm_num; omega) (by norm_num; omega)).trans Fin.le_def.symm) rfl rfl

theorem v5_at (i : S_.Idx) : val_main_v5 (F := Ideal) i = scale := by
  refine Eq.trans ?_ scale_eq
  pointwise [val_main_v5, val_main_v4, val_main_cst, val_main_cst_0]

theorem v15_at (h : Fin 4) (t u : Fin 2064) : val_main_v15_0 (F := Ideal) q k (ix4 0 h t u) = ms (head q h) (head k h) t u := by
  pointwise [val_main_v15_0, val_main_v7, val_main_v3, val_main_v0, val_main_v1, val_main_v6, val_main_v5, val_main_v4, val_main_cst, val_main_cst_0,
    val_main_v15_1, val_main_v14, val_main_v13, val_main_v12, val_main_v11, val_main_v10, val_main_v9, val_main_v8, val_main_call0_v2, val_main_call0_v0,
    val_main_cst_1]
  rw [mask, scale_eq]
  exact if_congr Iff.rfl rfl ofBits_ninf

theorem v16_at (h : Fin 4) (t : Fin 2064) : val_main_v16 (F := Ideal) q k (ix3 0 h t) = top (ms (head q h) (head k h) t) := by
  pointwise [val_main_v16]
  simp only [v15_at]
  rw [show val_main_cst_2 (F := Ideal) (Shape.Idx.first h_S_) = (⊥ : EReal) from ofBits_ninf]
  rfl

theorem v34_at (h : Fin 4) (t u : Fin 2064) : val_main_v34 (F := Ideal) q k (ix4 0 h t u) = top (ms (head q h) (head k h) t) := by
  rw [val_main_v34_apply, val_main_v33_apply, val_main_v23_apply, val_main_v22_apply, val_main_cst_4_apply]
  have e : idx_main_v33 (idx_main_v34 (ix4 0 h t u)) = ix3 0 h t := funext fun a => by fin_cases a <;> rfl
  rw [e, v16_at]
  show max (Ideal.ofBits .f32 0xFF800000#32) _ = _
  rw [ofBits_ninf]
  exact max_eq_right bot_le

theorem v36_at (h : Fin 4) (t u : Fin 2064) : val_main_v36 (F := Ideal) q k (ix4 0 h t u) = wt (ms (head q h) (head k h) t) u := by
  rw [val_main_v36_apply, val_main_v35_apply, v34_at, v15_at]
  rfl

theorem v37_at (h : Fin 4) (t : Fin 2064) : val_main_v37 (F := Ideal) q k (ix3 0 h t) = ∑ u, wt (ms (head q h) (head k h) t) u := by
  pointwise [val_main_v37]
  simp only [v36_at]
  rw [show val_main_cst_10 (F := Ideal) (Shape.Idx.first h_S_) = (0 : EReal) from Ideal.ofBits_zero_f32, zero_add]

theorem v38_at (h : Fin 4) (t : Fin 2064) : val_main_v38 (F := Ideal) q k (ix4 0 h t 0) = ∑ u, wt (ms (head q h) (head k h) t) u := by
  pointwise [val_main_v38]
  exact v37_at q k h t

theorem v39_at (h : Fin 4) (t u : Fin 2064) : val_main_v39 (F := Ideal) q k (ix4 0 h t u) = ∑ u, wt (ms (head q h) (head k h) t) u := by
  pointwise [val_main_v39]
  exact v38_at q k h t

theorem v56_at (h : Fin 4) (t u : Fin 2064) : val_main_v56 (F := Ideal) q k (ix4 0 h t u) = ∑ u, wt (ms (head q h) (head k h) t) u := by
  pointwise [val_main_v56]
  exact v38_at q k h t

theorem v40_at (h : Fin 4) (t u : Fin 2064) : val_main_v40 (F := Ideal) q k (ix4 0 h t u)
    = Ideal.div (wt (ms (head q h) (head k h) t) u) (∑ u, wt (ms (head q h) (head k h) t) u) := by
  pointwise [val_main_v40]
  rw [v36_at, v39_at]

theorem v49_at (h : Fin 4) (t u : Fin 2064) : val_main_v49 (F := Ideal) v g (ix4 0 h t u) = dp (head v h) (head g h) t u := by
  pointwise [val_main_v49, val_main_v46, val_main_v2]
  rfl

theorem v53_at (h : Fin 4) (t : Fin 2064) : val_main_v53 (F := Ideal) q k v g (ix3 0 h t)
    = ∑ u, dp (head v h) (head g h) t u * Ideal.div 1 ((∑ u, wt (ms (head q h) (head k h) t) u) * ∑ u, wt (ms (head q h) (head k h) t) u)
      * wt (ms (head q h) (head k h) t) u := by
  pointwise [val_main_v53, val_main_v52, val_main_v51, val_main_v50, val_main_v43, val_main_v42, val_main_cst_11, val_main_v41]
  simp only [v49_at, v38_at, v36_at]
  rw [show val_main_cst_12 (F := Ideal) (Shape.Idx.first h_S_) = (0 : EReal) from Ideal.ofBits_zero_f32, zero_add]

theorem v55_at (h : Fin 4) (t : Fin 2064) : val_main_v55 (F := Ideal) q k v g (ix4 0 h t 0) = -val_main_v53 (F := Ideal) q k v g (ix3 0 h t) := by
  pointwise [val_main_v55, val_main_v54]

theorem v58_at (h : Fin 4) (t : Fin 2064) : val_main_v58 (F := Ideal) q k v g (ix2 h t) = -val_main_v53 (F := Ideal) q k v g (ix3 0 h t) := by
  have e : (Finset.univ.filter fun i : S1x4x2064x1.Idx => reducesTo_S1x4x2064x1_S4x2064_d0_3.drop i = ix2 h t) = {ix4 0 h t 0} := by
    ext i
    idx_vars i
    simp only [Finset.mem_filter, Finset.mem_univ, true_and, Finset.mem_singleton]
    constructor
    · intro hi
      have e1 : i1 = h := Fin.ext (congrArg Fin.val (congrFun hi 0))
      have e2 : i2 = t := Fin.ext (congrArg Fin.val (congrFun hi 1))
      rw [e1, e2, Subsingleton.elim i0 0, Subsingleton.elim i3 0]
    · intro hi
      rw [hi]
      exact funext fun a => by fin_cases a <;> rfl
  pointwise [val_main_v58]
  unfold Ideal.hostReduceAdd
  rw [e, Finset.sum_singleton, v55_at]
  rw [show val_main_cst_13 (F := Ideal) (Shape.Idx.first h_S_) = (0 : EReal) from Ideal.ofBits_zero_f32, zero_add]

theorem v65_at (h : Fin 4) (t u : Fin 2064) : val_main_v65 (F := Ideal) q k v g (ix4 0 h t u)
    = (if u ≤ t then (Ideal.div (dp (head v h) (head g h) t u) (∑ u, wt (ms (head q h) (head k h) t) u)
      + -val_main_v53 (F := Ideal) q k v g (ix3 0 h t)) * wt (ms (head q h) (head k h) t) u else 0) * scale := by
  pointwise [val_main_v65, val_main_v63, val_main_v62, val_main_v61, val_main_v60, val_main_v59, val_main_v57, val_main_v64,
    val_main_v15_1, val_main_v14, val_main_v13, val_main_v12, val_main_v11, val_main_v10, val_main_v9, val_main_v8, val_main_call1_v0, val_main_call1_cst]
  rw [mask, v49_at, v56_at, v58_at, v36_at, v5_at]
  by_cases hu : u ≤ t
  · simp only [if_pos hu]
  · simp only [if_neg hu]; rw [zero_mul]

theorem fill2 (i : S_.Idx) : val_main_call2_v0 (F := Ideal) i = (0 : EReal) := zero32

theorem fill3 (i : S_.Idx) : val_main_call3_v0 (F := Ideal) i = (0 : EReal) := zero32

theorem fill4 (i : S_.Idx) : val_main_call4_v0 (F := Ideal) i = (0 : EReal) := zero32

theorem v73_at (r : Fin 2176) (j : Fin 1024) : val_main_v73 (F := Ideal) q k v g (ix2 r j)
    = packed 256 (by omega) (fun h t y => ∑ u, val_main_v65 (F := Ideal) q k v g (ix4 0 h t u) * head k h u y) r j := by
  pointwise [val_main_v73, val_main_v72, val_main_v71, val_main_v70, val_main_v67, val_main_v1]
  refine dite_congr (propext (by omega)) (fun _ => ?_) fun _ => fill2 _
  rfl

theorem v76_at (r : Fin 2176) (j : Fin 1024) : val_main_v76 (F := Ideal) q k v g (ix2 r j)
    = packed 256 (by omega) (fun h u y => ∑ t, val_main_v65 (F := Ideal) q k v g (ix4 0 h t u) * head q h t y) r j := by
  pointwise [val_main_v76, val_main_v75, val_main_v74, val_main_v69, val_main_v66, val_main_v0]
  refine dite_congr (propext (by omega)) (fun _ => ?_) fun _ => fill3 _
  rfl

theorem v79_at (r : Fin 2176) (j : Fin 512) : val_main_v79 (F := Ideal) q k g (ix2 r j)
    = packed 128 (by omega) (fun h u y => ∑ t, val_main_v40 (F := Ideal) q k (ix4 0 h t u) * head g h t y) r j := by
  pointwise [val_main_v79, val_main_v78, val_main_v77, val_main_v68, val_main_v48, val_main_v47, val_main_v46]
  refine dite_congr (propext (by omega)) (fun _ => ?_) fun _ => fill4 _
  exact Finset.sum_congr rfl fun x _ => mul_comm _ _

section Results

variable {q k v g} (hq : ∀ h, Finite (head q h)) (hk : ∀ h, Finite (head k h)) (hv : ∀ h, Finite (head v h)) (hg : ∀ h, Finite (head g h))

include hq hk

theorem weights (h : Fin 4) (t u : Fin 2064) : val_main_v40 (F := Ideal) q k (ix4 0 h t u) = pr (head q h) (head k h) t u :=
  (v40_at q k h t u).trans (pr_plain (hq h) (hk h) t u).symm

/-- The values' gradient. -/
theorem valuesGrad : val_main_v79 (F := Ideal) q k g
    = fun i : (⟨2, ![2176, 512]⟩ : Shape).Idx => packed 128 (by omega) (fun h u y => ∑ a, pr (head q h) (head k h) a u * head g h a y) (i 0) (i 1) := by
  funext i
  idx_vars i
  refine (v79_at q k g i0 i1).trans ?_
  simp only [weights hq hk]

include hv hg

theorem slopes (h : Fin 4) (t u : Fin 2064) : val_main_v65 (F := Ideal) q k v g (ix4 0 h t u)
    = ds (head q h) (head k h) (head v h) (head g h) t u := by
  rw [v65_at, v53_at]
  exact (ds_plain (hq h) (hk h) (hv h) (hg h) t u).symm

/-- The queries' gradient. -/
theorem queriesGrad : val_main_v73 (F := Ideal) q k v g
    = fun i : (⟨2, ![2176, 1024]⟩ : Shape).Idx => packed 256 (by omega)
      (fun h a y => ∑ u, ds (head q h) (head k h) (head v h) (head g h) a u * head k h u y) (i 0) (i 1) := by
  funext i
  idx_vars i
  refine (v73_at q k v g i0 i1).trans ?_
  simp only [slopes hq hk hv hg]

/-- The keys' gradient. -/
theorem keysGrad : val_main_v76 (F := Ideal) q k v g
    = fun i : (⟨2, ![2176, 1024]⟩ : Shape).Idx => packed 256 (by omega)
      (fun h u y => ∑ a, ds (head q h) (head k h) (head v h) (head g h) a u * head q h a y) (i 0) (i 1) := by
  funext i
  idx_vars i
  refine (v76_at q k v g i0 i1).trans ?_
  simp only [slopes hq hk hv hg]

end Results

end Cert.ReferenceIdeal.Ref
-- ==== Proof.Attention.Pre.lean ====
module

public import proofs.«01_k».proof.Proof.Gen.Pre_finite
public import proofs.«01_k».proof.Proof.Attention.Core
public import Idealize.ShloMosaic.Lib.ReduceAll

@[expose] public section

set_option maxRecDepth 16384

noncomputable section

open Idealize.ShloMosaic

namespace Cert.Pre_finite.Read

open Cert.Pre_finite Cert.Pre_finite.Gen Cert.Attn

instance : Subsingleton S_.Idx := ⟨fun _ _ => funext fun a => a.elim0⟩

theorem ofBits_inf : Ideal.ofBits .f32 0x7F800000#32 = ⊤ := by simp [Ideal.ofBits, Ideal.ieee]

theorem real_of_abs_lt (x : EReal) (h : Ideal.cmp .olt (max x (-x)) (Ideal.ofBits .f32 0x7F800000#32) = 1#1) : ∃ r : ℝ, x = r := by
  rw [ofBits_inf] at h
  have h' : max x (-x) < ⊤ := by
    by_contra hn
    simp [Ideal.cmp, hn] at h
  rw [max_lt_iff] at h'
  refine ⟨x.toReal, (EReal.coe_toReal h'.1.ne fun hb => ?_).symm⟩
  rw [hb] at h'
  simp at h'

theorem heads {w : ℕ} (X : FVec Ideal ⟨4, ![1, 2064, 4, w]⟩ .f32)
    (h : ∀ i, Ideal.cmp .olt (max (X i) (-(X i))) (Ideal.ofBits .f32 0x7F800000#32) = 1#1) (n : Fin 4) : Finite (head X n) :=
  fun t x => real_of_abs_lt _ (h (ix4 0 t n x))

theorem finite (q k : FVec Ideal S1x2064x4x192 .f32) (v g : FVec Ideal S1x2064x4x128 .f32) (h : fn (F := Ideal) q k v g = fun _ => 1#1) :
    (∀ n, Finite (head q n)) ∧ (∀ n, Finite (head k n)) ∧ (∀ n, Finite (head v n)) ∧ ∀ n, Finite (head g n) := by
  have h0 := congrFun h ix0
  obtain ⟨h1, hg⟩ := IntOp.andi_eq_one.1 h0
  obtain ⟨h2, hv⟩ := IntOp.andi_eq_one.1 h1
  obtain ⟨hq, hk⟩ := IntOp.andi_eq_one.1 h2
  exact ⟨heads q fun i => Host.reduce_andi_all _ _ _ _ _ hq i, heads k fun i => Host.reduce_andi_all _ _ _ _ _ hk i,
    heads v fun i => Host.reduce_andi_all _ _ _ _ _ hv i, heads g fun i => Host.reduce_andi_all _ _ _ _ _ hg i⟩

end Cert.Pre_finite.Read
-- ==== Proof.Attention.Value.lean ====
/-
The attention backward call's value claim: the three arrays the call returns and the three arrays of the reference are
the same packed gradients, wherever the four argument arrays hold real numbers.
-/
module

public import proofs.«01_k».proof.Defs
public import proofs.«01_k».proof.Proof.Attention.Final
public import proofs.«01_k».proof.Proof.Attention.Ref
public import proofs.«01_k».proof.Proof.Attention.Pre
public import proofs.«01_k».proof.Proof.Gen.Kernel.Frame
public import proofs.«01_k».proof.Proof.Gen.KernelIdeal.Frame

@[expose] public section

set_option maxRecDepth 16384

noncomputable section

open Idealize.ShloMosaic Idealize.ShloMosaic.TcCoe Idealize.SL.Sem

namespace Cert.Attn

/-- The reference ends, with its arguments unchanged and every counter at zero. -/
theorem reference_ends : Cert.quiescent_ReferenceIdeal (hReferenceIdeal := Cert.ReferenceIdeal.Gen.facts) := fun m ρ _ =>
  (θ_run _ _ _).mono (fun r h => ⟨fun c => (h c).2.2.2, sem_eq_zero_of_no_sems rfl r.2⟩) (Cert.ReferenceIdeal.Value.run m ρ)

/-- The kernel's run and the reference's run end with equal gradients of the queries, the keys and the values. -/
theorem gradients : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  refine ⟨_, _, _, Cert.KernelIdeal.Value.run_blocks m ρ, ?_⟩
  refine (θ_run _ _ _).mono (fun r h c => ?_) (Cert.ReferenceIdeal.Value.run m' ρ')
  obtain ⟨hq, hk, hv, hg⟩ := Cert.Pre_finite.Read.finite _ _ _ _ (hpre c)
  obtain ⟨e0, e1, e2, e3⟩ := hag c
  refine ⟨(h c).1.trans ?_, (h c).2.1.trans ?_, (h c).2.2.1.trans ?_, (h c).2.2.2⟩
  · rw [Cert.ReferenceIdeal.Read.val_main_v73_eq, e0, e1, e2, e3]
    exact (Cert.ReferenceIdeal.Ref.queriesGrad hq hk hv hg).trans (Cert.KernelIdeal.Final.final4 m c).symm
  · rw [Cert.ReferenceIdeal.Read.val_main_v76_eq, e0, e1, e2, e3]
    exact (Cert.ReferenceIdeal.Ref.keysGrad hq hk hv hg).trans (Cert.KernelIdeal.Final.final5 m c).symm
  · rw [Cert.ReferenceIdeal.Read.val_main_v79_eq, e0, e1, e3]
    exact (Cert.ReferenceIdeal.Ref.valuesGrad hq hk).trans (Cert.KernelIdeal.Final.final6 m c).symm

end Cert.Attn
-- ==== Proof.Common.Num.lean ====
/- Extended reals that are real numbers: what the finiteness preconditions say, and what sums and products keep. -/
module

public import Idealize.ShloMosaic.Lib.Pointwise
public import Idealize.ShloMosaic.Lib.ReduceAll

@[expose] public section

noncomputable section

open Idealize.ShloMosaic

namespace Cert.Num

/-- An extended real that is a real number. -/
def IsReal (x : EReal) : Prop := ∃ r : ℝ, x = r

theorem IsReal.coe (r : ℝ) : IsReal r := ⟨r, rfl⟩
theorem IsReal.zero : IsReal 0 := ⟨0, rfl⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem ofBits_inf : Ideal.ofBits .f32 0x7F800000#32 = ⊤ := by simp [Ideal.ofBits, Ideal.ieee]

/-- What the comparison `|x| < ∞` of a finiteness precondition says. -/
theorem isReal_of_abs_lt (x : EReal) (h : Ideal.cmp .olt (max x (-x)) (Ideal.ofBits .f32 0x7F800000#32) = 1#1) : IsReal x := by
  rw [ofBits_inf] at h
  have h' : max x (-x) < ⊤ := by
    by_contra hn
    simp [Ideal.cmp, hn] at h
  rw [max_lt_iff] at h'
  refine ⟨x.toReal, (EReal.coe_toReal h'.1.ne fun hb => ?_).symm⟩
  rw [hb] at h'
  simp at h'

theorem zero32 : (FloatOps.sitofp (F := Ideal) FTy.f32 (0#32) : EReal) = 0 := by
  show (((0#32 : BitVec 32).toInt : ℝ) : EReal) = 0
  simp

end Cert.Num
-- ==== Proof.Gate.Core.lean ====
/- The convolved gate `silu(conv(x) + b) · u` of one channel and its gradients, as formulas over the rows of that channel. -/
module

public import proofs.«01_k».proof.Proof.Common.Num

@[expose] public section

noncomputable section

open Idealize.ShloMosaic

namespace Cert.Conv

open Cert.Num

/-- A column of 2176 rows, read at any row: zero past the last one. -/
def ext (x : Fin 2176 → EReal) (n : ℕ) : EReal := if h : n < 2176 then x ⟨n, h⟩ else 0

/-- The column `s` rows earlier, zero before the first row. -/
def back (x : Fin 2176 → EReal) (s n : ℕ) : EReal := if s ≤ n then ext x (n - s) else 0

/-- The logistic function as printed. -/
def sg (z : EReal) : EReal := Ideal.div 1 (1 + Ideal.exp (0 - z))

section Channel

variable (x u g : Fin 2176 → EReal) (w : Fin 3 → EReal) (b : EReal)

/-- The gate before its nonlinearity, at row `n`. -/
def act (n : ℕ) : EReal := ((w 0 * back x 2 n + w 1 * back x 1 n) + w 2 * back x 0 n) + b

/-- The gradient of the gate before its nonlinearity. -/
def dact (n : ℕ) : EReal :=
  ext g n * ext u n * (sg (act x w b n) * (1 + act x w b n * (1 - sg (act x w b n))))

/-- The gradient of the convolved column. -/
def dx (n : ℕ) : EReal := (w 0 * dact x u g w b (n + 2) + w 1 * dact x u g w b (n + 1)) + w 2 * dact x u g w b n

/-- The gradient of the other factor. -/
def du (n : ℕ) : EReal := ext g n * (act x w b n * sg (act x w b n))

/-- What row `n` adds to row `e` of the taps' gradient, kept in eight rows. -/
def dwAt (e n : ℕ) : EReal := if e < 3 then dact x u g w b n * back x (2 - e) n else 0

end Channel

theorem ext_lt (x : Fin 2176 → EReal) (n : ℕ) (h : n < 2176) : ext x n = x ⟨n, h⟩ := dif_pos h
theorem ext_fin (x : Fin 2176 → EReal) (n : Fin 2176) : ext x n = x n := ext_lt x n n.isLt
theorem ext_ge (x : Fin 2176 → EReal) (n : ℕ) (h : ¬n < 2176) : ext x n = 0 := dif_neg h

theorem dact_ge (x u g : Fin 2176 → EReal) (w : Fin 3 → EReal) (b : EReal) (n : ℕ) (h : ¬n < 2176) : dact x u g w b n = 0 := by
  unfold dact
  rw [ext_ge g n h, zero_mul, zero_mul]

/-- Over finite numbers the printed derivative of `silu` is the two terms of the product rule. -/
theorem slope_eq {z d : EReal} (hz : IsReal z) (hd : IsReal d) :
    d * sg z + z * d * (sg z * (1 - sg z)) = d * (sg z * (1 + z * (1 - sg z))) := by
  obtain ⟨r, rfl⟩ := hz
  obtain ⟨y, rfl⟩ := hd
  have e : sg (r : EReal) = ((1 / (1 + Real.exp (-r)) : ℝ) : EReal) := by
    unfold sg
    have h0 : (1 + Real.exp (-r) : ℝ) ≠ 0 := by positivity
    rw [show (0 : EReal) - (r : EReal) = ((-r : ℝ) : EReal) by rw [zero_sub, EReal.coe_neg], Ideal.exp_coe,
      show (1 : EReal) + ((Real.exp (-r) : ℝ) : EReal) = ((1 + Real.exp (-r) : ℝ) : EReal) by push_cast; rfl, Ideal.div_coe h0, one_mul]
  rw [e]
  generalize (1 / (1 + Real.exp (-r)) : ℝ) = s
  have : y * s + r * y * (s * (1 - s)) = y * (s * (1 + r * (1 - s))) := by ring
  exact_mod_cast congrArg (Real.toEReal) this

end Cert.Conv
-- ==== Proof.Gate.Tile.lean ====
/- The row block of the convolved gate's backward kernel: its printed payloads at an index, as the formulas of
   `Cert.Conv` at the block's rows. -/
module

public import proofs.«01_k».proof.Proof.Gen.GateIdeal.Skeleton
public import proofs.«01_k».proof.Proof.Gate.Core

@[expose] public section

set_option maxRecDepth 16384

noncomputable section

open Idealize.ShloMosaic Idealize.ShloMosaic.TcCoe Idealize.SL.Sem

namespace Cert.GateIdeal.Tile

open Cert.GateIdeal Cert.GateIdeal.Gen Cert.Conv

theorem first_sel (a : Fin 8) (x : EReal) : Scalar.select (Scalar.cmpi .sgt (BitVec.ofNat 32 (a : ℕ)) 0#32) x 0 = if (a : ℕ) = 0 then 0 else x := by
  have : Scalar.cmpi .sgt (BitVec.ofNat 32 (a : ℕ)) 0#32 = if (a : ℕ) = 0 then 0#1 else 1#1 := by revert a; decide
  rw [this]
  split <;> rfl

theorem last_sel (a : Fin 8) (x : EReal) : Scalar.select (Scalar.cmpi .slt (BitVec.ofNat 32 (a : ℕ)) 7#32) x 0 = if (a : ℕ) = 7 then 0 else x := by
  have : Scalar.cmpi .slt (BitVec.ofNat 32 (a : ℕ)) 7#32 = if (a : ℕ) = 7 then 0#1 else 1#1 := by revert a; decide
  rw [this]
  split <;> rfl

/-- A block of 272 rows of a column with the eight rows before it and the eight after it: block `t` of eight. -/
structure Rows (x : Fin 2176 → EReal) (t : ℕ) (v0 : Fin 272 → EReal) (v2 : Fin 8 → EReal) : Prop where
  cur : ∀ r : Fin 272, v0 r = ext x (272 * t + r)
  next : t ≠ 7 → ∀ r : Fin 8, v2 r = ext x (272 * t + 272 + r)

section

variable {X : Fin 2176 → EReal} (i : grid0.Coords) (v0 : FVec Ideal S272x2816 .f32) (v1 v2 : FVec Ideal S8x2816 .f32) (j : Fin 2816)
  (hx : Rows X (i 0).val (fun r => v0 (ix2 r j)) (fun r => v2 (ix2 r j)))
  (hp : (i 0).val ≠ 0 → ∀ r : Fin 8, v1 (ix2 r j) = ext X (272 * (i 0).val + r - 8))

include hx hp

theorem shift_at (s : ℕ) (hs : s ≤ 2) (a : ℕ) (ha : a < 280) (h7 : a < 272 ∨ (i 0).val ≠ 7) :
    (if h : 8 + a - s < 8 then Scalar.select (Scalar.cmpi .sgt (BitVec.ofNat 32 (i 0).val) 0#32) (v1 (ix2 ⟨8 + a - s, h⟩ j)) 0
      else if h1 : 8 + a - s - 8 < 272 then v0 (ix2 ⟨8 + a - s - 8, h1⟩ j) else v2 (ix2 ⟨8 + a - s - 8 - 272, by omega⟩ j))
      = back X s (272 * (i 0).val + a) := by
  unfold back
  split
  · rename_i h
    rw [first_sel (i 0)]
    split
    · rename_i h0
      rw [if_neg (by omega)]
    · rename_i h0
      rw [if_pos (by omega), hp h0]
      exact congrArg (ext X) (by show 272 * (i 0).val + (8 + a - s) - 8 = _; omega)
  · rename_i h
    rw [if_pos (by omega)]
    split
    · rename_i h1
      exact (hx.cur _).trans (congrArg (ext X) (by show 272 * (i 0).val + (8 + a - s - 8) = _; omega))
    · rename_i h1
      exact (hx.next (by omega) _).trans (congrArg (ext X) (by show 272 * (i 0).val + 272 + (8 + a - s - 8 - 272) = _; omega))

theorem pay10_at (e : Fin 280) (h7 : (e : ℕ) < 272 ∨ (i 0).val ≠ 7) :
    k0_pay10 (F := Ideal) i v0 v1 v2 (ix2 e j) = back X 2 (272 * (i 0).val + e) := by
  refine Eq.trans ?_ (shift_at i v0 v1 v2 j hx hp 2 (by omega) e e.isLt h7)
  pointwise [k0_pay10, k0_pay9]
  have q : (8 + (e : ℕ) + 288 - 2) % 288 = 8 + (e : ℕ) - 2 := by omega
  simp only [q]

theorem pay11_at (e : Fin 280) (h7 : (e : ℕ) < 272 ∨ (i 0).val ≠ 7) :
    k0_pay11 (F := Ideal) i v0 v1 v2 (ix2 e j) = back X 1 (272 * (i 0).val + e) := by
  refine Eq.trans ?_ (shift_at i v0 v1 v2 j hx hp 1 (by omega) e e.isLt h7)
  pointwise [k0_pay11, k0_pay9]
  have q : (8 + (e : ℕ) + 288 - 1) % 288 = 8 + (e : ℕ) - 1 := by omega
  simp only [q]

theorem pay12_at (e : Fin 280) (h7 : (e : ℕ) < 272 ∨ (i 0).val ≠ 7) :
    k0_pay12 (F := Ideal) i v0 v1 v2 (ix2 e j) = back X 0 (272 * (i 0).val + e) := by
  refine Eq.trans ?_ (shift_at i v0 v1 v2 j hx hp 0 (by omega) e e.isLt h7)
  pointwise [k0_pay12, k0_pay9]

variable {W : Fin 3 → EReal} {B : EReal} (v7 : FVec Ideal S8x2816 .f32) (v9 : FVec Ideal S1x2816 .f32)
  (h0 : v7 (ix2 0 j) = W 0) (h1 : v7 (ix2 1 j) = W 1) (h2 : v7 (ix2 2 j) = W 2) (hb : v9 (ix2 0 j) = B)

include h0 h1 h2 hb

theorem act_at (e : Fin 280) (h7 : (e : ℕ) < 272 ∨ (i 0).val ≠ 7) :
    k0_pay13 (F := Ideal) i v0 v1 v2 v7 (ix2 e j) + k0_pay14 (F := Ideal) v9 (ix2 e j) = act X W B (272 * (i 0).val + e) := by
  unfold act
  rw [← pay10_at i v0 v1 v2 j hx hp e h7, ← pay11_at i v0 v1 v2 j hx hp e h7, ← pay12_at i v0 v1 v2 j hx hp e h7, ← h0, ← h1, ← h2, ← hb]
  pointwise [k0_pay13, k0_pay14, k0_pay7]

variable {U G : Fin 2176 → EReal} (v3 : FVec Ideal S272x2816 .f32) (v4 : FVec Ideal S8x2816 .f32) (v5 : FVec Ideal S272x2816 .f32) (v6 : FVec Ideal S8x2816 .f32)
  (hu : Rows U (i 0).val (fun r => v3 (ix2 r j)) (fun r => v4 (ix2 r j)))
  (hg : Rows G (i 0).val (fun r => v5 (ix2 r j)) (fun r => v6 (ix2 r j)))

include hu hg

theorem dact_at (e : Fin 280) :
    k0_pay17 (F := Ideal) v3 v4 v5 (k0_pay8 i v6) (k0_pay13 i v0 v1 v2 v7) (k0_pay14 v9) (ix2 e j) = dact X U G W B (272 * (i 0).val + e) := by
  pointwise [k0_pay17, k0_pay15, k0_pay16, k0_pay8]
  have ls (x : EReal) : Scalar.select (Scalar.cmpi .slt (BitVec.ofNat 32 (i 0).val) 7#32) x 0 = if (i 0).val = 7 then 0 else x := last_sel (i 0) x
  by_cases he : (e : ℕ) < 272
  · rw [dif_pos he, dif_pos he, act_at i v0 v1 v2 j hx hp v7 v9 h0 h1 h2 hb e (.inl he)]
    exact congrArg₂ (fun a b => a * b * _) (hg.cur ⟨e, he⟩) (hu.cur ⟨e, he⟩)
  · rw [dif_neg he, dif_neg he, ls]
    by_cases h7 : (i 0).val = 7
    · rw [if_pos h7, zero_mul, zero_mul, dact_ge _ _ _ _ _ _ (by omega)]
    · rw [if_neg h7, act_at i v0 v1 v2 j hx hp v7 v9 h0 h1 h2 hb e (.inr h7)]
      refine congrArg₂ (fun a b => a * b * _) ((hg.next h7 _).trans ?_) ((hu.next h7 _).trans ?_)
      all_goals exact congrArg (ext _) (by show 272 * (i 0).val + 272 + ((e : ℕ) - 272) = _; omega)

theorem dx_at (e : Fin 272) :
    k0_pay3 (F := Ideal) (k0_pay18 v3 v4 v5 (k0_pay7 v7) (k0_pay8 i v6) (k0_pay13 i v0 v1 v2 v7) (k0_pay14 v9)) (ix2 e j) = dx X U G W B (272 * (i 0).val + e) := by
  have d := dact_at i v0 v1 v2 j hx hp v7 v9 h0 h1 h2 hb v3 v4 v5 v6 hu hg
  pointwise [k0_pay3, k0_pay18, k0_pay7]
  simp only [d, h0, h1, h2, dite_eq_ite, ite_self]
  have q2 : ((e : ℕ) + 280 - 278) % 280 = (e : ℕ) + 2 := by omega
  have q1 : ((e : ℕ) + 280 - 279) % 280 = (e : ℕ) + 1 := by omega
  simp only [q2, q1]
  unfold dx
  have r (k : ℕ) (x : EReal) (hx : ¬ k < 272 → x = dact X U G W B (272 * (i 0).val + k)) :
      (if k < 272 then dact X U G W B (272 * (i 0).val + k) else x) = dact X U G W B (272 * (i 0).val + k) := by
    split
    · rfl
    · rename_i h; exact hx h
  rw [r _ _ (fun h => congrArg _ (by omega)), r _ _ (fun h => congrArg _ (by omega))]
  rfl

theorem du_at (e : Fin 272) :
    k0_pay4 (F := Ideal) (k0_pay19 v5 (k0_pay13 i v0 v1 v2 v7) (k0_pay14 v9)) (ix2 e j) = du X G W B (272 * (i 0).val + e) := by
  have a := act_at i v0 v1 v2 j hx hp v7 v9 h0 h1 h2 hb ⟨e, by omega⟩ (.inl e.isLt)
  pointwise [k0_pay4, k0_pay19, k0_pay15, k0_pay16]
  rw [a]
  exact congrArg (· * _) (hg.cur e)

theorem db_at : k0_pay2 (F := Ideal) (k0_pay17 v3 v4 v5 (k0_pay8 i v6) (k0_pay13 i v0 v1 v2 v7) (k0_pay14 v9)) (ix2 0 j)
    = ∑ e : Fin 272, dact X U G W B (272 * (i 0).val + e) := by
  have d := dact_at i v0 v1 v2 j hx hp v7 v9 h0 h1 h2 hb v3 v4 v5 v6 hu hg
  pointwise [k0_pay2]
  simp only [d]

theorem dw_at (k : Fin 8) : k0_pay1 (F := Ideal) (k0_pay21 v3 v4 v5 (k0_pay8 i v6) (k0_pay10 i v0 v1 v2) (k0_pay13 i v0 v1 v2 v7) (k0_pay14 v9))
      (k0_pay22 v3 v4 v5 (k0_pay8 i v6) (k0_pay11 i v0 v1 v2) (k0_pay13 i v0 v1 v2 v7) (k0_pay14 v9))
      (k0_pay23 v3 v4 v5 (k0_pay8 i v6) (k0_pay12 i v0 v1 v2) (k0_pay13 i v0 v1 v2 v7) (k0_pay14 v9)) (ix2 k j)
    = ∑ e : Fin 272, dwAt X U G W B k (272 * (i 0).val + e) := by
  have d := dact_at i v0 v1 v2 j hx hp v7 v9 h0 h1 h2 hb v3 v4 v5 v6 hu hg
  have t2 := fun e : Fin 272 => pay10_at i v0 v1 v2 j hx hp ⟨e, by omega⟩ (.inl e.isLt)
  have t1 := fun e : Fin 272 => pay11_at i v0 v1 v2 j hx hp ⟨e, by omega⟩ (.inl e.isLt)
  have t0 := fun e : Fin 272 => pay12_at i v0 v1 v2 j hx hp ⟨e, by omega⟩ (.inl e.isLt)
  unfold dwAt
  fin_cases k <;> pointwise [k0_pay1, k0_pay21, k0_pay22, k0_pay23, k0_pay20] <;> simp [d, t0, t1, t2]

end

end Cert.GateIdeal.Tile
-- ==== Proof.Gate.Entry.lean ====
/- The blocks the convolved gate's backward kernel reads at a grid point, as columns of the arguments. -/
module

public import proofs.«01_k».proof.Proof.Gen.GateIdeal.Value
public import proofs.«01_k».proof.Proof.Gate.Tile
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.GateIdeal.Entry

open Cert.GateIdeal Cert.GateIdeal.Gen Cert.Conv Cert.GateIdeal.Tile

variable (m : (ℓ : Loc nD τ sig) → Buf (Elt Ideal) ℓ)

/-- Column `j` of an argument of 2176 rows. -/
def col (A : FVec Ideal S2176x2816 .f32) (j : Fin 2816) (r : Fin 2176) : EReal := A (ix2 r j)

/-- The taps in the eight rows the kernel reads. -/
theorem taps (c : Dev nD) (e' : Fin 3) (j : Fin 2816) :
    V m c main_v0 (ix2 (⟨e', by omega⟩ : Fin 8) j) = m ((c : Thread nD τ).loc main_arg2) (ix2 e' j) := by
  unfold V
  simp only [List.flatten_cons, List.flatten_nil, List.append_nil, List.cons_append, List.nil_append]
  after_reads_at

theorem kept0 (c : Dev nD) (i : S2176x2816.Idx) : V m c main_arg0 i = m ((c : Thread nD τ).loc main_arg0) i := by
  unfold V
  simp only [List.flatten_cons, List.flatten_nil, List.append_nil, List.cons_append, List.nil_append]
  after_reads_at

theorem kept1 (c : Dev nD) (i : S2176x2816.Idx) : V m c main_arg1 i = m ((c : Thread nD τ).loc main_arg1) i := by
  unfold V
  simp only [List.flatten_cons, List.flatten_nil, List.append_nil, List.cons_append, List.nil_append]
  after_reads_at

theorem kept3 (c : Dev nD) (i : S1x2816.Idx) : V m c main_arg3 i = m ((c : Thread nD τ).loc main_arg3) i := by
  unfold V
  simp only [List.flatten_cons, List.flatten_nil, List.append_nil, List.cons_append, List.nil_append]
  after_reads_at

theorem kept4 (c : Dev nD) (i : S2176x2816.Idx) : V m c main_arg4 i = m ((c : Thread nD τ).loc main_arg4) i := by
  unfold V
  simp only [List.flatten_cons, List.flatten_nil, List.append_nil, List.cons_append, List.nil_append]
  after_reads_at

theorem idx : ∀ t : Fin cfg0.N, win0_0.index t = ![t.val, 0] ∧ win0_1.index t = ![34 * t.val - 1, 0] ∧ win0_2.index t = ![min (34 * t.val + 34) 271, 0]
    ∧ win0_3.index t = ![t.val, 0] ∧ win0_4.index t = ![min (34 * t.val + 34) 271, 0] ∧ win0_5.index t = ![t.val, 0]
    ∧ win0_6.index t = ![min (34 * t.val + 34) 271, 0] ∧ win0_7.index t = ![0, 0] ∧ win0_8.index t = ![0, 0]
    ∧ win0_9.index t = ![t.val, 0] ∧ win0_10.index t = ![t.val, 0] ∧ win0_11.index t = ![0, 0] ∧ win0_12.index t = ![0, 0]
    ∧ (grid0.coords t 0).val = t.val ∧ t.val < 8 :=
  (by decide +kernel : ∀ t : Fin grid0.N, _)

/-- The grid's one coordinate counts its points. -/
theorem at_pt (t : Fin cfg0.N) : (grid0.coords t 0).val = t.val ∧ t.val < 8 := (idx t).2.2.2.2.2.2.2.2.2.2.2.2.2

theorem col_at (A : FVec Ideal S2176x2816 .f32) (j : Fin 2816) (n n' : ℕ) (h : n < 2176) (e : n = n') : A (ix2 ⟨n, h⟩ j) = ext (col A j) n' := by
  subst e
  exact (ext_lt (col A j) _ h).symm

def blk0 (c : Dev nD) (t : Fin cfg0.N) : FVec Ideal S272x2816 .f32 := iblk m c 0 t

theorem block0 (c : Dev nD) (t : Fin cfg0.N) (r : Fin 272) (j : Fin 2816) :
    blk0 m c t (ix2 r j) = ext (col (m ((c : Thread nD τ).loc main_arg0)) j) (272 * (grid0.coords t 0).val + r) := by
  obtain ⟨hp, ht⟩ := at_pt t
  have e : (win0_0.blk t).view.emb (ix2 r j) = ix2 (⟨t.val * 272 + r, by omega⟩ : Fin 2176) j := by blk_ext [idx t]
  unfold blk0
  blk_simp [iblk]
  rw [e, kept0]
  exact col_at _ _ _ _ _ (by omega)

def blk1 (c : Dev nD) (t : Fin cfg0.N) : FVec Ideal S8x2816 .f32 := iblk m c 1 t

theorem block1 (c : Dev nD) (t : Fin cfg0.N) (h0 : (grid0.coords t 0).val ≠ 0) (r : Fin 8) (j : Fin 2816) :
    blk1 m c t (ix2 r j) = ext (col (m ((c : Thread nD τ).loc main_arg0)) j) (272 * (grid0.coords t 0).val + r - 8) := by
  obtain ⟨hp, ht⟩ := at_pt t
  have e : (win0_1.blk t).view.emb (ix2 r j) = ix2 (⟨(34 * t.val - 1) * 8 + r, by omega⟩ : Fin 2176) j := by blk_ext [idx t]
  unfold blk1
  blk_simp [iblk]
  rw [e, kept0]
  exact col_at _ _ _ _ _ (by omega)

def blk2 (c : Dev nD) (t : Fin cfg0.N) : FVec Ideal S8x2816 .f32 := iblk m c 2 t

theorem block2 (c : Dev nD) (t : Fin cfg0.N) (h7 : (grid0.coords t 0).val ≠ 7) (r : Fin 8) (j : Fin 2816) :
    blk2 m c t (ix2 r j) = ext (col (m ((c : Thread nD τ).loc main_arg0)) j) (272 * (grid0.coords t 0).val + 272 + r) := by
  obtain ⟨hp, ht⟩ := at_pt t
  have e : (win0_2.blk t).view.emb (ix2 r j) = ix2 (⟨min (34 * t.val + 34) 271 * 8 + r, by omega⟩ : Fin 2176) j := by blk_ext [idx t]
  unfold blk2
  blk_simp [iblk]
  rw [e, kept0]
  exact col_at _ _ _ _ _ (by omega)

def blk3 (c : Dev nD) (t : Fin cfg0.N) : FVec Ideal S272x2816 .f32 := iblk m c 3 t

theorem block3 (c : Dev nD) (t : Fin cfg0.N) (r : Fin 272) (j : Fin 2816) :
    blk3 m c t (ix2 r j) = ext (col (m ((c : Thread nD τ).loc main_arg1)) j) (272 * (grid0.coords t 0).val + r) := by
  obtain ⟨hp, ht⟩ := at_pt t
  have e : (win0_3.blk t).view.emb (ix2 r j) = ix2 (⟨t.val * 272 + r, by omega⟩ : Fin 2176) j := by blk_ext [idx t]
  unfold blk3
  blk_simp [iblk]
  rw [e, kept1]
  exact col_at _ _ _ _ _ (by omega)

def blk4 (c : Dev nD) (t : Fin cfg0.N) : FVec Ideal S8x2816 .f32 := iblk m c 4 t

theorem block4 (c : Dev nD) (t : Fin cfg0.N) (h7 : (grid0.coords t 0).val ≠ 7) (r : Fin 8) (j : Fin 2816) :
    blk4 m c t (ix2 r j) = ext (col (m ((c : Thread nD τ).loc main_arg1)) j) (272 * (grid0.coords t 0).val + 272 + r) := by
  obtain ⟨hp, ht⟩ := at_pt t
  have e : (win0_4.blk t).view.emb (ix2 r j) = ix2 (⟨min (34 * t.val + 34) 271 * 8 + r, by omega⟩ : Fin 2176) j := by blk_ext [idx t]
  unfold blk4
  blk_simp [iblk]
  rw [e, kept1]
  exact col_at _ _ _ _ _ (by omega)

def blk5 (c : Dev nD) (t : Fin cfg0.N) : FVec Ideal S272x2816 .f32 := iblk m c 5 t

theorem block5 (c : Dev nD) (t : Fin cfg0.N) (r : Fin 272) (j : Fin 2816) :
    blk5 m c t (ix2 r j) = ext (col (m ((c : Thread nD τ).loc main_arg4)) j) (272 * (grid0.coords t 0).val + r) := by
  obtain ⟨hp, ht⟩ := at_pt t
  have e : (win0_5.blk t).view.emb (ix2 r j) = ix2 (⟨t.val * 272 + r, by omega⟩ : Fin 2176) j := by blk_ext [idx t]
  unfold blk5
  blk_simp [iblk]
  rw [e, kept4]
  exact col_at _ _ _ _ _ (by omega)

def blk6 (c : Dev nD) (t : Fin cfg0.N) : FVec Ideal S8x2816 .f32 := iblk m c 6 t

theorem block6 (c : Dev nD) (t : Fin cfg0.N) (h7 : (grid0.coords t 0).val ≠ 7) (r : Fin 8) (j : Fin 2816) :
    blk6 m c t (ix2 r j) = ext (col (m ((c : Thread nD τ).loc main_arg4)) j) (272 * (grid0.coords t 0).val + 272 + r) := by
  obtain ⟨hp, ht⟩ := at_pt t
  have e : (win0_6.blk t).view.emb (ix2 r j) = ix2 (⟨min (34 * t.val + 34) 271 * 8 + r, by omega⟩ : Fin 2176) j := by blk_ext [idx t]
  unfold blk6
  blk_simp [iblk]
  rw [e, kept4]
  exact col_at _ _ _ _ _ (by omega)

def blk7 (c : Dev nD) (t : Fin cfg0.N) : FVec Ideal S8x2816 .f32 := iblk m c 7 t

theorem block7 (c : Dev nD) (t : Fin cfg0.N) (e' : Fin 3) (j : Fin 2816) :
    blk7 m c t (ix2 (⟨e', by omega⟩ : Fin 8) j) = m ((c : Thread nD τ).loc main_arg2) (ix2 e' j) := by
  have q : (win0_7.blk t).view.emb (ix2 (⟨e', by omega⟩ : Fin 8) j) = ix2 (⟨e', by omega⟩ : Fin 8) j := by blk_ext [idx t]
  unfold blk7
  blk_simp [iblk]
  rw [q, taps m c e' j]

def blk8 (c : Dev nD) (t : Fin cfg0.N) : FVec Ideal S1x2816 .f32 := iblk m c 8 t

theorem block8 (c : Dev nD) (t : Fin cfg0.N) (j : Fin 2816) : blk8 m c t (ix2 0 j) = m ((c : Thread nD τ).loc main_arg3) (ix2 0 j) := by
  have q : (win0_8.blk t).view.emb (ix2 0 j) = ix2 0 j := by blk_ext [idx t]
  unfold blk8
  blk_simp [iblk]
  rw [q, kept3]

end Cert.GateIdeal.Entry
-- ==== Proof.Gate.Final.lean ====
/- What the convolved gate's backward kernel leaves in its four result arrays. -/
module

public import proofs.«01_k».proof.Proof.Gate.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.Final

open Cert.GateIdeal Cert.GateIdeal.Gen Cert.Conv Cert.GateIdeal.Tile Cert.GateIdeal.Entry

theorem pay5_at (a b : FVec Ideal S1x2816 .f32) (v : FVec Ideal S272x2816 .f32) (acc : FVec Ideal S8x2816 .f32) (k : Fin 8) (j : Fin 2816) :
    k0_pay5 (F := Ideal) a b v acc (ix2 k j) = acc (ix2 k j) + k0_pay1 (F := Ideal) a b v (ix2 k j) := by pointwise [k0_pay5]

theorem pay6_at (v : FVec Ideal S280x2816 .f32) (acc : FVec Ideal S1x2816 .f32) (j : Fin 2816) :
    k0_pay6 (F := Ideal) v acc (ix2 0 j) = acc (ix2 0 j) + k0_pay2 (F := Ideal) v (ix2 0 j) := by pointwise [k0_pay6]

variable (m : (ℓ : Loc nD τ sig) → Buf (Elt Ideal) ℓ)

section Points

variable (c : Dev nD) (j : Fin 2816)

def gx : Fin 2176 → EReal := col (m ((c : Thread nD τ).loc main_arg0)) j
def gu : Fin 2176 → EReal := col (m ((c : Thread nD τ).loc main_arg1)) j
def gw (e : Fin 3) : EReal := m ((c : Thread nD τ).loc main_arg2) (ix2 e j)
def gb : EReal := m ((c : Thread nD τ).loc main_arg3) (ix2 0 j)
def gg : Fin 2176 → EReal := col (m ((c : Thread nD τ).loc main_arg4)) j

variable (t : Fin cfg0.N)

theorem rows_x : Rows (gx m c j) (grid0.coords t 0).val (fun r => blk0 m c t (ix2 r j)) (fun r => blk2 m c t (ix2 r j)) :=
  ⟨fun r => block0 m c t r j, fun h r => block2 m c t h r j⟩
theorem rows_u : Rows (gu m c j) (grid0.coords t 0).val (fun r => blk3 m c t (ix2 r j)) (fun r => blk4 m c t (ix2 r j)) :=
  ⟨fun r => block3 m c t r j, fun h r => block4 m c t h r j⟩
theorem rows_g : Rows (gg m c j) (grid0.coords t 0).val (fun r => blk5 m c t (ix2 r j)) (fun r => blk6 m c t (ix2 r j)) :=
  ⟨fun r => block5 m c t r j, fun h r => block6 m c t h r j⟩

theorem left9 (e : Fin 272) : (outsAt0 m c t.val t.isLt).1 (ix2 e j) = dx (gx m c j) (gu m c j) (gg m c j) (gw m c j) (gb m c j) (t.val * 272 + e) := by
  have ht := (at_pt t).2
  have hd := dx_at (grid0.coords t) (blk0 m c t) (blk1 m c t) (blk2 m c t) j (rows_x m c j t) (fun h r => block1 m c t h r j)
    (blk7 m c t) (blk8 m c t) (W := gw m c j) (B := gb m c j) (block7 m c t 0 j) (block7 m c t 1 j) (block7 m c t 2 j) (block8 m c t j)
    (blk3 m c t) (blk4 m c t) (blk5 m c t) (blk6 m c t) (rows_u m c j t) (rows_g m c j t) e
  rw [(at_pt t).1, Nat.mul_comm] at hd
  by_cases h : t.val % 8 = 0
  · rw [outsAt0_A m c t h (by omega) h (by omega)]
    frame_out
    exact hd
  · rw [outsAt0_B m c t h (by omega) h (by omega)]
    frame_out
    exact hd

theorem left10 (e : Fin 272) : (outsAt0 m c t.val t.isLt).2.1 (ix2 e j) = du (gx m c j) (gg m c j) (gw m c j) (gb m c j) (t.val * 272 + e) := by
  have ht := (at_pt t).2
  have hd := du_at (grid0.coords t) (blk0 m c t) (blk1 m c t) (blk2 m c t) j (rows_x m c j t) (fun h r => block1 m c t h r j)
    (blk7 m c t) (blk8 m c t) (W := gw m c j) (B := gb m c j) (block7 m c t 0 j) (block7 m c t 1 j) (block7 m c t 2 j) (block8 m c t j)
    (blk3 m c t) (blk4 m c t) (blk5 m c t) (blk6 m c t) (rows_u m c j t) (rows_g m c j t) e
  rw [(at_pt t).1, Nat.mul_comm] at hd
  by_cases h : t.val % 8 = 0
  · rw [outsAt0_A m c t h (by omega) h (by omega)]
    frame_out
    exact hd
  · rw [outsAt0_B m c t h (by omega) h (by omega)]
    frame_out
    exact hd

theorem first11 (k : Fin 8) (h : t.val % 8 = 0) : (outsAt0 m c t.val t.isLt).2.2.1 (ix2 k j) = 0 + ∑ e : Fin 272, dwAt (gx m c j) (gu m c j) (gg m c j) (gw m c j) (gb m c j) k (t.val * 272 + e) := by
  have ht := (at_pt t).2
  have hd := dw_at (grid0.coords t) (blk0 m c t) (blk1 m c t) (blk2 m c t) j (rows_x m c j t) (fun h r => block1 m c t h r j)
    (blk7 m c t) (blk8 m c t) (W := gw m c j) (B := gb m c j) (block7 m c t 0 j) (block7 m c t 1 j) (block7 m c t 2 j) (block8 m c t j)
    (blk3 m c t) (blk4 m c t) (blk5 m c t) (blk6 m c t) (rows_u m c j t) (rows_g m c j t) k
  simp only [(at_pt t).1, Nat.mul_comm 272] at hd
  rw [outsAt0_A m c t h (by omega) h (by omega), zero_add]
  frame_out
  exact hd

theorem step11 (k : Fin 8) (h : ¬t.val % 8 = 0) : (outsAt0 m c t.val t.isLt).2.2.1 (ix2 k j)
    = (outsAt0 m c (t.val - 1) (Nat.lt_of_le_of_lt (Nat.sub_le _ _) t.isLt)).2.2.1 (ix2 k j) + ∑ e : Fin 272, dwAt (gx m c j) (gu m c j) (gg m c j) (gw m c j) (gb m c j) k (t.val * 272 + e) := by
  have ht := (at_pt t).2
  have hd := dw_at (grid0.coords t) (blk0 m c t) (blk1 m c t) (blk2 m c t) j (rows_x m c j t) (fun h r => block1 m c t h r j)
    (blk7 m c t) (blk8 m c t) (W := gw m c j) (B := gb m c j) (block7 m c t 0 j) (block7 m c t 1 j) (block7 m c t 2 j) (block8 m c t j)
    (blk3 m c t) (blk4 m c t) (blk5 m c t) (blk6 m c t) (rows_u m c j t) (rows_g m c j t) k
  simp only [(at_pt t).1, Nat.mul_comm 272] at hd
  rw [outsAt0_B m c t h (by omega) h (by omega), ← hd]
  frame_out
  exact pay5_at _ _ _ _ _ _

theorem first12 (h : t.val % 8 = 0) : (outsAt0 m c t.val t.isLt).2.2.2 (ix2 0 j) = 0 + ∑ e : Fin 272, dact (gx m c j) (gu m c j) (gg m c j) (gw m c j) (gb m c j) (t.val * 272 + e) := by
  have ht := (at_pt t).2
  have hd := db_at (grid0.coords t) (blk0 m c t) (blk1 m c t) (blk2 m c t) j (rows_x m c j t) (fun h r => block1 m c t h r j)
    (blk7 m c t) (blk8 m c t) (W := gw m c j) (B := gb m c j) (block7 m c t 0 j) (block7 m c t 1 j) (block7 m c t 2 j) (block8 m c t j)
    (blk3 m c t) (blk4 m c t) (blk5 m c t) (blk6 m c t) (rows_u m c j t) (rows_g m c j t)
  simp only [(at_pt t).1, Nat.mul_comm 272] at hd
  rw [outsAt0_A m c t h (by omega) h (by omega), zero_add]
  frame_out
  exact hd

theorem step12 (h : ¬t.val % 8 = 0) : (outsAt0 m c t.val t.isLt).2.2.2 (ix2 0 j)
    = (outsAt0 m c (t.val - 1) (Nat.lt_of_le_of_lt (Nat.sub_le _ _) t.isLt)).2.2.2 (ix2 0 j) + ∑ e : Fin 272, dact (gx m c j) (gu m c j) (gg m c j) (gw m c j) (gb m c j) (t.val * 272 + e) := by
  have ht := (at_pt t).2
  have hd := db_at (grid0.coords t) (blk0 m c t) (blk1 m c t) (blk2 m c t) j (rows_x m c j t) (fun h r => block1 m c t h r j)
    (blk7 m c t) (blk8 m c t) (W := gw m c j) (B := gb m c j) (block7 m c t 0 j) (block7 m c t 1 j) (block7 m c t 2 j) (block8 m c t j)
    (blk3 m c t) (blk4 m c t) (blk5 m c t) (blk6 m c t) (rows_u m c j t) (rows_g m c j t)
  simp only [(at_pt t).1, Nat.mul_comm 272] at hd
  rw [outsAt0_B m c t h (by omega) h (by omega), ← hd]
  frame_out
  exact pay6_at _ _ _

end Points

theorem final9 (c : Dev nD) : (dats m 0 c).arrAt 9 (cfgs 0).N
    = fun i : S2176x2816.Idx => dx (gx m c (i 1)) (gu m c (i 1)) (gg m c (i 1)) (gw m c (i 1)) (gb m c (i 1)) (i 0).val := by
  refine (dats m 0 c).arrAt_eq_of_covers 9 _ (by decide +kernel) fun t _ y => ?_
  obtain ⟨-, ht⟩ := at_pt t
  idx_vars y
  have e : (win0_9.blk t).view.emb (ix2 y0 y1) = ix2 (⟨t.val * 272 + y0, by omega⟩ : Fin 2176) y1 := by blk_ext [idx t]
  blk_simp [idx t]
  rw [after0_9, left9, e]
  rfl

theorem final10 (c : Dev nD) : (dats m 0 c).arrAt 10 (cfgs 0).N
    = fun i : S2176x2816.Idx => du (gx m c (i 1)) (gg m c (i 1)) (gw m c (i 1)) (gb m c (i 1)) (i 0).val := by
  refine (dats m 0 c).arrAt_eq_of_covers 10 _ (by decide +kernel) fun t _ y => ?_
  obtain ⟨-, ht⟩ := at_pt t
  idx_vars y
  have e : (win0_10.blk t).view.emb (ix2 y0 y1) = ix2 (⟨t.val * 272 + y0, by omega⟩ : Fin 2176) y1 := by blk_ext [idx t]
  blk_simp [idx t]
  rw [after0_10, left10, e]
  rfl

theorem final11 (c : Dev nD) : (dats m 0 c).arrAt 11 (cfgs 0).N
    = fun i : S8x2816.Idx => ∑ n : Fin 2176, dwAt (gx m c (i 1)) (gu m c (i 1)) (gg m c (i 1)) (gw m c (i 1)) (gb m c (i 1)) (i 0).val n := by
  refine (dats m 0 c).arrAt_eq_of_after_last 11 t0_7 (by decide +kernel) _ fun y => ?_
  idx_vars y
  blk_simp
  rw [after0_11, Pipeline.eq_sum_fin_of_reset_step_apply_last (fun n h => (outsAt0 m c n h).2.2.1) 8 (fun _ => 0)
    (fun t i => ∑ e : Fin 272, dwAt (gx m c (i 1)) (gu m c (i 1)) (gg m c (i 1)) (gw m c (i 1)) (gb m c (i 1)) (i 0).val (t.val * 272 + e))
    (fun t h i => by idx_vars i; exact first11 m c i1 t i0 h) (fun t h i => by idx_vars i; exact step11 m c i1 t i0 h) (le_of_eq N_0) t0_7 rfl _, zero_add]
  exact Fin.sum_mul_add_congr (fun t e h => rfl)

theorem final12 (c : Dev nD) : (dats m 0 c).arrAt 12 (cfgs 0).N
    = fun i : S1x2816.Idx => ∑ n : Fin 2176, dact (gx m c (i 1)) (gu m c (i 1)) (gg m c (i 1)) (gw m c (i 1)) (gb m c (i 1)) n := by
  refine (dats m 0 c).arrAt_eq_of_after_last 12 t0_7 (by decide +kernel) _ fun y => ?_
  idx_vars y
  blk_simp
  rw [after0_12, Pipeline.eq_sum_fin_of_reset_step_apply_last (fun n h => (outsAt0 m c n h).2.2.2) 8 (fun _ => 0)
    (fun t i => ∑ e : Fin 272, dact (gx m c (i 1)) (gu m c (i 1)) (gg m c (i 1)) (gw m c (i 1)) (gb m c (i 1)) (t.val * 272 + e))
    (fun t h i => by idx_vars i; obtain rfl : i0 = 0 := Subsingleton.elim _ _; exact first12 m c i1 t h) (fun t h i => by idx_vars i; obtain rfl : i0 = 0 := Subsingleton.elim _ _; exact step12 m c i1 t h) (le_of_eq N_0) t0_7 rfl _, zero_add]
  exact Fin.sum_mul_add_congr (fun t e h => rfl)

end Cert.GateIdeal.Final
-- ==== Proof.Gate.Ref.lean ====
/- The derivative of the convolved gate as the reference computes it, at an index, as the formulas of `Cert.Conv`. -/
module

public import proofs.«01_k».proof.Proof.Gen.GateRefIdeal.Read
public import proofs.«01_k».proof.Proof.Gate.Core
public import proofs.«01_k».proof.Proof.Common.Num

@[expose] public section

set_option maxRecDepth 16384

noncomputable section

open Idealize.ShloMosaic Idealize.ShloMosaic.TcCoe Idealize.SL.Sem

namespace Cert.GateRefIdeal.Ref

open Cert.GateRefIdeal Cert.GateRefIdeal.Gen Cert.GateRefIdeal.Read Cert.Conv Cert.Num

variable (x0 x1 x4 : FVec Ideal S2176x2816 .f32) (x2 : FVec Ideal S3x2816 .f32) (x3 : FVec Ideal S1x2816 .f32)

abbrev cx (A : FVec Ideal S2176x2816 .f32) (j : Fin 2816) (r : Fin 2176) : EReal := A (ix2 r j)
abbrev cw (j : Fin 2816) (e : Fin 3) : EReal := x2 (ix2 e j)

theorem earlier (x : Fin 2176 → EReal) (s : ℕ) (r : Fin 2176) (hs : s ≤ 2) :
    back x s r = if h : 2 - s + (r : ℕ) < 2 then 0 else x ⟨2 - s + r - 2, by omega⟩ := by
  unfold back
  by_cases h : s ≤ (r : ℕ)
  · rw [if_pos h, dif_neg (by omega), ext_lt _ _ (by omega)]
    exact congrArg x (Fin.ext (by show (r : ℕ) - s = 2 - s + r - 2; omega))
  · rw [if_neg h, dif_pos (by omega)]

theorem tap2 (r : Fin 2176) (j : Fin 2816) : val_main_v5 (F := Ideal) x0 (ix2 r j) = back (cx x0 j) 2 r := by
  rw [earlier _ _ _ (by omega)]
  pointwise [val_main_v5, val_main_v1, val_main_v0, val_main_cst]
  try rfl

theorem tap1 (r : Fin 2176) (j : Fin 2816) : val_main_v11 (F := Ideal) x0 (ix2 r j) = back (cx x0 j) 1 r := by
  rw [earlier _ _ _ (by omega)]
  pointwise [val_main_v11, val_main_v1, val_main_v0, val_main_cst]
  try rfl

theorem tap0 (r : Fin 2176) (j : Fin 2816) : val_main_v18 (F := Ideal) x0 (ix2 r j) = back (cx x0 j) 0 r := by
  rw [earlier _ _ _ (by omega)]
  pointwise [val_main_v18, val_main_v1, val_main_v0, val_main_cst]
  try rfl

theorem act_at (r : Fin 2176) (j : Fin 2816) : val_main_v24 (F := Ideal) x0 x2 x3 (ix2 r j) = act (cx x0 j) (cw x2 j) (x3 (ix2 0 j)) r := by
  unfold act
  rw [← tap0, ← tap1, ← tap2]
  pointwise [val_main_v24, val_main_v23, val_main_v22, val_main_v21, val_main_v20, val_main_v19, val_main_v17, val_main_v16, val_main_v15,
    val_main_v14, val_main_v13, val_main_v12, val_main_v10, val_main_v9, val_main_v8, val_main_v7, val_main_v6, val_main_v4, val_main_v3]
  try rfl

theorem sg_at (r : Fin 2176) (j : Fin 2816) :
    val_main_v25_2 (F := Ideal) x0 x2 x3 (ix2 r j) = sg (act (cx x0 j) (cw x2 j) (x3 (ix2 0 j)) r) := by
  unfold sg
  rw [← act_at, zero_sub]
  pointwise [val_main_v25_2, val_main_call0_v4, val_main_call0_cst_0, val_main_call0_v3, val_main_call0_v2, val_main_call0_cst, val_main_call0_v1, val_main_call0_v0]
  try rfl

theorem du_at (r : Fin 2176) (j : Fin 2816) :
    val_main_v66 (F := Ideal) x0 x2 x3 x4 (ix2 r j) = du (cx x0 j) (cx x4 j) (cw x2 j) (x3 (ix2 0 j)) r := by
  unfold du
  rw [← sg_at, ← act_at, ext_fin, mul_comm]
  pointwise [val_main_v66, val_main_v27, val_main_v25_0]
  try rfl

section Finite

variable (h0 : ∀ i, IsReal (x0 i)) (h1 : ∀ i, IsReal (x1 i)) (h2 : ∀ i, IsReal (x2 i)) (h3 : ∀ i, IsReal (x3 i))
  (h4 : ∀ i, IsReal (x4 i))

include h0 in
theorem real_back (s n : ℕ) (j : Fin 2816) : IsReal (back (cx x0 j) s n) := by
  unfold back ext
  split
  · split
    · exact h0 _
    · exact IsReal.zero
  · exact IsReal.zero

include h0 h2 h3 in
theorem real_act (n : ℕ) (j : Fin 2816) : IsReal (act (cx x0 j) (cw x2 j) (x3 (ix2 0 j)) n) :=
  IsReal.add (IsReal.add (IsReal.add (IsReal.mul (h2 _) (real_back x0 h0 2 n j)) (IsReal.mul (h2 _) (real_back x0 h0 1 n j)))
    (IsReal.mul (h2 _) (real_back x0 h0 0 n j))) (h3 _)

include h0 h1 h2 h3 h4

theorem dact_at (r : Fin 2176) (j : Fin 2816) : val_main_v29 (F := Ideal) x0 x1 x2 x3 x4 (ix2 r j)
    = dact (cx x0 j) (cx x1 j) (cx x4 j) (cw x2 j) (x3 (ix2 0 j)) r := by
  unfold dact
  rw [ext_fin, ext_fin, ← slope_eq (real_act x0 x2 x3 h0 h2 h3 r j) (IsReal.mul (h4 _) (h1 _)), ← sg_at, ← act_at]
  pointwise [val_main_v29, val_main_call1_v2, val_main_call1_v1, val_main_call1_v0, val_main_v28, val_main_v25_1, val_main_call0_v7, val_main_call0_v6, val_main_call0_cst_1]
  try rfl

theorem dx_at (r : Fin 2176) (j : Fin 2816) : val_main_v65 (F := Ideal) x0 x1 x2 x3 x4 (ix2 r j)
    = dx (cx x0 j) (cx x1 j) (cx x4 j) (cw x2 j) (x3 (ix2 0 j)) r := by
  have d := dact_at x0 x1 x4 x2 x3 h0 h1 h2 h3 h4
  pointwise [val_main_v65, val_main_v64, val_main_v59, val_main_v58, val_main_v53, val_main_v52, val_main_v48, val_main_v47, val_main_v42, val_main_v41,
    val_main_v38, val_main_v33, val_main_v32, val_main_v19, val_main_v17, val_main_v16, val_main_v12, val_main_v10, val_main_v9, val_main_v6, val_main_v4, val_main_v3,
    val_main_cst_5, val_main_cst_8, val_main_cst_12]
  simp only [d, dite_eq_ite]
  have s1 : (if 1 ≤ 2 + (r : ℕ) ∧ 2 + (r : ℕ) - 1 < 2176 then x2 (ix2 1 j) * dact (cx x0 j) (cx x1 j) (cx x4 j) (cw x2 j) (x3 (ix2 0 j)) (2 + r - 1) else 0)
      = x2 (ix2 1 j) * dact (cx x0 j) (cx x1 j) (cx x4 j) (cw x2 j) (x3 (ix2 0 j)) (r + 1) := by
    rw [show 2 + (r : ℕ) - 1 = r + 1 by omega]
    split
    · rfl
    · rw [dact_ge _ _ _ _ _ _ (by omega), mul_zero]
  have s2 : (if 2 + (r : ℕ) < 2176 then x2 (ix2 0 j) * dact (cx x0 j) (cx x1 j) (cx x4 j) (cw x2 j) (x3 (ix2 0 j)) (2 + r) else 0)
      = x2 (ix2 0 j) * dact (cx x0 j) (cx x1 j) (cx x4 j) (cw x2 j) (x3 (ix2 0 j)) (r + 2) := by
    rw [Nat.add_comm 2 (r : ℕ)]
    split
    · rfl
    · rw [dact_ge _ _ _ _ _ _ (by omega), mul_zero]
  rw [s1, s2, add_comm, add_comm (x2 (ix2 2 j) * _), ← add_assoc]
  rfl

theorem dw_at (k : Fin 8) (j : Fin 2816) : val_main_v67 (F := Ideal) x0 x1 x2 x3 x4 (ix2 k j)
    = ∑ n : Fin 2176, dwAt (cx x0 j) (cx x1 j) (cx x4 j) (cw x2 j) (x3 (ix2 0 j)) k n := by
  have d := dact_at x0 x1 x4 x2 x3 h0 h1 h2 h3 h4
  pointwise [val_main_v67, val_main_v62, val_main_v61, val_main_v60, val_main_v57, val_main_v56, val_main_v55, val_main_v54, val_main_v51, val_main_v50, val_main_v49, val_main_v46,
   val_main_v45, val_main_v44, val_main_v43, val_main_v40, val_main_v39, val_main_v37, val_main_v36, val_main_v35, val_main_v34, val_main_cst_2, val_main_cst_3, val_main_cst_4, val_main_cst_5, val_main_cst_6, val_main_cst_7, val_main_cst_9, val_main_cst_10, val_main_cst_11, val_main_cst_13, val_main_c, val_main_call2_v0]
  simp only [d, tap0, tap1, tap2]
  fin_cases k <;> simp [dwAt, zero32]

theorem db_at (j : Fin 2816) : val_main_v31 (F := Ideal) x0 x1 x2 x3 x4 (ix2 0 j)
    = ∑ n : Fin 2176, dact (cx x0 j) (cx x1 j) (cx x4 j) (cw x2 j) (x3 (ix2 0 j)) n := by
  have d := dact_at x0 x1 x4 x2 x3 h0 h1 h2 h3 h4
  pointwise [val_main_v31, val_main_v30, val_main_cst_1]
  simp only [d]

end Finite

end Cert.GateRefIdeal.Ref
-- ==== Proof.Gate.Value.lean ====
/- The convolved gate's backward kernel computes the derivative of the gate: the claim about its four results. -/
module

public import proofs.«01_k».proof.Defs
public import proofs.«01_k».proof.Proof.Gate.Final
public import proofs.«01_k».proof.Proof.Gate.Ref
public import proofs.«01_k».proof.Proof.Gen.GateRefIdeal.Run
public import proofs.«01_k».proof.Proof.Gen.Pre_gate_finite
public import proofs.«01_k».proof.Proof.Gen.Gate.Frame
public import Idealize.ShloMosaic.Lib.Quiescent

@[expose] public section

set_option maxRecDepth 16384

noncomputable section

open Idealize.ShloMosaic Idealize.ShloMosaic.TcCoe Idealize.SL.Sem

namespace Cert.Pre_gate_finite.Read

open Cert.Pre_gate_finite Cert.Pre_gate_finite.Gen Cert.Num

instance : Subsingleton S_.Idx := ⟨fun _ _ => funext fun a => a.elim0⟩

theorem finite (gp up : FVec Ideal S2176x2816 .f32) (w : FVec Ideal S3x2816 .f32) (b : FVec Ideal S1x2816 .f32) (ct : FVec Ideal S2176x2816 .f32)
    (h : fn (F := Ideal) gp up w b ct = fun _ => 1#1) :
    (∀ i, IsReal (gp i)) ∧ (∀ i, IsReal (up i)) ∧ (∀ i, IsReal (w i)) ∧ (∀ i, IsReal (b i)) ∧ ∀ i, IsReal (ct i) := by
  have h0 := congrFun h ix0
  obtain ⟨h1, h5⟩ := IntOp.andi_eq_one.1 h0
  obtain ⟨h2, h4⟩ := IntOp.andi_eq_one.1 h1
  obtain ⟨h6, h3⟩ := IntOp.andi_eq_one.1 h2
  obtain ⟨h7, h8⟩ := IntOp.andi_eq_one.1 h6
  exact ⟨fun i => isReal_of_abs_lt _ (Host.reduce_andi_all _ _ _ _ _ h7 i), fun i => isReal_of_abs_lt _ (Host.reduce_andi_all _ _ _ _ _ h8 i),
    fun i => isReal_of_abs_lt _ (Host.reduce_andi_all _ _ _ _ _ h3 i), fun i => isReal_of_abs_lt _ (Host.reduce_andi_all _ _ _ _ _ h4 i),
    fun i => isReal_of_abs_lt _ (Host.reduce_andi_all _ _ _ _ _ h5 i)⟩

end Cert.Pre_gate_finite.Read

namespace Cert.Conv

open Cert.GateRefIdeal.Ref

/-- The reference ends, with its arguments unchanged and every counter at zero. -/
theorem reference_ends : Cert.quiescent_GateRefIdeal (hGateRefIdeal := Cert.GateRefIdeal.Gen.facts) := fun m ρ _ =>
  (θ_run _ _ _).mono (fun r h => ⟨fun c => (h c).2.2.2.2, sem_eq_zero_of_no_sems rfl r.2⟩) (Cert.GateRefIdeal.Value.run m ρ)

/-- The kernel's run and the reference's run end with equal gradients of the gate's two factors, its taps and its bias. -/
theorem gradients : Cert.algebraic_GateIdeal_GateRefIdeal_pre_gate_finite (hGateIdeal := Cert.GateIdeal.Gen.facts)
    (hGateRefIdeal := Cert.GateRefIdeal.Gen.facts) (hPre_gate_finite := Cert.Pre_gate_finite.Gen.facts) := by
  intro m ρ m' ρ' hpre hag
  refine ⟨_, _, _, _, Cert.GateIdeal.Value.run_blocks m ρ, ?_⟩
  refine (θ_run _ _ _).mono (fun r h c => ?_) (Cert.GateRefIdeal.Value.run m' ρ')
  obtain ⟨h0, h1, h2, h3, h4⟩ := Cert.Pre_gate_finite.Read.finite _ _ _ _ _ (hpre c)
  obtain ⟨e0, e1, e2, e3, e4⟩ := hag c
  refine ⟨(h c).1.trans ?_, (h c).2.1.trans ?_, (h c).2.2.1.trans ?_, (h c).2.2.2.1.trans ?_, (h c).2.2.2.2⟩
  · rw [Cert.GateRefIdeal.Read.val_main_v65_eq, e0, e1, e2, e3, e4, Cert.GateIdeal.Final.final9]
    funext i
    idx_vars i
    exact dx_at _ _ _ _ _ h0 h1 h2 h3 h4 i0 i1
  · rw [Cert.GateRefIdeal.Read.val_main_v66_eq, e0, e2, e3, e4, Cert.GateIdeal.Final.final10]
    funext i
    idx_vars i
    exact du_at _ _ _ _ i0 i1
  · rw [Cert.GateRefIdeal.Read.val_main_v67_eq, e0, e1, e2, e3, e4, Cert.GateIdeal.Final.final11]
    funext i
    idx_vars i
    exact dw_at _ _ _ _ _ h0 h1 h2 h3 h4 i0 i1
  · rw [Cert.GateRefIdeal.Read.val_main_v31_eq, e0, e1, e2, e3, e4, Cert.GateIdeal.Final.final12]
    funext i
    idx_vars i
    obtain rfl : i0 = 0 := Subsingleton.elim _ _
    exact db_at _ _ _ _ _ h0 h1 h2 h3 h4 i1

end Cert.Conv
-- ==== Proof.Common.Rms.lean ====
/- The gradient of the root-mean-square norm of one row, written with one product more or less. -/
module

public import proofs.«01_k».proof.Proof.Common.Num

@[expose] public section

noncomputable section

open Idealize.ShloMosaic

namespace Cert.Rms

open Cert.Num

section Row

variable {n : ℕ} (inv cnt eps mh : EReal) (x gy : Fin n → EReal)

/-- The row's factor: one over the root of its mean square. -/
def rt : EReal := Ideal.rsqrt ((∑ d, x d * x d) * inv + eps)

/-- The gradient of the normed row, with the row's factor in front. -/
def dx (d : Fin n) : EReal := rt inv eps x * (gy d - x d * rt inv eps x * ((∑ e, gy e * (x e * rt inv eps x)) * inv))

/-- The mean square plus its small constant, as a quotient by the count. -/
def ms : EReal := Ideal.div (∑ d, x d * x d) cnt + eps

/-- The gradient of the mean square, spread over the row. -/
def dms : EReal := Ideal.div ((∑ e, x e * gy e) * (mh * Ideal.div (Ideal.rsqrt (ms cnt eps x)) (ms cnt eps x))) cnt

end Row

section Real

variable {n : ℕ} {N e : ℝ} (hN : 0 < N) (he : 0 < e) {x gy : Fin n → EReal} (hx : ∀ d, IsReal (x d))
  (hg : ∀ d, IsReal (gy d))

include hN he hx

theorem real_ms : ∃ m : ℝ, 0 < m ∧ (∑ d, x d * x d) * ((1 / N : ℝ) : EReal) + (e : EReal) = m ∧ ms N e x = m := by
  choose a ha using hx
  refine ⟨(∑ d, a d * a d) * (1 / N) + e, ?_, ?_, ?_⟩
  · have : 0 ≤ ∑ d, a d * a d := Finset.sum_nonneg fun d _ => mul_self_nonneg _
    positivity
  · simp only [ha, ← EReal.coe_mul, ← coe_sum, ← EReal.coe_add]
  · simp only [ms, ha, ← EReal.coe_mul, ← coe_sum, Ideal.div_coe hN.ne', ← EReal.coe_add]

omit hN he hx in
theorem rsqrt_pos {m : ℝ} (hm : 0 < m) : Ideal.rsqrt (m : EReal) = (((Real.sqrt m)⁻¹ : ℝ) : EReal) := by
  rw [Ideal.rsqrt_coe, if_neg hm.not_gt, if_neg hm.ne']

/-- Both writings of the row's factor are one finite number. -/
theorem rt_eq : rt ((1 / N : ℝ) : EReal) e x = Ideal.rsqrt (ms N e x) ∧ IsReal (rt ((1 / N : ℝ) : EReal) e x) := by
  obtain ⟨m, hm, e1, e2⟩ := real_ms hN he hx
  unfold rt
  rw [e1, e2, rsqrt_pos hm]
  exact ⟨rfl, _, rfl⟩

include hg

/-- Over finite numbers the two gradients agree. -/
theorem dx_eq (d : Fin n) :
    dx ((1 / N : ℝ) : EReal) e x gy d = gy d * rt ((1 / N : ℝ) : EReal) e x
      + x d * dms N e ((-(1 / 2) : ℝ) : EReal) x gy + dms N e ((-(1 / 2) : ℝ) : EReal) x gy * x d := by
  obtain ⟨m, hm, e1, e2⟩ := real_ms hN he hx
  have hr : rt ((1 / N : ℝ) : EReal) e x = (((Real.sqrt m)⁻¹ : ℝ) : EReal) := by
    unfold rt
    rw [e1, rsqrt_pos hm]
  unfold dx dms
  rw [hr, e2, rsqrt_pos hm]
  choose a ha using hx
  choose b hb using hg
  simp only [ha, hb, Ideal.div_coe hm.ne', Ideal.div_coe hN.ne', ← EReal.coe_mul, ← coe_sum, ← EReal.coe_add, ← EReal.coe_sub]
  refine congrArg Real.toEReal ?_
  have hs : (Real.sqrt m)⁻¹ * (Real.sqrt m)⁻¹ = 1 / m := by
    rw [← mul_inv, Real.mul_self_sqrt hm.le, one_div]
  have hG : ∑ e, b e * (a e * (Real.sqrt m)⁻¹) = (∑ e, a e * b e) * (Real.sqrt m)⁻¹ := by
    rw [Finset.sum_mul]
    exact Finset.sum_congr rfl fun e _ => by ring
  rw [hG]
  generalize (∑ e, a e * b e) = G
  generalize (Real.sqrt m)⁻¹ = r at hs ⊢
  have hm' : 1 / m = r * r := hs.symm
  rw [hm']
  ring

end Real

/-- A row of zeros with a gradient of zeros has a gradient of zeros. -/
theorem dx_zero {n : ℕ} (inv eps : EReal) (d : Fin n) : dx inv eps (fun _ : Fin n => 0) (fun _ => 0) d = 0 := by
  unfold dx
  simp

end Cert.Rms
-- ==== Proof.Up.Tile.lean ====
/- The row block of the norm's backward kernel behind two products: its printed payloads at an index, as the formulas of
   `Cert.Rms` at the block's rows. -/
module

public import proofs.«01_k».proof.Proof.Gen.UpIdeal.Skeleton
public import proofs.«01_k».proof.Proof.Common.Rms

@[expose] public section

set_option maxRecDepth 16384

noncomputable section

open Idealize.ShloMosaic Idealize.ShloMosaic.TcCoe Idealize.SL.Sem

namespace Cert.UpIdeal.Tile

open Cert.UpIdeal Cert.UpIdeal.Gen Cert.Num Cert.Rms

/-- The padding rows of block `a`, row `r`, as the kernel compares them. -/
theorem mask_sel (a : Fin 8) (r : Fin 272) (x : EReal) :
    Scalar.select (Scalar.cmpi .sge (IntOp.addi (IntOp.muli (BitVec.ofNat 32 (a : ℕ)) 272#32) (BitVec.ofNat 32 r)) 112#32) x 0
      = if 112 ≤ 272 * (a : ℕ) + r then x else 0 := by
  have : Scalar.cmpi .sge (IntOp.addi (IntOp.muli (BitVec.ofNat 32 (a : ℕ)) 272#32) (BitVec.ofNat 32 (r : ℕ))) 112#32
      = if 112 ≤ 272 * (a : ℕ) + r then 1#1 else 0#1 := by revert a r; decide +kernel
  rw [this]
  split <;> rfl

section

variable (v0 v2 : FVec Ideal S272x1024 .f32) (v4 : FVec Ideal S1x1024 .f32) (v5 v10 : FVec Ideal S272x2816 .bf16) (v7 v12 : FVec Ideal S2816x1024 .bf16)

/-- The gradient that reaches the norm's result: the two products' sum. -/
def dy (r : Fin 272) (d : Fin 1024) : EReal := (∑ k, v5 (ix2 r k) * v7 (ix2 k d)) + ∑ k, v10 (ix2 r k) * v12 (ix2 k d)

theorem pay7_at (r : Fin 272) (d : Fin 1024) : k0_pay7 (F := Ideal) v5 v7 v10 v12 (ix2 r d) = dy v5 v10 v7 v12 r d := by
  unfold dy
  pointwise [k0_pay7]

theorem pay8_at (r : Fin 272) : k0_pay8 (F := Ideal) v0 (ix2 r 0)
    = rt (Ideal.ofBits .f32 0x3A800000#32) (Ideal.ofBits .f32 0x358637BD#32) (fun d => v0 (ix2 r d)) := by
  unfold rt
  pointwise [k0_pay8, k0_pay5]

theorem pay10_at (r : Fin 272) (d : Fin 1024) : k0_pay10 (F := Ideal) v0 v4 v5 v7 v10 v12 (ix2 r d)
    = dx (Ideal.ofBits .f32 0x3A800000#32) (Ideal.ofBits .f32 0x358637BD#32) (fun d => v0 (ix2 r d))
        (fun d => dy v5 v10 v7 v12 r d * v4 (ix2 0 d)) d := by
  unfold dx
  simp only [← pay8_at, ← pay7_at]
  pointwise [k0_pay10, k0_pay9, k0_pay5]

theorem pay1_at (a : Fin 8) (w : FVec Ideal S272x1024 .f32) (r : Fin 272) (d : Fin 1024) :
    k0_pay1 (F := Ideal) (BitVec.ofNat 32 (a : ℕ)) v2 w (ix2 r d) = if 112 ≤ 272 * (a : ℕ) + r then v2 (ix2 r d) + w (ix2 r d) else 0 := by
  rw [← mask_sel]
  pointwise [k0_pay1]
  rfl

theorem pay2_at (d : Fin 1024) : k0_pay2 (F := Ideal) (k0_pay7 v5 v7 v10 v12) (k0_pay9 v0) (ix2 0 d)
    = ∑ r : Fin 272, dy v5 v10 v7 v12 r d * (v0 (ix2 r d) *
        rt (Ideal.ofBits .f32 0x3A800000#32) (Ideal.ofBits .f32 0x358637BD#32) (fun d => v0 (ix2 r d))) := by
  simp only [← pay8_at, ← pay7_at]
  pointwise [k0_pay2, k0_pay9, k0_pay5]

end

end Cert.UpIdeal.Tile
-- ==== Proof.Common.Pad.lean ====
/- Columns of 2064 rows behind 112 rows of zeros. -/
module

public import proofs.«01_k».proof.Proof.Common.Num

@[expose] public section

noncomputable section

open Idealize.ShloMosaic

namespace Cert.Pad

/-- Row `n` of the column `x` behind 112 zeros. -/
def ext (x : Fin 2064 → EReal) (n : ℕ) : EReal := if h : 112 ≤ n ∧ n < 2176 then x ⟨n - 112, by omega⟩ else 0

theorem ext_lt (x : Fin 2064 → EReal) (n : ℕ) (h : n < 112) : ext x n = 0 := dif_neg (by omega)

theorem ext_add (x : Fin 2064 → EReal) (n : Fin 2064) : ext x (112 + n) = x n := by
  rw [ext, dif_pos (by omega)]
  exact congrArg x (Fin.ext (by show 112 + (n : ℕ) - 112 = n; omega))

/-- The row as a padded array reads it. -/
theorem ext_pad (x : Fin 2064 → EReal) (r : Fin 2176) (z : EReal) (hz : z = 0) :
    (if h : 112 ≤ (r : ℕ) ∧ (r : ℕ) - 112 < 2064 then x ⟨r - 112, h.2⟩ else z) = ext x r := by
  unfold ext
  by_cases h : 112 ≤ (r : ℕ)
  · rw [dif_pos ⟨h, by omega⟩, dif_pos ⟨h, r.isLt⟩]
  · rw [dif_neg (fun q => h q.1), dif_neg (fun q => h q.1), hz]

/-- A sum over all rows of a term that the zeros do not feed. -/
theorem sum_rows (f : ℕ → EReal) (h : ∀ n < 112, f n = 0) : ∑ n : Fin 2176, f n = ∑ n : Fin 2064, f (112 + n) := by
  rw [show (∑ n : Fin 2176, f n) = ∑ n : Fin (112 + 2064), f n from rfl, Fin.sum_univ_add]
  rw [Finset.sum_eq_zero fun i _ => h _ (by simp), zero_add]
  rfl

end Cert.Pad
-- ==== Proof.Up.Entry.lean ====
/- The blocks the norm's backward kernel behind two products reads at a grid point, as rows of the arguments. -/
module

public import proofs.«01_k».proof.Proof.Gen.UpIdeal.Value
public import proofs.«01_k».proof.Proof.Up.Tile
public import proofs.«01_k».proof.Proof.Common.Pad
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.UpIdeal.Entry

open Cert.UpIdeal Cert.UpIdeal.Gen Cert.UpIdeal.Tile Cert.Num Cert.Pad

variable (m : (ℓ : Loc nD τ sig) → Buf (Elt Ideal) ℓ)

theorem host0 (c : Dev nD) (r : Fin 2176) (k : Fin 2816) : V m c main_v1 (ix2 r k) = ext (fun n => m ((c : Thread nD τ).loc main_arg5) (ix2 n k)) r := by
  unfold V
  simp only [List.flatten_cons, List.flatten_nil, List.append_nil, List.cons_append, List.nil_append]
  after_reads_at
  exact ext_pad (fun n => m ((c : Thread nD τ).loc main_arg5) (ix2 n k)) r _ zero32

theorem host1 (c : Dev nD) (r : Fin 2176) (k : Fin 2816) : V m c main_v3 (ix2 r k) = ext (fun n => m ((c : Thread nD τ).loc main_arg6) (ix2 n k)) r := by
  unfold V
  simp only [List.flatten_cons, List.flatten_nil, List.append_nil, List.cons_append, List.nil_append]
  after_reads_at
  exact ext_pad (fun n => m ((c : Thread nD τ).loc main_arg6) (ix2 n k)) r _ zero32

theorem host2 (c : Dev nD) (k : Fin 2816) (d : Fin 1024) : V m c main_v5 (ix2 k d) = m ((c : Thread nD τ).loc main_arg2) (ix2 d k) := by
  unfold V
  simp only [List.flatten_cons, List.flatten_nil, List.append_nil, List.cons_append, List.nil_append]
  after_reads_at

theorem host3 (c : Dev nD) (k : Fin 2816) (d : Fin 1024) : V m c main_v7 (ix2 k d) = m ((c : Thread nD τ).loc main_arg3) (ix2 d k) := by
  unfold V
  simp only [List.flatten_cons, List.flatten_nil, List.append_nil, List.cons_append, List.nil_append]
  after_reads_at

theorem host4 (c : Dev nD) (r : Fin 2176) (k : Fin 1024) : V m c main_v8 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host5 (c : Dev nD) (r : Fin 2176) (k : Fin 1024) : V m c main_v9 (ix2 r k) = ext (fun n => m ((c : Thread nD τ).loc main_arg4) (ix2 n k)) r := by
  unfold V
  simp only [List.flatten_cons, List.flatten_nil, List.append_nil, List.cons_append, List.nil_append]
  after_reads_at
  exact ext_pad (fun n => m ((c : Thread nD τ).loc main_arg4) (ix2 n k)) r _ zero32

theorem host6 (c : Dev nD) (i : S1x1024.Idx) : V m c main_arg1 i = m ((c : Thread nD τ).loc main_arg1) i := by
  unfold V
  simp only [List.flatten_cons, List.flatten_nil, List.append_nil, List.cons_append, List.nil_append]
  after_reads_at

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![0, 0] ∧ win0_8.index t = ![t.val, 0] ∧ win0_9.index t = ![t.val, 0] ∧ win0_10.index t = ![0, 0]
    ∧ (grid0.coords t 0).val = t.val ∧ t.val < 8 :=
  (by decide +kernel : ∀ t : Fin grid0.N, _)

/-- The grid's one coordinate counts its points. -/
theorem at_pt (t : Fin cfg0.N) : (grid0.coords t 0).val = t.val ∧ t.val < 8 := (idx t).2.2.2.2.2.2.2.2.2.2

variable (c : Dev nD) (t : Fin cfg0.N)

def blk0 : FVec Ideal S272x2816 .bf16 := iblk m c 0 t
def blk1 : FVec Ideal S272x2816 .bf16 := iblk m c 1 t
def blk2 : FVec Ideal S2816x1024 .bf16 := iblk m c 2 t
def blk3 : FVec Ideal S2816x1024 .bf16 := iblk m c 3 t
def blk4 : FVec Ideal S272x1024 .f32 := iblk m c 4 t
def blk5 : FVec Ideal S272x1024 .f32 := iblk m c 5 t
def blk6 : FVec Ideal S1x1024 .f32 := iblk m c 6 t

theorem block0 (r : Fin 272) (j : Fin 2816) : blk0 m c t (ix2 r j) = ext (fun n => m ((c : Thread nD τ).loc main_arg5) (ix2 n j)) (t.val * 272 + r) := by
  obtain ⟨hp, ht⟩ := at_pt t
  have e : (win0_0.blk t).view.emb (ix2 r j) = ix2 (⟨t.val * 272 + r, by omega⟩ : Fin 2176) j := by blk_ext [idx t]
  unfold blk0
  blk_simp [iblk]
  rw [e, host0]

theorem block1 (r : Fin 272) (j : Fin 2816) : blk1 m c t (ix2 r j) = ext (fun n => m ((c : Thread nD τ).loc main_arg6) (ix2 n j)) (t.val * 272 + r) := by
  obtain ⟨hp, ht⟩ := at_pt t
  have e : (win0_1.blk t).view.emb (ix2 r j) = ix2 (⟨t.val * 272 + r, by omega⟩ : Fin 2176) j := by blk_ext [idx t]
  unfold blk1
  blk_simp [iblk]
  rw [e, host1]

theorem block2 (k : Fin 2816) (d : Fin 1024) : blk2 m c t (ix2 k d) = m ((c : Thread nD τ).loc main_arg2) (ix2 d k) := by
  have e : (win0_2.blk t).view.emb (ix2 k d) = ix2 k d := by blk_ext [idx t]
  unfold blk2
  blk_simp [iblk]
  rw [e, host2]

theorem block3 (k : Fin 2816) (d : Fin 1024) : blk3 m c t (ix2 k d) = m ((c : Thread nD τ).loc main_arg3) (ix2 d k) := by
  have e : (win0_3.blk t).view.emb (ix2 k d) = ix2 k d := by blk_ext [idx t]
  unfold blk3
  blk_simp [iblk]
  rw [e, host3]

theorem block4 (r : Fin 272) (j : Fin 1024) : blk4 m c t (ix2 r j) = ext (fun n => m ((c : Thread nD τ).loc main_arg0) (ix2 n j)) (t.val * 272 + r) := by
  obtain ⟨hp, ht⟩ := at_pt t
  have e : (win0_4.blk t).view.emb (ix2 r j) = ix2 (⟨t.val * 272 + r, by omega⟩ : Fin 2176) j := by blk_ext [idx t]
  unfold blk4
  blk_simp [iblk]
  rw [e, host4]

theorem block5 (r : Fin 272) (j : Fin 1024) : blk5 m c t (ix2 r j) = ext (fun n => m ((c : Thread nD τ).loc main_arg4) (ix2 n j)) (t.val * 272 + r) := by
  obtain ⟨hp, ht⟩ := at_pt t
  have e : (win0_5.blk t).view.emb (ix2 r j) = ix2 (⟨t.val * 272 + r, by omega⟩ : Fin 2176) j := by blk_ext [idx t]
  unfold blk5
  blk_simp [iblk]
  rw [e, host5]

theorem block6 (d : Fin 1024) : blk6 m c t (ix2 0 d) = m ((c : Thread nD τ).loc main_arg1) (ix2 0 d) := by
  have e : (win0_6.blk t).view.emb (ix2 0 d) = ix2 0 d := by blk_ext [idx t]
  unfold blk6
  blk_simp [iblk]
  rw [e, host6]

end Cert.UpIdeal.Entry
-- ==== Proof.Up.Final.lean ====
/- What the norm's backward kernel behind two products leaves in its three result arrays. -/
module

public import proofs.«01_k».proof.Proof.Up.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpIdeal.Final

open Cert.UpIdeal Cert.UpIdeal.Gen Cert.UpIdeal.Tile Cert.UpIdeal.Entry Cert.Num Cert.Pad Cert.Rms

/-- The kernel's one over the row's length, and its small constant. -/
abbrev inv : EReal := Ideal.ofBits .f32 0x3A800000#32
abbrev eps : EReal := Ideal.ofBits .f32 0x358637BD#32

theorem pay3_at (a : BitVec 32) (v w : FVec Ideal S272x1024 .f32) (r : Fin 272) (d : Fin 1024) :
    k0_pay3 (F := Ideal) a v w (ix2 r d) = k0_pay1 (F := Ideal) a v w (ix2 r d) := by pointwise [k0_pay3]

theorem pay4_at (v w : FVec Ideal S272x1024 .f32) (acc : FVec Ideal S1x1024 .f32) (d : Fin 1024) :
    k0_pay4 (F := Ideal) v w acc (ix2 0 d) = acc (ix2 0 d) + k0_pay2 (F := Ideal) v w (ix2 0 d) := by pointwise [k0_pay4]

theorem pay6_at (v : FVec Ideal S272x1024 .f32) (r : Fin 272) (d : Fin 1024) : k0_pay6 (F := Ideal) v (ix2 r d) = v (ix2 r d) := by pointwise [k0_pay6]

variable (m : (ℓ : Loc nD τ sig) → Buf (Elt Ideal) ℓ) (c : Dev nD)

/-- Row `n` of the norm's argument, of the gradient reaching its result, and of the other branch's gradient. -/
def x (n : ℕ) (d : Fin 1024) : EReal := ext (fun r => m ((c : Thread nD τ).loc main_arg0) (ix2 r d)) n
def dyAt (n : ℕ) (d : Fin 1024) : EReal :=
  (∑ k : Fin 2816, ext (fun r => m ((c : Thread nD τ).loc main_arg5) (ix2 r k)) n * m ((c : Thread nD τ).loc main_arg2) (ix2 d k))
    + ∑ k : Fin 2816, ext (fun r => m ((c : Thread nD τ).loc main_arg6) (ix2 r k)) n * m ((c : Thread nD τ).loc main_arg3) (ix2 d k)
def res (n : ℕ) (d : Fin 1024) : EReal := ext (fun r => m ((c : Thread nD τ).loc main_arg4) (ix2 r d)) n
def w (d : Fin 1024) : EReal := m ((c : Thread nD τ).loc main_arg1) (ix2 0 d)

/-- Row `n` of the first result, and what row `n` adds to the weight's gradient. -/
def outAt (n : ℕ) (d : Fin 1024) : EReal :=
  if 112 ≤ n then res m c n d + dx inv eps (x m c n) (fun e => dyAt m c n e * w m c e) d else 0
def dwAt (n : ℕ) (d : Fin 1024) : EReal := dyAt m c n d * (x m c n d * rt inv eps (x m c n))

variable (t : Fin cfg0.N)

theorem dy_blk (r : Fin 272) (d : Fin 1024) : dy (blk0 m c t) (blk1 m c t) (blk2 m c t) (blk3 m c t) r d = dyAt m c (t.val * 272 + r) d := by
  unfold dy dyAt
  simp only [block0, block1, block2, block3]

theorem x_blk (r : Fin 272) : (fun d => blk4 m c t (ix2 r d)) = x m c (t.val * 272 + r) := funext fun d => block4 m c t r d

theorem out_blk (r : Fin 272) (d : Fin 1024) :
    k0_pay1 (F := Ideal) (BitVec.ofNat 32 (grid0.coords t 0).val) (k0_pay6 (blk5 m c t))
      (k0_pay10 (blk4 m c t) (blk6 m c t) (blk0 m c t) (blk2 m c t) (blk1 m c t) (blk3 m c t)) (ix2 r d) = outAt m c (t.val * 272 + r) d := by
  refine (pay1_at _ (grid0.coords t 0) _ r d).trans ?_
  rw [pay10_at, pay6_at, block5, x_blk, outAt]
  simp only [dy_blk, block6]
  rw [show 272 * ((grid0.coords t 0 : Fin _) : ℕ) + (r : ℕ) = t.val * 272 + r by rw [(at_pt t).1, Nat.mul_comm]]
  rfl

theorem dw_blk (d : Fin 1024) : k0_pay2 (F := Ideal) (k0_pay7 (blk0 m c t) (blk2 m c t) (blk1 m c t) (blk3 m c t)) (k0_pay9 (blk4 m c t)) (ix2 0 d)
    = ∑ r : Fin 272, dwAt m c (t.val * 272 + r) d := by
  rw [pay2_at]
  refine Finset.sum_congr rfl fun r _ => ?_
  rw [dy_blk, x_blk, block4]
  rfl

theorem left8 (r : Fin 272) (d : Fin 1024) : (outsAt0 m c t.val t.isLt).1 (ix2 r d) = outAt m c (t.val * 272 + r) d := by
  have ht := (at_pt t).2
  have hd := out_blk m c t r d
  by_cases h : t.val % 8 = 0
  · rw [outsAt0_A m c t h (by omega)]
    frame_out
    exact hd
  · rw [outsAt0_B m c t h (by omega)]
    frame_out
    exact hd

theorem left9 (r : Fin 272) (d : Fin 1024) : (outsAt0 m c t.val t.isLt).2.1 (ix2 r d) = outAt m c (t.val * 272 + r) d := by
  have ht := (at_pt t).2
  have hd := out_blk m c t r d
  by_cases h : t.val % 8 = 0
  · rw [outsAt0_A m c t h (by omega)]
    frame_out
    exact (pay3_at _ _ _ _ _).trans hd
  · rw [outsAt0_B m c t h (by omega)]
    frame_out
    exact (pay3_at _ _ _ _ _).trans hd

theorem first10 (d : Fin 1024) (h : t.val % 8 = 0) : (outsAt0 m c t.val t.isLt).2.2 (ix2 0 d) = 0 + ∑ e : Fin 272, dwAt m c (t.val * 272 + e) d := by
  have ht := (at_pt t).2
  rw [outsAt0_A m c t h (by omega), zero_add]
  frame_out
  exact dw_blk m c t d

theorem step10 (d : Fin 1024) (h : ¬t.val % 8 = 0) : (outsAt0 m c t.val t.isLt).2.2 (ix2 0 d)
    = (outsAt0 m c (t.val - 1) (Nat.lt_of_le_of_lt (Nat.sub_le _ _) t.isLt)).2.2 (ix2 0 d) + ∑ e : Fin 272, dwAt m c (t.val * 272 + e) d := by
  have ht := (at_pt t).2
  rw [outsAt0_B m c t h (by omega), ← dw_blk]
  frame_out
  exact pay4_at _ _ _ _

theorem final8 : (dats m 0 c).arrAt 8 (cfgs 0).N = fun i : S2176x1024.Idx => outAt m c (i 0).val (i 1) := by
  refine (dats m 0 c).arrAt_eq_of_covers 8 _ (by decide +kernel) fun t _ y => ?_
  obtain ⟨-, ht⟩ := at_pt t
  idx_vars y
  have e : (win0_8.blk t).view.emb (ix2 y0 y1) = ix2 (⟨t.val * 272 + y0, by omega⟩ : Fin 2176) y1 := by blk_ext [idx t]
  blk_simp [idx t]
  rw [after0_8, left8, e]
  rfl

theorem final9 : (dats m 0 c).arrAt 9 (cfgs 0).N = fun i : S2176x1024.Idx => outAt m c (i 0).val (i 1) := by
  refine (dats m 0 c).arrAt_eq_of_covers 9 _ (by decide +kernel) fun t _ y => ?_
  obtain ⟨-, ht⟩ := at_pt t
  idx_vars y
  have e : (win0_9.blk t).view.emb (ix2 y0 y1) = ix2 (⟨t.val * 272 + y0, by omega⟩ : Fin 2176) y1 := by blk_ext [idx t]
  blk_simp [idx t]
  rw [after0_9, left9, e]
  rfl

theorem final10 : (dats m 0 c).arrAt 10 (cfgs 0).N = fun i : S1x1024.Idx => ∑ n : Fin 2176, dwAt m c n (i 1) := by
  refine (dats m 0 c).arrAt_eq_of_after_last 10 t0_7 (by decide +kernel) _ fun y => ?_
  idx_vars y
  blk_simp
  rw [after0_10, Pipeline.eq_sum_fin_of_reset_step_apply_last (fun n h => (outsAt0 m c n h).2.2) 8 (fun _ => 0)
    (fun t i => ∑ e : Fin 272, dwAt m c (t.val * 272 + e) (i 1))
    (fun t h i => by idx_vars i; obtain rfl : i0 = 0 := Subsingleton.elim _ _; exact first10 m c t i1 h)
    (fun t h i => by idx_vars i; obtain rfl : i0 = 0 := Subsingleton.elim _ _; exact step10 m c t i1 h) (le_of_eq N_0) t0_7 rfl _, zero_add]
  exact Fin.sum_mul_add_congr (fun t e h => rfl)

end Cert.UpIdeal.Final
-- ==== Proof.Common.Consts.lean ====
/- The constants of the norms, as real numbers. -/
module

public import proofs.«01_k».proof.Proof.Common.Num

@[expose] public section

noncomputable section

open Idealize.ShloMosaic

namespace Cert.Num

theorem bits_1024 : Ideal.ofBits .f32 0x44800000#32 = ((1024 : ℝ) : EReal) := by
  simp [Ideal.ofBits, Ideal.ieee, ← EReal.coe_mul]; norm_num
theorem bits_inv1024 : Ideal.ofBits .f32 0x3A800000#32 = ((1 / 1024 : ℝ) : EReal) := by
  simp [Ideal.ofBits, Ideal.ieee, ← EReal.coe_mul]; norm_num
theorem bits_128 : Ideal.ofBits .f32 0x43000000#32 = ((128 : ℝ) : EReal) := by
  simp [Ideal.ofBits, Ideal.ieee, ← EReal.coe_mul]; norm_num
theorem bits_inv128 : Ideal.ofBits .f32 0x3C000000#32 = ((1 / 128 : ℝ) : EReal) := by
  simp [Ideal.ofBits, Ideal.ieee, ← EReal.coe_mul]; norm_num
theorem bits_256 : Ideal.ofBits .f32 0x43800000#32 = ((256 : ℝ) : EReal) := by
  simp [Ideal.ofBits, Ideal.ieee, ← EReal.coe_mul]; norm_num
theorem bits_inv256 : Ideal.ofBits .f32 0x3B800000#32 = ((1 / 256 : ℝ) : EReal) := by
  simp [Ideal.ofBits, Ideal.ieee, ← EReal.coe_mul]; norm_num
theorem bits_192 : Ideal.ofBits .f32 0x43400000#32 = ((192 : ℝ) : EReal) := by
  simp [Ideal.ofBits, Ideal.ieee, ← EReal.coe_mul]; norm_num
theorem bits_half : Ideal.ofBits .f32 0x3F000000#32 = ((1 / 2 : ℝ) : EReal) := by
  simp [Ideal.ofBits, Ideal.ieee, ← EReal.coe_mul]; norm_num
theorem bits_two : Ideal.ofBits .f32 0x40000000#32 = ((2 : ℝ) : EReal) := by
  simp [Ideal.ofBits, Ideal.ieee, ← EReal.coe_mul]; norm_num
theorem bits_neg_half : Ideal.ofBits .f32 0xBF000000#32 = ((-(1 / 2) : ℝ) : EReal) := by
  simp [Ideal.ofBits, Ideal.ieee, ← EReal.coe_mul]; norm_num
theorem bits_eps : ∃ e : ℝ, 0 < e ∧ Ideal.ofBits .f32 0x358637BD#32 = (e : EReal) := by
  refine ⟨8796093 / 2 ^ 43, by norm_num, ?_⟩
  simp [Ideal.ofBits, Ideal.ieee, ← EReal.coe_mul]; norm_num

end Cert.Num
-- ==== Proof.Up.Ref.lean ====
/- The derivative of the norm and its two products as the reference computes it, at an index, as the formulas of `Cert.Rms`. -/
module

public import proofs.«01_k».proof.Proof.Gen.UpRefIdeal.Read
public import proofs.«01_k».proof.Proof.Common.Rms
public import proofs.«01_k».proof.Proof.Common.Consts
public import proofs.«01_k».proof.Proof.Common.Pad

@[expose] public section

set_option maxRecDepth 16384

noncomputable section

open Idealize.ShloMosaic Idealize.ShloMosaic.TcCoe Idealize.SL.Sem

namespace Cert.UpRefIdeal.Ref

open Cert.UpRefIdeal Cert.UpRefIdeal.Gen Cert.UpRefIdeal.Read Cert.Num Cert.Rms Cert.Pad

abbrev inv : EReal := Ideal.ofBits .f32 0x3A800000#32
abbrev eps : EReal := Ideal.ofBits .f32 0x358637BD#32
abbrev cnt : EReal := Ideal.ofBits .f32 0x44800000#32
abbrev mh : EReal := Ideal.ofBits .f32 0xBF000000#32

variable (x0 x4 : FVec Ideal S2064x1024 .f32) (x1 : FVec Ideal S1x1024 .f32) (x2 x3 : FVec Ideal S1024x2816 .f32) (x5 x6 : FVec Ideal S2064x2816 .f32)

/-- The gradient that reaches the norm's result: the two products' sum. -/
def dy (r : Fin 2064) (d : Fin 1024) : EReal := (∑ k, x5 (ix2 r k) * x2 (ix2 d k)) + ∑ k, x6 (ix2 r k) * x3 (ix2 d k)

theorem dy_at (r : Fin 2064) (d : Fin 1024) : val_main_v19 (F := Ideal) x2 x3 x5 x6 (ix2 r d) = dy x2 x3 x5 x6 r d := by
  unfold dy
  rw [add_comm]
  pointwise [val_main_v19, val_main_v18, val_main_v17]

theorem ms_at (r : Fin 2064) : val_main_v6 (F := Ideal) x0 (ix2 r 0) = ms cnt eps (fun d => x0 (ix2 r d)) := by
  unfold ms
  pointwise [val_main_v6, val_main_v5, val_main_v4, val_main_v3, val_main_v2, val_main_v1, val_main_v0, val_main_cst, val_main_cst_0, val_main_cst_1]

theorem root_at (r : Fin 2064) : val_main_v7 (F := Ideal) x0 (ix2 r 0) = Ideal.rsqrt (ms cnt eps (fun d => x0 (ix2 r d))) := by
  rw [← ms_at]
  pointwise [val_main_v7]

theorem gy_at (r : Fin 2064) (d : Fin 1024) : val_main_v24 (F := Ideal) x1 x2 x3 x5 x6 (ix2 r d) = dy x2 x3 x5 x6 r d * x1 (ix2 0 d) := by
  rw [← dy_at]
  pointwise [val_main_v24, val_main_v23]

theorem dms_at (r : Fin 2064) : val_main_v34 (F := Ideal) x0 x1 x2 x3 x5 x6 (ix1 r)
    = dms cnt eps mh (fun d => x0 (ix2 r d)) (fun d => dy x2 x3 x5 x6 r d * x1 (ix2 0 d)) := by
  unfold dms
  simp only [← root_at, ← gy_at]
  simp only [← ms_at]
  pointwise [val_main_v34, val_main_v33, val_main_v32, val_main_v31, val_main_v27, val_main_v26, val_main_v25, val_main_v10, val_main_v9, val_main_v8,
    val_main_cst_2, val_main_cst_4, val_main_cst_5, val_main_cst_6]
  exact Fin.sum_univ_one _

theorem out_at (r : Fin 2064) (d : Fin 1024) : val_main_v39 (F := Ideal) x0 x1 x2 x3 x4 x5 x6 (ix2 r d)
    = x4 (ix2 r d) + dy x2 x3 x5 x6 r d * x1 (ix2 0 d) * Ideal.rsqrt (ms cnt eps (fun d => x0 (ix2 r d)))
      + x0 (ix2 r d) * dms cnt eps mh (fun d => x0 (ix2 r d)) (fun d => dy x2 x3 x5 x6 r d * x1 (ix2 0 d))
      + dms cnt eps mh (fun d => x0 (ix2 r d)) (fun d => dy x2 x3 x5 x6 r d * x1 (ix2 0 d)) * x0 (ix2 r d) := by
  rw [← dms_at, ← root_at, ← gy_at]
  pointwise [val_main_v39, val_main_v38, val_main_v37, val_main_v36, val_main_v35, val_main_v30, val_main_v29, val_main_v28]

theorem pad_at (r : Fin 2176) (d : Fin 1024) : val_main_v40 (F := Ideal) x0 x1 x2 x3 x4 x5 x6 (ix2 r d)
    = ext (fun n => val_main_v39 (F := Ideal) x0 x1 x2 x3 x4 x5 x6 (ix2 n d)) r := by
  pointwise [val_main_v40, val_main_call0_v0, val_main_c]
  exact ext_pad (fun n => val_main_v39 (F := Ideal) x0 x1 x2 x3 x4 x5 x6 (ix2 n d)) r _ zero32

theorem copy_at (r : Fin 2176) (d : Fin 1024) : val_main_v41 (F := Ideal) x0 x1 x2 x3 x4 x5 x6 (ix2 r d)
    = val_main_v40 (F := Ideal) x0 x1 x2 x3 x4 x5 x6 (ix2 r d) := by
  pointwise [val_main_v41]

theorem dw_at (d : Fin 1024) : val_main_v22 (F := Ideal) x0 x2 x3 x5 x6 (ix2 0 d)
    = ∑ r : Fin 2064, x0 (ix2 r d) * Ideal.rsqrt (ms cnt eps (fun d => x0 (ix2 r d))) * dy x2 x3 x5 x6 r d := by
  simp only [← dy_at, ← root_at]
  pointwise [val_main_v22, val_main_v21, val_main_v20, val_main_v12, val_main_v11, val_main_cst_3]

end Cert.UpRefIdeal.Ref
-- ==== Proof.Up.Value.lean ====
/- The norm's backward kernel behind two products computes the derivative of the norm and the products: the claim about its
   three results. -/
module

public import proofs.«01_k».proof.Defs
public import proofs.«01_k».proof.Proof.Up.Final
public import proofs.«01_k».proof.Proof.Up.Ref
public import proofs.«01_k».proof.Proof.Gen.UpRefIdeal.Run
public import proofs.«01_k».proof.Proof.Gen.Pre_up_finite
public import proofs.«01_k».proof.Proof.Gen.Up.Frame
public import Idealize.ShloMosaic.Lib.Quiescent

@[expose] public section

set_option maxRecDepth 16384

noncomputable section

open Idealize.ShloMosaic Idealize.ShloMosaic.TcCoe Idealize.SL.Sem

namespace Cert.Pre_up_finite.Read

open Cert.Pre_up_finite Cert.Pre_up_finite.Gen Cert.Num

instance : Subsingleton S_.Idx := ⟨fun _ _ => funext fun a => a.elim0⟩

theorem finite (x0 : FVec Ideal S2064x1024 .f32) (x1 : FVec Ideal S1x1024 .f32) (x2 x3 : FVec Ideal S1024x2816 .f32)
    (x4 : FVec Ideal S2064x1024 .f32) (x5 x6 : FVec Ideal S2064x2816 .f32)
    (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x5 i)) ∧ ∀ i, IsReal (x6 i) := by
  have h0 := congrFun h ix0
  obtain ⟨h1, k6⟩ := IntOp.andi_eq_one.1 h0
  obtain ⟨h2, k5⟩ := IntOp.andi_eq_one.1 h1
  obtain ⟨h3, k3⟩ := IntOp.andi_eq_one.1 h2
  obtain ⟨h4, k2⟩ := IntOp.andi_eq_one.1 h3
  obtain ⟨k0, k1⟩ := IntOp.andi_eq_one.1 h4
  exact ⟨fun i => isReal_of_abs_lt _ (Host.reduce_andi_all _ _ _ _ _ k0 i), fun i => isReal_of_abs_lt _ (Host.reduce_andi_all _ _ _ _ _ k1 i),
    fun i => isReal_of_abs_lt _ (Host.reduce_andi_all _ _ _ _ _ k2 i), fun i => isReal_of_abs_lt _ (Host.reduce_andi_all _ _ _ _ _ k3 i),
    fun i => isReal_of_abs_lt _ (Host.reduce_andi_all _ _ _ _ _ k5 i), fun i => isReal_of_abs_lt _ (Host.reduce_andi_all _ _ _ _ _ k6 i)⟩

end Cert.Pre_up_finite.Read

namespace Cert.UpProj

open Cert.UpRefIdeal Cert.UpRefIdeal.Gen Cert.UpRefIdeal.Read Cert.UpRefIdeal.Ref Cert.Num Cert.Rms Cert.Pad
open Cert.UpIdeal.Final (outAt dwAt dyAt res)

/-- The reference ends, with its arguments unchanged and every counter at zero. -/
theorem reference_ends : Cert.quiescent_UpRefIdeal (hUpRefIdeal := Cert.UpRefIdeal.Gen.facts) := fun m ρ _ =>
  (θ_run _ _ _).mono (fun r h => ⟨fun c => (h c).2.2.2, sem_eq_zero_of_no_sems rfl r.2⟩) (Cert.UpRefIdeal.Value.run m ρ)

section

variable (m : (ℓ : Loc Cert.UpIdeal.nD Cert.UpIdeal.τ Cert.UpIdeal.sig) → Buf (Elt Ideal) ℓ) (c : Dev Cert.UpIdeal.nD)

abbrev a0 : FVec Ideal S2064x1024 .f32 := m ((c : Thread Cert.UpIdeal.nD Cert.UpIdeal.τ).loc Cert.UpIdeal.main_arg0)
abbrev a1 : FVec Ideal S1x1024 .f32 := m ((c : Thread Cert.UpIdeal.nD Cert.UpIdeal.τ).loc Cert.UpIdeal.main_arg1)
abbrev a2 : FVec Ideal S1024x2816 .f32 := m ((c : Thread Cert.UpIdeal.nD Cert.UpIdeal.τ).loc Cert.UpIdeal.main_arg2)
abbrev a3 : FVec Ideal S1024x2816 .f32 := m ((c : Thread Cert.UpIdeal.nD Cert.UpIdeal.τ).loc Cert.UpIdeal.main_arg3)
abbrev a4 : FVec Ideal S2064x1024 .f32 := m ((c : Thread Cert.UpIdeal.nD Cert.UpIdeal.τ).loc Cert.UpIdeal.main_arg4)
abbrev a5 : FVec Ideal S2064x2816 .f32 := m ((c : Thread Cert.UpIdeal.nD Cert.UpIdeal.τ).loc Cert.UpIdeal.main_arg5)
abbrev a6 : FVec Ideal S2064x2816 .f32 := m ((c : Thread Cert.UpIdeal.nD Cert.UpIdeal.τ).loc Cert.UpIdeal.main_arg6)

theorem dy_row (n : Fin 2064) (d : Fin 1024) : dyAt m c (112 + n) d = dy (a2 m c) (a3 m c) (a5 m c) (a6 m c) n d := by
  unfold dyAt dy
  simp only [ext_add]

theorem x_row (n : Fin 2064) : Cert.UpIdeal.Final.x m c (112 + n) = fun d => a0 m c (ix2 n d) :=
  funext fun d => ext_add _ n

variable (h0 : ∀ i, IsReal (a0 m c i)) (h1 : ∀ i, IsReal (a1 m c i)) (h2 : ∀ i, IsReal (a2 m c i)) (h3 : ∀ i, IsReal (a3 m c i))
  (h5 : ∀ i, IsReal (a5 m c i)) (h6 : ∀ i, IsReal (a6 m c i))

include h0 h1 h2 h3 h5 h6 in
theorem out_eq (n : Fin 2064) (d : Fin 1024) : val_main_v39 (F := Ideal) (a0 m c) (a1 m c) (a2 m c) (a3 m c) (a4 m c) (a5 m c) (a6 m c) (ix2 n d)
    = outAt m c (112 + n) d := by
  obtain ⟨e, he, hb⟩ := bits_eps
  have hx : ∀ d, IsReal ((fun d => a0 m c (ix2 n d)) d) := fun d => h0 _
  have hg : ∀ d, IsReal ((fun d => dy (a2 m c) (a3 m c) (a5 m c) (a6 m c) n d * a1 m c (ix2 0 d)) d) := fun d =>
    IsReal.mul (IsReal.add (IsReal.sum _ fun k => IsReal.mul (h5 _) (h2 _)) (IsReal.sum _ fun k => IsReal.mul (h6 _) (h3 _))) (h1 _)
  have k := dx_eq (by norm_num : (0 : ℝ) < 1024) he hx hg d
  have q := (rt_eq (by norm_num : (0 : ℝ) < 1024) he hx).1
  unfold outAt
  rw [if_pos (by omega), x_row, out_at]
  simp only [dy_row]
  rw [show Cert.UpIdeal.Final.inv = ((1 / 1024 : ℝ) : EReal) from bits_inv1024, show Cert.UpIdeal.Final.eps = (e : EReal) from hb]
  refine Eq.trans ?_ (congrArg (res m c (112 + n) d + ·) k.symm)
  rw [show cnt = ((1024 : ℝ) : EReal) from bits_1024, show eps = (e : EReal) from hb, show mh = ((-(1 / 2) : ℝ) : EReal) from bits_neg_half,
    ← q, show res m c (112 + n) d = a4 m c (ix2 n d) from ext_add _ n, ← add_assoc, ← add_assoc]

include h0 h1 h2 h3 h5 h6 in
theorem first_eq (r : Fin 2176) (d : Fin 1024) : val_main_v40 (F := Ideal) (a0 m c) (a1 m c) (a2 m c) (a3 m c) (a4 m c) (a5 m c) (a6 m c) (ix2 r d)
    = outAt m c r d := by
  rw [pad_at]
  unfold ext
  split
  · rename_i h
    refine (out_eq m c h0 h1 h2 h3 h5 h6 ⟨_, _⟩ d).trans ?_
    exact congrArg (fun n => outAt m c n d) (by show 112 + ((r : ℕ) - 112) = r; omega)
  · exact (if_neg (by omega)).symm

include h0 in
theorem weight_eq (d : Fin 1024) : val_main_v22 (F := Ideal) (a0 m c) (a2 m c) (a3 m c) (a5 m c) (a6 m c) (ix2 0 d)
    = ∑ n : Fin 2176, dwAt m c n d := by
  obtain ⟨e, he, hb⟩ := bits_eps
  rw [sum_rows (fun n => dwAt m c n d), dw_at]
  · refine Finset.sum_congr rfl fun n _ => ?_
    have hx : ∀ d, IsReal ((fun d => a0 m c (ix2 n d)) d) := fun d => h0 _
    have q := (rt_eq (by norm_num : (0 : ℝ) < 1024) he hx).1
    unfold dwAt
    rw [x_row, dy_row, show Cert.UpIdeal.Final.inv = ((1 / 1024 : ℝ) : EReal) from bits_inv1024, show Cert.UpIdeal.Final.eps = (e : EReal) from hb, q,
      show cnt = ((1024 : ℝ) : EReal) from bits_1024, show eps = (e : EReal) from hb, mul_comm]
  · intro n hn
    have z : dyAt m c n d = 0 := by
      unfold dyAt
      simp [ext_lt _ n hn]
    show dwAt m c n d = 0
    rw [dwAt, z, zero_mul]

end

/-- The kernel's run and the reference's run end with equal gradients of the norm's argument, twice, and of its weight. -/
theorem gradients : Cert.algebraic_UpIdeal_UpRefIdeal_pre_up_finite (hUpIdeal := Cert.UpIdeal.Gen.facts)
    (hUpRefIdeal := Cert.UpRefIdeal.Gen.facts) (hPre_up_finite := Cert.Pre_up_finite.Gen.facts) := by
  intro m ρ m' ρ' hpre hag
  refine ⟨_, _, _, Cert.UpIdeal.Value.run_blocks m ρ, ?_⟩
  refine (θ_run _ _ _).mono (fun r h c => ?_) (Cert.UpRefIdeal.Value.run m' ρ')
  obtain ⟨h0, h1, h2, h3, h5, h6⟩ := Cert.Pre_up_finite.Read.finite _ _ _ _ _ _ _ (hpre c)
  obtain ⟨e0, e1, e2, e3, e4, e5, e6⟩ := hag c
  refine ⟨(h c).1.trans ?_, (h c).2.1.trans ?_, (h c).2.2.1.trans ?_, (h c).2.2.2⟩
  · rw [val_main_v40_eq, e0, e1, e2, e3, e4, e5, e6, Cert.UpIdeal.Final.final8]
    funext i
    idx_vars i
    exact first_eq m c h0 h1 h2 h3 h5 h6 i0 i1
  · rw [val_main_v41_eq, e0, e1, e2, e3, e4, e5, e6, Cert.UpIdeal.Final.final9]
    funext i
    idx_vars i
    exact (copy_at _ _ _ _ _ _ _ i0 i1).trans (first_eq m c h0 h1 h2 h3 h5 h6 i0 i1)
  · rw [val_main_v22_eq, e0, e2, e3, e5, e6, Cert.UpIdeal.Final.final10]
    funext i
    idx_vars i
    obtain rfl : i0 = 0 := Subsingleton.elim _ _
    exact weight_eq m c h0 i1

end Cert.UpProj
-- ==== Proof.In.Tile.lean ====
/- The row block of the norm's backward kernel behind the input product: its printed payloads at an index, as the formulas of
   `Cert.Rms` at the block's rows. -/
module

public import proofs.«01_k».proof.Proof.Gen.InIdeal.Skeleton
public import proofs.«01_k».proof.Proof.Common.Rms

@[expose] public section

set_option maxRecDepth 16384

noncomputable section

open Idealize.ShloMosaic Idealize.ShloMosaic.TcCoe Idealize.SL.Sem

namespace Cert.InIdeal.Tile

open Cert.InIdeal Cert.InIdeal.Gen Cert.Num Cert.Rms

section

variable (v0 v2 : FVec Ideal S544x1024 .f32) (v4 : FVec Ideal S1x1024 .f32) (v5 : FVec Ideal S544x2816 .bf16) (v7 : FVec Ideal S2816x1024 .bf16)

/-- The gradient that reaches the norm's result. -/
def dy (r : Fin 544) (d : Fin 1024) : EReal := ∑ k, v5 (ix2 r k) * v7 (ix2 k d)

theorem pay3_at (r : Fin 544) (d : Fin 1024) : k0_pay3 (F := Ideal) v5 v7 (ix2 r d) = dy v5 v7 r d := by
  unfold dy
  pointwise [k0_pay3]

theorem pay4_at (r : Fin 544) : k0_pay4 (F := Ideal) v0 (ix2 r 0)
    = rt (Ideal.ofBits .f32 0x3A800000#32) (Ideal.ofBits .f32 0x358637BD#32) (fun d => v0 (ix2 r d)) := by
  unfold rt
  pointwise [k0_pay4, k0_pay2]

theorem pay6_at (r : Fin 544) (d : Fin 1024) : k0_pay6 (F := Ideal) v0 v2 v4 v5 v7 (ix2 r d)
    = v2 (ix2 r d) + dx (Ideal.ofBits .f32 0x3A800000#32) (Ideal.ofBits .f32 0x358637BD#32) (fun d => v0 (ix2 r d))
        (fun d => dy v5 v7 r d * v4 (ix2 0 d)) d := by
  unfold dx
  simp only [← pay4_at, ← pay3_at]
  pointwise [k0_pay6, k0_pay5, k0_pay2]

theorem pay7_at (d : Fin 1024) : k0_pay7 (F := Ideal) v0 v5 v7 (ix2 0 d)
    = ∑ r : Fin 544, dy v5 v7 r d * (v0 (ix2 r d) *
        rt (Ideal.ofBits .f32 0x3A800000#32) (Ideal.ofBits .f32 0x358637BD#32) (fun d => v0 (ix2 r d))) := by
  simp only [← pay4_at, ← pay3_at]
  pointwise [k0_pay7, k0_pay5, k0_pay2]

end

end Cert.InIdeal.Tile
-- ==== Proof.Common.Cols.lean ====
/- The column order of the input product: the 2632 columns as the model names them, and the 2816 columns the kernels read,
   regrouped and filled with zeros. -/
module

public import proofs.«01_k».proof.Proof.Common.Num
public import proofs.«01_k».proof.Proof.Common.Pad

@[expose] public section

noncomputable section

open Idealize.ShloMosaic Cert.Pad

namespace Cert.Cols

/-- Column `k` of the wider order. -/
def cols (f : Fin 2632 → EReal) (k : Fin 2816) : EReal :=
  if h : (k : ℕ) < 1536 then f ⟨576 + k, by omega⟩
  else if h : (k : ℕ) - 1536 < 512 then f ⟨2112 + (k - 1536), by omega⟩
  else if h : (k : ℕ) - 1536 - 512 < 256 then f ⟨k - 1536 - 512, by omega⟩
  else if h : (k : ℕ) - 1536 - 512 - 256 < 256 then f ⟨256 + (k - 1536 - 512 - 256), by omega⟩
  else if h : (k : ℕ) - 1536 - 512 - 256 - 256 < 64 then f ⟨512 + (k - 1536 - 512 - 256 - 256), by omega⟩
  else if (k : ℕ) - 1536 - 512 - 256 - 256 - 64 < 64 then 0
  else if h : (k : ℕ) - 1536 - 512 - 256 - 256 - 64 - 64 < 8 then f ⟨2624 + (k - 1536 - 512 - 256 - 256 - 64 - 64), by omega⟩
  else 0

/-- Where a column stands in the wider order. -/
def place (j : Fin 2632) : Fin 2816 :=
  if h : (j : ℕ) < 256 then ⟨2048 + j, by omega⟩
  else if h : (j : ℕ) < 512 then ⟨2304 + (j - 256), by omega⟩
  else if h : (j : ℕ) < 576 then ⟨2560 + (j - 512), by omega⟩
  else if h : (j : ℕ) < 2112 then ⟨j - 576, by omega⟩
  else if h : (j : ℕ) < 2624 then ⟨1536 + (j - 2112), by omega⟩
  else ⟨2688 + (j - 2624), by omega⟩

theorem place_val (j : Fin 2632) : (place j : ℕ) = if (j : ℕ) < 256 then 2048 + (j : ℕ) else if (j : ℕ) < 512 then 2304 + (j - 256)
    else if (j : ℕ) < 576 then 2560 + (j - 512) else if (j : ℕ) < 2112 then j - 576 else if (j : ℕ) < 2624 then 1536 + (j - 2112)
    else 2688 + (j - 2624) := by
  unfold place
  split_ifs <;> rfl

theorem place_inj : Function.Injective place := by
  intro a b h
  have h' := congrArg Fin.val h
  rw [place_val, place_val] at h'
  have ha := a.isLt
  have hb := b.isLt
  refine Fin.ext ?_
  split_ifs at h' <;> omega

theorem cols_place (f : Fin 2632 → EReal) (j : Fin 2632) : cols f (place j) = f j := by
  have p := place_val j
  have hj := j.isLt
  unfold cols
  split_ifs at p <;> split_ifs <;> first | omega | exact congrArg f (Fin.ext (by simp only; omega))

theorem cols_off (f : Fin 2632 → EReal) (k : Fin 2816) (h : k ∉ Set.range place) : cols f k = 0 := by
  have hk := k.isLt
  have no (j : ℕ) (hj : j < 2632) : (place ⟨j, hj⟩ : ℕ) ≠ k := fun e => h ⟨⟨j, hj⟩, Fin.ext e⟩
  simp only [place_val] at no
  unfold cols
  split_ifs with h1 h2 h3 h4 h5 h6 h7
  · exact absurd (by split_ifs <;> omega) (no (576 + k) (by omega))
  · exact absurd (by split_ifs <;> omega) (no (2112 + (k - 1536)) (by omega))
  · exact absurd (by split_ifs <;> omega) (no (k - 2048) (by omega))
  · exact absurd (by split_ifs <;> omega) (no (256 + (k - 2304)) (by omega))
  · exact absurd (by split_ifs <;> omega) (no (512 + (k - 2560)) (by omega))
  · rfl
  · exact absurd (by split_ifs <;> omega) (no (2624 + (k - 2688)) (by omega))
  · rfl

/-- A product over the wider order is the product over the columns. -/
theorem sum_cols (f g : Fin 2632 → EReal) : ∑ k, cols f k * cols g k = ∑ j, f j * g j :=
  (Fintype.sum_of_injective place place_inj _ _ (fun k hk => by rw [cols_off f k hk, zero_mul])
    (fun j => by rw [cols_place, cols_place])).symm

/-- An entry of the array with zero rows in front, its column within range. -/
theorem ext_pad_col {n : ℕ} (x : Fin 2064 → Fin n → EReal) (r : Fin 2176) (j : ℕ) (hj : j < n) (z : EReal) (hz : z = 0) :
    (if h : (112 ≤ (r : ℕ) ∧ (r : ℕ) - 112 < 2064) ∧ j < n then x ⟨r - 112, h.1.2⟩ ⟨j, h.2⟩ else z) = ext (fun i => x i ⟨j, hj⟩) r := by
  rw [← ext_pad (fun i => x i ⟨j, hj⟩) r z hz]
  by_cases h : 112 ≤ (r : ℕ) ∧ (r : ℕ) - 112 < 2064
  · rw [dif_pos ⟨h, hj⟩, dif_pos h]
  · rw [dif_neg (fun q => h q.1), dif_neg h]

/-- The array with zero rows in front, its columns in the wider order. -/
theorem cols_pad (x : Fin 2064 → Fin 2632 → EReal) (r : Fin 2176) (k : Fin 2816) (z : EReal) (hz : z = 0) :
    (if h : (k : ℕ) < 1536 then
      if h' : (112 ≤ (r : ℕ) ∧ (r : ℕ) - 112 < 2064) ∧ 576 + (k : ℕ) < 2632 then x ⟨r - 112, h'.1.2⟩ ⟨576 + k, h'.2⟩ else z
    else if h : (k : ℕ) - 1536 < 512 then
      if h' : (112 ≤ (r : ℕ) ∧ (r : ℕ) - 112 < 2064) ∧ 2112 + ((k : ℕ) - 1536) < 2632 then x ⟨r - 112, h'.1.2⟩ ⟨2112 + (k - 1536), h'.2⟩ else z
    else if h : (k : ℕ) - 1536 - 512 < 256 then
      if h' : (112 ≤ (r : ℕ) ∧ (r : ℕ) - 112 < 2064) ∧ (k : ℕ) - 1536 - 512 < 2632 then x ⟨r - 112, h'.1.2⟩ ⟨k - 1536 - 512, h'.2⟩ else z
    else if h : (k : ℕ) - 1536 - 512 - 256 < 256 then
      if h' : (112 ≤ (r : ℕ) ∧ (r : ℕ) - 112 < 2064) ∧ 256 + ((k : ℕ) - 1536 - 512 - 256) < 2632 then
        x ⟨r - 112, h'.1.2⟩ ⟨256 + (k - 1536 - 512 - 256), h'.2⟩ else z
    else if h : (k : ℕ) - 1536 - 512 - 256 - 256 < 64 then
      if h' : (112 ≤ (r : ℕ) ∧ (r : ℕ) - 112 < 2064) ∧ 512 + ((k : ℕ) - 1536 - 512 - 256 - 256) < 2632 then
        x ⟨r - 112, h'.1.2⟩ ⟨512 + (k - 1536 - 512 - 256 - 256), h'.2⟩ else z
    else if (k : ℕ) - 1536 - 512 - 256 - 256 - 64 < 64 then 0
    else if h : (k : ℕ) - 1536 - 512 - 256 - 256 - 64 - 64 < 8 then
      if h' : (112 ≤ (r : ℕ) ∧ (r : ℕ) - 112 < 2064) ∧ 2624 + ((k : ℕ) - 1536 - 512 - 256 - 256 - 64 - 64) < 2632 then
        x ⟨r - 112, h'.1.2⟩ ⟨2624 + (k - 1536 - 512 - 256 - 256 - 64 - 64), h'.2⟩ else z
    else 0) = cols (fun j => ext (fun i => x i j) r) k := by
  unfold cols
  refine dite_congr rfl (fun h => ext_pad_col x r _ (by omega) z hz) fun _ => ?_
  refine dite_congr rfl (fun h => ext_pad_col x r _ (by omega) z hz) fun _ => ?_
  refine dite_congr rfl (fun h => ext_pad_col x r _ (by omega) z hz) fun _ => ?_
  refine dite_congr rfl (fun h => ext_pad_col x r _ (by omega) z hz) fun _ => ?_
  refine dite_congr rfl (fun h => ext_pad_col x r _ (by omega) z hz) fun _ => ?_
  refine ite_congr rfl (fun _ => rfl) fun _ => ?_
  exact dite_congr rfl (fun h => ext_pad_col x r _ (by omega) z hz) fun _ => rfl

end Cert.Cols
-- ==== Proof.In.Entry.lean ====
/- The blocks the norm's backward kernel behind the input product reads at a grid point, as rows of the arguments. -/
module

public import proofs.«01_k».proof.Proof.Gen.InIdeal.Value
public import proofs.«01_k».proof.Proof.In.Tile
public import proofs.«01_k».proof.Proof.Common.Pad
public import proofs.«01_k».proof.Proof.Common.Cols
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InIdeal.Entry

open Cert.InIdeal Cert.InIdeal.Gen Cert.InIdeal.Tile Cert.Num Cert.Pad Cert.Cols

variable (m : (ℓ : Loc nD τ sig) → Buf (Elt Ideal) ℓ)

set_option maxHeartbeats 2000000 in
theorem host0 (c : Dev nD) (r : Fin 2176) (k : Fin 2816) : V m c main_v10 (ix2 r k)
    = cols (fun j => ext (fun n => m ((c : Thread nD τ).loc main_arg4) (ix2 n j)) r) k := by
  unfold V
  simp only [List.flatten_cons, List.flatten_nil, List.append_nil, List.cons_append, List.nil_append]
  after_reads_at
  all_goals after_reads_at
  exact cols_pad (fun n j => m ((c : Thread nD τ).loc main_arg4) (ix2 n j)) r k _ zero32

theorem host1 (c : Dev nD) (k : Fin 2816) (d : Fin 1024) : V m c main_v21 (ix2 k d) = cols (fun j => m ((c : Thread nD τ).loc main_arg2) (ix2 d j)) k := by
  unfold V
  simp only [List.flatten_cons, List.flatten_nil, List.append_nil, List.cons_append, List.nil_append]
  after_reads_at
  all_goals after_reads_at
  rfl

theorem host2 (c : Dev nD) (r : Fin 2176) (k : Fin 1024) : V m c main_v22 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host3 (c : Dev nD) (r : Fin 2176) (k : Fin 1024) : V m c main_v23 (ix2 r k) = ext (fun n => m ((c : Thread nD τ).loc main_arg3) (ix2 n k)) r := by
  unfold V
  simp only [List.flatten_cons, List.flatten_nil, List.append_nil, List.cons_append, List.nil_append]
  after_reads_at
  exact ext_pad (fun n => m ((c : Thread nD τ).loc main_arg3) (ix2 n k)) r _ zero32

theorem host4 (c : Dev nD) (i : S1x1024.Idx) : V m c main_arg1 i = m ((c : Thread nD τ).loc main_arg1) i := by
  unfold V
  simp only [List.flatten_cons, List.flatten_nil, List.append_nil, List.cons_append, List.nil_append]
  after_reads_at

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_6.index t = ![t.val, 0] ∧ win0_7.index t = ![0, 0]
    ∧ (grid0.coords t 0).val = t.val ∧ t.val < 4 :=
  (by decide +kernel : ∀ t : Fin grid0.N, _)

/-- The grid's one coordinate counts its points. -/
theorem at_pt (t : Fin cfg0.N) : (grid0.coords t 0).val = t.val ∧ t.val < 4 := (idx t).2.2.2.2.2.2.2

variable (c : Dev nD) (t : Fin cfg0.N)

def blk0 : FVec Ideal S544x2816 .bf16 := iblk m c 0 t
def blk1 : FVec Ideal S2816x1024 .bf16 := iblk m c 1 t
def blk2 : FVec Ideal S544x1024 .f32 := iblk m c 2 t
def blk3 : FVec Ideal S544x1024 .f32 := iblk m c 3 t
def blk4 : FVec Ideal S1x1024 .f32 := iblk m c 4 t

theorem block0 (r : Fin 544) (j : Fin 2816) : blk0 m c t (ix2 r j) = cols (fun j => ext (fun n => m ((c : Thread nD τ).loc main_arg4) (ix2 n j)) (t.val * 544 + r)) j := by
  obtain ⟨hp, ht⟩ := at_pt t
  have e : (win0_0.blk t).view.emb (ix2 r j) = ix2 (⟨t.val * 544 + r, by omega⟩ : Fin 2176) j := by blk_ext [idx t]
  unfold blk0
  blk_simp [iblk]
  rw [e, host0]

theorem block1 (k : Fin 2816) (d : Fin 1024) : blk1 m c t (ix2 k d) = cols (fun j => m ((c : Thread nD τ).loc main_arg2) (ix2 d j)) k := by
  have e : (win0_1.blk t).view.emb (ix2 k d) = ix2 k d := by blk_ext [idx t]
  unfold blk1
  blk_simp [iblk]
  rw [e, host1]

theorem block2 (r : Fin 544) (j : Fin 1024) : blk2 m c t (ix2 r j) = ext (fun n => m ((c : Thread nD τ).loc main_arg0) (ix2 n j)) (t.val * 544 + r) := by
  obtain ⟨hp, ht⟩ := at_pt t
  have e : (win0_2.blk t).view.emb (ix2 r j) = ix2 (⟨t.val * 544 + r, by omega⟩ : Fin 2176) j := by blk_ext [idx t]
  unfold blk2
  blk_simp [iblk]
  rw [e, host2]

theorem block3 (r : Fin 544) (j : Fin 1024) : blk3 m c t (ix2 r j) = ext (fun n => m ((c : Thread nD τ).loc main_arg3) (ix2 n j)) (t.val * 544 + r) := by
  obtain ⟨hp, ht⟩ := at_pt t
  have e : (win0_3.blk t).view.emb (ix2 r j) = ix2 (⟨t.val * 544 + r, by omega⟩ : Fin 2176) j := by blk_ext [idx t]
  unfold blk3
  blk_simp [iblk]
  rw [e, host3]

theorem block4 (d : Fin 1024) : blk4 m c t (ix2 0 d) = m ((c : Thread nD τ).loc main_arg1) (ix2 0 d) := by
  have e : (win0_4.blk t).view.emb (ix2 0 d) = ix2 0 d := by blk_ext [idx t]
  unfold blk4
  blk_simp [iblk]
  rw [e, host4]

end Cert.InIdeal.Entry
-- ==== Proof.In.Final.lean ====
/- What the norm's backward kernel behind the input product leaves in its two result arrays. -/
module

public import proofs.«01_k».proof.Proof.In.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InIdeal.Final

open Cert.InIdeal Cert.InIdeal.Gen Cert.InIdeal.Tile Cert.InIdeal.Entry Cert.Num Cert.Pad Cert.Rms Cert.Cols

/-- The kernel's one over the row's length, and its small constant. -/
abbrev inv : EReal := Ideal.ofBits .f32 0x3A800000#32
abbrev eps : EReal := Ideal.ofBits .f32 0x358637BD#32

theorem pay1_at (v acc : FVec Ideal S1x1024 .f32) (d : Fin 1024) :
    k0_pay1 (F := Ideal) v acc (ix2 0 d) = acc (ix2 0 d) + v (ix2 0 d) := by pointwise [k0_pay1]

variable (m : (ℓ : Loc nD τ sig) → Buf (Elt Ideal) ℓ) (c : Dev nD)

/-- Row `n` of the norm's argument, of the gradient reaching its result, and of the other branch's gradient. -/
def x (n : ℕ) (d : Fin 1024) : EReal := ext (fun r => m ((c : Thread nD τ).loc main_arg0) (ix2 r d)) n
def dyAt (n : ℕ) (d : Fin 1024) : EReal :=
  ∑ j : Fin 2632, ext (fun r => m ((c : Thread nD τ).loc main_arg4) (ix2 r j)) n * m ((c : Thread nD τ).loc main_arg2) (ix2 d j)
def res (n : ℕ) (d : Fin 1024) : EReal := ext (fun r => m ((c : Thread nD τ).loc main_arg3) (ix2 r d)) n
def w (d : Fin 1024) : EReal := m ((c : Thread nD τ).loc main_arg1) (ix2 0 d)

/-- Row `n` of the first result, and what row `n` adds to the weight's gradient. -/
def outAt (n : ℕ) (d : Fin 1024) : EReal :=
  res m c n d + dx inv eps (x m c n) (fun e => dyAt m c n e * w m c e) d
def dwAt (n : ℕ) (d : Fin 1024) : EReal := dyAt m c n d * (x m c n d * rt inv eps (x m c n))

variable (t : Fin cfg0.N)

theorem dy_blk (r : Fin 544) (d : Fin 1024) : dy (blk0 m c t) (blk1 m c t) r d = dyAt m c (t.val * 544 + r) d := by
  unfold dy dyAt
  simp only [block0, block1]
  exact sum_cols _ _

theorem x_blk (r : Fin 544) : (fun d => blk2 m c t (ix2 r d)) = x m c (t.val * 544 + r) := funext fun d => block2 m c t r d

theorem out_blk (r : Fin 544) (d : Fin 1024) :
    k0_pay6 (F := Ideal) (blk2 m c t) (blk3 m c t) (blk4 m c t) (blk0 m c t) (blk1 m c t) (ix2 r d) = outAt m c (t.val * 544 + r) d := by
  rw [pay6_at, block3, x_blk, outAt]
  simp only [dy_blk, block4]
  rfl

theorem dw_blk (d : Fin 1024) : k0_pay7 (F := Ideal) (blk2 m c t) (blk0 m c t) (blk1 m c t) (ix2 0 d)
    = ∑ r : Fin 544, dwAt m c (t.val * 544 + r) d := by
  rw [pay7_at]
  refine Finset.sum_congr rfl fun r _ => ?_
  rw [dy_blk, x_blk, block2]
  rfl

theorem left6 (r : Fin 544) (d : Fin 1024) : (outsAt0 m c t.val t.isLt).1 (ix2 r d) = outAt m c (t.val * 544 + r) d := by
  have ht := (at_pt t).2
  have hd := out_blk m c t r d
  by_cases h : t.val % 4 = 0
  · rw [outsAt0_A m c t h (by omega)]
    frame_out
    exact hd
  · rw [outsAt0_B m c t h (by omega)]
    frame_out
    exact hd

theorem first7 (d : Fin 1024) (h : t.val % 4 = 0) : (outsAt0 m c t.val t.isLt).2 (ix2 0 d) = 0 + ∑ e : Fin 544, dwAt m c (t.val * 544 + e) d := by
  have ht := (at_pt t).2
  rw [outsAt0_A m c t h (by omega), zero_add]
  frame_out
  exact dw_blk m c t d

theorem step7 (d : Fin 1024) (h : ¬t.val % 4 = 0) : (outsAt0 m c t.val t.isLt).2 (ix2 0 d)
    = (outsAt0 m c (t.val - 1) (Nat.lt_of_le_of_lt (Nat.sub_le _ _) t.isLt)).2 (ix2 0 d) + ∑ e : Fin 544, dwAt m c (t.val * 544 + e) d := by
  have ht := (at_pt t).2
  rw [outsAt0_B m c t h (by omega), ← dw_blk]
  frame_out
  exact pay1_at _ _ _

theorem final6 : (dats m 0 c).arrAt 6 (cfgs 0).N = fun i : S2176x1024.Idx => outAt m c (i 0).val (i 1) := by
  refine (dats m 0 c).arrAt_eq_of_covers 6 _ (by decide +kernel) fun t _ y => ?_
  obtain ⟨-, ht⟩ := at_pt t
  idx_vars y
  have e : (win0_6.blk t).view.emb (ix2 y0 y1) = ix2 (⟨t.val * 544 + y0, by omega⟩ : Fin 2176) y1 := by blk_ext [idx t]
  blk_simp [idx t]
  rw [after0_6, left6, e]
  rfl

theorem final7 : (dats m 0 c).arrAt 7 (cfgs 0).N = fun i : S1x1024.Idx => ∑ n : Fin 2176, dwAt m c n (i 1) := by
  refine (dats m 0 c).arrAt_eq_of_after_last 7 t0_3 (by decide +kernel) _ fun y => ?_
  idx_vars y
  blk_simp
  rw [after0_7, Pipeline.eq_sum_fin_of_reset_step_apply_last (fun n h => (outsAt0 m c n h).2) 4 (fun _ => 0)
    (fun t i => ∑ e : Fin 544, dwAt m c (t.val * 544 + e) (i 1))
    (fun t h i => by idx_vars i; obtain rfl : i0 = 0 := Subsingleton.elim _ _; exact first7 m c t i1 h)
    (fun t h i => by idx_vars i; obtain rfl : i0 = 0 := Subsingleton.elim _ _; exact step7 m c t i1 h) (le_of_eq N_0) t0_3 rfl _, zero_add]
  exact Fin.sum_mul_add_congr (fun t e h => rfl)

end Cert.InIdeal.Final
-- ==== Proof.In.Ref.lean ====
/- The derivative of the norm and its product as the reference computes it, at an index, as the formulas of `Cert.Rms`. -/
module

public import proofs.«01_k».proof.Proof.Gen.InRefIdeal.Read
public import proofs.«01_k».proof.Proof.Common.Rms
public import proofs.«01_k».proof.Proof.Common.Consts
public import proofs.«01_k».proof.Proof.Common.Pad

@[expose] public section

set_option maxRecDepth 16384

noncomputable section

open Idealize.ShloMosaic Idealize.ShloMosaic.TcCoe Idealize.SL.Sem

namespace Cert.InRefIdeal.Ref

open Cert.InRefIdeal Cert.InRefIdeal.Gen Cert.InRefIdeal.Read Cert.Num Cert.Rms Cert.Pad

abbrev inv : EReal := Ideal.ofBits .f32 0x3A800000#32
abbrev eps : EReal := Ideal.ofBits .f32 0x358637BD#32
abbrev cnt : EReal := Ideal.ofBits .f32 0x44800000#32
abbrev mh : EReal := Ideal.ofBits .f32 0xBF000000#32

variable (x0 x3 : FVec Ideal S2064x1024 .f32) (x1 : FVec Ideal S1x1024 .f32) (x2 : FVec Ideal S1024x2632 .f32) (x4 : FVec Ideal S2064x2632 .f32)

/-- The gradient that reaches the norm's result. -/
def dy (r : Fin 2064) (d : Fin 1024) : EReal := ∑ k, x4 (ix2 r k) * x2 (ix2 d k)

theorem dy_at (r : Fin 2064) (d : Fin 1024) : val_main_v16 (F := Ideal) x2 x4 (ix2 r d) = dy x2 x4 r d := by
  unfold dy
  pointwise [val_main_v16]

theorem ms_at (r : Fin 2064) : val_main_v6 (F := Ideal) x0 (ix2 r 0) = ms cnt eps (fun d => x0 (ix2 r d)) := by
  unfold ms
  pointwise [val_main_v6, val_main_v5, val_main_v4, val_main_v3, val_main_v2, val_main_v1, val_main_v0, val_main_cst, val_main_cst_0, val_main_cst_1]

theorem root_at (r : Fin 2064) : val_main_v7 (F := Ideal) x0 (ix2 r 0) = Ideal.rsqrt (ms cnt eps (fun d => x0 (ix2 r d))) := by
  rw [← ms_at]
  pointwise [val_main_v7]

theorem gy_at (r : Fin 2064) (d : Fin 1024) : val_main_v21 (F := Ideal) x1 x2 x4 (ix2 r d) = dy x2 x4 r d * x1 (ix2 0 d) := by
  rw [← dy_at]
  pointwise [val_main_v21, val_main_v20]

theorem dms_at (r : Fin 2064) : val_main_v31 (F := Ideal) x0 x1 x2 x4 (ix1 r)
    = dms cnt eps mh (fun d => x0 (ix2 r d)) (fun d => dy x2 x4 r d * x1 (ix2 0 d)) := by
  unfold dms
  simp only [← root_at, ← gy_at]
  simp only [← ms_at]
  pointwise [val_main_v31, val_main_v30, val_main_v29, val_main_v28, val_main_v24, val_main_v23, val_main_v22, val_main_v10, val_main_v9, val_main_v8,
    val_main_cst_2, val_main_cst_4, val_main_cst_5, val_main_cst_6]
  exact Fin.sum_univ_one _

theorem out_at (r : Fin 2064) (d : Fin 1024) : val_main_v36 (F := Ideal) x0 x1 x2 x3 x4 (ix2 r d)
    = x3 (ix2 r d) + dy x2 x4 r d * x1 (ix2 0 d) * Ideal.rsqrt (ms cnt eps (fun d => x0 (ix2 r d)))
      + x0 (ix2 r d) * dms cnt eps mh (fun d => x0 (ix2 r d)) (fun d => dy x2 x4 r d * x1 (ix2 0 d))
      + dms cnt eps mh (fun d => x0 (ix2 r d)) (fun d => dy x2 x4 r d * x1 (ix2 0 d)) * x0 (ix2 r d) := by
  rw [← dms_at, ← root_at, ← gy_at]
  pointwise [val_main_v36, val_main_v35, val_main_v34, val_main_v33, val_main_v32, val_main_v27, val_main_v26, val_main_v25]

theorem pad_at (r : Fin 2176) (d : Fin 1024) : val_main_v37 (F := Ideal) x0 x1 x2 x3 x4 (ix2 r d)
    = ext (fun n => val_main_v36 (F := Ideal) x0 x1 x2 x3 x4 (ix2 n d)) r := by
  pointwise [val_main_v37, val_main_call0_v0, val_main_c]
  exact ext_pad (fun n => val_main_v36 (F := Ideal) x0 x1 x2 x3 x4 (ix2 n d)) r _ zero32

theorem dw_at (d : Fin 1024) : val_main_v19 (F := Ideal) x0 x2 x4 (ix2 0 d)
    = ∑ r : Fin 2064, x0 (ix2 r d) * Ideal.rsqrt (ms cnt eps (fun d => x0 (ix2 r d))) * dy x2 x4 r d := by
  simp only [← dy_at, ← root_at]
  pointwise [val_main_v19, val_main_v18, val_main_v17, val_main_v12, val_main_v11, val_main_cst_3]

end Cert.InRefIdeal.Ref
-- ==== Proof.In.Value.lean ====
/- The norm's backward kernel behind the input product computes the derivative of the norm and the product: the claim about its
   three results. -/
module

public import proofs.«01_k».proof.Defs
public import proofs.«01_k».proof.Proof.In.Final
public import proofs.«01_k».proof.Proof.In.Ref
public import proofs.«01_k».proof.Proof.Gen.InRefIdeal.Run
public import proofs.«01_k».proof.Proof.Gen.Pre_in_finite
public import proofs.«01_k».proof.Proof.Gen.In.Frame
public import Idealize.ShloMosaic.Lib.Quiescent

@[expose] public section

set_option maxRecDepth 16384

noncomputable section

open Idealize.ShloMosaic Idealize.ShloMosaic.TcCoe Idealize.SL.Sem

namespace Cert.Pre_in_finite.Read

open Cert.Pre_in_finite Cert.Pre_in_finite.Gen Cert.Num

instance : Subsingleton S_.Idx := ⟨fun _ _ => funext fun a => a.elim0⟩

theorem finite (x0 : FVec Ideal S2064x1024 .f32) (x1 : FVec Ideal S1x1024 .f32) (x2 : FVec Ideal S1024x2632 .f32)
    (x3 : FVec Ideal S2064x1024 .f32) (x4 : FVec Ideal S2064x2632 .f32)
    (h : fn (F := Ideal) x0 x1 x2 x3 x4 = fun _ => 1#1) :
    (∀ i, IsReal (x0 i)) ∧ (∀ i, IsReal (x1 i)) ∧ (∀ i, IsReal (x2 i)) ∧ ∀ i, IsReal (x4 i) := by
  have h0 := congrFun h ix0
  obtain ⟨h1, k4⟩ := IntOp.andi_eq_one.1 h0
  obtain ⟨h2, k2⟩ := IntOp.andi_eq_one.1 h1
  obtain ⟨k0, k1⟩ := IntOp.andi_eq_one.1 h2
  exact ⟨fun i => isReal_of_abs_lt _ (Host.reduce_andi_all _ _ _ _ _ k0 i), fun i => isReal_of_abs_lt _ (Host.reduce_andi_all _ _ _ _ _ k1 i),
    fun i => isReal_of_abs_lt _ (Host.reduce_andi_all _ _ _ _ _ k2 i), fun i => isReal_of_abs_lt _ (Host.reduce_andi_all _ _ _ _ _ k4 i)⟩

end Cert.Pre_in_finite.Read

namespace Cert.InProj

open Cert.InRefIdeal Cert.InRefIdeal.Gen Cert.InRefIdeal.Read Cert.InRefIdeal.Ref Cert.Num Cert.Rms Cert.Pad
open Cert.InIdeal.Final (outAt dwAt dyAt res)

/-- The reference ends, with its arguments unchanged and every counter at zero. -/
theorem reference_ends : Cert.quiescent_InRefIdeal (hInRefIdeal := Cert.InRefIdeal.Gen.facts) := fun m ρ _ =>
  (θ_run _ _ _).mono (fun r h => ⟨fun c => (h c).2.2, sem_eq_zero_of_no_sems rfl r.2⟩) (Cert.InRefIdeal.Value.run m ρ)

section

variable (m : (ℓ : Loc Cert.InIdeal.nD Cert.InIdeal.τ Cert.InIdeal.sig) → Buf (Elt Ideal) ℓ) (c : Dev Cert.InIdeal.nD)

abbrev a0 : FVec Ideal S2064x1024 .f32 := m ((c : Thread Cert.InIdeal.nD Cert.InIdeal.τ).loc Cert.InIdeal.main_arg0)
abbrev a1 : FVec Ideal S1x1024 .f32 := m ((c : Thread Cert.InIdeal.nD Cert.InIdeal.τ).loc Cert.InIdeal.main_arg1)
abbrev a2 : FVec Ideal S1024x2632 .f32 := m ((c : Thread Cert.InIdeal.nD Cert.InIdeal.τ).loc Cert.InIdeal.main_arg2)
abbrev a3 : FVec Ideal S2064x1024 .f32 := m ((c : Thread Cert.InIdeal.nD Cert.InIdeal.τ).loc Cert.InIdeal.main_arg3)
abbrev a4 : FVec Ideal S2064x2632 .f32 := m ((c : Thread Cert.InIdeal.nD Cert.InIdeal.τ).loc Cert.InIdeal.main_arg4)

theorem dy_row (n : Fin 2064) (d : Fin 1024) : dyAt m c (112 + n) d = dy (a2 m c) (a4 m c) n d := by
  unfold dyAt dy
  simp only [ext_add]

theorem x_row (n : Fin 2064) : Cert.InIdeal.Final.x m c (112 + n) = fun d => a0 m c (ix2 n d) :=
  funext fun d => ext_add _ n

variable (h0 : ∀ i, IsReal (a0 m c i)) (h1 : ∀ i, IsReal (a1 m c i)) (h2 : ∀ i, IsReal (a2 m c i)) (h4 : ∀ i, IsReal (a4 m c i))

include h0 h1 h2 h4 in
theorem out_eq (n : Fin 2064) (d : Fin 1024) : val_main_v36 (F := Ideal) (a0 m c) (a1 m c) (a2 m c) (a3 m c) (a4 m c) (ix2 n d)
    = outAt m c (112 + n) d := by
  obtain ⟨e, he, hb⟩ := bits_eps
  have hx : ∀ d, IsReal ((fun d => a0 m c (ix2 n d)) d) := fun d => h0 _
  have hg : ∀ d, IsReal ((fun d => dy (a2 m c) (a4 m c) n d * a1 m c (ix2 0 d)) d) := fun d =>
    IsReal.mul (IsReal.sum _ fun k => IsReal.mul (h4 _) (h2 _)) (h1 _)
  have k := dx_eq (by norm_num : (0 : ℝ) < 1024) he hx hg d
  have q := (rt_eq (by norm_num : (0 : ℝ) < 1024) he hx).1
  unfold outAt
  rw [x_row, out_at]
  simp only [dy_row]
  rw [show Cert.InIdeal.Final.inv = ((1 / 1024 : ℝ) : EReal) from bits_inv1024, show Cert.InIdeal.Final.eps = (e : EReal) from hb]
  refine Eq.trans ?_ (congrArg (res m c (112 + n) d + ·) k.symm)
  rw [show cnt = ((1024 : ℝ) : EReal) from bits_1024, show eps = (e : EReal) from hb, show mh = ((-(1 / 2) : ℝ) : EReal) from bits_neg_half,
    ← q, show res m c (112 + n) d = a3 m c (ix2 n d) from ext_add _ n, ← add_assoc, ← add_assoc]

include h0 h1 h2 h4 in
theorem first_eq (r : Fin 2176) (d : Fin 1024) : val_main_v37 (F := Ideal) (a0 m c) (a1 m c) (a2 m c) (a3 m c) (a4 m c) (ix2 r d)
    = outAt m c r d := by
  rw [pad_at]
  unfold ext
  split
  · rename_i h
    refine (out_eq m c h0 h1 h2 h4 ⟨_, _⟩ d).trans ?_
    exact congrArg (fun n => outAt m c n d) (by show 112 + ((r : ℕ) - 112) = r; omega)
  · have hn : (r : ℕ) < 112 := by omega
    have z (e : Fin 1024) : dyAt m c r e = 0 := by
      unfold dyAt
      simp [ext_lt _ _ hn]
    unfold outAt
    rw [show res m c r d = 0 from ext_lt _ _ hn, zero_add, show (fun e => dyAt m c r e * Cert.InIdeal.Final.w m c e) = fun _ => 0 from
      funext fun e => by rw [z, zero_mul], show Cert.InIdeal.Final.x m c r = fun _ => 0 from funext fun e => ext_lt _ _ hn, dx_zero]

include h0 in
theorem weight_eq (d : Fin 1024) : val_main_v19 (F := Ideal) (a0 m c) (a2 m c) (a4 m c) (ix2 0 d)
    = ∑ n : Fin 2176, dwAt m c n d := by
  obtain ⟨e, he, hb⟩ := bits_eps
  rw [sum_rows (fun n => dwAt m c n d), dw_at]
  · refine Finset.sum_congr rfl fun n _ => ?_
    have hx : ∀ d, IsReal ((fun d => a0 m c (ix2 n d)) d) := fun d => h0 _
    have q := (rt_eq (by norm_num : (0 : ℝ) < 1024) he hx).1
    unfold dwAt
    rw [x_row, dy_row, show Cert.InIdeal.Final.inv = ((1 / 1024 : ℝ) : EReal) from bits_inv1024, show Cert.InIdeal.Final.eps = (e : EReal) from hb, q,
      show cnt = ((1024 : ℝ) : EReal) from bits_1024, show eps = (e : EReal) from hb, mul_comm]
  · intro n hn
    have z : dyAt m c n d = 0 := by
      unfold dyAt
      simp [ext_lt _ n hn]
    show dwAt m c n d = 0
    rw [dwAt, z, zero_mul]

end

/-- The kernel's run and the reference's run end with equal gradients of the norm's argument and of its weight. -/
theorem gradients : Cert.algebraic_InIdeal_InRefIdeal_pre_in_finite (hInIdeal := Cert.InIdeal.Gen.facts)
    (hInRefIdeal := Cert.InRefIdeal.Gen.facts) (hPre_in_finite := Cert.Pre_in_finite.Gen.facts) := by
  intro m ρ m' ρ' hpre hag
  refine ⟨_, _, Cert.InIdeal.Value.run_blocks m ρ, ?_⟩
  refine (θ_run _ _ _).mono (fun r h c => ?_) (Cert.InRefIdeal.Value.run m' ρ')
  obtain ⟨h0, h1, h2, h4⟩ := Cert.Pre_in_finite.Read.finite _ _ _ _ _ (hpre c)
  obtain ⟨e0, e1, e2, e3, e4⟩ := hag c
  refine ⟨(h c).1.trans ?_, (h c).2.1.trans ?_, (h c).2.2⟩
  · rw [val_main_v37_eq, e0, e1, e2, e3, e4, Cert.InIdeal.Final.final6]
    funext i
    idx_vars i
    exact first_eq m c h0 h1 h2 h4 i0 i1
  · rw [val_main_v19_eq, e0, e2, e4, Cert.InIdeal.Final.final7]
    funext i
    idx_vars i
    obtain rfl : i0 = 0 := Subsingleton.elim _ _
    exact weight_eq m c h0 i1

end Cert.InProj
-- ==== Proof.Loss.Tile.lean ====
/- The row block of the loss kernel: its printed payloads at an index. -/
module

public import proofs.«01_k».proof.Proof.Gen.LossIdeal.Skeleton
public import proofs.«01_k».proof.Proof.Common.Num

@[expose] public section

set_option maxRecDepth 16384

noncomputable section

open Idealize.ShloMosaic Idealize.ShloMosaic.TcCoe Idealize.SL.Sem

namespace Cert.LossIdeal.Tile

open Cert.LossIdeal Cert.LossIdeal.Gen Cert.Num

/-- The rows without a target of block `a`, row `r`, as the kernel compares them. -/
theorem mask_sel (a : Fin 4) (r : Fin 544) (x : EReal) :
    Scalar.select (Scalar.cmpi .sge (IntOp.addi (IntOp.muli (BitVec.ofNat 32 (a : ℕ)) 544#32) (BitVec.ofNat 32 r)) 128#32) x 0
      = if 128 ≤ 544 * (a : ℕ) + r then x else 0 := by
  have : Scalar.cmpi .sge (IntOp.addi (IntOp.muli (BitVec.ofNat 32 (a : ℕ)) 544#32) (BitVec.ofNat 32 (r : ℕ))) 128#32
      = if 128 ≤ 544 * (a : ℕ) + r then 1#1 else 0#1 := by revert a r; decide +kernel
  rw [this]
  split <;> rfl

variable (a : grid0.Coords) (v0 v2 : FVec Ideal S544x1024 .f32) (v4 : FVec Ideal S544x2816 .bf16) (v6 : FVec Ideal S2816x1024 .bf16)

/-- The prediction less the target, zero in the rows without one. -/
def diff (r : Fin 544) (d : Fin 1024) : EReal :=
  if 128 ≤ 544 * (a 0 : ℕ) + r then v0 (ix2 r d) + (∑ k, v4 (ix2 r k) * v6 (ix2 k d)) - v2 (ix2 r d) else 0

theorem pay2_at (r : Fin 544) (d : Fin 1024) : k0_pay2 (F := Ideal) a v0 v2 v4 v6 (ix2 r d) = diff a v0 v2 v4 v6 r d := by
  unfold diff
  rw [← mask_sel (a 0)]
  pointwise [k0_pay2]
  rfl

theorem pay3_at (r : Fin 544) (d : Fin 1024) :
    k0_pay3 (F := Ideal) a v0 v2 v4 v6 (ix2 r d) = diff a v0 v2 v4 v6 r d * Ideal.ofBits .f32 0x3A800000#32 := by
  rw [← pay2_at]
  pointwise [k0_pay3]

theorem pay5_at (r : Fin 544) (d : Fin 1024) :
    k0_pay5 (F := Ideal) a v0 v2 v4 v6 (ix2 r d) = diff a v0 v2 v4 v6 r d * Ideal.ofBits .f32 0x3A800000#32 := by
  rw [← pay3_at]
  pointwise [k0_pay5]

theorem pay4_at (j : Fin 128) : k0_pay4 (F := Ideal) a v0 v2 v4 v6 (ix2 0 j)
    = Ideal.ofBits .f32 0x3F000000#32 * (∑ r : Fin 544, ∑ d : Fin 1024, diff a v0 v2 v4 v6 r d * diff a v0 v2 v4 v6 r d)
      * Ideal.ofBits .f32 0x3A800000#32 := by
  simp only [← pay2_at]
  pointwise [k0_pay4]

theorem pay1_at (v acc : FVec Ideal S1x128 .f32) (j : Fin 128) : k0_pay1 (F := Ideal) v acc (ix2 0 j) = acc (ix2 0 j) + v (ix2 0 j) := by
  pointwise [k0_pay1]

end Cert.LossIdeal.Tile
-- ==== Proof.Loss.Entry.lean ====
/- The blocks the loss kernel reads at a grid point, as rows of the arguments. -/
module

public import proofs.«01_k».proof.Proof.Gen.LossIdeal.Value
public import proofs.«01_k».proof.Proof.Loss.Tile
public import proofs.«01_k».proof.Proof.Common.Pad
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossIdeal.Entry

open Cert.LossIdeal Cert.LossIdeal.Gen Cert.LossIdeal.Tile Cert.Num Cert.Pad

/-- Row `n` of an array of 2048 rows behind 128 zero rows. -/
def tail (x : Fin 2048 → EReal) (n : ℕ) : EReal := if h : 128 ≤ n ∧ n - 128 < 2048 then x ⟨n - 128, h.2⟩ else 0

theorem tail_add (x : Fin 2048 → EReal) (n : Fin 2048) : tail x (128 + n) = x n := by
  unfold tail
  rw [dif_pos ⟨by omega, by omega⟩]
  exact congrArg x (Fin.ext (by simp only; omega))

variable (m : (ℓ : Loc nD τ sig) → Buf (Elt Ideal) ℓ)

theorem host0 (c : Dev nD) (r : Fin 2176) (k : Fin 2816) : V m c main_v1 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host1 (c : Dev nD) (k : Fin 2816) (d : Fin 1024) : V m c main_v2 (ix2 k d) = m ((c : Thread nD τ).loc main_arg1) (ix2 k d) := by
  unfold V
  simp only [List.flatten_cons, List.flatten_nil, List.append_nil, List.cons_append, List.nil_append]
  after_reads_at

theorem host2 (c : Dev nD) (r : Fin 2176) (k : Fin 1024) : V m c main_v3 (ix2 r k) = ext (fun n => m ((c : Thread nD τ).loc main_arg2) (ix2 n k)) r := by
  unfold V
  simp only [List.flatten_cons, List.flatten_nil, List.append_nil, List.cons_append, List.nil_append]
  after_reads_at
  exact ext_pad (fun n => m ((c : Thread nD τ).loc main_arg2) (ix2 n k)) r _ zero32

theorem host3 (c : Dev nD) (r : Fin 2176) (k : Fin 1024) : V m c main_v4 (ix2 r k) = tail (fun n => m ((c : Thread nD τ).loc main_arg3) (ix2 n k)) r := by
  unfold tail
  rw [← zero32]
  unfold V
  simp only [List.flatten_cons, List.flatten_nil, List.append_nil, List.cons_append, List.nil_append]
  after_reads_at

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0]
    ∧ (grid0.coords t 0).val = t.val ∧ t.val < 4 :=
  (by decide +kernel : ∀ t : Fin grid0.N, _)

/-- The grid's one coordinate counts its points. -/
theorem at_pt (t : Fin cfg0.N) : (grid0.coords t 0).val = t.val ∧ t.val < 4 := (idx t).2.2.2.2.2.2.2

variable (c : Dev nD) (t : Fin cfg0.N)

def blk0 : FVec Ideal S544x2816 .bf16 := iblk m c 0 t
def blk1 : FVec Ideal S2816x1024 .bf16 := iblk m c 1 t
def blk2 : FVec Ideal S544x1024 .f32 := iblk m c 2 t
def blk3 : FVec Ideal S544x1024 .f32 := iblk m c 3 t

theorem block0 (r : Fin 544) (j : Fin 2816) : blk0 m c t (ix2 r j) = ext (fun n => m ((c : Thread nD τ).loc main_arg0) (ix2 n j)) (t.val * 544 + r) := by
  obtain ⟨hp, ht⟩ := at_pt t
  have e : (win0_0.blk t).view.emb (ix2 r j) = ix2 (⟨t.val * 544 + r, by omega⟩ : Fin 2176) j := by blk_ext [idx t]
  unfold blk0
  blk_simp [iblk]
  rw [e, host0]

theorem block1 (k : Fin 2816) (d : Fin 1024) : blk1 m c t (ix2 k d) = m ((c : Thread nD τ).loc main_arg1) (ix2 k d) := by
  have e : (win0_1.blk t).view.emb (ix2 k d) = ix2 k d := by blk_ext [idx t]
  unfold blk1
  blk_simp [iblk]
  rw [e, host1]

theorem block2 (r : Fin 544) (j : Fin 1024) : blk2 m c t (ix2 r j) = ext (fun n => m ((c : Thread nD τ).loc main_arg2) (ix2 n j)) (t.val * 544 + r) := by
  obtain ⟨hp, ht⟩ := at_pt t
  have e : (win0_2.blk t).view.emb (ix2 r j) = ix2 (⟨t.val * 544 + r, by omega⟩ : Fin 2176) j := by blk_ext [idx t]
  unfold blk2
  blk_simp [iblk]
  rw [e, host2]

theorem block3 (r : Fin 544) (j : Fin 1024) : blk3 m c t (ix2 r j) = tail (fun n => m ((c : Thread nD τ).loc main_arg3) (ix2 n j)) (t.val * 544 + r) := by
  obtain ⟨hp, ht⟩ := at_pt t
  have e : (win0_3.blk t).view.emb (ix2 r j) = ix2 (⟨t.val * 544 + r, by omega⟩ : Fin 2176) j := by blk_ext [idx t]
  unfold blk3
  blk_simp [iblk]
  rw [e, host3]

end Cert.LossIdeal.Entry
-- ==== Proof.Loss.Final.lean ====
/- What the loss kernel leaves in its three result arrays. -/
module

public import proofs.«01_k».proof.Proof.Loss.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossIdeal.Final

open Cert.LossIdeal Cert.LossIdeal.Gen Cert.LossIdeal.Tile Cert.LossIdeal.Entry Cert.Num Cert.Pad

/-- The kernel's one over the row's length, and its one half. -/
abbrev inv : EReal := Ideal.ofBits .f32 0x3A800000#32
abbrev half : EReal := Ideal.ofBits .f32 0x3F000000#32

variable (m : (ℓ : Loc nD τ sig) → Buf (Elt Ideal) ℓ) (c : Dev nD)

/-- Row `n` of the prediction less the target, zero in the rows without one. -/
def diffAt (n : ℕ) (d : Fin 1024) : EReal :=
  if 128 ≤ n then ext (fun r => m ((c : Thread nD τ).loc main_arg2) (ix2 r d)) n
    + (∑ k : Fin 2816, ext (fun r => m ((c : Thread nD τ).loc main_arg0) (ix2 r k)) n * m ((c : Thread nD τ).loc main_arg1) (ix2 k d))
    - tail (fun r => m ((c : Thread nD τ).loc main_arg3) (ix2 r d)) n else 0

/-- The squares of row `n`. -/
def sq (n : ℕ) : EReal := ∑ d, diffAt m c n d * diffAt m c n d

variable (t : Fin cfg0.N)

theorem diff_blk (r : Fin 544) (d : Fin 1024) :
    diff (grid0.coords t) (blk2 m c t) (blk3 m c t) (blk0 m c t) (blk1 m c t) r d = diffAt m c (t.val * 544 + r) d := by
  unfold diff diffAt
  rw [show 544 * ((grid0.coords t 0 : Fin _) : ℕ) + (r : ℕ) = t.val * 544 + r by rw [(at_pt t).1, Nat.mul_comm]]
  simp only [block0, block1, block2, block3]

theorem out_blk (r : Fin 544) (d : Fin 1024) : k0_pay3 (F := Ideal) (grid0.coords t) (blk2 m c t) (blk3 m c t) (blk0 m c t) (blk1 m c t) (ix2 r d)
    = diffAt m c (t.val * 544 + r) d * inv := by
  rw [pay3_at, diff_blk]

theorem copy_blk (r : Fin 544) (d : Fin 1024) : k0_pay5 (F := Ideal) (grid0.coords t) (blk2 m c t) (blk3 m c t) (blk0 m c t) (blk1 m c t) (ix2 r d)
    = diffAt m c (t.val * 544 + r) d * inv := by
  rw [pay5_at, diff_blk]

theorem loss_blk (j : Fin 128) : k0_pay4 (F := Ideal) (grid0.coords t) (blk2 m c t) (blk3 m c t) (blk0 m c t) (blk1 m c t) (ix2 0 j)
    = half * (∑ r : Fin 544, sq m c (t.val * 544 + r)) * inv := by
  rw [pay4_at]
  simp only [diff_blk]
  rfl

theorem left4 (r : Fin 544) (d : Fin 1024) : (outsAt0 m c t.val t.isLt).1 (ix2 r d) = diffAt m c (t.val * 544 + r) d * inv := by
  have ht := (at_pt t).2
  have hd := out_blk m c t r d
  by_cases h : t.val % 4 = 0
  · rw [outsAt0_A m c t h (by omega)]
    frame_out
    exact hd
  · rw [outsAt0_B m c t h (by omega)]
    frame_out
    exact hd

theorem left5 (r : Fin 544) (d : Fin 1024) : (outsAt0 m c t.val t.isLt).2.1 (ix2 r d) = diffAt m c (t.val * 544 + r) d * inv := by
  have ht := (at_pt t).2
  have hd := copy_blk m c t r d
  by_cases h : t.val % 4 = 0
  · rw [outsAt0_A m c t h (by omega)]
    frame_out
    exact hd
  · rw [outsAt0_B m c t h (by omega)]
    frame_out
    exact hd

theorem first6 (j : Fin 128) (h : t.val % 4 = 0) : (outsAt0 m c t.val t.isLt).2.2 (ix2 0 j)
    = 0 + half * (∑ r : Fin 544, sq m c (t.val * 544 + r)) * inv := by
  have ht := (at_pt t).2
  rw [outsAt0_A m c t h (by omega), zero_add]
  frame_out
  exact loss_blk m c t j

theorem step6 (j : Fin 128) (h : ¬t.val % 4 = 0) : (outsAt0 m c t.val t.isLt).2.2 (ix2 0 j)
    = (outsAt0 m c (t.val - 1) (Nat.lt_of_le_of_lt (Nat.sub_le _ _) t.isLt)).2.2 (ix2 0 j)
      + half * (∑ r : Fin 544, sq m c (t.val * 544 + r)) * inv := by
  have ht := (at_pt t).2
  rw [outsAt0_B m c t h (by omega), ← loss_blk m c t j]
  frame_out
  exact pay1_at _ _ _

theorem final4 : (dats m 0 c).arrAt 4 (cfgs 0).N = fun i : S2176x1024.Idx => diffAt m c (i 0).val (i 1) * inv := by
  refine (dats m 0 c).arrAt_eq_of_covers 4 _ (by decide +kernel) fun t _ y => ?_
  obtain ⟨-, ht⟩ := at_pt t
  idx_vars y
  have e : (win0_4.blk t).view.emb (ix2 y0 y1) = ix2 (⟨t.val * 544 + y0, by omega⟩ : Fin 2176) y1 := by blk_ext [idx t]
  blk_simp [idx t]
  rw [after0_4, left4, e]
  rfl

theorem final5 : (dats m 0 c).arrAt 5 (cfgs 0).N = fun i : S2176x1024.Idx => diffAt m c (i 0).val (i 1) * inv := by
  refine (dats m 0 c).arrAt_eq_of_covers 5 _ (by decide +kernel) fun t _ y => ?_
  obtain ⟨-, ht⟩ := at_pt t
  idx_vars y
  have e : (win0_5.blk t).view.emb (ix2 y0 y1) = ix2 (⟨t.val * 544 + y0, by omega⟩ : Fin 2176) y1 := by blk_ext [idx t]
  blk_simp [idx t]
  rw [after0_5, left5, e]
  rfl

theorem final6 : (dats m 0 c).arrAt 6 (cfgs 0).N
    = fun _ : S1x128.Idx => ∑ a : Fin 4, half * (∑ r : Fin 544, sq m c (a.val * 544 + r)) * inv := by
  refine (dats m 0 c).arrAt_eq_of_after_last 6 t0_3 (by decide +kernel) _ fun y => ?_
  idx_vars y
  blk_simp
  rw [after0_6, Pipeline.eq_sum_fin_of_reset_step_apply_last (fun n h => (outsAt0 m c n h).2.2) 4 (fun _ => 0)
    (fun t _ => half * (∑ r : Fin 544, sq m c (t.val * 544 + r)) * inv)
    (fun t h i => by idx_vars i; obtain rfl : i0 = 0 := Subsingleton.elim _ _; exact first6 m c t i1 h)
    (fun t h i => by idx_vars i; obtain rfl : i0 = 0 := Subsingleton.elim _ _; exact step6 m c t i1 h) (le_of_eq N_0) t0_3 rfl _, zero_add]
  rfl

end Cert.LossIdeal.Final
-- ==== Proof.Loss.Ref.lean ====
/- The loss and its derivative as the reference computes them, at an index. -/
module

public import proofs.«01_k».proof.Proof.Gen.LossRefIdeal.Read
public import proofs.«01_k».proof.Proof.Common.Consts
public import proofs.«01_k».proof.Proof.Common.Pad

@[expose] public section

set_option maxRecDepth 16384

noncomputable section

open Idealize.ShloMosaic Idealize.ShloMosaic.TcCoe Idealize.SL.Sem

namespace Cert.LossRefIdeal.Ref

open Cert.LossRefIdeal Cert.LossRefIdeal.Gen Cert.LossRefIdeal.Read Cert.Num Cert.Pad

abbrev cnt : EReal := Ideal.ofBits .f32 0x44800000#32
abbrev half : EReal := Ideal.ofBits .f32 0x3F000000#32
abbrev two : EReal := Ideal.ofBits .f32 0x40000000#32
abbrev unit : EReal := Ideal.ofBits .f32 0x3F800000#32

variable (x0 : FVec Ideal S2064x2816 .f32) (x1 : FVec Ideal S2816x1024 .f32) (x2 : FVec Ideal S2064x1024 .f32) (x3 : FVec Ideal S2048x1024 .f32)

/-- The prediction less the target. -/
def diff (n : Fin 2048) (d : Fin 1024) : EReal :=
  x2 (ix2 (⟨16 + n, by omega⟩ : Fin 2064) d) + (∑ k, x0 (ix2 (⟨16 + n, by omega⟩ : Fin 2064) k) * x1 (ix2 k d)) - x3 (ix2 n d)

theorem diff_at (n : Fin 2048) (d : Fin 1024) : val_main_v3 (F := Ideal) x0 x1 x2 x3 (ix2 n d) = diff x0 x1 x2 x3 n d := by
  unfold diff
  pointwise [val_main_v3, val_main_v2, val_main_v1, val_main_v0]

theorem loss_at (j : Fin 128) : val_main_v21 (F := Ideal) x0 x1 x2 x3 (ix2 0 j)
    = half * ∑ n, Ideal.div (∑ d, diff x0 x1 x2 x3 n d * diff x0 x1 x2 x3 n d) cnt := by
  simp only [← diff_at]
  pointwise [val_main_v21, val_main_v11, val_main_v10, val_main_v9, val_main_v8, val_main_v7, val_main_v4, val_main_cst_0, val_main_cst_1,
    val_main_cst_2, val_main_cst_3]

theorem slope_at (n : Fin 2048) (d : Fin 1024) : val_main_v17 (F := Ideal) x0 x1 x2 x3 (ix2 n d)
    = Ideal.div (half * unit) cnt * (two * diff x0 x1 x2 x3 n d) := by
  simp only [← diff_at]
  pointwise [val_main_v17, val_main_v16, val_main_v15, val_main_v14, val_main_v13, val_main_v12, val_main_v6, val_main_v5, val_main_cst,
    val_main_cst_4, val_main_cst_5, val_main_cst_6]

theorem pad_at (r : Fin 2176) (d : Fin 1024) : val_main_v19 (F := Ideal) x0 x1 x2 x3 (ix2 r d)
    = if h : 128 ≤ (r : ℕ) then val_main_v17 (F := Ideal) x0 x1 x2 x3 (ix2 (⟨r - 128, by omega⟩ : Fin 2048) d) else 0 := by
  pointwise [val_main_v19, val_main_v18, val_main_call0_v0, val_main_c, val_main_cst_7]
  by_cases h : 128 ≤ (r : ℕ)
  · rw [dif_pos ⟨by omega, by omega⟩, dif_pos ⟨by omega, by omega⟩, dif_pos h]
    exact congrArg (fun n => val_main_v17 (F := Ideal) x0 x1 x2 x3 (ix2 n d)) (Fin.ext (by simp only; omega))
  · rw [dif_neg h]
    split
    · exact dif_neg (by omega)
    · exact zero32

theorem copy_at (r : Fin 2176) (d : Fin 1024) : val_main_v20 (F := Ideal) x0 x1 x2 x3 (ix2 r d) = val_main_v19 (F := Ideal) x0 x1 x2 x3 (ix2 r d) := by
  pointwise [val_main_v20]

end Cert.LossRefIdeal.Ref
-- ==== Proof.Loss.Value.lean ====
/- The loss kernel computes the loss and its derivative: the claim about its three results. -/
module

public import proofs.«01_k».proof.Defs
public import proofs.«01_k».proof.Proof.Loss.Final
public import proofs.«01_k».proof.Proof.Loss.Ref
public import proofs.«01_k».proof.Proof.Gen.LossRefIdeal.Run
public import proofs.«01_k».proof.Proof.Gen.Loss.Frame
public import Idealize.ShloMosaic.Lib.Quiescent

@[expose] public section

set_option maxRecDepth 16384

noncomputable section

open Idealize.ShloMosaic Idealize.ShloMosaic.TcCoe Idealize.SL.Sem

namespace Cert.LossProj

open Cert.LossRefIdeal Cert.LossRefIdeal.Gen Cert.LossRefIdeal.Read Cert.LossRefIdeal.Ref Cert.Num Cert.Pad
open Cert.LossIdeal.Final (diffAt sq)
open Cert.LossIdeal.Entry (tail tail_add)

/-- The reference ends, with its arguments unchanged and every counter at zero. -/
theorem reference_ends : Cert.quiescent_LossRefIdeal (hLossRefIdeal := Cert.LossRefIdeal.Gen.facts) := fun m ρ _ =>
  (θ_run _ _ _).mono (fun r h => ⟨fun c => (h c).2.2.2, sem_eq_zero_of_no_sems rfl r.2⟩) (Cert.LossRefIdeal.Value.run m ρ)

/-- A real number that is not negative goes into a sum, whatever its terms. -/
theorem coe_mul_sum {ι : Type} (s : Finset ι) (k : ℝ) (hk : 0 ≤ k) (f : ι → EReal) : (k : EReal) * ∑ i ∈ s, f i = ∑ i ∈ s, (k : EReal) * f i := by
  classical
  induction s using Finset.induction_on with
  | empty => simp
  | insert a s ha ih =>
    rw [Finset.sum_insert ha, Finset.sum_insert ha, ← ih]
    exact EReal.left_distrib_of_nonneg_of_ne_top (by exact_mod_cast hk) (EReal.coe_ne_top k) _ _

theorem bits_one : Ideal.ofBits .f32 0x3F800000#32 = ((1 : ℝ) : EReal) := by
  simp [Ideal.ofBits, Ideal.ieee, ← EReal.coe_mul]; norm_num

section

variable (m : (ℓ : Loc Cert.LossIdeal.nD Cert.LossIdeal.τ Cert.LossIdeal.sig) → Buf (Elt Ideal) ℓ) (c : Dev Cert.LossIdeal.nD)

abbrev a0 : FVec Ideal S2064x2816 .f32 := m ((c : Thread Cert.LossIdeal.nD Cert.LossIdeal.τ).loc Cert.LossIdeal.main_arg0)
abbrev a1 : FVec Ideal S2816x1024 .f32 := m ((c : Thread Cert.LossIdeal.nD Cert.LossIdeal.τ).loc Cert.LossIdeal.main_arg1)
abbrev a2 : FVec Ideal S2064x1024 .f32 := m ((c : Thread Cert.LossIdeal.nD Cert.LossIdeal.τ).loc Cert.LossIdeal.main_arg2)
abbrev a3 : FVec Ideal S2048x1024 .f32 := m ((c : Thread Cert.LossIdeal.nD Cert.LossIdeal.τ).loc Cert.LossIdeal.main_arg3)

theorem diff_row (n : Fin 2048) (d : Fin 1024) : diffAt m c (128 + n) d = diff (a0 m c) (a1 m c) (a2 m c) (a3 m c) n d := by
  have e {x : Fin 2064 → EReal} : ext x (128 + n) = x ⟨16 + n, by omega⟩ := by
    rw [show 128 + (n : ℕ) = 112 + ((⟨16 + n, by omega⟩ : Fin 2064) : ℕ) by simp only; omega]
    exact ext_add x _
  unfold diffAt diff
  rw [if_pos (by omega), tail_add]
  simp only [e]

theorem low (n : ℕ) (h : n < 128) (d : Fin 1024) : diffAt m c n d = 0 := if_neg (by omega)

theorem first_eq (r : Fin 2176) (d : Fin 1024) : val_main_v19 (F := Ideal) (a0 m c) (a1 m c) (a2 m c) (a3 m c) (ix2 r d)
    = diffAt m c r d * Cert.LossIdeal.Final.inv := by
  rw [pad_at]
  split
  · rename_i h
    rw [slope_at, ← diff_row, show 128 + ((⟨(r : ℕ) - 128, by omega⟩ : Fin 2048) : ℕ) = r by simp only; omega]
    rw [show half = ((1 / 2 : ℝ) : EReal) from bits_half, show unit = ((1 : ℝ) : EReal) from bits_one, show cnt = ((1024 : ℝ) : EReal) from bits_1024,
      show two = ((2 : ℝ) : EReal) from bits_two, show Cert.LossIdeal.Final.inv = ((1 / 1024 : ℝ) : EReal) from bits_inv1024,
      ← EReal.coe_mul, Ideal.div_coe (by norm_num), ← EReal.coe_mul, ← mul_assoc, ← EReal.coe_mul, mul_comm]
    norm_num
  · rename_i h
    rw [low m c r (by omega), zero_mul]

theorem loss_eq (j : Fin 128) : val_main_v21 (F := Ideal) (a0 m c) (a1 m c) (a2 m c) (a3 m c) (ix2 0 j)
    = ∑ a : Fin 4, Cert.LossIdeal.Final.half * (∑ r : Fin 544, sq m c (a.val * 544 + r)) * Cert.LossIdeal.Final.inv := by
  have k (x : EReal) : Cert.LossIdeal.Final.half * x * Cert.LossIdeal.Final.inv = ((1 / 2048 : ℝ) : EReal) * x := by
    rw [show Cert.LossIdeal.Final.half = ((1 / 2 : ℝ) : EReal) from bits_half,
      show Cert.LossIdeal.Final.inv = ((1 / 1024 : ℝ) : EReal) from bits_inv1024, mul_comm, ← mul_assoc, ← EReal.coe_mul]
    norm_num
  simp only [k]
  rw [loss_at, ← coe_mul_sum _ _ (by norm_num)]
  have whole : ∑ a : Fin 4, ∑ r : Fin 544, sq m c (a.val * 544 + r) = ∑ n : Fin 2176, sq m c n :=
    Fin.sum_mul_add_congr (fun t e h => rfl)
  have drop : ∑ n : Fin 2176, sq m c n = ∑ n : Fin 2048, sq m c (128 + n) := by
    have q := Fin.sum_univ_add (a := 128) (b := 2048) (fun i : Fin (128 + 2048) => Cert.LossIdeal.Final.sq m c i.val)
    refine q.trans ?_
    rw [Finset.sum_eq_zero, zero_add]
    · rfl
    · intro i _
      show ∑ d, diffAt m c i d * diffAt m c i d = 0
      simp [low m c i i.isLt]
  rw [whole, drop]
  simp only [Cert.LossIdeal.Final.sq, diff_row]
  rw [show half = ((1 / 2 : ℝ) : EReal) from bits_half, show cnt = ((1024 : ℝ) : EReal) from bits_1024]
  simp only [Ideal.div_coe (show (1024 : ℝ) ≠ 0 by norm_num), mul_comm _ ((1 / 1024 : ℝ) : EReal)]
  rw [← coe_mul_sum _ _ (by norm_num), ← mul_assoc, ← EReal.coe_mul]
  norm_num

end

/-- The kernel's run and the reference's run end with equal gradients of the last hidden state, twice, and equal losses. -/
theorem gradients : Cert.algebraic_LossIdeal_LossRefIdeal (hLossIdeal := Cert.LossIdeal.Gen.facts)
    (hLossRefIdeal := Cert.LossRefIdeal.Gen.facts) := by
  intro m ρ m' ρ' _ hag
  refine ⟨_, _, _, Cert.LossIdeal.Value.run_blocks m ρ, ?_⟩
  refine (θ_run _ _ _).mono (fun r h c => ?_) (Cert.LossRefIdeal.Value.run m' ρ')
  obtain ⟨e0, e1, e2, e3⟩ := hag c
  refine ⟨(h c).1.trans ?_, (h c).2.1.trans ?_, (h c).2.2.1.trans ?_, (h c).2.2.2⟩
  · rw [val_main_v19_eq, e0, e1, e2, e3, Cert.LossIdeal.Final.final4]
    funext i
    idx_vars i
    exact first_eq m c i0 i1
  · rw [val_main_v20_eq, e0, e1, e2, e3, Cert.LossIdeal.Final.final5]
    funext i
    idx_vars i
    exact (copy_at _ _ _ _ i0 i1).trans (first_eq m c i0 i1)
  · rw [val_main_v21_eq, e0, e1, e2, e3, Cert.LossIdeal.Final.final6]
    funext i
    idx_vars i
    obtain rfl : i0 = 0 := Subsingleton.elim _ _
    exact loss_eq m c i1

end Cert.LossProj
-- ==== Proof.Common.Heads.lean ====
/- Four heads of 128 columns each, and the gate z·σ(z). -/
module

public import proofs.«01_k».proof.Proof.Common.Num

@[expose] public section

noncomputable section

open Idealize.ShloMosaic

namespace Cert.Heads

/-- Column `d` of head `j`. -/
def col (j : Fin 4) (d : Fin 128) : Fin 512 := ⟨j * 128 + d, by omega⟩

theorem col0 (d : Fin 128) : col 0 d = ⟨d, by omega⟩ := Fin.ext (by show 0 * 128 + (d : ℕ) = d; omega)
theorem col1 (d : Fin 128) : col 1 d = ⟨128 + d, by omega⟩ := Fin.ext (by show 1 * 128 + (d : ℕ) = 128 + d; omega)
theorem col2 (d : Fin 128) : col 2 d = ⟨256 + d, by omega⟩ := Fin.ext (by show 2 * 128 + (d : ℕ) = 256 + d; omega)
theorem col3 (d : Fin 128) : col 3 d = ⟨384 + d, by omega⟩ := Fin.ext (by show 3 * 128 + (d : ℕ) = 384 + d; omega)

/-- A column's head, and its place in the head. -/
def hd (c : Fin 512) : Fin 4 := ⟨c / 128, by omega⟩
def ln (c : Fin 512) : Fin 128 := ⟨c % 128, Nat.mod_lt _ (by omega)⟩

theorem col_hd (c : Fin 512) : col (hd c) (ln c) = c := Fin.ext (by show (c : ℕ) / 128 * 128 + (c : ℕ) % 128 = c; omega)

/-- The first and the second 512 of 1024 columns. -/
def lo (c : Fin 512) : Fin 1024 := ⟨c, by omega⟩
def hi (c : Fin 512) : Fin 1024 := ⟨512 + c, by omega⟩

/-- The logistic function as the kernel writes it. -/
def sg (z : EReal) : EReal := Ideal.div 1 (1 + Ideal.exp (0 - z))

theorem sg_real {z : EReal} (hz : Cert.Num.IsReal z) : Cert.Num.IsReal (sg z) := by
  obtain ⟨r, rfl⟩ := hz
  have h0 : (1 + Real.exp (-r) : ℝ) ≠ 0 := by positivity
  refine ⟨1 / (1 + Real.exp (-r)), ?_⟩
  unfold sg
  rw [show (0 : EReal) - (r : EReal) = ((-r : ℝ) : EReal) by rw [zero_sub, EReal.coe_neg], Ideal.exp_coe,
    show (1 : EReal) + ((Real.exp (-r) : ℝ) : EReal) = ((1 + Real.exp (-r) : ℝ) : EReal) by push_cast; rfl, Ideal.div_coe h0, one_mul]

end Cert.Heads
-- ==== Proof.Mix.Tile.lean ====
/- The row block of the backward of the two output norms: its printed payloads at an index, as the formulas of `Cert.Rms` at
   each head. -/
module

public import proofs.«01_k».proof.Proof.Gen.MixIdeal.Skeleton
public import proofs.«01_k».proof.Proof.Common.Rms
public import proofs.«01_k».proof.Proof.Common.Heads

@[expose] public section

set_option maxRecDepth 16384

noncomputable section

open Idealize.ShloMosaic Idealize.ShloMosaic.TcCoe Idealize.SL.Sem

namespace Cert.MixIdeal.Tile

open Cert.MixIdeal Cert.MixIdeal.Gen Cert.Num Cert.Rms Cert.Heads

/-- The padding rows of block `a`, row `r`, as the kernel compares them. -/
theorem mask_sel (a : Fin 4) (r : Fin 544) (x : EReal) :
    Scalar.select (Scalar.cmpi .sge (IntOp.addi (IntOp.muli (BitVec.ofNat 32 (a : ℕ)) 544#32) (BitVec.ofNat 32 r)) 112#32) x 0
      = if 112 ≤ 544 * (a : ℕ) + r then x else 0 := by
  have : Scalar.cmpi .sge (IntOp.addi (IntOp.muli (BitVec.ofNat 32 (a : ℕ)) 544#32) (BitVec.ofNat 32 (r : ℕ))) 112#32
      = if 112 ≤ 544 * (a : ℕ) + r then 1#1 else 0#1 := by revert a r; decide +kernel
  rw [this]
  split <;> rfl

/-- The kernel's one over the head's length, and its small constant. -/
abbrev inv : EReal := Ideal.ofBits .f32 0x3C000000#32
abbrev eps : EReal := Ideal.ofBits .f32 0x358637BD#32

section

variable (i : grid0.Coords) (v0 v2 v4 : FVec Ideal S544x512 .f32) (v6 v7 : FVec Ideal S1x128 .f32) (v8 : FVec Ideal S544x1024 .bf16)
  (v10 : FVec Ideal S1024x1024 .bf16)

/-- The product's gradient, column `c`; and its first half, zero in the padding rows. -/
def dot (r : Fin 544) (c : Fin 1024) : EReal := ∑ k, v8 (ix2 r k) * v10 (ix2 c k)
def gm (r : Fin 544) (c : Fin 512) : EReal := if 112 ≤ 544 * (i 0 : ℕ) + r then dot v8 v10 r (lo c) else 0
def gd (r : Fin 544) (c : Fin 512) : EReal := dot v8 v10 r (hi c)

theorem pay11_at (r : Fin 544) (c : Fin 512) : k0_pay11 (F := Ideal) v8 v10 (ix2 r c) = dot v8 v10 r (lo c) := by
  unfold dot lo
  pointwise [k0_pay11, k0_pay10]

theorem pay12_at (r : Fin 544) (c : Fin 512) : k0_pay12 (F := Ideal) v8 v10 (ix2 r c) = gd v8 v10 r c := by
  unfold gd dot hi
  pointwise [k0_pay12, k0_pay10]

/-- The first half's heads. -/

theorem mg0 (r : Fin 544) (d : Fin 128) : k0_pay15 (F := Ideal) i v8 v10 (ix2 r d) = gm i v8 v10 r (col 0 d) := by
  unfold gm
  rw [← pay11_at, ← mask_sel (i 0), col0]
  pointwise [k0_pay15, k0_pay13]
  try rfl

theorem mr0 (r : Fin 544) : k0_pay16 (F := Ideal) v0 (ix2 r 0) = rt inv eps (fun e => v0 (ix2 r (col 0 e))) := by
  unfold rt
  simp only [col0]
  pointwise [k0_pay16, k0_pay14, k0_pay7]

theorem mx0 (r : Fin 544) (d : Fin 128) : k0_pay17 (F := Ideal) v0 (ix2 r d)
    = v0 (ix2 r (col 0 d)) * rt inv eps (fun e => v0 (ix2 r (col 0 e))) := by
  rw [← mr0, col0]
  pointwise [k0_pay17, k0_pay14, k0_pay7]

theorem mo0 (r : Fin 544) (d : Fin 128) : k0_pay19 (F := Ideal) (k0_pay15 i v8 v10) (k0_pay16 v0) (k0_pay17 v0) (k0_pay18 v6) (ix2 r d)
    = dx inv eps (fun e => v0 (ix2 r (col 0 e))) (fun e => gm i v8 v10 r (col 0 e) * v6 (ix2 0 e)) d := by
  unfold dx
  simp only [← mx0, ← mg0 i v8 v10]
  rw [← mr0]
  pointwise [k0_pay19, k0_pay18]

theorem mg1 (r : Fin 544) (d : Fin 128) : k0_pay21 (F := Ideal) (k0_pay11 v8 v10) (k0_pay13 i) (ix2 r d) = gm i v8 v10 r (col 1 d) := by
  unfold gm
  rw [← pay11_at, ← mask_sel (i 0), col1]
  pointwise [k0_pay21, k0_pay13]
  try rfl

theorem mr1 (r : Fin 544) : k0_pay22 (F := Ideal) (k0_pay7 v0) (ix2 r 0) = rt inv eps (fun e => v0 (ix2 r (col 1 e))) := by
  unfold rt
  simp only [col1]
  pointwise [k0_pay22, k0_pay20, k0_pay7]

theorem mx1 (r : Fin 544) (d : Fin 128) : k0_pay23 (F := Ideal) (k0_pay7 v0) (ix2 r d)
    = v0 (ix2 r (col 1 d)) * rt inv eps (fun e => v0 (ix2 r (col 1 e))) := by
  rw [← mr1, col1]
  pointwise [k0_pay23, k0_pay20, k0_pay7]

theorem mo1 (r : Fin 544) (d : Fin 128) : k0_pay24 (F := Ideal) (k0_pay7 v0) v6 (k0_pay11 v8 v10) (k0_pay13 i) (ix2 r d)
    = dx inv eps (fun e => v0 (ix2 r (col 1 e))) (fun e => gm i v8 v10 r (col 1 e) * v6 (ix2 0 e)) d := by
  unfold dx
  simp only [← mx1, ← mg1 i v8 v10]
  rw [← mr1]
  pointwise [k0_pay24]

theorem mg2 (r : Fin 544) (d : Fin 128) : k0_pay29 (F := Ideal) (k0_pay27 (k0_pay11 v8 v10)) (Scalar.ofBits .f32 0x00000000#32) (k0_pay28 (k0_pay13 i)) (ix2 r d) = gm i v8 v10 r (col 2 d) := by
  unfold gm
  rw [← pay11_at, ← mask_sel (i 0), col2]
  pointwise [k0_pay29, k0_pay27, k0_pay28, k0_pay13]
  try rfl

theorem mr2 (r : Fin 544) : k0_pay30 (F := Ideal) (k0_pay26 (k0_pay7 v0)) (ix2 r 0) = rt inv eps (fun e => v0 (ix2 r (col 2 e))) := by
  unfold rt
  simp only [col2]
  pointwise [k0_pay30, k0_pay26, k0_pay7]

theorem mx2 (r : Fin 544) (d : Fin 128) : k0_pay31 (F := Ideal) (k0_pay26 (k0_pay7 v0)) (ix2 r d)
    = v0 (ix2 r (col 2 d)) * rt inv eps (fun e => v0 (ix2 r (col 2 e))) := by
  rw [← mr2, col2]
  pointwise [k0_pay31, k0_pay26, k0_pay7]

theorem mo2 (r : Fin 544) (d : Fin 128) : k0_pay32 (F := Ideal) v6 (k0_pay26 (k0_pay7 v0)) (k0_pay27 (k0_pay11 v8 v10)) (Scalar.ofBits .f32 0x00000000#32) (k0_pay28 (k0_pay13 i)) (ix2 r d)
    = dx inv eps (fun e => v0 (ix2 r (col 2 e))) (fun e => gm i v8 v10 r (col 2 e) * v6 (ix2 0 e)) d := by
  unfold dx
  simp only [← mx2, ← mg2 i v8 v10]
  rw [← mr2]
  pointwise [k0_pay32]

theorem mg3 (r : Fin 544) (d : Fin 128) : k0_pay35 (F := Ideal) (k0_pay11 v8 v10) (k0_pay13 i) (ix2 r d) = gm i v8 v10 r (col 3 d) := by
  unfold gm
  rw [← pay11_at, ← mask_sel (i 0), col3]
  pointwise [k0_pay35, k0_pay13]
  try rfl

theorem mr3 (r : Fin 544) : k0_pay36 (F := Ideal) (k0_pay7 v0) (ix2 r 0) = rt inv eps (fun e => v0 (ix2 r (col 3 e))) := by
  unfold rt
  simp only [col3]
  pointwise [k0_pay36, k0_pay34, k0_pay7]

theorem mx3 (r : Fin 544) (d : Fin 128) : k0_pay37 (F := Ideal) (k0_pay7 v0) (ix2 r d)
    = v0 (ix2 r (col 3 d)) * rt inv eps (fun e => v0 (ix2 r (col 3 e))) := by
  rw [← mr3, col3]
  pointwise [k0_pay37, k0_pay34, k0_pay7]

theorem mo3 (r : Fin 544) (d : Fin 128) : k0_pay40 (F := Ideal) (k0_pay36 (k0_pay7 v0)) (k0_pay37 (k0_pay7 v0)) (k0_pay38 v6 (k0_pay11 v8 v10) (k0_pay13 i)) (k0_pay39 (k0_pay7 v0) v6 (k0_pay11 v8 v10) (k0_pay13 i)) (ix2 r d)
    = dx inv eps (fun e => v0 (ix2 r (col 3 e))) (fun e => gm i v8 v10 r (col 3 e) * v6 (ix2 0 e)) d := by
  unfold dx
  simp only [← mx3, ← mg3 i v8 v10]
  rw [← mr3]
  pointwise [k0_pay40, k0_pay39, k0_pay38]

/-- What the block adds to the first weight's gradient. -/
theorem mw (d : Fin 128) : k0_pay41 (F := Ideal) (k0_pay33 (k0_pay25 (k0_pay7 v0) (k0_pay11 v8 v10) (k0_pay13 i) (k0_pay15 i v8 v10) (k0_pay17 v0))
        (k0_pay26 (k0_pay7 v0)) (k0_pay27 (k0_pay11 v8 v10)) (Scalar.ofBits .f32 0x00000000#32) (k0_pay28 (k0_pay13 i)))
      (k0_pay35 (k0_pay11 v8 v10) (k0_pay13 i)) (k0_pay37 (k0_pay7 v0)) (ix2 0 d)
    = ∑ j : Fin 4, ∑ r : Fin 544, gm i v8 v10 r (col j d) * (v0 (ix2 r (col j d)) * rt inv eps (fun e => v0 (ix2 r (col j e)))) := by
  rw [Fin.sum_univ_four]
  simp only [← mx0, ← mx1, ← mx2, ← mx3, ← mg0 i v8 v10, ← mg1 i v8 v10, ← mg2 i v8 v10, ← mg3 i v8 v10]
  pointwise [k0_pay41, k0_pay33, k0_pay25]

/-- The gate's value and slope. -/
theorem sg_at (x : FVec Ideal S544x128 .f32) (r : Fin 544) (d : Fin 128) :
    k0_pay67 (F := Ideal) x k0_pay66 (ix2 r d) = sg (x (ix2 r d)) := by
  unfold sg
  pointwise [k0_pay67, k0_pay66]

/-- The second half's heads. -/

theorem ds0 (r : Fin 544) (d : Fin 128) : k0_pay43 (F := Ideal) (k0_pay9 v4) (ix2 r d) = sg (v4 (ix2 r (col 0 d))) := by
  unfold sg
  rw [col0]
  pointwise [k0_pay43, k0_pay42, k0_pay9]

theorem dy0 (r : Fin 544) (d : Fin 128) : k0_pay46 (F := Ideal) (k0_pay9 v4) (k0_pay12 v8 v10) (ix2 r d)
    = gd v8 v10 r (col 0 d) * (v4 (ix2 r (col 0 d)) * sg (v4 (ix2 r (col 0 d)))) := by
  rw [← ds0, ← pay12_at, col0]
  pointwise [k0_pay46, k0_pay42, k0_pay9]

theorem dr0 (r : Fin 544) : k0_pay48 (F := Ideal) (k0_pay47 (k0_pay8 v2)) (ix2 r 0) = rt inv eps (fun e => v2 (ix2 r (col 0 e))) := by
  unfold rt
  simp only [col0]
  pointwise [k0_pay48, k0_pay47, k0_pay45, k0_pay8]

theorem dx0 (r : Fin 544) (d : Fin 128) : k0_pay49 (F := Ideal) (k0_pay45 (k0_pay8 v2)) (k0_pay47 (k0_pay8 v2)) (ix2 r d)
    = v2 (ix2 r (col 0 d)) * rt inv eps (fun e => v2 (ix2 r (col 0 e))) := by
  rw [← dr0, col0]
  pointwise [k0_pay49, k0_pay45, k0_pay8]

theorem dz0 (r : Fin 544) (d : Fin 128) : k0_pay44 (F := Ideal) (k0_pay8 v2) (k0_pay9 v4) v7 (k0_pay12 v8 v10) (ix2 r d)
    = gd v8 v10 r (col 0 d) * (v2 (ix2 r (col 0 d)) * rt inv eps (fun e => v2 (ix2 r (col 0 e))) * v7 (ix2 0 d))
      * (sg (v4 (ix2 r (col 0 d))) * (1 + v4 (ix2 r (col 0 d)) * (1 - sg (v4 (ix2 r (col 0 d)))))) := by
  rw [← ds0, ← pay12_at]
  unfold rt
  simp only [col0]
  pointwise [k0_pay44, k0_pay42, k0_pay9, k0_pay8]

theorem do0 (r : Fin 544) (d : Fin 128) : k0_pay50 (F := Ideal) v7 (k0_pay45 (k0_pay8 v2)) (k0_pay46 (k0_pay9 v4) (k0_pay12 v8 v10)) (k0_pay47 (k0_pay8 v2)) (ix2 r d)
    = dx inv eps (fun e => v2 (ix2 r (col 0 e)))
        (fun e => gd v8 v10 r (col 0 e) * (v4 (ix2 r (col 0 e)) * sg (v4 (ix2 r (col 0 e)))) * v7 (ix2 0 e)) d := by
  unfold dx
  simp only [← dx0, ← dy0 v4 v8 v10]
  rw [← dr0]
  pointwise [k0_pay50]

theorem ds1 (r : Fin 544) (d : Fin 128) : k0_pay54 (F := Ideal) (k0_pay9 v4) (ix2 r d) = sg (v4 (ix2 r (col 1 d))) := by
  unfold sg
  rw [col1]
  pointwise [k0_pay54, k0_pay53, k0_pay9]

theorem dy1 (r : Fin 544) (d : Fin 128) : k0_pay59 (F := Ideal) (k0_pay12 v8 v10) (k0_pay55 (k0_pay9 v4)) (ix2 r d)
    = gd v8 v10 r (col 1 d) * (v4 (ix2 r (col 1 d)) * sg (v4 (ix2 r (col 1 d)))) := by
  rw [← ds1, ← pay12_at, col1]
  pointwise [k0_pay59, k0_pay55, k0_pay53, k0_pay9]

theorem dr1 (r : Fin 544) : k0_pay60 (F := Ideal) (k0_pay8 v2) (ix2 r 0) = rt inv eps (fun e => v2 (ix2 r (col 1 e))) := by
  unfold rt
  simp only [col1]
  pointwise [k0_pay60, k0_pay58, k0_pay8]

theorem dx1 (r : Fin 544) (d : Fin 128) : k0_pay61 (F := Ideal) (k0_pay8 v2) (ix2 r d)
    = v2 (ix2 r (col 1 d)) * rt inv eps (fun e => v2 (ix2 r (col 1 e))) := by
  rw [← dr1, col1]
  pointwise [k0_pay61, k0_pay58, k0_pay8]

theorem dz1 (r : Fin 544) (d : Fin 128) : k0_pay57 (F := Ideal) (k0_pay12 v8 v10) (k0_pay52 (k0_pay8 v2) v7) (k0_pay54 (k0_pay9 v4)) (k0_pay56 (k0_pay9 v4)) (Scalar.ofBits .f32 0x3F800000#32) (ix2 r d)
    = gd v8 v10 r (col 1 d) * (v2 (ix2 r (col 1 d)) * rt inv eps (fun e => v2 (ix2 r (col 1 e))) * v7 (ix2 0 d))
      * (sg (v4 (ix2 r (col 1 d))) * (1 + v4 (ix2 r (col 1 d)) * (1 - sg (v4 (ix2 r (col 1 d)))))) := by
  rw [← ds1, ← pay12_at]
  unfold rt
  simp only [col1]
  pointwise [k0_pay57, k0_pay56, k0_pay53, k0_pay52, k0_pay9, k0_pay8]

theorem do1 (r : Fin 544) (d : Fin 128) : k0_pay62 (F := Ideal) (k0_pay8 v2) v7 (k0_pay12 v8 v10) (k0_pay55 (k0_pay9 v4)) (ix2 r d)
    = dx inv eps (fun e => v2 (ix2 r (col 1 e)))
        (fun e => gd v8 v10 r (col 1 e) * (v4 (ix2 r (col 1 e)) * sg (v4 (ix2 r (col 1 e)))) * v7 (ix2 0 e)) d := by
  unfold dx
  simp only [← dx1, ← dy1 v4 v8 v10]
  rw [← dr1]
  pointwise [k0_pay62]

theorem ds2 (r : Fin 544) (d : Fin 128) : k0_pay67 (F := Ideal) (k0_pay65 (k0_pay9 v4)) k0_pay66 (ix2 r d) = sg (v4 (ix2 r (col 2 d))) := by
  unfold sg
  rw [col2]
  pointwise [k0_pay67, k0_pay66, k0_pay65, k0_pay9]

theorem dy2 (r : Fin 544) (d : Fin 128) : k0_pay70 (F := Ideal) (k0_pay12 v8 v10) (k0_pay65 (k0_pay9 v4)) k0_pay66 (ix2 r d)
    = gd v8 v10 r (col 2 d) * (v4 (ix2 r (col 2 d)) * sg (v4 (ix2 r (col 2 d)))) := by
  rw [← ds2, ← pay12_at, col2]
  pointwise [k0_pay70, k0_pay65, k0_pay9]

theorem dr2 (r : Fin 544) : k0_pay71 (F := Ideal) (k0_pay8 v2) (ix2 r 0) = rt inv eps (fun e => v2 (ix2 r (col 2 e))) := by
  unfold rt
  simp only [col2]
  pointwise [k0_pay71, k0_pay69, k0_pay8]

theorem dx2 (r : Fin 544) (d : Fin 128) : k0_pay72 (F := Ideal) (k0_pay8 v2) (ix2 r d)
    = v2 (ix2 r (col 2 d)) * rt inv eps (fun e => v2 (ix2 r (col 2 e))) := by
  rw [← dr2, col2]
  pointwise [k0_pay72, k0_pay69, k0_pay8]

theorem dz2 (r : Fin 544) (d : Fin 128) : k0_pay68 (F := Ideal) (k0_pay12 v8 v10) (k0_pay64 (k0_pay8 v2) v7) (k0_pay65 (k0_pay9 v4)) k0_pay66 (ix2 r d)
    = gd v8 v10 r (col 2 d) * (v2 (ix2 r (col 2 d)) * rt inv eps (fun e => v2 (ix2 r (col 2 e))) * v7 (ix2 0 d))
      * (sg (v4 (ix2 r (col 2 d))) * (1 + v4 (ix2 r (col 2 d)) * (1 - sg (v4 (ix2 r (col 2 d)))))) := by
  rw [← ds2, ← pay12_at]
  unfold rt
  simp only [col2]
  pointwise [k0_pay68, k0_pay65, k0_pay64, k0_pay9, k0_pay8]

theorem do2 (r : Fin 544) (d : Fin 128) : k0_pay73 (F := Ideal) (k0_pay8 v2) v7 (k0_pay12 v8 v10) (k0_pay65 (k0_pay9 v4)) k0_pay66 (ix2 r d)
    = dx inv eps (fun e => v2 (ix2 r (col 2 e)))
        (fun e => gd v8 v10 r (col 2 e) * (v4 (ix2 r (col 2 e)) * sg (v4 (ix2 r (col 2 e)))) * v7 (ix2 0 e)) d := by
  unfold dx
  simp only [← dx2, ← dy2 v4 v8 v10]
  rw [← dr2]
  pointwise [k0_pay73]

theorem ds3 (r : Fin 544) (d : Fin 128) : k0_pay78 (F := Ideal) (k0_pay9 v4) (ix2 r d) = sg (v4 (ix2 r (col 3 d))) := by
  unfold sg
  rw [col3]
  pointwise [k0_pay78, k0_pay77, k0_pay9]

theorem dy3 (r : Fin 544) (d : Fin 128) : k0_pay81 (F := Ideal) (k0_pay9 v4) (k0_pay12 v8 v10) (ix2 r d)
    = gd v8 v10 r (col 3 d) * (v4 (ix2 r (col 3 d)) * sg (v4 (ix2 r (col 3 d)))) := by
  rw [← ds3, ← pay12_at, col3]
  pointwise [k0_pay81, k0_pay77, k0_pay9]

theorem dr3 (r : Fin 544) : k0_pay82 (F := Ideal) (k0_pay8 v2) (ix2 r 0) = rt inv eps (fun e => v2 (ix2 r (col 3 e))) := by
  unfold rt
  simp only [col3]
  pointwise [k0_pay82, k0_pay80, k0_pay8]

theorem dx3 (r : Fin 544) (d : Fin 128) : k0_pay83 (F := Ideal) (k0_pay8 v2) (ix2 r d)
    = v2 (ix2 r (col 3 d)) * rt inv eps (fun e => v2 (ix2 r (col 3 e))) := by
  rw [← dr3, col3]
  pointwise [k0_pay83, k0_pay80, k0_pay8]

theorem dz3 (r : Fin 544) (d : Fin 128) : k0_pay79 (F := Ideal) (k0_pay9 v4) v7 (k0_pay12 v8 v10) (k0_pay75 (k0_pay8 v2)) (k0_pay76 (k0_pay8 v2)) (ix2 r d)
    = gd v8 v10 r (col 3 d) * (v2 (ix2 r (col 3 d)) * rt inv eps (fun e => v2 (ix2 r (col 3 e))) * v7 (ix2 0 d))
      * (sg (v4 (ix2 r (col 3 d))) * (1 + v4 (ix2 r (col 3 d)) * (1 - sg (v4 (ix2 r (col 3 d)))))) := by
  rw [← ds3, ← pay12_at]
  unfold rt
  simp only [col3]
  pointwise [k0_pay79, k0_pay77, k0_pay76, k0_pay75, k0_pay9, k0_pay8]

theorem do3 (r : Fin 544) (d : Fin 128) : k0_pay82 (F := Ideal) (k0_pay8 v2) (ix2 r 0)
      * (k0_pay84 (F := Ideal) (k0_pay9 v4) v7 (k0_pay12 v8 v10) (ix2 r d) - k0_pay83 (F := Ideal) (k0_pay8 v2) (ix2 r d) * k0_pay85 (F := Ideal) (k0_pay8 v2) (k0_pay9 v4) v7 (k0_pay12 v8 v10) (ix2 r d))
    = dx inv eps (fun e => v2 (ix2 r (col 3 e)))
        (fun e => gd v8 v10 r (col 3 e) * (v4 (ix2 r (col 3 e)) * sg (v4 (ix2 r (col 3 e)))) * v7 (ix2 0 e)) d := by
  unfold dx
  simp only [← dx3, ← dy3 v4 v8 v10]
  rw [← dr3]
  pointwise [k0_pay85, k0_pay84]

/-- What the block adds to the second weight's gradient. -/
theorem dw (d : Fin 128) : k0_pay1 (F := Ideal) (k0_pay74 (k0_pay8 v2) (k0_pay12 v8 v10) (k0_pay63 (k0_pay8 v2) (k0_pay12 v8 v10) (k0_pay51 (k0_pay45 (k0_pay8 v2)) (k0_pay46 (k0_pay9 v4) (k0_pay12 v8 v10)) (k0_pay47 (k0_pay8 v2)))
        (k0_pay55 (k0_pay9 v4))) (k0_pay65 (k0_pay9 v4)) k0_pay66) (k0_pay81 (k0_pay9 v4) (k0_pay12 v8 v10)) (k0_pay83 (k0_pay8 v2)) (ix2 0 d)
    = ∑ j : Fin 4, ∑ r : Fin 544, gd v8 v10 r (col j d) * (v4 (ix2 r (col j d)) * sg (v4 (ix2 r (col j d))))
        * (v2 (ix2 r (col j d)) * rt inv eps (fun e => v2 (ix2 r (col j e)))) := by
  rw [Fin.sum_univ_four]
  simp only [← dx0, ← dx1, ← dx2, ← dx3, ← dy0 v4 v8 v10, ← dy1 v4 v8 v10, ← dy2 v4 v8 v10, ← dy3 v4 v8 v10]
  pointwise [k0_pay1, k0_pay74, k0_pay63, k0_pay51]

end

/-- An array of four heads, at a head's column. -/
theorem cat0 (x0 x1 x2 x3 : FVec Ideal S544x128 .f32) (r : Fin 544) (d : Fin 128) :
    k0_pay2 (F := Ideal) x0 x1 x2 x3 (ix2 r (col 0 d)) = x0 (ix2 r d) := by
  rw [col0]
  pointwise [k0_pay2]

theorem cat1 (x0 x1 x2 x3 : FVec Ideal S544x128 .f32) (r : Fin 544) (d : Fin 128) :
    k0_pay2 (F := Ideal) x0 x1 x2 x3 (ix2 r (col 1 d)) = x1 (ix2 r d) := by
  rw [col1]
  pointwise [k0_pay2]

theorem cat2 (x0 x1 x2 x3 : FVec Ideal S544x128 .f32) (r : Fin 544) (d : Fin 128) :
    k0_pay2 (F := Ideal) x0 x1 x2 x3 (ix2 r (col 2 d)) = x2 (ix2 r d) := by
  rw [col2]
  pointwise [k0_pay2]
  rw [dif_neg (by omega), dif_neg (by omega), dif_pos (by omega)]
  exact congrArg (fun e => x2 (ix2 r e)) (Fin.ext (by simp only; omega))

theorem cat3 (x0 x1 x2 x3 : FVec Ideal S544x128 .f32) (r : Fin 544) (d : Fin 128) :
    k0_pay2 (F := Ideal) x0 x1 x2 x3 (ix2 r (col 3 d)) = x3 (ix2 r d) := by
  rw [col3]
  pointwise [k0_pay2]
  rw [dif_neg (by omega), dif_neg (by omega), dif_neg (by omega)]
  exact congrArg (fun e => x3 (ix2 r e)) (Fin.ext (by simp only; omega))

theorem pay4_at (x0 x1 x2 x3 : FVec Ideal S544x128 .f32) (r : Fin 544) (c : Fin 512) :
    k0_pay4 (F := Ideal) x0 x1 x2 x3 (ix2 r c) = k0_pay2 (F := Ideal) x0 x1 x2 x3 (ix2 r c) := by
  pointwise [k0_pay4, k0_pay2]

/-- The fourth head's gradient from its four pieces. -/
def last (s : FVec Ideal S544x1 .f32) (x y z : FVec Ideal S544x128 .f32) : FVec Ideal S544x128 .f32 := fun i => s (ix2 (i 0) 0) * (y i - x i * z i)

theorem pay3_at (x0 x1 x2 : FVec Ideal S544x128 .f32) (s : FVec Ideal S544x1 .f32) (x y z : FVec Ideal S544x128 .f32) (r : Fin 544) (c : Fin 512) :
    k0_pay3 (F := Ideal) x0 x1 x2 s x y z (ix2 r c) = k0_pay2 (F := Ideal) x0 x1 x2 (last s x y z) (ix2 r c) := by
  pointwise [k0_pay3, k0_pay2]
  rfl

theorem pay5_at (v acc : FVec Ideal S1x128 .f32) (d : Fin 128) : k0_pay5 (F := Ideal) v acc (ix2 0 d) = acc (ix2 0 d) + v (ix2 0 d) := by
  pointwise [k0_pay5]

theorem pay6_at (v : FVec Ideal S1x128 .f32) (y x : FVec Ideal S544x128 .f32) (acc : FVec Ideal S1x128 .f32) (d : Fin 128) :
    k0_pay6 (F := Ideal) v y x acc (ix2 0 d) = acc (ix2 0 d) + k0_pay1 (F := Ideal) v y x (ix2 0 d) := by
  pointwise [k0_pay6]

section

variable (i : grid0.Coords) (v0 v2 v4 : FVec Ideal S544x512 .f32) (v6 v7 : FVec Ideal S1x128 .f32) (v8 : FVec Ideal S544x1024 .bf16)
  (v10 : FVec Ideal S1024x1024 .bf16)

theorem m_all (r : Fin 544) (j : Fin 4) (d : Fin 128) : k0_pay2 (F := Ideal) (k0_pay19 (k0_pay15 i v8 v10) (k0_pay16 v0) (k0_pay17 v0) (k0_pay18 v6)) (k0_pay24 (k0_pay7 v0) v6 (k0_pay11 v8 v10) (k0_pay13 i)) (k0_pay32 v6 (k0_pay26 (k0_pay7 v0)) (k0_pay27 (k0_pay11 v8 v10)) (Scalar.ofBits .f32 0x00000000#32) (k0_pay28 (k0_pay13 i))) (k0_pay40 (k0_pay36 (k0_pay7 v0)) (k0_pay37 (k0_pay7 v0)) (k0_pay38 v6 (k0_pay11 v8 v10) (k0_pay13 i)) (k0_pay39 (k0_pay7 v0) v6 (k0_pay11 v8 v10) (k0_pay13 i))) (ix2 r (col j d))
    = dx inv eps (fun e => v0 (ix2 r (col j e))) (fun e => gm i v8 v10 r (col j e) * v6 (ix2 0 e)) d := by
  match j with
  | 0 => exact (cat0 _ _ _ _ r d).trans (mo0 i v0 v6 v8 v10 r d)
  | 1 => exact (cat1 _ _ _ _ r d).trans (mo1 i v0 v6 v8 v10 r d)
  | 2 => exact (cat2 _ _ _ _ r d).trans (mo2 i v0 v6 v8 v10 r d)
  | 3 => exact (cat3 _ _ _ _ r d).trans (mo3 i v0 v6 v8 v10 r d)

theorem d_all (r : Fin 544) (j : Fin 4) (d : Fin 128) : k0_pay3 (F := Ideal) (k0_pay50 v7 (k0_pay45 (k0_pay8 v2)) (k0_pay46 (k0_pay9 v4) (k0_pay12 v8 v10)) (k0_pay47 (k0_pay8 v2))) (k0_pay62 (k0_pay8 v2) v7 (k0_pay12 v8 v10) (k0_pay55 (k0_pay9 v4))) (k0_pay73 (k0_pay8 v2) v7 (k0_pay12 v8 v10) (k0_pay65 (k0_pay9 v4)) k0_pay66) (k0_pay82 (k0_pay8 v2)) (k0_pay83 (k0_pay8 v2)) (k0_pay84 (k0_pay9 v4) v7 (k0_pay12 v8 v10)) (k0_pay85 (k0_pay8 v2) (k0_pay9 v4) v7 (k0_pay12 v8 v10)) (ix2 r (col j d))
    = dx inv eps (fun e => v2 (ix2 r (col j e)))
        (fun e => gd v8 v10 r (col j e) * (v4 (ix2 r (col j e)) * sg (v4 (ix2 r (col j e)))) * v7 (ix2 0 e)) d := by
  rw [pay3_at]
  match j with
  | 0 => exact (cat0 _ _ _ _ r d).trans (do0 v2 v4 v7 v8 v10 r d)
  | 1 => exact (cat1 _ _ _ _ r d).trans (do1 v2 v4 v7 v8 v10 r d)
  | 2 => exact (cat2 _ _ _ _ r d).trans (do2 v2 v4 v7 v8 v10 r d)
  | 3 => exact (cat3 _ _ _ _ r d).trans (do3 v2 v4 v7 v8 v10 r d)

theorem z_all (r : Fin 544) (j : Fin 4) (d : Fin 128) : k0_pay4 (F := Ideal) (k0_pay44 (k0_pay8 v2) (k0_pay9 v4) v7 (k0_pay12 v8 v10)) (k0_pay57 (k0_pay12 v8 v10) (k0_pay52 (k0_pay8 v2) v7) (k0_pay54 (k0_pay9 v4)) (k0_pay56 (k0_pay9 v4)) (Scalar.ofBits .f32 0x3F800000#32)) (k0_pay68 (k0_pay12 v8 v10) (k0_pay64 (k0_pay8 v2) v7) (k0_pay65 (k0_pay9 v4)) k0_pay66) (k0_pay79 (k0_pay9 v4) v7 (k0_pay12 v8 v10) (k0_pay75 (k0_pay8 v2)) (k0_pay76 (k0_pay8 v2))) (ix2 r (col j d))
    = gd v8 v10 r (col j d) * (v2 (ix2 r (col j d)) * rt inv eps (fun e => v2 (ix2 r (col j e))) * v7 (ix2 0 d))
      * (sg (v4 (ix2 r (col j d))) * (1 + v4 (ix2 r (col j d)) * (1 - sg (v4 (ix2 r (col j d)))))) := by
  rw [pay4_at]
  match j with
  | 0 => exact (cat0 _ _ _ _ r d).trans (dz0 v2 v4 v7 v8 v10 r d)
  | 1 => exact (cat1 _ _ _ _ r d).trans (dz1 v2 v4 v7 v8 v10 r d)
  | 2 => exact (cat2 _ _ _ _ r d).trans (dz2 v2 v4 v7 v8 v10 r d)
  | 3 => exact (cat3 _ _ _ _ r d).trans (dz3 v2 v4 v7 v8 v10 r d)

end

end Cert.MixIdeal.Tile
-- ==== Proof.Mix.Entry.lean ====
/- The blocks the backward kernel of the two output norms reads at a grid point, as rows of the arguments. -/
module

public import proofs.«01_k».proof.Proof.Gen.MixIdeal.Value
public import proofs.«01_k».proof.Proof.Mix.Tile
public import proofs.«01_k».proof.Proof.Common.Pad
public import proofs.«01_k».proof.Proof.Common.Cols
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixIdeal.Entry

open Cert.MixIdeal Cert.MixIdeal.Gen Cert.MixIdeal.Tile Cert.Num Cert.Pad Cert.Cols

variable (m : (ℓ : Loc nD τ sig) → Buf (Elt Ideal) ℓ)

theorem host0 (c : Dev nD) (r : Fin 2176) (k : Fin 1024) : V m c main_v1 (ix2 r k) = ext (fun n => m ((c : Thread nD τ).loc main_arg6) (ix2 n k)) r := by
  unfold V
  simp only [List.flatten_cons, List.flatten_nil, List.append_nil, List.cons_append, List.nil_append]
  after_reads_at
  exact ext_pad (fun n => m ((c : Thread nD τ).loc main_arg6) (ix2 n k)) r _ zero32

theorem host1 (c : Dev nD) (k d : Fin 1024) : V m c main_v2 (ix2 k d) = m ((c : Thread nD τ).loc main_arg5) (ix2 k d) := by
  unfold V
  simp only [List.flatten_cons, List.flatten_nil, List.append_nil, List.cons_append, List.nil_append]
  after_reads_at

theorem host2 (c : Dev nD) (r : Fin 2176) (k : Fin 512) : V m c main_v3 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host3 (c : Dev nD) (r : Fin 2176) (k : Fin 512) : V m c main_v4 (ix2 r k) = ext (fun n => m ((c : Thread nD τ).loc main_arg1) (ix2 n k)) r := by
  unfold V
  simp only [List.flatten_cons, List.flatten_nil, List.append_nil, List.cons_append, List.nil_append]
  after_reads_at
  exact ext_pad (fun n => m ((c : Thread nD τ).loc main_arg1) (ix2 n k)) r _ zero32

set_option maxHeartbeats 2000000 in
theorem host4 (c : Dev nD) (r : Fin 2176) (k : Fin 2816) : V m c main_v14 (ix2 r k)
    = cols (fun j => ext (fun n => m ((c : Thread nD τ).loc main_arg2) (ix2 n j)) r) k := by
  unfold V
  simp only [List.flatten_cons, List.flatten_nil, List.append_nil, List.cons_append, List.nil_append]
  after_reads_at
  all_goals after_reads_at
  exact cols_pad (fun n j => m ((c : Thread nD τ).loc main_arg2) (ix2 n j)) r k _ zero32

/-- The columns the gate stands at. -/
theorem cols_gate (f : Fin 2632 → EReal) (c : Fin 512) (h : 1536 + (c : ℕ) < 2816) : cols f ⟨1536 + c, h⟩ = f ⟨2112 + c, by omega⟩ := by
  unfold cols
  rw [dif_neg (by simp only; omega), dif_pos (by simp only; omega)]
  exact congrArg f (Fin.ext (by simp only; omega))

theorem host5 (c : Dev nD) (i : S1x128.Idx) : V m c main_arg3 i = m ((c : Thread nD τ).loc main_arg3) i := by
  unfold V
  simp only [List.flatten_cons, List.flatten_nil, List.append_nil, List.cons_append, List.nil_append]
  after_reads_at

theorem host6 (c : Dev nD) (i : S1x128.Idx) : V m c main_arg4 i = m ((c : Thread nD τ).loc main_arg4) i := by
  unfold V
  simp only [List.flatten_cons, List.flatten_nil, List.append_nil, List.cons_append, List.nil_append]
  after_reads_at

theorem idx : ∀ t : Fin cfg0.N, win0_0.index t = ![t.val, 0] ∧ win0_1.index t = ![0, 0] ∧ win0_2.index t = ![t.val, 0]
    ∧ win0_3.index t = ![t.val, 0] ∧ win0_4.index t = ![t.val, 3] ∧ win0_5.index t = ![0, 0] ∧ win0_6.index t = ![0, 0]
    ∧ win0_7.index t = ![t.val, 0] ∧ win0_8.index t = ![t.val, 0] ∧ win0_9.index t = ![t.val, 0] ∧ win0_10.index t = ![0, 0]
    ∧ win0_11.index t = ![0, 0] ∧ (grid0.coords t 0).val = t.val ∧ t.val < 4 :=
  (by decide +kernel : ∀ t : Fin grid0.N, _)

/-- The grid's one coordinate counts its points. -/
theorem at_pt (t : Fin cfg0.N) : (grid0.coords t 0).val = t.val ∧ t.val < 4 := (idx t).2.2.2.2.2.2.2.2.2.2.2.2

variable (c : Dev nD) (t : Fin cfg0.N)

def blk0 : FVec Ideal S544x1024 .bf16 := iblk m c 0 t
def blk1 : FVec Ideal S1024x1024 .bf16 := iblk m c 1 t
def blk2 : FVec Ideal S544x512 .f32 := iblk m c 2 t
def blk3 : FVec Ideal S544x512 .f32 := iblk m c 3 t
def blk4 : FVec Ideal S544x512 .f32 := X0_4 m c t
def blk5 : FVec Ideal S1x128 .f32 := iblk m c 5 t
def blk6 : FVec Ideal S1x128 .f32 := iblk m c 6 t

theorem block0 (r : Fin 544) (j : Fin 1024) : blk0 m c t (ix2 r j) = ext (fun n => m ((c : Thread nD τ).loc main_arg6) (ix2 n j)) (t.val * 544 + r) := by
  obtain ⟨hp, ht⟩ := at_pt t
  have e : (win0_0.blk t).view.emb (ix2 r j) = ix2 (⟨t.val * 544 + r, by omega⟩ : Fin 2176) j := by blk_ext [idx t]
  unfold blk0
  blk_simp [iblk]
  rw [e, host0]

theorem block2 (r : Fin 544) (j : Fin 512) : blk2 m c t (ix2 r j) = ext (fun n => m ((c : Thread nD τ).loc main_arg0) (ix2 n j)) (t.val * 544 + r) := by
  obtain ⟨hp, ht⟩ := at_pt t
  have e : (win0_2.blk t).view.emb (ix2 r j) = ix2 (⟨t.val * 544 + r, by omega⟩ : Fin 2176) j := by blk_ext [idx t]
  unfold blk2
  blk_simp [iblk]
  rw [e, host2]

theorem block3 (r : Fin 544) (j : Fin 512) : blk3 m c t (ix2 r j) = ext (fun n => m ((c : Thread nD τ).loc main_arg1) (ix2 n j)) (t.val * 544 + r) := by
  obtain ⟨hp, ht⟩ := at_pt t
  have e : (win0_3.blk t).view.emb (ix2 r j) = ix2 (⟨t.val * 544 + r, by omega⟩ : Fin 2176) j := by blk_ext [idx t]
  unfold blk3
  blk_simp [iblk]
  rw [e, host3]

theorem block1 (k d : Fin 1024) : blk1 m c t (ix2 k d) = m ((c : Thread nD τ).loc main_arg5) (ix2 k d) := by
  have e : (win0_1.blk t).view.emb (ix2 k d) = ix2 k d := by blk_ext [idx t]
  unfold blk1
  blk_simp [iblk]
  rw [e, host1]

theorem block4 (r : Fin 544) (j : Fin 512) : blk4 m c t (ix2 r j) = ext (fun n => m ((c : Thread nD τ).loc main_arg2) (ix2 n ⟨2112 + j, by omega⟩)) (t.val * 544 + r) := by
  obtain ⟨hp, ht⟩ := at_pt t
  unfold blk4 X0_4 Pipeline.Window.fill
  rw [dif_pos (moved0_4 t _)]
  have e : (win0_4.blk t).view.emb (fun a => ⟨(ix2 r j a).val, ((cfg0.win 4).moved_iff _ _).mp (moved0_4 t (ix2 r j)) a⟩)
      = ix2 (⟨t.val * 544 + r, by omega⟩ : Fin 2176) (⟨1536 + j, by omega⟩ : Fin 2816) := by blk_ext [idx t]
  blk_simp [iblk]
  rw [e, host4, cols_gate]

theorem block5 (d : Fin 128) : blk5 m c t (ix2 0 d) = m ((c : Thread nD τ).loc main_arg3) (ix2 0 d) := by
  have e : (win0_5.blk t).view.emb (ix2 0 d) = ix2 0 d := by blk_ext [idx t]
  unfold blk5
  blk_simp [iblk]
  rw [e, host5]

theorem block6 (d : Fin 128) : blk6 m c t (ix2 0 d) = m ((c : Thread nD τ).loc main_arg4) (ix2 0 d) := by
  have e : (win0_6.blk t).view.emb (ix2 0 d) = ix2 0 d := by blk_ext [idx t]
  unfold blk6
  blk_simp [iblk]
  rw [e, host6]

end Cert.MixIdeal.Entry
-- ==== Proof.Mix.Final.lean ====
/- What the backward kernel of the two output norms leaves in its five result arrays. -/
module

public import proofs.«01_k».proof.Proof.Mix.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixIdeal.Final

open Cert.MixIdeal Cert.MixIdeal.Gen Cert.MixIdeal.Tile Cert.MixIdeal.Entry Cert.Num Cert.Pad Cert.Rms Cert.Heads

variable (m : (ℓ : Loc nD τ sig) → Buf (Elt Ideal) ℓ) (c : Dev nD)

/-- Row `n` of the two branches' results and of the gate's argument. -/
def om (n : ℕ) (k : Fin 512) : EReal := ext (fun r => m ((c : Thread nD τ).loc main_arg0) (ix2 r k)) n
def od (n : ℕ) (k : Fin 512) : EReal := ext (fun r => m ((c : Thread nD τ).loc main_arg1) (ix2 r k)) n
def zz (n : ℕ) (k : Fin 512) : EReal := ext (fun r => m ((c : Thread nD τ).loc main_arg2) (ix2 r ⟨2112 + k, by omega⟩)) n

/-- The norms' weights. -/
def wm (d : Fin 128) : EReal := m ((c : Thread nD τ).loc main_arg3) (ix2 0 d)
def wd (d : Fin 128) : EReal := m ((c : Thread nD τ).loc main_arg4) (ix2 0 d)

/-- Row `n` of the gradient that reaches the output product's left factor, and of its part behind the gate. -/
def dy (n : ℕ) (k : Fin 1024) : EReal := ∑ d, ext (fun r => m ((c : Thread nD τ).loc main_arg6) (ix2 r d)) n * m ((c : Thread nD τ).loc main_arg5) (ix2 k d)
def gz (n : ℕ) (k : Fin 512) : EReal := dy m c n (hi k) * (zz m c n k * sg (zz m c n k))

/-- Row `n` of the three results, and what it adds to the weights' gradients. -/
def omAt (n : ℕ) (j : Fin 4) (d : Fin 128) : EReal :=
  dx inv eps (fun e => om m c n (col j e)) (fun e => dy m c n (lo (col j e)) * wm m c e) d
def odAt (n : ℕ) (j : Fin 4) (d : Fin 128) : EReal :=
  dx inv eps (fun e => od m c n (col j e)) (fun e => gz m c n (col j e) * wd m c e) d
def ozAt (n : ℕ) (j : Fin 4) (d : Fin 128) : EReal :=
  dy m c n (hi (col j d)) * (od m c n (col j d) * rt inv eps (fun e => od m c n (col j e)) * wd m c d)
    * (sg (zz m c n (col j d)) * (1 + zz m c n (col j d) * (1 - sg (zz m c n (col j d)))))
def wmAt (n : ℕ) (d : Fin 128) : EReal :=
  ∑ j : Fin 4, dy m c n (lo (col j d)) * (om m c n (col j d) * rt inv eps (fun e => om m c n (col j e)))
def wdAt (n : ℕ) (d : Fin 128) : EReal :=
  ∑ j : Fin 4, gz m c n (col j d) * (od m c n (col j d) * rt inv eps (fun e => od m c n (col j e)))

theorem dy_lt (n : ℕ) (h : n < 112) (k : Fin 1024) : dy m c n k = 0 := by
  unfold dy
  exact Finset.sum_eq_zero fun d _ => by rw [ext_lt _ n h, zero_mul]

variable (t : Fin cfg0.N)

theorem om_blk (r : Fin 544) (k : Fin 512) : blk2 m c t (ix2 r k) = om m c (t.val * 544 + r) k := block2 m c t r k
theorem od_blk (r : Fin 544) (k : Fin 512) : blk3 m c t (ix2 r k) = od m c (t.val * 544 + r) k := block3 m c t r k
theorem zz_blk (r : Fin 544) (k : Fin 512) : blk4 m c t (ix2 r k) = zz m c (t.val * 544 + r) k := block4 m c t r k
theorem wm_blk (d : Fin 128) : blk5 m c t (ix2 0 d) = wm m c d := block5 m c t d
theorem wd_blk (d : Fin 128) : blk6 m c t (ix2 0 d) = wd m c d := block6 m c t d

theorem dot_blk (r : Fin 544) (k : Fin 1024) : dot (blk0 m c t) (blk1 m c t) r k = dy m c (t.val * 544 + r) k := by
  unfold dot dy
  simp only [block0, block1]

theorem gd_blk (r : Fin 544) (k : Fin 512) : gd (blk0 m c t) (blk1 m c t) r k = dy m c (t.val * 544 + r) (hi k) := dot_blk m c t r (hi k)

theorem gm_blk (r : Fin 544) (k : Fin 512) : gm (grid0.coords t) (blk0 m c t) (blk1 m c t) r k = dy m c (t.val * 544 + r) (lo k) := by
  have hp := (at_pt t).1
  unfold gm
  rw [dot_blk]
  by_cases h : 112 ≤ t.val * 544 + (r : ℕ)
  · exact if_pos (by omega)
  · rw [dy_lt m c _ (by omega)]
    exact ite_self _

theorem m_blk (r : Fin 544) (j : Fin 4) (d : Fin 128) : k0_pay2 (F := Ideal) (k0_pay19 (k0_pay15 (grid0.coords t) (blk0 m c t) (blk1 m c t)) (k0_pay16 (blk2 m c t)) (k0_pay17 (blk2 m c t)) (k0_pay18 (blk5 m c t))) (k0_pay24 (k0_pay7 (blk2 m c t)) (blk5 m c t) (k0_pay11 (blk0 m c t) (blk1 m c t)) (k0_pay13 (grid0.coords t))) (k0_pay32 (blk5 m c t) (k0_pay26 (k0_pay7 (blk2 m c t))) (k0_pay27 (k0_pay11 (blk0 m c t) (blk1 m c t))) (Scalar.ofBits .f32 0x00000000#32) (k0_pay28 (k0_pay13 (grid0.coords t)))) (k0_pay40 (k0_pay36 (k0_pay7 (blk2 m c t))) (k0_pay37 (k0_pay7 (blk2 m c t))) (k0_pay38 (blk5 m c t) (k0_pay11 (blk0 m c t) (blk1 m c t)) (k0_pay13 (grid0.coords t))) (k0_pay39 (k0_pay7 (blk2 m c t)) (blk5 m c t) (k0_pay11 (blk0 m c t) (blk1 m c t)) (k0_pay13 (grid0.coords t)))) (ix2 r (col j d))
    = omAt m c (t.val * 544 + r) j d := by
  rw [m_all]
  simp only [om_blk, gm_blk, wm_blk]
  rfl

theorem d_blk (r : Fin 544) (j : Fin 4) (d : Fin 128) : k0_pay3 (F := Ideal) (k0_pay50 (blk6 m c t) (k0_pay45 (k0_pay8 (blk3 m c t))) (k0_pay46 (k0_pay9 (blk4 m c t)) (k0_pay12 (blk0 m c t) (blk1 m c t))) (k0_pay47 (k0_pay8 (blk3 m c t)))) (k0_pay62 (k0_pay8 (blk3 m c t)) (blk6 m c t) (k0_pay12 (blk0 m c t) (blk1 m c t)) (k0_pay55 (k0_pay9 (blk4 m c t)))) (k0_pay73 (k0_pay8 (blk3 m c t)) (blk6 m c t) (k0_pay12 (blk0 m c t) (blk1 m c t)) (k0_pay65 (k0_pay9 (blk4 m c t))) k0_pay66) (k0_pay82 (k0_pay8 (blk3 m c t))) (k0_pay83 (k0_pay8 (blk3 m c t))) (k0_pay84 (k0_pay9 (blk4 m c t)) (blk6 m c t) (k0_pay12 (blk0 m c t) (blk1 m c t))) (k0_pay85 (k0_pay8 (blk3 m c t)) (k0_pay9 (blk4 m c t)) (blk6 m c t) (k0_pay12 (blk0 m c t) (blk1 m c t))) (ix2 r (col j d))
    = odAt m c (t.val * 544 + r) j d := by
  rw [d_all]
  simp only [od_blk, gd_blk, wd_blk, zz_blk]
  rfl

theorem z_blk (r : Fin 544) (j : Fin 4) (d : Fin 128) : k0_pay4 (F := Ideal) (k0_pay44 (k0_pay8 (blk3 m c t)) (k0_pay9 (blk4 m c t)) (blk6 m c t) (k0_pay12 (blk0 m c t) (blk1 m c t))) (k0_pay57 (k0_pay12 (blk0 m c t) (blk1 m c t)) (k0_pay52 (k0_pay8 (blk3 m c t)) (blk6 m c t)) (k0_pay54 (k0_pay9 (blk4 m c t))) (k0_pay56 (k0_pay9 (blk4 m c t))) (Scalar.ofBits .f32 0x3F800000#32)) (k0_pay68 (k0_pay12 (blk0 m c t) (blk1 m c t)) (k0_pay64 (k0_pay8 (blk3 m c t)) (blk6 m c t)) (k0_pay65 (k0_pay9 (blk4 m c t))) k0_pay66) (k0_pay79 (k0_pay9 (blk4 m c t)) (blk6 m c t) (k0_pay12 (blk0 m c t) (blk1 m c t)) (k0_pay75 (k0_pay8 (blk3 m c t))) (k0_pay76 (k0_pay8 (blk3 m c t)))) (ix2 r (col j d))
    = ozAt m c (t.val * 544 + r) j d := by
  rw [z_all]
  simp only [od_blk, gd_blk, wd_blk, zz_blk]
  rfl

theorem wm_sum (d : Fin 128) : k0_pay41 (F := Ideal) (k0_pay33 (k0_pay25 (k0_pay7 (blk2 m c t)) (k0_pay11 (blk0 m c t) (blk1 m c t)) (k0_pay13 (grid0.coords t)) (k0_pay15 (grid0.coords t) (blk0 m c t) (blk1 m c t)) (k0_pay17 (blk2 m c t))) (k0_pay26 (k0_pay7 (blk2 m c t))) (k0_pay27 (k0_pay11 (blk0 m c t) (blk1 m c t))) (Scalar.ofBits .f32 0x00000000#32) (k0_pay28 (k0_pay13 (grid0.coords t)))) (k0_pay35 (k0_pay11 (blk0 m c t) (blk1 m c t)) (k0_pay13 (grid0.coords t))) (k0_pay37 (k0_pay7 (blk2 m c t))) (ix2 0 d)
    = ∑ r : Fin 544, wmAt m c (t.val * 544 + r) d := by
  refine (mw (grid0.coords t) (blk2 m c t) (blk0 m c t) (blk1 m c t) d).trans ?_
  rw [Finset.sum_comm]
  simp only [om_blk, gm_blk]
  rfl

theorem wd_sum (d : Fin 128) : k0_pay1 (F := Ideal) (k0_pay74 (k0_pay8 (blk3 m c t)) (k0_pay12 (blk0 m c t) (blk1 m c t)) (k0_pay63 (k0_pay8 (blk3 m c t)) (k0_pay12 (blk0 m c t) (blk1 m c t)) (k0_pay51 (k0_pay45 (k0_pay8 (blk3 m c t))) (k0_pay46 (k0_pay9 (blk4 m c t)) (k0_pay12 (blk0 m c t) (blk1 m c t))) (k0_pay47 (k0_pay8 (blk3 m c t)))) (k0_pay55 (k0_pay9 (blk4 m c t)))) (k0_pay65 (k0_pay9 (blk4 m c t))) k0_pay66) (k0_pay81 (k0_pay9 (blk4 m c t)) (k0_pay12 (blk0 m c t) (blk1 m c t))) (k0_pay83 (k0_pay8 (blk3 m c t))) (ix2 0 d)
    = ∑ r : Fin 544, wdAt m c (t.val * 544 + r) d := by
  refine (dw (blk3 m c t) (blk4 m c t) (blk0 m c t) (blk1 m c t) d).trans ?_
  rw [Finset.sum_comm]
  simp only [od_blk, gd_blk, zz_blk]
  rfl

theorem left7 (r : Fin 544) (j : Fin 4) (d : Fin 128) : (outsAt0 m c t.val t.isLt).1 (ix2 r (col j d)) = omAt m c (t.val * 544 + r) j d := by
  have ht := (at_pt t).2
  have q := m_blk m c t r j d
  by_cases h : t.val % 4 = 0
  · rw [outsAt0_A m c t h (by omega) h (by omega)]
    frame_out
    exact q
  · rw [outsAt0_B m c t h (by omega) h (by omega)]
    frame_out
    exact q

theorem final7 : (dats m 0 c).arrAt 7 (cfgs 0).N = fun i : S2176x512.Idx => omAt m c (i 0).val (hd (i 1)) (ln (i 1)) := by
  refine (dats m 0 c).arrAt_eq_of_covers 7 _ (by decide +kernel) fun t _ y => ?_
  obtain ⟨-, ht⟩ := at_pt t
  idx_vars y
  have e : (win0_7.blk t).view.emb (ix2 y0 y1) = ix2 (⟨t.val * 544 + y0, by omega⟩ : Fin 2176) y1 := by blk_ext [idx t]
  have q := left7 m c t y0 (hd y1) (ln y1)
  rw [col_hd] at q
  blk_simp [idx t]
  rw [after0_7, q, e]
  rfl

theorem left8 (r : Fin 544) (j : Fin 4) (d : Fin 128) : (outsAt0 m c t.val t.isLt).2.1 (ix2 r (col j d)) = odAt m c (t.val * 544 + r) j d := by
  have ht := (at_pt t).2
  have q := d_blk m c t r j d
  by_cases h : t.val % 4 = 0
  · rw [outsAt0_A m c t h (by omega) h (by omega)]
    frame_out
    exact q
  · rw [outsAt0_B m c t h (by omega) h (by omega)]
    frame_out
    exact q

theorem final8 : (dats m 0 c).arrAt 8 (cfgs 0).N = fun i : S2176x512.Idx => odAt m c (i 0).val (hd (i 1)) (ln (i 1)) := by
  refine (dats m 0 c).arrAt_eq_of_covers 8 _ (by decide +kernel) fun t _ y => ?_
  obtain ⟨-, ht⟩ := at_pt t
  idx_vars y
  have e : (win0_8.blk t).view.emb (ix2 y0 y1) = ix2 (⟨t.val * 544 + y0, by omega⟩ : Fin 2176) y1 := by blk_ext [idx t]
  have q := left8 m c t y0 (hd y1) (ln y1)
  rw [col_hd] at q
  blk_simp [idx t]
  rw [after0_8, q, e]
  rfl

theorem left9 (r : Fin 544) (j : Fin 4) (d : Fin 128) : (outsAt0 m c t.val t.isLt).2.2.1 (ix2 r (col j d)) = ozAt m c (t.val * 544 + r) j d := by
  have ht := (at_pt t).2
  have q := z_blk m c t r j d
  by_cases h : t.val % 4 = 0
  · rw [outsAt0_A m c t h (by omega) h (by omega)]
    frame_out
    exact q
  · rw [outsAt0_B m c t h (by omega) h (by omega)]
    frame_out
    exact q

theorem final9 : (dats m 0 c).arrAt 9 (cfgs 0).N = fun i : S2176x512.Idx => ozAt m c (i 0).val (hd (i 1)) (ln (i 1)) := by
  refine (dats m 0 c).arrAt_eq_of_covers 9 _ (by decide +kernel) fun t _ y => ?_
  obtain ⟨-, ht⟩ := at_pt t
  idx_vars y
  have e : (win0_9.blk t).view.emb (ix2 y0 y1) = ix2 (⟨t.val * 544 + y0, by omega⟩ : Fin 2176) y1 := by blk_ext [idx t]
  have q := left9 m c t y0 (hd y1) (ln y1)
  rw [col_hd] at q
  blk_simp [idx t]
  rw [after0_9, q, e]
  rfl

theorem first10 (d : Fin 128) (h : t.val % 4 = 0) : (outsAt0 m c t.val t.isLt).2.2.2.1 (ix2 0 d) = 0 + ∑ e : Fin 544, wmAt m c (t.val * 544 + e) d := by
  have ht := (at_pt t).2
  rw [outsAt0_A m c t h (by omega) h (by omega), zero_add]
  frame_out
  exact wm_sum m c t d

theorem step10 (d : Fin 128) (h : ¬t.val % 4 = 0) : (outsAt0 m c t.val t.isLt).2.2.2.1 (ix2 0 d)
    = (outsAt0 m c (t.val - 1) (Nat.lt_of_le_of_lt (Nat.sub_le _ _) t.isLt)).2.2.2.1 (ix2 0 d) + ∑ e : Fin 544, wmAt m c (t.val * 544 + e) d := by
  have ht := (at_pt t).2
  rw [outsAt0_B m c t h (by omega) h (by omega), ← wm_sum]
  frame_out
  exact pay5_at _ _ _

theorem final10 : (dats m 0 c).arrAt 10 (cfgs 0).N = fun i : S1x128.Idx => ∑ n : Fin 2176, wmAt m c n (i 1) := by
  refine (dats m 0 c).arrAt_eq_of_after_last 10 t0_3 (by decide +kernel) _ fun y => ?_
  idx_vars y
  blk_simp
  rw [after0_10, Pipeline.eq_sum_fin_of_reset_step_apply_last (fun n h => (outsAt0 m c n h).2.2.2.1) 4 (fun _ => 0)
    (fun t i => ∑ e : Fin 544, wmAt m c (t.val * 544 + e) (i 1))
    (fun t h i => by idx_vars i; obtain rfl : i0 = 0 := Subsingleton.elim _ _; exact first10 m c t i1 h)
    (fun t h i => by idx_vars i; obtain rfl : i0 = 0 := Subsingleton.elim _ _; exact step10 m c t i1 h) (le_of_eq N_0) t0_3 rfl _, zero_add]
  exact Fin.sum_mul_add_congr (fun t e h => rfl)

theorem first11 (d : Fin 128) (h : t.val % 4 = 0) : (outsAt0 m c t.val t.isLt).2.2.2.2 (ix2 0 d) = 0 + ∑ e : Fin 544, wdAt m c (t.val * 544 + e) d := by
  have ht := (at_pt t).2
  rw [outsAt0_A m c t h (by omega) h (by omega), zero_add]
  frame_out
  exact wd_sum m c t d

theorem step11 (d : Fin 128) (h : ¬t.val % 4 = 0) : (outsAt0 m c t.val t.isLt).2.2.2.2 (ix2 0 d)
    = (outsAt0 m c (t.val - 1) (Nat.lt_of_le_of_lt (Nat.sub_le _ _) t.isLt)).2.2.2.2 (ix2 0 d) + ∑ e : Fin 544, wdAt m c (t.val * 544 + e) d := by
  have ht := (at_pt t).2
  rw [outsAt0_B m c t h (by omega) h (by omega), ← wd_sum]
  frame_out
  exact pay6_at _ _ _ _ _

theorem final11 : (dats m 0 c).arrAt 11 (cfgs 0).N = fun i : S1x128.Idx => ∑ n : Fin 2176, wdAt m c n (i 1) := by
  refine (dats m 0 c).arrAt_eq_of_after_last 11 t0_3 (by decide +kernel) _ fun y => ?_
  idx_vars y
  blk_simp
  rw [after0_11, Pipeline.eq_sum_fin_of_reset_step_apply_last (fun n h => (outsAt0 m c n h).2.2.2.2) 4 (fun _ => 0)
    (fun t i => ∑ e : Fin 544, wdAt m c (t.val * 544 + e) (i 1))
    (fun t h i => by idx_vars i; obtain rfl : i0 = 0 := Subsingleton.elim _ _; exact first11 m c t i1 h)
    (fun t h i => by idx_vars i; obtain rfl : i0 = 0 := Subsingleton.elim _ _; exact step11 m c t i1 h) (le_of_eq N_0) t0_3 rfl _, zero_add]
  exact Fin.sum_mul_add_congr (fun t e h => rfl)

end Cert.MixIdeal.Final
-- ==== Proof.Common.Sum2.lean ====
/- The host's sum over the first two of three axes, as a double sum. -/
module

public import Idealize.ShloMosaic.Lib.Pointwise
public import Idealize.ShloMosaic.Lib.IdealHost

@[expose] public section

noncomputable section

open Idealize.ShloMosaic Idealize.ShloMosaic.TcCoe

namespace Cert.Sum2

theorem sum01 {a b n : ℕ} (h : (⟨3, ![a, b, n]⟩ : Shape).ReducesTo [0, 1] ⟨1, ![n]⟩) (v : (⟨3, ![a, b, n]⟩ : Shape).Idx → EReal) (z : EReal) (d : Fin n) :
    Ideal.hostReduceAdd h v z (ix1 d) = z + ∑ i : Fin a, ∑ j : Fin b, v (ix3 i j d) := by
  refine congrArg (z + ·) ((Finset.sum_filter_eq_sum_of_fiber _ (fun k : Fin a × Fin b => ix3 k.1 k.2 d)
    (fun _ _ e => Prod.ext (congrFun e 0) (congrFun e 1)) (fun i => ⟨fun e => ⟨(i 0, i 1), ?_⟩, ?_⟩) v).trans ?_)
  · have e2 := congrArg Fin.val (congrFun e 0)
    funext x
    match x with
    | ⟨0, _⟩ => rfl
    | ⟨1, _⟩ => rfl
    | ⟨2, _⟩ => exact Fin.ext e2.symm
  · rintro ⟨k, rfl⟩
    funext x
    match x with
    | ⟨0, _⟩ => exact Fin.ext rfl
  · simp only [Fintype.sum_prod_type]

end Cert.Sum2
-- ==== Proof.Mix.Ref.lean ====
/- The derivative of the two norms, the gate and the product as the reference computes it, at an index, as the formulas of
   `Cert.Rms` at each head. -/
module

public import proofs.«01_k».proof.Proof.Gen.MixRefIdeal.Read
public import proofs.«01_k».proof.Proof.Common.Rms
public import proofs.«01_k».proof.Proof.Common.Consts
public import proofs.«01_k».proof.Proof.Common.Pad
public import proofs.«01_k».proof.Proof.Common.Heads
public import proofs.«01_k».proof.Proof.Common.Sum2

@[expose] public section

set_option maxRecDepth 16384

noncomputable section

open Idealize.ShloMosaic Idealize.ShloMosaic.TcCoe Idealize.SL.Sem

namespace Cert.MixRefIdeal.Ref

open Cert.MixRefIdeal Cert.MixRefIdeal.Gen Cert.MixRefIdeal.Read Cert.Num Cert.Rms Cert.Pad Cert.Heads Cert.Sum2

abbrev inv : EReal := Ideal.ofBits .f32 0x3C000000#32
abbrev eps : EReal := Ideal.ofBits .f32 0x358637BD#32
abbrev cnt : EReal := Ideal.ofBits .f32 0x43000000#32
abbrev mh : EReal := Ideal.ofBits .f32 0xBF000000#32

variable (x0 x1 : FVec Ideal S2064x512 .f32) (x2 : FVec Ideal S2064x2632 .f32) (x3 x4 : FVec Ideal S1x128 .f32)
  (x5 : FVec Ideal S1024x1024 .f32) (x6 : FVec Ideal S2064x1024 .f32)

/-- The gradient that reaches the output product's left factor. -/
def dy (n : Fin 2064) (k : Fin 1024) : EReal := ∑ d, x6 (ix2 n d) * x5 (ix2 k d)

/-- The gate's argument. -/
def zz (n : Fin 2064) (k : Fin 512) : EReal := x2 (ix2 n ⟨2112 + k, by omega⟩)

/-- The gradient behind the gate. -/
def gz (n : Fin 2064) (k : Fin 512) : EReal := dy x5 x6 n (hi k) * (zz x2 n k * sg (zz x2 n k))

theorem dy_at (n : Fin 2064) (k : Fin 1024) : val_main_v42 (F := Ideal) x5 x6 (ix2 n k) = dy x5 x6 n k := by
  unfold dy
  pointwise [val_main_v42]

theorem x0_at (n : Fin 2064) (j : Fin 4) (d : Fin 128) : val_main_v1 (F := Ideal) x0 (ix3 n j d) = x0 (ix2 n (col j d)) := by
  unfold col
  pointwise [val_main_v1]

theorem x1_at (n : Fin 2064) (j : Fin 4) (d : Fin 128) : val_main_v19 (F := Ideal) x1 (ix3 n j d) = x1 (ix2 n (col j d)) := by
  unfold col
  pointwise [val_main_v19]

theorem zz_at (n : Fin 2064) (j : Fin 4) (d : Fin 128) : val_main_v36 (F := Ideal) x2 (ix3 n j d) = zz x2 n (col j d) := by
  unfold zz col
  pointwise [val_main_v36, val_main_v0]

theorem lo_at (n : Fin 2064) (j : Fin 4) (d : Fin 128) : val_main_v72 (F := Ideal) x5 x6 (ix3 n j d) = dy x5 x6 n (lo (col j d)) := by
  rw [← dy_at]
  unfold lo col
  pointwise [val_main_v72, val_main_v43]

theorem hi_at (n : Fin 2064) (j : Fin 4) (d : Fin 128) : val_main_v45 (F := Ideal) x5 x6 (ix3 n j d) = dy x5 x6 n (hi (col j d)) := by
  rw [← dy_at]
  unfold hi col
  pointwise [val_main_v45, val_main_v44]

theorem sg_at (n : Fin 2064) (j : Fin 4) (d : Fin 128) : val_main_v37_2 (F := Ideal) x2 (ix3 n j d) = sg (zz x2 n (col j d)) := by
  unfold sg
  rw [← zz_at]
  pointwise [val_main_v37_2, val_main_call0_v4, val_main_call0_v3, val_main_call0_v2, val_main_call0_v1, val_main_call0_v0, val_main_call0_cst,
    val_main_call0_cst_0]
  rw [zero_sub]

theorem gz_at (n : Fin 2064) (j : Fin 4) (d : Fin 128) : val_main_v47 (F := Ideal) x2 x5 x6 (ix3 n j d) = gz x2 x5 x6 n (col j d) := by
  unfold gz
  rw [← hi_at, ← sg_at, ← zz_at]
  pointwise [val_main_v47, val_main_v37_0]

theorem msm_at (n : Fin 2064) (j : Fin 4) : val_main_v8 (F := Ideal) x0 (ix3 n j 0) = ms cnt eps (fun d => x0 (ix2 n (col j d))) := by
  unfold ms
  simp only [← x0_at x0]
  pointwise [val_main_v8, val_main_v7, val_main_v6, val_main_v5, val_main_v4, val_main_v3, val_main_v2, val_main_cst, val_main_cst_0, val_main_cst_1]

theorem rootm_at (n : Fin 2064) (j : Fin 4) : val_main_v9 (F := Ideal) x0 (ix3 n j 0) = Ideal.rsqrt (ms cnt eps (fun d => x0 (ix2 n (col j d)))) := by
  rw [← msm_at]
  pointwise [val_main_v9]

theorem gym_at (n : Fin 2064) (j : Fin 4) (d : Fin 128) : val_main_v77 (F := Ideal) x3 x5 x6 (ix3 n j d) = dy x5 x6 n (lo (col j d)) * x3 (ix2 0 d) := by
  rw [← lo_at]
  pointwise [val_main_v77, val_main_v76, val_main_v15]

theorem dmsm_at (n : Fin 2064) (j : Fin 4) : val_main_v88 (F := Ideal) x0 x3 x5 x6 (ix2 n j)
    = dms cnt eps mh (fun d => x0 (ix2 n (col j d))) (fun d => dy x5 x6 n (lo (col j d)) * x3 (ix2 0 d)) := by
  unfold dms
  simp only [← rootm_at, ← gym_at]
  simp only [← msm_at]
  simp only [← x0_at x0]
  pointwise [val_main_v88, val_main_v87, val_main_v86, val_main_v85, val_main_v82, val_main_v81, val_main_v80, val_main_v12, val_main_v11, val_main_v10, val_main_cst_2, val_main_cst_14, val_main_cst_15, val_main_cst_16]
  exact Fin.sum_univ_one _

theorem outm_at (n : Fin 2064) (j : Fin 4) (d : Fin 128) : val_main_v94 (F := Ideal) x0 x3 x5 x6 (ix2 n (col j d))
    = dy x5 x6 n (lo (col j d)) * x3 (ix2 0 d) * Ideal.rsqrt (ms cnt eps (fun d => x0 (ix2 n (col j d))))
      + x0 (ix2 n (col j d)) * dms cnt eps mh (fun d => x0 (ix2 n (col j d))) (fun d => dy x5 x6 n (lo (col j d)) * x3 (ix2 0 d))
      + dms cnt eps mh (fun d => x0 (ix2 n (col j d))) (fun d => dy x5 x6 n (lo (col j d)) * x3 (ix2 0 d)) * x0 (ix2 n (col j d)) := by
  rw [← dmsm_at, ← rootm_at, ← gym_at, ← x0_at x0]
  unfold col
  pointwise [val_main_v94, val_main_v93, val_main_v92, val_main_v91, val_main_v90, val_main_v89, val_main_v84, val_main_v83]

theorem wm_at (d : Fin 128) : val_main_v79 (F := Ideal) x0 x5 x6 (ix2 0 d)
    = ∑ n : Fin 2064, ∑ j : Fin 4, x0 (ix2 n (col j d)) * Ideal.rsqrt (ms cnt eps (fun d => x0 (ix2 n (col j d)))) * dy x5 x6 n (lo (col j d)) := by
  simp only [← lo_at, ← rootm_at]
  simp only [← x0_at x0]
  have e : val_main_v74 (F := Ideal) x0 x5 x6 (ix1 d) = ∑ n : Fin 2064, ∑ j : Fin 4, val_main_v73 (F := Ideal) x0 x5 x6 (ix3 n j d) := by
    unfold val_main_v74
    refine (sum01 _ _ _ d).trans ?_
    pointwise [val_main_cst_12]
  have f : val_main_v78 (F := Ideal) x0 x5 x6 (ix1 d) = val_main_v74 (F := Ideal) x0 x5 x6 (ix1 d) := by
    unfold val_main_v78
    refine (sum01 _ _ _ d).trans ?_
    rw [Fin.sum_univ_one, Fin.sum_univ_one]
    pointwise [val_main_v75, val_main_cst_13]
  refine Eq.trans ?_ ((f.trans e).trans ?_)
  · pointwise [val_main_v79]
  · pointwise [val_main_v73, val_main_v14, val_main_v13]

theorem msd_at (n : Fin 2064) (j : Fin 4) : val_main_v26 (F := Ideal) x1 (ix3 n j 0) = ms cnt eps (fun d => x1 (ix2 n (col j d))) := by
  unfold ms
  simp only [← x1_at x1]
  pointwise [val_main_v26, val_main_v25, val_main_v24, val_main_v23, val_main_v22, val_main_v21, val_main_v20, val_main_cst_3, val_main_cst_4, val_main_cst_5]

theorem rootd_at (n : Fin 2064) (j : Fin 4) : val_main_v27 (F := Ideal) x1 (ix3 n j 0) = Ideal.rsqrt (ms cnt eps (fun d => x1 (ix2 n (col j d)))) := by
  rw [← msd_at]
  pointwise [val_main_v27]

theorem gyd_at (n : Fin 2064) (j : Fin 4) (d : Fin 128) : val_main_v54 (F := Ideal) x2 x4 x5 x6 (ix3 n j d) = gz x2 x5 x6 n (col j d) * x4 (ix2 0 d) := by
  rw [← gz_at]
  pointwise [val_main_v54, val_main_v53, val_main_v33]

theorem dmsd_at (n : Fin 2064) (j : Fin 4) : val_main_v65 (F := Ideal) x1 x2 x4 x5 x6 (ix2 n j)
    = dms cnt eps mh (fun d => x1 (ix2 n (col j d))) (fun d => gz x2 x5 x6 n (col j d) * x4 (ix2 0 d)) := by
  unfold dms
  simp only [← rootd_at, ← gyd_at]
  simp only [← msd_at]
  simp only [← x1_at x1]
  pointwise [val_main_v65, val_main_v64, val_main_v63, val_main_v62, val_main_v59, val_main_v58, val_main_v57, val_main_v30, val_main_v29, val_main_v28, val_main_cst_6, val_main_cst_9, val_main_cst_10, val_main_cst_11]
  exact Fin.sum_univ_one _

theorem outd_at (n : Fin 2064) (j : Fin 4) (d : Fin 128) : val_main_v71 (F := Ideal) x1 x2 x4 x5 x6 (ix2 n (col j d))
    = gz x2 x5 x6 n (col j d) * x4 (ix2 0 d) * Ideal.rsqrt (ms cnt eps (fun d => x1 (ix2 n (col j d))))
      + x1 (ix2 n (col j d)) * dms cnt eps mh (fun d => x1 (ix2 n (col j d))) (fun d => gz x2 x5 x6 n (col j d) * x4 (ix2 0 d))
      + dms cnt eps mh (fun d => x1 (ix2 n (col j d))) (fun d => gz x2 x5 x6 n (col j d) * x4 (ix2 0 d)) * x1 (ix2 n (col j d)) := by
  rw [← dmsd_at, ← rootd_at, ← gyd_at, ← x1_at x1]
  unfold col
  pointwise [val_main_v71, val_main_v70, val_main_v69, val_main_v68, val_main_v67, val_main_v66, val_main_v61, val_main_v60]

theorem wd_at (d : Fin 128) : val_main_v56 (F := Ideal) x1 x2 x5 x6 (ix2 0 d)
    = ∑ n : Fin 2064, ∑ j : Fin 4, x1 (ix2 n (col j d)) * Ideal.rsqrt (ms cnt eps (fun d => x1 (ix2 n (col j d)))) * gz x2 x5 x6 n (col j d) := by
  simp only [← gz_at, ← rootd_at]
  simp only [← x1_at x1]
  have e : val_main_v51 (F := Ideal) x1 x2 x5 x6 (ix1 d) = ∑ n : Fin 2064, ∑ j : Fin 4, val_main_v50 (F := Ideal) x1 x2 x5 x6 (ix3 n j d) := by
    unfold val_main_v51
    refine (sum01 _ _ _ d).trans ?_
    pointwise [val_main_cst_7]
  have f : val_main_v55 (F := Ideal) x1 x2 x5 x6 (ix1 d) = val_main_v51 (F := Ideal) x1 x2 x5 x6 (ix1 d) := by
    unfold val_main_v55
    refine (sum01 _ _ _ d).trans ?_
    rw [Fin.sum_univ_one, Fin.sum_univ_one]
    pointwise [val_main_v52, val_main_cst_8]
  refine Eq.trans ?_ ((f.trans e).trans ?_)
  · pointwise [val_main_v56]
  · pointwise [val_main_v50, val_main_v32, val_main_v31]

/-- The gradient of the gate's argument, with the gate's slope taken apart. -/
theorem outz_at (n : Fin 2064) (j : Fin 4) (d : Fin 128) : val_main_v49 (F := Ideal) x1 x2 x4 x5 x6 (ix2 n (col j d))
    = (x1 (ix2 n (col j d)) * Ideal.rsqrt (ms cnt eps (fun d => x1 (ix2 n (col j d)))) * x4 (ix2 0 d) * dy x5 x6 n (hi (col j d))) * sg (zz x2 n (col j d))
      + zz x2 n (col j d) * (x1 (ix2 n (col j d)) * Ideal.rsqrt (ms cnt eps (fun d => x1 (ix2 n (col j d)))) * x4 (ix2 0 d) * dy x5 x6 n (hi (col j d)))
        * (sg (zz x2 n (col j d)) * (1 - sg (zz x2 n (col j d)))) := by
  rw [← rootd_at, ← hi_at, ← sg_at, ← zz_at, ← x1_at x1]
  unfold col
  pointwise [val_main_v49, val_main_v48, val_main_call1_v2, val_main_call1_v1, val_main_call1_v0, val_main_v46, val_main_v35, val_main_v34, val_main_v33, val_main_v32, val_main_v31, val_main_v37_1, val_main_call0_v7, val_main_call0_v6, val_main_call0_cst_1]

theorem pad95_at (r : Fin 2176) (k : Fin 512) : val_main_v95 (F := Ideal) x0 x3 x5 x6 (ix2 r k)
    = ext (fun n => val_main_v94 (F := Ideal) x0 x3 x5 x6 (ix2 n k)) r := by
  pointwise [val_main_v95, val_main_call2_v0, val_main_c]
  exact ext_pad (fun n => val_main_v94 (F := Ideal) x0 x3 x5 x6 (ix2 n k)) r _ zero32

theorem pad96_at (r : Fin 2176) (k : Fin 512) : val_main_v96 (F := Ideal) x1 x2 x4 x5 x6 (ix2 r k)
    = ext (fun n => val_main_v71 (F := Ideal) x1 x2 x4 x5 x6 (ix2 n k)) r := by
  pointwise [val_main_v96, val_main_call3_v0, val_main_c_17]
  exact ext_pad (fun n => val_main_v71 (F := Ideal) x1 x2 x4 x5 x6 (ix2 n k)) r _ zero32

theorem pad98_at (r : Fin 2176) (k : Fin 512) : val_main_v98 (F := Ideal) x1 x2 x4 x5 x6 (ix2 r k)
    = ext (fun n => val_main_v49 (F := Ideal) x1 x2 x4 x5 x6 (ix2 n k)) r := by
  pointwise [val_main_v98, val_main_v97, val_main_call4_v0, val_main_c_18]
  exact ext_pad (fun n => val_main_v49 (F := Ideal) x1 x2 x4 x5 x6 (ix2 n k)) r _ zero32

end Cert.MixRefIdeal.Ref
-- ==== Proof.Mix.Value.lean ====
/- The backward kernel of the two output norms, the gate and the product computes their derivative: the claim about its five
   results. -/
module

public import proofs.«01_k».proof.Defs
public import proofs.«01_k».proof.Proof.Mix.Final
public import proofs.«01_k».proof.Proof.Mix.Ref
public import proofs.«01_k».proof.Proof.Gate.Core
public import proofs.«01_k».proof.Proof.Gen.MixRefIdeal.Run
public import proofs.«01_k».proof.Proof.Gen.Pre_mix_finite
public import proofs.«01_k».proof.Proof.Gen.Mix.Frame
public import Idealize.ShloMosaic.Lib.Quiescent

@[expose] public section

set_option maxRecDepth 16384

noncomputable section

open Idealize.ShloMosaic Idealize.ShloMosaic.TcCoe Idealize.SL.Sem

namespace Cert.Pre_mix_finite.Read

open Cert.Pre_mix_finite Cert.Pre_mix_finite.Gen Cert.Num

instance : Subsingleton S_.Idx := ⟨fun _ _ => funext fun a => a.elim0⟩

theorem finite (x0 x1 : FVec Ideal S2064x512 .f32) (x2 : FVec Ideal S2064x2632 .f32) (x3 x4 : FVec Ideal S1x128 .f32)
    (x5 : FVec Ideal S1024x1024 .f32) (x6 : FVec Ideal S2064x1024 .f32) (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ ∀ i, IsReal (x6 i) := by
  have h0 := congrFun h ix0
  obtain ⟨h1, k6⟩ := IntOp.andi_eq_one.1 h0
  obtain ⟨h2, k5⟩ := IntOp.andi_eq_one.1 h1
  obtain ⟨h3, k4⟩ := IntOp.andi_eq_one.1 h2
  obtain ⟨h4, k3⟩ := IntOp.andi_eq_one.1 h3
  obtain ⟨h5, k2⟩ := IntOp.andi_eq_one.1 h4
  obtain ⟨k0, k1⟩ := IntOp.andi_eq_one.1 h5
  exact ⟨fun i => isReal_of_abs_lt _ (Host.reduce_andi_all _ _ _ _ _ k0 i),
    fun i => isReal_of_abs_lt _ (Host.reduce_andi_all _ _ _ _ _ k1 i),
    fun i => isReal_of_abs_lt _ (Host.reduce_andi_all _ _ _ _ _ k2 i),
    fun i => isReal_of_abs_lt _ (Host.reduce_andi_all _ _ _ _ _ k3 i),
    fun i => isReal_of_abs_lt _ (Host.reduce_andi_all _ _ _ _ _ k4 i),
    fun i => isReal_of_abs_lt _ (Host.reduce_andi_all _ _ _ _ _ k5 i),
    fun i => isReal_of_abs_lt _ (Host.reduce_andi_all _ _ _ _ _ k6 i)⟩

end Cert.Pre_mix_finite.Read

namespace Cert.MixProj

open Cert.MixRefIdeal Cert.MixRefIdeal.Gen Cert.MixRefIdeal.Read Cert.MixRefIdeal.Ref Cert.Num Cert.Rms Cert.Pad Cert.Heads
open Cert.MixIdeal.Final (omAt odAt ozAt wmAt wdAt)

/-- The reference ends, with its arguments unchanged and every counter at zero. -/
theorem reference_ends : Cert.quiescent_MixRefIdeal (hMixRefIdeal := Cert.MixRefIdeal.Gen.facts) := fun m ρ _ =>
  (θ_run _ _ _).mono (fun r h => ⟨fun c => (h c).2.2.2.2.2, sem_eq_zero_of_no_sems rfl r.2⟩) (Cert.MixRefIdeal.Value.run m ρ)

section

variable (m : (ℓ : Loc Cert.MixIdeal.nD Cert.MixIdeal.τ Cert.MixIdeal.sig) → Buf (Elt Ideal) ℓ) (c : Dev Cert.MixIdeal.nD)

abbrev a0 : FVec Ideal S2064x512 .f32 := m ((c : Thread Cert.MixIdeal.nD Cert.MixIdeal.τ).loc Cert.MixIdeal.main_arg0)
abbrev a1 : FVec Ideal S2064x512 .f32 := m ((c : Thread Cert.MixIdeal.nD Cert.MixIdeal.τ).loc Cert.MixIdeal.main_arg1)
abbrev a2 : FVec Ideal S2064x2632 .f32 := m ((c : Thread Cert.MixIdeal.nD Cert.MixIdeal.τ).loc Cert.MixIdeal.main_arg2)
abbrev a3 : FVec Ideal S1x128 .f32 := m ((c : Thread Cert.MixIdeal.nD Cert.MixIdeal.τ).loc Cert.MixIdeal.main_arg3)
abbrev a4 : FVec Ideal S1x128 .f32 := m ((c : Thread Cert.MixIdeal.nD Cert.MixIdeal.τ).loc Cert.MixIdeal.main_arg4)
abbrev a5 : FVec Ideal S1024x1024 .f32 := m ((c : Thread Cert.MixIdeal.nD Cert.MixIdeal.τ).loc Cert.MixIdeal.main_arg5)
abbrev a6 : FVec Ideal S2064x1024 .f32 := m ((c : Thread Cert.MixIdeal.nD Cert.MixIdeal.τ).loc Cert.MixIdeal.main_arg6)

theorem dy_row (n : Fin 2064) (k : Fin 1024) : Cert.MixIdeal.Final.dy m c (112 + n) k = dy (a5 m c) (a6 m c) n k := by
  unfold Cert.MixIdeal.Final.dy dy
  simp only [ext_add]

theorem om_row (n : Fin 2064) (k : Fin 512) : Cert.MixIdeal.Final.om m c (112 + n) k = a0 m c (ix2 n k) := ext_add _ n
theorem od_row (n : Fin 2064) (k : Fin 512) : Cert.MixIdeal.Final.od m c (112 + n) k = a1 m c (ix2 n k) := ext_add _ n
theorem zz_row (n : Fin 2064) (k : Fin 512) : Cert.MixIdeal.Final.zz m c (112 + n) k = zz (a2 m c) n k := ext_add _ n

theorem gz_row (n : Fin 2064) (k : Fin 512) : Cert.MixIdeal.Final.gz m c (112 + n) k = gz (a2 m c) (a5 m c) (a6 m c) n k := by
  unfold Cert.MixIdeal.Final.gz gz
  rw [dy_row, zz_row]

theorem om_lt (n : ℕ) (h : n < 112) (k : Fin 512) : Cert.MixIdeal.Final.om m c n k = 0 := ext_lt _ n h
theorem od_lt (n : ℕ) (h : n < 112) (k : Fin 512) : Cert.MixIdeal.Final.od m c n k = 0 := ext_lt _ n h

theorem gz_lt (n : ℕ) (h : n < 112) (k : Fin 512) : Cert.MixIdeal.Final.gz m c n k = 0 := by
  unfold Cert.MixIdeal.Final.gz
  rw [Cert.MixIdeal.Final.dy_lt m c n h, zero_mul]

variable (h0 : ∀ i, IsReal (a0 m c i)) (h1 : ∀ i, IsReal (a1 m c i)) (h2 : ∀ i, IsReal (a2 m c i)) (h3 : ∀ i, IsReal (a3 m c i)) (h4 : ∀ i, IsReal (a4 m c i)) (h5 : ∀ i, IsReal (a5 m c i)) (h6 : ∀ i, IsReal (a6 m c i))

include h5 h6 in
theorem dy_real (n : Fin 2064) (k : Fin 1024) : IsReal (dy (a5 m c) (a6 m c) n k) := IsReal.sum _ fun d => IsReal.mul (h6 _) (h5 _)

include h2 in
theorem zz_real (n : Fin 2064) (k : Fin 512) : IsReal (zz (a2 m c) n k) := h2 _

include h2 h5 h6 in
theorem gz_real (n : Fin 2064) (k : Fin 512) : IsReal (gz (a2 m c) (a5 m c) (a6 m c) n k) :=
  IsReal.mul (dy_real m c h5 h6 n _) (IsReal.mul (zz_real m c h2 n k) (sg_real (zz_real m c h2 n k)))

include h0 h3 h5 h6 in
theorem outm_eq (n : Fin 2064) (j : Fin 4) (d : Fin 128) : val_main_v94 (F := Ideal) (a0 m c) (a3 m c) (a5 m c) (a6 m c) (ix2 n (col j d)) = omAt m c (112 + n) j d := by
  obtain ⟨e, he, hb⟩ := bits_eps
  have hx : ∀ d, IsReal ((fun d => a0 m c (ix2 n (col j d))) d) := fun d => h0 _
  have hg : ∀ d, IsReal ((fun d => dy (a5 m c) (a6 m c) n (lo (col j d)) * a3 m c (ix2 0 d)) d) := fun d => IsReal.mul (dy_real m c h5 h6 n _) (h3 _)
  have k := dx_eq (by norm_num : (0 : ℝ) < 128) he hx hg d
  have q := (rt_eq (by norm_num : (0 : ℝ) < 128) he hx).1
  unfold omAt
  simp only [om_row, dy_row]
  rw [show Cert.MixIdeal.Tile.inv = ((1 / 128 : ℝ) : EReal) from bits_inv128, show Cert.MixIdeal.Tile.eps = (e : EReal) from hb]
  refine (outm_at _ _ _ _ n j d).trans (Eq.trans ?_ k.symm)
  rw [show cnt = ((128 : ℝ) : EReal) from bits_128, show Cert.MixRefIdeal.Ref.eps = (e : EReal) from hb, show mh = ((-(1 / 2) : ℝ) : EReal) from bits_neg_half, ← q]

include h0 in
theorem wm_eq (d : Fin 128) : val_main_v79 (F := Ideal) (a0 m c) (a5 m c) (a6 m c) (ix2 0 d) = ∑ n : Fin 2176, wmAt m c n d := by
  obtain ⟨e, he, hb⟩ := bits_eps
  rw [sum_rows (fun n => wmAt m c n d), wm_at]
  · refine Finset.sum_congr rfl fun n _ => ?_
    unfold wmAt
    refine Finset.sum_congr rfl fun j _ => ?_
    have hx : ∀ d, IsReal ((fun d => a0 m c (ix2 n (col j d))) d) := fun d => h0 _
    have q := (rt_eq (by norm_num : (0 : ℝ) < 128) he hx).1
    simp only [om_row, dy_row]
    rw [show Cert.MixIdeal.Tile.inv = ((1 / 128 : ℝ) : EReal) from bits_inv128, show Cert.MixIdeal.Tile.eps = (e : EReal) from hb, show cnt = ((128 : ℝ) : EReal) from bits_128, show Cert.MixRefIdeal.Ref.eps = (e : EReal) from hb, q, mul_comm]
  · intro n hn
    unfold wmAt
    exact Finset.sum_eq_zero fun j _ => by rw [Cert.MixIdeal.Final.dy_lt m c n hn, zero_mul]

include h1 h2 h4 h5 h6 in
theorem outd_eq (n : Fin 2064) (j : Fin 4) (d : Fin 128) : val_main_v71 (F := Ideal) (a1 m c) (a2 m c) (a4 m c) (a5 m c) (a6 m c) (ix2 n (col j d)) = odAt m c (112 + n) j d := by
  obtain ⟨e, he, hb⟩ := bits_eps
  have hx : ∀ d, IsReal ((fun d => a1 m c (ix2 n (col j d))) d) := fun d => h1 _
  have hg : ∀ d, IsReal ((fun d => gz (a2 m c) (a5 m c) (a6 m c) n (col j d) * a4 m c (ix2 0 d)) d) := fun d => IsReal.mul (gz_real m c h2 h5 h6 n _) (h4 _)
  have k := dx_eq (by norm_num : (0 : ℝ) < 128) he hx hg d
  have q := (rt_eq (by norm_num : (0 : ℝ) < 128) he hx).1
  unfold odAt
  simp only [od_row, gz_row]
  rw [show Cert.MixIdeal.Tile.inv = ((1 / 128 : ℝ) : EReal) from bits_inv128, show Cert.MixIdeal.Tile.eps = (e : EReal) from hb]
  refine (outd_at _ _ _ _ _ n j d).trans (Eq.trans ?_ k.symm)
  rw [show cnt = ((128 : ℝ) : EReal) from bits_128, show Cert.MixRefIdeal.Ref.eps = (e : EReal) from hb, show mh = ((-(1 / 2) : ℝ) : EReal) from bits_neg_half, ← q]

include h1 in
theorem wd_eq (d : Fin 128) : val_main_v56 (F := Ideal) (a1 m c) (a2 m c) (a5 m c) (a6 m c) (ix2 0 d) = ∑ n : Fin 2176, wdAt m c n d := by
  obtain ⟨e, he, hb⟩ := bits_eps
  rw [sum_rows (fun n => wdAt m c n d), wd_at]
  · refine Finset.sum_congr rfl fun n _ => ?_
    unfold wdAt
    refine Finset.sum_congr rfl fun j _ => ?_
    have hx : ∀ d, IsReal ((fun d => a1 m c (ix2 n (col j d))) d) := fun d => h1 _
    have q := (rt_eq (by norm_num : (0 : ℝ) < 128) he hx).1
    simp only [od_row, gz_row]
    rw [show Cert.MixIdeal.Tile.inv = ((1 / 128 : ℝ) : EReal) from bits_inv128, show Cert.MixIdeal.Tile.eps = (e : EReal) from hb, show cnt = ((128 : ℝ) : EReal) from bits_128, show Cert.MixRefIdeal.Ref.eps = (e : EReal) from hb, q, mul_comm]
  · intro n hn
    unfold wdAt
    exact Finset.sum_eq_zero fun j _ => by rw [gz_lt m c n hn, zero_mul]

include h1 h2 h4 h5 h6 in
theorem outz_eq (n : Fin 2064) (j : Fin 4) (d : Fin 128) : val_main_v49 (F := Ideal) (a1 m c) (a2 m c) (a4 m c) (a5 m c) (a6 m c) (ix2 n (col j d)) = ozAt m c (112 + n) j d := by
  obtain ⟨e, he, hb⟩ := bits_eps
  have hx : ∀ d, IsReal ((fun d => a1 m c (ix2 n (col j d))) d) := fun d => h1 _
  have q := rt_eq (by norm_num : (0 : ℝ) < 128) he hx
  unfold ozAt
  simp only [od_row, dy_row, zz_row]
  rw [show Cert.MixIdeal.Tile.inv = ((1 / 128 : ℝ) : EReal) from bits_inv128, show Cert.MixIdeal.Tile.eps = (e : EReal) from hb]
  rw [outz_at, show cnt = ((128 : ℝ) : EReal) from bits_128, show Cert.MixRefIdeal.Ref.eps = (e : EReal) from hb, ← q.1, mul_comm (dy (a5 m c) (a6 m c) n _)]
  exact Cert.Conv.slope_eq (zz_real m c h2 n _) (IsReal.mul (IsReal.mul (IsReal.mul (h1 _) q.2) (h4 _)) (dy_real m c h5 h6 n _))

include h0 h3 h5 h6 in
theorem firstm (r : Fin 2176) (k : Fin 512) : val_main_v95 (F := Ideal) (a0 m c) (a3 m c) (a5 m c) (a6 m c) (ix2 r k) = omAt m c r (hd k) (ln k) := by
  rw [pad95_at]
  unfold ext
  split
  · rename_i h
    have q := outm_eq m c h0 h3 h5 h6 ⟨r - 112, by omega⟩ (hd k) (ln k)
    rw [col_hd] at q
    exact q.trans (congrArg (fun n => omAt m c n (hd k) (ln k)) (by show 112 + ((r : ℕ) - 112) = r; omega))
  · have hr : (r : ℕ) < 112 := by omega
    unfold omAt
    simp only [om_lt m c r hr, Cert.MixIdeal.Final.dy_lt m c r hr, zero_mul]
    exact (dx_zero _ _ _).symm

include h1 h2 h4 h5 h6 in
theorem firstd (r : Fin 2176) (k : Fin 512) : val_main_v96 (F := Ideal) (a1 m c) (a2 m c) (a4 m c) (a5 m c) (a6 m c) (ix2 r k) = odAt m c r (hd k) (ln k) := by
  rw [pad96_at]
  unfold ext
  split
  · rename_i h
    have q := outd_eq m c h1 h2 h4 h5 h6 ⟨r - 112, by omega⟩ (hd k) (ln k)
    rw [col_hd] at q
    exact q.trans (congrArg (fun n => odAt m c n (hd k) (ln k)) (by show 112 + ((r : ℕ) - 112) = r; omega))
  · have hr : (r : ℕ) < 112 := by omega
    unfold odAt
    simp only [od_lt m c r hr, gz_lt m c r hr, zero_mul]
    exact (dx_zero _ _ _).symm

include h1 h2 h4 h5 h6 in
theorem firstz (r : Fin 2176) (k : Fin 512) : val_main_v98 (F := Ideal) (a1 m c) (a2 m c) (a4 m c) (a5 m c) (a6 m c) (ix2 r k) = ozAt m c r (hd k) (ln k) := by
  rw [pad98_at]
  unfold ext
  split
  · rename_i h
    have q := outz_eq m c h1 h2 h4 h5 h6 ⟨r - 112, by omega⟩ (hd k) (ln k)
    rw [col_hd] at q
    exact q.trans (congrArg (fun n => ozAt m c n (hd k) (ln k)) (by show 112 + ((r : ℕ) - 112) = r; omega))
  · have hr : (r : ℕ) < 112 := by omega
    unfold ozAt
    rw [Cert.MixIdeal.Final.dy_lt m c r hr, zero_mul, zero_mul]

end

/-- The kernel's run and the reference's run end with equal gradients of the two branches, of the gate and of the two weights. -/
theorem gradients : Cert.algebraic_MixIdeal_MixRefIdeal_pre_mix_finite (hMixIdeal := Cert.MixIdeal.Gen.facts)
    (hMixRefIdeal := Cert.MixRefIdeal.Gen.facts) (hPre_mix_finite := Cert.Pre_mix_finite.Gen.facts) := by
  intro m ρ m' ρ' hpre hag
  refine ⟨_, _, _, _, _, Cert.MixIdeal.Value.run_blocks m ρ, ?_⟩
  refine (θ_run _ _ _).mono (fun r h c => ?_) (Cert.MixRefIdeal.Value.run m' ρ')
  obtain ⟨h0, h1, h2, h3, h4, h5, h6⟩ := Cert.Pre_mix_finite.Read.finite _ _ _ _ _ _ _ (hpre c)
  obtain ⟨e0, e1, e2, e3, e4, e5, e6⟩ := hag c
  refine ⟨(h c).1.trans ?_, (h c).2.1.trans ?_, (h c).2.2.1.trans ?_, (h c).2.2.2.1.trans ?_, (h c).2.2.2.2.1.trans ?_, (h c).2.2.2.2.2⟩
  · rw [val_main_v95_eq, e0, e3, e5, e6, Cert.MixIdeal.Final.final7]
    funext i
    idx_vars i
    exact firstm m c h0 h3 h5 h6 i0 i1
  · rw [val_main_v96_eq, e1, e2, e4, e5, e6, Cert.MixIdeal.Final.final8]
    funext i
    idx_vars i
    exact firstd m c h1 h2 h4 h5 h6 i0 i1
  · rw [val_main_v98_eq, e1, e2, e4, e5, e6, Cert.MixIdeal.Final.final9]
    funext i
    idx_vars i
    exact firstz m c h1 h2 h4 h5 h6 i0 i1
  · rw [val_main_v79_eq, e0, e5, e6, Cert.MixIdeal.Final.final10]
    funext i
    idx_vars i
    obtain rfl : i0 = 0 := Subsingleton.elim _ _
    exact wm_eq m c h0 i1
  · rw [val_main_v56_eq, e1, e2, e5, e6, Cert.MixIdeal.Final.final11]
    funext i
    idx_vars i
    obtain rfl : i0 = 0 := Subsingleton.elim _ _
    exact wd_eq m c h1 i1

end Cert.MixProj
-- ==== Proof.Mla.Values.lean ====
/- The values one grid point of the MLA backward kernel computes, named once, as functions of the blocks it reads: the kernel's straight-line
   part is a list of steps, each handing its results to the next, and each result is given its own name here, so that a later step mentions
   the earlier ones by name.  Over any float values. -/
module

public import proofs.«01_k».proof.Proof.Gen.MlaIdeal.Skeleton

@[expose] public section

noncomputable section

namespace Cert.MlaIdeal.Body

open Idealize.ShloMosaic Cert.MlaIdeal.Gen

variable {F : FTy → Type} [FloatOps F] [Named F]

/-- The sixteen blocks one grid point reads: saved projections `qf`, `kvf`, the shared rotary key `kpe`, the two rotary tables, the incoming
    gradients `dq`, `dk`, `dv`, the latents `ql`, `kvl`, and the weights. -/
structure Ins (F : FTy → Type) where
  qf : Vec F S272x1024 .f32
  kvf : Vec F S272x1024 .f32
  kpe : Vec F S272x128 .f32
  cos : Vec F S272x128 .f32
  sin : Vec F S272x128 .f32
  dq : Vec F S272x1024 .f32
  dk : Vec F S272x1024 .f32
  dv : Vec F S272x512 .f32
  ql : Vec F S272x256 .f32
  kvl : Vec F S272x256 .f32
  qaw : Vec F S1x256 .f32
  kvaw : Vec F S1x256 .f32
  wq : Vec F S1024x256 .bf16
  wkv : Vec F S256x1024 .bf16
  qw : Vec F S1x256 .f32
  kw : Vec F S1x256 .f32

variable (x : Ins F)

/-! The blocks as loaded. -/
abbrev v1 := k0_pay2 x.qf
abbrev v3 := k0_pay3 x.kvf
abbrev v5 := k0_pay4 x.kpe
abbrev v7 := k0_pay5 x.cos
abbrev v9 := k0_pay6 x.sin
abbrev v11 := k0_pay7 x.dq
abbrev v13 := k0_pay8 x.dk
abbrev v15 := k0_pay9 x.dv
abbrev v17 := k0_pay10 x.ql
abbrev v19 := k0_pay11 x.kvl
abbrev v23 := k0_pay12 x.wq
abbrev v25 := k0_pay13 x.wkv
abbrev v27 := k0_pay14 x.qw
abbrev v29 := k0_pay15 x.kw

/-! Head 0: the query's gradient, its weight's sum, the key's. -/
def v69 := k0_pay20 (v1 x) (v7 x) (v9 x) (v11 x) (v27 x)
def v72 := k0_pay21 (v1 x) (v7 x) (v9 x) (v11 x)
def v74 := k0_pay23 (v13 x)
def v75 := k0_pay24 (v13 x)
def v115 := k0_pay30 (v3 x) (v5 x) (v7 x) (v9 x) (v29 x) (v74 x) (v75 x)
def v116 := k0_pay31 (v15 x)
def v117 := k0_pay32 (v3 x) (v5 x) (v7 x) (v9 x) (v29 x) (v74 x) (v75 x)
def v119 := k0_pay33 (v3 x) (v5 x) (v7 x) (v9 x) (v74 x) (v75 x)

/-! Head 1. -/
def v121 := k0_pay35 (v11 x)
def v123 := k0_pay37 (v7 x) (v11 x)
def v124 := k0_pay38 (v9 x) (v11 x)
def v159 := k0_pay43 (v1 x) (v27 x) (v121 x) (v123 x) (v124 x)
def v163 := k0_pay44 (v1 x) (v72 x) (v121 x) (v123 x) (v124 x)
def v165 := k0_pay46 (v13 x)
def v167 := k0_pay48 (v7 x) (v13 x)
def v168 := k0_pay49 (v9 x) (v13 x)
/-- The lane numbers of a 128-lane block. -/
def lanes : IVec S272x128 32 := iota .tc S272x128 32 [1] iota_S272x128_d1_w32
def v206 := k0_pay56 (v3 x) (v5 x) (v29 x) (v165 x) (v167 x) (v168 x) lanes k0_pay50 96#32
def v207 := k0_pay57 (v15 x)
def v209 := k0_pay58 (v3 x) (v5 x) (v29 x) (v117 x) (v165 x) (v167 x) (v168 x) lanes k0_pay50 96#32
def v212 := k0_pay59 (v3 x) (v5 x) (v119 x) (v165 x) (v167 x) (v168 x) lanes k0_pay50 96#32

/-! Head 2. -/
def v214 := k0_pay61 (v11 x)
def v216 := k0_pay63 (v7 x) (v11 x)
def v217 := k0_pay64 (v9 x) (v11 x)
def v252 := k0_pay70 (v1 x) (v27 x) (v214 x) (v216 x) (v217 x) lanes k0_pay65 96#32
def v256 := k0_pay71 (v1 x) (v163 x) (v214 x) (v216 x) (v217 x) lanes k0_pay65 96#32
def v258 := k0_pay73 (v13 x)
def v260 := k0_pay75 (v7 x) (v13 x)
def v261 := k0_pay76 (v9 x) (v13 x)
def v265 := k0_pay78 (v9 x) (v13 x)
def v299 := k0_pay85 (v3 x) (v5 x) (v29 x) (v258 x) (v260 x) (v261 x) k0_pay77 (v265 x) k0_pay79 32#32
def v300 := k0_pay86 (v15 x)
def v302 := k0_pay87 (v3 x) (v5 x) (v29 x) (v209 x) (v258 x) (v260 x) (v261 x) k0_pay77 (v265 x) k0_pay79 32#32
def v305 := k0_pay88 (v3 x) (v5 x) (v212 x) (v258 x) (v260 x) (v261 x) k0_pay77 (v265 x) k0_pay79 32#32

/-! Head 3. -/
def v307 := k0_pay90 (v11 x)
def v309 := k0_pay92 (v7 x) (v11 x)
def v310 := k0_pay93 (v9 x) (v11 x)
def v314 := k0_pay95 (v9 x) (v11 x)
def v345 := k0_pay101 (v1 x) (v27 x) (v307 x) (v309 x) (v310 x) k0_pay94 (v314 x) k0_pay96 32#32
def v349 := k0_pay102 (v1 x) (v256 x) (v307 x) (v309 x) (v310 x) k0_pay94 (v314 x) k0_pay96 32#32
def v351 := k0_pay104 (v13 x)
def v353 := k0_pay106 (v7 x) (v13 x)
def v364 := k0_pay107 (v9 x) (v13 x)
def v395 := k0_pay113 (v3 x) (v5 x) (v29 x) (v302 x) (v351 x) (v353 x) (v364 x)
def v398 := k0_pay114 (v3 x) (v5 x) (v305 x) (v351 x) (v353 x) (v364 x)

/-! The two projections' gradients and the latents'. -/
def v401 := k0_pay115 (v69 x) (v159 x) (v252 x) (v345 x)
def v402 := k0_pay116 (v3 x) (v5 x) (v15 x) (v29 x) (v115 x) (v116 x) (v206 x) (v207 x) (v299 x) (v300 x) (v351 x) (v353 x) (v364 x)
def v403 := k0_pay117 (v23 x) (v69 x) (v159 x) (v252 x) (v345 x)
def v411 := k0_pay118 (v17 x)
def v413 := k0_pay119 (v17 x)
def v414 := k0_pay120 x.qaw
def v425 := k0_pay121 (v403 x) (v411 x) (v413 x) (v414 x)
def v449 := k0_pay125 (v19 x) x.kvaw (v25 x) (v402 x)
def v452 := k0_pay126 (v403 x) (v413 x)
def v454 := k0_pay127 (v19 x) (v25 x) (v402 x)
def v457 := k0_pay128 (v395 x)

end Cert.MlaIdeal.Body

end
-- ==== Proof.Mla.Body.lean ====
/- One grid point of the MLA backward kernel, run: on whole staging buffers it leaves the sixteen inputs as they were and writes each of its
   nine outputs once (the first grid point starts the four running sums, a later one adds to them). -/
module

public import proofs.«01_k».proof.Proof.Gen.MlaIdeal.Frame.Runs
public import Idealize.ShloMosaic.Lib.VecWindow
public import proofs.«01_k».proof.Proof.Mla.Values

@[expose] public section

noncomputable section

namespace Cert.MlaIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlaIdeal.Gen

variable {F : FTy → Type} [FloatOps F] [Named F]

variable (i : grid0.Coords)
variable   (arg1 : Memref sig .tc .vmem S272x1024 .f32) (harg1 : arg1.IsWhole)
  (arg2 : Memref sig .tc .vmem S272x1024 .f32) (harg2 : arg2.IsWhole)
  (arg3 : Memref sig .tc .vmem S272x128 .f32) (harg3 : arg3.IsWhole)
  (arg4 : Memref sig .tc .vmem S272x128 .f32) (harg4 : arg4.IsWhole)
  (arg5 : Memref sig .tc .vmem S272x128 .f32) (harg5 : arg5.IsWhole)
  (arg6 : Memref sig .tc .vmem S272x1024 .f32) (harg6 : arg6.IsWhole)
  (arg7 : Memref sig .tc .vmem S272x1024 .f32) (harg7 : arg7.IsWhole)
  (arg8 : Memref sig .tc .vmem S272x512 .f32) (harg8 : arg8.IsWhole)
  (arg9 : Memref sig .tc .vmem S272x256 .f32) (harg9 : arg9.IsWhole)
  (arg10 : Memref sig .tc .vmem S272x256 .f32) (harg10 : arg10.IsWhole)
  (arg11 : Memref sig .tc .vmem S1x256 .f32) (harg11 : arg11.IsWhole)
  (arg12 : Memref sig .tc .vmem S1x256 .f32) (harg12 : arg12.IsWhole)
  (arg13 : Memref sig .tc .vmem S1024x256 .bf16) (harg13 : arg13.IsWhole)
  (arg14 : Memref sig .tc .vmem S256x1024 .bf16) (harg14 : arg14.IsWhole)
  (arg15 : Memref sig .tc .vmem S1x256 .f32) (harg15 : arg15.IsWhole)
  (arg16 : Memref sig .tc .vmem S1x256 .f32) (harg16 : arg16.IsWhole)
  (arg17 : Memref sig .tc .vmem S272x1024 .bf16) (harg17 : arg17.IsWhole)
  (arg18 : Memref sig .tc .vmem S272x1024 .bf16) (harg18 : arg18.IsWhole)
  (arg19 : Memref sig .tc .vmem S272x128 .bf16) (harg19 : arg19.IsWhole)
  (arg20 : Memref sig .tc .vmem S272x256 .bf16) (harg20 : arg20.IsWhole)
  (arg21 : Memref sig .tc .vmem S272x256 .bf16) (harg21 : arg21.IsWhole)
  (arg22 : Memref sig .tc .vmem S1x256 .f32) (harg22 : arg22.IsWhole)
  (arg23 : Memref sig .tc .vmem S1x256 .f32) (harg23 : arg23.IsWhole)
  (arg24 : Memref sig .tc .vmem S1x256 .f32) (harg24 : arg24.IsWhole)
  (arg25 : Memref sig .tc .vmem S1x256 .f32) (harg25 : arg25.IsWhole)

/-! ## The steps without a memory access hand on the named values -/

variable (x : Ins F)

set_option maxRecDepth 65536 in
theorem part3_eq : k0_part3 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v3 x) (v5 x) (v7 x) (v9 x) (v11 x) (v15 x) (v29 x) (v74 x) (v75 x)
    = pure ⟨v115 x, v116 x, v117 x, v119 x, v121 x, v123 x, v124 x⟩ := by
  rw [k0_part3_eq_skeleton]; rfl

set_option maxRecDepth 65536 in
theorem part4_eq : k0_part4 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v1 x) (v7 x) (v9 x) (v13 x) (v27 x) (v72 x) (v121 x) (v123 x) (v124 x)
    = pure ⟨v159 x, v163 x, v165 x, v167 x, v168 x, lanes, k0_pay50, 96#32⟩ := by
  rw [k0_part4_eq_skeleton]; rfl

set_option maxRecDepth 65536 in
theorem part5_eq : k0_part5 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v3 x) (v5 x) (v7 x) (v9 x) (v11 x) (v15 x) (v29 x) (v117 x) (v119 x) (v165 x) (v167 x) (v168 x) lanes k0_pay50 96#32
    = pure ⟨v206 x, v207 x, v209 x, v212 x, v214 x, v216 x, v217 x, lanes, k0_pay65, 96#32⟩ := by
  rw [k0_part5_eq_skeleton]; rfl

set_option maxRecDepth 65536 in
theorem part6_eq : k0_part6 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v1 x) (v7 x) (v9 x) (v13 x) (v27 x) (v163 x) (v214 x) (v216 x) (v217 x) lanes k0_pay65 96#32
    = pure ⟨v252 x, v256 x, v258 x, v260 x, v261 x, k0_pay77, v265 x, k0_pay79, 32#32⟩ := by
  rw [k0_part6_eq_skeleton]; rfl

set_option maxRecDepth 65536 in
theorem part7_eq : k0_part7 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v3 x) (v5 x) (v7 x) (v9 x) (v11 x) (v15 x) (v29 x) (v209 x) (v212 x) (v258 x) (v260 x) (v261 x) k0_pay77 (v265 x)
      k0_pay79 32#32
    = pure ⟨v299 x, v300 x, v302 x, v305 x, v307 x, v309 x, v310 x, k0_pay94, v314 x, k0_pay96, 32#32⟩ := by
  rw [k0_part7_eq_skeleton]; rfl

set_option maxRecDepth 65536 in
theorem part8_eq : k0_part8 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v1 x) (v7 x) (v9 x) (v13 x) (v27 x) (v256 x) (v307 x) (v309 x) (v310 x) k0_pay94 (v314 x) k0_pay96 32#32
    = pure ⟨v345 x, v349 x, v351 x, v353 x, v364 x⟩ := by
  rw [k0_part8_eq_skeleton]; rfl

set_option maxRecDepth 65536 in
theorem part9_eq : k0_part9 (F := F) i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v3 x) (v5 x) (v15 x) (v17 x) x.qaw (v23 x) (v29 x) (v69 x) (v115 x) (v116 x) (v159 x) (v206 x) (v207 x) (v252 x)
      (v299 x) (v300 x) (v302 x) (v305 x) (v345 x) (v351 x) (v353 x) (v364 x)
    = pure ⟨v395 x, v398 x, v401 x, v402 x, v403 x, v411 x, v413 x, v414 x⟩ := by
  rw [k0_part9_eq_skeleton]; rfl

/-! ## The run -/

variable (c : Dev nD)

/-- The sixteen input buffers at the point's blocks. -/
def given : sProp (MT nD τ sig Unit (Elt F) ℕ (UR sig nD τ) ℕ) :=
  iprop(    owns (c : Thread nD τ) arg1 fullShare x.qf ∗ owns (c : Thread nD τ) arg2 fullShare x.kvf ∗ owns (c : Thread nD τ) arg3 fullShare x.kpe ∗
    owns (c : Thread nD τ) arg4 fullShare x.cos ∗ owns (c : Thread nD τ) arg5 fullShare x.sin ∗ owns (c : Thread nD τ) arg6 fullShare x.dq ∗
    owns (c : Thread nD τ) arg7 fullShare x.dk ∗ owns (c : Thread nD τ) arg8 fullShare x.dv ∗ owns (c : Thread nD τ) arg9 fullShare x.ql ∗
    owns (c : Thread nD τ) arg10 fullShare x.kvl ∗ owns (c : Thread nD τ) arg11 fullShare x.qaw ∗ owns (c : Thread nD τ) arg12 fullShare x.kvaw ∗
    owns (c : Thread nD τ) arg13 fullShare x.wq ∗ owns (c : Thread nD τ) arg14 fullShare x.wkv ∗ owns (c : Thread nD τ) arg15 fullShare x.qw ∗
    owns (c : Thread nD τ) arg16 fullShare x.kw)

/-- A running sum after a point: what this point adds, on top of what the buffer held but at the first point. -/
def acc (add : FVec F S1x256 .f32 → Vec F S1x256 .f32 → FVec F S1x256 .f32) (v a : FVec F S1x256 .f32) : FVec F S1x256 .f32 :=
  if cond0_0 i then v else add v a

set_option maxRecDepth 65536 in
set_option maxHeartbeats 4000000 in
/-- The first step loads fifteen of the blocks. -/
theorem part1_run (E : Set ℕ) (K : _ → sProp (MT nD τ sig Unit (Elt F) ℕ (UR sig nD τ) ℕ)) :
    iprop(given arg1 arg2 arg3 arg4 arg5 arg6 arg7 arg8 arg9 arg10 arg11 arg12 arg13 arg14 arg15 arg16 x c ∗ (given arg1 arg2 arg3 arg4 arg5 arg6 arg7 arg8 arg9 arg10 arg11 arg12 arg13 arg14 arg15 arg16 x c -∗ K ⟨BitVec.ofNat 32 (i 0).val, v1 x, v3 x, v5 x, v7 x, v9 x, v11 x, v13 x, v15 x, v17 x, v19 x, x.qaw, x.kvaw, v23 x, v25 x, v27 x⟩))
      ⊢ wp frame (wpE (defs₀ (F := F)) Variants.none c none) E (k0_part1 i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
     ) K := by
  rw [k0_part1_eq_skeleton]; unfold k0_part1_skel given owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩,
    ⟨%f14, %hf14, H14⟩, ⟨%f15, %hf15, H15⟩⟩, Hk⟩
  sl_exec
  rw [View.readAt_full arg1.view, hf0, View.readAt_full arg2.view, hf1, View.readAt_full arg3.view, hf2, View.readAt_full arg4.view, hf3, View.readAt_full arg5.view, hf4,
    View.readAt_full arg6.view, hf5, View.readAt_full arg7.view, hf6, View.readAt_full arg8.view, hf7, View.readAt_full arg9.view, hf8, View.readAt_full arg10.view, hf9,
    View.readAt_full arg11.view, hf10, View.readAt_full arg12.view, hf11, View.readAt_full arg13.view, hf12, View.readAt_full arg14.view, hf13, View.readAt_full arg15.view, hf14]
  sl_step
  iapply Hk
  isplitl [H0]
  · iexists f0; isplitr
    · ipureintro; exact hf0
    iexact H0
  isplitl [H1]
  · iexists f1; isplitr
    · ipureintro; exact hf1
    iexact H1
  isplitl [H2]
  · iexists f2; isplitr
    · ipureintro; exact hf2
    iexact H2
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists f7; isplitr
    · ipureintro; exact hf7
    iexact H7
  isplitl [H8]
  · iexists f8; isplitr
    · ipureintro; exact hf8
    iexact H8
  isplitl [H9]
  · iexists f9; isplitr
    · ipureintro; exact hf9
    iexact H9
  isplitl [H10]
  · iexists f10; isplitr
    · ipureintro; exact hf10
    iexact H10
  isplitl [H11]
  · iexists f11; isplitr
    · ipureintro; exact hf11
    iexact H11
  isplitl [H12]
  · iexists f12; isplitr
    · ipureintro; exact hf12
    iexact H12
  isplitl [H13]
  · iexists f13; isplitr
    · ipureintro; exact hf13
    iexact H13
  isplitl [H14]
  · iexists f14; isplitr
    · ipureintro; exact hf14
    iexact H14
  iexists f15; isplitr
  · ipureintro; exact hf15
  iexact H15

set_option maxRecDepth 65536 in
set_option maxHeartbeats 4000000 in
/-- The second step loads the last block. -/
theorem part2_run (E : Set ℕ) (K : _ → sProp (MT nD τ sig Unit (Elt F) ℕ (UR sig nD τ) ℕ)) :
    iprop(given arg1 arg2 arg3 arg4 arg5 arg6 arg7 arg8 arg9 arg10 arg11 arg12 arg13 arg14 arg15 arg16 x c ∗ (given arg1 arg2 arg3 arg4 arg5 arg6 arg7 arg8 arg9 arg10 arg11 arg12 arg13 arg14 arg15 arg16 x c -∗ K ⟨v29 x, v69 x, v72 x, v74 x, v75 x⟩))
      ⊢ wp frame (wpE (defs₀ (F := F)) Variants.none c none) E (k0_part2 i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      (v1 x) (v7 x) (v9 x) (v11 x) (v13 x) (v27 x)) K := by
  rw [k0_part2_eq_skeleton]; unfold k0_part2_skel given v69 v72 v74 v75
  iintro ⟨⟨H0, H1, H2, H3, H4, H5, H6, H7, H8, H9, H10, H11, H12, H13, H14, H15⟩, Hk⟩
  unfold owns
  icases H15 with ⟨%f15, %hf15, H15⟩
  sl_exec
  rw [View.readAt_full arg16.view, hf15]
  sl_step
  iapply Hk
  iframe
  iexists f15; isplitr
  · ipureintro; exact hf15
  iexact H15

theorem ret_bind {E : Type → Type 1} {α β : Type} (a : α) (k : α → Prog E β) : (pure a >>= k : Prog E β) = k a := rfl

set_option maxHeartbeats 4000000 in
/-- Where the points are the first or a later one, each output's buffer: written once, the four sums as `acc` says. -/
theorem point_run (hi : conds0_A i ∨ conds0_B i) (a21 a22 a23 a24 : Vec F S1x256 .f32) (E : Set ℕ) (K : PUnit → sProp (MT nD τ sig Unit (Elt F) ℕ (UR sig nD τ) ℕ)) :
    iprop(given arg1 arg2 arg3 arg4 arg5 arg6 arg7 arg8 arg9 arg10 arg11 arg12 arg13 arg14 arg15 arg16 x c
      ∗ (∃ d, owns (c : Thread nD τ) arg17 fullShare d) ∗ (∃ d, owns (c : Thread nD τ) arg18 fullShare d)
      ∗ (∃ d, owns (c : Thread nD τ) arg19 fullShare d) ∗ (∃ d, owns (c : Thread nD τ) arg20 fullShare d)
      ∗ (∃ d, owns (c : Thread nD τ) arg21 fullShare d) ∗ owns (c : Thread nD τ) arg22 fullShare a21
      ∗ owns (c : Thread nD τ) arg23 fullShare a22 ∗ owns (c : Thread nD τ) arg24 fullShare a23 ∗ owns (c : Thread nD τ) arg25 fullShare a24
      ∗ ((given arg1 arg2 arg3 arg4 arg5 arg6 arg7 arg8 arg9 arg10 arg11 arg12 arg13 arg14 arg15 arg16 x c
        ∗ owns (c : Thread nD τ) arg17 fullShare (v401 x) ∗ owns (c : Thread nD τ) arg18 fullShare (v402 x)
        ∗ owns (c : Thread nD τ) arg19 fullShare (v457 x) ∗ owns (c : Thread nD τ) arg20 fullShare (k0_pay129 (v425 x))
        ∗ owns (c : Thread nD τ) arg21 fullShare (k0_pay130 (v449 x)) ∗ owns (c : Thread nD τ) arg22 fullShare (acc i k0_pay131 (v349 x) a21)
        ∗ owns (c : Thread nD τ) arg23 fullShare (acc i k0_pay132 (v398 x) a22) ∗ owns (c : Thread nD τ) arg24 fullShare (acc i k0_pay133 (v452 x) a23)
        ∗ owns (c : Thread nD τ) arg25 fullShare (acc i k0_pay1 (v454 x) a24)) -∗ K ⟨⟩))
      ⊢ wp frame (wpE (defs₀ (F := F)) Variants.none c none) E (cc0_mla_back i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
     ) K := by
  rw [cc0_mla_back_eq_skeleton]; unfold cc0_mla_back_skel
  rw [wp_bind]
  iintro ⟨Hin, H16, H17, H18, H19, H20, H21, H22, H23, H24, Hk⟩
  iapply (part1_run i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      x c E _)
  isplitl [Hin]; · iexact Hin
  iintro Hin
  rw [wp_bind]
  iapply (part2_run i
      arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 arg23 harg23
      arg24 harg24 arg25 harg25
      x c E _)
  isplitl [Hin]; · iexact Hin
  iintro Hin
  simp only [part3_eq, part4_eq, part5_eq, part6_eq, part7_eq, part8_eq, part9_eq, ret_bind]
  simp only [k0_part10_eq_skeleton, k0_part11_eq_skeleton]
  unfold owns
  icases H16 with ⟨%d16, %f16, -, H16⟩; icases H17 with ⟨%d17, %f17, -, H17⟩; icases H18 with ⟨%d18, %f18, -, H18⟩
  icases H19 with ⟨%d19, %f19, -, H19⟩; icases H20 with ⟨%d20, %f20, -, H20⟩
  icases H21 with ⟨%f21, %hf21, H21⟩; icases H22 with ⟨%f22, %hf22, H22⟩; icases H23 with ⟨%f23, %hf23, H23⟩; icases H24 with ⟨%f24, %hf24, H24⟩
  rcases hi with ⟨h0, h1, h2, h3, h4, h5, h6, h7⟩ | ⟨h0, h1, h2, h3, h4, h5, h6, h7⟩
  on_goal 1 =>
    have e21 : acc i k0_pay131 (v349 x) a21 = v349 x := if_pos h0
    have e22 : acc i k0_pay132 (v398 x) a22 = v398 x := if_pos h0
    have e23 : acc i k0_pay133 (v452 x) a23 = v452 x := if_pos h0
    have e24 : acc i k0_pay1 (v454 x) a24 = v454 x := if_pos h0
  on_goal 2 =>
    have q (v : Memref sig .tc .vmem S1x256 .f32) (f a) (h : v.view.read (Elt F) f = a) :
        a = v.view.readAt (Elt F) (Rect.unit ![0, 0] S1x256.size inb_S1x256_S1x256_0_0).toLoadRect f := ((View.readAt_full _ _ _).trans h).symm
    have e21 := (if_neg h0 : acc i k0_pay131 (v349 x) a21 = k0_pay131 (v349 x) a21).trans (congrArg (k0_pay131 (v349 x)) (q arg22 f21 a21 hf21))
    have e22 := (if_neg h0 : acc i k0_pay132 (v398 x) a22 = k0_pay132 (v398 x) a22).trans (congrArg (k0_pay132 (v398 x)) (q arg23 f22 a22 hf22))
    have e23 := (if_neg h0 : acc i k0_pay133 (v452 x) a23 = k0_pay133 (v452 x) a23).trans (congrArg (k0_pay133 (v452 x)) (q arg24 f23 a23 hf23))
    have e24 := (if_neg h0 : acc i k0_pay1 (v454 x) a24 = k0_pay1 (v454 x) a24).trans (congrArg (k0_pay1 (v454 x)) (q arg25 f24 a24 hf24))
  all_goals
    sl_exec (disch := first | sl_exact h0 | sl_exact h1 | sl_exact h2 | sl_exact h3 | sl_exact h4 | sl_exact h5 | sl_exact h6 | sl_exact h7)
    sl_step
    iapply Hk
    isplitl [Hin]; · iexact Hin
    isplitl [H16]
    · iexists _; isplitr
      swap; · iexact H16
      ipureintro; exact View.read_writes_full _ _ _ _ _
    isplitl [H17]
    · iexists _; isplitr
      swap; · iexact H17
      ipureintro; exact View.read_writes_full _ _ _ _ _
    isplitl [H18]
    · iexists _; isplitr
      swap; · iexact H18
      ipureintro; exact View.read_writes_full _ _ _ _ _
    isplitl [H19]
    · iexists _; isplitr
      swap; · iexact H19
      ipureintro; exact View.read_writes_full _ _ _ _ _
    isplitl [H20]
    · iexists _; isplitr
      swap; · iexact H20
      ipureintro; exact View.read_writes_full _ _ _ _ _
    isplitl [H21]
    · iexists _; isplitr
      swap; · iexact H21
      ipureintro; exact (View.read_writes_full _ _ _ _ _).trans e21.symm
    isplitl [H22]
    · iexists _; isplitr
      swap; · iexact H22
      ipureintro; exact (View.read_writes_full _ _ _ _ _).trans e22.symm
    isplitl [H23]
    · iexists _; isplitr
      swap; · iexact H23
      ipureintro; exact (View.read_writes_full _ _ _ _ _).trans e23.symm
    iexists _; isplitr
    swap; · iexact H24
    ipureintro; exact (View.read_writes_full _ _ _ _ _).trans e24.symm

end Cert.MlaIdeal.Body

end
-- ==== Proof.Mla.Run.lean ====
/- The MLA backward kernel run over its whole grid, for any float values: what each window holds at every grid point, and every execution
   ends with the outputs at what the grid points wrote and the arguments unchanged. -/
module

public import proofs.«01_k».proof.Proof.Mla.Body
public import Idealize.ShloMosaic.Lib.Claim

@[expose] public section

set_option maxRecDepth 16384

noncomputable section

namespace Cert.MlaIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlaIdeal.Gen Cert.MlaIdeal.Body

variable {F : FTy → Type} [FloatOps F] [Named F]
variable (m : (ℓ : Loc nD τ sig) → Buf (Elt F) ℓ) (ρ : Dev nD → PrngReg)

/-- The sixteen input blocks of a grid point. -/
def ins (c : Dev nD) (t : Fin cfg0.N) : Ins F :=
  ⟨iblk m c 0 t, iblk m c 1 t, iblk m c 2 t, iblk m c 3 t, iblk m c 4 t, iblk m c 5 t, iblk m c 6 t, iblk m c 7 t,
   iblk m c 8 t, iblk m c 9 t, iblk m c 10 t, iblk m c 11 t, iblk m c 12 t, iblk m c 13 t, iblk m c 14 t, iblk m c 15 t⟩

/-- A running total over the grid points: the first point's value starts it and each later point adds its own. -/
def total (add : Vec F S1x256 .f32 → Vec F S1x256 .f32 → Vec F S1x256 .f32) (v : Fin cfg0.N → Vec F S1x256 .f32) : (n : ℕ) → n < cfg0.N → Vec F S1x256 .f32
  | 0, h => v ⟨0, h⟩
  | n + 1, h => add (v ⟨n + 1, h⟩) (total add v n (Nat.lt_of_succ_lt h))

/-- At the first grid point a total is that point's value, whatever the buffer held. -/
theorem total_first (add : Vec F S1x256 .f32 → Vec F S1x256 .f32 → Vec F S1x256 .f32) (v : Fin cfg0.N → Vec F S1x256 .f32) (t : Fin cfg0.N) (h : t.val % 8 = 0) (a) :
    acc (grid0.coords t) add (v t) a = total add v t.val t.isLt := by
  have hN : t.val < 8 := lt_of_lt_of_eq t.isLt (show cfg0.N = 8 from N_0)
  refine (if_pos ((hcond0_0 t).mpr h)).trans ?_
  obtain ⟨n, hn⟩ := t
  cases n with
  | zero => rfl
  | succ n => exfalso; simp only at h hN; omega

/-- At a later grid point a total is the one the point before left with that point's value added. -/
theorem total_later (add : Vec F S1x256 .f32 → Vec F S1x256 .f32 → Vec F S1x256 .f32) (v : Fin cfg0.N → Vec F S1x256 .f32) (t : Fin cfg0.N) (h : ¬t.val % 8 = 0) :
    acc (grid0.coords t) add (v t) (total add v (t.val - 1) (Nat.lt_of_le_of_lt (Nat.sub_le _ _) t.isLt)) = total add v t.val t.isLt := by
  refine (if_neg fun h0 => h ((hcond0_0 t).mp h0)).trans ?_
  obtain ⟨n, hn⟩ := t
  cases n with
  | zero => exact absurd rfl h
  | succ n => rfl

/-- A total after a grid point, from what its buffer held before: anything at the first one, and at a later one the total so far. -/
theorem total_step (add : Vec F S1x256 .f32 → Vec F S1x256 .f32 → Vec F S1x256 .f32) (v : Fin cfg0.N → Vec F S1x256 .f32) (t : Fin cfg0.N) (a : Vec F S1x256 .f32)
    (ha : ¬t.val % 8 = 0 → a = total add v (t.val - 1) (Nat.lt_of_le_of_lt (Nat.sub_le _ _) t.isLt)) : acc (grid0.coords t) add (v t) a = total add v t.val t.isLt := by
  by_cases h : t.val % 8 = 0
  · exact total_first add v t h a
  · rw [ha h]; exact total_later add v t h

/-- What every window's buffer holds after the body ran at a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => v401 (ins m c t)
    | ⟨17, _⟩ => v402 (ins m c t)
    | ⟨18, _⟩ => v457 (ins m c t)
    | ⟨19, _⟩ => k0_pay129 (v425 (ins m c t))
    | ⟨20, _⟩ => k0_pay130 (v449 (ins m c t))
    | ⟨21, _⟩ => total k0_pay131 (fun t => v349 (ins m c t)) t.val t.isLt
    | ⟨22, _⟩ => total k0_pay132 (fun t => v398 (ins m c t)) t.val t.isLt
    | ⟨23, _⟩ => total k0_pay133 (fun t => v452 (ins m c t)) t.val t.isLt
    | ⟨24, _⟩ => total k0_pay1 (fun t => v454 (ins m c t)) t.val t.isLt
    | ⟨_ + 25, h⟩ => absurd h (Nat.not_lt.2 (Nat.le_add_left _ _))
  Φ _ := Pipeline.ΦA spec0 c
  q w := Pipeline.shareOf spec0 w
  owed _ := 0

/-- The arrays start as the region found them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = v401 (ins m c t) := by dsimp only [dats]
theorem after_17 (c : Dev nD) (t : Fin cfg0.N) : (dats m 0 c).after 17 t = v402 (ins m c t) := by dsimp only [dats]
theorem after_18 (c : Dev nD) (t : Fin cfg0.N) : (dats m 0 c).after 18 t = v457 (ins m c t) := by dsimp only [dats]
theorem after_19 (c : Dev nD) (t : Fin cfg0.N) : (dats m 0 c).after 19 t = k0_pay129 (v425 (ins m c t)) := by dsimp only [dats]
theorem after_20 (c : Dev nD) (t : Fin cfg0.N) : (dats m 0 c).after 20 t = k0_pay130 (v449 (ins m c t)) := by dsimp only [dats]
theorem after_21 (c : Dev nD) (t : Fin cfg0.N) : (dats m 0 c).after 21 t = total k0_pay131 (fun t => v349 (ins m c t)) t.val t.isLt := by dsimp only [dats]
theorem after_22 (c : Dev nD) (t : Fin cfg0.N) : (dats m 0 c).after 22 t = total k0_pay132 (fun t => v398 (ins m c t)) t.val t.isLt := by dsimp only [dats]
theorem after_23 (c : Dev nD) (t : Fin cfg0.N) : (dats m 0 c).after 23 t = total k0_pay133 (fun t => v452 (ins m c t)) t.val t.isLt := by dsimp only [dats]
theorem after_24 (c : Dev nD) (t : Fin cfg0.N) : (dats m 0 c).after 24 t = total k0_pay1 (fun t => v454 (ins m c t)) t.val t.isLt := by dsimp only [dats]

theorem live_21 : ∀ t : Fin cfg0.N, cfg0.idle 21 (grid0.coords t) = false :=
  (by decide +kernel : ∀ t : Fin cfg0.N, cfg0.idle 21 (grid0.coords t) = false)
theorem live_22 : ∀ t : Fin cfg0.N, cfg0.idle 22 (grid0.coords t) = false :=
  (by decide +kernel : ∀ t : Fin cfg0.N, cfg0.idle 22 (grid0.coords t) = false)
theorem live_23 : ∀ t : Fin cfg0.N, cfg0.idle 23 (grid0.coords t) = false :=
  (by decide +kernel : ∀ t : Fin cfg0.N, cfg0.idle 23 (grid0.coords t) = false)
theorem live_24 : ∀ t : Fin cfg0.N, cfg0.idle 24 (grid0.coords t) = false :=
  (by decide +kernel : ∀ t : Fin cfg0.N, cfg0.idle 24 (grid0.coords t) = false)

/-- The branches taken at the first grid point. -/
theorem first_conds (t : Fin cfg0.N) (h : t.val % 8 = 0) : conds0_A (grid0.coords t) :=
  have hN : t.val < 8 := lt_of_lt_of_eq t.isLt (show cfg0.N = 8 from N_0)
  ⟨(hcond0_0 t).mpr h, fun q => absurd ((hcond0_1 t).mp q) (by omega), (hcond0_2 t).mpr h, fun q => absurd ((hcond0_3 t).mp q) (by omega),
   (hcond0_4 t).mpr h, fun q => absurd ((hcond0_5 t).mp q) (by omega), (hcond0_6 t).mpr h, fun q => absurd ((hcond0_7 t).mp q) (by omega)⟩

/-- The branches taken at a later grid point. -/
theorem later_conds (t : Fin cfg0.N) (h : ¬t.val % 8 = 0) : conds0_B (grid0.coords t) :=
  have hp : 1 ≤ t.val := by omega
  ⟨fun q => h ((hcond0_0 t).mp q), (hcond0_1 t).mpr hp, fun q => h ((hcond0_2 t).mp q), (hcond0_3 t).mpr hp,
   fun q => h ((hcond0_4 t).mp q), (hcond0_5 t).mpr hp, fun q => h ((hcond0_6 t).mp q), (hcond0_7 t).mpr hp⟩

theorem before_21 (c : Dev nD) (t : Fin cfg0.N) (h : ¬t.val % 8 = 0) (d) :
    (dats m 0 c).before 21 t d = total k0_pay131 (fun t => v349 (ins m c t)) (t.val - 1) (Nat.lt_of_le_of_lt (Nat.sub_le _ _) t.isLt) := by
  obtain ⟨h0, h1, h2, h3, h4, h5, h6, h7⟩ := later_conds t h
  rw [Dat.before_out_traj _ 21 rfl (fun _ _ => rfl) (fun t _ hi _ => absurd (hi.symm.trans (live_21 t)) (by decide)) t.val t rfl d,
    if_neg (by rw [notFresh0_21_B t h0 h1 h2 h3 h4 h5 h6 h7]; exact Bool.false_ne_true)]
  dsimp only [dats]
theorem before_22 (c : Dev nD) (t : Fin cfg0.N) (h : ¬t.val % 8 = 0) (d) :
    (dats m 0 c).before 22 t d = total k0_pay132 (fun t => v398 (ins m c t)) (t.val - 1) (Nat.lt_of_le_of_lt (Nat.sub_le _ _) t.isLt) := by
  obtain ⟨h0, h1, h2, h3, h4, h5, h6, h7⟩ := later_conds t h
  rw [Dat.before_out_traj _ 22 rfl (fun _ _ => rfl) (fun t _ hi _ => absurd (hi.symm.trans (live_22 t)) (by decide)) t.val t rfl d,
    if_neg (by rw [notFresh0_22_B t h0 h1 h2 h3 h4 h5 h6 h7]; exact Bool.false_ne_true)]
  dsimp only [dats]
theorem before_23 (c : Dev nD) (t : Fin cfg0.N) (h : ¬t.val % 8 = 0) (d) :
    (dats m 0 c).before 23 t d = total k0_pay133 (fun t => v452 (ins m c t)) (t.val - 1) (Nat.lt_of_le_of_lt (Nat.sub_le _ _) t.isLt) := by
  obtain ⟨h0, h1, h2, h3, h4, h5, h6, h7⟩ := later_conds t h
  rw [Dat.before_out_traj _ 23 rfl (fun _ _ => rfl) (fun t _ hi _ => absurd (hi.symm.trans (live_23 t)) (by decide)) t.val t rfl d,
    if_neg (by rw [notFresh0_23_B t h0 h1 h2 h3 h4 h5 h6 h7]; exact Bool.false_ne_true)]
  dsimp only [dats]
theorem before_24 (c : Dev nD) (t : Fin cfg0.N) (h : ¬t.val % 8 = 0) (d) :
    (dats m 0 c).before 24 t d = total k0_pay1 (fun t => v454 (ins m c t)) (t.val - 1) (Nat.lt_of_le_of_lt (Nat.sub_le _ _) t.isLt) := by
  obtain ⟨h0, h1, h2, h3, h4, h5, h6, h7⟩ := later_conds t h
  rw [Dat.before_out_traj _ 24 rfl (fun _ _ => rfl) (fun t _ hi _ => absurd (hi.symm.trans (live_24 t)) (by decide)) t.val t rfl d,
    if_neg (by rw [notFresh0_24_B t h0 h1 h2 h3 h4 h5 h6 h7]; exact Bool.false_ne_true)]
  dsimp only [dats]

/-- What the body is called with at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

/-- What the body leaves in a window's buffer at a point where the window is used. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4800000 in
/-- The body meets its obligation at every grid point. -/
theorem sound_body (c : Dev nD) (t : Fin cfg0.N) :
    bodyPre m c t ⊢ wp frame (wpE (defs₀ (F := F)) Variants.none c none) Set.univ (bodyAt0 t) (fun _ => bodyPost m c t) := by
  have hi : conds0_A (grid0.coords t) ∨ conds0_B (grid0.coords t) := if h : t.val % 8 = 0 then Or.inl (first_conds t h) else Or.inr (later_conds t h)
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c), before0_12_of m (dats m 0 c) (A_eq m c 12) (after_12 m c), before0_13_of m (dats m 0 c) (A_eq m c 13) (after_13 m c), before0_14_of m (dats m 0 c) (A_eq m c 14) (after_14 m c), before0_15_of m (dats m 0 c) (A_eq m c 15) (after_15 m c)]
  rw [show (dats m 0 c).Φ t.succ = (dats m 0 c).Φ t.castSucc from rfl,
    show (dats m 0 c).owesAt () t.succ = (dats m 0 c).owesAt () t.castSucc from rfl]
  rw [leaves m c t 0 (liveAt0_0 t), after_0, leaves m c t 1 (liveAt0_1 t), after_1, leaves m c t 2 (liveAt0_2 t), after_2, leaves m c t 3 (liveAt0_3 t), after_3, leaves m c t 4 (liveAt0_4 t), after_4, leaves m c t 5 (liveAt0_5 t), after_5, leaves m c t 6 (liveAt0_6 t), after_6, leaves m c t 7 (liveAt0_7 t), after_7, leaves m c t 8 (liveAt0_8 t), after_8, leaves m c t 9 (liveAt0_9 t), after_9, leaves m c t 10 (liveAt0_10 t), after_10, leaves m c t 11 (liveAt0_11 t), after_11, leaves m c t 12 (liveAt0_12 t), after_12, leaves m c t 13 (liveAt0_13 t), after_13, leaves m c t 14 (liveAt0_14 t), after_14, leaves m c t 15 (liveAt0_15 t), after_15, leaves m c t 16 (liveAt0_16 t), after_16, leaves m c t 17 (liveAt0_17 t), after_17, leaves m c t 18 (liveAt0_18 t), after_18, leaves m c t 19 (liveAt0_19 t), after_19, leaves m c t 20 (liveAt0_20 t), after_20, leaves m c t 21 (live_21 t), after_21, leaves m c t 22 (live_22 t), after_22, leaves m c t 23 (live_23 t), after_23, leaves m c t 24 (live_24 t), after_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (point_run (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ins m c t) c hi _ _ _ _ Set.univ _)
  isplitl [H0 H1 H2 H3 H4 H5 H6 H7 H8 H9 H10 H11 H12 H13 H14 H15]
  · simp only [given, ins]
    iframe
  isplitl [H16]; · iexists _; iexact H16
  isplitl [H17]; · iexists _; iexact H17
  isplitl [H18]; · iexists _; iexact H18
  isplitl [H19]; · iexists _; iexact H19
  isplitl [H20]; · iexists _; iexact H20
  iframe
  rw [total_step k0_pay131 (fun t => v349 (ins m c t)) t _ fun h => before_21 m c t h d21,
    total_step k0_pay132 (fun t => v398 (ins m c t)) t _ fun h => before_22 m c t h d22,
    total_step k0_pay133 (fun t => v452 (ins m c t)) t _ fun h => before_23 m c t h d23,
    total_step k0_pay1 (fun t => v454 (ins m c t)) t _ fun h => before_24 m c t h d24]
  simp only [given, ins]
  iintro ⟨⟨H0, H1, H2, H3, H4, H5, H6, H7, H8, H9, H10, H11, H12, H13, H14, H15⟩, H16, H17, H18, H19, H20, H21, H22, H23, H24⟩
  iframe

end Cert.MlaIdeal.Run

end
-- ==== Proof.Mla.Frame.lean ====
/- The MLA backward kernel run over its whole grid, for any float values: every execution ends with the outputs at what the grid points wrote
   and the arguments unchanged. -/
module

public import proofs.«01_k».proof.Proof.Mla.Run

@[expose] public section

set_option maxRecDepth 16384

noncomputable section

namespace Cert.MlaIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlaIdeal.Gen Cert.MlaIdeal.Body

variable {F : FTy → Type} [FloatOps F] [Named F]
variable (m : (ℓ : Loc nD τ sig) → Buf (Elt F) ℓ) (ρ : Dev nD → PrngReg)

set_option maxHeartbeats 1600000 in
/-- The obligation in the form the pipeline asks for. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- Every execution ends, with every pipeline array as computed and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

set_option maxHeartbeats 1600000 in
/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_quiet m ρ))

set_option maxHeartbeats 1600000 in
/-- Every execution ends with each output at what the grid points wrote and the arguments unchanged. -/
theorem run_blocks : θ_run defs (onTc (τ := τ) (main (F := F))) ⟨m, fun _ => 0, ρ⟩ fun r => ∀ c : Dev nD,
      r.2.mem ((c : Thread nD τ).loc main_v79_0) = (dats m 0 c).arrAt 16 cfg0.N
      ∧ r.2.mem ((c : Thread nD τ).loc main_v79_1) = (dats m 0 c).arrAt 17 cfg0.N
      ∧ r.2.mem ((c : Thread nD τ).loc main_v79_2) = (dats m 0 c).arrAt 18 cfg0.N
      ∧ r.2.mem ((c : Thread nD τ).loc main_v79_3) = (dats m 0 c).arrAt 19 cfg0.N
      ∧ r.2.mem ((c : Thread nD τ).loc main_v79_4) = (dats m 0 c).arrAt 20 cfg0.N
      ∧ r.2.mem ((c : Thread nD τ).loc main_v79_5) = (dats m 0 c).arrAt 21 cfg0.N
      ∧ r.2.mem ((c : Thread nD τ).loc main_v79_6) = (dats m 0 c).arrAt 22 cfg0.N
      ∧ r.2.mem ((c : Thread nD τ).loc main_v79_7) = (dats m 0 c).arrAt 23 cfg0.N
      ∧ r.2.mem ((c : Thread nD τ).loc main_v79_8) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h.1 c).1 16, (h.1 c).1 17, (h.1 c).1 18, (h.1 c).1 19, (h.1 c).1 20, (h.1 c).1 21, (h.1 c).1 22, (h.1 c).1 23, (h.1 c).1 24, h.2.1 c⟩)
    (θ_run_and (run_main m ρ) (frame m ρ))

end Cert.MlaIdeal.Run

end
-- ==== Proof.Mla.Bits.lean ====
/- The frame of the MLA backward kernel over the machine's floats, taken from the run over any float values: read with the word in the place of
   the named constant the two programs are one. -/
module

public import proofs.«01_k».proof.Defs
public import proofs.«01_k».proof.Proof.Gen.Mla
public import proofs.«01_k».proof.Proof.Gen.Pre_mla_finite
public import proofs.«01_k».proof.Proof.Mla.Frame

@[expose] public section

set_option maxRecDepth 16384

noncomputable section

namespace Cert.MlaIdeal.Run

open Idealize.ShloMosaic Idealize.ShloMosaic.TcCoe Idealize.ShloMosaic.Tactic
open Idealize.SL.Sem

/-- The named constant read as its word. -/
@[reducible] def word : Named Bits := ⟨fun _ _ _ b => Scalar.ofBits _ b⟩
attribute [local instance] word

/-- The frame at the machine's floats. -/
def AtBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem atBits : AtBits := fun m ρ _ => frame (F := Bits) m ρ

theorem one_text : AtBits = Cert.quiescent_Mla := by sl_kernel_rfl

/-- Every execution of the printed kernel ends with its arguments unchanged and every counter at zero. -/
theorem frame_bits : Cert.quiescent_Mla := one_text.mp atBits

end Cert.MlaIdeal.Run

end
-- ==== Proof.Mla.Tile.lean ====
/- The row block of the backward of the latent attention's projections: its printed payloads as a few vector functions, each
   used once for every head, and their values at an index. -/
module

public import proofs.«01_k».proof.Proof.Gen.MlaIdeal.Skeleton
public import proofs.«01_k».proof.Proof.Common.Rms
public import proofs.«01_k».proof.Proof.Common.Heads

@[expose] public section

set_option maxRecDepth 16384

noncomputable section

open Idealize.ShloMosaic Idealize.ShloMosaic.TcCoe Idealize.SL.Sem

namespace Cert.MlaIdeal.Tile

open Cert.MlaIdeal Cert.MlaIdeal.Gen Cert.Num Cert.Rms Cert.Heads

/-- One over the length of a query or key, as the kernel names it; and its small constant. -/
abbrev inv : EReal := (Named.named κ "n" 0x3BAAAAAB#32 : Ideal .f32)
abbrev eps : EReal := Ideal.ofBits .f32 0x358637BD#32
/-- One over the length of a latent row. -/
abbrev inw : EReal := Ideal.ofBits .f32 0x3B800000#32

/-- Two pieces of 128 lanes, one after the other. -/
def join (a b : Fin 128 → EReal) (e : Fin 256) : EReal :=
  if h : (e : ℕ) < 128 then a ⟨e, h⟩ else b ⟨e - 128, by omega⟩

/-- The first 64 lanes with their halves swapped, the others zero. -/
def swap (z : Fin 128 → EReal) (l : Fin 128) : EReal :=
  if h : (l : ℕ) < 32 then z ⟨l + 32, by omega⟩ else if (l : ℕ) < 64 then z ⟨l - 32, by omega⟩ else 0

/-- A rotary piece turned back. -/
def turn (z c s : Fin 128 → EReal) (l : Fin 128) : EReal := z l * c l + swap (fun l => z l * s l) l

/-- Column `e` of head `h` among columns of four heads of 256; lane `l` of either half of a head. -/
def wcol (h : Fin 4) (e : Fin 256) : Fin 1024 := ⟨h * 256 + e, by omega⟩
def fst (l : Fin 128) : Fin 256 := ⟨l, by omega⟩
def snd (l : Fin 128) : Fin 256 := ⟨128 + l, by omega⟩

abbrev M := FVec Ideal S272x256 .f32
abbrev L := FVec Ideal S272x128 .f32
abbrev W := FVec Ideal S1x256 .f32

/-- A head of the queries (or of a gradient laid out like them), and a head of the keys. -/
def slab (h : Fin 4) (v : FVec Ideal S272x1024 .f32) : M :=
  match h with
  | 0 => k0_pay17 v
  | 1 => k0_pay40 v
  | 2 => k0_pay67 v
  | 3 => k0_pay98 v

def kslab (h : Fin 4) (v : FVec Ideal S272x1024 .f32) (p : L) : M :=
  match h with
  | 0 => k0_pay26 v p
  | 1 => k0_pay52 v p
  | 2 => k0_pay81 v p
  | 3 => k0_pay109 v p

def lowHalf (u : M) : L := extractStridedSlice S272x128 ![0, 0] u slices_S272x256_o0_0_S272x128
def highHalf (u : M) : L := extractStridedSlice S272x128 ![0, 128] u slices_S272x256_o0_128_S272x128

/-- A head's gradient with its rotary half turned back. -/
def back (u : M) (c s : L) : M := k0_pay25 (F := Ideal) c s (lowHalf u) (highHalf u)

/-- The norm of a head: the row's factor, the normed row, and the gradient through both. -/
def fac (x : M) : FVec Ideal S272x1 .f32 :=
  rsqrt (addf (mulf (shapeCast S272x1 (multiReduction .add [1] S272 (mulf x x) 0x00000000#32 reduces_S272x256_S272 (.inl rfl) rfl) shapeCasts_S272_S272x1)
    (broadcast S272x1 (Named.named κ "n" 0x3BAAAAAB#32 : Ideal .f32))) (broadcast S272x1 (Scalar.ofBits .f32 0x358637BD#32)))
def nrm (x : M) : M := mulf x (broadcastTo S272x256 (fac x) broadcasts_S272x1_S272x256)
def grad (x : M) (w : W) (g : M) : M :=
  mulf (broadcastTo S272x256 (fac x) broadcasts_S272x1_S272x256)
    (subf (mulf g (broadcastTo S272x256 w broadcasts_S1x256_S272x256))
      (mulf (nrm x) (broadcastTo S272x256 (mulf (shapeCast S272x1
        (multiReduction .add [1] S272 (mulf (mulf g (broadcastTo S272x256 w broadcasts_S1x256_S272x256)) (nrm x)) 0x00000000#32 reduces_S272x256_S272 (.inl rfl) rfl) shapeCasts_S272_S272x1)
        (broadcast S272x1 (Named.named κ "n" 0x3BAAAAAB#32 : Ideal .f32))) broadcasts_S272x1_S272x256)))
/-- The sum over the rows of a gradient times a normed row. -/
def wsum (g x : M) : W :=
  shapeCast S1x256 (multiReduction .add [0] S256 (mulf g x) 0x00000000#32 reduces_S272x256_S256 (.inl rfl) rfl) shapeCasts_S256_S1x256

/-- Eight pieces side by side, rounded to bf16. -/
def cat8 (x0 x1 x2 x3 x4 x5 x6 x7 : L) : FVec Ideal S272x1024 .bf16 :=
  truncf .bf16 (concatenate S272x1024 1 [⟨S272x128, x0⟩, ⟨S272x128, x1⟩, ⟨S272x128, x2⟩, ⟨S272x128, x3⟩, ⟨S272x128, x4⟩, ⟨S272x128, x5⟩, ⟨S272x128, x6⟩, ⟨S272x128, x7⟩]
    concatenates_S272x128_S272x128_S272x128_S272x128_S272x128_S272x128_S272x128_S272x128_S272x1024_d1) bitsLt_bf16_f32

theorem slab_at (h : Fin 4) (v : FVec Ideal S272x1024 .f32) (r : Fin 272) (e : Fin 256) : slab h v (ix2 r e) = v (ix2 r (wcol h e)) := by
  match h with
  | 0 => unfold slab wcol; pointwise [k0_pay17]
  | 1 => unfold slab wcol; pointwise [k0_pay40]
  | 2 => unfold slab wcol; pointwise [k0_pay67]
  | 3 => unfold slab wcol; pointwise [k0_pay98]

theorem kslab_at (h : Fin 4) (v : FVec Ideal S272x1024 .f32) (p : L) (r : Fin 272) (e : Fin 256) :
    kslab h v p (ix2 r e) = join (fun l => v (ix2 r (wcol h (fst l)))) (fun l => p (ix2 r l)) e := by
  match h with
  | 0 => unfold kslab join wcol fst; pointwise [k0_pay26]
  | 1 => unfold kslab join wcol fst; pointwise [k0_pay52]
  | 2 => unfold kslab join wcol fst; pointwise [k0_pay81]
  | 3 => unfold kslab join wcol fst; pointwise [k0_pay109]

theorem lowHalf_at (u : M) (r : Fin 272) (l : Fin 128) : lowHalf u (ix2 r l) = u (ix2 r (fst l)) := by
  unfold fst
  pointwise [lowHalf]

theorem highHalf_at (u : M) (r : Fin 272) (l : Fin 128) : highHalf u (ix2 r l) = u (ix2 r (snd l)) := by
  unfold snd
  pointwise [highHalf]

/-- The kernel's choice between the two rotations of a piece is the swap of its halves. -/
theorem swap_sel (z : Fin 128 → EReal) (l : Fin 128) :
    Scalar.select (IntOp.cmpi .slt (BitVec.ofNat 32 l) 32#32) (z ⟨((l : ℕ) + 128 - 96) % 128, by omega⟩)
      (Scalar.select (IntOp.cmpi .slt (BitVec.ofNat 32 l) 64#32) (z ⟨((l : ℕ) + 128 - 32) % 128, by omega⟩) (0 : EReal)) = swap z l := by
  have e1 : IntOp.cmpi .slt (BitVec.ofNat 32 (l : ℕ)) 32#32 = if (l : ℕ) < 32 then 1#1 else 0#1 := by revert l; decide +kernel
  have e2 : IntOp.cmpi .slt (BitVec.ofNat 32 (l : ℕ)) 64#32 = if (l : ℕ) < 64 then 1#1 else 0#1 := by revert l; decide +kernel
  rw [e1, e2]
  unfold swap
  split
  · exact congrArg z (Fin.ext (by simp only; omega))
  · split
    · exact congrArg z (Fin.ext (by simp only; omega))
    · rfl

theorem back_at (u : M) (c s : L) (r : Fin 272) (e : Fin 256) :
    back u c s (ix2 r e) = join (fun l => u (ix2 r (fst l))) (turn (fun l => u (ix2 r (snd l))) (fun l => c (ix2 r l)) (fun l => s (ix2 r l))) e := by
  simp only [← lowHalf_at, ← highHalf_at]
  unfold join turn
  simp only [← swap_sel]
  unfold back
  pointwise [k0_pay25]

theorem fac_at (x : M) (r : Fin 272) : fac x (ix2 r 0) = rt inv eps (fun e => x (ix2 r e)) := by
  unfold rt
  pointwise [fac]

theorem nrm_at (x : M) (r : Fin 272) (e : Fin 256) : nrm x (ix2 r e) = x (ix2 r e) * rt inv eps (fun e => x (ix2 r e)) := by
  rw [← fac_at]
  pointwise [nrm]

theorem grad_at (x : M) (w : W) (g : M) (r : Fin 272) (e : Fin 256) :
    grad x w g (ix2 r e) = dx inv eps (fun e => x (ix2 r e)) (fun e => g (ix2 r e) * w (ix2 0 e)) e := by
  unfold dx
  simp only [← nrm_at]
  rw [← fac_at]
  pointwise [grad]

theorem wsum_at (g x : M) (e : Fin 256) : wsum g x (ix2 0 e) = ∑ r : Fin 272, g (ix2 r e) * x (ix2 r e) := by
  pointwise [wsum]

end Cert.MlaIdeal.Tile
-- ==== Proof.Mla.Row.lean ====
/- The gradients of the latent attention's projections, row by row, over the step's own arguments. -/
module

public import proofs.«01_k».proof.Proof.Mla.Tile
public import Idealize.ShloMosaic.Lib.Pipeline.ValueKit

@[expose] public section

noncomputable section

open Idealize.ShloMosaic

namespace Cert.MlaIdeal.Row

open Cert.MlaIdeal.Tile Cert.Num Cert.Rms

/-! A head's 192 lanes with 64 zeros behind them. -/

def wide (f : Fin 192 → EReal) (e : Fin 256) : EReal := if h : (e : ℕ) < 192 then f ⟨e, h⟩ else 0

theorem sum_wide (f : Fin 192 → EReal) : ∑ e, wide f e = ∑ e, f e := by
  rw [show (∑ e : Fin 256, wide f e) = ∑ e : Fin (192 + 64), wide f e from rfl, Fin.sum_univ_add]
  rw [Finset.sum_eq_zero (s := (Finset.univ : Finset (Fin 64))) fun i _ => dif_neg (by show ¬192 + (i : ℕ) < 192; omega), add_zero]
  exact Finset.sum_congr rfl fun i _ => dif_pos i.isLt

theorem wide_mul (f g : Fin 192 → EReal) (e : Fin 256) : wide f e * wide g e = wide (fun e => f e * g e) e := by
  unfold wide
  split_ifs
  · rfl
  · exact mul_zero 0

theorem wide_smul (a : EReal) (f : Fin 192 → EReal) (e : Fin 256) : wide f e * a = wide (fun e => f e * a) e := by
  unfold wide
  split_ifs
  · rfl
  · exact zero_mul a

theorem rt_wide (i z : EReal) (x : Fin 192 → EReal) : rt i z (wide x) = rt i z x := by
  unfold rt
  simp only [wide_mul, sum_wide]

theorem dx_wide (i z : EReal) (x g w : Fin 192 → EReal) (e : Fin 256) :
    dx i z (wide x) (fun e => wide g e * wide w e) e = wide (dx i z x (fun e => g e * w e)) e := by
  have s (R : EReal) : ∑ e, wide g e * wide w e * (wide x e * R) = ∑ e, g e * w e * (x e * R) := by
    rw [← sum_wide]
    refine Finset.sum_congr rfl fun e _ => ?_
    unfold wide
    split_ifs
    · rfl
    · simp
  unfold dx
  rw [rt_wide, s]
  generalize rt i z x = R
  generalize ∑ e, g e * w e * (x e * R) = S
  unfold wide
  by_cases h : (e : ℕ) < 192
  · simp only [h, ↓reduceDIte]
  · simp only [h, ↓reduceDIte, zero_mul, sub_zero, mul_zero]

/-- A rotary head turned back: the first 128 lanes pass, the last 64 turn against the angle. -/
def rb (g : Fin 192 → EReal) (c s : Fin 32 → EReal) (e : Fin 192) : EReal :=
  if (e : ℕ) < 128 then g e
  else if h : (e : ℕ) < 160 then g e * c ⟨e - 128, by omega⟩ + g ⟨e + 32, by omega⟩ * s ⟨e - 128, by omega⟩
  else g e * c ⟨e - 160, by omega⟩ + g ⟨e - 32, by omega⟩ * -s ⟨e - 160, by omega⟩

/-- The kernel's two tables over 128 lanes. -/
def ctab (c : Fin 32 → EReal) (l : Fin 128) : EReal :=
  if h : (l : ℕ) < 32 then c ⟨l, h⟩ else if h : (l : ℕ) - 32 < 32 then c ⟨l - 32, h⟩ else 0
def stab (s : Fin 32 → EReal) (l : Fin 128) : EReal :=
  if h : (l : ℕ) < 32 then -s ⟨l, h⟩ else if h : (l : ℕ) - 32 < 32 then s ⟨l - 32, h⟩ else 0

theorem turn_wide (g : Fin 192 → EReal) (c s : Fin 32 → EReal) (e : Fin 256) :
    join (fun l => wide g (fst l)) (turn (fun l => wide g (snd l)) (ctab c) (stab s)) e = wide (rb g c s) e := by
  have he := e.isLt
  unfold join turn swap ctab stab wide rb fst snd
  dsimp only
  by_cases h1 : (e : ℕ) < 128
  · have k1 : (e : ℕ) < 192 := by omega
    simp only [h1, k1, ↓reduceDIte, ↓reduceIte]
  by_cases h2 : (e : ℕ) < 160
  · have k1 : (e : ℕ) < 192 := by omega
    have k2 : 128 + ((e : ℕ) - 128) < 192 := by omega
    have k3 : (e : ℕ) - 128 < 32 := by omega
    have k4 : 128 + ((e : ℕ) - 128 + 32) < 192 := by omega
    have k5 : ¬(e : ℕ) - 128 + 32 < 32 := by omega
    have k6 : (e : ℕ) - 128 + 32 - 32 < 32 := by omega
    simp only [h1, h2, k1, k2, k3, k4, k5, k6, ↓reduceDIte, ↓reduceIte]
    exact congrArg₂ (· + ·) (congrArg₂ (· * ·) (congrArg g (Fin.ext (by dsimp only; omega))) rfl)
      (congrArg₂ (· * ·) (congrArg g (Fin.ext (by dsimp only; omega))) (congrArg s (Fin.ext (by dsimp only; omega))))
  by_cases h3 : (e : ℕ) < 192
  · have k2 : 128 + ((e : ℕ) - 128) < 192 := by omega
    have k3 : ¬(e : ℕ) - 128 < 32 := by omega
    have k4 : (e : ℕ) - 128 - 32 < 32 := by omega
    have k5 : (e : ℕ) - 128 < 64 := by omega
    have k6 : 128 + ((e : ℕ) - 128 - 32) < 192 := by omega
    simp only [h1, h2, h3, k2, k3, k4, k5, k6, ↓reduceDIte, ↓reduceIte]
    exact congrArg₂ (· + ·) (congrArg₂ (· * ·) (congrArg g (Fin.ext (by dsimp only; omega))) (congrArg c (Fin.ext (by dsimp only; omega))))
      (congrArg₂ (· * ·) (congrArg g (Fin.ext (by dsimp only; omega))) (congrArg (fun l => -s l) (Fin.ext (by dsimp only; omega))))
  · have k2 : ¬128 + ((e : ℕ) - 128) < 192 := by omega
    have k3 : ¬(e : ℕ) - 128 < 32 := by omega
    have k5 : ¬(e : ℕ) - 128 < 64 := by omega
    simp only [h1, h3, k2, k3, k5, ↓reduceDIte, ↓reduceIte, zero_mul, zero_add]

theorem turn_zero (c s : Fin 128 → EReal) (e : Fin 256) : join (fun _ => 0) (turn (fun _ => 0) c s) e = 0 := by
  unfold join turn swap
  split_ifs <;> simp

/-! Columns of four heads. -/

/-- Column `e` of head `h` among columns of four heads of 192. -/
def qcol (h : Fin 4) (e : Fin 192) : Fin 768 := ⟨h * 192 + e, by omega⟩
/-- Head and lane of one of 1024 columns. -/
def whd (c : Fin 1024) : Fin 4 := ⟨c / 256, by omega⟩
def wln (c : Fin 1024) : Fin 256 := ⟨c % 256, by omega⟩
theorem wcol_hd (c : Fin 1024) : wcol (whd c) (wln c) = c := Fin.ext (by unfold wcol whd wln; simp only; omega)
theorem whd_wcol (h : Fin 4) (e : Fin 256) : whd (wcol h e) = h := Fin.ext (by unfold wcol whd; simp only; omega)
theorem wln_wcol (h : Fin 4) (e : Fin 256) : wln (wcol h e) = e := Fin.ext (by unfold wcol wln; simp only; omega)

/-- A sum over all columns is a sum over the heads of sums over their lanes. -/
theorem sum_heads (f : Fin 1024 → EReal) : ∑ c, f c = ∑ h : Fin 4, ∑ e : Fin 256, f (wcol h e) :=
  (Fin.sum_mul_add_congr (fun h e _ => rfl)).symm
theorem sum_qheads (f : Fin 768 → EReal) : ∑ c, f c = ∑ h : Fin 4, ∑ e : Fin 192, f (qcol h e) :=
  (Fin.sum_mul_add_congr (fun h e _ => rfl)).symm

/-- The arguments of the call as plain functions. -/
structure Args where
  p : Fin 2064 → Fin 2632 → EReal
  qa : Fin 256 → EReal
  kva : Fin 256 → EReal
  wq : Fin 256 → Fin 768 → EReal
  wkv : Fin 256 → Fin 1024 → EReal
  qw : Fin 192 → EReal
  kw : Fin 192 → EReal
  dq : Fin 2064 → Fin 4 → Fin 192 → EReal
  dk : Fin 2064 → Fin 4 → Fin 192 → EReal
  dv : Fin 2064 → Fin 4 → Fin 128 → EReal

variable (a : Args) (n : Fin 2064)

abbrev len : EReal := Ideal.ofBits .f32 0x43800000#32

/-- The two latent rows, and each normed and weighted. -/
def lq (k : Fin 256) : EReal := a.p n ⟨k, by omega⟩
def lk (k : Fin 256) : EReal := a.p n ⟨256 + k, by omega⟩
def nq (k : Fin 256) : EReal := lq a n k * Ideal.rsqrt (ms len eps (lq a n)) * a.qa k
def nk (k : Fin 256) : EReal := lk a n k * Ideal.rsqrt (ms len eps (lk a n)) * a.kva k
/-- The queries, the second projection, and the keys. -/
def qf (h : Fin 4) (e : Fin 192) : EReal := ∑ k, nq a n k * a.wq k (qcol h e)
def kvf (c : Fin 1024) : EReal := ∑ k, nk a n k * a.wkv k c
def kf (h : Fin 4) (e : Fin 192) : EReal := if (e : ℕ) < 128 then kvf a n (wcol h ⟨e, by omega⟩) else a.p n ⟨512 + (e - 128), by omega⟩
/-- The row's angles. -/
def ang (n : ℕ) (k : Fin 32) : EReal := (FloatOps.sitofp .f32 (BitVec.ofNat 32 n) : Ideal .f32)
  * Ideal.pow (Ideal.ofBits .f32 0x461C4000#32) (Ideal.div (-(FloatOps.sitofp .f32 (BitVec.ofNat 32 k) : Ideal .f32)) (Ideal.ofBits .f32 0x42000000#32))
def cs (k : Fin 32) : EReal := Ideal.cos (ang n k)
def sn (k : Fin 32) : EReal := Ideal.sin (ang n k)
/-- The gradients of queries and keys before the rotation, and before the norm. -/
def gq (h : Fin 4) : Fin 192 → EReal := rb (a.dq n h) (cs n) (sn n)
def gk (h : Fin 4) : Fin 192 → EReal := rb (a.dk n h) (cs n) (sn n)
def oq (h : Fin 4) : Fin 192 → EReal := dx inv eps (qf a n h) (fun e => gq a n h e * a.qw e)
def ok (h : Fin 4) : Fin 192 → EReal := dx inv eps (kf a n h) (fun e => gk a n h e * a.kw e)
def okv (h : Fin 4) (e : Fin 256) : EReal := join (fun l => ok a n h ⟨l, by omega⟩) (a.dv n h) e
def kpe (l : Fin 128) : EReal := if h : (l : ℕ) < 64 then ∑ h : Fin 4, ok a n h ⟨128 + l, by omega⟩ else 0
/-- The gradients that reach the latents behind their norms, and the latents themselves. -/
def hq (k : Fin 256) : EReal := ∑ h, ∑ e, oq a n h e * a.wq k (qcol h e)
def hk (k : Fin 256) : EReal := ∑ c, okv a n (whd c) (wln c) * a.wkv k c
def dql : Fin 256 → EReal := dx inw eps (lq a n) (fun k => hq a n k * a.qa k)
def dkvl : Fin 256 → EReal := dx inw eps (lk a n) (fun k => hk a n k * a.kva k)
/-- What a row adds to the gradients of the four weights. -/
def qwAt (e : Fin 192) : EReal := ∑ h, gq a n h e * (qf a n h e * rt inv eps (qf a n h))
def kwAt (e : Fin 192) : EReal := ∑ h, gk a n h e * (kf a n h e * rt inv eps (kf a n h))
def qaAt (k : Fin 256) : EReal := hq a n k * (lq a n k * rt inw eps (lq a n))
def kvaAt (k : Fin 256) : EReal := hk a n k * (lk a n k * rt inw eps (lk a n))

end Cert.MlaIdeal.Row

end
-- ==== Proof.Mla.Host.lean ====
/- The arrays the host code of the MLA backward prepares for the kernel, as rows of the arguments. -/
module

public import proofs.«01_k».proof.Proof.Gen.MlaIdeal.Frame.Runs
public import proofs.«01_k».proof.Proof.Mla.Row
public import proofs.«01_k».proof.Proof.Common.Pad
public import proofs.«01_k».proof.Proof.Common.Cols
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MlaIdeal.Entry

open Cert.MlaIdeal Cert.MlaIdeal.Gen Cert.MlaIdeal.Tile Cert.MlaIdeal.Row Cert.Num Cert.Pad Cert.Cols

variable (m : (ℓ : Loc nD τ sig) → Buf (Elt Ideal) ℓ)

/-- The arguments of one device. -/
def args (c : Dev nD) : Args where
  p n j := m ((c : Thread nD τ).loc main_arg0) (ix2 n j)
  qa k := m ((c : Thread nD τ).loc main_arg1) (ix2 0 k)
  kva k := m ((c : Thread nD τ).loc main_arg2) (ix2 0 k)
  wq k j := m ((c : Thread nD τ).loc main_arg3) (ix2 k j)
  wkv k j := m ((c : Thread nD τ).loc main_arg4) (ix2 k j)
  qw e := m ((c : Thread nD τ).loc main_arg5) (ix2 0 e)
  kw e := m ((c : Thread nD τ).loc main_arg6) (ix2 0 e)
  dq n h e := m ((c : Thread nD τ).loc main_arg7) (ix3 n h e)
  dk n h e := m ((c : Thread nD τ).loc main_arg8) (ix3 n h e)
  dv n h e := m ((c : Thread nD τ).loc main_arg9) (ix3 n h e)

/-- An entry of an array of four heads with zero rows in front and zero lanes behind. -/
theorem ext_head (f : Fin 2064 → Fin 4 → Fin 192 → EReal) (r : Fin 2176) (k : Fin 1024) (z : EReal) (hz : z = 0) :
    (if h : (112 ≤ (r : ℕ) ∧ (r : ℕ) - 112 < 2064) ∧ (k : ℕ) / 256 < 4 ∧ (k : ℕ) % 256 < 192 then
      f ⟨r - 112, h.1.2⟩ ⟨k / 256, h.2.1⟩ ⟨k % 256, h.2.2⟩ else z) = ext (fun n => wide (f n (whd k)) (wln k)) r := by
  rw [← ext_pad (fun n => wide (f n (whd k)) (wln k)) r z hz]
  unfold wide whd wln
  by_cases h1 : 112 ≤ (r : ℕ) ∧ (r : ℕ) - 112 < 2064
  · rw [dif_pos h1]
    by_cases h2 : (k : ℕ) % 256 < 192
    · rw [dif_pos ⟨h1, by omega, h2⟩, dif_pos h2]
    · rw [dif_neg (fun q => h2 q.2.2), dif_neg h2, hz]
  · rw [dif_neg h1, dif_neg (fun q => h1 q.1)]

/-- An entry of a weight of four heads with zero lanes behind each. -/
theorem pad_head (f : Fin 768 → EReal) (j : Fin 1024) (z : EReal) (hz : z = 0) :
    (if h : (j : ℕ) / 256 < 4 ∧ (j : ℕ) % 256 < 192 then f ⟨j / 256 * 192 + j % 256, by omega⟩ else z)
      = wide (fun e => f (qcol (whd j) e)) (wln j) := by
  unfold wide
  have h4 : (j : ℕ) / 256 < 4 := by omega
  by_cases h : (j : ℕ) % 256 < 192
  · have h' : ((wln j : Fin 256) : ℕ) < 192 := h
    rw [dif_pos h', dif_pos (And.intro h4 h)]
    rfl
  · have h' : ¬((wln j : Fin 256) : ℕ) < 192 := h
    rw [dif_neg h', dif_neg (fun q => h q.2), hz]

theorem host72 (c : Dev nD) (r : Fin 2176) (k : Fin 1024) : V m c main_v72 (ix2 r k) = ext (fun n => wide (qf (args m c) n (whd k)) (wln k)) r := by
  unfold V
  simp only [List.flatten_cons, List.flatten_nil, List.append_nil, List.cons_append, List.nil_append]
  after_reads_at
  exact ext_head (qf (args m c)) r k _ zero32

theorem host69 (c : Dev nD) (r : Fin 2176) (k : Fin 1024) : V m c main_v69 (ix2 r k) = ext (fun n => kvf (args m c) n k) r := by
  unfold V
  simp only [List.flatten_cons, List.flatten_nil, List.append_nil, List.cons_append, List.nil_append]
  after_reads_at
  exact ext_pad (fun n => kvf (args m c) n k) r _ zero32

theorem host74 (c : Dev nD) (r : Fin 2176) (k : Fin 1024) : V m c main_v74 (ix2 r k) = ext (fun n => wide ((args m c).dq n (whd k)) (wln k)) r := by
  unfold V
  simp only [List.flatten_cons, List.flatten_nil, List.append_nil, List.cons_append, List.nil_append]
  after_reads_at
  exact ext_head (args m c).dq r k _ zero32

theorem host76 (c : Dev nD) (r : Fin 2176) (k : Fin 1024) : V m c main_v76 (ix2 r k) = ext (fun n => wide ((args m c).dk n (whd k)) (wln k)) r := by
  unfold V
  simp only [List.flatten_cons, List.flatten_nil, List.append_nil, List.cons_append, List.nil_append]
  after_reads_at
  exact ext_head (args m c).dk r k _ zero32

theorem host78 (c : Dev nD) (r : Fin 2176) (k : Fin 512) : V m c main_v78 (ix2 r k)
    = ext (fun n => (args m c).dv n ⟨k / 128, by omega⟩ ⟨k % 128, by omega⟩) r := by
  unfold V
  simp only [List.flatten_cons, List.flatten_nil, List.append_nil, List.cons_append, List.nil_append]
  after_reads_at
  exact ext_pad (fun n => (args m c).dv n ⟨k / 128, by omega⟩ ⟨k % 128, by omega⟩) r _ zero32

set_option maxHeartbeats 2000000 in
theorem host32 (c : Dev nD) (r : Fin 2176) (k : Fin 2816) : V m c main_v32 (ix2 r k)
    = cols (fun j => ext (fun n => (args m c).p n j) r) k := by
  unfold V
  simp only [List.flatten_cons, List.flatten_nil, List.append_nil, List.cons_append, List.nil_append]
  after_reads_at
  all_goals after_reads_at
  exact cols_pad (args m c).p r k _ zero32

/-- The rows' angles as the padded rows count them. -/
theorem back112 (n : ℕ) (h : n < 2064) : IntOp.subi (BitVec.ofNat 32 (112 + n)) 112#32 = BitVec.ofNat 32 n := by
  unfold IntOp.subi
  apply BitVec.eq_of_toNat_eq
  simp only [BitVec.toNat_sub, BitVec.toNat_ofNat]
  omega

theorem host18 (c : Dev nD) (n : Fin 2064) (l : Fin 128) : V m c main_v18 (ix2 (⟨112 + n, by omega⟩ : Fin 2176) l) = ctab (cs n) l := by
  unfold V
  simp only [List.flatten_cons, List.flatten_nil, List.append_nil, List.cons_append, List.nil_append]
  after_reads_at
  all_goals after_reads_at
  simp only [back112 n n.isLt]
  rfl

theorem host22 (c : Dev nD) (n : Fin 2064) (l : Fin 128) : V m c main_v22 (ix2 (⟨112 + n, by omega⟩ : Fin 2176) l) = stab (sn n) l := by
  unfold V
  simp only [List.flatten_cons, List.flatten_nil, List.append_nil, List.cons_append, List.nil_append]
  after_reads_at
  all_goals after_reads_at
  simp only [back112 n n.isLt]
  rfl

theorem host37 (c : Dev nD) (j : Fin 1024) (k : Fin 256) : V m c main_v37 (ix2 j k) = wide (fun e => (args m c).wq k (qcol (whd j) e)) (wln j) := by
  unfold V
  simp only [List.flatten_cons, List.flatten_nil, List.append_nil, List.cons_append, List.nil_append]
  after_reads_at
  exact pad_head (fun i => (args m c).wq k i) j _ zero32

theorem host38 (c : Dev nD) (k : Fin 256) (j : Fin 1024) : V m c main_v38 (ix2 k j) = (args m c).wkv k j := by
  unfold V
  simp only [List.flatten_cons, List.flatten_nil, List.append_nil, List.cons_append, List.nil_append]
  after_reads_at
  try rfl

theorem host39 (c : Dev nD) (e : Fin 256) : V m c main_v39 (ix2 0 e) = wide (args m c).qw e := by
  unfold V
  simp only [List.flatten_cons, List.flatten_nil, List.append_nil, List.cons_append, List.nil_append]
  after_reads_at
  rw [zero32]
  rfl

theorem host40 (c : Dev nD) (e : Fin 256) : V m c main_v40 (ix2 0 e) = wide (args m c).kw e := by
  unfold V
  simp only [List.flatten_cons, List.flatten_nil, List.append_nil, List.cons_append, List.nil_append]
  after_reads_at
  rw [zero32]
  rfl

theorem host1 (c : Dev nD) (k : Fin 256) : V m c main_arg1 (ix2 0 k) = (args m c).qa k := by
  unfold V
  simp only [List.flatten_cons, List.flatten_nil, List.append_nil, List.cons_append, List.nil_append]
  after_reads_at
  try rfl

theorem host2 (c : Dev nD) (k : Fin 256) : V m c main_arg2 (ix2 0 k) = (args m c).kva k := by
  unfold V
  simp only [List.flatten_cons, List.flatten_nil, List.append_nil, List.cons_append, List.nil_append]
  after_reads_at
  try rfl

end Cert.MlaIdeal.Entry
-- ==== Proof.Mla.Entry.lean ====
/- The blocks the MLA backward kernel reads at a grid point, as rows of the arguments. -/
module

public import proofs.«01_k».proof.Proof.Mla.Host
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaIdeal.Entry

open Cert.MlaIdeal Cert.MlaIdeal.Gen Cert.MlaIdeal.Tile Cert.MlaIdeal.Row Cert.Num Cert.Pad Cert.Cols

variable (m : (ℓ : Loc nD τ sig) → Buf (Elt Ideal) ℓ)

theorem cols_q (f : Fin 2632 → EReal) (k : Fin 256) (h : 2048 + (k : ℕ) < 2816) : cols f ⟨2048 + k, h⟩ = f ⟨k, by omega⟩ := by
  unfold cols
  rw [dif_neg (by simp only; omega), dif_neg (by simp only; omega), dif_pos (by simp only; omega)]
  exact congrArg f (Fin.ext (by simp only; omega))

theorem cols_kv (f : Fin 2632 → EReal) (k : Fin 256) (h : 2304 + (k : ℕ) < 2816) : cols f ⟨2304 + k, h⟩ = f ⟨256 + k, by omega⟩ := by
  unfold cols
  rw [dif_neg (by simp only; omega), dif_neg (by simp only; omega), dif_neg (by simp only; omega), dif_pos (by simp only; omega)]
  exact congrArg f (Fin.ext (by simp only; omega))

theorem cols_pe (f : Fin 2632 → EReal) (l : Fin 128) (h : 2560 + (l : ℕ) < 2816) :
    cols f ⟨2560 + l, h⟩ = if h : (l : ℕ) < 64 then f ⟨512 + l, by omega⟩ else 0 := by
  unfold cols
  rw [dif_neg (by simp only; omega), dif_neg (by simp only; omega), dif_neg (by simp only; omega), dif_neg (by simp only; omega)]
  by_cases h : (l : ℕ) < 64
  · rw [dif_pos (by simp only; omega), dif_pos h]
    exact congrArg f (Fin.ext (by simp only; omega))
  · rw [dif_neg (by simp only; omega), if_pos (by simp only; omega), dif_neg h]

theorem idx_in : ∀ t : Fin cfg0.N, win0_0.index t = ![t.val, 0] ∧ win0_1.index t = ![t.val, 0] ∧ win0_2.index t = ![t.val, 20]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 8] ∧ win0_9.index t = ![t.val, 9] :=
  (by decide +kernel : ∀ t : Fin grid0.N, _)

theorem idx_w : ∀ t : Fin cfg0.N, win0_10.index t = ![0, 0]
    ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem idx_out : ∀ t : Fin cfg0.N, win0_16.index t = ![t.val, 0] ∧ win0_17.index t = ![t.val, 0] ∧ win0_18.index t = ![t.val, 0]
    ∧ win0_19.index t = ![t.val, 0] ∧ win0_20.index t = ![t.val, 0] ∧ win0_21.index t = ![0, 0] ∧ win0_22.index t = ![0, 0]
    ∧ win0_23.index t = ![0, 0] ∧ win0_24.index t = ![0, 0] :=
  (by decide +kernel : ∀ t : Fin grid0.N, _)

/-- The grid's one coordinate counts its points. -/
theorem at_pt (t : Fin cfg0.N) : t.val < 8 := lt_of_lt_of_eq t.isLt (show cfg0.N = 8 from N_0)

variable (c : Dev nD) (t : Fin cfg0.N)

def blk0 : FVec Ideal S272x1024 .f32 := iblk m c 0 t
def blk1 : FVec Ideal S272x1024 .f32 := iblk m c 1 t
def blk2 : FVec Ideal S272x128 .f32 := iblk m c 2 t
def blk3 : FVec Ideal S272x128 .f32 := iblk m c 3 t
def blk4 : FVec Ideal S272x128 .f32 := iblk m c 4 t
def blk5 : FVec Ideal S272x1024 .f32 := iblk m c 5 t
def blk6 : FVec Ideal S272x1024 .f32 := iblk m c 6 t
def blk7 : FVec Ideal S272x512 .f32 := iblk m c 7 t
def blk8 : FVec Ideal S272x256 .f32 := iblk m c 8 t
def blk9 : FVec Ideal S272x256 .f32 := iblk m c 9 t
def blk10 : FVec Ideal S1x256 .f32 := iblk m c 10 t
def blk11 : FVec Ideal S1x256 .f32 := iblk m c 11 t
def blk12 : FVec Ideal S1024x256 .bf16 := iblk m c 12 t
def blk13 : FVec Ideal S256x1024 .bf16 := iblk m c 13 t
def blk14 : FVec Ideal S1x256 .f32 := iblk m c 14 t
def blk15 : FVec Ideal S1x256 .f32 := iblk m c 15 t

variable (r : Fin 272)

theorem block0 (h : Fin 4) (e : Fin 256) : blk0 m c t (ix2 r (wcol h e)) = ext (fun n => wide (qf (args m c) n h) e) (t.val * 272 + r) := by
  have ht := at_pt t
  have e' : (win0_0.blk t).view.emb (ix2 r (wcol h e)) = ix2 (⟨t.val * 272 + r, by omega⟩ : Fin 2176) (wcol h e) := by blk_ext [idx_in t]
  unfold blk0
  blk_simp [iblk]
  rw [e', host72, whd_wcol, wln_wcol]

theorem block1 (j : Fin 1024) : blk1 m c t (ix2 r j) = ext (fun n => kvf (args m c) n j) (t.val * 272 + r) := by
  have ht := at_pt t
  have e' : (win0_1.blk t).view.emb (ix2 r j) = ix2 (⟨t.val * 272 + r, by omega⟩ : Fin 2176) j := by blk_ext [idx_in t]
  unfold blk1
  blk_simp [iblk]
  rw [e', host69]

theorem block2 (l : Fin 128) : blk2 m c t (ix2 r l)
    = if h : (l : ℕ) < 64 then ext (fun n => (args m c).p n ⟨512 + l, by omega⟩) (t.val * 272 + r) else 0 := by
  have ht := at_pt t
  have e' : (win0_2.blk t).view.emb (ix2 r l) = ix2 (⟨t.val * 272 + r, by omega⟩ : Fin 2176) (⟨2560 + l, by omega⟩ : Fin 2816) := by blk_ext [idx_in t]
  unfold blk2
  blk_simp [iblk]
  rw [e', host32, cols_pe]

theorem block3 (n : Fin 2064) (hn : t.val * 272 + (r : ℕ) = 112 + n) (l : Fin 128) : blk3 m c t (ix2 r l) = ctab (cs n) l := by
  have ht := at_pt t
  have e' : (win0_3.blk t).view.emb (ix2 r l) = ix2 (⟨112 + n, by omega⟩ : Fin 2176) l := by blk_ext [idx_in t]
  unfold blk3
  blk_simp [iblk]
  rw [e', host18]

theorem block4 (n : Fin 2064) (hn : t.val * 272 + (r : ℕ) = 112 + n) (l : Fin 128) : blk4 m c t (ix2 r l) = stab (sn n) l := by
  have ht := at_pt t
  have e' : (win0_4.blk t).view.emb (ix2 r l) = ix2 (⟨112 + n, by omega⟩ : Fin 2176) l := by blk_ext [idx_in t]
  unfold blk4
  blk_simp [iblk]
  rw [e', host22]

theorem block5 (h : Fin 4) (e : Fin 256) : blk5 m c t (ix2 r (wcol h e)) = ext (fun n => wide ((args m c).dq n h) e) (t.val * 272 + r) := by
  have ht := at_pt t
  have e' : (win0_5.blk t).view.emb (ix2 r (wcol h e)) = ix2 (⟨t.val * 272 + r, by omega⟩ : Fin 2176) (wcol h e) := by blk_ext [idx_in t]
  unfold blk5
  blk_simp [iblk]
  rw [e', host74, whd_wcol, wln_wcol]

theorem block6 (h : Fin 4) (e : Fin 256) : blk6 m c t (ix2 r (wcol h e)) = ext (fun n => wide ((args m c).dk n h) e) (t.val * 272 + r) := by
  have ht := at_pt t
  have e' : (win0_6.blk t).view.emb (ix2 r (wcol h e)) = ix2 (⟨t.val * 272 + r, by omega⟩ : Fin 2176) (wcol h e) := by blk_ext [idx_in t]
  unfold blk6
  blk_simp [iblk]
  rw [e', host76, whd_wcol, wln_wcol]

theorem block7 (h : Fin 4) (l : Fin 128) : blk7 m c t (ix2 r (⟨h * 128 + l, by omega⟩ : Fin 512)) = ext (fun n => (args m c).dv n h l) (t.val * 272 + r) := by
  have ht := at_pt t
  have e' : (win0_7.blk t).view.emb (ix2 r (⟨h * 128 + l, by omega⟩ : Fin 512)) = ix2 (⟨t.val * 272 + r, by omega⟩ : Fin 2176) (⟨h * 128 + l, by omega⟩ : Fin 512) := by blk_ext [idx_in t]
  unfold blk7
  blk_simp [iblk]
  rw [e', host78]
  refine congrArg (fun f => ext f (t.val * 272 + r)) (funext fun n => ?_)
  exact congrArg₂ ((args m c).dv n) (Fin.ext (by simp only; omega)) (Fin.ext (by simp only; omega))

theorem block8 (k : Fin 256) : blk8 m c t (ix2 r k) = ext (fun n => lq (args m c) n k) (t.val * 272 + r) := by
  have ht := at_pt t
  have e' : (win0_8.blk t).view.emb (ix2 r k) = ix2 (⟨t.val * 272 + r, by omega⟩ : Fin 2176) (⟨2048 + k, by omega⟩ : Fin 2816) := by blk_ext [idx_in t]
  unfold blk8
  blk_simp [iblk]
  rw [e', host32, cols_q]
  rfl

theorem block9 (k : Fin 256) : blk9 m c t (ix2 r k) = ext (fun n => lk (args m c) n k) (t.val * 272 + r) := by
  have ht := at_pt t
  have e' : (win0_9.blk t).view.emb (ix2 r k) = ix2 (⟨t.val * 272 + r, by omega⟩ : Fin 2176) (⟨2304 + k, by omega⟩ : Fin 2816) := by blk_ext [idx_in t]
  unfold blk9
  blk_simp [iblk]
  rw [e', host32, cols_kv]
  rfl

theorem block10 (k : Fin 256) : blk10 m c t (ix2 0 k) = (args m c).qa k := by
  have e' : (win0_10.blk t).view.emb (ix2 0 k) = ix2 0 k := by blk_ext [idx_w t]
  unfold blk10
  blk_simp [iblk]
  rw [e', host1]

theorem block11 (k : Fin 256) : blk11 m c t (ix2 0 k) = (args m c).kva k := by
  have e' : (win0_11.blk t).view.emb (ix2 0 k) = ix2 0 k := by blk_ext [idx_w t]
  unfold blk11
  blk_simp [iblk]
  rw [e', host2]

theorem block12 (h : Fin 4) (e k : Fin 256) : blk12 m c t (ix2 (wcol h e) k) = wide (fun e => (args m c).wq k (qcol h e)) e := by
  have e' : (win0_12.blk t).view.emb (ix2 (wcol h e) k) = ix2 (wcol h e) k := by blk_ext [idx_w t]
  unfold blk12
  blk_simp [iblk]
  rw [e', host37, whd_wcol, wln_wcol]

theorem block13 (k : Fin 256) (j : Fin 1024) : blk13 m c t (ix2 k j) = (args m c).wkv k j := by
  have e' : (win0_13.blk t).view.emb (ix2 k j) = ix2 k j := by blk_ext [idx_w t]
  unfold blk13
  blk_simp [iblk]
  rw [e', host38]

theorem block14 (e : Fin 256) : blk14 m c t (ix2 0 e) = wide (args m c).qw e := by
  have e' : (win0_14.blk t).view.emb (ix2 0 e) = ix2 0 e := by blk_ext [idx_w t]
  unfold blk14
  blk_simp [iblk]
  rw [e', host39]

theorem block15 (e : Fin 256) : blk15 m c t (ix2 0 e) = wide (args m c).kw e := by
  have e' : (win0_15.blk t).view.emb (ix2 0 e) = ix2 0 e := by blk_ext [idx_w t]
  unfold blk15
  blk_simp [iblk]
  rw [e', host40]

end Cert.MlaIdeal.Entry
-- ==== Proof.Mla.Block.lean ====
/- What one grid point of the MLA backward kernel writes, at an index, as formulas in the blocks it reads: every head's gradients
   are the same few functions of that head's columns. -/
module

public import proofs.«01_k».proof.Proof.Mla.Row
public import proofs.«01_k».proof.Proof.Mla.Values

@[expose] public section

set_option maxRecDepth 16384

noncomputable section

open Idealize.ShloMosaic Idealize.ShloMosaic.TcCoe Idealize.SL.Sem

namespace Cert.MlaIdeal.Block

open Cert.MlaIdeal.Row (whd wln wcol_hd)
open Cert.MlaIdeal Cert.MlaIdeal.Gen Cert.MlaIdeal.Tile Cert.MlaIdeal.Body Cert.Num Cert.Rms Cert.Heads

variable (x : Ins Ideal)

/-- Head `h`'s query and key rows, their gradients turned back, and the gradients through the two norms. -/
def qs (h : Fin 4) : M := slab h (v1 x)
def ks (h : Fin 4) : M := kslab h (v3 x) (v5 x)
def qb (h : Fin 4) : M := back (slab h (v11 x)) (v7 x) (v9 x)
def kb (h : Fin 4) : M := back (slab h (v13 x)) (v7 x) (v9 x)
def gq (h : Fin 4) : M := grad (qs x h) (v27 x) (qb x h)
def gk (h : Fin 4) : M := grad (ks x h) (v29 x) (kb x h)

theorem v69_eq : v69 x = gq x 0 := rfl
theorem v72_eq : v72 x = wsum (qb x 0) (nrm (qs x 0)) := rfl
theorem v115_eq : v115 x = lowHalf (gk x 0) := rfl
theorem v117_eq : v117 x = highHalf (gk x 0) := rfl
theorem v119_eq : v119 x = wsum (kb x 0) (nrm (ks x 0)) := rfl

theorem v159_eq : v159 x = gq x 1 := rfl
theorem v163_eq : v163 x = addf (v72 x) (wsum (qb x 1) (nrm (qs x 1))) := rfl
theorem v206_eq : v206 x = lowHalf (gk x 1) := rfl
theorem v209_eq : v209 x = addf (v117 x) (highHalf (gk x 1)) := rfl
theorem v212_eq : v212 x = addf (v119 x) (wsum (kb x 1) (nrm (ks x 1))) := rfl

theorem v252_eq : v252 x = gq x 2 := rfl
theorem v256_eq : v256 x = addf (v163 x) (wsum (qb x 2) (nrm (qs x 2))) := rfl
theorem v299_eq : v299 x = lowHalf (gk x 2) := rfl
theorem v302_eq : v302 x = addf (v209 x) (highHalf (gk x 2)) := rfl
theorem v305_eq : v305 x = addf (v212 x) (wsum (kb x 2) (nrm (ks x 2))) := rfl

theorem v345_eq : v345 x = gq x 3 := rfl
theorem v349_eq : v349 x = addf (v256 x) (wsum (qb x 3) (nrm (qs x 3))) := rfl
theorem v395_eq : v395 x = addf (v302 x) (highHalf (gk x 3)) := rfl
theorem v398_eq : v398 x = addf (v305 x) (wsum (kb x 3) (nrm (ks x 3))) := rfl

/-- The part of `v402` that head `h` of the values takes. -/
def vs (v : FVec Ideal S272x512 .f32) (h : Fin 4) : L :=
  match h with
  | 0 => k0_pay31 v
  | 1 => k0_pay57 v
  | 2 => k0_pay86 v
  | 3 => extractStridedSlice S272x128 ![0, 384] v slices_S272x512_o0_384_S272x128

theorem v402_eq : v402 x = cat8 (lowHalf (gk x 0)) (vs (v15 x) 0) (lowHalf (gk x 1)) (vs (v15 x) 1) (lowHalf (gk x 2)) (vs (v15 x) 2) (lowHalf (gk x 3)) (vs (v15 x) 3) := rfl

/-! The formulas, row by row. -/

/-- A query's or key's row: `Q` its columns by head. -/
def xq (h : Fin 4) (r : Fin 272) (e : Fin 256) : EReal := x.qf (ix2 r (wcol h e))
def xk (h : Fin 4) (r : Fin 272) (e : Fin 256) : EReal := join (fun l => x.kvf (ix2 r (wcol h (fst l)))) (fun l => x.kpe (ix2 r l)) e
/-- A gradient's row turned back. -/
def bq (h : Fin 4) (r : Fin 272) (e : Fin 256) : EReal :=
  join (fun l => x.dq (ix2 r (wcol h (fst l)))) (turn (fun l => x.dq (ix2 r (wcol h (snd l)))) (fun l => x.cos (ix2 r l)) (fun l => x.sin (ix2 r l))) e
def bk (h : Fin 4) (r : Fin 272) (e : Fin 256) : EReal :=
  join (fun l => x.dk (ix2 r (wcol h (fst l)))) (turn (fun l => x.dk (ix2 r (wcol h (snd l)))) (fun l => x.cos (ix2 r l)) (fun l => x.sin (ix2 r l))) e
/-- The gradients of the unnormed rows. -/
def oq (h : Fin 4) (r : Fin 272) (e : Fin 256) : EReal := dx inv eps (xq x h r) (fun e => bq x h r e * x.qw (ix2 0 e)) e
def ok (h : Fin 4) (r : Fin 272) (e : Fin 256) : EReal := dx inv eps (xk x h r) (fun e => bk x h r e * x.kw (ix2 0 e)) e
/-- The values' columns of the second projection's gradient stand after the key's. -/
def okv (h : Fin 4) (r : Fin 272) (e : Fin 256) : EReal :=
  join (fun l => ok x h r (fst l)) (fun l => x.dv (ix2 r ⟨h * 128 + l, by omega⟩)) e

/-- The gradients that reach the two latents. -/
def hq (r : Fin 272) (k : Fin 256) : EReal := ∑ c, oq x (whd c) r (wln c) * x.wq (ix2 c k)
def hk (r : Fin 272) (k : Fin 256) : EReal := ∑ c, okv x (whd c) r (wln c) * x.wkv (ix2 k c)

theorem v1_at (i) : v1 x i = x.qf i := by unfold v1; pointwise [k0_pay2]
theorem v3_at (i) : v3 x i = x.kvf i := by unfold v3; pointwise [k0_pay3]
theorem v5_at (i) : v5 x i = x.kpe i := by unfold v5; pointwise [k0_pay4]
theorem v7_at (i) : v7 x i = x.cos i := by unfold v7; pointwise [k0_pay5]
theorem v9_at (i) : v9 x i = x.sin i := by unfold v9; pointwise [k0_pay6]
theorem v11_at (i) : v11 x i = x.dq i := by unfold v11; pointwise [k0_pay7]
theorem v13_at (i) : v13 x i = x.dk i := by unfold v13; pointwise [k0_pay8]
theorem v15_at (i) : v15 x i = x.dv i := by unfold v15; pointwise [k0_pay9]
theorem v17_at (i) : v17 x i = x.ql i := by unfold v17; pointwise [k0_pay10]
theorem v19_at (i) : v19 x i = x.kvl i := by unfold v19; pointwise [k0_pay11]
theorem v23_at (i) : v23 x i = x.wq i := by unfold v23; pointwise [k0_pay12]
theorem v25_at (i) : v25 x i = x.wkv i := by unfold v25; pointwise [k0_pay13]
theorem v27_at (i) : v27 x i = x.qw i := by unfold v27; pointwise [k0_pay14]
theorem v29_at (i) : v29 x i = x.kw i := by unfold v29; pointwise [k0_pay15]

theorem qs_at (h : Fin 4) (r : Fin 272) (e : Fin 256) : qs x h (ix2 r e) = xq x h r e := by unfold qs xq; rw [slab_at, v1_at]
theorem ks_at (h : Fin 4) (r : Fin 272) (e : Fin 256) : ks x h (ix2 r e) = xk x h r e := by unfold ks xk; rw [kslab_at]; simp only [v3_at, v5_at]
theorem qb_at (h : Fin 4) (r : Fin 272) (e : Fin 256) : qb x h (ix2 r e) = bq x h r e := by
  unfold qb bq; rw [back_at]; simp only [slab_at, v11_at, v7_at, v9_at]
theorem kb_at (h : Fin 4) (r : Fin 272) (e : Fin 256) : kb x h (ix2 r e) = bk x h r e := by
  unfold kb bk; rw [back_at]; simp only [slab_at, v13_at, v7_at, v9_at]
theorem gq_at (h : Fin 4) (r : Fin 272) (e : Fin 256) : gq x h (ix2 r e) = oq x h r e := by
  unfold gq oq; rw [grad_at]; simp only [qs_at, qb_at, v27_at]
theorem gk_at (h : Fin 4) (r : Fin 272) (e : Fin 256) : gk x h (ix2 r e) = ok x h r e := by
  unfold gk ok; rw [grad_at]; simp only [ks_at, kb_at, v29_at]

theorem vs_at (h : Fin 4) (r : Fin 272) (l : Fin 128) : vs (v15 x) h (ix2 r l) = x.dv (ix2 r ⟨h * 128 + l, by omega⟩) := by
  rw [← v15_at]
  match h with
  | 0 => unfold vs; pointwise [k0_pay31]
  | 1 => unfold vs; pointwise [k0_pay57]
  | 2 => unfold vs; pointwise [k0_pay86]
  | 3 => pointwise [vs]

/-- The first projection's gradient. -/
theorem out401 (h : Fin 4) (r : Fin 272) (e : Fin 256) : v401 x (ix2 r (wcol h e)) = oq x h r e := by
  rw [← gq_at]
  unfold v401
  rw [v69_eq, v159_eq, v252_eq, v345_eq]
  generalize gq x = g
  match h with
  | 0 => unfold wcol; pointwise [k0_pay115]
  | 1 => unfold wcol; pointwise [k0_pay115]
  | 2 =>
    unfold wcol
    pointwise [k0_pay115]
    split_ifs <;> first
      | (exfalso; omega)
      | exact congrArg (fun l => g 2 (ix2 r l)) (Fin.ext (by first | omega | (simp only; omega)))
  | 3 =>
    unfold wcol
    pointwise [k0_pay115]
    split_ifs <;> first
      | (exfalso; omega)
      | exact congrArg (fun l => g 3 (ix2 r l)) (Fin.ext (by first | omega | (simp only; omega)))

/-- The second projection's gradient. -/
theorem out402 (h : Fin 4) (r : Fin 272) (e : Fin 256) : v402 x (ix2 r (wcol h e)) = okv x h r e := by
  unfold okv
  simp only [← gk_at, ← vs_at, ← lowHalf_at]
  rw [v402_eq]
  generalize gk x = g
  generalize vs (v15 x) = w
  unfold join
  match h with
  | 0 =>
    unfold wcol
    pointwise [cat8]
    split_ifs <;> first
      | (exfalso; omega)
      | exact congrArg (fun l => lowHalf (g 0) (ix2 r l)) (Fin.ext (by first | omega | (simp only; omega)))
      | (refine Eq.trans ?_ (dif_pos (by omega)).symm; exact congrArg (fun l => lowHalf (g 0) (ix2 r l)) (Fin.ext (by first | omega | (simp only; omega))))
      | exact congrArg (fun l => w 0 (ix2 r l)) (Fin.ext (by first | omega | (simp only; omega)))
      | (refine Eq.trans ?_ (dif_neg (by omega)).symm; exact congrArg (fun l => w 0 (ix2 r l)) (Fin.ext (by first | omega | (simp only; omega))))
  | 1 =>
    unfold wcol
    pointwise [cat8]
    split_ifs <;> first
      | (exfalso; omega)
      | exact congrArg (fun l => lowHalf (g 1) (ix2 r l)) (Fin.ext (by first | omega | (simp only; omega)))
      | (refine Eq.trans ?_ (dif_pos (by omega)).symm; exact congrArg (fun l => lowHalf (g 1) (ix2 r l)) (Fin.ext (by first | omega | (simp only; omega))))
      | exact congrArg (fun l => w 1 (ix2 r l)) (Fin.ext (by first | omega | (simp only; omega)))
      | (refine Eq.trans ?_ (dif_neg (by omega)).symm; exact congrArg (fun l => w 1 (ix2 r l)) (Fin.ext (by first | omega | (simp only; omega))))
  | 2 =>
    unfold wcol
    pointwise [cat8]
    split_ifs <;> first
      | (exfalso; omega)
      | exact congrArg (fun l => lowHalf (g 2) (ix2 r l)) (Fin.ext (by first | omega | (simp only; omega)))
      | (refine Eq.trans ?_ (dif_pos (by omega)).symm; exact congrArg (fun l => lowHalf (g 2) (ix2 r l)) (Fin.ext (by first | omega | (simp only; omega))))
      | exact congrArg (fun l => w 2 (ix2 r l)) (Fin.ext (by first | omega | (simp only; omega)))
      | (refine Eq.trans ?_ (dif_neg (by omega)).symm; exact congrArg (fun l => w 2 (ix2 r l)) (Fin.ext (by first | omega | (simp only; omega))))
  | 3 =>
    unfold wcol
    pointwise [cat8]
    split_ifs <;> first
      | (exfalso; omega)
      | exact congrArg (fun l => lowHalf (g 3) (ix2 r l)) (Fin.ext (by first | omega | (simp only; omega)))
      | (refine Eq.trans ?_ (dif_pos (by omega)).symm; exact congrArg (fun l => lowHalf (g 3) (ix2 r l)) (Fin.ext (by first | omega | (simp only; omega))))
      | exact congrArg (fun l => w 3 (ix2 r l)) (Fin.ext (by first | omega | (simp only; omega)))
      | (refine Eq.trans ?_ (dif_neg (by omega)).symm; exact congrArg (fun l => w 3 (ix2 r l)) (Fin.ext (by first | omega | (simp only; omega))))

/-- The shared rotary key's gradient. -/
theorem out457 (r : Fin 272) (l : Fin 128) : v457 x (ix2 r l) = ∑ h : Fin 4, ok x h r (snd l) := by
  rw [Fin.sum_univ_four]
  simp only [← gk_at, ← highHalf_at]
  unfold v457
  rw [v395_eq, v302_eq, v209_eq, v117_eq]
  generalize gk x = g
  pointwise [k0_pay128]

/-- What the grid point adds to the gradients of the two norms' weights. -/
theorem add349 (e : Fin 256) : v349 x (ix2 0 e) = ∑ h : Fin 4, ∑ r : Fin 272, bq x h r e * (xq x h r e * rt inv eps (xq x h r)) := by
  have k (h : Fin 4) : wsum (qb x h) (nrm (qs x h)) (ix2 0 e) = ∑ r : Fin 272, bq x h r e * (xq x h r e * rt inv eps (xq x h r)) := by
    rw [wsum_at]
    simp only [nrm_at, qb_at, qs_at]
  rw [Fin.sum_univ_four, ← k, ← k, ← k, ← k, v349_eq, v256_eq, v163_eq, v72_eq]
  rfl

theorem add398 (e : Fin 256) : v398 x (ix2 0 e) = ∑ h : Fin 4, ∑ r : Fin 272, bk x h r e * (xk x h r e * rt inv eps (xk x h r)) := by
  have k (h : Fin 4) : wsum (kb x h) (nrm (ks x h)) (ix2 0 e) = ∑ r : Fin 272, bk x h r e * (xk x h r e * rt inv eps (xk x h r)) := by
    rw [wsum_at]
    simp only [nrm_at, kb_at, ks_at]
  rw [Fin.sum_univ_four, ← k, ← k, ← k, ← k, v398_eq, v305_eq, v212_eq, v119_eq]
  rfl

/-- The gradients that reach the two latents, computed. -/
theorem v403_at (r : Fin 272) (k : Fin 256) : v403 x (ix2 r k) = hq x r k := by
  have e (c : Fin 1024) : v401 x (ix2 r c) = oq x (whd c) r (wln c) := by rw [← out401, wcol_hd]
  unfold hq
  simp only [← e, ← v23_at]
  unfold v403 v401
  generalize v23 x = w
  pointwise [k0_pay117]

theorem pay122_at (r : Fin 272) (k : Fin 256) : k0_pay122 (v25 x) (v402 x) (ix2 r k) = hk x r k := by
  have e (c : Fin 1024) : v402 x (ix2 r c) = okv x (whd c) r (wln c) := by rw [← out402, wcol_hd]
  unfold hk
  simp only [← e, ← v25_at]
  generalize v25 x = w
  generalize v402 x = g
  pointwise [k0_pay122]

/-- The latents' rows. -/
def lq (r : Fin 272) (k : Fin 256) : EReal := x.ql (ix2 r k)
def lk (r : Fin 272) (k : Fin 256) : EReal := x.kvl (ix2 r k)

theorem v411_at (r : Fin 272) : v411 x (ix2 r 0) = rt inw eps (lq x r) := by
  unfold rt lq
  simp only [← v17_at]
  unfold v411
  generalize v17 x = l
  pointwise [k0_pay118]

theorem v413_at (r : Fin 272) (k : Fin 256) : v413 x (ix2 r k) = lq x r k * rt inw eps (lq x r) := by
  rw [← v411_at]
  unfold lq
  rw [← v17_at]
  unfold v411 v413
  generalize v17 x = l
  pointwise [k0_pay119]

theorem pay123_at (r : Fin 272) : k0_pay123 (v19 x) (ix2 r 0) = rt inw eps (lk x r) := by
  unfold rt lk
  simp only [← v19_at]
  generalize v19 x = l
  pointwise [k0_pay123]

theorem pay124_at (r : Fin 272) (k : Fin 256) : k0_pay124 (v19 x) (ix2 r k) = lk x r k * rt inw eps (lk x r) := by
  rw [← pay123_at]
  unfold lk
  rw [← v19_at]
  generalize v19 x = l
  pointwise [k0_pay124]

/-- The two latents' gradients. -/
theorem out425 (r : Fin 272) (k : Fin 256) : k0_pay129 (v425 x) (ix2 r k) = dx inw eps (lq x r) (fun k => hq x r k * x.qaw (ix2 0 k)) k := by
  unfold dx
  simp only [← v413_at, ← v403_at]
  rw [← v411_at]
  unfold v425 v414
  generalize v403 x = a
  generalize v411 x = b
  generalize v413 x = d
  pointwise [k0_pay129, k0_pay121, k0_pay120]

theorem out449 (r : Fin 272) (k : Fin 256) : k0_pay130 (v449 x) (ix2 r k) = dx inw eps (lk x r) (fun k => hk x r k * x.kvaw (ix2 0 k)) k := by
  unfold dx
  simp only [← pay124_at, ← pay122_at]
  rw [← pay123_at]
  unfold v449
  generalize v402 x = a
  generalize v25 x = b
  generalize v19 x = d
  pointwise [k0_pay130, k0_pay125]

/-- What the grid point adds to the gradients of the latents' weights. -/
theorem add452 (k : Fin 256) : v452 x (ix2 0 k) = ∑ r : Fin 272, hq x r k * (lq x r k * rt inw eps (lq x r)) := by
  simp only [← v413_at, ← v403_at]
  unfold v452
  generalize v403 x = a
  generalize v413 x = d
  pointwise [k0_pay126]

theorem add454 (k : Fin 256) : v454 x (ix2 0 k) = ∑ r : Fin 272, hk x r k * (lk x r k * rt inw eps (lk x r)) := by
  simp only [← pay124_at, ← pay122_at]
  unfold v454
  generalize v402 x = a
  generalize v25 x = b
  generalize v19 x = d
  pointwise [k0_pay127]

/-- A running sum takes a grid point's addition. -/
theorem pay131_at (v a : W) (e : Fin 256) : k0_pay131 (F := Ideal) v a (ix2 0 e) = a (ix2 0 e) + v (ix2 0 e) := by pointwise [k0_pay131]
theorem pay132_at (v a : W) (e : Fin 256) : k0_pay132 (F := Ideal) v a (ix2 0 e) = a (ix2 0 e) + v (ix2 0 e) := by pointwise [k0_pay132]
theorem pay133_at (v a : W) (e : Fin 256) : k0_pay133 (F := Ideal) v a (ix2 0 e) = a (ix2 0 e) + v (ix2 0 e) := by pointwise [k0_pay133]
theorem pay1_at (v a : W) (e : Fin 256) : k0_pay1 (F := Ideal) v a (ix2 0 e) = a (ix2 0 e) + v (ix2 0 e) := by pointwise [k0_pay1]

end Cert.MlaIdeal.Block

end
-- ==== Proof.Mla.Rows.lean ====
/- One grid point's values of the MLA backward kernel as rows of the arguments: zero in the rows put in front, the step's own row behind them. -/
module

public import proofs.«01_k».proof.Proof.Mla.Entry
public import proofs.«01_k».proof.Proof.Mla.Block
public import proofs.«01_k».proof.Proof.Mla.Run

@[expose] public section

set_option maxRecDepth 16384

noncomputable section

open Idealize.ShloMosaic Idealize.ShloMosaic.TcCoe Idealize.SL.Sem

namespace Cert.MlaIdeal.Rows

open Cert.MlaIdeal Cert.MlaIdeal.Gen Cert.MlaIdeal.Tile Cert.MlaIdeal.Body Cert.MlaIdeal.Entry Cert.Num Cert.Pad Cert.Rms
open Cert.MlaIdeal.Row (wide qcol sum_heads whd_wcol wln_wcol sum_wide wide_mul dx_wide rt_wide turn_wide turn_zero)

variable (m : (ℓ : Loc nD τ sig) → Buf (Elt Ideal) ℓ) (c : Dev nD) (t : Fin cfg0.N) (r : Fin 272)

/-- The blocks of a grid point. -/
abbrev pt : Ins Ideal := Run.ins m c t

theorem both (f : Fin 2064 → EReal) (N : ℕ) (hN : N < 2176) (v : EReal) (h0 : N < 112 → v = 0) (h1 : ∀ n : Fin 2064, N = 112 + n → v = f n) : v = ext f N := by
  by_cases h : N < 112
  · rw [h0 h, ext_lt _ _ h]
  · rw [h1 ⟨N - 112, by omega⟩ (by simp only; omega)]
    conv_rhs => rw [show N = 112 + ((⟨N - 112, by omega⟩ : Fin 2064) : ℕ) by simp only; omega]
    rw [ext_add]

theorem row_lt : t.val * 272 + (r : ℕ) < 2176 := by
  have := at_pt t
  omega

theorem qf_at (h : Fin 4) (e : Fin 256) : (pt m c t).qf (ix2 r (wcol h e)) = ext (fun n => wide (Row.qf (args m c) n h) e) (t.val * 272 + r) := block0 m c t r h e
theorem kvf_at (j : Fin 1024) : (pt m c t).kvf (ix2 r j) = ext (fun n => Row.kvf (args m c) n j) (t.val * 272 + r) := block1 m c t r j
theorem kpe_at (l : Fin 128) : (pt m c t).kpe (ix2 r l)
    = if h : (l : ℕ) < 64 then ext (fun n => (args m c).p n ⟨512 + l, by omega⟩) (t.val * 272 + r) else 0 := block2 m c t r l
theorem dq_at (h : Fin 4) (e : Fin 256) : (pt m c t).dq (ix2 r (wcol h e)) = ext (fun n => wide ((args m c).dq n h) e) (t.val * 272 + r) := block5 m c t r h e
theorem dk_at (h : Fin 4) (e : Fin 256) : (pt m c t).dk (ix2 r (wcol h e)) = ext (fun n => wide ((args m c).dk n h) e) (t.val * 272 + r) := block6 m c t r h e
theorem dv_at (h : Fin 4) (l : Fin 128) : (pt m c t).dv (ix2 r (⟨h * 128 + l, by omega⟩ : Fin 512)) = ext (fun n => (args m c).dv n h l) (t.val * 272 + r) := block7 m c t r h l
theorem ql_at (k : Fin 256) : (pt m c t).ql (ix2 r k) = ext (fun n => Row.lq (args m c) n k) (t.val * 272 + r) := block8 m c t r k
theorem kvl_at (k : Fin 256) : (pt m c t).kvl (ix2 r k) = ext (fun n => Row.lk (args m c) n k) (t.val * 272 + r) := block9 m c t r k
theorem qaw_at (k : Fin 256) : (pt m c t).qaw (ix2 0 k) = (args m c).qa k := block10 m c t k
theorem kvaw_at (k : Fin 256) : (pt m c t).kvaw (ix2 0 k) = (args m c).kva k := block11 m c t k
theorem wq_at (h : Fin 4) (e k : Fin 256) : (pt m c t).wq (ix2 (wcol h e) k) = wide (fun e => (args m c).wq k (qcol h e)) e := block12 m c t h e k
theorem wkv_at (k : Fin 256) (j : Fin 1024) : (pt m c t).wkv (ix2 k j) = (args m c).wkv k j := block13 m c t k j
theorem qw_at (e : Fin 256) : (pt m c t).qw (ix2 0 e) = wide (args m c).qw e := block14 m c t e
theorem kw_at (e : Fin 256) : (pt m c t).kw (ix2 0 e) = wide (args m c).kw e := block15 m c t e

section Real

variable (n : Fin 2064) (hn : t.val * 272 + (r : ℕ) = 112 + n)
include hn

theorem cos_at (l : Fin 128) : (pt m c t).cos (ix2 r l) = Row.ctab (Row.cs n) l := block3 m c t r n hn l
theorem sin_at (l : Fin 128) : (pt m c t).sin (ix2 r l) = Row.stab (Row.sn n) l := block4 m c t r n hn l

theorem xq_row (h : Fin 4) : Block.xq (pt m c t) h r = wide (Row.qf (args m c) n h) := funext fun e => by
  unfold Block.xq
  rw [qf_at, hn, ext_add]

theorem xk_row (h : Fin 4) : Block.xk (pt m c t) h r = wide (Row.kf (args m c) n h) := funext fun e => by
  have he := e.isLt
  unfold Block.xk
  simp only [kvf_at, kpe_at, hn, ext_add]
  unfold join wide Row.kf
  by_cases h1 : (e : ℕ) < 128
  · have k1 : (e : ℕ) < 192 := by omega
    simp only [h1, k1, ↓reduceDIte, ↓reduceIte]
    rfl
  by_cases h2 : (e : ℕ) < 192
  · have k1 : (e : ℕ) - 128 < 64 := by omega
    simp only [h1, h2, k1, ↓reduceDIte, ↓reduceIte]
  · have k1 : ¬(e : ℕ) - 128 < 64 := by omega
    simp only [h1, h2, k1, ↓reduceDIte]

theorem bq_row (h : Fin 4) : Block.bq (pt m c t) h r = wide (Row.gq (args m c) n h) := funext fun e => by
  unfold Block.bq Row.gq
  rw [← turn_wide]
  simp only [dq_at, hn, ext_add, cos_at m c t r n hn, sin_at m c t r n hn]

theorem bk_row (h : Fin 4) : Block.bk (pt m c t) h r = wide (Row.gk (args m c) n h) := funext fun e => by
  unfold Block.bk Row.gk
  rw [← turn_wide]
  simp only [dk_at, hn, ext_add, cos_at m c t r n hn, sin_at m c t r n hn]

theorem oq_row (h : Fin 4) : Block.oq (pt m c t) h r = wide (Row.oq (args m c) n h) := funext fun e => by
  unfold Block.oq Row.oq
  rw [← dx_wide, xq_row m c t r n hn, bq_row m c t r n hn]
  simp only [qw_at]

theorem ok_row (h : Fin 4) : Block.ok (pt m c t) h r = wide (Row.ok (args m c) n h) := funext fun e => by
  unfold Block.ok Row.ok
  rw [← dx_wide, xk_row m c t r n hn, bk_row m c t r n hn]
  simp only [kw_at]

theorem okv_row (h : Fin 4) (e : Fin 256) : Block.okv (pt m c t) h r e = Row.okv (args m c) n h e := by
  unfold Block.okv Row.okv
  rw [ok_row m c t r n hn]
  simp only [dv_at, hn, ext_add]
  refine congrArg (fun f => join f _ e) (funext fun l => ?_)
  exact dif_pos (show (l : ℕ) < 192 by omega)

theorem kpe_row (l : Fin 128) : ∑ h : Fin 4, Block.ok (pt m c t) h r (snd l) = Row.kpe (args m c) n l := by
  simp only [ok_row m c t r n hn]
  unfold wide Row.kpe snd
  by_cases h : (l : ℕ) < 64
  · have k1 : 128 + (l : ℕ) < 192 := by omega
    simp only [h, k1, ↓reduceDIte]
  · have k1 : ¬128 + (l : ℕ) < 192 := by omega
    simp only [h, k1, ↓reduceDIte, Finset.sum_const_zero]

theorem hq_row (k : Fin 256) : Block.hq (pt m c t) r k = Row.hq (args m c) n k := by
  unfold Block.hq Row.hq
  rw [sum_heads]
  refine Finset.sum_congr rfl fun h _ => ?_
  rw [← sum_wide]
  refine Finset.sum_congr rfl fun e _ => ?_
  rw [← wide_mul, whd_wcol, wln_wcol, wq_at, oq_row m c t r n hn]

theorem hk_row (k : Fin 256) : Block.hk (pt m c t) r k = Row.hk (args m c) n k := by
  unfold Block.hk Row.hk
  refine Finset.sum_congr rfl fun j _ => ?_
  rw [okv_row m c t r n hn, wkv_at]

theorem lq_row : Block.lq (pt m c t) r = Row.lq (args m c) n := funext fun k => by
  unfold Block.lq
  rw [ql_at, hn, ext_add]

theorem lk_row : Block.lk (pt m c t) r = Row.lk (args m c) n := funext fun k => by
  unfold Block.lk
  rw [kvl_at, hn, ext_add]

end Real

section Zero

variable (hn : t.val * 272 + (r : ℕ) < 112)
include hn

theorem xq_zero (h : Fin 4) : Block.xq (pt m c t) h r = fun _ => 0 := funext fun e => by
  unfold Block.xq
  rw [qf_at, ext_lt _ _ hn]

theorem xk_zero (h : Fin 4) : Block.xk (pt m c t) h r = fun _ => 0 := funext fun e => by
  unfold Block.xk
  simp only [kvf_at, kpe_at, ext_lt _ _ hn]
  unfold join
  simp only [dite_eq_ite, ite_self]

theorem bq_zero (h : Fin 4) : Block.bq (pt m c t) h r = fun _ => 0 := funext fun e => by
  unfold Block.bq
  simp only [dq_at, ext_lt _ _ hn]
  exact turn_zero _ _ e

theorem bk_zero (h : Fin 4) : Block.bk (pt m c t) h r = fun _ => 0 := funext fun e => by
  unfold Block.bk
  simp only [dk_at, ext_lt _ _ hn]
  exact turn_zero _ _ e

theorem oq_zero (h : Fin 4) : Block.oq (pt m c t) h r = fun _ => 0 := funext fun e => by
  unfold Block.oq
  rw [xq_zero m c t r hn, bq_zero m c t r hn]
  simp only [zero_mul]
  exact dx_zero _ _ e

theorem ok_zero (h : Fin 4) : Block.ok (pt m c t) h r = fun _ => 0 := funext fun e => by
  unfold Block.ok
  rw [xk_zero m c t r hn, bk_zero m c t r hn]
  simp only [zero_mul]
  exact dx_zero _ _ e

theorem okv_zero (h : Fin 4) (e : Fin 256) : Block.okv (pt m c t) h r e = 0 := by
  unfold Block.okv
  rw [ok_zero m c t r hn]
  simp only [dv_at, ext_lt _ _ hn]
  unfold join
  split_ifs <;> rfl

theorem hq_zero (k : Fin 256) : Block.hq (pt m c t) r k = 0 := by
  unfold Block.hq
  exact Finset.sum_eq_zero fun j _ => by rw [oq_zero m c t r hn, zero_mul]

theorem hk_zero (k : Fin 256) : Block.hk (pt m c t) r k = 0 := by
  unfold Block.hk
  exact Finset.sum_eq_zero fun j _ => by rw [okv_zero m c t r hn, zero_mul]

theorem lq_zero : Block.lq (pt m c t) r = fun _ => 0 := funext fun k => by
  unfold Block.lq
  rw [ql_at, ext_lt _ _ hn]

theorem lk_zero : Block.lk (pt m c t) r = fun _ => 0 := funext fun k => by
  unfold Block.lk
  rw [kvl_at, ext_lt _ _ hn]

end Zero

/-! The nine results at a row, and what a row adds. -/

theorem left16 (h : Fin 4) (e : Fin 256) : v401 (pt m c t) (ix2 r (wcol h e)) = ext (fun n => wide (Row.oq (args m c) n h) e) (t.val * 272 + r) := by
  rw [Block.out401]
  exact both _ _ (row_lt t r) _ (fun hn => by rw [oq_zero m c t r hn]) fun n hn => by rw [oq_row m c t r n hn]

theorem left17 (h : Fin 4) (e : Fin 256) : v402 (pt m c t) (ix2 r (wcol h e)) = ext (fun n => Row.okv (args m c) n h e) (t.val * 272 + r) := by
  rw [Block.out402]
  exact both _ _ (row_lt t r) _ (fun hn => okv_zero m c t r hn h e) fun n hn => okv_row m c t r n hn h e

theorem left18 (l : Fin 128) : v457 (pt m c t) (ix2 r l) = ext (fun n => Row.kpe (args m c) n l) (t.val * 272 + r) := by
  rw [Block.out457]
  refine both _ _ (row_lt t r) _ (fun hn => Finset.sum_eq_zero fun h _ => ?_) fun n hn => kpe_row m c t r n hn l
  rw [ok_zero m c t r hn]

theorem left19 (k : Fin 256) : k0_pay129 (v425 (pt m c t)) (ix2 r k) = ext (fun n => Row.dql (args m c) n k) (t.val * 272 + r) := by
  rw [Block.out425]
  refine both _ _ (row_lt t r) _ (fun hn => ?_) fun n hn => ?_
  · rw [lq_zero m c t r hn]
    simp only [hq_zero m c t r hn, zero_mul]
    exact dx_zero _ _ k
  · rw [lq_row m c t r n hn]
    simp only [hq_row m c t r n hn, qaw_at]
    rfl

theorem left20 (k : Fin 256) : k0_pay130 (v449 (pt m c t)) (ix2 r k) = ext (fun n => Row.dkvl (args m c) n k) (t.val * 272 + r) := by
  rw [Block.out449]
  refine both _ _ (row_lt t r) _ (fun hn => ?_) fun n hn => ?_
  · rw [lk_zero m c t r hn]
    simp only [hk_zero m c t r hn, zero_mul]
    exact dx_zero _ _ k
  · rw [lk_row m c t r n hn]
    simp only [hk_row m c t r n hn, kvaw_at]
    rfl

/-- What row `n` of a padded array adds to the gradients of the four weights. -/
theorem add21 (e : Fin 256) : v349 (pt m c t) (ix2 0 e) = ∑ r : Fin 272, ext (fun n => wide (Row.qwAt (args m c) n) e) (t.val * 272 + r) := by
  rw [Block.add349, Finset.sum_comm]
  refine Finset.sum_congr rfl fun r _ => both _ _ (row_lt t r) _ (fun hn => Finset.sum_eq_zero fun h _ => ?_) fun n hn => ?_
  · rw [bq_zero m c t r hn, zero_mul]
  · simp only [bq_row m c t r n hn, xq_row m c t r n hn, rt_wide]
    unfold wide Row.qwAt
    split_ifs
    · rfl
    · simp

theorem add22 (e : Fin 256) : v398 (pt m c t) (ix2 0 e) = ∑ r : Fin 272, ext (fun n => wide (Row.kwAt (args m c) n) e) (t.val * 272 + r) := by
  rw [Block.add398, Finset.sum_comm]
  refine Finset.sum_congr rfl fun r _ => both _ _ (row_lt t r) _ (fun hn => Finset.sum_eq_zero fun h _ => ?_) fun n hn => ?_
  · rw [bk_zero m c t r hn, zero_mul]
  · simp only [bk_row m c t r n hn, xk_row m c t r n hn, rt_wide]
    unfold wide Row.kwAt
    split_ifs
    · rfl
    · simp

theorem add23 (k : Fin 256) : v452 (pt m c t) (ix2 0 k) = ∑ r : Fin 272, ext (fun n => Row.qaAt (args m c) n k) (t.val * 272 + r) := by
  rw [Block.add452]
  refine Finset.sum_congr rfl fun r _ => both _ _ (row_lt t r) _ (fun hn => ?_) fun n hn => ?_
  · rw [hq_zero m c t r hn, zero_mul]
  · rw [hq_row m c t r n hn, lq_row m c t r n hn]
    rfl

theorem add24 (k : Fin 256) : v454 (pt m c t) (ix2 0 k) = ∑ r : Fin 272, ext (fun n => Row.kvaAt (args m c) n k) (t.val * 272 + r) := by
  rw [Block.add454]
  refine Finset.sum_congr rfl fun r _ => both _ _ (row_lt t r) _ (fun hn => ?_) fun n hn => ?_
  · rw [hk_zero m c t r hn, zero_mul]
  · rw [hk_row m c t r n hn, lk_row m c t r n hn]
    rfl

end Cert.MlaIdeal.Rows
-- ==== Proof.Mla.Final.lean ====
/- What the MLA backward kernel leaves in its nine result arrays. -/
module

public import proofs.«01_k».proof.Proof.Mla.Rows
public import proofs.«01_k».proof.Proof.Mla.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaIdeal.Final

open Cert.MlaIdeal Cert.MlaIdeal.Gen Cert.MlaIdeal.Tile Cert.MlaIdeal.Body Cert.MlaIdeal.Entry Cert.MlaIdeal.Run Cert.MlaIdeal.Rows Cert.Num Cert.Pad
open Cert.MlaIdeal.Row (wide whd wln wcol_hd)

variable (m : (ℓ : Loc nD τ sig) → Buf (Elt Ideal) ℓ) (c : Dev nD)

theorem final16 : (dats m 0 c).arrAt 16 cfg0.N = fun i : S2176x1024.Idx => ext (fun n => wide (Row.oq (args m c) n (whd (i 1))) (wln (i 1))) (i 0).val := by
  refine (dats m 0 c).arrAt_eq_of_covers 16 _ (by decide +kernel) fun t _ y => ?_
  have ht := at_pt t
  idx_vars y
  have e : (win0_16.blk t).view.emb (ix2 y0 y1) = ix2 (⟨t.val * 272 + y0, by omega⟩ : Fin 2176) y1 := by blk_ext [idx_out t]
  have q := left16 m c t y0 (whd y1) (wln y1)
  rw [wcol_hd] at q
  blk_simp [idx_out t]
  rw [after_16, q, e]
  rfl

theorem final17 : (dats m 0 c).arrAt 17 cfg0.N = fun i : S2176x1024.Idx => ext (fun n => Row.okv (args m c) n (whd (i 1)) (wln (i 1))) (i 0).val := by
  refine (dats m 0 c).arrAt_eq_of_covers 17 _ (by decide +kernel) fun t _ y => ?_
  have ht := at_pt t
  idx_vars y
  have e : (win0_17.blk t).view.emb (ix2 y0 y1) = ix2 (⟨t.val * 272 + y0, by omega⟩ : Fin 2176) y1 := by blk_ext [idx_out t]
  have q := left17 m c t y0 (whd y1) (wln y1)
  rw [wcol_hd] at q
  blk_simp [idx_out t]
  rw [after_17, q, e]
  rfl

theorem final18 : (dats m 0 c).arrAt 18 cfg0.N = fun i : S2176x128.Idx => ext (fun n => Row.kpe (args m c) n (i 1)) (i 0).val := by
  refine (dats m 0 c).arrAt_eq_of_covers 18 _ (by decide +kernel) fun t _ y => ?_
  have ht := at_pt t
  idx_vars y
  have e : (win0_18.blk t).view.emb (ix2 y0 y1) = ix2 (⟨t.val * 272 + y0, by omega⟩ : Fin 2176) y1 := by blk_ext [idx_out t]
  have q := left18 m c t y0 y1
  blk_simp [idx_out t]
  rw [after_18, q, e]
  rfl

theorem final19 : (dats m 0 c).arrAt 19 cfg0.N = fun i : S2176x256.Idx => ext (fun n => Row.dql (args m c) n (i 1)) (i 0).val := by
  refine (dats m 0 c).arrAt_eq_of_covers 19 _ (by decide +kernel) fun t _ y => ?_
  have ht := at_pt t
  idx_vars y
  have e : (win0_19.blk t).view.emb (ix2 y0 y1) = ix2 (⟨t.val * 272 + y0, by omega⟩ : Fin 2176) y1 := by blk_ext [idx_out t]
  have q := left19 m c t y0 y1
  blk_simp [idx_out t]
  rw [after_19, q, e]
  rfl

theorem final20 : (dats m 0 c).arrAt 20 cfg0.N = fun i : S2176x256.Idx => ext (fun n => Row.dkvl (args m c) n (i 1)) (i 0).val := by
  refine (dats m 0 c).arrAt_eq_of_covers 20 _ (by decide +kernel) fun t _ y => ?_
  have ht := at_pt t
  idx_vars y
  have e : (win0_20.blk t).view.emb (ix2 y0 y1) = ix2 (⟨t.val * 272 + y0, by omega⟩ : Fin 2176) y1 := by blk_ext [idx_out t]
  have q := left20 m c t y0 y1
  blk_simp [idx_out t]
  rw [after_20, q, e]
  rfl

/-- A running total of sums over each point's rows ends at the sum over all rows. -/
theorem total_last (add : Vec Ideal S1x256 .f32 → Vec Ideal S1x256 .f32 → Vec Ideal S1x256 .f32)
    (hadd : ∀ v a (e : Fin 256), add v a (ix2 0 e) = a (ix2 0 e) + v (ix2 0 e)) (v : Fin cfg0.N → Vec Ideal S1x256 .f32) (g : ℕ → Fin 256 → EReal)
    (hv : ∀ (t : Fin cfg0.N) (e : Fin 256), v t (ix2 0 e) = ∑ r : Fin 272, g (t.val * 272 + r) e) (e : Fin 256) (h : 7 < cfg0.N) :
    total add v 7 h (ix2 0 e) = ∑ n : Fin 2176, g n e := by
  have k (n : ℕ) (hn : n < cfg0.N) : total add v n hn (ix2 0 e) = ∑ s : Fin (n + 1), ∑ r : Fin 272, g (s * 272 + r) e := by
    induction n with
    | zero => rw [Fin.sum_univ_one]; exact hv ⟨0, hn⟩ e
    | succ n ih =>
      rw [Fin.sum_univ_castSucc]
      refine (hadd _ _ e).trans ?_
      rw [ih (Nat.lt_of_succ_lt hn), hv]
      rfl
  rw [k]
  exact Fin.sum_mul_add_congr (fun t e h => rfl)

theorem final21 : (dats m 0 c).arrAt 21 cfg0.N = fun i : S1x256.Idx => ∑ n : Fin 2176, ext (fun n => wide (Row.qwAt (args m c) n) (i 1)) n := by
  refine (dats m 0 c).arrAt_eq_of_after_last 21 t0_7 (by decide +kernel) _ fun y => ?_
  idx_vars y
  obtain rfl : y0 = 0 := Subsingleton.elim _ _
  blk_simp
  rw [after_21]
  exact total_last _ Block.pay131_at _ (fun n e => ext (fun n => wide (Row.qwAt (args m c) n) e) n) (add21 m c) y1 _

theorem final22 : (dats m 0 c).arrAt 22 cfg0.N = fun i : S1x256.Idx => ∑ n : Fin 2176, ext (fun n => wide (Row.kwAt (args m c) n) (i 1)) n := by
  refine (dats m 0 c).arrAt_eq_of_after_last 22 t0_7 (by decide +kernel) _ fun y => ?_
  idx_vars y
  obtain rfl : y0 = 0 := Subsingleton.elim _ _
  blk_simp
  rw [after_22]
  exact total_last _ Block.pay132_at _ (fun n e => ext (fun n => wide (Row.kwAt (args m c) n) e) n) (add22 m c) y1 _

theorem final23 : (dats m 0 c).arrAt 23 cfg0.N = fun i : S1x256.Idx => ∑ n : Fin 2176, ext (fun n => Row.qaAt (args m c) n (i 1)) n := by
  refine (dats m 0 c).arrAt_eq_of_after_last 23 t0_7 (by decide +kernel) _ fun y => ?_
  idx_vars y
  obtain rfl : y0 = 0 := Subsingleton.elim _ _
  blk_simp
  rw [after_23]
  exact total_last _ Block.pay133_at _ (fun n e => ext (fun n => Row.qaAt (args m c) n e) n) (add23 m c) y1 _

theorem final24 : (dats m 0 c).arrAt 24 cfg0.N = fun i : S1x256.Idx => ∑ n : Fin 2176, ext (fun n => Row.kvaAt (args m c) n (i 1)) n := by
  refine (dats m 0 c).arrAt_eq_of_after_last 24 t0_7 (by decide +kernel) _ fun y => ?_
  idx_vars y
  obtain rfl : y0 = 0 := Subsingleton.elim _ _
  blk_simp
  rw [after_24]
  exact total_last _ Block.pay1_at _ (fun n e => ext (fun n => Row.kvaAt (args m c) n e) n) (add24 m c) y1 _

end Cert.MlaIdeal.Final
-- ==== Proof.Mla.Real.lean ====
/- Over finite arguments every row formula of the latent attention's gradients is finite, and the gradient through a norm is the
   one a derivative of the mean square gives. -/
module

public import proofs.«01_k».proof.Proof.Mla.Row
public import proofs.«01_k».proof.Proof.Common.Consts

@[expose] public section

noncomputable section

open Idealize.ShloMosaic

namespace Cert.MlaIdeal.Row

open Cert.MlaIdeal.Tile Cert.Num Cert.Rms

/-- The number of lanes of a head, and minus one half. -/
abbrev cnt : EReal := Ideal.ofBits .f32 0x43400000#32
abbrev mh : EReal := Ideal.ofBits .f32 0xBF000000#32

theorem inv_192 : inv = ((1 / 192 : ℝ) : EReal) := by
  rw [one_div]
  rfl

theorem real_dx {n : ℕ} {i e : ℝ} {x g : Fin n → EReal} (hx : ∀ d, IsReal (x d)) (hg : ∀ d, IsReal (g d)) (hr : IsReal (rt i e x)) (d : Fin n) :
    IsReal (dx (i : EReal) e x g d) := by
  unfold dx
  obtain ⟨r, hr⟩ := hr
  rw [hr]
  choose a ha using hx
  choose b hb using hg
  simp only [ha, hb, ← EReal.coe_mul, ← coe_sum, ← EReal.coe_sub]
  exact ⟨_, rfl⟩

section Norm

variable {x g : Fin 192 → EReal} {y k : Fin 256 → EReal} (hx : ∀ d, IsReal (x d)) (hg : ∀ d, IsReal (g d)) (hy : ∀ d, IsReal (y d)) (hk : ∀ d, IsReal (k d))

include hx in
theorem root_head : rt inv eps x = Ideal.rsqrt (ms cnt eps x) ∧ IsReal (rt inv eps x) := by
  obtain ⟨e, he, hb⟩ := bits_eps
  rw [inv_192, show eps = (e : EReal) from hb, show cnt = ((192 : ℝ) : EReal) from bits_192]
  exact rt_eq (by norm_num : (0 : ℝ) < 192) he hx

include hy in
theorem root_latent : rt inw eps y = Ideal.rsqrt (ms len eps y) ∧ IsReal (rt inw eps y) := by
  obtain ⟨e, he, hb⟩ := bits_eps
  rw [show inw = ((1 / 256 : ℝ) : EReal) from bits_inv256, show eps = (e : EReal) from hb, show len = ((256 : ℝ) : EReal) from bits_256]
  exact rt_eq (by norm_num : (0 : ℝ) < 256) he hy

include hx hg in
theorem dx_head (d : Fin 192) : dx inv eps x g d = g d * Ideal.rsqrt (ms cnt eps x) + x d * dms cnt eps mh x g + dms cnt eps mh x g * x d := by
  rw [← (root_head hx).1]
  obtain ⟨e, he, hb⟩ := bits_eps
  rw [inv_192, show eps = (e : EReal) from hb, show cnt = ((192 : ℝ) : EReal) from bits_192, show mh = ((-(1 / 2) : ℝ) : EReal) from bits_neg_half]
  exact dx_eq (by norm_num : (0 : ℝ) < 192) he hx hg d

include hy hk in
theorem dx_latent (d : Fin 256) : dx inw eps y k d = k d * Ideal.rsqrt (ms len eps y) + y d * dms len eps mh y k + dms len eps mh y k * y d := by
  rw [← (root_latent hy).1]
  obtain ⟨e, he, hb⟩ := bits_eps
  rw [show inw = ((1 / 256 : ℝ) : EReal) from bits_inv256, show eps = (e : EReal) from hb, show len = ((256 : ℝ) : EReal) from bits_256,
    show mh = ((-(1 / 2) : ℝ) : EReal) from bits_neg_half]
  exact dx_eq (by norm_num : (0 : ℝ) < 256) he hy hk d

include hx hg in
theorem dx_head_real (d : Fin 192) : IsReal (dx inv eps x g d) := by
  have q := (root_head hx).2
  obtain ⟨e, he, hb⟩ := bits_eps
  rw [inv_192, show eps = (e : EReal) from hb] at q ⊢
  exact real_dx hx hg q d

end Norm

/-- Every argument finite. -/
structure Args.Real (a : Args) : Prop where
  p : ∀ n j, IsReal (a.p n j)
  qa : ∀ k, IsReal (a.qa k)
  kva : ∀ k, IsReal (a.kva k)
  wq : ∀ k j, IsReal (a.wq k j)
  wkv : ∀ k j, IsReal (a.wkv k j)
  qw : ∀ e, IsReal (a.qw e)
  kw : ∀ e, IsReal (a.kw e)
  dq : ∀ n h e, IsReal (a.dq n h e)
  dk : ∀ n h e, IsReal (a.dk n h e)
  dv : ∀ n h e, IsReal (a.dv n h e)

variable {a : Args} (ha : a.Real) (n : Fin 2064)

theorem ang_real (n : ℕ) (k : Fin 32) : ∃ r : ℝ, ang n k = r := by
  have e1 : Ideal.ofBits .f32 0x461C4000#32 = ((10000 : ℝ) : EReal) := by
    simp [Ideal.ofBits, Ideal.ieee, ← EReal.coe_mul]; norm_num
  have e2 : Ideal.ofBits .f32 0x42000000#32 = ((32 : ℝ) : EReal) := by
    simp [Ideal.ofBits, Ideal.ieee, ← EReal.coe_mul]; norm_num
  have e3 (b : BitVec 32) : (FloatOps.sitofp .f32 b : Ideal .f32) = (((b.toInt : ℝ)) : EReal) := rfl
  unfold ang
  rw [e1, e2, e3, e3, Ideal.div_coe (by norm_num), ← EReal.coe_neg, ← EReal.coe_mul, Ideal.pow_coe_coe, ← EReal.coe_mul]
  exact ⟨_, rfl⟩

theorem cs_real (k : Fin 32) : IsReal (cs n k) := by
  obtain ⟨r, h⟩ := ang_real n k
  unfold cs
  rw [h, Ideal.cos_coe]
  exact ⟨_, rfl⟩

theorem sn_real (k : Fin 32) : IsReal (sn n k) := by
  obtain ⟨r, h⟩ := ang_real n k
  unfold sn
  rw [h, Ideal.sin_coe]
  exact ⟨_, rfl⟩

theorem neg_real {x : EReal} (hx : IsReal x) : IsReal (-x) := by
  obtain ⟨x, rfl⟩ := hx
  exact ⟨-x, (EReal.coe_neg x).symm⟩

theorem rb_real {g : Fin 192 → EReal} {c s : Fin 32 → EReal} (hg : ∀ e, IsReal (g e)) (hc : ∀ k, IsReal (c k)) (hs : ∀ k, IsReal (s k)) (e : Fin 192) :
    IsReal (rb g c s e) := by
  unfold rb
  split_ifs
  · exact hg _
  · exact IsReal.add (IsReal.mul (hg _) (hc _)) (IsReal.mul (hg _) (hs _))
  · exact IsReal.add (IsReal.mul (hg _) (hc _)) (IsReal.mul (hg _) (neg_real (hs _)))

section

include ha

theorem lq_real (k : Fin 256) : IsReal (lq a n k) := ha.p _ _
theorem lk_real (k : Fin 256) : IsReal (lk a n k) := ha.p _ _

theorem nq_real (k : Fin 256) : IsReal (nq a n k) := by
  unfold nq
  rw [← (root_latent (lq_real ha n)).1]
  exact IsReal.mul (IsReal.mul (lq_real ha n k) (root_latent (lq_real ha n)).2) (ha.qa k)

theorem nk_real (k : Fin 256) : IsReal (nk a n k) := by
  unfold nk
  rw [← (root_latent (lk_real ha n)).1]
  exact IsReal.mul (IsReal.mul (lk_real ha n k) (root_latent (lk_real ha n)).2) (ha.kva k)

theorem qf_real (h : Fin 4) (e : Fin 192) : IsReal (qf a n h e) := IsReal.sum _ fun k => IsReal.mul (nq_real ha n k) (ha.wq _ _)
theorem kvf_real (c : Fin 1024) : IsReal (kvf a n c) := IsReal.sum _ fun k => IsReal.mul (nk_real ha n k) (ha.wkv _ _)

theorem kf_real (h : Fin 4) (e : Fin 192) : IsReal (kf a n h e) := by
  unfold kf
  split_ifs
  · exact kvf_real ha n _
  · exact ha.p _ _

theorem gq_real (h : Fin 4) (e : Fin 192) : IsReal (gq a n h e) := rb_real (ha.dq n h) (cs_real n) (sn_real n) e
theorem gk_real (h : Fin 4) (e : Fin 192) : IsReal (gk a n h e) := rb_real (ha.dk n h) (cs_real n) (sn_real n) e

theorem yq_real (h : Fin 4) (e : Fin 192) : IsReal (gq a n h e * a.qw e) := IsReal.mul (gq_real ha n h e) (ha.qw e)
theorem yk_real (h : Fin 4) (e : Fin 192) : IsReal (gk a n h e * a.kw e) := IsReal.mul (gk_real ha n h e) (ha.kw e)

theorem oq_real (h : Fin 4) (e : Fin 192) : IsReal (oq a n h e) := dx_head_real (qf_real ha n h) (yq_real ha n h) e
theorem ok_real (h : Fin 4) (e : Fin 192) : IsReal (ok a n h e) := dx_head_real (kf_real ha n h) (yk_real ha n h) e

theorem okv_real (h : Fin 4) (e : Fin 256) : IsReal (okv a n h e) := by
  unfold okv join
  split_ifs
  · exact ok_real ha n h _
  · exact ha.dv _ _ _

theorem hq_real (k : Fin 256) : IsReal (hq a n k) := IsReal.sum _ fun h => IsReal.sum _ fun e => IsReal.mul (oq_real ha n h e) (ha.wq _ _)
theorem hk_real (k : Fin 256) : IsReal (hk a n k) := IsReal.sum _ fun c => IsReal.mul (okv_real ha n _ _) (ha.wkv _ _)

end

end Cert.MlaIdeal.Row

end
-- ==== Proof.Mla.Ref.lean ====
/- The derivative of the latent attention's projections, rotations and norms as the reference computes it, at an index, as the same
   row formulas over finite arguments. -/
module

public import proofs.«01_k».proof.Proof.Gen.MlaRefIdeal.Read
public import proofs.«01_k».proof.Proof.Mla.Real
public import proofs.«01_k».proof.Proof.Common.Pad
public import proofs.«01_k».proof.Proof.Common.Sum2

@[expose] public section

set_option maxRecDepth 16384

noncomputable section

open Idealize.ShloMosaic Idealize.ShloMosaic.TcCoe Idealize.SL.Sem

namespace Cert.MlaRefIdeal.Ref

open Cert.MlaRefIdeal Cert.MlaRefIdeal.Gen Cert.MlaRefIdeal.Read Cert.Num Cert.Rms Cert.Pad Cert.Sum2
open Cert.MlaIdeal.Row
open Cert.MlaIdeal.Tile (eps inv inw wcol)

variable (a : Args)

/-- The reference's ten argument arrays. -/
def X0 : FVec Ideal S2064x2632 .f32 := fun i => a.p (i 0) (i 1)
def X1 : FVec Ideal S1x256 .f32 := fun i => a.qa (i 1)
def X2 : FVec Ideal S1x256 .f32 := fun i => a.kva (i 1)
def X3 : FVec Ideal S256x768 .f32 := fun i => a.wq (i 0) (i 1)
def X4 : FVec Ideal S256x1024 .f32 := fun i => a.wkv (i 0) (i 1)
def X5 : FVec Ideal S1x192 .f32 := fun i => a.qw (i 1)
def X6 : FVec Ideal S1x192 .f32 := fun i => a.kw (i 1)
def X7 : FVec Ideal S2064x4x192 .f32 := fun i => a.dq (i 0) (i 1) (i 2)
def X8 : FVec Ideal S2064x4x192 .f32 := fun i => a.dk (i 0) (i 1) (i 2)
def X9 : FVec Ideal S2064x4x128 .f32 := fun i => a.dv (i 0) (i 1) (i 2)

variable (n : Fin 2064)

/-! The forward lines. -/

theorem lq_at (k : Fin 256) : val_main_v17 (F := Ideal) (X0 a) (ix2 n k) = lq a n k := by
  pointwise [val_main_v17]
  rfl

theorem lk_at (k : Fin 256) : val_main_v18 (F := Ideal) (X0 a) (ix2 n k) = lk a n k := by
  pointwise [val_main_v18]
  rfl

theorem msq_at : val_main_v26 (F := Ideal) (X0 a) (ix2 n 0) = ms len eps (lq a n) := by
  unfold ms
  simp only [← lq_at a]
  pointwise [val_main_v26, val_main_v25, val_main_v24, val_main_v23, val_main_v22, val_main_v21, val_main_v20, val_main_cst_1, val_main_cst_2, val_main_cst_3]

theorem msk_at : val_main_v42 (F := Ideal) (X0 a) (ix2 n 0) = ms len eps (lk a n) := by
  unfold ms
  simp only [← lk_at a]
  pointwise [val_main_v42, val_main_v41, val_main_v40, val_main_v39, val_main_v38, val_main_v37, val_main_v36, val_main_cst_5, val_main_cst_6, val_main_cst_7]

theorem rootq_at : val_main_v27 (F := Ideal) (X0 a) (ix2 n 0) = Ideal.rsqrt (ms len eps (lq a n)) := by
  rw [← msq_at]
  pointwise [val_main_v27]

theorem rootk_at : val_main_v43 (F := Ideal) (X0 a) (ix2 n 0) = Ideal.rsqrt (ms len eps (lk a n)) := by
  rw [← msk_at]
  pointwise [val_main_v43]

theorem xq_at (k : Fin 256) : val_main_v32 (F := Ideal) (X0 a) (ix2 n k) = lq a n k * Ideal.rsqrt (ms len eps (lq a n)) := by
  rw [← rootq_at, ← lq_at]
  pointwise [val_main_v32, val_main_v31]

theorem xk_at (k : Fin 256) : val_main_v48 (F := Ideal) (X0 a) (ix2 n k) = lk a n k * Ideal.rsqrt (ms len eps (lk a n)) := by
  rw [← rootk_at, ← lk_at]
  pointwise [val_main_v48, val_main_v47]

theorem nq_at (k : Fin 256) : val_main_v34 (F := Ideal) (X0 a) (X1 a) (ix2 n k) = nq a n k := by
  unfold nq
  rw [← xq_at]
  pointwise [val_main_v34, val_main_v33]
  rfl

theorem nk_at (k : Fin 256) : val_main_v50 (F := Ideal) (X0 a) (X2 a) (ix2 n k) = nk a n k := by
  unfold nk
  rw [← xk_at]
  pointwise [val_main_v50, val_main_v49]
  rfl

theorem qf_at (h : Fin 4) (e : Fin 192) : val_main_v52 (F := Ideal) (X0 a) (X1 a) (X3 a) (ix3 n h e) = qf a n h e := by
  unfold qf
  simp only [← nq_at a]
  pointwise [val_main_v52, val_main_v35]
  rfl

theorem kvf_at (c : Fin 1024) : val_main_v51 (F := Ideal) (X0 a) (X2 a) (X4 a) (ix2 n c) = kvf a n c := by
  unfold kvf
  simp only [← nk_at a]
  pointwise [val_main_v51]
  rfl

theorem kf_at (h : Fin 4) (e : Fin 192) : val_main_v58 (F := Ideal) (X0 a) (X2 a) (X4 a) (ix3 n h e) = kf a n h e := by
  unfold kf
  simp only [← kvf_at a]
  pointwise [val_main_v58, val_main_v57, val_main_v56, val_main_v54, val_main_v53, val_main_v19]
  split_ifs <;> rfl

theorem cs_at (k : Fin 32) : val_main_v14 (F := Ideal) (ix3 n 0 k) = cs n k := by
  unfold cs ang
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0]

theorem sn_at (k : Fin 32) : val_main_v16 (F := Ideal) (ix3 n 0 k) = sn n k := by
  unfold sn ang
  pointwise [val_main_v16, val_main_v15, val_main_v12, val_main_v11, val_main_v10, val_main_v9, val_main_v8, val_main_v7, val_main_v6, val_main_v5, val_main_v4, val_main_v3, val_main_v2, val_main_v1, val_main_v0, val_main_cst, val_main_cst_0]

/-! The rotations turned back. -/

/-- The gradient of a rotation of the last 64 lanes, put together by zeros in front and behind. -/
theorem turned (f : Fin 192 → EReal) (c s : Fin 32 → EReal) (e : Fin 192) (u v : EReal)
    (hu : u = if h : 128 ≤ (e : ℕ) ∧ (e : ℕ) - 128 < 64 then
        (if h : 32 ≤ (e : ℕ) - 128 ∧ (e : ℕ) - 128 - 32 < 32 then
            f ⟨128 + (32 + ((e : ℕ) - 128 - 32)), by omega⟩ * c ⟨(e : ℕ) - 128 - 32, by omega⟩
              + -f ⟨128 + ((e : ℕ) - 128 - 32), by omega⟩ * s ⟨(e : ℕ) - 128 - 32, by omega⟩
          else 0)
        + (if h : (e : ℕ) - 128 < 32 then
            f ⟨128 + (32 + ((e : ℕ) - 128)), by omega⟩ * s ⟨(e : ℕ) - 128, by omega⟩ + f ⟨128 + ((e : ℕ) - 128), by omega⟩ * c ⟨(e : ℕ) - 128, by omega⟩
          else 0)
      else 0)
    (hv : v = if _h : (e : ℕ) < 128 then f e else 0) : u + v = rb f c s e := by
  have he := e.isLt
  rw [hu, hv]
  unfold rb
  by_cases h1 : (e : ℕ) < 128
  · have k1 : ¬(128 ≤ (e : ℕ) ∧ (e : ℕ) - 128 < 64) := by omega
    simp only [h1, k1, ↓reduceDIte, ↓reduceIte, zero_add]
  have k1 : 128 ≤ (e : ℕ) ∧ (e : ℕ) - 128 < 64 := by omega
  by_cases h2 : (e : ℕ) < 160
  · have k2 : ¬(32 ≤ (e : ℕ) - 128 ∧ (e : ℕ) - 128 - 32 < 32) := by omega
    have k3 : (e : ℕ) - 128 < 32 := by omega
    rw [dif_pos k1, dif_neg k2, dif_pos k3, dif_neg h1, if_neg h1, dif_pos h2, zero_add, add_zero, add_comm]
    exact congrArg₂ (· + ·) (congrArg (f · * _) (Fin.ext (by simp only; omega))) (congrArg (f · * _) (Fin.ext (by simp only; omega)))
  · have k2 : 32 ≤ (e : ℕ) - 128 ∧ (e : ℕ) - 128 - 32 < 32 := by omega
    have k3 : ¬(e : ℕ) - 128 < 32 := by omega
    rw [dif_pos k1, dif_pos k2, dif_neg k3, dif_neg h1, if_neg h1, dif_neg h2, add_zero, add_zero, neg_mul, mul_neg]
    exact congrArg₂ (fun x y => x + -y) (congrArg₂ (f · * c ·) (Fin.ext (by simp only; omega)) (Fin.ext (by simp only; omega)))
      (congrArg₂ (f · * s ·) (Fin.ext (by simp only; omega)) (Fin.ext (by simp only; omega)))

theorem gq_at (h : Fin 4) (e : Fin 192) : val_main_v164 (F := Ideal) (X7 a) (ix3 n h e) = gq a n h e := by
  unfold gq
  refine Eq.trans ?_ (turned (a.dq n h) (cs n) (sn n) e (val_main_v162 (F := Ideal) (X7 a) (ix3 n h e)) (val_main_v163 (F := Ideal) (X7 a) (ix3 n h e)) ?_ ?_)
  · pointwise [val_main_v164]
  · simp only [← cs_at, ← sn_at]
    pointwise [val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_cst_21, val_main_cst_22, val_main_cst_23]
    rfl
  · pointwise [val_main_v163, val_main_v144, val_main_cst_24]
    rfl

theorem gk_at (h : Fin 4) (e : Fin 192) : val_main_v143 (F := Ideal) (X8 a) (ix3 n h e) = gk a n h e := by
  unfold gk
  refine Eq.trans ?_ (turned (a.dk n h) (cs n) (sn n) e (val_main_v141 (F := Ideal) (X8 a) (ix3 n h e)) (val_main_v142 (F := Ideal) (X8 a) (ix3 n h e)) ?_ ?_)
  · pointwise [val_main_v143]
  · simp only [← cs_at, ← sn_at]
    pointwise [val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_cst_17, val_main_cst_18, val_main_cst_19]
    rfl
  · pointwise [val_main_v142, val_main_v123, val_main_cst_20]
    rfl

/-! Through the norms of the heads. -/

theorem mshq_at (h : Fin 4) : val_main_v65 (F := Ideal) (X0 a) (X1 a) (X3 a) (ix3 n h 0) = ms cnt eps (qf a n h) := by
  unfold ms
  simp only [← qf_at a]
  pointwise [val_main_v65, val_main_v64, val_main_v63, val_main_v62, val_main_v61, val_main_v60, val_main_v59, val_main_cst_9, val_main_cst_10, val_main_cst_11]

theorem mshk_at (h : Fin 4) : val_main_v81 (F := Ideal) (X0 a) (X2 a) (X4 a) (ix3 n h 0) = ms cnt eps (kf a n h) := by
  unfold ms
  simp only [← kf_at a]
  pointwise [val_main_v81, val_main_v80, val_main_v79, val_main_v78, val_main_v77, val_main_v76, val_main_v75, val_main_cst_13, val_main_cst_14, val_main_cst_15]

theorem roothq_at (h : Fin 4) : val_main_v66 (F := Ideal) (X0 a) (X1 a) (X3 a) (ix3 n h 0) = Ideal.rsqrt (ms cnt eps (qf a n h)) := by
  rw [← mshq_at]
  pointwise [val_main_v66]

theorem roothk_at (h : Fin 4) : val_main_v82 (F := Ideal) (X0 a) (X2 a) (X4 a) (ix3 n h 0) = Ideal.rsqrt (ms cnt eps (kf a n h)) := by
  rw [← mshk_at]
  pointwise [val_main_v82]

theorem yq_at (h : Fin 4) (e : Fin 192) : val_main_v190 (F := Ideal) (X5 a) (X7 a) (ix3 n h e) = gq a n h e * a.qw e := by
  rw [← gq_at]
  pointwise [val_main_v190, val_main_v189, val_main_v72]
  rfl

theorem yk_at (h : Fin 4) (e : Fin 192) : val_main_v169 (F := Ideal) (X6 a) (X8 a) (ix3 n h e) = gk a n h e * a.kw e := by
  rw [← gk_at]
  pointwise [val_main_v169, val_main_v168, val_main_v88]
  rfl

theorem dmsq_at (h : Fin 4) : val_main_v201 (F := Ideal) (X0 a) (X1 a) (X3 a) (X5 a) (X7 a) (ix2 n h) = dms cnt eps mh (qf a n h) (fun e => gq a n h e * a.qw e) := by
  unfold dms
  simp only [← roothq_at, ← yq_at]
  simp only [← mshq_at]
  simp only [← qf_at a]
  pointwise [val_main_v201, val_main_v200, val_main_v199, val_main_v198, val_main_v195, val_main_v194, val_main_v193, val_main_v69, val_main_v68, val_main_v67, val_main_cst_12, val_main_cst_32, val_main_cst_33, val_main_cst_34]
  exact Fin.sum_univ_one _

theorem dmsk_at (h : Fin 4) : val_main_v180 (F := Ideal) (X0 a) (X2 a) (X4 a) (X6 a) (X8 a) (ix2 n h) = dms cnt eps mh (kf a n h) (fun e => gk a n h e * a.kw e) := by
  unfold dms
  simp only [← roothk_at, ← yk_at]
  simp only [← mshk_at]
  simp only [← kf_at a]
  pointwise [val_main_v180, val_main_v179, val_main_v178, val_main_v177, val_main_v174, val_main_v173, val_main_v172, val_main_v85, val_main_v84, val_main_v83, val_main_cst_16, val_main_cst_27, val_main_cst_28, val_main_cst_29]
  exact Fin.sum_univ_one _

variable {a} (ha : a.Real)
include ha

theorem oq_at (h : Fin 4) (e : Fin 192) : val_main_v206 (F := Ideal) (X0 a) (X1 a) (X3 a) (X5 a) (X7 a) (ix3 n h e) = oq a n h e := by
  refine Eq.trans ?_ (dx_head (qf_real ha n h) (yq_real ha n h) e).symm
  rw [← dmsq_at, ← roothq_at, ← yq_at, ← qf_at]
  pointwise [val_main_v206, val_main_v205, val_main_v204, val_main_v203, val_main_v202, val_main_v197, val_main_v196]

theorem ok_at (h : Fin 4) (e : Fin 192) : val_main_v185 (F := Ideal) (X0 a) (X2 a) (X4 a) (X6 a) (X8 a) (ix3 n h e) = ok a n h e := by
  refine Eq.trans ?_ (dx_head (kf_real ha n h) (yk_real ha n h) e).symm
  rw [← dmsk_at, ← roothk_at, ← yk_at, ← kf_at]
  pointwise [val_main_v185, val_main_v184, val_main_v183, val_main_v182, val_main_v181, val_main_v176, val_main_v175]

theorem oqcol_at (h : Fin 4) (e : Fin 192) : val_main_v216 (F := Ideal) (X0 a) (X1 a) (X3 a) (X5 a) (X7 a) (ix2 n (qcol h e)) = oq a n h e := by
  rw [← oq_at n ha]
  unfold qcol
  pointwise [val_main_v216]

theorem okv_at (h : Fin 4) (e : Fin 256) : val_main_v214 (F := Ideal) (X0 a) (X2 a) (X4 a) (X6 a) (X8 a) (X9 a) (ix3 n h e) = okv a n h e := by
  unfold okv Cert.MlaIdeal.Tile.join
  simp only [← ok_at n ha]
  pointwise [val_main_v214, val_main_v213, val_main_v212, val_main_v207, val_main_cst_37, val_main_cst_38]
  by_cases h1 : (e : ℕ) < 128
  · have k1 : ¬(128 ≤ (e : ℕ) ∧ (e : ℕ) - 128 < 128) := by omega
    rw [dif_neg k1, dif_pos h1, dif_pos h1, zero_add]
  · have k1 : 128 ≤ (e : ℕ) ∧ (e : ℕ) - 128 < 128 := by omega
    rw [dif_pos k1, dif_neg h1, dif_neg h1, add_zero]
    rfl

theorem okvcol_at (c : Fin 1024) : val_main_v215 (F := Ideal) (X0 a) (X2 a) (X4 a) (X6 a) (X8 a) (X9 a) (ix2 n c) = okv a n (whd c) (wln c) := by
  rw [← okv_at n ha]
  unfold whd wln
  pointwise [val_main_v215]

theorem kpe_at (l : Fin 64) : val_main_v211 (F := Ideal) (X0 a) (X2 a) (X4 a) (X6 a) (X8 a) (ix2 n l) = ∑ h : Fin 4, ok a n h ⟨128 + l, by omega⟩ := by
  simp only [← ok_at n ha]
  pointwise [val_main_v211, val_main_v210, val_main_v209, val_main_v208, val_main_cst_35, val_main_cst_36]
  exact Fin.sum_univ_one _

/-! Through the two projections and the norms of the latents. -/

theorem hq_at (k : Fin 256) : val_main_v217 (F := Ideal) (X0 a) (X1 a) (X3 a) (X5 a) (X7 a) (ix2 n k) = hq a n k := by
  unfold hq
  simp only [← oqcol_at n ha]
  refine Eq.trans ?_ (sum_qheads (fun j => val_main_v216 (F := Ideal) (X0 a) (X1 a) (X3 a) (X5 a) (X7 a) (ix2 n j) * a.wq k j))
  pointwise [val_main_v217]
  rfl

theorem hk_at (k : Fin 256) : val_main_v237 (F := Ideal) (X0 a) (X2 a) (X4 a) (X6 a) (X8 a) (X9 a) (ix2 n k) = hk a n k := by
  unfold hk
  simp only [← okvcol_at n ha]
  pointwise [val_main_v237]
  rfl

theorem zq_at (k : Fin 256) : val_main_v222 (F := Ideal) (X0 a) (X1 a) (X3 a) (X5 a) (X7 a) (ix2 n k) = hq a n k * a.qa k := by
  rw [← hq_at n ha]
  pointwise [val_main_v222, val_main_v221]
  rfl

theorem zk_at (k : Fin 256) : val_main_v242 (F := Ideal) (X0 a) (X2 a) (X4 a) (X6 a) (X8 a) (X9 a) (ix2 n k) = hk a n k * a.kva k := by
  rw [← hk_at n ha]
  pointwise [val_main_v242, val_main_v241]
  rfl

theorem dmslq_at : val_main_v231 (F := Ideal) (X0 a) (X1 a) (X3 a) (X5 a) (X7 a) (ix1 n) = dms len eps mh (lq a n) (fun k => hq a n k * a.qa k) := by
  unfold dms
  simp only [← rootq_at, ← zq_at n ha]
  simp only [← msq_at]
  simp only [← lq_at a]
  pointwise [val_main_v231, val_main_v230, val_main_v229, val_main_v228, val_main_v225, val_main_v224, val_main_v223, val_main_v30, val_main_v29, val_main_v28, val_main_cst_4, val_main_cst_40, val_main_cst_41, val_main_cst_42]
  exact Fin.sum_univ_one _

theorem dmslk_at : val_main_v251 (F := Ideal) (X0 a) (X2 a) (X4 a) (X6 a) (X8 a) (X9 a) (ix1 n) = dms len eps mh (lk a n) (fun k => hk a n k * a.kva k) := by
  unfold dms
  simp only [← rootk_at, ← zk_at n ha]
  simp only [← msk_at]
  simp only [← lk_at a]
  pointwise [val_main_v251, val_main_v250, val_main_v249, val_main_v248, val_main_v245, val_main_v244, val_main_v243, val_main_v46, val_main_v45, val_main_v44, val_main_cst_8, val_main_cst_44, val_main_cst_45, val_main_cst_46]
  exact Fin.sum_univ_one _

theorem dql_at (k : Fin 256) : val_main_v236 (F := Ideal) (X0 a) (X1 a) (X3 a) (X5 a) (X7 a) (ix2 n k) = dql a n k := by
  refine Eq.trans ?_ (dx_latent (lq_real ha n) (fun k => IsReal.mul (hq_real ha n k) (ha.qa k)) k).symm
  rw [← dmslq_at n ha, ← rootq_at, ← zq_at n ha, ← lq_at]
  pointwise [val_main_v236, val_main_v235, val_main_v234, val_main_v233, val_main_v232, val_main_v227, val_main_v226]

theorem dkvl_at (k : Fin 256) : val_main_v256 (F := Ideal) (X0 a) (X2 a) (X4 a) (X6 a) (X8 a) (X9 a) (ix2 n k) = dkvl a n k := by
  refine Eq.trans ?_ (dx_latent (lk_real ha n) (fun k => IsReal.mul (hk_real ha n k) (ha.kva k)) k).symm
  rw [← dmslk_at n ha, ← rootk_at, ← zk_at n ha, ← lk_at]
  pointwise [val_main_v256, val_main_v255, val_main_v254, val_main_v253, val_main_v252, val_main_v247, val_main_v246]

/-! The gradients of the four weights. -/

theorem qw_at (e : Fin 192) : val_main_v192 (F := Ideal) (X0 a) (X1 a) (X3 a) (X7 a) (ix2 0 e) = ∑ n, qwAt a n e := by
  unfold qwAt
  have q (n : Fin 2064) (h : Fin 4) := (root_head (qf_real ha n h)).1
  simp only [q, ← gq_at, ← roothq_at]
  simp only [← qf_at a]
  have w : val_main_v187 (F := Ideal) (X0 a) (X1 a) (X3 a) (X7 a) (ix1 e) = ∑ n : Fin 2064, ∑ h : Fin 4, val_main_v186 (F := Ideal) (X0 a) (X1 a) (X3 a) (X7 a) (ix3 n h e) := by
    unfold val_main_v187
    refine (sum01 _ _ _ e).trans ?_
    pointwise [val_main_cst_30]
  have f : val_main_v191 (F := Ideal) (X0 a) (X1 a) (X3 a) (X7 a) (ix1 e) = val_main_v187 (F := Ideal) (X0 a) (X1 a) (X3 a) (X7 a) (ix1 e) := by
    unfold val_main_v191
    refine (sum01 _ _ _ e).trans ?_
    rw [Fin.sum_univ_one, Fin.sum_univ_one]
    pointwise [val_main_v188, val_main_cst_31]
  refine Eq.trans ?_ ((f.trans w).trans (Finset.sum_congr rfl fun n _ => Finset.sum_congr rfl fun h _ => ?_))
  · pointwise [val_main_v192]
  · pointwise [val_main_v186, val_main_v71, val_main_v70]
    exact mul_comm _ _

theorem kw_at (e : Fin 192) : val_main_v171 (F := Ideal) (X0 a) (X2 a) (X4 a) (X8 a) (ix2 0 e) = ∑ n, kwAt a n e := by
  unfold kwAt
  have q (n : Fin 2064) (h : Fin 4) := (root_head (kf_real ha n h)).1
  simp only [q, ← gk_at, ← roothk_at]
  simp only [← kf_at a]
  have w : val_main_v166 (F := Ideal) (X0 a) (X2 a) (X4 a) (X8 a) (ix1 e) = ∑ n : Fin 2064, ∑ h : Fin 4, val_main_v165 (F := Ideal) (X0 a) (X2 a) (X4 a) (X8 a) (ix3 n h e) := by
    unfold val_main_v166
    refine (sum01 _ _ _ e).trans ?_
    pointwise [val_main_cst_25]
  have f : val_main_v170 (F := Ideal) (X0 a) (X2 a) (X4 a) (X8 a) (ix1 e) = val_main_v166 (F := Ideal) (X0 a) (X2 a) (X4 a) (X8 a) (ix1 e) := by
    unfold val_main_v170
    refine (sum01 _ _ _ e).trans ?_
    rw [Fin.sum_univ_one, Fin.sum_univ_one]
    pointwise [val_main_v167, val_main_cst_26]
  refine Eq.trans ?_ ((f.trans w).trans (Finset.sum_congr rfl fun n _ => Finset.sum_congr rfl fun h _ => ?_))
  · pointwise [val_main_v171]
  · pointwise [val_main_v165, val_main_v87, val_main_v86]
    exact mul_comm _ _

theorem qa_at (k : Fin 256) : val_main_v220 (F := Ideal) (X0 a) (X1 a) (X3 a) (X5 a) (X7 a) (ix2 0 k) = ∑ n, qaAt a n k := by
  unfold qaAt
  have q (n : Fin 2064) := (root_latent (lq_real ha n)).1
  simp only [q, ← hq_at _ ha, ← xq_at]
  pointwise [val_main_v220, val_main_v219, val_main_v218, val_main_cst_39]
  exact Finset.sum_congr rfl fun n _ => mul_comm _ _

theorem kva_at (k : Fin 256) : val_main_v240 (F := Ideal) (X0 a) (X2 a) (X4 a) (X6 a) (X8 a) (X9 a) (ix2 0 k) = ∑ n, kvaAt a n k := by
  unfold kvaAt
  have q (n : Fin 2064) := (root_latent (lk_real ha n)).1
  simp only [q, ← hk_at _ ha, ← xk_at]
  pointwise [val_main_v240, val_main_v239, val_main_v238, val_main_cst_43]
  exact Finset.sum_congr rfl fun n _ => mul_comm _ _

/-! The nine results. -/

theorem res0 (r : Fin 2176) (k : Fin 1024) : val_main_v261 (F := Ideal) (X0 a) (X1 a) (X3 a) (X5 a) (X7 a) (ix2 r k)
    = ext (fun n => wide (oq a n (whd k)) (wln k)) r := by
  have q : (fun n => wide (oq a n (whd k)) (wln k)) = fun n => val_main_v259 (F := Ideal) (X0 a) (X1 a) (X3 a) (X5 a) (X7 a) (ix2 n k) := by
    funext n
    unfold wide whd wln
    simp only [← oqcol_at n ha]
    unfold qcol
    pointwise [val_main_v259, val_main_v258, val_main_v257, val_main_call0_v0, val_main_c]
    rw [zero32]
    have h4 : (k : ℕ) / 256 < 4 := by omega
    by_cases h : (k : ℕ) % 256 < 192
    · rw [dif_pos h, dif_pos (And.intro h4 h)]
    · rw [dif_neg h, dif_neg (fun z => h z.2)]
  rw [q]
  pointwise [val_main_v261, val_main_v260, val_main_call1_v0, val_main_c_47]
  exact ext_pad (fun n => val_main_v259 (F := Ideal) (X0 a) (X1 a) (X3 a) (X5 a) (X7 a) (ix2 n k)) r _ zero32

theorem res1 (r : Fin 2176) (k : Fin 1024) : val_main_v263 (F := Ideal) (X0 a) (X2 a) (X4 a) (X6 a) (X8 a) (X9 a) (ix2 r k)
    = ext (fun n => okv a n (whd k) (wln k)) r := by
  simp only [← okvcol_at _ ha]
  pointwise [val_main_v263, val_main_v262, val_main_call2_v0, val_main_c_48]
  exact ext_pad (fun n => val_main_v215 (F := Ideal) (X0 a) (X2 a) (X4 a) (X6 a) (X8 a) (X9 a) (ix2 n k)) r _ zero32

theorem res2 (r : Fin 2176) (l : Fin 128) : val_main_v266 (F := Ideal) (X0 a) (X2 a) (X4 a) (X6 a) (X8 a) (ix2 r l)
    = ext (fun n => kpe a n l) r := by
  have q : (fun n => kpe a n l) = fun n => val_main_v264 (F := Ideal) (X0 a) (X2 a) (X4 a) (X6 a) (X8 a) (ix2 n l) := by
    funext n
    unfold kpe
    pointwise [val_main_v264, val_main_call3_v0, val_main_c_49]
    split_ifs with h
    · exact (kpe_at n ha ⟨l, h⟩).symm
    · exact zero32.symm
  rw [q]
  pointwise [val_main_v266, val_main_v265, val_main_call4_v0, val_main_c_50]
  exact ext_pad (fun n => val_main_v264 (F := Ideal) (X0 a) (X2 a) (X4 a) (X6 a) (X8 a) (ix2 n l)) r _ zero32

theorem res3 (r : Fin 2176) (k : Fin 256) : val_main_v268 (F := Ideal) (X0 a) (X1 a) (X3 a) (X5 a) (X7 a) (ix2 r k) = ext (fun n => dql a n k) r := by
  simp only [← dql_at _ ha]
  pointwise [val_main_v268, val_main_v267, val_main_call5_v0, val_main_c_51]
  exact ext_pad (fun n => val_main_v236 (F := Ideal) (X0 a) (X1 a) (X3 a) (X5 a) (X7 a) (ix2 n k)) r _ zero32

theorem res4 (r : Fin 2176) (k : Fin 256) : val_main_v270 (F := Ideal) (X0 a) (X2 a) (X4 a) (X6 a) (X8 a) (X9 a) (ix2 r k) = ext (fun n => dkvl a n k) r := by
  simp only [← dkvl_at _ ha]
  pointwise [val_main_v270, val_main_v269, val_main_call6_v0, val_main_c_52]
  exact ext_pad (fun n => val_main_v256 (F := Ideal) (X0 a) (X2 a) (X4 a) (X6 a) (X8 a) (X9 a) (ix2 n k)) r _ zero32

theorem res5 (e : Fin 256) : val_main_v271 (F := Ideal) (X0 a) (X1 a) (X3 a) (X7 a) (ix2 0 e) = wide (fun e => ∑ n, qwAt a n e) e := by
  unfold wide
  simp only [← qw_at ha]
  pointwise [val_main_v271, val_main_call7_v0, val_main_c_53]
  rw [zero32]

theorem res6 (e : Fin 256) : val_main_v272 (F := Ideal) (X0 a) (X2 a) (X4 a) (X8 a) (ix2 0 e) = wide (fun e => ∑ n, kwAt a n e) e := by
  unfold wide
  simp only [← kw_at ha]
  pointwise [val_main_v272, val_main_call8_v0, val_main_c_54]
  rw [zero32]

end Cert.MlaRefIdeal.Ref
-- ==== Proof.Mla.Value.lean ====
/- The backward kernel of the latent attention's projections computes their derivative: the claim about its nine results. -/
module

public import proofs.«01_k».proof.Defs
public import proofs.«01_k».proof.Proof.Mla.Final
public import proofs.«01_k».proof.Proof.Mla.Ref
public import proofs.«01_k».proof.Proof.Gen.MlaRefIdeal.Run
public import proofs.«01_k».proof.Proof.Gen.Pre_mla_finite
public import Idealize.ShloMosaic.Lib.Quiescent

@[expose] public section

set_option maxRecDepth 16384

noncomputable section

open Idealize.ShloMosaic Idealize.ShloMosaic.TcCoe Idealize.SL.Sem

namespace Cert.Pre_mla_finite.Read

open Cert.Pre_mla_finite Cert.Pre_mla_finite.Gen Cert.Num

instance : Subsingleton S_.Idx := ⟨fun _ _ => funext fun a => a.elim0⟩

theorem finite (x0 : FVec Ideal S2064x2632 .f32) (x1 : FVec Ideal S1x256 .f32) (x2 : FVec Ideal S1x256 .f32) (x3 : FVec Ideal S256x768 .f32) (x4 : FVec Ideal S256x1024 .f32) (x5 : FVec Ideal S1x192 .f32) (x6 : FVec Ideal S1x192 .f32) (x7 : FVec Ideal S2064x4x192 .f32) (x8 : FVec Ideal S2064x4x192 .f32) (x9 : FVec Ideal S2064x4x128 .f32)
    (h : fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) := by
  have h0 := congrFun h ix0
  obtain ⟨h1, k9⟩ := IntOp.andi_eq_one.1 h0
  obtain ⟨h2, k8⟩ := IntOp.andi_eq_one.1 h1
  obtain ⟨h3, k7⟩ := IntOp.andi_eq_one.1 h2
  obtain ⟨h4, k6⟩ := IntOp.andi_eq_one.1 h3
  obtain ⟨h5, k5⟩ := IntOp.andi_eq_one.1 h4
  obtain ⟨h6, k4⟩ := IntOp.andi_eq_one.1 h5
  obtain ⟨h7, k3⟩ := IntOp.andi_eq_one.1 h6
  obtain ⟨h8, k2⟩ := IntOp.andi_eq_one.1 h7
  obtain ⟨k0, k1⟩ := IntOp.andi_eq_one.1 h8
  exact ⟨fun i => isReal_of_abs_lt _ (Host.reduce_andi_all _ _ _ _ _ k0 i),
    fun i => isReal_of_abs_lt _ (Host.reduce_andi_all _ _ _ _ _ k1 i),
    fun i => isReal_of_abs_lt _ (Host.reduce_andi_all _ _ _ _ _ k2 i),
    fun i => isReal_of_abs_lt _ (Host.reduce_andi_all _ _ _ _ _ k3 i),
    fun i => isReal_of_abs_lt _ (Host.reduce_andi_all _ _ _ _ _ k4 i),
    fun i => isReal_of_abs_lt _ (Host.reduce_andi_all _ _ _ _ _ k5 i),
    fun i => isReal_of_abs_lt _ (Host.reduce_andi_all _ _ _ _ _ k6 i),
    fun i => isReal_of_abs_lt _ (Host.reduce_andi_all _ _ _ _ _ k7 i),
    fun i => isReal_of_abs_lt _ (Host.reduce_andi_all _ _ _ _ _ k8 i),
    fun i => isReal_of_abs_lt _ (Host.reduce_andi_all _ _ _ _ _ k9 i)⟩

end Cert.Pre_mla_finite.Read

namespace Cert.MlaProj

open Cert.MlaRefIdeal Cert.MlaRefIdeal.Gen Cert.MlaRefIdeal.Read Cert.MlaRefIdeal.Ref Cert.Num Cert.Pad
open Cert.MlaIdeal.Row (wide qwAt kwAt qaAt kvaAt Args)
open Cert.MlaIdeal.Entry (args)

/-- The reference ends, with its arguments unchanged and every counter at zero. -/
theorem reference_ends : Cert.quiescent_MlaRefIdeal (hMlaRefIdeal := Cert.MlaRefIdeal.Gen.facts) := fun m ρ _ =>
  (θ_run _ _ _).mono (fun r h => ⟨fun c => (h c).2.2.2.2.2.2.2.2.2, sem_eq_zero_of_no_sems rfl r.2⟩) (Cert.MlaRefIdeal.Value.run m ρ)

variable (m : (ℓ : Loc Cert.MlaIdeal.nD Cert.MlaIdeal.τ Cert.MlaIdeal.sig) → Buf (Elt Ideal) ℓ) (c : Dev Cert.MlaIdeal.nD)

abbrev a0 : FVec Ideal S2064x2632 .f32 := m ((c : Thread Cert.MlaIdeal.nD Cert.MlaIdeal.τ).loc Cert.MlaIdeal.main_arg0)
abbrev a1 : FVec Ideal S1x256 .f32 := m ((c : Thread Cert.MlaIdeal.nD Cert.MlaIdeal.τ).loc Cert.MlaIdeal.main_arg1)
abbrev a2 : FVec Ideal S1x256 .f32 := m ((c : Thread Cert.MlaIdeal.nD Cert.MlaIdeal.τ).loc Cert.MlaIdeal.main_arg2)
abbrev a3 : FVec Ideal S256x768 .f32 := m ((c : Thread Cert.MlaIdeal.nD Cert.MlaIdeal.τ).loc Cert.MlaIdeal.main_arg3)
abbrev a4 : FVec Ideal S256x1024 .f32 := m ((c : Thread Cert.MlaIdeal.nD Cert.MlaIdeal.τ).loc Cert.MlaIdeal.main_arg4)
abbrev a5 : FVec Ideal S1x192 .f32 := m ((c : Thread Cert.MlaIdeal.nD Cert.MlaIdeal.τ).loc Cert.MlaIdeal.main_arg5)
abbrev a6 : FVec Ideal S1x192 .f32 := m ((c : Thread Cert.MlaIdeal.nD Cert.MlaIdeal.τ).loc Cert.MlaIdeal.main_arg6)
abbrev a7 : FVec Ideal S2064x4x192 .f32 := m ((c : Thread Cert.MlaIdeal.nD Cert.MlaIdeal.τ).loc Cert.MlaIdeal.main_arg7)
abbrev a8 : FVec Ideal S2064x4x192 .f32 := m ((c : Thread Cert.MlaIdeal.nD Cert.MlaIdeal.τ).loc Cert.MlaIdeal.main_arg8)
abbrev a9 : FVec Ideal S2064x4x128 .f32 := m ((c : Thread Cert.MlaIdeal.nD Cert.MlaIdeal.τ).loc Cert.MlaIdeal.main_arg9)

theorem x0_eq : a0 m c = X0 (args m c) := by
  funext i
  idx_vars i
  rfl

theorem x1_eq : a1 m c = X1 (args m c) := by
  funext i
  idx_vars i
  obtain rfl : i0 = 0 := Subsingleton.elim _ _
  rfl

theorem x2_eq : a2 m c = X2 (args m c) := by
  funext i
  idx_vars i
  obtain rfl : i0 = 0 := Subsingleton.elim _ _
  rfl

theorem x3_eq : a3 m c = X3 (args m c) := by
  funext i
  idx_vars i
  rfl

theorem x4_eq : a4 m c = X4 (args m c) := by
  funext i
  idx_vars i
  rfl

theorem x5_eq : a5 m c = X5 (args m c) := by
  funext i
  idx_vars i
  obtain rfl : i0 = 0 := Subsingleton.elim _ _
  rfl

theorem x6_eq : a6 m c = X6 (args m c) := by
  funext i
  idx_vars i
  obtain rfl : i0 = 0 := Subsingleton.elim _ _
  rfl

theorem x7_eq : a7 m c = X7 (args m c) := by
  funext i
  idx_vars i
  rfl

theorem x8_eq : a8 m c = X8 (args m c) := by
  funext i
  idx_vars i
  rfl

theorem x9_eq : a9 m c = X9 (args m c) := by
  funext i
  idx_vars i
  rfl

/-- A sum over the padded rows is the sum over the rows. -/
theorem sum_pad (f : Fin 2064 → EReal) : ∑ r : Fin 2176, ext f r = ∑ n, f n := by
  rw [sum_rows (fun n => ext f n) (fun n h => ext_lt f n h)]
  exact Finset.sum_congr rfl fun n _ => ext_add f n

theorem sum_pad_wide (f : Fin 2064 → Fin 192 → EReal) (e : Fin 256) : ∑ r : Fin 2176, ext (fun n => wide (f n) e) r = wide (fun e => ∑ n, f n e) e := by
  rw [sum_pad]
  unfold wide
  split_ifs
  · rfl
  · exact Finset.sum_const_zero

variable (ha : (args m c).Real)
include ha

theorem end16 : val_main_v261 (F := Ideal) (X0 (args m c)) (X1 (args m c)) (X3 (args m c)) (X5 (args m c)) (X7 (args m c)) = (Cert.MlaIdeal.Run.dats m 0 c).arrAt 16 Cert.MlaIdeal.cfg0.N := by
  rw [Cert.MlaIdeal.Final.final16]
  funext i
  idx_vars i
  exact res0 ha i0 i1

theorem end17 : val_main_v263 (F := Ideal) (X0 (args m c)) (X2 (args m c)) (X4 (args m c)) (X6 (args m c)) (X8 (args m c)) (X9 (args m c)) = (Cert.MlaIdeal.Run.dats m 0 c).arrAt 17 Cert.MlaIdeal.cfg0.N := by
  rw [Cert.MlaIdeal.Final.final17]
  funext i
  idx_vars i
  exact res1 ha i0 i1

theorem end18 : val_main_v266 (F := Ideal) (X0 (args m c)) (X2 (args m c)) (X4 (args m c)) (X6 (args m c)) (X8 (args m c)) = (Cert.MlaIdeal.Run.dats m 0 c).arrAt 18 Cert.MlaIdeal.cfg0.N := by
  rw [Cert.MlaIdeal.Final.final18]
  funext i
  idx_vars i
  exact res2 ha i0 i1

theorem end19 : val_main_v268 (F := Ideal) (X0 (args m c)) (X1 (args m c)) (X3 (args m c)) (X5 (args m c)) (X7 (args m c)) = (Cert.MlaIdeal.Run.dats m 0 c).arrAt 19 Cert.MlaIdeal.cfg0.N := by
  rw [Cert.MlaIdeal.Final.final19]
  funext i
  idx_vars i
  exact res3 ha i0 i1

theorem end20 : val_main_v270 (F := Ideal) (X0 (args m c)) (X2 (args m c)) (X4 (args m c)) (X6 (args m c)) (X8 (args m c)) (X9 (args m c)) = (Cert.MlaIdeal.Run.dats m 0 c).arrAt 20 Cert.MlaIdeal.cfg0.N := by
  rw [Cert.MlaIdeal.Final.final20]
  funext i
  idx_vars i
  exact res4 ha i0 i1

theorem end21 : val_main_v271 (F := Ideal) (X0 (args m c)) (X1 (args m c)) (X3 (args m c)) (X7 (args m c)) = (Cert.MlaIdeal.Run.dats m 0 c).arrAt 21 Cert.MlaIdeal.cfg0.N := by
  rw [Cert.MlaIdeal.Final.final21]
  funext i
  idx_vars i
  obtain rfl : i0 = 0 := Subsingleton.elim _ _
  exact (res5 ha i1).trans (sum_pad_wide (qwAt (args m c)) i1).symm

theorem end22 : val_main_v272 (F := Ideal) (X0 (args m c)) (X2 (args m c)) (X4 (args m c)) (X8 (args m c)) = (Cert.MlaIdeal.Run.dats m 0 c).arrAt 22 Cert.MlaIdeal.cfg0.N := by
  rw [Cert.MlaIdeal.Final.final22]
  funext i
  idx_vars i
  obtain rfl : i0 = 0 := Subsingleton.elim _ _
  exact (res6 ha i1).trans (sum_pad_wide (kwAt (args m c)) i1).symm

theorem end23 : val_main_v220 (F := Ideal) (X0 (args m c)) (X1 (args m c)) (X3 (args m c)) (X5 (args m c)) (X7 (args m c)) = (Cert.MlaIdeal.Run.dats m 0 c).arrAt 23 Cert.MlaIdeal.cfg0.N := by
  rw [Cert.MlaIdeal.Final.final23]
  funext i
  idx_vars i
  obtain rfl : i0 = 0 := Subsingleton.elim _ _
  exact (qa_at ha i1).trans (sum_pad (fun n => qaAt (args m c) n i1)).symm

theorem end24 : val_main_v240 (F := Ideal) (X0 (args m c)) (X2 (args m c)) (X4 (args m c)) (X6 (args m c)) (X8 (args m c)) (X9 (args m c)) = (Cert.MlaIdeal.Run.dats m 0 c).arrAt 24 Cert.MlaIdeal.cfg0.N := by
  rw [Cert.MlaIdeal.Final.final24]
  funext i
  idx_vars i
  obtain rfl : i0 = 0 := Subsingleton.elim _ _
  exact (kva_at ha i1).trans (sum_pad (fun n => kvaAt (args m c) n i1)).symm

omit ha

set_option maxHeartbeats 1600000 in
/-- The kernel's run and the reference's run end with equal gradients of the projections, the latents and the four weights. -/
theorem gradients : Cert.algebraic_MlaIdeal_MlaRefIdeal_pre_mla_finite (hMlaIdeal := Cert.MlaIdeal.Gen.facts)
    (hMlaRefIdeal := Cert.MlaRefIdeal.Gen.facts) (hPre_mla_finite := Cert.Pre_mla_finite.Gen.facts) := by
  intro m ρ m' ρ' hpre hag
  refine ⟨_, _, _, _, _, _, _, _, _, Cert.MlaIdeal.Run.run_blocks m ρ, ?_⟩
  refine (θ_run _ _ _).mono (fun r h c => ?_) (Cert.MlaRefIdeal.Value.run m' ρ')
  obtain ⟨h0, h1, h2, h3, h4, h5, h6, h7, h8, h9⟩ := Cert.Pre_mla_finite.Read.finite _ _ _ _ _ _ _ _ _ _ (hpre c)
  obtain ⟨e0, e1, e2, e3, e4, e5, e6, e7, e8, e9⟩ := hag c
  have ha : (args m c).Real := ⟨fun n j => h0 _, fun k => h1 _, fun k => h2 _, fun k j => h3 _, fun k j => h4 _, fun e => h5 _, fun e => h6 _,
    fun n h e => h7 _, fun n h e => h8 _, fun n h e => h9 _⟩
  have g0 : StableHlo.launchContents m' c (Proc.devRef .tc Cert.MlaRefIdeal.main_arg0) = X0 (args m c) := e0.trans (x0_eq m c)
  have g1 : StableHlo.launchContents m' c (Proc.devRef .tc Cert.MlaRefIdeal.main_arg1) = X1 (args m c) := e1.trans (x1_eq m c)
  have g2 : StableHlo.launchContents m' c (Proc.devRef .tc Cert.MlaRefIdeal.main_arg2) = X2 (args m c) := e2.trans (x2_eq m c)
  have g3 : StableHlo.launchContents m' c (Proc.devRef .tc Cert.MlaRefIdeal.main_arg3) = X3 (args m c) := e3.trans (x3_eq m c)
  have g4 : StableHlo.launchContents m' c (Proc.devRef .tc Cert.MlaRefIdeal.main_arg4) = X4 (args m c) := e4.trans (x4_eq m c)
  have g5 : StableHlo.launchContents m' c (Proc.devRef .tc Cert.MlaRefIdeal.main_arg5) = X5 (args m c) := e5.trans (x5_eq m c)
  have g6 : StableHlo.launchContents m' c (Proc.devRef .tc Cert.MlaRefIdeal.main_arg6) = X6 (args m c) := e6.trans (x6_eq m c)
  have g7 : StableHlo.launchContents m' c (Proc.devRef .tc Cert.MlaRefIdeal.main_arg7) = X7 (args m c) := e7.trans (x7_eq m c)
  have g8 : StableHlo.launchContents m' c (Proc.devRef .tc Cert.MlaRefIdeal.main_arg8) = X8 (args m c) := e8.trans (x8_eq m c)
  have g9 : StableHlo.launchContents m' c (Proc.devRef .tc Cert.MlaRefIdeal.main_arg9) = X9 (args m c) := e9.trans (x9_eq m c)
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
  · rw [val_main_v261_eq, g0, g1, g3, g5, g7]
    exact end16 m c ha
  · rw [val_main_v263_eq, g0, g2, g4, g6, g8, g9]
    exact end17 m c ha
  · rw [val_main_v266_eq, g0, g2, g4, g6, g8]
    exact end18 m c ha
  · rw [val_main_v268_eq, g0, g1, g3, g5, g7]
    exact end19 m c ha
  · rw [val_main_v270_eq, g0, g2, g4, g6, g8, g9]
    exact end20 m c ha
  · rw [val_main_v271_eq, g0, g1, g3, g7]
    exact end21 m c ha
  · rw [val_main_v272_eq, g0, g2, g4, g8]
    exact end22 m c ha
  · rw [val_main_v220_eq, g0, g1, g3, g5, g7]
    exact end23 m c ha
  · rw [val_main_v240_eq, g0, g2, g4, g6, g8, g9]
    exact end24 m c ha

end Cert.MlaProj
-- ==== Proof.Forward.Tile.lean ====
/- The four row tiles of the attention's forward kernel: each stores the weighted sums of the values for its 544
   queries, the softmax taken over the keys up to the tile's last query. -/
module

public import proofs.«01_k».proof.Proof.Gen.FwdIdeal.Skeleton
public import proofs.«01_k».proof.Proof.Attention.Out

@[expose] public section

set_option maxRecDepth 16384

noncomputable section

open Idealize.ShloMosaic Idealize.ShloMosaic.TcCoe Idealize.SL.Sem
open Idealize.ShloMosaic.Pipeline (Dat)

namespace Cert.FwdIdeal.Tile

open Cert.FwdIdeal Cert.FwdIdeal.Gen Cert.Attn
open Cert.KernelIdeal.Tile (mask ofBits_ninf)

theorem named_s : Named.named (F := Ideal) κ "s" (φ := .f32) 0x3D93CD3A#32 = scale :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

variable {Q K : Fin 2064 → Fin 192 → EReal} {V : Fin 2064 → Fin 128 → EReal} (q : FVec Ideal S544x256 .bf16)

theorem tile0 (k : FVec Ideal S544x256 .bf16) (v : FVec Ideal S544x128 .bf16)
    (hq : ∀ a x, q (ix2 a x) = pad Q a x) (hk : ∀ c x, k (ix2 c x) = pad K c x) (hv : ∀ c x, v (ix2 c x) = pad V c x)
    (a : Fin 544) (x : Fin 128) :
    k0_pay2 (F := Ideal) q k v (ix2 a x) = pad (fun t y => ∑ u, pr Q K t u * V u y) a x := by
  refine Eq.trans ?_ (sum_keys (n := 544) (by omega) (pr_causal Q K) V (a : ℕ) x (by omega : (a : ℕ) < 544))
  pointwise [k0_pay2]
  simp only [mask 544 (by omega) 0 (by omega), zero_add, named_s, named_mask, ofBits_ninf, hq, hk, hv,
    ← prob_row Q K (n := 544) (by omega) (a : ℕ) (by omega)]
  rfl

theorem tile544 (k : FVec Ideal S1088x256 .bf16) (v : FVec Ideal S1088x128 .bf16)
    (hq : ∀ a x, q (ix2 a x) = pad Q (544 + a) x) (hk : ∀ c x, k (ix2 c x) = pad K c x) (hv : ∀ c x, v (ix2 c x) = pad V c x)
    (a : Fin 544) (x : Fin 128) :
    k0_pay5 (F := Ideal) (k0_pay3 q) (k0_pay4 k) v (ix2 a x) = pad (fun t y => ∑ u, pr Q K t u * V u y) (544 + a) x := by
  refine Eq.trans ?_ (sum_keys (n := 1088) (by omega) (pr_causal Q K) V (544 + (a : ℕ)) x (by omega : (544 + (a : ℕ)) < 1088))
  pointwise [k0_pay5, k0_pay3, k0_pay4]
  simp only [mask 1088 (by omega) 544 (by omega), named_s, named_mask, ofBits_ninf, hq, hk, hv,
    ← prob_row Q K (n := 1088) (by omega) (544 + (a : ℕ)) (by omega)]
  rfl

theorem tile1088 (k : FVec Ideal S1632x256 .bf16) (v : FVec Ideal S1632x128 .bf16)
    (hq : ∀ a x, q (ix2 a x) = pad Q (1088 + a) x) (hk : ∀ c x, k (ix2 c x) = pad K c x) (hv : ∀ c x, v (ix2 c x) = pad V c x)
    (a : Fin 544) (x : Fin 128) :
    k0_pay8 (F := Ideal) (k0_pay6 q k) k0_pay7 v (ix2 a x) = pad (fun t y => ∑ u, pr Q K t u * V u y) (1088 + a) x := by
  refine Eq.trans ?_ (sum_keys (n := 1632) (by omega) (pr_causal Q K) V (1088 + (a : ℕ)) x (by omega : (1088 + (a : ℕ)) < 1632))
  pointwise [k0_pay8, k0_pay7, k0_pay6]
  simp only [mask 1632 (by omega) 1088 (by omega), named_s, named_mask, ofBits_ninf, hq, hk, hv,
    ← prob_row Q K (n := 1632) (by omega) (1088 + (a : ℕ)) (by omega)]
  rfl

theorem tile1632 (k : FVec Ideal S2176x256 .bf16) (v : FVec Ideal S2176x128 .bf16)
    (hq : ∀ a x, q (ix2 a x) = pad Q (1632 + a) x) (hk : ∀ c x, k (ix2 c x) = pad K c x) (hv : ∀ c x, v (ix2 c x) = pad V c x)
    (a : Fin 544) (x : Fin 128) :
    k0_pay1 (F := Ideal) (k0_pay9 q k) v (ix2 a x) = pad (fun t y => ∑ u, pr Q K t u * V u y) (1632 + a) x := by
  refine Eq.trans ?_ (sum_keys (n := 2176) (by omega) (pr_causal Q K) V (1632 + (a : ℕ)) x (by omega : (1632 + (a : ℕ)) < 2176))
  pointwise [k0_pay1, k0_pay9]
  simp only [mask 2176 (by omega) 1632 (by omega), named_s, named_mask, ofBits_ninf, hq, hk, hv,
    ← prob_row Q K (n := 2176) (by omega) (1632 + (a : ℕ)) (by omega)]
  rfl

end Cert.FwdIdeal.Tile
-- ==== Proof.Forward.Final.lean ====
/- From tiles to the call's result: the output block of a head, the arrays the call is given, and the array it
   leaves, as the packed attention output. -/
module

public import proofs.«01_k».proof.Proof.Gen.FwdIdeal.Value
public import proofs.«01_k».proof.Proof.Forward.Tile
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FwdIdeal.Final

open Cert.FwdIdeal Cert.FwdIdeal.Gen Cert.Attn Cert.FwdIdeal.Tile
open Cert.KernelIdeal.Out (rows16 prefix16)

/-- The attention of one head: the sums of the values weighted by the softmax of the scores. -/
def out (Q K : Fin 2064 → Fin 192 → EReal) (V : Fin 2064 → Fin 128 → EReal) (t : Fin 2064) (y : Fin 128) : EReal :=
  ∑ u, pr Q K t u * V u y

/-- The output block of one head. -/
theorem out3_at {Q K : Fin 2064 → Fin 192 → EReal} {V : Fin 2064 → Fin 128 → EReal}
    (q k : FVec Ideal S2176x256 .bf16) (v : FVec Ideal S2176x128 .bf16)
    (hq : ∀ a x, q (ix2 a x) = pad Q a x) (hk : ∀ c x, k (ix2 c x) = pad K c x)
    (hv : ∀ c x, v (ix2 c x) = pad V c x) (r : Fin 2176) (x : Fin 128) :
    out0_3 (F := Ideal) q k v (ix2 r x) = pad (out Q K V) r x := by
  unfold out
  frame_out
  canon_tiles y e
  all_goals
    idx_vars y
    have e0' : (r : ℕ) = _ := e0
    have e1' : (x : ℕ) = _ := e1
    rw [e0', e1']
  · exact tile1632 _ _ _ (rows16 q Q hq 1632 544 _) hk hv y0 y1
  · exact tile1088 _ _ _ (rows16 q Q hq 1088 544 _) (prefix16 k K hk 1632 _) (prefix16 v V hv 1632 _) y0 y1
  · exact tile544 _ _ _ (rows16 q Q hq 544 544 _) (prefix16 k K hk 1088 _) (prefix16 v V hv 1088 _) y0 y1
  · exact tile0 _ _ _ (prefix16 q Q hq 544 _) (prefix16 k K hk 544 _) (prefix16 v V hv 544 _) y0 y1

theorem zero32 : (FloatOps.sitofp (F := Ideal) FTy.f32 (0#32) : EReal) = 0 := by
  show (((0#32 : BitVec 32).toInt : ℝ) : EReal) = 0
  simp

variable (m : (ℓ : Loc nD τ sig) → Buf (Elt Ideal) ℓ)

theorem entry0 (c : Dev nD) (r : Fin 2176) (j : Fin 1024) :
    V m c main_v3 (ix2 r j) = packed 256 (by omega) (head (m ((c : Thread nD τ).loc main_arg0))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem entry1 (c : Dev nD) (r : Fin 2176) (j : Fin 1024) :
    V m c main_v7 (ix2 r j) = packed 256 (by omega) (head (m ((c : Thread nD τ).loc main_arg1))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem entry2 (c : Dev nD) (r : Fin 2176) (j : Fin 512) :
    V m c main_v11 (ix2 r j) = packed 128 (by omega) (head (m ((c : Thread nD τ).loc main_arg2))) r j := by
  unfold V
  simp only [List.flatten_cons, List.flatten_nil, List.append_nil, List.cons_append, List.nil_append]
  after_reads_at
  unfold packed Attn.pad head
  rw [zero32]
  refine dite_congr (propext (by omega)) (fun _ => rfl) fun _ => rfl

theorem idx : ∀ t : Fin cfg0.N, win0_0.index t = ![0, t.val] ∧ win0_1.index t = ![0, t.val] ∧ win0_2.index t = ![0, t.val]
    ∧ win0_3.index t = ![0, t.val] ∧ t.val < 4 :=
  (by decide +kernel : ∀ t : Fin grid0.N, _)

/-- The head of a grid point. -/
def hd (t : Fin cfg0.N) : Fin 4 := ⟨t, (idx t).2.2.2.2⟩

def blk0 (c : Dev nD) (t : Fin cfg0.N) : FVec Ideal S2176x256 .bf16 := iblk m c 0 t

theorem block0 (c : Dev nD) (t : Fin cfg0.N) (r : Fin 2176) (x : Fin 256) :
    blk0 m c t (ix2 r x) = Attn.pad (head (m ((c : Thread nD τ).loc main_arg0)) (hd t)) r x := by
  have ht : (t : ℕ) < 4 := (hd t).isLt
  have e : (win0_0.blk t).view.emb (ix2 r x) = ix2 r (⟨t * 256 + x, by omega⟩ : Fin 1024) := by blk_ext [idx t]
  unfold blk0
  blk_simp [iblk]
  rw [e, entry0]
  exact packed_at 256 (by omega) _ (hd t) r x _ _ rfl rfl

def blk1 (c : Dev nD) (t : Fin cfg0.N) : FVec Ideal S2176x256 .bf16 := iblk m c 1 t

theorem block1 (c : Dev nD) (t : Fin cfg0.N) (r : Fin 2176) (x : Fin 256) :
    blk1 m c t (ix2 r x) = Attn.pad (head (m ((c : Thread nD τ).loc main_arg1)) (hd t)) r x := by
  have ht : (t : ℕ) < 4 := (hd t).isLt
  have e : (win0_1.blk t).view.emb (ix2 r x) = ix2 r (⟨t * 256 + x, by omega⟩ : Fin 1024) := by blk_ext [idx t]
  unfold blk1
  blk_simp [iblk]
  rw [e, entry1]
  exact packed_at 256 (by omega) _ (hd t) r x _ _ rfl rfl

def blk2 (c : Dev nD) (t : Fin cfg0.N) : FVec Ideal S2176x128 .bf16 := iblk m c 2 t

theorem block2 (c : Dev nD) (t : Fin cfg0.N) (r : Fin 2176) (x : Fin 128) :
    blk2 m c t (ix2 r x) = Attn.pad (head (m ((c : Thread nD τ).loc main_arg2)) (hd t)) r x := by
  have ht : (t : ℕ) < 4 := (hd t).isLt
  have e : (win0_2.blk t).view.emb (ix2 r x) = ix2 r (⟨t * 128 + x, by omega⟩ : Fin 512) := by blk_ext [idx t]
  unfold blk2
  blk_simp [iblk]
  rw [e, entry2]
  exact packed_at 128 (by omega) _ (hd t) r x _ _ rfl rfl

/-- The attention of every head. -/
def outs (c : Dev nD) (h : Fin 4) : Fin 2064 → Fin 128 → EReal :=
  out (head (m ((c : Thread nD τ).loc main_arg0)) h) (head (m ((c : Thread nD τ).loc main_arg1)) h)
    (head (m ((c : Thread nD τ).loc main_arg2)) h)

theorem left3 (c : Dev nD) (t : Fin cfg0.N) (r : Fin 2176) (x : Fin 128) :
    out0_3 (F := Ideal) (blk0 m c t) (blk1 m c t) (blk2 m c t) (ix2 r x) = Attn.pad (outs m c (hd t)) r x :=
  out3_at _ _ _ (block0 m c t) (block1 m c t) (block2 m c t) r x

/-- The array the call leaves. -/
theorem final3 (c : Dev nD) : (dats m 0 c).arrAt 3 (cfgs 0).N
    = fun i : (⟨2, ![2176, 512]⟩ : Shape).Idx => packed 128 (by omega) (outs m c) (i 0) (i 1) := by
  refine (dats m 0 c).arrAt_eq_of_covers 3 _ (by decide +kernel) fun t _ y => ?_
  have ht : (t : ℕ) < 4 := (hd t).isLt
  idx_vars y
  have e : (win0_3.blk t).view.emb (ix2 y0 y1) = ix2 y0 (⟨t * 128 + y1, by omega⟩ : Fin 512) := by blk_ext [idx t]
  blk_simp [idx t]
  rw [after0_3]
  refine (left3 m c t y0 y1).trans ?_
  exact (congrArg (fun i : (⟨2, ![2176, 512]⟩ : Shape).Idx => packed 128 (by omega) (outs m c) (i 0) (i 1)) e).trans
    (packed_at 128 (by omega) _ (hd t) y0 y1 _ _ rfl rfl) |>.symm

end Cert.FwdIdeal.Final
-- ==== Proof.Forward.Value.lean ====
/- The reference's side of the attention's forward call, read at an index, and the value claim. -/
module

public import proofs.«01_k».proof.Defs
public import proofs.«01_k».proof.Proof.Gen.FwdRefIdeal.Read
public import proofs.«01_k».proof.Proof.Gen.Pre_fwd_finite
public import proofs.«01_k».proof.Proof.Attention.Ref
public import proofs.«01_k».proof.Proof.Attention.Pre
public import proofs.«01_k».proof.Proof.Forward.Final
public import proofs.«01_k».proof.Proof.Gen.Fwd.Frame
public import proofs.«01_k».proof.Proof.Gen.FwdIdeal.Frame

@[expose] public section

set_option maxRecDepth 16384

noncomputable section

open Idealize.ShloMosaic Idealize.ShloMosaic.TcCoe Idealize.SL.Sem
open Idealize.ShloMosaic.Pipeline (Dat)

namespace Cert.FwdRefIdeal.Ref

open Cert.FwdRefIdeal Cert.FwdRefIdeal.Gen Cert.FwdRefIdeal.Read Cert.Attn
open Cert.ReferenceIdeal.Ref (mask scale_eq ofBits_ninf zero32)

variable (q k : FVec Ideal S1x2064x4x192 .f32) (v : FVec Ideal S1x2064x4x128 .f32)

theorem v15_at (h : Fin 4) (t u : Fin 2064) : val_main_v15 (F := Ideal) q k (ix4 0 h t u) = ms (head q h) (head k h) t u := by
  pointwise [val_main_v15, val_main_v7, val_main_v3, val_main_v0, val_main_v1, val_main_v6, val_main_v5, val_main_v4, val_main_cst, val_main_cst_0,
    val_main_call0_v1, val_main_v14, val_main_v13, val_main_v12, val_main_v11, val_main_v10, val_main_v9, val_main_v8, val_main_call0_v2, val_main_call0_v0,
    val_main_cst_1]
  rw [mask, scale_eq]
  exact if_congr Iff.rfl rfl ofBits_ninf

theorem v16_at (h : Fin 4) (t : Fin 2064) : val_main_v16 (F := Ideal) q k (ix3 0 h t) = top (ms (head q h) (head k h) t) := by
  pointwise [val_main_v16]
  simp only [v15_at]
  rw [show val_main_cst_2 (F := Ideal) (Shape.Idx.first h_S_) = (⊥ : EReal) from ofBits_ninf]
  rfl

theorem v20_at (h : Fin 4) (t u : Fin 2064) : val_main_v20 (F := Ideal) q k (ix4 0 h t u) = top (ms (head q h) (head k h) t) := by
  rw [val_main_v20_apply, val_main_v19_apply, val_main_v18_apply, val_main_v17_apply, val_main_cst_3_apply]
  have e : idx_main_v19 (idx_main_v20 (ix4 0 h t u)) = ix3 0 h t := funext fun a => by fin_cases a <;> rfl
  rw [e, v16_at]
  show max (Ideal.ofBits .f32 0xFF800000#32) _ = _
  rw [ofBits_ninf]
  exact max_eq_right bot_le

theorem v22_at (h : Fin 4) (t u : Fin 2064) : val_main_v22 (F := Ideal) q k (ix4 0 h t u) = wt (ms (head q h) (head k h) t) u := by
  rw [val_main_v22_apply, val_main_v21_apply, v20_at, v15_at]
  rfl

theorem v25_at (h : Fin 4) (t u : Fin 2064) : val_main_v25 (F := Ideal) q k (ix4 0 h t u) = ∑ u, wt (ms (head q h) (head k h) t) u := by
  pointwise [val_main_v25, val_main_v24, val_main_v23]
  simp only [v22_at]
  rw [show val_main_cst_4 (F := Ideal) (Shape.Idx.first h_S_) = (0 : EReal) from Ideal.ofBits_zero_f32, zero_add]

theorem v26_at (h : Fin 4) (t u : Fin 2064) : val_main_v26 (F := Ideal) q k (ix4 0 h t u)
    = Ideal.div (wt (ms (head q h) (head k h) t) u) (∑ u, wt (ms (head q h) (head k h) t) u) := by
  pointwise [val_main_v26]
  rw [v22_at, v25_at]

theorem fill (i : S_.Idx) : val_main_call1_v0 (F := Ideal) i = (0 : EReal) := zero32

theorem v31_at (r : Fin 2176) (j : Fin 512) : val_main_v31 (F := Ideal) q k v (ix2 r j)
    = packed 128 (by omega) (fun h t y => ∑ u, val_main_v26 (F := Ideal) q k (ix4 0 h t u) * head v h u y) r j := by
  pointwise [val_main_v31, val_main_v30, val_main_v29, val_main_v28, val_main_v27, val_main_v2]
  refine dite_congr (propext (by omega)) (fun _ => ?_) fun _ => fill _
  rfl

variable {q k v} (hq : ∀ h, Finite (head q h)) (hk : ∀ h, Finite (head k h))

include hq hk in
/-- The reference's array. -/
theorem attended : val_main_v31 (F := Ideal) q k v = fun i : (⟨2, ![2176, 512]⟩ : Shape).Idx =>
    packed 128 (by omega) (fun h => Cert.FwdIdeal.Final.out (head q h) (head k h) (head v h)) (i 0) (i 1) := by
  funext i
  idx_vars i
  refine (v31_at q k v i0 i1).trans ?_
  unfold Cert.FwdIdeal.Final.out
  simp only [v26_at, pr_plain (hq _) (hk _)]

end Cert.FwdRefIdeal.Ref

namespace Cert.Pre_fwd_finite.Read

open Cert.Pre_fwd_finite Cert.Pre_fwd_finite.Gen Cert.Attn

theorem finite (q k : FVec Ideal S1x2064x4x192 .f32) (v : FVec Ideal S1x2064x4x128 .f32) (h : fn (F := Ideal) q k v = fun _ => 1#1) :
    (∀ n, Finite (head q n)) ∧ ∀ n, Finite (head k n) := by
  have h0 := congrFun h ix0
  obtain ⟨hq, hk⟩ := IntOp.andi_eq_one.1 h0
  haveI : Subsingleton S_.Idx := ⟨fun _ _ => funext fun a => a.elim0⟩
  exact ⟨Cert.Pre_finite.Read.heads q fun i => Host.reduce_andi_all _ _ _ _ _ hq i,
    Cert.Pre_finite.Read.heads k fun i => Host.reduce_andi_all _ _ _ _ _ hk i⟩

end Cert.Pre_fwd_finite.Read

namespace Cert.AttnFwd

/-- The reference ends, with its arguments unchanged and every counter at zero. -/
theorem reference_ends : Cert.quiescent_FwdRefIdeal (hFwdRefIdeal := Cert.FwdRefIdeal.Gen.facts) := fun m ρ _ =>
  (θ_run _ _ _).mono (fun r h => ⟨fun c => (h c).2, sem_eq_zero_of_no_sems rfl r.2⟩) (Cert.FwdRefIdeal.Value.run m ρ)

/-- The kernel's run and the reference's run end with equal attention outputs. -/
theorem attention : Cert.algebraic_FwdIdeal_FwdRefIdeal_pre_fwd_finite (hFwdIdeal := Cert.FwdIdeal.Gen.facts)
    (hFwdRefIdeal := Cert.FwdRefIdeal.Gen.facts) (hPre_fwd_finite := Cert.Pre_fwd_finite.Gen.facts) := by
  intro m ρ m' ρ' hpre hag
  refine ⟨_, Cert.FwdIdeal.Value.run_blocks m ρ, ?_⟩
  refine (θ_run _ _ _).mono (fun r h c => ?_) (Cert.FwdRefIdeal.Value.run m' ρ')
  obtain ⟨hq, hk⟩ := Cert.Pre_fwd_finite.Read.finite _ _ _ (hpre c)
  obtain ⟨e0, e1, e2⟩ := hag c
  refine ⟨(h c).1.trans ?_, (h c).2⟩
  rw [Cert.FwdRefIdeal.Read.val_main_v31_eq, e0, e1, e2]
  exact (Cert.FwdRefIdeal.Ref.attended hq hk).trans (Cert.FwdIdeal.Final.final3 m c).symm

end Cert.AttnFwd
-- ==== Proof.MixFwd.Row.lean ====
/- One row of the forward output call: the two normed branches, the second one gated, side by side. -/
module

public import proofs.«01_k».proof.Proof.Common.Rms
public import proofs.«01_k».proof.Proof.Common.Consts
public import proofs.«01_k».proof.Proof.Common.Heads

@[expose] public section

set_option maxRecDepth 16384

noncomputable section

open Idealize.ShloMosaic

namespace Cert.MixRow

open Cert.Num Cert.Rms Cert.Heads

/-- One over the head's length, and the norm's small constant. -/
abbrev inv : EReal := Ideal.ofBits .f32 0x3C000000#32
abbrev eps : EReal := Ideal.ofBits .f32 0x358637BD#32

section

variable (x y z : Fin 512 → EReal) (v w : Fin 128 → EReal)

/-- Column `d` of head `j` of the normed row. -/
def nrm (j : Fin 4) (d : Fin 128) : EReal := x (col j d) * rt inv eps (fun e => x (col j e)) * v d

/-- Column `k` of the row of both branches. -/
def mixed (k : Fin 1024) : EReal :=
  if h : (k : ℕ) < 512 then nrm x v (hd ⟨k, h⟩) (ln ⟨k, h⟩)
  else nrm y w (hd ⟨k - 512, by omega⟩) (ln ⟨k - 512, by omega⟩) * (z ⟨k - 512, by omega⟩ * sg (z ⟨k - 512, by omega⟩))

theorem hd_col (j : Fin 4) (d : Fin 128) : hd (col j d) = j := Fin.ext (by show ((j : ℕ) * 128 + d) / 128 = j; omega)
theorem ln_col (j : Fin 4) (d : Fin 128) : ln (col j d) = d := Fin.ext (by show ((j : ℕ) * 128 + d) % 128 = d; omega)

theorem mixed_lo (j : Fin 4) (d : Fin 128) : mixed x y z v w (lo (col j d)) = nrm x v j d := by
  unfold mixed
  have h : ((lo (col j d) : Fin 1024) : ℕ) < 512 := (col j d).isLt
  rw [dif_pos h, show (⟨(lo (col j d) : Fin 1024), h⟩ : Fin 512) = col j d from rfl, hd_col, ln_col]

theorem mixed_hi (j : Fin 4) (d : Fin 128) :
    mixed x y z v w (hi (col j d)) = nrm y w j d * (z (col j d) * sg (z (col j d))) := by
  unfold mixed
  have e : ((hi (col j d) : Fin 1024) : ℕ) = 512 + (col j d : Fin 512) := rfl
  have h : ¬ ((hi (col j d) : Fin 1024) : ℕ) < 512 := by omega
  have q : (⟨((hi (col j d) : Fin 1024) : ℕ) - 512, by omega⟩ : Fin 512) = col j d := Fin.ext (by show _ - 512 = _; omega)
  rw [dif_neg h, q, hd_col, ln_col]

/-- Every column is a column of one of the two branches. -/
theorem split (k : Fin 1024) : (∃ j d, k = lo (col j d)) ∨ ∃ j d, k = hi (col j d) := by
  by_cases h : (k : ℕ) < 512
  · exact .inl ⟨hd ⟨k, h⟩, ln ⟨k, h⟩, by rw [col_hd]; rfl⟩
  · exact .inr ⟨hd ⟨k - 512, by omega⟩, ln ⟨k - 512, by omega⟩, by rw [col_hd]; exact Fin.ext (by show (k : ℕ) = 512 + (k - 512); omega)⟩

/-- Rows of zeros stay rows of zeros. -/
theorem mixed_zero (k : Fin 1024) : mixed (fun _ => 0) (fun _ => 0) z v w k = 0 := by
  unfold mixed nrm
  simp

/-- The row's factor with the mean square written as a quotient. -/
theorem rt_ms (x : Fin 128 → EReal) : rt inv eps x = Ideal.rsqrt (ms (Ideal.ofBits .f32 0x43000000#32) eps x) := by
  unfold rt ms
  rw [bits_128, Ideal.div_coe (by norm_num), show inv = ((1 / 128 : ℝ) : EReal) from bits_inv128]

end

end Cert.MixRow
-- ==== Proof.MixFwd.Tile.lean ====
/- The block of the forward output call: its printed payloads at an index, as the formulas of `Cert.MixRow`. -/
module

public import proofs.«01_k».proof.Proof.Gen.MixFwdIdeal.Skeleton
public import proofs.«01_k».proof.Proof.MixFwd.Row

@[expose] public section

set_option maxRecDepth 16384

noncomputable section

open Idealize.ShloMosaic Idealize.ShloMosaic.TcCoe Idealize.SL.Sem

namespace Cert.MixFwdIdeal.Tile

open Cert.MixFwdIdeal Cert.MixFwdIdeal.Gen Cert.Num Cert.Rms Cert.Heads Cert.MixRow

/-- The padding rows of block `a`, row `r`, as the kernel compares them. -/
theorem mask_sel (a : Fin 4) (r : Fin 544) (x : EReal) :
    Scalar.select (Scalar.cmpi .sge (IntOp.addi (IntOp.muli (BitVec.ofNat 32 (a : ℕ)) 544#32) (BitVec.ofNat 32 r)) 112#32) x 0
      = if 112 ≤ 544 * (a : ℕ) + r then x else 0 := by
  have : Scalar.cmpi .sge (IntOp.addi (IntOp.muli (BitVec.ofNat 32 (a : ℕ)) 544#32) (BitVec.ofNat 32 (r : ℕ))) 112#32
      = if 112 ≤ 544 * (a : ℕ) + r then 1#1 else 0#1 := by revert a r; decide +kernel
  rw [this]
  split <;> rfl

section

variable (i : grid0.Coords) (v0 v2 v4 : FVec Ideal S544x512 .f32) (v6 v7 : FVec Ideal S1x128 .f32)

theorem m0 (r : Fin 544) (d : Fin 128) : k0_pay6 (F := Ideal) i v0 v6 (ix2 r d)
    = if 112 ≤ 544 * (i 0 : ℕ) + r then nrm (fun k => v0 (ix2 r k)) (fun d => v6 (ix2 0 d)) 0 d else 0 := by
  unfold nrm rt
  rw [← mask_sel (i 0)]
  simp only [col0]
  pointwise [k0_pay6, k0_pay5, k0_pay2]
  try rfl

theorem m1 (r : Fin 544) (d : Fin 128) : k0_pay9 (F := Ideal) v6 (k0_pay5 i) (k0_pay7 v0) (k0_pay8 v0) (ix2 r d)
    = if 112 ≤ 544 * (i 0 : ℕ) + r then nrm (fun k => v0 (ix2 r k)) (fun d => v6 (ix2 0 d)) 1 d else 0 := by
  unfold nrm rt
  rw [← mask_sel (i 0)]
  simp only [col1]
  pointwise [k0_pay9, k0_pay8, k0_pay7, k0_pay5, k0_pay2]
  try rfl

theorem m2 (r : Fin 544) (d : Fin 128) : k0_pay10 (F := Ideal) (k0_pay2 v0) v6 (k0_pay5 i) (ix2 r d)
    = if 112 ≤ 544 * (i 0 : ℕ) + r then nrm (fun k => v0 (ix2 r k)) (fun d => v6 (ix2 0 d)) 2 d else 0 := by
  unfold nrm rt
  rw [← mask_sel (i 0)]
  simp only [col2]
  pointwise [k0_pay10, k0_pay5, k0_pay2]
  try rfl

theorem m3 (r : Fin 544) (d : Fin 128) : k0_pay11 (F := Ideal) (k0_pay2 v0) v6 (k0_pay5 i) (ix2 r d)
    = if 112 ≤ 544 * (i 0 : ℕ) + r then nrm (fun k => v0 (ix2 r k)) (fun d => v6 (ix2 0 d)) 3 d else 0 := by
  unfold nrm rt
  rw [← mask_sel (i 0)]
  simp only [col3]
  pointwise [k0_pay11, k0_pay5, k0_pay2]
  try rfl

theorem d0 (r : Fin 544) (d : Fin 128) : k0_pay14 (F := Ideal) (k0_pay4 v4) v7 (k0_pay12 (k0_pay3 v2)) (k0_pay13 (k0_pay3 v2)) (Scalar.ofBits .f32 0x358637BD#32) (ix2 r d)
    = nrm (fun k => v2 (ix2 r k)) (fun d => v7 (ix2 0 d)) 0 d * (v4 (ix2 r (col 0 d)) * sg (v4 (ix2 r (col 0 d)))) := by
  unfold nrm rt sg
  simp only [col0]
  pointwise [k0_pay14, k0_pay13, k0_pay12, k0_pay4, k0_pay3]

theorem d1 (r : Fin 544) (d : Fin 128) : k0_pay15 (F := Ideal) (k0_pay3 v2) (k0_pay4 v4) v7 (ix2 r d)
    = nrm (fun k => v2 (ix2 r k)) (fun d => v7 (ix2 0 d)) 1 d * (v4 (ix2 r (col 1 d)) * sg (v4 (ix2 r (col 1 d)))) := by
  unfold nrm rt sg
  simp only [col1]
  pointwise [k0_pay15, k0_pay4, k0_pay3]

section

variable (p0 p1 p2 p3 p4 p5 : FVec Ideal S544x128 .f32) (r : Fin 544) (d : Fin 128)

theorem cat0 : k0_pay18 (F := Ideal) (k0_pay3 v2) (k0_pay4 v4) v7 p0 p1 p2 p3 p4 p5 (k0_pay16 (k0_pay3 v2)) (k0_pay17 (k0_pay3 v2)) (ix2 r (lo (col 0 d))) = p0 (ix2 r d) := by
  unfold lo
  simp only [col0]
  pointwise [k0_pay18]

theorem cat1 : k0_pay18 (F := Ideal) (k0_pay3 v2) (k0_pay4 v4) v7 p0 p1 p2 p3 p4 p5 (k0_pay16 (k0_pay3 v2)) (k0_pay17 (k0_pay3 v2)) (ix2 r (lo (col 1 d))) = p1 (ix2 r d) := by
  unfold lo
  simp only [col1]
  pointwise [k0_pay18]

theorem cat2 : k0_pay18 (F := Ideal) (k0_pay3 v2) (k0_pay4 v4) v7 p0 p1 p2 p3 p4 p5 (k0_pay16 (k0_pay3 v2)) (k0_pay17 (k0_pay3 v2)) (ix2 r (lo (col 2 d))) = p2 (ix2 r d) := by
  unfold lo
  simp only [col2]
  pointwise [k0_pay18]
  rw [dif_neg (by omega), dif_neg (by omega), dif_pos (by omega)]
  exact congrArg (fun e => p2 (ix2 r e)) (Fin.ext (by simp only; omega))

theorem cat3 : k0_pay18 (F := Ideal) (k0_pay3 v2) (k0_pay4 v4) v7 p0 p1 p2 p3 p4 p5 (k0_pay16 (k0_pay3 v2)) (k0_pay17 (k0_pay3 v2)) (ix2 r (lo (col 3 d))) = p3 (ix2 r d) := by
  unfold lo
  simp only [col3]
  pointwise [k0_pay18]
  rw [dif_neg (by omega), dif_neg (by omega), dif_neg (by omega), dif_pos (by omega)]
  exact congrArg (fun e => p3 (ix2 r e)) (Fin.ext (by simp only; omega))

theorem cat4 : k0_pay18 (F := Ideal) (k0_pay3 v2) (k0_pay4 v4) v7 p0 p1 p2 p3 p4 p5 (k0_pay16 (k0_pay3 v2)) (k0_pay17 (k0_pay3 v2)) (ix2 r (hi (col 0 d))) = p4 (ix2 r d) := by
  unfold hi
  simp only [col0]
  pointwise [k0_pay18]
  rw [dif_neg (by omega), dif_neg (by omega), dif_neg (by omega), dif_neg (by omega), dif_pos (by omega)]
  exact congrArg (fun e => p4 (ix2 r e)) (Fin.ext (by simp only; omega))

theorem cat5 : k0_pay18 (F := Ideal) (k0_pay3 v2) (k0_pay4 v4) v7 p0 p1 p2 p3 p4 p5 (k0_pay16 (k0_pay3 v2)) (k0_pay17 (k0_pay3 v2)) (ix2 r (hi (col 1 d))) = p5 (ix2 r d) := by
  unfold hi
  simp only [col1]
  pointwise [k0_pay18]
  rw [dif_neg (by omega), dif_neg (by omega), dif_neg (by omega), dif_neg (by omega), dif_neg (by omega), dif_pos (by omega)]
  exact congrArg (fun e => p5 (ix2 r e)) (Fin.ext (by simp only; omega))

theorem cat6 : k0_pay18 (F := Ideal) (k0_pay3 v2) (k0_pay4 v4) v7 p0 p1 p2 p3 p4 p5 (k0_pay16 (k0_pay3 v2)) (k0_pay17 (k0_pay3 v2)) (ix2 r (hi (col 2 d)))
    = nrm (fun k => v2 (ix2 r k)) (fun d => v7 (ix2 0 d)) 2 d * (v4 (ix2 r (col 2 d)) * sg (v4 (ix2 r (col 2 d)))) := by
  unfold nrm rt sg hi
  simp only [col2]
  pointwise [k0_pay18, k0_pay17, k0_pay16, k0_pay4, k0_pay3]
  rw [dif_neg (by omega), dif_neg (by omega), dif_neg (by omega), dif_neg (by omega), dif_neg (by omega), dif_neg (by omega), dif_pos (by omega)]
  simp only [show 512 + (256 + (d : ℕ)) - 128 - 128 - 128 - 128 - 128 - 128 = d by omega]

theorem cat7 : k0_pay18 (F := Ideal) (k0_pay3 v2) (k0_pay4 v4) v7 p0 p1 p2 p3 p4 p5 (k0_pay16 (k0_pay3 v2)) (k0_pay17 (k0_pay3 v2)) (ix2 r (hi (col 3 d)))
    = nrm (fun k => v2 (ix2 r k)) (fun d => v7 (ix2 0 d)) 3 d * (v4 (ix2 r (col 3 d)) * sg (v4 (ix2 r (col 3 d)))) := by
  unfold nrm rt sg hi
  simp only [col3]
  pointwise [k0_pay18, k0_pay17, k0_pay16, k0_pay4, k0_pay3]
  rw [dif_neg (by omega), dif_neg (by omega), dif_neg (by omega), dif_neg (by omega), dif_neg (by omega), dif_neg (by omega), dif_neg (by omega)]
  simp only [show 512 + (384 + (d : ℕ)) - 128 - 128 - 128 - 128 - 128 - 128 - 128 = d by omega]

end

/-- Row `r` of the block of both branches; the first branch is zero in the padding rows. -/
def row (r : Fin 544) : Fin 1024 → EReal :=
  mixed (fun k => if 112 ≤ 544 * (i 0 : ℕ) + r then v0 (ix2 r k) else 0) (fun k => v2 (ix2 r k)) (fun k => v4 (ix2 r k))
    (fun d => v6 (ix2 0 d)) (fun d => v7 (ix2 0 d))

theorem row_lo (r : Fin 544) (j : Fin 4) (d : Fin 128) : row i v0 v2 v4 v6 v7 r (lo (col j d))
    = if 112 ≤ 544 * (i 0 : ℕ) + r then nrm (fun k => v0 (ix2 r k)) (fun d => v6 (ix2 0 d)) j d else 0 := by
  unfold row
  rw [mixed_lo]
  unfold nrm
  split
  · rfl
  · simp

theorem row_at (r : Fin 544) (k : Fin 1024) : k0_pay18 (F := Ideal) (k0_pay3 v2) (k0_pay4 v4) v7 (k0_pay6 i v0 v6) (k0_pay9 v6 (k0_pay5 i) (k0_pay7 v0) (k0_pay8 v0)) (k0_pay10 (k0_pay2 v0) v6 (k0_pay5 i)) (k0_pay11 (k0_pay2 v0) v6 (k0_pay5 i)) (k0_pay14 (k0_pay4 v4) v7 (k0_pay12 (k0_pay3 v2)) (k0_pay13 (k0_pay3 v2)) (Scalar.ofBits .f32 0x358637BD#32)) (k0_pay15 (k0_pay3 v2) (k0_pay4 v4) v7) (k0_pay16 (k0_pay3 v2)) (k0_pay17 (k0_pay3 v2)) (ix2 r k)
    = row i v0 v2 v4 v6 v7 r k := by
  rcases split k with ⟨j, d, rfl⟩ | ⟨j, d, rfl⟩
  · rw [row_lo]
    match j with
    | 0 => exact (cat0 _ _ _ _ _ _ _ _ _ r d).trans (m0 i v0 v6 r d)
    | 1 => exact (cat1 _ _ _ _ _ _ _ _ _ r d).trans (m1 i v0 v6 r d)
    | 2 => exact (cat2 _ _ _ _ _ _ _ _ _ r d).trans (m2 i v0 v6 r d)
    | 3 => exact (cat3 _ _ _ _ _ _ _ _ _ r d).trans (m3 i v0 v6 r d)
  · refine Eq.trans ?_ (mixed_hi _ _ _ _ _ j d).symm
    match j with
    | 0 => exact (cat4 _ _ _ _ _ _ _ _ _ r d).trans (d0 v2 v4 v7 r d)
    | 1 => exact (cat5 _ _ _ _ _ _ _ _ _ r d).trans (d1 v2 v4 v7 r d)
    | 2 => exact cat6 _ _ _ _ _ _ _ _ _ r d
    | 3 => exact cat7 _ _ _ _ _ _ _ _ _ r d

end

/-- The product and the residual. -/
theorem out_at (x : FVec Ideal S544x1024 .bf16) (w : FVec Ideal S1024x1024 .bf16) (v177 : FVec Ideal S544x1024 .f32) (r : Fin 544) (k : Fin 1024) :
    k0_pay1 (F := Ideal) x (k0_pay19 v177) w (ix2 r k) = v177 (ix2 r k) + ∑ e, x (ix2 r e) * w (ix2 e k) := by
  pointwise [k0_pay1, k0_pay19]

end Cert.MixFwdIdeal.Tile
-- ==== Proof.MixFwd.Entry.lean ====
/- The blocks the forward output kernel reads at a grid point, as rows of the arguments. -/
module

public import proofs.«01_k».proof.Proof.Gen.MixFwdIdeal.Value
public import proofs.«01_k».proof.Proof.MixFwd.Tile
public import proofs.«01_k».proof.Proof.Common.Pad
public import proofs.«01_k».proof.Proof.Common.Cols
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixFwdIdeal.Entry

open Cert.MixFwdIdeal Cert.MixFwdIdeal.Gen Cert.MixFwdIdeal.Tile Cert.Num Cert.Pad Cert.Cols

variable (m : (ℓ : Loc nD τ sig) → Buf (Elt Ideal) ℓ)

theorem host0 (c : Dev nD) (r : Fin 2176) (k : Fin 512) : V m c main_v0 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host1 (c : Dev nD) (r : Fin 2176) (k : Fin 512) : V m c main_v1 (ix2 r k) = ext (fun n => m ((c : Thread nD τ).loc main_arg1) (ix2 n k)) r := by
  unfold V
  simp only [List.flatten_cons, List.flatten_nil, List.append_nil, List.cons_append, List.nil_append]
  after_reads_at
  exact ext_pad (fun n => m ((c : Thread nD τ).loc main_arg1) (ix2 n k)) r _ zero32

theorem host6 (c : Dev nD) (r : Fin 2176) (k : Fin 1024) : V m c main_v13 (ix2 r k) = ext (fun n => m ((c : Thread nD τ).loc main_arg6) (ix2 n k)) r := by
  unfold V
  simp only [List.flatten_cons, List.flatten_nil, List.append_nil, List.cons_append, List.nil_append]
  after_reads_at
  exact ext_pad (fun n => m ((c : Thread nD τ).loc main_arg6) (ix2 n k)) r _ zero32

set_option maxHeartbeats 2000000 in
theorem host2 (c : Dev nD) (r : Fin 2176) (k : Fin 2816) : V m c main_v11 (ix2 r k) = cols (fun j => ext (fun n => m ((c : Thread nD τ).loc main_arg2) (ix2 n j)) r) k := by
  unfold V
  simp only [List.flatten_cons, List.flatten_nil, List.append_nil, List.cons_append, List.nil_append]
  after_reads_at
  all_goals after_reads_at
  exact cols_pad (fun n j => m ((c : Thread nD τ).loc main_arg2) (ix2 n j)) r k _ zero32

/-- The columns the gate stands at. -/
theorem cols_gate (f : Fin 2632 → EReal) (c : Fin 512) (h : 1536 + (c : ℕ) < 2816) : cols f ⟨1536 + c, h⟩ = f ⟨2112 + c, by omega⟩ := by
  unfold cols
  rw [dif_neg (by simp only; omega), dif_pos (by simp only; omega)]
  exact congrArg f (Fin.ext (by simp only; omega))

theorem host5 (c : Dev nD) (k d : Fin 1024) : V m c main_v12 (ix2 k d) = m ((c : Thread nD τ).loc main_arg5) (ix2 k d) := by
  unfold V
  simp only [List.flatten_cons, List.flatten_nil, List.append_nil, List.cons_append, List.nil_append]
  after_reads_at

theorem host3 (c : Dev nD) (i : S1x128.Idx) : V m c main_arg3 i = m ((c : Thread nD τ).loc main_arg3) i := by
  unfold V
  simp only [List.flatten_cons, List.flatten_nil, List.append_nil, List.cons_append, List.nil_append]
  after_reads_at

theorem host4 (c : Dev nD) (i : S1x128.Idx) : V m c main_arg4 i = m ((c : Thread nD τ).loc main_arg4) i := by
  unfold V
  simp only [List.flatten_cons, List.flatten_nil, List.append_nil, List.cons_append, List.nil_append]
  after_reads_at

theorem idx : ∀ t : Fin cfg0.N, win0_0.index t = ![t.val, 0] ∧ win0_1.index t = ![t.val, 0] ∧ win0_2.index t = ![t.val, 3]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ (grid0.coords t 0).val = t.val ∧ t.val < 4 :=
  (by decide +kernel : ∀ t : Fin grid0.N, _)

/-- The grid's one coordinate counts its points. -/
theorem at_pt (t : Fin cfg0.N) : (grid0.coords t 0).val = t.val ∧ t.val < 4 := (idx t).2.2.2.2.2.2.2.2.2

variable (c : Dev nD) (t : Fin cfg0.N)

def blk0 : FVec Ideal S544x512 .f32 := iblk m c 0 t
def blk1 : FVec Ideal S544x512 .f32 := iblk m c 1 t
def blk2 : FVec Ideal S544x512 .f32 := X0_2 m c t
def blk3 : FVec Ideal S1x128 .f32 := iblk m c 3 t
def blk4 : FVec Ideal S1x128 .f32 := iblk m c 4 t
def blk5 : FVec Ideal S1024x1024 .bf16 := iblk m c 5 t
def blk6 : FVec Ideal S544x1024 .f32 := iblk m c 6 t

theorem block0 (r : Fin 544) (j : Fin 512) : blk0 m c t (ix2 r j) = ext (fun n => m ((c : Thread nD τ).loc main_arg0) (ix2 n j)) (t.val * 544 + r) := by
  obtain ⟨hp, ht⟩ := at_pt t
  have e : (win0_0.blk t).view.emb (ix2 r j) = ix2 (⟨t.val * 544 + r, by omega⟩ : Fin 2176) j := by blk_ext [idx t]
  unfold blk0
  blk_simp [iblk]
  rw [e, host0]

theorem block1 (r : Fin 544) (j : Fin 512) : blk1 m c t (ix2 r j) = ext (fun n => m ((c : Thread nD τ).loc main_arg1) (ix2 n j)) (t.val * 544 + r) := by
  obtain ⟨hp, ht⟩ := at_pt t
  have e : (win0_1.blk t).view.emb (ix2 r j) = ix2 (⟨t.val * 544 + r, by omega⟩ : Fin 2176) j := by blk_ext [idx t]
  unfold blk1
  blk_simp [iblk]
  rw [e, host1]

theorem block6 (r : Fin 544) (j : Fin 1024) : blk6 m c t (ix2 r j) = ext (fun n => m ((c : Thread nD τ).loc main_arg6) (ix2 n j)) (t.val * 544 + r) := by
  obtain ⟨hp, ht⟩ := at_pt t
  have e : (win0_6.blk t).view.emb (ix2 r j) = ix2 (⟨t.val * 544 + r, by omega⟩ : Fin 2176) j := by blk_ext [idx t]
  unfold blk6
  blk_simp [iblk]
  rw [e, host6]

theorem block2 (r : Fin 544) (j : Fin 512) : blk2 m c t (ix2 r j) = ext (fun n => m ((c : Thread nD τ).loc main_arg2) (ix2 n ⟨2112 + j, by omega⟩)) (t.val * 544 + r) := by
  obtain ⟨hp, ht⟩ := at_pt t
  unfold blk2 X0_2 Pipeline.Window.fill
  rw [dif_pos (moved0_2 t _)]
  have e : (win0_2.blk t).view.emb (fun a => ⟨(ix2 r j a).val, ((cfg0.win 2).moved_iff _ _).mp (moved0_2 t (ix2 r j)) a⟩)
      = ix2 (⟨t.val * 544 + r, by omega⟩ : Fin 2176) (⟨1536 + j, by omega⟩ : Fin 2816) := by blk_ext [idx t]
  blk_simp [iblk]
  rw [e, host2, cols_gate]

theorem block5 (k d : Fin 1024) : blk5 m c t (ix2 k d) = m ((c : Thread nD τ).loc main_arg5) (ix2 k d) := by
  have e : (win0_5.blk t).view.emb (ix2 k d) = ix2 k d := by blk_ext [idx t]
  unfold blk5
  blk_simp [iblk]
  rw [e, host5]

theorem block3 (d : Fin 128) : blk3 m c t (ix2 0 d) = m ((c : Thread nD τ).loc main_arg3) (ix2 0 d) := by
  have e : (win0_3.blk t).view.emb (ix2 0 d) = ix2 0 d := by blk_ext [idx t]
  unfold blk3
  blk_simp [iblk]
  rw [e, host3]

theorem block4 (d : Fin 128) : blk4 m c t (ix2 0 d) = m ((c : Thread nD τ).loc main_arg4) (ix2 0 d) := by
  have e : (win0_4.blk t).view.emb (ix2 0 d) = ix2 0 d := by blk_ext [idx t]
  unfold blk4
  blk_simp [iblk]
  rw [e, host4]

end Cert.MixFwdIdeal.Entry
-- ==== Proof.MixFwd.Final.lean ====
/- What the forward output kernel leaves in its two result arrays. -/
module

public import proofs.«01_k».proof.Proof.MixFwd.Entry
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFwdIdeal.Final

open Cert.MixFwdIdeal Cert.MixFwdIdeal.Gen Cert.MixFwdIdeal.Tile Cert.MixFwdIdeal.Entry Cert.Num Cert.Pad Cert.Heads Cert.MixRow

variable (m : (ℓ : Loc nD τ sig) → Buf (Elt Ideal) ℓ) (c : Dev nD)

/-- Row `n` of both branches. -/
def mixAt (n : ℕ) : Fin 1024 → EReal :=
  mixed (fun k => ext (fun r => m ((c : Thread nD τ).loc main_arg0) (ix2 r k)) n) (fun k => ext (fun r => m ((c : Thread nD τ).loc main_arg1) (ix2 r k)) n)
    (fun k => ext (fun r => m ((c : Thread nD τ).loc main_arg2) (ix2 r ⟨2112 + k, by omega⟩)) n) (fun d => m ((c : Thread nD τ).loc main_arg3) (ix2 0 d)) (fun d => m ((c : Thread nD τ).loc main_arg4) (ix2 0 d))

/-- Row `n` of the product and the residual. -/
def outAt (n : ℕ) (k : Fin 1024) : EReal :=
  ext (fun r => m ((c : Thread nD τ).loc main_arg6) (ix2 r k)) n + ∑ e, mixAt m c n e * m ((c : Thread nD τ).loc main_arg5) (ix2 e k)

theorem mixAt_lt (n : ℕ) (h : n < 112) (k : Fin 1024) : mixAt m c n k = 0 := by
  unfold mixAt
  simp only [ext_lt _ n h]
  exact mixed_zero _ _ _ k

theorem outAt_lt (n : ℕ) (h : n < 112) (k : Fin 1024) : outAt m c n k = 0 := by
  unfold outAt
  rw [ext_lt _ n h, zero_add]
  exact Finset.sum_eq_zero fun e _ => by rw [mixAt_lt m c n h, zero_mul]

variable (t : Fin cfg0.N)

theorem row_blk (r : Fin 544) : row (grid0.coords t) (blk0 m c t) (blk1 m c t) (blk2 m c t) (blk3 m c t) (blk4 m c t) r
    = mixAt m c (t.val * 544 + r) := by
  obtain ⟨hp, ht⟩ := at_pt t
  have q (k : Fin 512) : (if 112 ≤ 544 * (grid0.coords t 0 : ℕ) + (r : ℕ) then blk0 m c t (ix2 r k) else 0)
      = ext (fun r => m ((c : Thread nD τ).loc main_arg0) (ix2 r k)) (t.val * 544 + r) := by
    rw [block0]
    by_cases h : 112 ≤ t.val * 544 + (r : ℕ)
    · exact if_pos (by omega)
    · rw [ext_lt _ _ (by omega)]
      exact ite_self _
  unfold row mixAt
  simp only [q, block1, block2, block3, block4]

theorem mix_blk (r : Fin 544) (k : Fin 1024) : k0_pay18 (F := Ideal) (k0_pay3 (blk1 m c t)) (k0_pay4 (blk2 m c t)) (blk4 m c t) (k0_pay6 (grid0.coords t) (blk0 m c t) (blk3 m c t)) (k0_pay9 (blk3 m c t) (k0_pay5 (grid0.coords t)) (k0_pay7 (blk0 m c t)) (k0_pay8 (blk0 m c t))) (k0_pay10 (k0_pay2 (blk0 m c t)) (blk3 m c t) (k0_pay5 (grid0.coords t))) (k0_pay11 (k0_pay2 (blk0 m c t)) (blk3 m c t) (k0_pay5 (grid0.coords t))) (k0_pay14 (k0_pay4 (blk2 m c t)) (blk4 m c t) (k0_pay12 (k0_pay3 (blk1 m c t))) (k0_pay13 (k0_pay3 (blk1 m c t))) (Scalar.ofBits .f32 0x358637BD#32)) (k0_pay15 (k0_pay3 (blk1 m c t)) (k0_pay4 (blk2 m c t)) (blk4 m c t)) (k0_pay16 (k0_pay3 (blk1 m c t))) (k0_pay17 (k0_pay3 (blk1 m c t))) (ix2 r k)
    = mixAt m c (t.val * 544 + r) k :=
  (row_at (grid0.coords t) (blk0 m c t) (blk1 m c t) (blk2 m c t) (blk3 m c t) (blk4 m c t) r k).trans (by rw [row_blk])

theorem left8 (r : Fin 544) (k : Fin 1024) : (outsAt0 m c t).2 (ix2 r k) = mixAt m c (t.val * 544 + r) k := by
  have q := mix_blk m c t r k
  unfold outsAt0
  frame_out
  exact q

theorem final8 : (dats m 0 c).arrAt 8 (cfgs 0).N = fun i : S2176x1024.Idx => mixAt m c (i 0).val (i 1) := by
  refine (dats m 0 c).arrAt_eq_of_covers 8 _ (by decide +kernel) fun t _ y => ?_
  obtain ⟨-, ht⟩ := at_pt t
  idx_vars y
  have e : (win0_8.blk t).view.emb (ix2 y0 y1) = ix2 (⟨t.val * 544 + y0, by omega⟩ : Fin 2176) y1 := by blk_ext [idx t]
  have q := left8 m c t y0 y1
  blk_simp [idx t]
  rw [after0_8, q, e]
  rfl

theorem out_blk (r : Fin 544) (k : Fin 1024) : k0_pay1 (F := Ideal) (k0_pay18 (k0_pay3 (blk1 m c t)) (k0_pay4 (blk2 m c t)) (blk4 m c t) (k0_pay6 (grid0.coords t) (blk0 m c t) (blk3 m c t)) (k0_pay9 (blk3 m c t) (k0_pay5 (grid0.coords t)) (k0_pay7 (blk0 m c t)) (k0_pay8 (blk0 m c t))) (k0_pay10 (k0_pay2 (blk0 m c t)) (blk3 m c t) (k0_pay5 (grid0.coords t))) (k0_pay11 (k0_pay2 (blk0 m c t)) (blk3 m c t) (k0_pay5 (grid0.coords t))) (k0_pay14 (k0_pay4 (blk2 m c t)) (blk4 m c t) (k0_pay12 (k0_pay3 (blk1 m c t))) (k0_pay13 (k0_pay3 (blk1 m c t))) (Scalar.ofBits .f32 0x358637BD#32)) (k0_pay15 (k0_pay3 (blk1 m c t)) (k0_pay4 (blk2 m c t)) (blk4 m c t)) (k0_pay16 (k0_pay3 (blk1 m c t))) (k0_pay17 (k0_pay3 (blk1 m c t)))) (k0_pay19 (blk6 m c t)) (blk5 m c t) (ix2 r k)
    = outAt m c (t.val * 544 + r) k := by
  rw [out_at, block6]
  unfold outAt
  simp only [mix_blk, block5]

theorem left7 (r : Fin 544) (k : Fin 1024) : (outsAt0 m c t).1 (ix2 r k) = outAt m c (t.val * 544 + r) k := by
  have q := out_blk m c t r k
  unfold outsAt0
  frame_out
  exact q

theorem final7 : (dats m 0 c).arrAt 7 (cfgs 0).N = fun i : S2176x1024.Idx => outAt m c (i 0).val (i 1) := by
  refine (dats m 0 c).arrAt_eq_of_covers 7 _ (by decide +kernel) fun t _ y => ?_
  obtain ⟨-, ht⟩ := at_pt t
  idx_vars y
  have e : (win0_7.blk t).view.emb (ix2 y0 y1) = ix2 (⟨t.val * 544 + y0, by omega⟩ : Fin 2176) y1 := by blk_ext [idx t]
  have q := left7 m c t y0 y1
  blk_simp [idx t]
  rw [after0_7, q, e]
  rfl

end Cert.MixFwdIdeal.Final
-- ==== Proof.MixFwd.Ref.lean ====
/- The two norms, the gate, the output product and the residual as the reference computes them, at an index. -/
module

public import proofs.«01_k».proof.Proof.Gen.MixFwdRefIdeal.Read
public import proofs.«01_k».proof.Proof.MixFwd.Row
public import proofs.«01_k».proof.Proof.Common.Pad

@[expose] public section

set_option maxRecDepth 16384

noncomputable section

open Idealize.ShloMosaic Idealize.ShloMosaic.TcCoe Idealize.SL.Sem

namespace Cert.MixFwdRefIdeal.Ref

open Cert.MixFwdRefIdeal Cert.MixFwdRefIdeal.Gen Cert.MixFwdRefIdeal.Read Cert.Num Cert.Rms Cert.Pad Cert.Heads Cert.MixRow

variable (x0 x1 : FVec Ideal S2064x512 .f32) (x2 : FVec Ideal S2064x2632 .f32) (x3 x4 : FVec Ideal S1x128 .f32)
  (x5 : FVec Ideal S1024x1024 .f32) (x6 : FVec Ideal S2064x1024 .f32)

/-- Row `n` of both branches. -/
def row (n : Fin 2064) : Fin 1024 → EReal :=
  mixed (fun k => x0 (ix2 n k)) (fun k => x1 (ix2 n k)) (fun k => x2 (ix2 n ⟨2112 + k, by omega⟩)) (fun d => x3 (ix2 0 d)) (fun d => x4 (ix2 0 d))

theorem x0_at (n : Fin 2064) (j : Fin 4) (d : Fin 128) : val_main_v0 (F := Ideal) x0 (ix3 n j d) = x0 (ix2 n (col j d)) := by
  unfold col
  pointwise [val_main_v0]

theorem x1_at (n : Fin 2064) (j : Fin 4) (d : Fin 128) : val_main_v15 (F := Ideal) x1 (ix3 n j d) = x1 (ix2 n (col j d)) := by
  unfold col
  pointwise [val_main_v15]

theorem z_at (n : Fin 2064) (j : Fin 4) (d : Fin 128) : val_main_v30 (F := Ideal) x2 (ix3 n j d) = x2 (ix2 n ⟨2112 + col j d, by omega⟩) := by
  unfold col
  pointwise [val_main_v30, val_main_v29]

theorem rm_at (n : Fin 2064) (j : Fin 4) : val_main_v8 (F := Ideal) x0 (ix3 n j 0) = rt inv eps (fun d => x0 (ix2 n (col j d))) := by
  rw [rt_ms]
  unfold ms
  simp only [← x0_at x0]
  pointwise [val_main_v8, val_main_v7, val_main_v6, val_main_v5, val_main_v4, val_main_v3, val_main_v2, val_main_v1, val_main_cst, val_main_cst_0, val_main_cst_1]

theorem rd_at (n : Fin 2064) (j : Fin 4) : val_main_v23 (F := Ideal) x1 (ix3 n j 0) = rt inv eps (fun d => x1 (ix2 n (col j d))) := by
  rw [rt_ms]
  unfold ms
  simp only [← x1_at x1]
  pointwise [val_main_v23, val_main_v22, val_main_v21, val_main_v20, val_main_v19, val_main_v18, val_main_v17, val_main_v16, val_main_cst_2, val_main_cst_3, val_main_cst_4]

theorem nm_at (n : Fin 2064) (j : Fin 4) (d : Fin 128) : val_main_v14 (F := Ideal) x0 x3 (ix2 n (col j d)) = nrm (fun k => x0 (ix2 n k)) (fun d => x3 (ix2 0 d)) j d := by
  unfold nrm
  rw [← rm_at]
  simp only [← x0_at x0]
  unfold col
  pointwise [val_main_v14, val_main_v13, val_main_v12, val_main_v11, val_main_v10, val_main_v9]

theorem sg_at (n : Fin 2064) (j : Fin 4) (d : Fin 128) : val_main_call0_v5 (F := Ideal) x2 (ix3 n j d) = sg (x2 (ix2 n ⟨2112 + col j d, by omega⟩)) := by
  unfold sg
  rw [← z_at x2]
  pointwise [val_main_call0_v5, val_main_call0_v4, val_main_call0_v3, val_main_call0_v2, val_main_call0_v1, val_main_call0_v0, val_main_call0_cst,
    val_main_call0_cst_0]
  rw [zero_sub]

theorem nd_at (n : Fin 2064) (j : Fin 4) (d : Fin 128) : val_main_v33 (F := Ideal) x1 x2 x4 (ix2 n (col j d))
    = nrm (fun k => x1 (ix2 n k)) (fun d => x4 (ix2 0 d)) j d * (x2 (ix2 n ⟨2112 + col j d, by omega⟩) * sg (x2 (ix2 n ⟨2112 + col j d, by omega⟩))) := by
  unfold nrm
  rw [← sg_at, ← z_at x2, ← rd_at]
  simp only [← x1_at x1]
  unfold col
  pointwise [val_main_v33, val_main_v32, val_main_v31, val_main_v28, val_main_v27, val_main_v26, val_main_v25, val_main_v24]

theorem row_at (n : Fin 2064) (k : Fin 1024) : val_main_v34 (F := Ideal) x0 x1 x2 x3 x4 (ix2 n k) = row x0 x1 x2 x3 x4 n k := by
  unfold row
  rcases split k with ⟨j, d, rfl⟩ | ⟨j, d, rfl⟩
  · rw [mixed_lo, ← nm_at]
    have h : (col j d : ℕ) < 512 := (col j d).isLt
    unfold lo
    generalize col j d = c at h
    pointwise [val_main_v34]
  · rw [mixed_hi, ← nd_at]
    unfold hi
    generalize col j d = c
    pointwise [val_main_v34]

theorem padded_at (r : Fin 2176) (k : Fin 1024) : val_main_v39 (F := Ideal) x0 x1 x2 x3 x4 (ix2 r k) = ext (fun n => row x0 x1 x2 x3 x4 n k) r := by
  simp only [← row_at]
  pointwise [val_main_v39, val_main_v38, val_main_call2_v0, val_main_c_5]
  exact ext_pad (fun n => val_main_v34 (F := Ideal) x0 x1 x2 x3 x4 (ix2 n k)) r _ zero32

theorem out_at (r : Fin 2176) (k : Fin 1024) : val_main_v37 (F := Ideal) x0 x1 x2 x3 x4 x5 x6 (ix2 r k)
    = ext (fun n => x6 (ix2 n k) + ∑ e, row x0 x1 x2 x3 x4 n e * x5 (ix2 e k)) r := by
  simp only [← row_at]
  have e (n : Fin 2064) : val_main_v36 (F := Ideal) x0 x1 x2 x3 x4 x5 x6 (ix2 n k)
      = x6 (ix2 n k) + ∑ e, val_main_v34 (F := Ideal) x0 x1 x2 x3 x4 (ix2 n e) * x5 (ix2 e k) := by
    pointwise [val_main_v36, val_main_v35]
  simp only [← e]
  pointwise [val_main_v37, val_main_call1_v0, val_main_c]
  exact ext_pad (fun n => val_main_v36 (F := Ideal) x0 x1 x2 x3 x4 x5 x6 (ix2 n k)) r _ zero32

end Cert.MixFwdRefIdeal.Ref
-- ==== Proof.MixFwd.Value.lean ====
/- The forward output kernel computes the two norms, the gate, the product and the residual: the claim about its two results. -/
module

public import proofs.«01_k».proof.Defs
public import proofs.«01_k».proof.Proof.MixFwd.Final
public import proofs.«01_k».proof.Proof.MixFwd.Ref
public import proofs.«01_k».proof.Proof.Gen.MixFwdRefIdeal.Run
public import proofs.«01_k».proof.Proof.Gen.MixFwd.Frame
public import Idealize.ShloMosaic.Lib.Quiescent

@[expose] public section

set_option maxRecDepth 16384

noncomputable section

open Idealize.ShloMosaic Idealize.ShloMosaic.TcCoe Idealize.SL.Sem

namespace Cert.MixFwd

open Cert.MixFwdRefIdeal Cert.MixFwdRefIdeal.Gen Cert.MixFwdRefIdeal.Read Cert.MixFwdRefIdeal.Ref Cert.Pad
open Cert.MixFwdIdeal.Final (mixAt outAt)

/-- The reference ends, with its arguments unchanged and every counter at zero. -/
theorem reference_ends : Cert.quiescent_MixFwdRefIdeal (hMixFwdRefIdeal := Cert.MixFwdRefIdeal.Gen.facts) := fun m ρ _ =>
  (θ_run _ _ _).mono (fun r h => ⟨fun c => (h c).2.2, sem_eq_zero_of_no_sems rfl r.2⟩) (Cert.MixFwdRefIdeal.Value.run m ρ)

section

variable (m : (ℓ : Loc Cert.MixFwdIdeal.nD Cert.MixFwdIdeal.τ Cert.MixFwdIdeal.sig) → Buf (Elt Ideal) ℓ) (c : Dev Cert.MixFwdIdeal.nD)

abbrev a0 : FVec Ideal S2064x512 .f32 := m ((c : Thread Cert.MixFwdIdeal.nD Cert.MixFwdIdeal.τ).loc Cert.MixFwdIdeal.main_arg0)
abbrev a1 : FVec Ideal S2064x512 .f32 := m ((c : Thread Cert.MixFwdIdeal.nD Cert.MixFwdIdeal.τ).loc Cert.MixFwdIdeal.main_arg1)
abbrev a2 : FVec Ideal S2064x2632 .f32 := m ((c : Thread Cert.MixFwdIdeal.nD Cert.MixFwdIdeal.τ).loc Cert.MixFwdIdeal.main_arg2)
abbrev a3 : FVec Ideal S1x128 .f32 := m ((c : Thread Cert.MixFwdIdeal.nD Cert.MixFwdIdeal.τ).loc Cert.MixFwdIdeal.main_arg3)
abbrev a4 : FVec Ideal S1x128 .f32 := m ((c : Thread Cert.MixFwdIdeal.nD Cert.MixFwdIdeal.τ).loc Cert.MixFwdIdeal.main_arg4)
abbrev a5 : FVec Ideal S1024x1024 .f32 := m ((c : Thread Cert.MixFwdIdeal.nD Cert.MixFwdIdeal.τ).loc Cert.MixFwdIdeal.main_arg5)
abbrev a6 : FVec Ideal S2064x1024 .f32 := m ((c : Thread Cert.MixFwdIdeal.nD Cert.MixFwdIdeal.τ).loc Cert.MixFwdIdeal.main_arg6)

theorem mix_row (n : Fin 2064) : mixAt m c (112 + n) = row (a0 m c) (a1 m c) (a2 m c) (a3 m c) (a4 m c) n := by
  unfold mixAt row
  simp only [ext_add]

theorem out_row (n : Fin 2064) (k : Fin 1024) : outAt m c (112 + n) k = a6 m c (ix2 n k) + ∑ e, row (a0 m c) (a1 m c) (a2 m c) (a3 m c) (a4 m c) n e * a5 m c (ix2 e k) := by
  unfold outAt
  rw [mix_row, ext_add]

/-- An array that is zero in the first rows is its other rows behind zeros. -/
theorem ext_of (f : ℕ → EReal) (g : Fin 2064 → EReal) (h0 : ∀ n < 112, f n = 0) (h : ∀ n : Fin 2064, f (112 + n) = g n) (r : Fin 2176) : ext g r = f r := by
  unfold ext
  split
  · rw [← h]
    exact congrArg f (by show 112 + ((r : ℕ) - 112) = r; omega)
  · exact (h0 _ (by omega)).symm

end

/-- The kernel's run and the reference's run end with equal results. -/
theorem gradients : Cert.algebraic_MixFwdIdeal_MixFwdRefIdeal (hMixFwdIdeal := Cert.MixFwdIdeal.Gen.facts)
    (hMixFwdRefIdeal := Cert.MixFwdRefIdeal.Gen.facts) := by
  intro m ρ m' ρ' _ hag
  refine ⟨_, _, Cert.MixFwdIdeal.Value.run_blocks m ρ, ?_⟩
  refine (θ_run _ _ _).mono (fun r h c => ?_) (Cert.MixFwdRefIdeal.Value.run m' ρ')
  obtain ⟨e0, e1, e2, e3, e4, e5, e6⟩ := hag c
  refine ⟨(h c).1.trans ?_, (h c).2.1.trans ?_, (h c).2.2⟩
  · rw [val_main_v37_eq, e0, e1, e2, e3, e4, e5, e6, Cert.MixFwdIdeal.Final.final7]
    funext i
    idx_vars i
    rw [out_at]
    exact ext_of (fun n => outAt m c n i1) _ (fun n h => Cert.MixFwdIdeal.Final.outAt_lt m c n h i1) (fun n => out_row m c n i1) i0
  · rw [val_main_v39_eq, e0, e1, e2, e3, e4, Cert.MixFwdIdeal.Final.final8]
    funext i
    idx_vars i
    rw [padded_at]
    exact ext_of (fun n => mixAt m c n i1) _ (fun n h => Cert.MixFwdIdeal.Final.mixAt_lt m c n h i1) (fun n => by rw [mix_row]) i0

end Cert.MixFwd
-- ==== Proof.InFwd.Body.lean ====
/- One grid point of the first norm and input product's kernel, for any float values: at the first column block it stores the normed rows,
   at the second it finds them; in both it stores the product with the block of columns. -/
module

public import proofs.«01_k».proof.Proof.Gen.InFwdIdeal.Frame
public import proofs.«01_k».proof.Proof.Gen.InFwdIdeal.Skeleton
public import Idealize.ShloMosaic.Lib.VecWindow
public import Idealize.ShloMosaic.Lib.Pipeline.TableIdle
public import Idealize.ShloMosaic.Lib.Exec

@[expose] public section

set_option maxRecDepth 16384

noncomputable section

namespace Cert.InFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InFwdIdeal.Gen

variable {F : FTy → Type} [FloatOps F]

/-- A block read back through the rectangle that covers its whole buffer. -/
theorem read_whole {sp : Space} {s : Shape} {e : EltTy} (a : Memref sig .tc sp s e) (ha : a.IsWhole) (x : Vec F s e) (st : Fin s.rank → ℕ)
    (hin : ∀ k, st k + s.size k ≤ s.size k) :
    a.view.readAt (Elt F) (Rect.unit st s.size hin).toLoadRect (ha.unread x) = x :=
  (View.readAt_full _ _ _).trans (ha.read_unread x)

variable (c : Dev nD) (i : grid0.Coords) (arg2 : Memref sig .tc .vmem S1088x1024 .f32) (harg2 : arg2.IsWhole) (arg3 : Memref sig .tc .vmem S1x1024 .f32) (harg3 : arg3.IsWhole)
  (arg4 : Memref sig .tc .vmem S1408x1024 .bf16) (harg4 : arg4.IsWhole) (arg6 : Memref sig .tc .vmem S1088x1408 .f32) (harg6 : arg6.IsWhole)
  (arg7 : Memref sig .tc .vmem S1088x1024 .bf16) (harg7 : arg7.IsWhole)
  (x0 : Vec F S1088x1024 .f32) (x1 : Vec F S1x1024 .f32) (x2 : Vec F S1408x1024 .bf16) (y : Vec F S1088x1024 .bf16)

set_option maxHeartbeats 1600000 in
/-- At the first column block the point stores the normed rows and their product. -/
theorem first_run (hc : k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
          ∗ owns (c : Thread nD τ) arg6 fullShare (k0_pay2 (k0_pay1 x0 x1) x2) ∗ owns (c : Thread nD τ) arg7 fullShare (k0_pay1 x0 x1)) -∗ K ⟨⟩))
      ⊢ wp frame (wpE (defs₀ (F := F)) Variants.none c none) E (cc0_in_proj i arg2 harg2 arg3 harg3 arg4 harg4 (Memref.whole main_v12) (Memref.isWhole_whole _) arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    rw [read_whole]
    unfold first_run.sl.v3 first_run.sl.H4_1
    rw [View.readCov_full, read_whole, read_whole]
  iexists _; isplitr; swap; · iexact H4
  ipureintro
  unfold first_run.sl.H4_1
  refine (View.read_writes_full _ _ _ _ _).trans ?_
  rw [read_whole, read_whole]

set_option maxHeartbeats 1600000 in
/-- At the second column block the point finds the normed rows and stores their product. -/
theorem later_run (hc : ¬k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg6 fullShare d) ∗ owns (c : Thread nD τ) arg7 fullShare y
        ∗ (iprop(owns (c : Thread nD τ) arg2 fullShare x0 ∗ owns (c : Thread nD τ) arg3 fullShare x1 ∗ owns (c : Thread nD τ) arg4 fullShare x2
          ∗ owns (c : Thread nD τ) arg6 fullShare (k0_pay2 y x2) ∗ owns (c : Thread nD τ) arg7 fullShare y) -∗ K ⟨⟩))
      ⊢ wp frame (wpE (defs₀ (F := F)) Variants.none c none) E (cc0_in_proj i arg2 harg2 arg3 harg3 arg4 harg4 (Memref.whole main_v12) (Memref.isWhole_whole _) arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg7.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    rw [read_whole, read_whole]
  iexists _; isplitr; · ipureintro; exact harg7.read_unread _
  iexact H4

end Cert.InFwdIdeal.Body

end
-- ==== Proof.InFwd.Run.lean ====
/- The first norm and input product's kernel run over its whole grid, for any float values: what each window holds at every grid point, and
   every execution ends with the two outputs at what the grid points wrote and the arguments unchanged. -/
module

public import proofs.«01_k».proof.Proof.InFwd.Body
public import Idealize.ShloMosaic.Lib.Claim

@[expose] public section

set_option maxRecDepth 16384

noncomputable section

namespace Cert.InFwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InFwdIdeal.Gen Cert.InFwdIdeal.Body

variable {F : FTy → Type} [FloatOps F]
variable (m : (ℓ : Loc nD τ sig) → Buf (Elt F) ℓ) (ρ : Dev nD → PrngReg)

/-- The first of the two grid points that share a block of rows. -/
def ev (t : Fin cfg0.N) : Fin cfg0.N := ⟨t.val / 2 * 2, lt_of_le_of_lt (Nat.div_mul_le_self _ _) t.isLt⟩

/-- The normed rows a grid point holds: computed at the first column block from the rows and the weight. -/
def normed (c : Dev nD) (t : Fin cfg0.N) : Vec F S1088x1024 .bf16 := k0_pay1 (iblk m c 0 (ev t)) (iblk m c 1 (ev t))

theorem ev_first (t : Fin cfg0.N) (h : t.val % 2 = 0) : ev t = t := Fin.ext (by show t.val / 2 * 2 = t.val; omega)

/-- What every window's buffer holds after the body ran at a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (iblk m c 2 t)
    | ⟨4, _⟩ => normed m c t
    | ⟨_ + 5, h⟩ => absurd h (Nat.not_lt.2 (Nat.le_add_left _ _))
  Φ _ := Pipeline.ΦA spec0 c
  q _ := fullShare
  owed _ := 0

/-- The arrays start as the region found them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (normed m c t) (iblk m c 2 t) := by dsimp only [dats]
theorem after_4 (c : Dev nD) (t : Fin cfg0.N) : (dats m 0 c).after 4 t = normed m c t := by dsimp only [dats]

/-- The first column block is where the norm is computed. -/
theorem cond_iff : ∀ t : Fin cfg0.N, k0_cond1 (grid0.coords t) = 1#1 ↔ t.val % 2 = 0 :=
  (fun t => by
    have ht : t.val < 4 := Nat.lt_of_lt_of_eq t.isLt N_0
    have e0 : (grid0.coords t 0).val = t.val / 2 % 2 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val % 2 = 0)

theorem live_first (t : Fin cfg0.N) (h : t.val % 2 = 0) : cfg0.idle 4 (grid0.coords t) = false := by
  show (!(k0_cond1 (grid0.coords t) == 1#1)) = false
  rw [(cond_iff t).mpr h]; rfl

theorem flush_later (t : Fin cfg0.N) (h : ¬t.val % 2 = 0) : (cfg0.win 4).flush t = true := (flush0_4 t).mpr (by omega)

/-- At the second column block the buffer holds the normed rows the point before left. -/
theorem before_4 (c : Dev nD) (t : Fin cfg0.N) (h : ¬t.val % 2 = 0) (d) : (dats m 0 c).before 4 t d = normed m c t := by
  have hf : (cfg0.win 4).flush ⟨t.val - 1, Nat.lt_of_le_of_lt (Nat.sub_le _ _) t.isLt⟩ = false := by
    rw [Bool.eq_false_iff]; intro q
    have := (flush0_4 _).mp q
    simp only at this; omega
  have hl : cfg0.idle 4 (grid0.coords ⟨t.val - 1, Nat.lt_of_le_of_lt (Nat.sub_le _ _) t.isLt⟩) = false := live_first _ (by simp only; omega)
  rw [Dat.before_of_pos _ 4 t (by omega) ((cfg0.win 4).fetch_out rfl t) d, hf, if_neg Bool.false_ne_true]
  unfold Dat.left
  rw [hl]
  show (dats m 0 c).after 4 _ = _
  rw [after_4]
  unfold normed
  rw [show ev ⟨t.val - 1, Nat.lt_of_le_of_lt (Nat.sub_le _ _) t.isLt⟩ = ev t from Fin.ext (by show (t.val - 1) / 2 * 2 = t.val / 2 * 2; omega)]

/-- The windows' buffers at a grid point. -/
abbrev ms0_0 (t : Fin cfg0.N) : Memref sig .tc .vmem S1088x1024 .f32 := win0_0.stage (cfg0.slots t 0)
abbrev ms0_1 (t : Fin cfg0.N) : Memref sig .tc .vmem S1x1024 .f32 := win0_1.stage (cfg0.slots t 1)
abbrev ms0_2 (t : Fin cfg0.N) : Memref sig .tc .vmem S1408x1024 .bf16 := win0_2.stage (cfg0.slots t 2)
abbrev ms0_3 (t : Fin cfg0.N) : Memref sig .tc .vmem S1088x1408 .f32 := win0_3.stage (cfg0.slots t 3)
abbrev ms0_4 (t : Fin cfg0.N) : Memref sig .tc .vmem S1088x1024 .bf16 := win0_4.stage (cfg0.slots t 4)

/-- What the body is called with at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the body leaves in a window's buffer at a point where the window is used. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]
theorem leaves_4 (c : Dev nD) (t : Fin cfg0.N) : (dats m 0 c).leavesExact 4 t = owns (c : Thread nD τ) (ms0_4 t) fullShare ((dats m 0 c).after 4 t) := by
  by_cases h : t.val % 2 = 0
  · unfold Dat.leavesExact; rw [live_first t h]
  · unfold Dat.leavesExact; rw [flush_later t h]; cases cfg0.idle 4 (cfg0.grid.coords t) <;> rfl

set_option maxHeartbeats 1600000 in
/-- The body meets its obligation at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c)]
  rw [show (dats m 0 c).Φ t.succ = (dats m 0 c).Φ t.castSucc from rfl,
    show (dats m 0 c).owesAt () t.succ = (dats m 0 c).owesAt () t.castSucc from rfl]
  rw [leaves m c t 0 rfl, leaves m c t 1 rfl, leaves m c t 2 rfl, leaves m c t 3 rfl, leaves_4, after_0, after_1, after_2, after_3, after_4]
  iintro ⟨HΦ, Ho, ⟨%d0, H0⟩, ⟨%d1, H1⟩, ⟨%d2, H2⟩, ⟨%d3, H3⟩, ⟨%d4, H4⟩⟩
  by_cases h : t.val % 2 = 0
  · rw [show normed m c t = k0_pay1 (iblk m c 0 t) (iblk m c 1 t) from by unfold normed; rw [ev_first t h]]
    iapply (first_run c (grid0.coords t) _ _ _ _ _ _ _ _ _ _ (iblk m c 0 t) (iblk m c 1 t) (iblk m c 2 t) ((cond_iff t).mpr h) Set.univ _)
    iframe
    isplitl [H3]; · iexists _; iexact H3
    isplitl [H4]; · iexists _; iexact H4
    iintro ⟨H0, H1, H2, H3, H4⟩
    iframe
  · rw [before_4 m c t h d4]
    iapply (later_run c (grid0.coords t) _ _ _ _ _ _ _ _ _ _ (iblk m c 0 t) (iblk m c 1 t) (iblk m c 2 t) (normed m c t) (fun q => h ((cond_iff t).mp q)) Set.univ _)
    iframe
    isplitl [H3]; · iexists _; iexact H3
    iintro ⟨H0, H1, H2, H3, H4⟩
    iframe

/-- The obligation in the form the pipeline asks for. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- Every execution ends, with every pipeline array as computed and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

/-- Every execution ends with each output at what the grid points wrote and the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 3 cfg0.N
      ∧ r.2.mem ((c : Thread nD τ).loc main_v13_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2.1 c⟩)
    (θ_run_and (run_main m ρ) (frame m ρ))

end Cert.InFwdIdeal.Run

end
-- ==== Proof.InFwd.Bits.lean ====
/- The frame of the forward input product over the machine's floats: the printed kernel and its reading over the reals are one text. -/
module

public import proofs.«01_k».proof.Defs
public import proofs.«01_k».proof.Proof.Gen.InFwd
public import proofs.«01_k».proof.Proof.InFwd.Run

@[expose] public section

set_option maxRecDepth 16384

noncomputable section

namespace Cert.InFwdIdeal.Run

open Idealize.ShloMosaic Idealize.ShloMosaic.TcCoe Idealize.ShloMosaic.Tactic
open Idealize.SL.Sem

/-- The frame at the machine's floats. -/
def AtBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem atBits : AtBits := fun m ρ _ => frame (F := Bits) m ρ

theorem one_text : AtBits = Cert.quiescent_InFwd := by sl_kernel_rfl

/-- Every execution of the printed kernel ends with its arguments unchanged and every counter at zero. -/
theorem frame_bits : Cert.quiescent_InFwd := one_text.mp atBits

end Cert.InFwdIdeal.Run

end
-- ==== Proof.InFwd.Row.lean ====
/- One row of the forward norm, and the product's columns in the wider order. -/
module

public import proofs.«01_k».proof.Proof.Common.Rms
public import proofs.«01_k».proof.Proof.Common.Consts
public import proofs.«01_k».proof.Proof.Common.Cols

@[expose] public section

set_option maxRecDepth 16384

noncomputable section

open Idealize.ShloMosaic

namespace Cert.InFwdRow

open Cert.Num Cert.Rms Cert.Cols

/-- One over the row's length, and the norm's small constant. -/
abbrev inv : EReal := Ideal.ofBits .f32 0x3A800000#32
abbrev eps : EReal := Ideal.ofBits .f32 0x358637BD#32

/-- The normed row. -/
def nrm (x w : Fin 1024 → EReal) (d : Fin 1024) : EReal := x d * rt inv eps x * w d

/-- A row of zeros is normed to zeros. -/
theorem nrm_zero (w : Fin 1024 → EReal) (d : Fin 1024) : nrm (fun _ => 0) w d = 0 := by
  unfold nrm
  rw [zero_mul, zero_mul]

/-- The row's factor with the mean square written as a quotient. -/
theorem rt_ms (x : Fin 1024 → EReal) : rt inv eps x = Ideal.rsqrt (ms (Ideal.ofBits .f32 0x44800000#32) eps x) := by
  unfold rt ms
  rw [bits_1024, Ideal.div_coe (by norm_num), show inv = ((1 / 1024 : ℝ) : EReal) from bits_inv1024]

/-- A product with the columns in the wider order is the product's columns in that order. -/
theorem sum_mul_cols (a : Fin 1024 → EReal) (g : Fin 1024 → Fin 2632 → EReal) (k : Fin 2816) :
    ∑ e, a e * cols (g e) k = cols (fun j => ∑ e, a e * g e j) k := by
  unfold cols
  split_ifs <;> first | rfl | simp only [mul_zero, Finset.sum_const_zero]

/-- The wider order, cut into fewer pieces. -/
theorem cols_pieces (f : Fin 2632 → EReal) (k : Fin 2816) : cols f k
    = if h : (k : ℕ) < 2048 then f ⟨576 + k, by omega⟩
      else if h : (k : ℕ) - 2048 < 576 then f ⟨k - 2048, by omega⟩
      else if (k : ℕ) - 2048 - 576 < 64 then 0
      else if h : (k : ℕ) - 2048 - 576 - 64 < 8 then f ⟨2624 + (k - 2048 - 576 - 64), by omega⟩
      else 0 := by
  unfold cols
  by_cases h1 : (k : ℕ) < 1536
  · rw [dif_pos h1, dif_pos (by omega)]
  by_cases h2 : (k : ℕ) < 2048
  · rw [dif_neg h1, dif_pos (by omega), dif_pos h2]
    exact congrArg f (Fin.ext (by simp only; omega))
  rw [dif_neg h1, dif_neg (by omega), dif_neg h2]
  by_cases h3 : (k : ℕ) < 2304
  · rw [dif_pos (by omega), dif_pos (by omega)]
    exact congrArg f (Fin.ext (by simp only; omega))
  rw [dif_neg (by omega)]
  by_cases h4 : (k : ℕ) < 2560
  · rw [dif_pos (by omega), dif_pos (by omega)]
    exact congrArg f (Fin.ext (by simp only; omega))
  rw [dif_neg (by omega)]
  by_cases h5 : (k : ℕ) < 2624
  · rw [dif_pos (by omega), dif_pos (by omega)]
    exact congrArg f (Fin.ext (by simp only; omega))
  rw [dif_neg (by omega)]
  by_cases h6 : (k : ℕ) < 2688
  · rw [if_pos (by omega), dif_neg (by omega), if_pos (by omega)]
  rw [if_neg (by omega)]
  by_cases h7 : (k : ℕ) < 2696
  · rw [dif_pos (by omega), dif_neg (by omega), if_neg (by omega), dif_pos (by omega)]
    exact congrArg f (Fin.ext (by simp only; omega))
  rw [dif_neg (by omega), dif_neg (by omega), if_neg (by omega), dif_neg (by omega)]

end Cert.InFwdRow
-- ==== Proof.InFwd.Tile.lean ====
/- The block of the forward norm and input product: its printed payloads at an index, as the formulas of `Cert.InFwdRow`. -/
module

public import proofs.«01_k».proof.Proof.Gen.InFwdIdeal.Skeleton
public import proofs.«01_k».proof.Proof.InFwd.Row

@[expose] public section

set_option maxRecDepth 16384

noncomputable section

open Idealize.ShloMosaic Idealize.ShloMosaic.TcCoe Idealize.SL.Sem

namespace Cert.InFwdIdeal.Tile

open Cert.InFwdIdeal Cert.InFwdIdeal.Gen Cert.Num Cert.Rms Cert.InFwdRow

theorem norm_at (x : FVec Ideal S1088x1024 .f32) (w : FVec Ideal S1x1024 .f32) (r : Fin 1088) (d : Fin 1024) :
    k0_pay1 (F := Ideal) x w (ix2 r d) = nrm (fun d => x (ix2 r d)) (fun d => w (ix2 0 d)) d := by
  unfold nrm rt
  pointwise [k0_pay1]

theorem prod_at (u : FVec Ideal S1088x1024 .bf16) (w : FVec Ideal S1408x1024 .bf16) (r : Fin 1088) (k : Fin 1408) :
    k0_pay2 (F := Ideal) u w (ix2 r k) = ∑ e, u (ix2 r e) * w (ix2 k e) := by
  pointwise [k0_pay2]

end Cert.InFwdIdeal.Tile
-- ==== Proof.InFwd.Entry.lean ====
/- The blocks the forward input product's kernel reads at a grid point, as rows of the arguments. -/
module

public import proofs.«01_k».proof.Proof.InFwd.Run
public import proofs.«01_k».proof.Proof.InFwd.Tile
public import proofs.«01_k».proof.Proof.Common.Pad
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InFwdIdeal.Entry

open Cert.InFwdIdeal Cert.InFwdIdeal.Gen Cert.InFwdIdeal.Tile Cert.Num Cert.Pad Cert.Cols

variable (m : (ℓ : Loc nD τ sig) → Buf (Elt Ideal) ℓ)

theorem host0 (c : Dev nD) (r : Fin 2176) (k : Fin 1024) : V m c main_v0 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host1 (c : Dev nD) (i : S1x1024.Idx) : V m c main_arg1 i = m ((c : Thread nD τ).loc main_arg1) i := by
  unfold V
  simp only [List.flatten_cons, List.flatten_nil, List.append_nil, List.cons_append, List.nil_append]
  after_reads_at

theorem host2 (c : Dev nD) (k : Fin 2816) (d : Fin 1024) : V m c main_v11 (ix2 k d) = cols (fun j => m ((c : Thread nD τ).loc main_arg2) (ix2 d j)) k := by
  unfold V
  simp only [List.flatten_cons, List.flatten_nil, List.append_nil, List.cons_append, List.nil_append]
  after_reads_at
  all_goals after_reads_at
  rfl

theorem idx : ∀ t : Fin cfg0.N, win0_0.index t = ![t.val / 2, 0] ∧ win0_1.index t = ![0, 0] ∧ win0_2.index t = ![t.val % 2, 0]
    ∧ win0_3.index t = ![t.val / 2, t.val % 2] ∧ win0_4.index t = ![t.val / 2, 0] ∧ t.val < 4 :=
  (by decide +kernel : ∀ t : Fin grid0.N, _)

theorem at_pt (t : Fin cfg0.N) : t.val < 4 := (idx t).2.2.2.2.2

variable (c : Dev nD) (t : Fin cfg0.N)

def blk0 : FVec Ideal S1088x1024 .f32 := iblk m c 0 t
def blk1 : FVec Ideal S1x1024 .f32 := iblk m c 1 t
def blk2 : FVec Ideal S1408x1024 .bf16 := iblk m c 2 t

theorem block0 (r : Fin 1088) (j : Fin 1024) : blk0 m c t (ix2 r j) = ext (fun n => m ((c : Thread nD τ).loc main_arg0) (ix2 n j)) (t.val / 2 * 1088 + r) := by
  have ht := at_pt t
  have e : (win0_0.blk t).view.emb (ix2 r j) = ix2 (⟨t.val / 2 * 1088 + r, by omega⟩ : Fin 2176) j := by blk_ext [idx t]
  unfold blk0
  blk_simp [iblk]
  rw [e, host0]

theorem block1 (d : Fin 1024) : blk1 m c t (ix2 0 d) = m ((c : Thread nD τ).loc main_arg1) (ix2 0 d) := by
  have e : (win0_1.blk t).view.emb (ix2 0 d) = ix2 0 d := by blk_ext [idx t]
  unfold blk1
  blk_simp [iblk]
  rw [e, host1]

theorem block2 (k : Fin 1408) (d : Fin 1024) : blk2 m c t (ix2 k d)
    = cols (fun j => m ((c : Thread nD τ).loc main_arg2) (ix2 d j)) ⟨t.val % 2 * 1408 + k, by omega⟩ := by
  have e : (win0_2.blk t).view.emb (ix2 k d) = ix2 (⟨t.val % 2 * 1408 + k, by omega⟩ : Fin 2816) d := by blk_ext [idx t]
  unfold blk2
  blk_simp [iblk]
  rw [e, host2]

end Cert.InFwdIdeal.Entry
-- ==== Proof.InFwd.Final.lean ====
/- What the forward input product's kernel leaves in its two result arrays. -/
module

public import proofs.«01_k».proof.Proof.InFwd.Entry

@[expose] public section

set_option maxRecDepth 16384

noncomputable section

open Idealize.ShloMosaic Idealize.ShloMosaic.TcCoe Idealize.SL.Sem
open Idealize.ShloMosaic.Pipeline (Dat)

namespace Cert.InFwdIdeal.Final

open Cert.InFwdIdeal Cert.InFwdIdeal.Gen Cert.InFwdIdeal.Run Cert.InFwdIdeal.Tile Cert.InFwdIdeal.Entry Cert.Num Cert.Pad Cert.Cols Cert.InFwdRow

variable (m : (ℓ : Loc nD τ sig) → Buf (Elt Ideal) ℓ) (c : Dev nD)

/-- Row `n` of the normed array, and of the product. -/
def normAt (n : ℕ) : Fin 1024 → EReal :=
  nrm (fun k => ext (fun r => m ((c : Thread nD τ).loc main_arg0) (ix2 r k)) n) (fun d => m ((c : Thread nD τ).loc main_arg1) (ix2 0 d))
def outAt (n : ℕ) (k : Fin 2816) : EReal :=
  ∑ e, normAt m c n e * cols (fun j => m ((c : Thread nD τ).loc main_arg2) (ix2 e j)) k

theorem normAt_lt (n : ℕ) (h : n < 112) (k : Fin 1024) : normAt m c n k = 0 := by
  unfold normAt
  simp only [ext_lt _ n h]
  exact nrm_zero _ k

theorem outAt_lt (n : ℕ) (h : n < 112) (k : Fin 2816) : outAt m c n k = 0 :=
  Finset.sum_eq_zero fun e _ => by rw [normAt_lt m c n h, zero_mul]

variable (t : Fin cfg0.N)

theorem norm_blk (r : Fin 1088) (d : Fin 1024) : normed m c t (ix2 r d) = normAt m c (t.val / 2 * 1088 + r) d := by
  refine (norm_at (blk0 m c (ev t)) (blk1 m c (ev t)) r d).trans ?_
  have h : (ev t).val / 2 = t.val / 2 := by show t.val / 2 * 2 / 2 = t.val / 2; omega
  unfold normAt
  simp only [block0, block1, h]

theorem left3 (r : Fin 1088) (k : Fin 1408) : k0_pay2 (normed m c t) (iblk m c 2 t) (ix2 r k)
    = outAt m c (t.val / 2 * 1088 + r) ⟨t.val % 2 * 1408 + k, by omega⟩ := by
  refine (prod_at (normed m c t) (blk2 m c t) r k).trans ?_
  unfold outAt
  simp only [norm_blk, block2]

theorem final3 : (dats m 0 c).arrAt 3 cfg0.N = fun i : S2176x2816.Idx => outAt m c (i 0).val (i 1) := by
  refine (dats m 0 c).arrAt_eq_of_covers 3 _ (by decide +kernel) fun t _ y => ?_
  have ht := at_pt t
  idx_vars y
  have e : (win0_3.blk t).view.emb (ix2 y0 y1)
      = ix2 (⟨t.val / 2 * 1088 + y0, by omega⟩ : Fin 2176) (⟨t.val % 2 * 1408 + y1, by omega⟩ : Fin 2816) := by blk_ext [idx t]
  have q := left3 m c t y0 y1
  blk_simp [idx t]
  rw [after_3, q, e]
  rfl

theorem final4 : (dats m 0 c).arrAt 4 cfg0.N = fun i : S2176x1024.Idx => normAt m c (i 0).val (i 1) := by
  refine (dats m 0 c).arrAt_eq_of_covers 4 _ (by decide +kernel) fun t _ y => ?_
  have ht := at_pt t
  idx_vars y
  have e : (win0_4.blk t).view.emb (ix2 y0 y1) = ix2 (⟨t.val / 2 * 1088 + y0, by omega⟩ : Fin 2176) y1 := by blk_ext [idx t]
  have q := norm_blk m c t y0 y1
  blk_simp [idx t]
  rw [after_4, q, e]
  rfl

end Cert.InFwdIdeal.Final
-- ==== Proof.InFwd.Ref.lean ====
/- The norm and the input product as the reference computes them, at an index. -/
module

public import proofs.«01_k».proof.Proof.Gen.InFwdRefIdeal.Read
public import proofs.«01_k».proof.Proof.InFwd.Row
public import proofs.«01_k».proof.Proof.Common.Pad

@[expose] public section

set_option maxRecDepth 16384

noncomputable section

open Idealize.ShloMosaic Idealize.ShloMosaic.TcCoe Idealize.SL.Sem

namespace Cert.InFwdRefIdeal.Ref

open Cert.InFwdRefIdeal Cert.InFwdRefIdeal.Gen Cert.InFwdRefIdeal.Read Cert.Num Cert.Rms Cert.Pad Cert.Cols Cert.InFwdRow

variable (x0 : FVec Ideal S2064x1024 .f32) (x1 : FVec Ideal S1x1024 .f32) (x2 : FVec Ideal S1024x2632 .f32)

/-- Row `n` of the norm, and of the product. -/
def normRow (n : Fin 2064) : Fin 1024 → EReal := nrm (fun d => x0 (ix2 n d)) (fun d => x1 (ix2 0 d))
def prod (n : Fin 2064) (j : Fin 2632) : EReal := ∑ e, normRow x0 x1 n e * x2 (ix2 e j)

theorem rt_at (n : Fin 2064) : val_main_v7 (F := Ideal) x0 (ix2 n 0) = rt inv eps (fun d => x0 (ix2 n d)) := by
  rw [rt_ms]
  unfold ms
  pointwise [val_main_v7, val_main_v6, val_main_v5, val_main_v4, val_main_v3, val_main_v2, val_main_v1, val_main_v0, val_main_cst, val_main_cst_0, val_main_cst_1]

theorem norm_at (n : Fin 2064) (d : Fin 1024) : val_main_v11 (F := Ideal) x0 x1 (ix2 n d) = normRow x0 x1 n d := by
  unfold normRow nrm
  rw [← rt_at]
  pointwise [val_main_v11, val_main_v10, val_main_v9, val_main_v8]

theorem prod_at (n : Fin 2064) (j : Fin 2632) : val_main_v12 (F := Ideal) x0 x1 x2 (ix2 n j) = prod x0 x1 x2 n j := by
  unfold prod
  simp only [← norm_at]
  pointwise [val_main_v12]

theorem cols_at (n : Fin 2064) (k : Fin 2816) : val_main_v18 (F := Ideal) x0 x1 x2 (ix2 n k) = cols (fun j => prod x0 x1 x2 n j) k := by
  rw [cols_pieces]
  simp only [← prod_at]
  pointwise [val_main_v18, val_main_v17, val_main_v16, val_main_v15, val_main_v14, val_main_v13, val_main_cst_2, val_main_cst_3]
  try rfl

theorem out_at (r : Fin 2176) (k : Fin 2816) : val_main_v19 (F := Ideal) x0 x1 x2 (ix2 r k)
    = ext (fun n => cols (fun j => prod x0 x1 x2 n j) k) r := by
  simp only [← cols_at]
  pointwise [val_main_v19, val_main_call0_v0, val_main_c]
  exact ext_pad (fun n => val_main_v18 (F := Ideal) x0 x1 x2 (ix2 n k)) r _ zero32

theorem padded_at (r : Fin 2176) (k : Fin 1024) : val_main_v21 (F := Ideal) x0 x1 (ix2 r k) = ext (fun n => normRow x0 x1 n k) r := by
  simp only [← norm_at]
  pointwise [val_main_v21, val_main_v20, val_main_call1_v0, val_main_c_4]
  exact ext_pad (fun n => val_main_v11 (F := Ideal) x0 x1 (ix2 n k)) r _ zero32

end Cert.InFwdRefIdeal.Ref
-- ==== Proof.InFwd.Value.lean ====
/- The forward input product's kernel computes the norm and the product: the claim about its two results. -/
module

public import proofs.«01_k».proof.Defs
public import proofs.«01_k».proof.Proof.InFwd.Final
public import proofs.«01_k».proof.Proof.InFwd.Ref
public import proofs.«01_k».proof.Proof.Gen.InFwdRefIdeal.Run
public import proofs.«01_k».proof.Proof.Gen.InFwd.Frame
public import Idealize.ShloMosaic.Lib.Quiescent

@[expose] public section

set_option maxRecDepth 16384

noncomputable section

open Idealize.ShloMosaic Idealize.ShloMosaic.TcCoe Idealize.SL.Sem

namespace Cert.InFwdProj

open Cert.InFwdRefIdeal Cert.InFwdRefIdeal.Gen Cert.InFwdRefIdeal.Read Cert.InFwdRefIdeal.Ref Cert.Pad Cert.Cols Cert.InFwdRow
open Cert.InFwdIdeal.Final (normAt outAt)

/-- The reference ends, with its arguments unchanged and every counter at zero. -/
theorem reference_ends : Cert.quiescent_InFwdRefIdeal (hInFwdRefIdeal := Cert.InFwdRefIdeal.Gen.facts) := fun m ρ _ =>
  (θ_run _ _ _).mono (fun r h => ⟨fun c => (h c).2.2, sem_eq_zero_of_no_sems rfl r.2⟩) (Cert.InFwdRefIdeal.Value.run m ρ)

section

variable (m : (ℓ : Loc Cert.InFwdIdeal.nD Cert.InFwdIdeal.τ Cert.InFwdIdeal.sig) → Buf (Elt Ideal) ℓ) (c : Dev Cert.InFwdIdeal.nD)

abbrev a0 : FVec Ideal S2064x1024 .f32 := m ((c : Thread Cert.InFwdIdeal.nD Cert.InFwdIdeal.τ).loc Cert.InFwdIdeal.main_arg0)
abbrev a1 : FVec Ideal S1x1024 .f32 := m ((c : Thread Cert.InFwdIdeal.nD Cert.InFwdIdeal.τ).loc Cert.InFwdIdeal.main_arg1)
abbrev a2 : FVec Ideal S1024x2632 .f32 := m ((c : Thread Cert.InFwdIdeal.nD Cert.InFwdIdeal.τ).loc Cert.InFwdIdeal.main_arg2)

theorem norm_row (n : Fin 2064) : normAt m c (112 + n) = normRow (a0 m c) (a1 m c) n := by
  unfold normAt normRow
  simp only [ext_add]

theorem out_row (n : Fin 2064) (k : Fin 2816) : outAt m c (112 + n) k = cols (fun j => prod (a0 m c) (a1 m c) (a2 m c) n j) k := by
  unfold outAt
  rw [norm_row]
  exact sum_mul_cols (normRow (a0 m c) (a1 m c) n) (fun e j => a2 m c (ix2 e j)) k

/-- An array that is zero in the first rows is its other rows behind zeros. -/
theorem ext_of (f : ℕ → EReal) (g : Fin 2064 → EReal) (h0 : ∀ n < 112, f n = 0) (h : ∀ n : Fin 2064, f (112 + n) = g n) (r : Fin 2176) : ext g r = f r := by
  unfold ext
  split
  · rw [← h]
    exact congrArg f (by show 112 + ((r : ℕ) - 112) = r; omega)
  · exact (h0 _ (by omega)).symm

end

/-- The kernel's run and the reference's run end with equal results. -/
theorem gradients : Cert.algebraic_InFwdIdeal_InFwdRefIdeal (hInFwdIdeal := Cert.InFwdIdeal.Gen.facts)
    (hInFwdRefIdeal := Cert.InFwdRefIdeal.Gen.facts) := by
  intro m ρ m' ρ' _ hag
  refine ⟨_, _, Cert.InFwdIdeal.Run.run_blocks m ρ, ?_⟩
  refine (θ_run _ _ _).mono (fun r h c => ?_) (Cert.InFwdRefIdeal.Value.run m' ρ')
  obtain ⟨e0, e1, e2⟩ := hag c
  refine ⟨(h c).1.trans ?_, (h c).2.1.trans ?_, (h c).2.2⟩
  · rw [val_main_v19_eq, e0, e1, e2, Cert.InFwdIdeal.Final.final3]
    funext i
    idx_vars i
    rw [out_at]
    exact ext_of (fun n => outAt m c n i1) _ (fun n h => Cert.InFwdIdeal.Final.outAt_lt m c n h i1) (fun n => out_row m c n i1) i0
  · rw [val_main_v21_eq, e0, e1, Cert.InFwdIdeal.Final.final4]
    funext i
    idx_vars i
    rw [padded_at]
    exact ext_of (fun n => normAt m c n i1) _ (fun n h => Cert.InFwdIdeal.Final.normAt_lt m c n h i1) (fun n => by rw [norm_row]) i0

end Cert.InFwdProj
-- ==== Proof.FfnFwd.Body.lean ====
/- One grid point of the feed-forward input's kernel, for any float values: at the first column block it stores the normed rows, at the
   second it finds them; in both it stores the two products and the gated activation of the block of columns. -/
module

public import proofs.«01_k».proof.Proof.Gen.FfnFwdIdeal.Frame
public import proofs.«01_k».proof.Proof.Gen.FfnFwdIdeal.Skeleton
public import Idealize.ShloMosaic.Lib.VecWindow
public import Idealize.ShloMosaic.Lib.Pipeline.TableIdle
public import Idealize.ShloMosaic.Lib.Exec

@[expose] public section

set_option maxRecDepth 16384

noncomputable section

namespace Cert.FfnFwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnFwdIdeal.Gen

variable {F : FTy → Type} [FloatOps F]

/-- A block read back through the rectangle that covers its whole buffer. -/
theorem read_whole {sp : Space} {s : Shape} {e : EltTy} (a : Memref sig .tc sp s e) (ha : a.IsWhole) (x : Vec F s e) (st : Fin s.rank → ℕ)
    (hin : ∀ k, st k + s.size k ≤ s.size k) :
    a.view.readAt (Elt F) (Rect.unit st s.size hin).toLoadRect (ha.unread x) = x :=
  (View.readAt_full _ _ _).trans (ha.read_unread x)

variable (c : Dev nD) (i : grid0.Coords)
  (arg2 : Memref sig .tc .vmem S544x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S1408x1024 .bf16) (harg5 : arg5.IsWhole)
  (arg6 : Memref sig .tc .vmem S1408x1024 .bf16) (harg6 : arg6.IsWhole)
  (arg7 : Memref sig .tc .vmem S8x1408 .f32) (harg7 : arg7.IsWhole)
  (arg8 : Memref sig .tc .vmem S1x1408 .f32) (harg8 : arg8.IsWhole)
  (arg9 : Memref sig .tc .vmem S544x1024 .bf16) (harg9 : arg9.IsWhole)
  (arg10 : Memref sig .tc .vmem S544x1408 .f32) (harg10 : arg10.IsWhole)
  (arg11 : Memref sig .tc .vmem S544x1408 .f32) (harg11 : arg11.IsWhole)
  (arg12 : Memref sig .tc .vmem S544x1408 .bf16) (harg12 : arg12.IsWhole)
  (x0 : Vec F S544x1024 .f32)  (x1 : Vec F S8x1024 .f32)  (x2 : Vec F S1x1024 .f32)  (x3 : Vec F S1408x1024 .bf16)  (x4 : Vec F S1408x1024 .bf16)  (x5 : Vec F S8x1408 .f32)  (x6 : Vec F S1x1408 .f32) (y : Vec F S544x1024 .bf16)

/-- What a point stores for the gated activation, from the normed rows and the blocks. -/
def actv : FVec F S544x1408 .bf16 := k0_pay1 (k0_pay6 y x4) (k0_pay7 x5) (k0_pay8 i x2 y x1 x3) 2#32 x6

set_option maxHeartbeats 3200000 in
/-- At the first column block the point stores the normed rows and what it computes from them. -/
theorem first_run (hc : k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare (k0_pay2 x2 x0) ∗ owns (c : Thread nD τ) arg10 fullShare (k0_pay5 (k0_pay2 x2 x0) x3) ∗ owns (c : Thread nD τ) arg11 fullShare (k0_pay6 (k0_pay2 x2 x0) x4) ∗ owns (c : Thread nD τ) arg12 fullShare (actv i x1 x2 x3 x4 x5 x6 (k0_pay2 x2 x0))) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12) K := by
  simp only [cc0_ffn_in_eq_skeleton]; unfold cc0_ffn_in_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    unfold first_run.sl.H7_1
    refine (View.read_writes_full _ _ _ _ _).trans ?_
    rw [read_whole, read_whole]
  isplitl [H8]
  · iexists _; isplitr; swap; · iexact H8
    ipureintro
    refine (View.read_writes_full _ _ _ _ _).trans ?_
    unfold first_run.sl.r
    unfold first_run.sl.v4 first_run.sl.H7_1
    rw [View.readCov_full]
    repeat rw [read_whole]
  isplitl [H9]
  · iexists _; isplitr; swap; · iexact H9
    ipureintro
    refine (View.read_writes_full _ _ _ _ _).trans ?_
    unfold first_run.sl.r_1
    unfold first_run.sl.v4 first_run.sl.H7_1
    rw [View.readCov_full]
    repeat rw [read_whole]
  iexists _; isplitr; swap; · iexact H10
  ipureintro
  refine (View.read_writes_full _ _ _ _ _).trans ?_
  unfold actv
  unfold first_run.sl.r_1 first_run.sl.r_2 first_run.sl.r_3
  unfold first_run.sl.v4 first_run.sl.H7_1
  rw [View.readCov_full]
  repeat rw [read_whole]

set_option maxHeartbeats 3200000 in
/-- At the second column block the point finds the normed rows and stores what it computes from them. -/
theorem later_run (hc : ¬k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare y ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
          ∗ owns (c : Thread nD τ) arg9 fullShare y ∗ owns (c : Thread nD τ) arg10 fullShare (k0_pay5 y x3) ∗ owns (c : Thread nD τ) arg11 fullShare (k0_pay6 y x4) ∗ owns (c : Thread nD τ) arg12 fullShare (actv i x1 x2 x3 x4 x5 x6 y)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11 arg12 harg12) K := by
  simp only [cc0_ffn_in_eq_skeleton]; unfold cc0_ffn_in_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    refine (View.read_writes_full _ _ _ _ _).trans ?_
    unfold later_run.sl.r
    repeat rw [read_whole]
  isplitl [H9]
  · iexists _; isplitr; swap; · iexact H9
    ipureintro
    refine (View.read_writes_full _ _ _ _ _).trans ?_
    unfold later_run.sl.r_1
    repeat rw [read_whole]
  iexists _; isplitr; swap; · iexact H10
  ipureintro
  refine (View.read_writes_full _ _ _ _ _).trans ?_
  unfold actv
  unfold later_run.sl.r_1 later_run.sl.r_2 later_run.sl.r_3
  repeat rw [read_whole]

end Cert.FfnFwdIdeal.Body

end
-- ==== Proof.FfnFwd.Run.lean ====
/- The feed-forward input's kernel run over its whole grid, for any float values: what each window holds at every grid point, and
   every execution ends with the four outputs at what the grid points wrote and the arguments unchanged. -/
module

public import proofs.«01_k».proof.Proof.FfnFwd.Body
public import Idealize.ShloMosaic.Lib.Claim

@[expose] public section

set_option maxRecDepth 16384

noncomputable section

namespace Cert.FfnFwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFwdIdeal.Gen Cert.FfnFwdIdeal.Body

variable {F : FTy → Type} [FloatOps F]
variable (m : (ℓ : Loc nD τ sig) → Buf (Elt F) ℓ) (ρ : Dev nD → PrngReg)

/-- The first of the two grid points that share a block of rows. -/
def ev (t : Fin cfg0.N) : Fin cfg0.N := ⟨t.val / 2 * 2, lt_of_le_of_lt (Nat.div_mul_le_self _ _) t.isLt⟩

/-- The normed rows a grid point holds: computed at the first column block from the rows and the weight. -/
def normed (c : Dev nD) (t : Fin cfg0.N) : Vec F S544x1024 .bf16 := k0_pay2 (iblk m c 2 (ev t)) (iblk m c 0 (ev t))

theorem ev_first (t : Fin cfg0.N) (h : t.val % 2 = 0) : ev t = t := Fin.ext (by show t.val / 2 * 2 = t.val; omega)

/-- What every window's buffer holds after the body ran at a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => normed m c t
    | ⟨8, _⟩ => k0_pay5 (normed m c t) (iblk m c 3 t)
    | ⟨9, _⟩ => k0_pay6 (normed m c t) (iblk m c 4 t)
    | ⟨10, _⟩ => actv (grid0.coords t) (iblk m c 1 t) (iblk m c 2 t) (iblk m c 3 t) (iblk m c 4 t) (iblk m c 5 t) (iblk m c 6 t) (normed m c t)
    | ⟨_ + 11, h⟩ => absurd h (Nat.not_lt.2 (Nat.le_add_left _ _))
  Φ _ := Pipeline.ΦA spec0 c
  q w := Pipeline.shareOf spec0 w
  owed _ := 0

/-- The arrays start as the region found them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = normed m c t := by dsimp only [dats]
theorem after_8 (c : Dev nD) (t : Fin cfg0.N) : (dats m 0 c).after 8 t = k0_pay5 (normed m c t) (iblk m c 3 t) := by dsimp only [dats]
theorem after_9 (c : Dev nD) (t : Fin cfg0.N) : (dats m 0 c).after 9 t = k0_pay6 (normed m c t) (iblk m c 4 t) := by dsimp only [dats]
theorem after_10 (c : Dev nD) (t : Fin cfg0.N) : (dats m 0 c).after 10 t = actv (grid0.coords t) (iblk m c 1 t) (iblk m c 2 t) (iblk m c 3 t) (iblk m c 4 t) (iblk m c 5 t) (iblk m c 6 t) (normed m c t) := by dsimp only [dats]

/-- The first column block is where the norm is computed. -/
theorem cond_iff : ∀ t : Fin cfg0.N, k0_cond1 (grid0.coords t) = 1#1 ↔ t.val % 2 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [k0_cond1, e0, e1]
    word_cmp
   : ∀ t : Fin grid0.N, k0_cond1 (grid0.coords t) = 1#1 ↔ t.val % 2 = 0)

theorem live_first (t : Fin cfg0.N) (h : t.val % 2 = 0) : cfg0.idle 7 (grid0.coords t) = false := by
  show (!(k0_cond1 (grid0.coords t) == 1#1)) = false
  rw [(cond_iff t).mpr h]; rfl

theorem flush_later (t : Fin cfg0.N) (h : ¬t.val % 2 = 0) : (cfg0.win 7).flush t = true := (flush0_7 t).mpr (by omega)

/-- At the second column block the buffer holds the normed rows the point before left. -/
theorem before_7 (c : Dev nD) (t : Fin cfg0.N) (h : ¬t.val % 2 = 0) (d) : (dats m 0 c).before 7 t d = normed m c t := by
  have hf : (cfg0.win 7).flush ⟨t.val - 1, Nat.lt_of_le_of_lt (Nat.sub_le _ _) t.isLt⟩ = false := by
    rw [Bool.eq_false_iff]; intro q
    have := (flush0_7 _).mp q
    simp only at this; omega
  have hl : cfg0.idle 7 (grid0.coords ⟨t.val - 1, Nat.lt_of_le_of_lt (Nat.sub_le _ _) t.isLt⟩) = false := live_first _ (by simp only; omega)
  rw [Dat.before_of_pos _ 7 t (by omega) ((cfg0.win 7).fetch_out rfl t) d, hf, if_neg Bool.false_ne_true]
  unfold Dat.left
  rw [hl]
  show (dats m 0 c).after 7 _ = _
  rw [after_7]
  unfold normed
  rw [show ev ⟨t.val - 1, Nat.lt_of_le_of_lt (Nat.sub_le _ _) t.isLt⟩ = ev t from Fin.ext (by show (t.val - 1) / 2 * 2 = t.val / 2 * 2; omega)]

/-- The windows' buffers at a grid point. -/
abbrev ms0_0 (t : Fin cfg0.N) : Memref sig .tc .vmem S544x1024 .f32 := win0_0.stage (cfg0.slots t 0)
abbrev ms0_1 (t : Fin cfg0.N) : Memref sig .tc .vmem S8x1024 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1408x1024 .bf16 := win0_3.stage (cfg0.slots t 3)
abbrev ms0_4 (t : Fin cfg0.N) : Memref sig .tc .vmem S1408x1024 .bf16 := win0_4.stage (cfg0.slots t 4)
abbrev ms0_5 (t : Fin cfg0.N) : Memref sig .tc .vmem S8x1408 .f32 := win0_5.stage (cfg0.slots t 5)
abbrev ms0_6 (t : Fin cfg0.N) : Memref sig .tc .vmem S1x1408 .f32 := win0_6.stage (cfg0.slots t 6)
abbrev ms0_7 (t : Fin cfg0.N) : Memref sig .tc .vmem S544x1024 .bf16 := win0_7.stage (cfg0.slots t 7)
abbrev ms0_8 (t : Fin cfg0.N) : Memref sig .tc .vmem S544x1408 .f32 := win0_8.stage (cfg0.slots t 8)
abbrev ms0_9 (t : Fin cfg0.N) : Memref sig .tc .vmem S544x1408 .f32 := win0_9.stage (cfg0.slots t 9)
abbrev ms0_10 (t : Fin cfg0.N) : Memref sig .tc .vmem S544x1408 .bf16 := win0_10.stage (cfg0.slots t 10)

/-- What the body is called with at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- What the body leaves in a window's buffer at a point where the window is used. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]
theorem leaves_7 (c : Dev nD) (t : Fin cfg0.N) : (dats m 0 c).leavesExact 7 t = owns (c : Thread nD τ) (ms0_7 t) fullShare ((dats m 0 c).after 7 t) := by
  by_cases h : t.val % 2 = 0
  · unfold Dat.leavesExact; rw [live_first t h]
  · unfold Dat.leavesExact; rw [flush_later t h]; cases cfg0.idle 7 (cfg0.grid.coords t) <;> rfl

set_option maxHeartbeats 3200000 in
/-- The body meets its obligation at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c)]
  rw [show (dats m 0 c).Φ t.succ = (dats m 0 c).Φ t.castSucc from rfl,
    show (dats m 0 c).owesAt () t.succ = (dats m 0 c).owesAt () t.castSucc from rfl]
  rw [leaves m c t 0 rfl, leaves m c t 1 rfl, leaves m c t 2 rfl, leaves m c t 3 rfl, leaves m c t 4 rfl, leaves m c t 5 rfl, leaves m c t 6 rfl, leaves_7, leaves m c t 8 rfl, leaves m c t 9 rfl, leaves m c t 10 rfl, after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h : t.val % 2 = 0
  · rw [show normed m c t = k0_pay2 (iblk m c 2 t) (iblk m c 0 t) from by unfold normed; rw [ev_first t h]]
    iapply (first_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) ((cond_iff t).mpr h) Set.univ _)
    iframe
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    iframe
  · rw [before_7 m c t h d7]
    iapply (later_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (normed m c t) (fun q => h ((cond_iff t).mp q)) Set.univ _)
    iframe
    isplitl [H8]; · iexists _; iexact H8
    isplitl [H9]; · iexists _; iexact H9
    isplitl [H10]; · iexists _; iexact H10
    iintro ⟨H0, H1, H2, H3, H4, H5, H6, H7, H8, H9, H10⟩
    iframe

/-- The obligation in the form the pipeline asks for. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- Every execution ends, with every pipeline array as computed and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiet m ρ))

/-- Every execution ends with each output at what the grid points wrote and the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 7 cfg0.N
      ∧ r.2.mem ((c : Thread nD τ).loc main_v6_1) = (dats m 0 c).arrAt 8 cfg0.N
      ∧ r.2.mem ((c : Thread nD τ).loc main_v6_2) = (dats m 0 c).arrAt 9 cfg0.N
      ∧ r.2.mem ((c : Thread nD τ).loc main_v6_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 7, (h.1 c).1 8, (h.1 c).1 9, (h.1 c).1 10, h.2.1 c⟩)
    (θ_run_and (run_main m ρ) (frame m ρ))

end Cert.FfnFwdIdeal.Run

end
-- ==== Proof.FfnFwd.Bits.lean ====
/- The frame of the feed-forward input over the machine's floats: the printed kernel and its reading over the reals are one text. -/
module

public import proofs.«01_k».proof.Defs
public import proofs.«01_k».proof.Proof.Gen.FfnFwd
public import proofs.«01_k».proof.Proof.FfnFwd.Run

@[expose] public section

set_option maxRecDepth 16384

noncomputable section

namespace Cert.FfnFwdIdeal.Run

open Idealize.ShloMosaic Idealize.ShloMosaic.TcCoe Idealize.ShloMosaic.Tactic
open Idealize.SL.Sem

/-- The frame at the machine's floats. -/
def AtBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem atBits : AtBits := fun m ρ _ => frame (F := Bits) m ρ

theorem one_text : AtBits = Cert.quiescent_FfnFwd := by sl_kernel_rfl

/-- Every execution of the printed kernel ends with its arguments unchanged and every counter at zero. -/
theorem frame_bits : Cert.quiescent_FfnFwd := one_text.mp atBits

end Cert.FfnFwdIdeal.Run

end
-- ==== Proof.FfnFwd.Tile.lean ====
/- The blocks of the feed-forward input's kernel: its printed payloads at an index, as formulas over the rows. -/
module

public import proofs.«01_k».proof.Proof.Gen.FfnFwdIdeal.Skeleton
public import proofs.«01_k».proof.Proof.InFwd.Row
public import proofs.«01_k».proof.Proof.Gate.Core

@[expose] public section

set_option maxRecDepth 16384

noncomputable section

open Idealize.ShloMosaic Idealize.ShloMosaic.TcCoe Idealize.SL.Sem

namespace Cert.FfnFwdRow

open Cert.Conv

/-- The convolved gate of one entry: from the taps, the bias, the entry's column at this row and the two before it, and the other factor. -/
def gate (w : Fin 3 → EReal) (b p2 p1 p0 u : EReal) : EReal :=
  ((((w 0 * p2 + w 1 * p1) + w 2 * p0) + b) * sg (((w 0 * p2 + w 1 * p1) + w 2 * p0) + b)) * u

theorem gate_zero (w : Fin 3 → EReal) (b p2 p1 p0 : EReal) : gate w b p2 p1 p0 0 = 0 := mul_zero _

end Cert.FfnFwdRow

namespace Cert.FfnFwdIdeal.Tile

open Cert.FfnFwdIdeal Cert.FfnFwdIdeal.Gen Cert.Num Cert.Rms Cert.InFwdRow Cert.Conv Cert.FfnFwdRow

theorem first_sel (a : Fin 4) (x : EReal) : Scalar.select (Scalar.cmpi .sgt (BitVec.ofNat 32 (a : ℕ)) 0#32) x 0 = if (a : ℕ) = 0 then 0 else x := by
  have : Scalar.cmpi .sgt (BitVec.ofNat 32 (a : ℕ)) 0#32 = if (a : ℕ) = 0 then 0#1 else 1#1 := by revert a; decide
  rw [this]
  split <;> rfl

theorem norm_at (w : FVec Ideal S1x1024 .f32) (x : FVec Ideal S544x1024 .f32) (r : Fin 544) (d : Fin 1024) :
    k0_pay2 (F := Ideal) w x (ix2 r d) = nrm (fun d => x (ix2 r d)) (fun d => w (ix2 0 d)) d := by
  unfold nrm rt
  pointwise [k0_pay2]

theorem gate_prod_at (u : FVec Ideal S544x1024 .bf16) (w : FVec Ideal S1408x1024 .bf16) (r : Fin 544) (k : Fin 1408) :
    k0_pay5 (F := Ideal) u w (ix2 r k) = ∑ e, u (ix2 r e) * w (ix2 k e) := by
  pointwise [k0_pay5, k0_pay3, k0_pay4]

theorem up_prod_at (u : FVec Ideal S544x1024 .bf16) (w : FVec Ideal S1408x1024 .bf16) (r : Fin 544) (k : Fin 1408) :
    k0_pay6 (F := Ideal) u w (ix2 r k) = ∑ e, u (ix2 r e) * w (ix2 k e) := by
  pointwise [k0_pay6, k0_pay3]

/-- The gate's product with the eight rows before the block ahead of it. -/
theorem rows_at (i : grid0.Coords) (w : FVec Ideal S1x1024 .f32) (u : FVec Ideal S544x1024 .bf16) (p : FVec Ideal S8x1024 .f32)
    (g : FVec Ideal S1408x1024 .bf16) (e : Fin 552) (k : Fin 1408) :
    k0_pay8 (F := Ideal) i w u p g (ix2 e k)
      = if h : (e : ℕ) < 8 then if (i 0).val = 0 then 0 else ∑ d, nrm (fun d => p (ix2 ⟨e, h⟩ d)) (fun d => w (ix2 0 d)) d * g (ix2 k d)
        else ∑ d, u (ix2 ⟨e - 8, by omega⟩ d) * g (ix2 k d) := by
  have fs (x : EReal) : Scalar.select (Scalar.cmpi .sgt (BitVec.ofNat 32 (i 0).val) 0#32) x 0 = if (i 0).val = 0 then 0 else x := first_sel (i 0) x
  simp only [← fs]
  unfold nrm rt
  pointwise [k0_pay8, k0_pay5, k0_pay3, k0_pay4]

theorem act_at (u : FVec Ideal S544x1408 .f32) (w : FVec Ideal S8x1408 .f32) (p : FVec Ideal S552x1408 .f32) (b : FVec Ideal S1x1408 .f32)
    (r : Fin 544) (k : Fin 1408) : k0_pay1 (F := Ideal) u (k0_pay7 w) p 2#32 b (ix2 r k)
      = gate (fun e => w (ix2 ⟨e, by omega⟩ k)) (b (ix2 0 k)) (p (ix2 ⟨8 + r - 2, by omega⟩ k)) (p (ix2 ⟨8 + r - 1, by omega⟩ k))
        (p (ix2 ⟨8 + r, by omega⟩ k)) (u (ix2 r k)) := by
  unfold gate sg
  have q2 : (8 + (r : ℕ) + 552 - 2) % 552 = 8 + (r : ℕ) - 2 := by omega
  have q1 : (8 + (r : ℕ) + 552 - 1) % 552 = 8 + (r : ℕ) - 1 := by omega
  pointwise [k0_pay1, k0_pay7]
  simp only [q2, q1]
  try rfl

end Cert.FfnFwdIdeal.Tile
-- ==== Proof.FfnFwd.Entry.lean ====
/- The blocks the feed-forward input's kernel reads at a grid point, as rows of the arguments. -/
module

public import proofs.«01_k».proof.Proof.FfnFwd.Run
public import proofs.«01_k».proof.Proof.FfnFwd.Tile
public import proofs.«01_k».proof.Proof.Common.Pad
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnFwdIdeal.Entry

open Cert.FfnFwdIdeal Cert.FfnFwdIdeal.Gen Cert.FfnFwdIdeal.Tile Cert.Num Cert.Pad

variable (m : (ℓ : Loc nD τ sig) → Buf (Elt Ideal) ℓ)

theorem host0 (c : Dev nD) (r : Fin 2176) (k : Fin 1024) : V m c main_v0 (ix2 r k) = ext (fun n => m ((c : Thread nD τ).loc main_arg0) (ix2 n k)) r := by
  unfold V
  simp only [List.flatten_cons, List.flatten_nil, List.append_nil, List.cons_append, List.nil_append]
  after_reads_at
  exact ext_pad (fun n => m ((c : Thread nD τ).loc main_arg0) (ix2 n k)) r _ zero32

theorem host1 (c : Dev nD) (i : S1x1024.Idx) : V m c main_arg1 i = m ((c : Thread nD τ).loc main_arg1) (i) := by
  unfold V
  simp only [List.flatten_cons, List.flatten_nil, List.append_nil, List.cons_append, List.nil_append]
  after_reads_at

theorem host2 (c : Dev nD) (k : Fin 2816) (d : Fin 1024) : V m c main_v2 (ix2 k d) = m ((c : Thread nD τ).loc main_arg2) (ix2 d k) := by
  unfold V
  simp only [List.flatten_cons, List.flatten_nil, List.append_nil, List.cons_append, List.nil_append]
  after_reads_at

theorem host3 (c : Dev nD) (k : Fin 2816) (d : Fin 1024) : V m c main_v4 (ix2 k d) = m ((c : Thread nD τ).loc main_arg3) (ix2 d k) := by
  unfold V
  simp only [List.flatten_cons, List.flatten_nil, List.append_nil, List.cons_append, List.nil_append]
  after_reads_at

theorem host4 (c : Dev nD) (e : Fin 3) (k : Fin 2816) : V m c main_v5 (ix2 ⟨e, by omega⟩ k) = m ((c : Thread nD τ).loc main_arg4) (ix2 e k) := by
  unfold V
  simp only [List.flatten_cons, List.flatten_nil, List.append_nil, List.cons_append, List.nil_append]
  after_reads_at

theorem host5 (c : Dev nD) (i : S1x2816.Idx) : V m c main_arg5 i = m ((c : Thread nD τ).loc main_arg5) (i) := by
  unfold V
  simp only [List.flatten_cons, List.flatten_nil, List.append_nil, List.cons_append, List.nil_append]
  after_reads_at

theorem idx : ∀ t : Fin cfg0.N, win0_0.index t = ![t.val / 2, 0] ∧ win0_1.index t = ![68 * (t.val / 2) - 1, 0] ∧ win0_2.index t = ![0, 0]
    ∧ win0_3.index t = ![t.val % 2, 0] ∧ win0_4.index t = ![t.val % 2, 0] ∧ win0_5.index t = ![0, t.val % 2] ∧ win0_6.index t = ![0, t.val % 2]
    ∧ win0_7.index t = ![t.val / 2, 0] ∧ win0_8.index t = ![t.val / 2, t.val % 2] ∧ win0_9.index t = ![t.val / 2, t.val % 2]
    ∧ win0_10.index t = ![t.val / 2, t.val % 2] ∧ (grid0.coords t 0).val = t.val / 2 ∧ t.val < 8 :=
  (by decide +kernel : ∀ t : Fin grid0.N, _)

theorem at_pt (t : Fin cfg0.N) : t.val < 8 := by have := idx t; omega

variable (c : Dev nD) (t : Fin cfg0.N)

def blk0 : FVec Ideal S544x1024 .f32 := iblk m c 0 t
def blk1 : FVec Ideal S8x1024 .f32 := iblk m c 1 t
def blk2 : FVec Ideal S1x1024 .f32 := iblk m c 2 t
def blk3 : FVec Ideal S1408x1024 .bf16 := iblk m c 3 t
def blk4 : FVec Ideal S1408x1024 .bf16 := iblk m c 4 t
def blk5 : FVec Ideal S8x1408 .f32 := iblk m c 5 t
def blk6 : FVec Ideal S1x1408 .f32 := iblk m c 6 t

theorem block0 (r : Fin 544) (j : Fin 1024) : blk0 m c t (ix2 r j) = ext (fun n => m ((c : Thread nD τ).loc main_arg0) (ix2 n j)) (t.val / 2 * 544 + r) := by
  have ht := at_pt t
  have e : (win0_0.blk t).view.emb (ix2 r j) = ix2 (⟨t.val / 2 * 544 + r, by omega⟩ : Fin 2176) j := by blk_ext [idx t]
  unfold blk0
  blk_simp [iblk]
  rw [e, host0]

theorem block1 (r : Fin 8) (j : Fin 1024) : blk1 m c t (ix2 r j) = ext (fun n => m ((c : Thread nD τ).loc main_arg0) (ix2 n j)) ((68 * (t.val / 2) - 1) * 8 + r) := by
  have ht := at_pt t
  have e : (win0_1.blk t).view.emb (ix2 r j) = ix2 (⟨(68 * (t.val / 2) - 1) * 8 + r, by omega⟩ : Fin 2176) j := by blk_ext [idx t]
  unfold blk1
  blk_simp [iblk]
  rw [e, host0]

theorem block2 (d : Fin 1024) : blk2 m c t (ix2 0 d) = m ((c : Thread nD τ).loc main_arg1) (ix2 0 d) := by
  have ht := at_pt t
  have e : (win0_2.blk t).view.emb (ix2 0 d) = ix2 0 d := by blk_ext [idx t]
  unfold blk2
  blk_simp [iblk]
  rw [e, host1]

theorem block3 (k : Fin 1408) (d : Fin 1024) : blk3 m c t (ix2 k d) = m ((c : Thread nD τ).loc main_arg2) (ix2 d ⟨t.val % 2 * 1408 + k, by omega⟩) := by
  have ht := at_pt t
  have e : (win0_3.blk t).view.emb (ix2 k d) = ix2 (⟨t.val % 2 * 1408 + k, by omega⟩ : Fin 2816) d := by blk_ext [idx t]
  unfold blk3
  blk_simp [iblk]
  rw [e, host2]

theorem block4 (k : Fin 1408) (d : Fin 1024) : blk4 m c t (ix2 k d) = m ((c : Thread nD τ).loc main_arg3) (ix2 d ⟨t.val % 2 * 1408 + k, by omega⟩) := by
  have ht := at_pt t
  have e : (win0_4.blk t).view.emb (ix2 k d) = ix2 (⟨t.val % 2 * 1408 + k, by omega⟩ : Fin 2816) d := by blk_ext [idx t]
  unfold blk4
  blk_simp [iblk]
  rw [e, host3]

theorem block5 (e : Fin 3) (k : Fin 1408) : blk5 m c t (ix2 ⟨e, by omega⟩ k) = m ((c : Thread nD τ).loc main_arg4) (ix2 e ⟨t.val % 2 * 1408 + k, by omega⟩) := by
  have ht := at_pt t
  have q : (win0_5.blk t).view.emb (ix2 ⟨e, by omega⟩ k) = ix2 ⟨e, by omega⟩ (⟨t.val % 2 * 1408 + k, by omega⟩ : Fin 2816) := by blk_ext [idx t]
  unfold blk5
  blk_simp [iblk]
  rw [q, host4]

theorem block6 (k : Fin 1408) : blk6 m c t (ix2 0 k) = m ((c : Thread nD τ).loc main_arg5) (ix2 0 ⟨t.val % 2 * 1408 + k, by omega⟩) := by
  have ht := at_pt t
  have e : (win0_6.blk t).view.emb (ix2 0 k) = ix2 0 (⟨t.val % 2 * 1408 + k, by omega⟩ : Fin 2816) := by blk_ext [idx t]
  unfold blk6
  blk_simp [iblk]
  rw [e, host5]

end Cert.FfnFwdIdeal.Entry
-- ==== Proof.FfnFwd.Final.lean ====
/- What the feed-forward input's kernel leaves in its four result arrays. -/
module

public import proofs.«01_k».proof.Proof.FfnFwd.Entry

@[expose] public section

set_option maxRecDepth 16384

noncomputable section

open Idealize.ShloMosaic Idealize.ShloMosaic.TcCoe Idealize.SL.Sem
open Idealize.ShloMosaic.Pipeline (Dat)

namespace Cert.FfnFwdIdeal.Final

open Cert.FfnFwdIdeal Cert.FfnFwdIdeal.Gen Cert.FfnFwdIdeal.Body Cert.FfnFwdIdeal.Run Cert.FfnFwdIdeal.Tile Cert.FfnFwdIdeal.Entry Cert.Pad Cert.InFwdRow Cert.FfnFwdRow

variable (m : (ℓ : Loc nD τ sig) → Buf (Elt Ideal) ℓ) (c : Dev nD)

/-- Row `n` of the normed array, of the two products and of the activation. -/
def normAt (n : ℕ) : Fin 1024 → EReal :=
  nrm (fun k => ext (fun r => m ((c : Thread nD τ).loc main_arg0) (ix2 r k)) n) (fun d => m ((c : Thread nD τ).loc main_arg1) (ix2 0 d))
def gateAt (n : ℕ) (k : Fin 2816) : EReal := ∑ e, normAt m c n e * (show EReal from m ((c : Thread nD τ).loc main_arg2) (ix2 e k))
def upAt (n : ℕ) (k : Fin 2816) : EReal := ∑ e, normAt m c n e * (show EReal from m ((c : Thread nD τ).loc main_arg3) (ix2 e k))
def actAt (n : ℕ) (k : Fin 2816) : EReal :=
  gate (fun e => m ((c : Thread nD τ).loc main_arg4) (ix2 e k)) (m ((c : Thread nD τ).loc main_arg5) (ix2 0 k))
    (gateAt m c (n - 2) k) (gateAt m c (n - 1) k) (gateAt m c n k) (upAt m c n k)

theorem normAt_lt (n : ℕ) (h : n < 112) (k : Fin 1024) : normAt m c n k = 0 := by
  unfold normAt
  simp only [ext_lt _ n h]
  exact nrm_zero _ k

theorem gateAt_lt (n : ℕ) (h : n < 112) (k : Fin 2816) : gateAt m c n k = 0 :=
  Finset.sum_eq_zero fun e _ => by rw [normAt_lt m c n h, zero_mul]

theorem upAt_lt (n : ℕ) (h : n < 112) (k : Fin 2816) : upAt m c n k = 0 :=
  Finset.sum_eq_zero fun e _ => by rw [normAt_lt m c n h, zero_mul]

theorem actAt_lt (n : ℕ) (h : n < 112) (k : Fin 2816) : actAt m c n k = 0 := by
  unfold actAt
  rw [upAt_lt m c n h, gate_zero]

variable (t : Fin cfg0.N)

theorem norm_blk (r : Fin 544) (d : Fin 1024) : normed m c t (ix2 r d) = normAt m c (t.val / 2 * 544 + r) d := by
  refine (norm_at (blk2 m c (ev t)) (blk0 m c (ev t)) r d).trans ?_
  have h : (ev t).val / 2 = t.val / 2 := by show t.val / 2 * 2 / 2 = t.val / 2; omega
  unfold normAt
  simp only [block0, block2, h]

theorem left8 (r : Fin 544) (k : Fin 1408) : k0_pay5 (normed m c t) (iblk m c 3 t) (ix2 r k)
    = gateAt m c (t.val / 2 * 544 + r) ⟨t.val % 2 * 1408 + k, by omega⟩ := by
  refine (gate_prod_at (normed m c t) (blk3 m c t) r k).trans ?_
  unfold gateAt
  simp only [norm_blk, block3]

theorem left9 (r : Fin 544) (k : Fin 1408) : k0_pay6 (normed m c t) (iblk m c 4 t) (ix2 r k)
    = upAt m c (t.val / 2 * 544 + r) ⟨t.val % 2 * 1408 + k, by omega⟩ := by
  refine (up_prod_at (normed m c t) (blk4 m c t) r k).trans ?_
  unfold upAt
  simp only [norm_blk, block4]

/-- The gate's product at the block's rows and at the eight rows before them that are read. -/
theorem rows_blk (s : ℕ) (hs : s ≤ 2) (r : Fin 544) (k : Fin 1408) :
    k0_pay8 (F := Ideal) (grid0.coords t) (blk2 m c t) (normed m c t) (blk1 m c t) (blk3 m c t) (ix2 ⟨8 + r - s, by omega⟩ k)
      = gateAt m c (t.val / 2 * 544 + r - s) ⟨t.val % 2 * 1408 + k, by omega⟩ := by
  have hc := (idx t).2.2.2.2.2.2.2.2.2.2.2.1
  rw [rows_at, hc]
  by_cases h : 8 + (r : ℕ) - s < 8
  · rw [dif_pos h]
    by_cases h0 : t.val / 2 = 0
    · rw [if_pos h0, gateAt_lt m c _ (by omega)]
    · rw [if_neg h0]
      have e : (68 * (t.val / 2) - 1) * 8 + (8 + (r : ℕ) - s) = t.val / 2 * 544 + r - s := by omega
      unfold gateAt normAt
      simp only [block1, block2, block3, e]
  · rw [dif_neg h]
    have e : t.val / 2 * 544 + (8 + (r : ℕ) - s - 8) = t.val / 2 * 544 + r - s := by omega
    unfold gateAt
    simp only [norm_blk, block3, e]

theorem left10 (r : Fin 544) (k : Fin 1408) :
    actv (grid0.coords t) (blk1 m c t) (blk2 m c t) (blk3 m c t) (blk4 m c t) (blk5 m c t) (blk6 m c t) (normed m c t) (ix2 r k)
      = actAt m c (t.val / 2 * 544 + r) ⟨t.val % 2 * 1408 + k, by omega⟩ := by
  unfold actv
  rw [act_at]
  have q2 := rows_blk m c t 2 (by omega) r k
  have q1 := rows_blk m c t 1 (by omega) r k
  have q0 := rows_blk m c t 0 (by omega) r k
  simp only [Nat.sub_zero] at q0
  rw [q2, q1, q0, show k0_pay6 (normed m c t) (blk4 m c t) (ix2 r k) = _ from left9 m c t r k]
  unfold actAt
  simp only [block5, block6]

theorem final7 : (dats m 0 c).arrAt 7 cfg0.N = fun i : S2176x1024.Idx => normAt m c (i 0).val (i 1) := by
  refine (dats m 0 c).arrAt_eq_of_covers 7 _ (by decide +kernel) fun t _ y => ?_
  have ht := at_pt t
  idx_vars y
  have e : (win0_7.blk t).view.emb (ix2 y0 y1) = ix2 (⟨t.val / 2 * 544 + y0, by omega⟩ : Fin 2176) y1 := by blk_ext [idx t]
  have q := norm_blk m c t y0 y1
  blk_simp [idx t]
  rw [after_7, q, e]
  rfl

theorem final8 : (dats m 0 c).arrAt 8 cfg0.N = fun i : S2176x2816.Idx => gateAt m c (i 0).val (i 1) := by
  refine (dats m 0 c).arrAt_eq_of_covers 8 _ (by decide +kernel) fun t _ y => ?_
  have ht := at_pt t
  idx_vars y
  have e : (win0_8.blk t).view.emb (ix2 y0 y1) = ix2 (⟨t.val / 2 * 544 + y0, by omega⟩ : Fin 2176) (⟨t.val % 2 * 1408 + y1, by omega⟩ : Fin 2816) := by blk_ext [idx t]
  have q := left8 m c t y0 y1
  blk_simp [idx t]
  rw [after_8, q, e]
  rfl

theorem final9 : (dats m 0 c).arrAt 9 cfg0.N = fun i : S2176x2816.Idx => upAt m c (i 0).val (i 1) := by
  refine (dats m 0 c).arrAt_eq_of_covers 9 _ (by decide +kernel) fun t _ y => ?_
  have ht := at_pt t
  idx_vars y
  have e : (win0_9.blk t).view.emb (ix2 y0 y1) = ix2 (⟨t.val / 2 * 544 + y0, by omega⟩ : Fin 2176) (⟨t.val % 2 * 1408 + y1, by omega⟩ : Fin 2816) := by blk_ext [idx t]
  have q := left9 m c t y0 y1
  blk_simp [idx t]
  rw [after_9, q, e]
  rfl

theorem final10 : (dats m 0 c).arrAt 10 cfg0.N = fun i : S2176x2816.Idx => actAt m c (i 0).val (i 1) := by
  refine (dats m 0 c).arrAt_eq_of_covers 10 _ (by decide +kernel) fun t _ y => ?_
  have ht := at_pt t
  idx_vars y
  have e : (win0_10.blk t).view.emb (ix2 y0 y1) = ix2 (⟨t.val / 2 * 544 + y0, by omega⟩ : Fin 2176) (⟨t.val % 2 * 1408 + y1, by omega⟩ : Fin 2816) := by blk_ext [idx t]
  have q := left10 m c t y0 y1
  unfold blk1 blk2 blk3 blk4 blk5 blk6 at q
  blk_simp [idx t]
  rw [after_10, q, e]
  rfl

end Cert.FfnFwdIdeal.Final
-- ==== Proof.FfnFwd.Ref.lean ====
/- The norm, the two products and the gated activation as the reference computes them, at an index. -/
module

public import proofs.«01_k».proof.Proof.Gen.FfnFwdRefIdeal.Read
public import proofs.«01_k».proof.Proof.FfnFwd.Tile
public import proofs.«01_k».proof.Proof.Common.Pad

@[expose] public section

set_option maxRecDepth 16384

noncomputable section

open Idealize.ShloMosaic Idealize.ShloMosaic.TcCoe Idealize.SL.Sem

namespace Cert.FfnFwdRefIdeal.Ref

open Cert.FfnFwdRefIdeal Cert.FfnFwdRefIdeal.Gen Cert.FfnFwdRefIdeal.Read Cert.Num Cert.Rms Cert.Pad Cert.InFwdRow Cert.Conv Cert.FfnFwdRow

variable (x0 : FVec Ideal S2064x1024 .f32) (x1 : FVec Ideal S1x1024 .f32) (x2 x3 : FVec Ideal S1024x2816 .f32) (x4 : FVec Ideal S3x2816 .f32)
  (x5 : FVec Ideal S1x2816 .f32)

/-- Row `n` of the norm, of a product, and of the activation. -/
def normRow (n : Fin 2064) : Fin 1024 → EReal := nrm (fun d => x0 (ix2 n d)) (fun d => x1 (ix2 0 d))
def prod (n : Fin 2064) (j : Fin 2816) : EReal := ∑ e, normRow x0 x1 n e * x2 (ix2 e j)
def actRow (n : Fin 2064) (k : Fin 2816) : EReal :=
  gate (fun e => x4 (ix2 e k)) (x5 (ix2 0 k)) (ext (fun n => prod x0 x1 x2 n k) (110 + n)) (ext (fun n => prod x0 x1 x2 n k) (111 + n))
    (ext (fun n => prod x0 x1 x2 n k) (112 + n)) (prod x0 x1 x3 n k)

theorem rt_at (n : Fin 2064) : val_main_v7 (F := Ideal) x0 (ix2 n 0) = rt inv eps (fun d => x0 (ix2 n d)) := by
  rw [rt_ms]
  unfold ms
  pointwise [val_main_v7, val_main_v6, val_main_v5, val_main_v4, val_main_v3, val_main_v2, val_main_v1, val_main_v0, val_main_cst, val_main_cst_0, val_main_cst_1]

theorem norm_at (n : Fin 2064) (d : Fin 1024) : val_main_v11 (F := Ideal) x0 x1 (ix2 n d) = normRow x0 x1 n d := by
  unfold normRow nrm
  rw [← rt_at]
  pointwise [val_main_v11, val_main_v10, val_main_v9, val_main_v8]

theorem gate_prod_at (n : Fin 2064) (j : Fin 2816) : val_main_v12 (F := Ideal) x0 x1 x2 (ix2 n j) = prod x0 x1 x2 n j := by
  unfold prod
  simp only [← norm_at]
  pointwise [val_main_v12]

theorem up_prod_at (n : Fin 2064) (j : Fin 2816) : val_main_v13 (F := Ideal) x0 x1 x3 (ix2 n j) = prod x0 x1 x3 n j := by
  unfold prod
  simp only [← norm_at]
  pointwise [val_main_v13]

/-- The gate's product behind two rows of zeros. -/
theorem behind_at (q : Fin 2066) (k : Fin 2816) : val_main_v14 (F := Ideal) x0 x1 x2 (ix2 q k) = ext (fun n => prod x0 x1 x2 n k) (110 + q) := by
  simp only [← gate_prod_at]
  pointwise [val_main_v14, val_main_call0_v0, val_main_c]
  unfold Pad.ext
  by_cases h : 2 ≤ (q : ℕ)
  · rw [dif_pos ⟨h, by omega⟩, dif_pos ⟨by omega, by omega⟩]
    exact congrArg (fun n => val_main_v12 (F := Ideal) x0 x1 x2 (ix2 n k)) (Fin.ext (by simp only; omega))
  · rw [dif_neg (fun h' => h h'.1), dif_neg (fun h' => h (by omega))]
    exact zero32

theorem conv_at (n : Fin 2064) (k : Fin 2816) : val_main_v36 (F := Ideal) x0 x1 x2 x4 x5 (ix2 n k)
    = ((x4 (ix2 0 k) * ext (fun n => prod x0 x1 x2 n k) (110 + n) + x4 (ix2 1 k) * ext (fun n => prod x0 x1 x2 n k) (111 + n))
      + x4 (ix2 2 k) * ext (fun n => prod x0 x1 x2 n k) (112 + n)) + x5 (ix2 0 k) := by
  have e1 : 111 + (n : ℕ) = 110 + (1 + n) := by omega
  have e2 : 112 + (n : ℕ) = 110 + (2 + n) := by omega
  rw [e1, e2, ← behind_at x0 x1 x2 ⟨n, by omega⟩, ← behind_at x0 x1 x2 ⟨1 + n, by omega⟩, ← behind_at x0 x1 x2 ⟨2 + n, by omega⟩]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15]

theorem act_at (n : Fin 2064) (k : Fin 2816) : val_main_v38 (F := Ideal) x0 x1 x2 x3 x4 x5 (ix2 n k) = actRow x0 x1 x2 x3 x4 x5 n k := by
  unfold actRow gate sg
  simp only [← conv_at, zero_sub]
  rw [← up_prod_at]
  pointwise [val_main_v38, val_main_v37, val_main_call1_v5, val_main_call1_v4, val_main_call1_v3, val_main_call1_v2, val_main_call1_v1,
    val_main_call1_v0, val_main_call1_cst, val_main_call1_cst_0]

theorem padded_norm_at (r : Fin 2176) (k : Fin 1024) : val_main_v40 (F := Ideal) x0 x1 (ix2 r k) = ext (fun n => normRow x0 x1 n k) r := by
  simp only [← norm_at]
  pointwise [val_main_v40, val_main_v39, val_main_call2_v0, val_main_c_2]
  exact ext_pad (fun n => val_main_v11 (F := Ideal) x0 x1 (ix2 n k)) r _ zero32

theorem padded_gate_at (r : Fin 2176) (k : Fin 2816) : val_main_v41 (F := Ideal) x0 x1 x2 (ix2 r k) = ext (fun n => prod x0 x1 x2 n k) r := by
  simp only [← gate_prod_at]
  pointwise [val_main_v41, val_main_call3_v0, val_main_c_3]
  exact ext_pad (fun n => val_main_v12 (F := Ideal) x0 x1 x2 (ix2 n k)) r _ zero32

theorem padded_up_at (r : Fin 2176) (k : Fin 2816) : val_main_v42 (F := Ideal) x0 x1 x3 (ix2 r k) = ext (fun n => prod x0 x1 x3 n k) r := by
  simp only [← up_prod_at]
  pointwise [val_main_v42, val_main_call4_v0, val_main_c_4]
  exact ext_pad (fun n => val_main_v13 (F := Ideal) x0 x1 x3 (ix2 n k)) r _ zero32

theorem padded_act_at (r : Fin 2176) (k : Fin 2816) : val_main_v44 (F := Ideal) x0 x1 x2 x3 x4 x5 (ix2 r k)
    = ext (fun n => actRow x0 x1 x2 x3 x4 x5 n k) r := by
  simp only [← act_at]
  pointwise [val_main_v44, val_main_v43, val_main_call5_v0, val_main_c_5]
  exact ext_pad (fun n => val_main_v38 (F := Ideal) x0 x1 x2 x3 x4 x5 (ix2 n k)) r _ zero32

end Cert.FfnFwdRefIdeal.Ref
-- ==== Proof.FfnFwd.Value.lean ====
/- The feed-forward input's kernel computes the norm, the two products and the gated activation: the claim about its four results. -/
module

public import proofs.«01_k».proof.Defs
public import proofs.«01_k».proof.Proof.FfnFwd.Final
public import proofs.«01_k».proof.Proof.FfnFwd.Ref
public import proofs.«01_k».proof.Proof.Gen.FfnFwdRefIdeal.Run
public import proofs.«01_k».proof.Proof.Gen.FfnFwd
public import Idealize.ShloMosaic.Lib.Quiescent

@[expose] public section

set_option maxRecDepth 16384

noncomputable section

open Idealize.ShloMosaic Idealize.ShloMosaic.TcCoe Idealize.SL.Sem

namespace Cert.FfnFwdProj

open Cert.FfnFwdRefIdeal Cert.FfnFwdRefIdeal.Gen Cert.FfnFwdRefIdeal.Read Cert.FfnFwdRefIdeal.Ref Cert.Pad Cert.InFwdRow Cert.FfnFwdRow
open Cert.FfnFwdIdeal.Final (normAt gateAt upAt actAt normAt_lt gateAt_lt upAt_lt actAt_lt)

/-- The reference ends, with its arguments unchanged and every counter at zero. -/
theorem reference_ends : Cert.quiescent_FfnFwdRefIdeal (hFfnFwdRefIdeal := Cert.FfnFwdRefIdeal.Gen.facts) := fun m ρ _ =>
  (θ_run _ _ _).mono (fun r h => ⟨fun c => (h c).2.2.2.2, sem_eq_zero_of_no_sems rfl r.2⟩) (Cert.FfnFwdRefIdeal.Value.run m ρ)

section

variable (m : (ℓ : Loc Cert.FfnFwdIdeal.nD Cert.FfnFwdIdeal.τ Cert.FfnFwdIdeal.sig) → Buf (Elt Ideal) ℓ) (c : Dev Cert.FfnFwdIdeal.nD)

abbrev a0 : FVec Ideal S2064x1024 .f32 := m ((c : Thread Cert.FfnFwdIdeal.nD Cert.FfnFwdIdeal.τ).loc Cert.FfnFwdIdeal.main_arg0)
abbrev a1 : FVec Ideal S1x1024 .f32 := m ((c : Thread Cert.FfnFwdIdeal.nD Cert.FfnFwdIdeal.τ).loc Cert.FfnFwdIdeal.main_arg1)
abbrev a2 : FVec Ideal S1024x2816 .f32 := m ((c : Thread Cert.FfnFwdIdeal.nD Cert.FfnFwdIdeal.τ).loc Cert.FfnFwdIdeal.main_arg2)
abbrev a3 : FVec Ideal S1024x2816 .f32 := m ((c : Thread Cert.FfnFwdIdeal.nD Cert.FfnFwdIdeal.τ).loc Cert.FfnFwdIdeal.main_arg3)
abbrev a4 : FVec Ideal S3x2816 .f32 := m ((c : Thread Cert.FfnFwdIdeal.nD Cert.FfnFwdIdeal.τ).loc Cert.FfnFwdIdeal.main_arg4)
abbrev a5 : FVec Ideal S1x2816 .f32 := m ((c : Thread Cert.FfnFwdIdeal.nD Cert.FfnFwdIdeal.τ).loc Cert.FfnFwdIdeal.main_arg5)

theorem norm_row (n : Fin 2064) : normAt m c (112 + n) = normRow (a0 m c) (a1 m c) n := by
  unfold normAt normRow
  simp only [ext_add]

theorem gate_row (n : Fin 2064) (k : Fin 2816) : gateAt m c (112 + n) k = prod (a0 m c) (a1 m c) (a2 m c) n k := by
  unfold gateAt
  rw [norm_row]
  rfl

theorem up_row (n : Fin 2064) (k : Fin 2816) : upAt m c (112 + n) k = prod (a0 m c) (a1 m c) (a3 m c) n k := by
  unfold upAt
  rw [norm_row]
  rfl

/-- An array that is zero in the first rows is its other rows behind zeros. -/
theorem ext_of (f : ℕ → EReal) (g : Fin 2064 → EReal) (h0 : ∀ n < 112, f n = 0) (h : ∀ n : Fin 2064, f (112 + n) = g n) (r : ℕ) (hr : r < 2176) :
    ext g r = f r := by
  unfold ext
  split
  · rw [← h]
    exact congrArg f (by show 112 + (r - 112) = r; omega)
  · exact (h0 _ (by omega)).symm

theorem gate_ext (k : Fin 2816) (r : ℕ) (hr : r < 2176) : ext (fun n => prod (a0 m c) (a1 m c) (a2 m c) n k) r = gateAt m c r k :=
  ext_of (fun n => gateAt m c n k) _ (fun n h => gateAt_lt m c n h k) (fun n => gate_row m c n k) r hr

theorem act_row (n : Fin 2064) (k : Fin 2816) :
    actAt m c (112 + n) k = actRow (a0 m c) (a1 m c) (a2 m c) (a3 m c) (a4 m c) (a5 m c) n k := by
  unfold actAt actRow
  rw [gate_ext m c k _ (by omega), gate_ext m c k _ (by omega), gate_ext m c k _ (by omega), ← up_row,
    show 112 + (n : ℕ) - 2 = 110 + n by omega, show 112 + (n : ℕ) - 1 = 111 + n by omega]

end

/-- The kernel's run and the reference's run end with equal results. -/
theorem gradients : Cert.algebraic_FfnFwdIdeal_FfnFwdRefIdeal (hFfnFwdIdeal := Cert.FfnFwdIdeal.Gen.facts)
    (hFfnFwdRefIdeal := Cert.FfnFwdRefIdeal.Gen.facts) := by
  intro m ρ m' ρ' _ hag
  refine ⟨_, _, _, _, Cert.FfnFwdIdeal.Run.run_blocks m ρ, ?_⟩
  refine (θ_run _ _ _).mono (fun r h c => ?_) (Cert.FfnFwdRefIdeal.Value.run m' ρ')
  obtain ⟨e0, e1, e2, e3, e4, e5⟩ := hag c
  refine ⟨(h c).1.trans ?_, (h c).2.1.trans ?_, (h c).2.2.1.trans ?_, (h c).2.2.2.1.trans ?_, (h c).2.2.2.2⟩
  · rw [val_main_v40_eq, e0, e1, Cert.FfnFwdIdeal.Final.final7]
    funext i
    idx_vars i
    rw [padded_norm_at]
    exact ext_of (fun n => normAt m c n i1) _ (fun n h => normAt_lt m c n h i1) (fun n => by rw [norm_row]) i0 i0.isLt
  · rw [val_main_v41_eq, e0, e1, e2, Cert.FfnFwdIdeal.Final.final8]
    funext i
    idx_vars i
    rw [padded_gate_at]
    exact ext_of (fun n => gateAt m c n i1) _ (fun n h => gateAt_lt m c n h i1) (fun n => gate_row m c n i1) i0 i0.isLt
  · rw [val_main_v42_eq, e0, e1, e3, Cert.FfnFwdIdeal.Final.final9]
    funext i
    idx_vars i
    rw [padded_up_at]
    exact ext_of (fun n => upAt m c n i1) _ (fun n h => upAt_lt m c n h i1) (fun n => up_row m c n i1) i0 i0.isLt
  · rw [val_main_v44_eq, e0, e1, e2, e3, e4, e5, Cert.FfnFwdIdeal.Final.final10]
    funext i
    idx_vars i
    rw [padded_act_at]
    exact ext_of (fun n => actAt m c n i1) _ (fun n h => actAt_lt m c n h i1) (fun n => act_row m c n i1) i0 i0.isLt

end Cert.FfnFwdProj
-- ==== Proof.Gdn.Run.lean ====
/- The frame of the gated delta rule's backward kernel: every execution ends with the arguments unchanged and every counter at zero. Nothing is
   said of what the kernel writes; the state carried over the chunks is held at some contents between two grid points. -/
module

public import proofs.«01_k».proof.Proof.Gen.GdnIdeal.Frame.RunB
public import Idealize.ShloMosaic.Lib.Claim

@[expose] public section

set_option maxRecDepth 16384

noncomputable section

namespace Cert.GdnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GdnIdeal.Gen

variable {F : FTy → Type} [FloatOps F]
variable (m : (ℓ : Loc nD τ sig) → Buf (Elt F) ℓ) (ρ : Dev nD → PrngReg)

/-- The windows of which nothing is said: the five outputs. -/
def outputs : Fin 20 → Bool := fun w => decide (15 ≤ w.val)

/-- The proof data: every input's buffer holds its block after each grid point; the scratch buffers are held at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => X0_8 m c t
    | ⟨9, _⟩ => X0_9 m c t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, h⟩ => Dat.unnamed (cfg := cfg0) ⟨15, h⟩ t
    | ⟨16, h⟩ => Dat.unnamed (cfg := cfg0) ⟨16, h⟩ t
    | ⟨17, h⟩ => Dat.unnamed (cfg := cfg0) ⟨17, h⟩ t
    | ⟨18, h⟩ => Dat.unnamed (cfg := cfg0) ⟨18, h⟩ t
    | ⟨19, h⟩ => Dat.unnamed (cfg := cfg0) ⟨19, h⟩ t
    | ⟨_ + 20, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = X0_8 m c t := by dsimp only [dats]
theorem after_9 (c : Dev nD) (t : Fin cfg0.N) : (dats m 0 c).after 9 t = X0_9 m c t := by dsimp only [dats]
theorem after_10 (c : Dev nD) (t : Fin cfg0.N) : (dats m 0 c).after 10 t = X0_10 m c t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
/-- What the body leaves in a window's buffer at a point where the window is used. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The input buffers at a grid point's blocks. -/
def held (c : Dev nD) (t : Fin cfg0.N) : sProp (MT nD τ sig Unit (Elt F) ℕ (UR sig nD τ) ℕ) :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (X0_8 m c t)
    ∗ owns (c : Thread nD τ) (ms0_9 t) fullShare (X0_9 m c t)
    ∗ owns (c : Thread nD τ) (ms0_10 t) fullShare (X0_10 m c t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t))

/-- The output buffers at some contents. -/
def free (c : Dev nD) (t : Fin cfg0.N) : sProp (MT nD τ sig Unit (Elt F) ℕ (UR sig nD τ) ℕ) :=
  iprop((∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- The scratch buffers at some contents. -/
def scratch (c : Dev nD) : sProp (MT nD τ sig Unit (Elt F) ℕ (UR sig nD τ) ℕ) :=
  iprop((∃ d, owns (c : Thread nD τ) scM0_0 fullShare d)
    ∗ (∃ d, owns (c : Thread nD τ) scM0_1 fullShare d)
    ∗ (∃ d, owns (c : Thread nD τ) scM0_2 fullShare d)
    ∗ (∃ d, owns (c : Thread nD τ) scM0_3 fullShare d)
    ∗ (∃ d, owns (c : Thread nD τ) scM0_4 fullShare d)
    ∗ (∃ d, owns (c : Thread nD τ) scM0_5 fullShare d)
    ∗ (∃ d, owns (c : Thread nD τ) scM0_6 fullShare d))

set_option maxHeartbeats 9600000 in
/-- The body at a grid point: at the first it sets its running values, later it reads them. -/
theorem run_body (c : Dev nD) (t : Fin cfg0.N) (K : PUnit → sProp (MT nD τ sig Unit (Elt F) ℕ (UR sig nD τ) ℕ)) :
    iprop(held m c t ∗ free (F := F) c t ∗ scratch (F := F) c ∗ (iprop(held m c t ∗ free (F := F) c t ∗ scratch (F := F) c) -∗ K ⟨⟩))
      ⊢ wp frame (wpE (defs₀ (F := F)) Variants.none c none) Set.univ (bodyAt0 t) K := by
  have hN : t.val < 17 := lt_of_lt_of_eq t.isLt (show cfg0.N = 17 from N_0)
  unfold held free scratch bodyAt0
  by_cases h : t.val % 17 = 0
  on_goal 1 =>
    iintro ⟨⟨H0, H1, H2, H3, H4, H5, H6, H7, H8, H9, H10, H11, H12, H13, H14⟩, ⟨H15, H16, H17, H18, H19⟩, ⟨S0, S1, S2, S3, S4, S5, S6⟩, Hk⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h) ((hcond0_1 t).mpr h) (fun q => absurd ((hcond0_2 t).mp q) (by omega)) ((hcond0_3 t).mpr h) (fun q => absurd ((hcond0_4 t).mp q) (by omega)) ((hcond0_5 t).mpr h) (fun q => absurd ((hcond0_6 t).mp q) (by omega)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t)).2.2.2.2.2.2.2.2.2.2.2.2 Set.univ _)
  on_goal 2 =>
    iintro ⟨⟨H0, H1, H2, H3, H4, H5, H6, H7, H8, H9, H10, H11, H12, H13, H14⟩, ⟨H15, H16, ⟨%o17, H17⟩, ⟨%o18, H18⟩, ⟨%o19, H19⟩⟩, ⟨⟨%s0, S0⟩, S1, S2, S3, S4, S5, ⟨%s6, S6⟩⟩, Hk⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun q => h ((hcond0_0 t).mp q)) (fun q => h ((hcond0_1 t).mp q)) ((hcond0_2 t).mpr (by omega)) (fun q => h ((hcond0_3 t).mp q)) ((hcond0_4 t).mpr (by omega)) (fun q => h ((hcond0_5 t).mp q)) ((hcond0_6 t).mpr (by omega)) (iblk m c 0 t) (iblk m c 1 t) (iblk m c 2 t) (iblk m c 3 t) (iblk m c 4 t) (iblk m c 5 t) (iblk m c 6 t) (iblk m c 7 t) (X0_8 m c t) (X0_9 m c t) (X0_10 m c t) (iblk m c 11 t) (iblk m c 12 t) (iblk m c 13 t) (iblk m c 14 t) o17 o18 o19 s0 s6).2.2.2.2.2.2.2.2.2.2.2.2 Set.univ _)
  all_goals
    iframe
    iintro ⟨H0, H1, H2, H3, H4, H5, H6, H7, H8, H9, H10, H11, H12, H13, H14, ⟨%a15, H15⟩, ⟨%a16, H16⟩, ⟨%a17, H17⟩, ⟨%a18, H18⟩, ⟨%a19, H19⟩, ⟨%e0, S0⟩, ⟨%e1, S1⟩, ⟨%e2, S2⟩, ⟨%e3, S3⟩, ⟨%e4, S4⟩, ⟨%e5, S5⟩, ⟨%e6, S6⟩⟩
    iapply Hk
    isplitl [H0 H1 H2 H3 H4 H5 H6 H7 H8 H9 H10 H11 H12 H13 H14]
    · iframe
    isplitl [H15 H16 H17 H18 H19]
    · isplitl [H15]; · iexists _; unfold owns; iexists _; isplitr; swap; (· iexact H15); ipureintro; rfl
      isplitl [H16]; · iexists _; unfold owns; iexists _; isplitr; swap; (· iexact H16); ipureintro; rfl
      isplitl [H17]; · iexists _; unfold owns; iexists _; isplitr; swap; (· iexact H17); ipureintro; rfl
      isplitl [H18]; · iexists _; unfold owns; iexists _; isplitr; swap; (· iexact H18); ipureintro; rfl
      iexists _; unfold owns; iexists _; isplitr; swap; (· iexact H19)
      ipureintro; rfl
    isplitl [S0]
    · iexists _; unfold owns; iexists _; isplitr
      swap; · iexact S0
      ipureintro; rfl
    isplitl [S1]; · iexists _; unfold owns; iexists _; isplitr; swap; (· iexact S1); ipureintro; rfl
    isplitl [S2]; · iexists _; unfold owns; iexists _; isplitr; swap; (· iexact S2); ipureintro; rfl
    isplitl [S3]; · iexists _; unfold owns; iexists _; isplitr; swap; (· iexact S3); ipureintro; rfl
    isplitl [S4]; · iexists _; unfold owns; iexists _; isplitr; swap; (· iexact S4); ipureintro; rfl
    isplitl [S5]; · iexists _; unfold owns; iexists _; isplitr; swap; (· iexact S5); ipureintro; rfl
    iexists _; unfold owns; iexists _; isplitr; swap; (· iexact S6)
    ipureintro; rfl

/-- What the body is called with at a grid point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 4800000 in
/-- The body meets its obligation at every grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c), before0_12_of m (dats m 0 c) (A_eq m c 12) (after_12 m c), before0_13_of m (dats m 0 c) (A_eq m c 13) (after_13 m c), before0_14_of m (dats m 0 c) (A_eq m c 14) (after_14 m c)]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  rw [leaves m c t 0 (liveAt0_0 t), after_0, leaves m c t 1 (liveAt0_1 t), after_1, leaves m c t 2 (liveAt0_2 t), after_2, leaves m c t 3 (liveAt0_3 t), after_3, leaves m c t 4 (liveAt0_4 t), after_4, leaves m c t 5 (liveAt0_5 t), after_5, leaves m c t 6 (liveAt0_6 t), after_6, leaves m c t 7 (liveAt0_7 t), after_7, leaves m c t 8 (liveAt0_8 t), after_8, leaves m c t 9 (liveAt0_9 t), after_9, leaves m c t 10 (liveAt0_10 t), after_10, leaves m c t 11 (liveAt0_11 t), after_11, leaves m c t 12 (liveAt0_12 t), after_12, leaves m c t 13 (liveAt0_13 t), after_13, leaves m c t 14 (liveAt0_14 t), after_14]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, H16, H17, H18, H19⟩
  iapply (run_body m c t _)
  unfold held free scratch
  isplitl [H0 H1 H2 H3 H4 H5 H6 H7 H8 H9 H10 H11 H12 H13 H14]
  · iframe
  isplitl [H15 H16 H17 H18 H19]
  · iframe
  isplitl [HS]; · iexact HS
  iintro ⟨⟨H0, H1, H2, H3, H4, H5, H6, H7, H8, H9, H10, H11, H12, H13, H14⟩, ⟨H15, H16, H17, H18, H19⟩, HS⟩
  isplitl [HS Hg]
  · iframe
  iframe

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ outputs := fun t => by
  rw [bigSep_W0, bigSep_W0, defs_row]
  exact triple_restated (sound_body m c t) rfl .rfl fun _ => .rfl

set_option backward.isDefEq.respectTransparency.types false in
/-- Every execution terminates with the input arrays at their entry contents and every counter at zero. -/
theorem run_quiet : θ_run defs (onTc (τ := τ) (main (F := F))) (s₀ m ρ) (fun r => (Pipeline.RDat.FramePost (cfgs 0) (fun c => (dats m 0 c).toRForget outputs) (V m)) r ∧ r.2.sem = fun _ => 0) :=
  Pipeline.θ_run_frame_track_forget_shared (Q' := _) cfgs (dats m) (0 : Fin 1) launch₀0 defs₀ Variants.none outputs m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- An input array still holds what it held at the start. -/
theorem kept (r) (h : Pipeline.RDat.FramePost (cfgs 0) (fun c => (dats m 0 c).toRForget outputs) (V m) r) (c : Dev nD) (w : Fin cfg0.W)
    (hin : (cfg0.win w).isOut = false) (x) (hx : V m c (Pipeline.arrRef spec0 w) = x) :
    r.2.mem ((c.tc : Thread nD τ).loc (Pipeline.arrRef spec0 w)) = x :=
  (Pipeline.RDat.FramePost.arr_in h c w hin).trans ((A_eq m c w).trans hx)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨kept m r h.1 c 0 rfl _ (V_main_arg0 m c),
    kept m r h.1 c 1 rfl _ (V_main_arg1 m c),
    kept m r h.1 c 2 rfl _ (V_main_arg2 m c),
    kept m r h.1 c 3 rfl _ (V_main_arg3 m c),
    kept m r h.1 c 4 rfl _ (V_main_arg4 m c),
    kept m r h.1 c 5 rfl _ (V_main_arg5 m c),
    kept m r h.1 c 6 rfl _ (V_main_arg6 m c),
    kept m r h.1 c 7 rfl _ (V_main_arg7 m c),
    kept m r h.1 c 11 rfl _ (V_main_arg8 m c),
    kept m r h.1 c 12 rfl _ (V_main_arg9 m c),
    kept m r h.1 c 13 rfl _ (V_main_arg10 m c),
    kept m r h.1 c 14 rfl _ (V_main_arg11 m c)⟩, h.2⟩) (run_quiet m ρ)

end Cert.GdnIdeal.Run

end
-- ==== Proof.Gdn.Bits.lean ====
/- The frame of the gated delta rule's backward kernel over the machine's floats: the printed kernel and its reading over the reals are one text. -/
module

public import proofs.«01_k».proof.Defs
public import proofs.«01_k».proof.Proof.Gen.Gdn
public import proofs.«01_k».proof.Proof.Gdn.Run

@[expose] public section

set_option maxRecDepth 16384

noncomputable section

namespace Cert.GdnIdeal.Run

open Idealize.ShloMosaic Idealize.ShloMosaic.TcCoe Idealize.ShloMosaic.Tactic
open Idealize.SL.Sem

/-- The frame at the machine's floats. -/
def AtBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)

theorem atBits : AtBits := fun m ρ _ => frame (F := Bits) m ρ

theorem one_text : AtBits = Cert.quiescent_Gdn := by sl_kernel_rfl

/-- Every execution of the printed kernel ends with its arguments unchanged and every counter at zero. -/
theorem frame_bits : Cert.quiescent_Gdn := one_text.mp atBits

end Cert.GdnIdeal.Run

end
-- ==== Proof.lean ====
/- The claims of Defs, put together: the programs' facts, the frames, the kept texts, and the value claims proved in the
   modules named after the calls. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention.Value
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gate.Value
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up.Value
public import proofs.«01_k».proof.Proof.Gen.In.Frame
public import proofs.«01_k».proof.Proof.Gen.InIdeal.Frame
public import proofs.«01_k».proof.Proof.Gen.InIdeal.Value
public import proofs.«01_k».proof.Proof.Gen.InRefIdeal.Run
public import proofs.«01_k».proof.Proof.Gen.InRefIdeal.Read
public import proofs.«01_k».proof.Proof.In.Value
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Loss.Value
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Mix.Value
public import proofs.«01_k».proof.Proof.Gen.Mla
public import proofs.«01_k».proof.Proof.Mla.Bits
public import proofs.«01_k».proof.Proof.Mla.Value
public import proofs.«01_k».proof.Proof.Gen.Fwd.Frame
public import proofs.«01_k».proof.Proof.Gen.FwdIdeal.Frame
public import proofs.«01_k».proof.Proof.Gen.FwdIdeal.Value
public import proofs.«01_k».proof.Proof.Gen.FwdRefIdeal.Run
public import proofs.«01_k».proof.Proof.Gen.FwdRefIdeal.Read
public import proofs.«01_k».proof.Proof.Forward.Value
public import proofs.«01_k».proof.Proof.Gen.MixFwd.Frame
public import proofs.«01_k».proof.Proof.Gen.MixFwdIdeal.Frame
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.MixFwd.Value
public import proofs.«01_k».proof.Proof.Gen.InFwd
public import proofs.«01_k».proof.Proof.InFwd.Bits
public import proofs.«01_k».proof.Proof.Gen.InFwdRefIdeal.Run
public import proofs.«01_k».proof.Proof.Gen.InFwdRefIdeal.Read
public import proofs.«01_k».proof.Proof.InFwd.Value
public import proofs.«01_k».proof.Proof.Gen.FfnFwd
public import proofs.«01_k».proof.Proof.FfnFwd.Bits
public import proofs.«01_k».proof.Proof.Gen.FfnFwdRefIdeal.Run
public import proofs.«01_k».proof.Proof.Gen.FfnFwdRefIdeal.Read
public import proofs.«01_k».proof.Proof.FfnFwd.Value
public import proofs.«01_k».proof.Proof.Gen.Gdn
public import proofs.«01_k».proof.Proof.Gdn.Bits
public import Idealize.ShloMosaic.Adequacy
public import Idealize.ShloMosaic.Init

@[expose] public section

noncomputable section

namespace Cert.Proof

open Idealize.ShloMosaic Idealize.SL.Sem

/-- The claims, in the order of `Cert.Claim`: the programs' facts, the frames, the kept texts and the values. -/
theorem claim : Cert.Claim :=
  ⟨Cert.Kernel.Gen.facts, Cert.KernelIdeal.Gen.facts, Cert.ReferenceIdeal.Gen.facts, Cert.Gate.Gen.facts, Cert.GateIdeal.Gen.facts, Cert.GateRefIdeal.Gen.facts, Cert.Up.Gen.facts, Cert.UpIdeal.Gen.facts, Cert.UpRefIdeal.Gen.facts, Cert.In.Gen.facts, Cert.InIdeal.Gen.facts, Cert.InRefIdeal.Gen.facts, Cert.Loss.Gen.facts, Cert.LossIdeal.Gen.facts, Cert.LossRefIdeal.Gen.facts, Cert.Mix.Gen.facts, Cert.MixIdeal.Gen.facts, Cert.MixRefIdeal.Gen.facts, Cert.Mla.Gen.facts, Cert.MlaIdeal.Gen.facts, Cert.MlaRefIdeal.Gen.facts, Cert.Fwd.Gen.facts, Cert.FwdIdeal.Gen.facts, Cert.FwdRefIdeal.Gen.facts, Cert.MixFwd.Gen.facts, Cert.MixFwdIdeal.Gen.facts, Cert.MixFwdRefIdeal.Gen.facts, Cert.InFwd.Gen.facts, Cert.InFwdIdeal.Gen.facts, Cert.InFwdRefIdeal.Gen.facts, Cert.FfnFwd.Gen.facts, Cert.FfnFwdIdeal.Gen.facts, Cert.FfnFwdRefIdeal.Gen.facts, Cert.Gdn.Gen.facts, Cert.GdnIdeal.Gen.facts,
    Cert.Pre_finite.Gen.facts, Cert.Pre_gate_finite.Gen.facts, Cert.Pre_up_finite.Gen.facts, Cert.Pre_in_finite.Gen.facts, Cert.Pre_mix_finite.Gen.facts, Cert.Pre_mla_finite.Gen.facts, Cert.Pre_fwd_finite.Gen.facts,
    fun m ρ _ => Cert.Kernel.Gen.frame m ρ,
    fun m ρ _ => Cert.KernelIdeal.Gen.frame m ρ,
    fun m ρ _ => Cert.KernelIdeal.Gen.frame m ρ,
    Cert.Attn.reference_ends,
    fun m ρ _ => Cert.Attn.reference_ends m ρ trivial,
    fun m ρ _ => Cert.Gate.Gen.frame m ρ,
    fun m ρ _ => Cert.GateIdeal.Gen.frame m ρ,
    fun m ρ _ => Cert.GateIdeal.Gen.frame m ρ,
    Cert.Conv.reference_ends,
    fun m ρ _ => Cert.Conv.reference_ends m ρ trivial,
    fun m ρ _ => Cert.Up.Gen.frame m ρ,
    fun m ρ _ => Cert.UpIdeal.Gen.frame m ρ,
    fun m ρ _ => Cert.UpIdeal.Gen.frame m ρ,
    Cert.UpProj.reference_ends,
    fun m ρ _ => Cert.UpProj.reference_ends m ρ trivial,
    fun m ρ _ => Cert.In.Gen.frame m ρ,
    fun m ρ _ => Cert.InIdeal.Gen.frame m ρ,
    fun m ρ _ => Cert.InIdeal.Gen.frame m ρ,
    Cert.InProj.reference_ends,
    fun m ρ _ => Cert.InProj.reference_ends m ρ trivial,
    fun m ρ _ => Cert.Loss.Gen.frame m ρ,
    fun m ρ _ => Cert.LossIdeal.Gen.frame m ρ,
    Cert.LossProj.reference_ends,
    fun m ρ _ => Cert.Mix.Gen.frame m ρ,
    fun m ρ _ => Cert.MixIdeal.Gen.frame m ρ,
    fun m ρ _ => Cert.MixIdeal.Gen.frame m ρ,
    Cert.MixProj.reference_ends,
    fun m ρ _ => Cert.MixProj.reference_ends m ρ trivial,
    Cert.MlaIdeal.Run.frame_bits,
    fun m ρ _ => Cert.MlaIdeal.Run.frame m ρ,
    fun m ρ _ => Cert.MlaIdeal.Run.frame m ρ,
    Cert.MlaProj.reference_ends,
    fun m ρ _ => Cert.MlaProj.reference_ends m ρ trivial,
    fun m ρ _ => Cert.Fwd.Gen.frame m ρ,
    fun m ρ _ => Cert.FwdIdeal.Gen.frame m ρ,
    fun m ρ _ => Cert.FwdIdeal.Gen.frame m ρ,
    Cert.AttnFwd.reference_ends,
    fun m ρ _ => Cert.AttnFwd.reference_ends m ρ trivial,
    fun m ρ _ => Cert.MixFwd.Gen.frame m ρ,
    fun m ρ _ => Cert.MixFwdIdeal.Gen.frame m ρ,
    Cert.MixFwd.reference_ends,
    Cert.InFwdIdeal.Run.frame_bits,
    fun m ρ _ => Cert.InFwdIdeal.Run.frame m ρ,
    Cert.InFwdProj.reference_ends,
    Cert.FfnFwdIdeal.Run.frame_bits,
    fun m ρ _ => Cert.FfnFwdIdeal.Run.frame m ρ,
    Cert.FfnFwdProj.reference_ends,
    Cert.GdnIdeal.Run.frame_bits,
    fun m ρ _ => Cert.GdnIdeal.Run.frame m ρ,
    ⟨IdealRules.named_const.statement Cert.KernelIdeal.κ "s" .f32 0x3D93CD3A#32 (((Real.sqrt 192)⁻¹ : ℝ) : EReal) rfl,
      IdealRules.named_const.statement Cert.KernelIdeal.κ "mask" .f32 0xF149F2CA#32 ⊥ rfl⟩,
    Cert.Attn.gradients,
    trivial,
    Cert.Conv.gradients,
    trivial,
    Cert.UpProj.gradients,
    trivial,
    Cert.InProj.gradients,
    trivial,
    Cert.LossProj.gradients,
    trivial,
    Cert.MixProj.gradients,
    IdealRules.named_const.statement Cert.MlaIdeal.κ "n" .f32 0x3BAAAAAB#32 ((192⁻¹ : ℝ) : EReal) rfl,
    Cert.MlaProj.gradients,
    ⟨IdealRules.named_const.statement Cert.FwdIdeal.κ "s" .f32 0x3D93CD3A#32 (((Real.sqrt 192)⁻¹ : ℝ) : EReal) rfl,
      IdealRules.named_const.statement Cert.FwdIdeal.κ "mask" .f32 0xF149F2CA#32 ⊥ rfl⟩,
    Cert.AttnFwd.attention,
    trivial,
    Cert.MixFwd.gradients,
    trivial,
    Cert.InFwdProj.gradients,
    trivial,
    Cert.FfnFwdProj.gradients,
    trivial⟩

end Cert.Proof

end
